-- ==== Defs.lean ====
def Pre_Kernel [hPre_rows_fit : Cert.Pre_rows_fit.Facts] (m : (ℓ : Loc Cert.Kernel.nD Cert.Kernel.τ Cert.Kernel.sig) → Buf (Elt Bits) ℓ) : Prop :=
  ∀ c : Dev Cert.Kernel.nD,
    (Cert.Pre_rows_fit.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_rows_fit : Cert.Pre_rows_fit.Facts] (m : (ℓ : Loc Cert.KernelIdeal.nD Cert.KernelIdeal.τ Cert.KernelIdeal.sig) → Buf (Elt Ideal) ℓ) : Prop :=
  ∀ c : Dev Cert.KernelIdeal.nD,
    (Cert.Pre_rows_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_rows_filled [hPre_rows_filled : Cert.Pre_rows_filled.Facts] (m : (ℓ : Loc Cert.KernelIdeal.nD Cert.KernelIdeal.τ Cert.KernelIdeal.sig) → Buf (Elt Ideal) ℓ) : Prop :=
  ∀ c : Dev Cert.KernelIdeal.nD,
    (Cert.Pre_rows_filled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_filled [hPre_rows_filled : Cert.Pre_rows_filled.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_filled.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_rows_fit : Cert.Pre_rows_fit.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_rows_fit : Cert.Pre_rows_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_rows_filled [hKernelIdeal : Cert.KernelIdeal.Facts] [hPre_rows_filled : Cert.Pre_rows_filled.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_filled m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_rows_filled [hReferenceIdeal : Cert.ReferenceIdeal.Facts] [hPre_rows_filled : Cert.Pre_rows_filled.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_filled m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_rows_filled [hKernelIdeal : Cert.KernelIdeal.Facts] [hReferenceIdeal : Cert.ReferenceIdeal.Facts] [hPre_rows_filled : Cert.Pre_rows_filled.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_filled m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_rows_fit : Cert.Pre_rows_fit.Facts) (hPre_rows_filled : Cert.Pre_rows_filled.Facts),
    quiescent_Kernel (hKernel := hKernel) (hPre_rows_fit := hPre_rows_fit)
    ∧ quiescent_KernelIdeal (hKernelIdeal := hKernelIdeal) (hPre_rows_fit := hPre_rows_fit)
    ∧ quiescent_KernelIdeal_pre_rows_filled (hKernelIdeal := hKernelIdeal) (hPre_rows_filled := hPre_rows_filled)
    ∧ quiescent_ReferenceIdeal (hReferenceIdeal := hReferenceIdeal)
    ∧ quiescent_ReferenceIdeal_pre_rows_filled (hReferenceIdeal := hReferenceIdeal) (hPre_rows_filled := hPre_rows_filled)
    ∧ preserves_Kernel_KernelIdeal
    ∧ algebraic_KernelIdeal_ReferenceIdeal_pre_rows_filled (hKernelIdeal := hKernelIdeal) (hReferenceIdeal := hReferenceIdeal) (hPre_rows_filled := hPre_rows_filled)
-- ==== Pre_rows_filled.lean ====
abbrev S256x7168 : Shape := ⟨2, ![256, 7168]⟩
abbrev S13 : Shape := ⟨1, ![13]⟩
abbrev S13x7168x4096 : Shape := ⟨3, ![13, 7168, 4096]⟩
abbrev S13x224x4096 : Shape := ⟨3, ![13, 224, 4096]⟩
abbrev S_ : Shape := ⟨0, ![]⟩

class Facts : Prop where
  bcast_S_S13 : S_.BroadcastsInDim S13 (![] : Fin 0 → Fin S13.rank)
  reducesTo_S13_S_d0 : S13.ReducesTo [0] S_
  h_S_ : 0 < S_.numel

variable [Facts]

def fn {F : FTy → Type} [FloatOps F] (main_arg0 : FVec F S256x7168 .bf16) (main_arg1 : IVec S13 32) (main_arg2 : FVec F S13x7168x4096 .fp8e4m3) (main_arg3 : IVec S13x224x4096 8) : IVec S13 1 :=
  let main_c : IVec S_ 32 := constantI S_ 32 0#32
  let main_v0 : IVec S13 32 := broadcastInDim S13 ![] bcast_S_S13 main_c
  let main_v1 : IVec S13 1 := cmpi .sge main_arg1 main_v0
  let main_c_0 : IVec S_ 32 := constantI S_ 32 256#32
  let main_v2 : IVec S13 32 := broadcastInDim S13 ![] bcast_S_S13 main_c_0
  let main_v3 : IVec S13 1 := cmpi .sle main_arg1 main_v2
  let main_v4 : IVec S13 1 := andi main_v1 main_v3
  let main_c_1 : IVec S_ 32 := constantI S_ 32 0#32
  let main_v5 : IVec S_ 32 := (fun x v => Host.reduce IntOp.addi x v reducesTo_S13_S_d0 h_S_) main_arg1 main_c_1
  let main_c_2 : IVec S_ 32 := constantI S_ 32 256#32
  let main_v6 : IVec S_ 1 := cmpi .eq main_v5 main_c_2
  let main_v7 : IVec S13 1 := broadcastInDim S13 ![] bcast_S_S13 main_v6
  let main_v8 : IVec S13 1 := andi main_v4 main_v7
  main_v8
-- ==== Pre_rows_fit.lean ====
abbrev S256x7168 : Shape := ⟨2, ![256, 7168]⟩
abbrev S13 : Shape := ⟨1, ![13]⟩
abbrev S13x7168x4096 : Shape := ⟨3, ![13, 7168, 4096]⟩
abbrev S13x224x4096 : Shape := ⟨3, ![13, 224, 4096]⟩
abbrev S_ : Shape := ⟨0, ![]⟩

class Facts : Prop where
  bcast_S_S13 : S_.BroadcastsInDim S13 (![] : Fin 0 → Fin S13.rank)
  reducesTo_S13_S_d0 : S13.ReducesTo [0] S_
  h_S_ : 0 < S_.numel

variable [Facts]

def fn {F : FTy → Type} [FloatOps F] (main_arg0 : FVec F S256x7168 .bf16) (main_arg1 : IVec S13 32) (main_arg2 : FVec F S13x7168x4096 .fp8e4m3) (main_arg3 : IVec S13x224x4096 8) : IVec S13 1 :=
  let main_c : IVec S_ 32 := constantI S_ 32 0#32
  let main_v0 : IVec S13 32 := broadcastInDim S13 ![] bcast_S_S13 main_c
  let main_v1 : IVec S13 1 := cmpi .sge main_arg1 main_v0
  let main_c_0 : IVec S_ 32 := constantI S_ 32 256#32
  let main_v2 : IVec S13 32 := broadcastInDim S13 ![] bcast_S_S13 main_c_0
  let main_v3 : IVec S13 1 := cmpi .sle main_arg1 main_v2
  let main_v4 : IVec S13 1 := andi main_v1 main_v3
  let main_c_1 : IVec S_ 32 := constantI S_ 32 0#32
  let main_v5 : IVec S_ 32 := (fun x v => Host.reduce IntOp.addi x v reducesTo_S13_S_d0 h_S_) main_arg1 main_c_1
  let main_c_2 : IVec S_ 32 := constantI S_ 32 256#32
  let main_v6 : IVec S_ 1 := cmpi .sle main_v5 main_c_2
  let main_v7 : IVec S13 1 := broadcastInDim S13 ![] bcast_S_S13 main_v6
  let main_v8 : IVec S13 1 := andi main_v4 main_v7
  main_v8
-- ==== Kernel.lean ====
abbrev S256x7168 : Shape := ⟨2, ![256, 7168]⟩
abbrev S13 : Shape := ⟨1, ![13]⟩
abbrev S13x7168x4096 : Shape := ⟨3, ![13, 7168, 4096]⟩
abbrev S13x224x4096 : Shape := ⟨3, ![13, 224, 4096]⟩
abbrev S256x2048 : Shape := ⟨2, ![256, 2048]⟩
abbrev S256x64 : Shape := ⟨2, ![256, 64]⟩
abbrev S8x1024x4096 : Shape := ⟨3, ![8, 1024, 4096]⟩
abbrev S8x32x4096 : Shape := ⟨3, ![8, 32, 4096]⟩
abbrev S32x4096 : Shape := ⟨2, ![32, 4096]⟩
abbrev S128x4096 : Shape := ⟨2, ![128, 4096]⟩
abbrev S256x128 : Shape := ⟨2, ![256, 128]⟩
abbrev S4x32 : Shape := ⟨2, ![4, 32]⟩
abbrev S_ : Shape := ⟨0, ![]⟩
abbrev S8 : Shape := ⟨1, ![8]⟩
abbrev S1 : Shape := ⟨1, ![1]⟩
abbrev S1x1 : Shape := ⟨2, ![1, 1]⟩
abbrev S1x1024x4096 : Shape := ⟨3, ![1, 1024, 4096]⟩
abbrev S1024x4096 : Shape := ⟨2, ![1024, 4096]⟩
abbrev S1x32x4096 : Shape := ⟨3, ![1, 32, 4096]⟩
abbrev S16x128 : Shape := ⟨2, ![16, 128]⟩
abbrev S16x128x1 : Shape := ⟨3, ![16, 128, 1]⟩
abbrev S128x256 : Shape := ⟨2, ![128, 256]⟩
abbrev S1x32x256 : Shape := ⟨3, ![1, 32, 256]⟩
abbrev S32x256 : Shape := ⟨2, ![32, 256]⟩
abbrev S1x256 : Shape := ⟨2, ![1, 256]⟩
abbrev S8x256 : Shape := ⟨2, ![8, 256]⟩
abbrev S16x256 : Shape := ⟨2, ![16, 256]⟩
abbrev S256x256 : Shape := ⟨2, ![256, 256]⟩
abbrev S32x128 : Shape := ⟨2, ![32, 128]⟩
abbrev S32x128x1 : Shape := ⟨3, ![32, 128, 1]⟩

abbrev nBuf : Space → Nat
  | .hbm => 6
  | .vmem => 9
  | .smem => 2
  | _ => 0

abbrev bufTy : (tb : Table) → Fin (tcTables nBuf tb) → BufTy
  | .hbm, ⟨0, _⟩ => ⟨S256x7168, .bf16⟩
  | .hbm, ⟨1, _⟩ => ⟨S13, .i32⟩
  | .hbm, ⟨2, _⟩ => ⟨S13x7168x4096, .fp8e4m3⟩
  | .hbm, ⟨3, _⟩ => ⟨S13x224x4096, .i8⟩
  | .hbm, ⟨4, _⟩ => ⟨S256x2048, .fp8e4m3⟩
  | .hbm, ⟨5, _⟩ => ⟨S256x64, .i8⟩
  | .local _ .vmem, ⟨0, _⟩ => ⟨S256x2048, .fp8e4m3⟩
  | .local _ .vmem, ⟨1, _⟩ => ⟨S256x64, .i8⟩
  | .local _ .vmem, ⟨2, _⟩ => ⟨S256x7168, .bf16⟩
  | .local _ .vmem, ⟨3, _⟩ => ⟨S8x1024x4096, .fp8e4m3⟩
  | .local _ .vmem, ⟨4, _⟩ => ⟨S8x32x4096, .i8⟩
  | .local _ .vmem, ⟨5, _⟩ => ⟨S32x4096, .i32⟩
  | .local _ .vmem, ⟨6, _⟩ => ⟨S128x4096, .f32⟩
  | .local _ .vmem, ⟨7, _⟩ => ⟨S256x2048, .bf16⟩
  | .local _ .vmem, ⟨8, _⟩ => ⟨S256x128, .i32⟩
  | .local _ .smem, ⟨0, _⟩ => ⟨S13, .i32⟩
  | .local _ .smem, ⟨1, _⟩ => ⟨S4x32, .i32⟩
  | _, _ => ⟨S256x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg1_0 : Ref sig .tc := ⟨.vmem, 0, rfl⟩
abbrev cc0_stg2_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_stg0_0 : Ref sig .tc := ⟨.smem, 0, rfl⟩
abbrev cc0_scratch7 : Ref sig .tc := ⟨.smem, 1, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

@[reducible] def k0_t1_loop : Scf.Loop 32 :=
  let c0_i32_1 : BitVec 32 := 0#32
  let c13_i32 : BitVec 32 := 13#32
  let v0 : BitVec 32 := Scalar.addi c0_i32_1 c13_i32
  let c1_i32 : BitVec 32 := 1#32
  ⟨c0_i32_1, v0, c1_i32⟩
def k0_off1 (k0_t1 : Fin k0_t1_loop.trips) : Fin 1 → Nat :=
  let c0_i32_1 : BitVec 32 := 0#32
  let c1_i32 : BitVec 32 := 1#32
  let arg17 : BitVec 32 := Scf.iv c0_i32_1 c1_i32 k0_t1
  let v26 : Index := Scalar.indexCast arg17
  ![v26.toNat]
def k0_off2 (arg20 : BitVec 32) : Fin 2 → Nat :=
  let c0_28 : Index := 0#32
  let v34 : Index := Scalar.indexCast arg20
  ![0, v34.toNat]

def k0_off3 (arg20 : BitVec 32) : Fin 2 → Nat :=
  let c1 : Index := 1#32
  let v36 : Index := Scalar.indexCast arg20
  ![1, v36.toNat]
def k0_off4 (arg20 : BitVec 32) : Fin 2 → Nat :=
  let c2 : Index := 2#32
  let v38 : Index := Scalar.indexCast arg20
  ![2, v38.toNat]
def k0_off5 (arg20 : BitVec 32) : Fin 2 → Nat :=
  let c3 : Index := 3#32
  let v40 : Index := Scalar.indexCast arg20
  ![3, v40.toNat]

def k0_chk1 (arg20 : BitVec 32) : Prop :=
  (∀ a, (k0_off2 arg20) a + S1x1.size a ≤ S4x32.size a) ∧
  (∀ a, (k0_off3 arg20) a + S1x1.size a ≤ S4x32.size a) ∧
  (∀ a, (k0_off4 arg20) a + S1x1.size a ≤ S4x32.size a) ∧
  (∀ a, (k0_off5 arg20) a + S1x1.size a ≤ S4x32.size a)
theorem k0_off2_inb : ∀ (arg20 : BitVec 32) (k0_hw1 : k0_chk1 arg20), ∀ a, (k0_off2 arg20) a + S1x1.size a ≤ S4x32.size a := fun arg20 k0_hw1 => k0_hw1.1
theorem k0_off3_inb : ∀ (arg20 : BitVec 32) (k0_hw1 : k0_chk1 arg20), ∀ a, (k0_off3 arg20) a + S1x1.size a ≤ S4x32.size a := fun arg20 k0_hw1 => k0_hw1.2.1
theorem k0_off4_inb : ∀ (arg20 : BitVec 32) (k0_hw1 : k0_chk1 arg20), ∀ a, (k0_off4 arg20) a + S1x1.size a ≤ S4x32.size a := fun arg20 k0_hw1 => k0_hw1.2.2.1
theorem k0_off5_inb : ∀ (arg20 : BitVec 32) (k0_hw1 : k0_chk1 arg20), ∀ a, (k0_off5 arg20) a + S1x1.size a ≤ S4x32.size a := fun arg20 k0_hw1 => k0_hw1.2.2.2

@[reducible] def k0_t2_loop : Scf.Loop 32 :=
  let c0_i32_3 : BitVec 32 := 0#32
  let c7_i32_4 : BitVec 32 := 7#32
  let v3 : BitVec 32 := Scalar.addi c0_i32_3 c7_i32_4
  let c1_i32_5 : BitVec 32 := 1#32
  ⟨c0_i32_3, v3, c1_i32_5⟩
def k0_off6 (k0_t2 : Fin k0_t2_loop.trips) : Fin 2 → Nat :=
  let c0_30 : Index := 0#32
  let c0_i32_3 : BitVec 32 := 0#32
  let c1_i32_5 : BitVec 32 := 1#32
  let arg17 : BitVec 32 := Scf.iv c0_i32_3 c1_i32_5 k0_t2
  let c7_i32_28 : BitVec 32 := 7#32
  let v30 : BitVec 32 := Scalar.divsi arg17 c7_i32_28
  let v33 : Index := Scalar.indexCast v30
  ![0, v33.toNat]
def k0_off7 (k0_t2 : Fin k0_t2_loop.trips) : Fin 1 → Nat :=
  let c0_i32_3 : BitVec 32 := 0#32
  let c1_i32_5 : BitVec 32 := 1#32
  let arg17 : BitVec 32 := Scf.iv c0_i32_3 c1_i32_5 k0_t2
  let c8_i32 : BitVec 32 := 8#32
  let v29 : BitVec 32 := Scalar.remsi arg17 c8_i32
  ![v29.toNat]
def k0_off8 (k0_t2 : Fin k0_t2_loop.trips) : Fin 3 → Nat :=
  let c0_i32_3 : BitVec 32 := 0#32
  let c1_i32_5 : BitVec 32 := 1#32
  let arg17 : BitVec 32 := Scf.iv c0_i32_3 c1_i32_5 k0_t2
  let c8_i32 : BitVec 32 := 8#32
  let v29 : BitVec 32 := Scalar.remsi arg17 c8_i32
  let c0_i32_31 : BitVec 32 := 0#32
  let c0_i32_32 : BitVec 32 := 0#32
  ![v29.toNat, 0, 0]
def k0_off9 (k0_t2 : Fin k0_t2_loop.trips) (v34 : BitVec 32) : Fin 3 → Nat :=
  let c0_i32_3 : BitVec 32 := 0#32
  let c1_i32_5 : BitVec 32 := 1#32
  let arg17 : BitVec 32 := Scf.iv c0_i32_3 c1_i32_5 k0_t2
  let c7_i32_28 : BitVec 32 := 7#32
  let v30 : BitVec 32 := Scalar.divsi arg17 c7_i32_28
  let c7_i32_29 : BitVec 32 := 7#32
  let v31 : BitVec 32 := Scalar.muli v30 c7_i32_29
  let v32 : BitVec 32 := Scalar.subi arg17 v31
  let c1024_i32 : BitVec 32 := 1024#32
  let v35 : BitVec 32 := Scalar.muli v32 c1024_i32
  let c0_i32_33 : BitVec 32 := 0#32
  ![v34.toNat, v35.toNat, 0]
def k0_cond1 (v1_0 : BitVec 32) (k0_t2 : Fin k0_t2_loop.trips) : BitVec 1 :=
  let c0_i32_3 : BitVec 32 := 0#32
  let c1_i32_5 : BitVec 32 := 1#32
  let arg17 : BitVec 32 := Scf.iv c0_i32_3 c1_i32_5 k0_t2
  let c7_i32 : BitVec 32 := 7#32
  let v2 : BitVec 32 := Scalar.muli v1_0 c7_i32
  let v26 : BitVec 1 := Scalar.cmpi .slt arg17 v2
  let v27 : BitVec 32 := Scalar.extui v26
  let c0_i32_27 : BitVec 32 := 0#32
  let v28 : BitVec 1 := Scalar.cmpi .ne v27 c0_i32_27
  v28

def k0_off10 (k0_t2 : Fin k0_t2_loop.trips) : Fin 1 → Nat :=
  let c0_i32_3 : BitVec 32 := 0#32
  let c1_i32_5 : BitVec 32 := 1#32
  let arg17 : BitVec 32 := Scf.iv c0_i32_3 c1_i32_5 k0_t2
  let c8_i32 : BitVec 32 := 8#32
  let v29 : BitVec 32 := Scalar.remsi arg17 c8_i32
  ![v29.toNat]
def k0_off11 (k0_t2 : Fin k0_t2_loop.trips) : Fin 3 → Nat :=
  let c0_i32_3 : BitVec 32 := 0#32
  let c1_i32_5 : BitVec 32 := 1#32
  let arg17 : BitVec 32 := Scf.iv c0_i32_3 c1_i32_5 k0_t2
  let c8_i32 : BitVec 32 := 8#32
  let v29 : BitVec 32 := Scalar.remsi arg17 c8_i32
  let c0_i32_34 : BitVec 32 := 0#32
  let c0_i32_35 : BitVec 32 := 0#32
  ![v29.toNat, 0, 0]
def k0_off12 (k0_t2 : Fin k0_t2_loop.trips) (v34 : BitVec 32) : Fin 3 → Nat :=
  let c0_i32_3 : BitVec 32 := 0#32
  let c1_i32_5 : BitVec 32 := 1#32
  let arg17 : BitVec 32 := Scf.iv c0_i32_3 c1_i32_5 k0_t2
  let c7_i32_28 : BitVec 32 := 7#32
  let v30 : BitVec 32 := Scalar.divsi arg17 c7_i32_28
  let c7_i32_29 : BitVec 32 := 7#32
  let v31 : BitVec 32 := Scalar.muli v30 c7_i32_29
  let v32 : BitVec 32 := Scalar.subi arg17 v31
  let c32_i32 : BitVec 32 := 32#32
  let v36 : BitVec 32 := Scalar.muli v32 c32_i32
  let c0_i32_36 : BitVec 32 := 0#32
  ![v34.toNat, v36.toNat, 0]

def k0_chk2 (v1_0 : BitVec 32) (k0_t2 : Fin k0_t2_loop.trips) (v34 : BitVec 32) : Prop :=
  (∀ (k0_h1 : k0_cond1 v1_0 k0_t2 = 1#1), ∀ a, (k0_off9 k0_t2 v34) a + S1x1024x4096.size a ≤ S13x7168x4096.size a) ∧
  (∀ (k0_h1 : k0_cond1 v1_0 k0_t2 = 1#1), ∀ (hinb : ∀ a, (k0_off9 k0_t2 v34) a + S1x1024x4096.size a ≤ S13x7168x4096.size a), (Rect.unit (s := S13x7168x4096) (k0_off9 k0_t2 v34) S1x1024x4096.size hinb).WholeWords (EltTy.packing .fp8e4m3)) ∧
  (∀ (k0_h1 : k0_cond1 v1_0 k0_t2 = 1#1), ∀ a, (k0_off12 k0_t2 v34) a + S1x32x4096.size a ≤ S13x224x4096.size a) ∧
  (∀ (k0_h1 : k0_cond1 v1_0 k0_t2 = 1#1), ∀ (hinb : ∀ a, (k0_off12 k0_t2 v34) a + S1x32x4096.size a ≤ S13x224x4096.size a), (Rect.unit (s := S13x224x4096) (k0_off12 k0_t2 v34) S1x32x4096.size hinb).WholeWords (EltTy.packing .i8))
theorem k0_off9_inb : ∀ (v1_0 : BitVec 32) (k0_t2 : Fin k0_t2_loop.trips) (v34 : BitVec 32) (k0_hw2 : k0_chk2 v1_0 k0_t2 v34), ∀ (k0_h1 : k0_cond1 v1_0 k0_t2 = 1#1), ∀ a, (k0_off9 k0_t2 v34) a + S1x1024x4096.size a ≤ S13x7168x4096.size a := fun v1_0 k0_t2 v34 k0_hw2 k0_h1 => k0_hw2.1 k0_h1
theorem k0_off9_wordsfp8e4m3 : ∀ (v1_0 : BitVec 32) (k0_t2 : Fin k0_t2_loop.trips) (v34 : BitVec 32) (k0_hw2 : k0_chk2 v1_0 k0_t2 v34), ∀ (k0_h1 : k0_cond1 v1_0 k0_t2 = 1#1), (Rect.unit (s := S13x7168x4096) (k0_off9 k0_t2 v34) S1x1024x4096.size (k0_off9_inb v1_0 k0_t2 v34 k0_hw2 k0_h1)).WholeWords (EltTy.packing .fp8e4m3) := fun v1_0 k0_t2 v34 k0_hw2 k0_h1 => k0_hw2.2.1 k0_h1 (k0_off9_inb v1_0 k0_t2 v34 k0_hw2 k0_h1)
theorem k0_off12_inb : ∀ (v1_0 : BitVec 32) (k0_t2 : Fin k0_t2_loop.trips) (v34 : BitVec 32) (k0_hw2 : k0_chk2 v1_0 k0_t2 v34), ∀ (k0_h1 : k0_cond1 v1_0 k0_t2 = 1#1), ∀ a, (k0_off12 k0_t2 v34) a + S1x32x4096.size a ≤ S13x224x4096.size a := fun v1_0 k0_t2 v34 k0_hw2 k0_h1 => k0_hw2.2.2.1 k0_h1
theorem k0_off12_wordsi8 : ∀ (v1_0 : BitVec 32) (k0_t2 : Fin k0_t2_loop.trips) (v34 : BitVec 32) (k0_hw2 : k0_chk2 v1_0 k0_t2 v34), ∀ (k0_h1 : k0_cond1 v1_0 k0_t2 = 1#1), (Rect.unit (s := S13x224x4096) (k0_off12 k0_t2 v34) S1x32x4096.size (k0_off12_inb v1_0 k0_t2 v34 k0_hw2 k0_h1)).WholeWords (EltTy.packing .i8) := fun v1_0 k0_t2 v34 k0_hw2 k0_h1 => k0_hw2.2.2.2 k0_h1 (k0_off12_inb v1_0 k0_t2 v34 k0_hw2 k0_h1)

@[reducible] def k0_t3_loop : Scf.Loop 32 :=
  let c0_i32_11 : BitVec 32 := 0#32
  let c16_i32 : BitVec 32 := 16#32
  let v12 : BitVec 32 := Scalar.addi c0_i32_11 c16_i32
  let c1_i32_12 : BitVec 32 := 1#32
  ⟨c0_i32_11, v12, c1_i32_12⟩
def k0_mult1 (k0_t3 : Fin k0_t3_loop.trips) : BitVec 32 :=
  let c0_i32_11 : BitVec 32 := 0#32
  let c1_i32_12 : BitVec 32 := 1#32
  let arg17 : BitVec 32 := Scf.iv c0_i32_11 c1_i32_12 k0_t3
  let c16_i32_27 : BitVec 32 := 16#32
  let v26 : BitVec 32 := Scalar.muli arg17 c16_i32_27
  v26
@[reducible] def k0_t4_loop : Scf.Loop 32 :=
  let c0_i32_28 : BitVec 32 := 0#32
  let c56_i32 : BitVec 32 := 56#32
  let v28 : BitVec 32 := Scalar.addi c0_i32_28 c56_i32
  let c1_i32_29 : BitVec 32 := 1#32
  ⟨c0_i32_28, v28, c1_i32_29⟩
def k0_mult2 (k0_t4 : Fin k0_t4_loop.trips) : BitVec 32 :=
  let c0_i32_28 : BitVec 32 := 0#32
  let c1_i32_29 : BitVec 32 := 1#32
  let arg18 : BitVec 32 := Scf.iv c0_i32_28 c1_i32_29 k0_t4
  let c128_i32 : BitVec 32 := 128#32
  let v29 : BitVec 32 := Scalar.muli arg18 c128_i32
  v29
def k0_off13 (k0_t3 : Fin k0_t3_loop.trips) (k0_t4 : Fin k0_t4_loop.trips) : Fin 2 → Nat :=
  let c0_i32_11 : BitVec 32 := 0#32
  let c1_i32_12 : BitVec 32 := 1#32
  let arg17 : BitVec 32 := Scf.iv c0_i32_11 c1_i32_12 k0_t3
  let c16_i32_27 : BitVec 32 := 16#32
  let v26 : BitVec 32 := Scalar.muli arg17 c16_i32_27
  let v27 : BitVec 32 := v26
  let v31 : Index := Scalar.indexCast v27
  let c0_i32_28 : BitVec 32 := 0#32
  let c1_i32_29 : BitVec 32 := 1#32
  let arg18 : BitVec 32 := Scf.iv c0_i32_28 c1_i32_29 k0_t4
  let c128_i32 : BitVec 32 := 128#32
  let v29 : BitVec 32 := Scalar.muli arg18 c128_i32
  let v30 : BitVec 32 := v29
  let v32 : Index := Scalar.indexCast v30
  ![v31.toNat, v32.toNat]
@[reducible] def k0_t5_loop (v1_0 : BitVec 32) : Scf.Loop 32 :=
  let c0_i32_14 : BitVec 32 := 0#32
  let v13 : BitVec 32 := Scalar.subi v1_0 c0_i32_14
  let c1_i32_16 : BitVec 32 := 1#32
  let v15 : BitVec 32 := Scalar.divsi v13 c1_i32_16
  let v16 : BitVec 32 := Scalar.muli v15 c1_i32_16
  let v17 : BitVec 32 := Scalar.addi c0_i32_14 v16
  let c1_i32_17 : BitVec 32 := 1#32
  ⟨c0_i32_14, v17, c1_i32_17⟩

def k0_off14 (v1_0 : BitVec 32) (k0_t5 : Fin (k0_t5_loop v1_0).trips) : Fin 2 → Nat :=
  let c1 : Index := 1#32
  let c0_i32_14 : BitVec 32 := 0#32
  let c1_i32_17 : BitVec 32 := 1#32
  let arg17 : BitVec 32 := Scf.iv c0_i32_14 c1_i32_17 k0_t5
  let v26 : Index := Scalar.indexCast arg17
  ![1, v26.toNat]
def k0_mult3 (v27 : BitVec 32) : BitVec 32 :=
  v27

@[reducible] def k0_t6_loop : Scf.Loop 32 :=
  let c0_i32_28 : BitVec 32 := 0#32
  let c7_i32_29 : BitVec 32 := 7#32
  let v29 : BitVec 32 := Scalar.addi c0_i32_28 c7_i32_29
  let c1_i32_30 : BitVec 32 := 1#32
  ⟨c0_i32_28, v29, c1_i32_30⟩
def k0_off15 (v1_0 : BitVec 32) (k0_t5 : Fin (k0_t5_loop v1_0).trips) (k0_t6 : Fin k0_t6_loop.trips) : Fin 2 → Nat :=
  let c0_64 : Index := 0#32
  let c0_i32_14 : BitVec 32 := 0#32
  let c1_i32_17 : BitVec 32 := 1#32
  let arg17 : BitVec 32 := Scf.iv c0_i32_14 c1_i32_17 k0_t5
  let c7_i32_37 : BitVec 32 := 7#32
  let v38 : BitVec 32 := Scalar.muli arg17 c7_i32_37
  let c0_i32_28 : BitVec 32 := 0#32
  let c1_i32_30 : BitVec 32 := 1#32
  let arg19 : BitVec 32 := Scf.iv c0_i32_28 c1_i32_30 k0_t6
  let v39 : BitVec 32 := Scalar.addi v38 arg19
  let c8_i32_38 : BitVec 32 := 8#32
  let v41 : BitVec 32 := Scalar.addi v39 c8_i32_38
  let c1_i32_39 : BitVec 32 := 1#32
  let v42 : BitVec 32 := Scalar.subi v41 c1_i32_39
  let c7_i32_62 : BitVec 32 := 7#32
  let v80 : BitVec 32 := Scalar.divsi v42 c7_i32_62
  let v83 : Index := Scalar.indexCast v80
  ![0, v83.toNat]
def k0_cond2 (v1_0 : BitVec 32) (k0_t5 : Fin (k0_t5_loop v1_0).trips) (k0_t6 : Fin k0_t6_loop.trips) : BitVec 1 :=
  let c0_i32_14 : BitVec 32 := 0#32
  let c1_i32_17 : BitVec 32 := 1#32
  let arg17 : BitVec 32 := Scf.iv c0_i32_14 c1_i32_17 k0_t5
  let c7_i32_37 : BitVec 32 := 7#32
  let v38 : BitVec 32 := Scalar.muli arg17 c7_i32_37
  let c0_i32_28 : BitVec 32 := 0#32
  let c1_i32_30 : BitVec 32 := 1#32
  let arg19 : BitVec 32 := Scf.iv c0_i32_28 c1_i32_30 k0_t6
  let v39 : BitVec 32 := Scalar.addi v38 arg19
  let c8_i32_38 : BitVec 32 := 8#32
  let v41 : BitVec 32 := Scalar.addi v39 c8_i32_38
  let c1_i32_39 : BitVec 32 := 1#32
  let v42 : BitVec 32 := Scalar.subi v41 c1_i32_39
  let c7_i32 : BitVec 32 := 7#32
  let v2 : BitVec 32 := Scalar.muli v1_0 c7_i32
  let v43 : BitVec 1 := Scalar.cmpi .slt v42 v2
  let v44 : BitVec 32 := Scalar.extui v43
  let c0_i32_40 : BitVec 32 := 0#32
  let v45 : BitVec 1 := Scalar.cmpi .ne v44 c0_i32_40
  v45

def k0_off16 (v1_0 : BitVec 32) (k0_t5 : Fin (k0_t5_loop v1_0).trips) (k0_t6 : Fin k0_t6_loop.trips) : Fin 1 → Nat :=
  let c0_i32_14 : BitVec 32 := 0#32
  let c1_i32_17 : BitVec 32 := 1#32
  let arg17 : BitVec 32 := Scf.iv c0_i32_14 c1_i32_17 k0_t5
  let c7_i32_37 : BitVec 32 := 7#32
  let v38 : BitVec 32 := Scalar.muli arg17 c7_i32_37
  let c0_i32_28 : BitVec 32 := 0#32
  let c1_i32_30 : BitVec 32 := 1#32
  let arg19 : BitVec 32 := Scf.iv c0_i32_28 c1_i32_30 k0_t6
  let v39 : BitVec 32 := Scalar.addi v38 arg19
  let c8_i32_38 : BitVec 32 := 8#32
  let v41 : BitVec 32 := Scalar.addi v39 c8_i32_38
  let c1_i32_39 : BitVec 32 := 1#32
  let v42 : BitVec 32 := Scalar.subi v41 c1_i32_39
  let c8_i32_61 : BitVec 32 := 8#32
  let v79 : BitVec 32 := Scalar.remsi v42 c8_i32_61
  ![v79.toNat]
def k0_off17 (v1_0 : BitVec 32) (k0_t5 : Fin (k0_t5_loop v1_0).trips) (k0_t6 : Fin k0_t6_loop.trips) : Fin 3 → Nat :=
  let c0_i32_14 : BitVec 32 := 0#32
  let c1_i32_17 : BitVec 32 := 1#32
  let arg17 : BitVec 32 := Scf.iv c0_i32_14 c1_i32_17 k0_t5
  let c7_i32_37 : BitVec 32 := 7#32
  let v38 : BitVec 32 := Scalar.muli arg17 c7_i32_37
  let c0_i32_28 : BitVec 32 := 0#32
  let c1_i32_30 : BitVec 32 := 1#32
  let arg19 : BitVec 32 := Scf.iv c0_i32_28 c1_i32_30 k0_t6
  let v39 : BitVec 32 := Scalar.addi v38 arg19
  let c8_i32_38 : BitVec 32 := 8#32
  let v41 : BitVec 32 := Scalar.addi v39 c8_i32_38
  let c1_i32_39 : BitVec 32 := 1#32
  let v42 : BitVec 32 := Scalar.subi v41 c1_i32_39
  let c8_i32_61 : BitVec 32 := 8#32
  let v79 : BitVec 32 := Scalar.remsi v42 c8_i32_61
  let c0_i32_67 : BitVec 32 := 0#32
  let c0_i32_68 : BitVec 32 := 0#32
  ![v79.toNat, 0, 0]
def k0_off18 (v1_0 : BitVec 32) (k0_t5 : Fin (k0_t5_loop v1_0).trips) (k0_t6 : Fin k0_t6_loop.trips) (v84 : BitVec 32) : Fin 3 → Nat :=
  let c0_i32_14 : BitVec 32 := 0#32
  let c1_i32_17 : BitVec 32 := 1#32
  let arg17 : BitVec 32 := Scf.iv c0_i32_14 c1_i32_17 k0_t5
  let c7_i32_37 : BitVec 32 := 7#32
  let v38 : BitVec 32 := Scalar.muli arg17 c7_i32_37
  let c0_i32_28 : BitVec 32 := 0#32
  let c1_i32_30 : BitVec 32 := 1#32
  let arg19 : BitVec 32 := Scf.iv c0_i32_28 c1_i32_30 k0_t6
  let v39 : BitVec 32 := Scalar.addi v38 arg19
  let c8_i32_38 : BitVec 32 := 8#32
  let v41 : BitVec 32 := Scalar.addi v39 c8_i32_38
  let c1_i32_39 : BitVec 32 := 1#32
  let v42 : BitVec 32 := Scalar.subi v41 c1_i32_39
  let c7_i32_62 : BitVec 32 := 7#32
  let v80 : BitVec 32 := Scalar.divsi v42 c7_i32_62
  let c7_i32_63 : BitVec 32 := 7#32
  let v81 : BitVec 32 := Scalar.muli v80 c7_i32_63
  let v82 : BitVec 32 := Scalar.subi v42 v81
  let c1024_i32_65 : BitVec 32 := 1024#32
  let v85 : BitVec 32 := Scalar.muli v82 c1024_i32_65
  let c0_i32_69 : BitVec 32 := 0#32
  ![v84.toNat, v85.toNat, 0]

def k0_off19 (v1_0 : BitVec 32) (k0_t5 : Fin (k0_t5_loop v1_0).trips) (k0_t6 : Fin k0_t6_loop.trips) : Fin 1 → Nat :=
  let c0_i32_14 : BitVec 32 := 0#32
  let c1_i32_17 : BitVec 32 := 1#32
  let arg17 : BitVec 32 := Scf.iv c0_i32_14 c1_i32_17 k0_t5
  let c7_i32_37 : BitVec 32 := 7#32
  let v38 : BitVec 32 := Scalar.muli arg17 c7_i32_37
  let c0_i32_28 : BitVec 32 := 0#32
  let c1_i32_30 : BitVec 32 := 1#32
  let arg19 : BitVec 32 := Scf.iv c0_i32_28 c1_i32_30 k0_t6
  let v39 : BitVec 32 := Scalar.addi v38 arg19
  let c8_i32_38 : BitVec 32 := 8#32
  let v41 : BitVec 32 := Scalar.addi v39 c8_i32_38
  let c1_i32_39 : BitVec 32 := 1#32
  let v42 : BitVec 32 := Scalar.subi v41 c1_i32_39
  let c8_i32_61 : BitVec 32 := 8#32
  let v79 : BitVec 32 := Scalar.remsi v42 c8_i32_61
  ![v79.toNat]
def k0_off20 (v1_0 : BitVec 32) (k0_t5 : Fin (k0_t5_loop v1_0).trips) (k0_t6 : Fin k0_t6_loop.trips) : Fin 3 → Nat :=
  let c0_i32_14 : BitVec 32 := 0#32
  let c1_i32_17 : BitVec 32 := 1#32
  let arg17 : BitVec 32 := Scf.iv c0_i32_14 c1_i32_17 k0_t5
  let c7_i32_37 : BitVec 32 := 7#32
  let v38 : BitVec 32 := Scalar.muli arg17 c7_i32_37
  let c0_i32_28 : BitVec 32 := 0#32
  let c1_i32_30 : BitVec 32 := 1#32
  let arg19 : BitVec 32 := Scf.iv c0_i32_28 c1_i32_30 k0_t6
  let v39 : BitVec 32 := Scalar.addi v38 arg19
  let c8_i32_38 : BitVec 32 := 8#32
  let v41 : BitVec 32 := Scalar.addi v39 c8_i32_38
  let c1_i32_39 : BitVec 32 := 1#32
  let v42 : BitVec 32 := Scalar.subi v41 c1_i32_39
  let c8_i32_61 : BitVec 32 := 8#32
  let v79 : BitVec 32 := Scalar.remsi v42 c8_i32_61
  let c0_i32_70 : BitVec 32 := 0#32
  let c0_i32_71 : BitVec 32 := 0#32
  ![v79.toNat, 0, 0]
def k0_off21 (v1_0 : BitVec 32) (k0_t5 : Fin (k0_t5_loop v1_0).trips) (k0_t6 : Fin k0_t6_loop.trips) (v84 : BitVec 32) : Fin 3 → Nat :=
  let c0_i32_14 : BitVec 32 := 0#32
  let c1_i32_17 : BitVec 32 := 1#32
  let arg17 : BitVec 32 := Scf.iv c0_i32_14 c1_i32_17 k0_t5
  let c7_i32_37 : BitVec 32 := 7#32
  let v38 : BitVec 32 := Scalar.muli arg17 c7_i32_37
  let c0_i32_28 : BitVec 32 := 0#32
  let c1_i32_30 : BitVec 32 := 1#32
  let arg19 : BitVec 32 := Scf.iv c0_i32_28 c1_i32_30 k0_t6
  let v39 : BitVec 32 := Scalar.addi v38 arg19
  let c8_i32_38 : BitVec 32 := 8#32
  let v41 : BitVec 32 := Scalar.addi v39 c8_i32_38
  let c1_i32_39 : BitVec 32 := 1#32
  let v42 : BitVec 32 := Scalar.subi v41 c1_i32_39
  let c7_i32_62 : BitVec 32 := 7#32
  let v80 : BitVec 32 := Scalar.divsi v42 c7_i32_62
  let c7_i32_63 : BitVec 32 := 7#32
  let v81 : BitVec 32 := Scalar.muli v80 c7_i32_63
  let v82 : BitVec 32 := Scalar.subi v42 v81
  let c32_i32_66 : BitVec 32 := 32#32
  let v86 : BitVec 32 := Scalar.muli v82 c32_i32_66
  let c0_i32_72 : BitVec 32 := 0#32
  ![v84.toNat, v86.toNat, 0]

def k0_chk5 (v1_0 : BitVec 32) (k0_t5 : Fin (k0_t5_loop v1_0).trips) (k0_t6 : Fin k0_t6_loop.trips) (v84 : BitVec 32) : Prop :=
  (∀ (k0_h2 : k0_cond2 v1_0 k0_t5 k0_t6 = 1#1), ∀ a, (k0_off18 v1_0 k0_t5 k0_t6 v84) a + S1x1024x4096.size a ≤ S13x7168x4096.size a) ∧
  (∀ (k0_h2 : k0_cond2 v1_0 k0_t5 k0_t6 = 1#1), ∀ (hinb : ∀ a, (k0_off18 v1_0 k0_t5 k0_t6 v84) a + S1x1024x4096.size a ≤ S13x7168x4096.size a), (Rect.unit (s := S13x7168x4096) (k0_off18 v1_0 k0_t5 k0_t6 v84) S1x1024x4096.size hinb).WholeWords (EltTy.packing .fp8e4m3)) ∧
  (∀ (k0_h2 : k0_cond2 v1_0 k0_t5 k0_t6 = 1#1), ∀ a, (k0_off21 v1_0 k0_t5 k0_t6 v84) a + S1x32x4096.size a ≤ S13x224x4096.size a) ∧
  (∀ (k0_h2 : k0_cond2 v1_0 k0_t5 k0_t6 = 1#1), ∀ (hinb : ∀ a, (k0_off21 v1_0 k0_t5 k0_t6 v84) a + S1x32x4096.size a ≤ S13x224x4096.size a), (Rect.unit (s := S13x224x4096) (k0_off21 v1_0 k0_t5 k0_t6 v84) S1x32x4096.size hinb).WholeWords (EltTy.packing .i8))
theorem k0_off18_inb : ∀ (v1_0 : BitVec 32) (k0_t5 : Fin (k0_t5_loop v1_0).trips) (k0_t6 : Fin k0_t6_loop.trips) (v84 : BitVec 32) (k0_hw5 : k0_chk5 v1_0 k0_t5 k0_t6 v84), ∀ (k0_h2 : k0_cond2 v1_0 k0_t5 k0_t6 = 1#1), ∀ a, (k0_off18 v1_0 k0_t5 k0_t6 v84) a + S1x1024x4096.size a ≤ S13x7168x4096.size a := fun v1_0 k0_t5 k0_t6 v84 k0_hw5 k0_h2 => k0_hw5.1 k0_h2
theorem k0_off18_wordsfp8e4m3 : ∀ (v1_0 : BitVec 32) (k0_t5 : Fin (k0_t5_loop v1_0).trips) (k0_t6 : Fin k0_t6_loop.trips) (v84 : BitVec 32) (k0_hw5 : k0_chk5 v1_0 k0_t5 k0_t6 v84), ∀ (k0_h2 : k0_cond2 v1_0 k0_t5 k0_t6 = 1#1), (Rect.unit (s := S13x7168x4096) (k0_off18 v1_0 k0_t5 k0_t6 v84) S1x1024x4096.size (k0_off18_inb v1_0 k0_t5 k0_t6 v84 k0_hw5 k0_h2)).WholeWords (EltTy.packing .fp8e4m3) := fun v1_0 k0_t5 k0_t6 v84 k0_hw5 k0_h2 => k0_hw5.2.1 k0_h2 (k0_off18_inb v1_0 k0_t5 k0_t6 v84 k0_hw5 k0_h2)
theorem k0_off21_inb : ∀ (v1_0 : BitVec 32) (k0_t5 : Fin (k0_t5_loop v1_0).trips) (k0_t6 : Fin k0_t6_loop.trips) (v84 : BitVec 32) (k0_hw5 : k0_chk5 v1_0 k0_t5 k0_t6 v84), ∀ (k0_h2 : k0_cond2 v1_0 k0_t5 k0_t6 = 1#1), ∀ a, (k0_off21 v1_0 k0_t5 k0_t6 v84) a + S1x32x4096.size a ≤ S13x224x4096.size a := fun v1_0 k0_t5 k0_t6 v84 k0_hw5 k0_h2 => k0_hw5.2.2.1 k0_h2
theorem k0_off21_wordsi8 : ∀ (v1_0 : BitVec 32) (k0_t5 : Fin (k0_t5_loop v1_0).trips) (k0_t6 : Fin k0_t6_loop.trips) (v84 : BitVec 32) (k0_hw5 : k0_chk5 v1_0 k0_t5 k0_t6 v84), ∀ (k0_h2 : k0_cond2 v1_0 k0_t5 k0_t6 = 1#1), (Rect.unit (s := S13x224x4096) (k0_off21 v1_0 k0_t5 k0_t6 v84) S1x32x4096.size (k0_off21_inb v1_0 k0_t5 k0_t6 v84 k0_hw5 k0_h2)).WholeWords (EltTy.packing .i8) := fun v1_0 k0_t5 k0_t6 v84 k0_hw5 k0_h2 => k0_hw5.2.2.2 k0_h2 (k0_off21_inb v1_0 k0_t5 k0_t6 v84 k0_hw5 k0_h2)

def k0_off22 (v1_0 : BitVec 32) (k0_t5 : Fin (k0_t5_loop v1_0).trips) (k0_t6 : Fin k0_t6_loop.trips) : Fin 2 → Nat :=
  let c0_43 : Index := 0#32
  let c0_i32_14 : BitVec 32 := 0#32
  let c1_i32_17 : BitVec 32 := 1#32
  let arg17 : BitVec 32 := Scf.iv c0_i32_14 c1_i32_17 k0_t5
  let c7_i32_37 : BitVec 32 := 7#32
  let v38 : BitVec 32 := Scalar.muli arg17 c7_i32_37
  let c0_i32_28 : BitVec 32 := 0#32
  let c1_i32_30 : BitVec 32 := 1#32
  let arg19 : BitVec 32 := Scf.iv c0_i32_28 c1_i32_30 k0_t6
  let v39 : BitVec 32 := Scalar.addi v38 arg19
  let c7_i32_41 : BitVec 32 := 7#32
  let v46 : BitVec 32 := Scalar.divsi v39 c7_i32_41
  let v49 : Index := Scalar.indexCast v46
  ![0, v49.toNat]
def k0_off23 (v1_0 : BitVec 32) (k0_t5 : Fin (k0_t5_loop v1_0).trips) (k0_t6 : Fin k0_t6_loop.trips) : Fin 1 → Nat :=
  let c0_i32_14 : BitVec 32 := 0#32
  let c1_i32_17 : BitVec 32 := 1#32
  let arg17 : BitVec 32 := Scf.iv c0_i32_14 c1_i32_17 k0_t5
  let c7_i32_37 : BitVec 32 := 7#32
  let v38 : BitVec 32 := Scalar.muli arg17 c7_i32_37
  let c0_i32_28 : BitVec 32 := 0#32
  let c1_i32_30 : BitVec 32 := 1#32
  let arg19 : BitVec 32 := Scf.iv c0_i32_28 c1_i32_30 k0_t6
  let v39 : BitVec 32 := Scalar.addi v38 arg19
  let c8_i32 : BitVec 32 := 8#32
  let v40 : BitVec 32 := Scalar.remsi v39 c8_i32
  ![v40.toNat]
def k0_off24 (v1_0 : BitVec 32) (k0_t5 : Fin (k0_t5_loop v1_0).trips) (k0_t6 : Fin k0_t6_loop.trips) : Fin 3 → Nat :=
  let c0_i32_14 : BitVec 32 := 0#32
  let c1_i32_17 : BitVec 32 := 1#32
  let arg17 : BitVec 32 := Scf.iv c0_i32_14 c1_i32_17 k0_t5
  let c7_i32_37 : BitVec 32 := 7#32
  let v38 : BitVec 32 := Scalar.muli arg17 c7_i32_37
  let c0_i32_28 : BitVec 32 := 0#32
  let c1_i32_30 : BitVec 32 := 1#32
  let arg19 : BitVec 32 := Scf.iv c0_i32_28 c1_i32_30 k0_t6
  let v39 : BitVec 32 := Scalar.addi v38 arg19
  let c8_i32 : BitVec 32 := 8#32
  let v40 : BitVec 32 := Scalar.remsi v39 c8_i32
  let c0_i32_44 : BitVec 32 := 0#32
  let c0_i32_45 : BitVec 32 := 0#32
  ![v40.toNat, 0, 0]
def k0_off25 (v1_0 : BitVec 32) (k0_t5 : Fin (k0_t5_loop v1_0).trips) (k0_t6 : Fin k0_t6_loop.trips) (v50 : BitVec 32) : Fin 3 → Nat :=
  let c0_i32_14 : BitVec 32 := 0#32
  let c1_i32_17 : BitVec 32 := 1#32
  let arg17 : BitVec 32 := Scf.iv c0_i32_14 c1_i32_17 k0_t5
  let c7_i32_37 : BitVec 32 := 7#32
  let v38 : BitVec 32 := Scalar.muli arg17 c7_i32_37
  let c0_i32_28 : BitVec 32 := 0#32
  let c1_i32_30 : BitVec 32 := 1#32
  let arg19 : BitVec 32 := Scf.iv c0_i32_28 c1_i32_30 k0_t6
  let v39 : BitVec 32 := Scalar.addi v38 arg19
  let c7_i32_41 : BitVec 32 := 7#32
  let v46 : BitVec 32 := Scalar.divsi v39 c7_i32_41
  let c7_i32_42 : BitVec 32 := 7#32
  let v47 : BitVec 32 := Scalar.muli v46 c7_i32_42
  let v48 : BitVec 32 := Scalar.subi v39 v47
  let c1024_i32 : BitVec 32 := 1024#32
  let v51 : BitVec 32 := Scalar.muli v48 c1024_i32
  let c0_i32_46 : BitVec 32 := 0#32
  ![v50.toNat, v51.toNat, 0]

def k0_off26 (v1_0 : BitVec 32) (k0_t5 : Fin (k0_t5_loop v1_0).trips) (k0_t6 : Fin k0_t6_loop.trips) : Fin 1 → Nat :=
  let c0_i32_14 : BitVec 32 := 0#32
  let c1_i32_17 : BitVec 32 := 1#32
  let arg17 : BitVec 32 := Scf.iv c0_i32_14 c1_i32_17 k0_t5
  let c7_i32_37 : BitVec 32 := 7#32
  let v38 : BitVec 32 := Scalar.muli arg17 c7_i32_37
  let c0_i32_28 : BitVec 32 := 0#32
  let c1_i32_30 : BitVec 32 := 1#32
  let arg19 : BitVec 32 := Scf.iv c0_i32_28 c1_i32_30 k0_t6
  let v39 : BitVec 32 := Scalar.addi v38 arg19
  let c8_i32 : BitVec 32 := 8#32
  let v40 : BitVec 32 := Scalar.remsi v39 c8_i32
  ![v40.toNat]
def k0_off27 (v1_0 : BitVec 32) (k0_t5 : Fin (k0_t5_loop v1_0).trips) (k0_t6 : Fin k0_t6_loop.trips) : Fin 3 → Nat :=
  let c0_i32_14 : BitVec 32 := 0#32
  let c1_i32_17 : BitVec 32 := 1#32
  let arg17 : BitVec 32 := Scf.iv c0_i32_14 c1_i32_17 k0_t5
  let c7_i32_37 : BitVec 32 := 7#32
  let v38 : BitVec 32 := Scalar.muli arg17 c7_i32_37
  let c0_i32_28 : BitVec 32 := 0#32
  let c1_i32_30 : BitVec 32 := 1#32
  let arg19 : BitVec 32 := Scf.iv c0_i32_28 c1_i32_30 k0_t6
  let v39 : BitVec 32 := Scalar.addi v38 arg19
  let c8_i32 : BitVec 32 := 8#32
  let v40 : BitVec 32 := Scalar.remsi v39 c8_i32
  let c0_i32_47 : BitVec 32 := 0#32
  let c0_i32_48 : BitVec 32 := 0#32
  ![v40.toNat, 0, 0]
def k0_off28 (v1_0 : BitVec 32) (k0_t5 : Fin (k0_t5_loop v1_0).trips) (k0_t6 : Fin k0_t6_loop.trips) (v50 : BitVec 32) : Fin 3 → Nat :=
  let c0_i32_14 : BitVec 32 := 0#32
  let c1_i32_17 : BitVec 32 := 1#32
  let arg17 : BitVec 32 := Scf.iv c0_i32_14 c1_i32_17 k0_t5
  let c7_i32_37 : BitVec 32 := 7#32
  let v38 : BitVec 32 := Scalar.muli arg17 c7_i32_37
  let c0_i32_28 : BitVec 32 := 0#32
  let c1_i32_30 : BitVec 32 := 1#32
  let arg19 : BitVec 32 := Scf.iv c0_i32_28 c1_i32_30 k0_t6
  let v39 : BitVec 32 := Scalar.addi v38 arg19
  let c7_i32_41 : BitVec 32 := 7#32
  let v46 : BitVec 32 := Scalar.divsi v39 c7_i32_41
  let c7_i32_42 : BitVec 32 := 7#32
  let v47 : BitVec 32 := Scalar.muli v46 c7_i32_42
  let v48 : BitVec 32 := Scalar.subi v39 v47
  let c32_i32 : BitVec 32 := 32#32
  let v52 : BitVec 32 := Scalar.muli v48 c32_i32
  let c0_i32_49 : BitVec 32 := 0#32
  ![v50.toNat, v52.toNat, 0]

def k0_chk6 (v1_0 : BitVec 32) (k0_t5 : Fin (k0_t5_loop v1_0).trips) (k0_t6 : Fin k0_t6_loop.trips) (v50 : BitVec 32) : Prop :=
  (∀ a, (k0_off25 v1_0 k0_t5 k0_t6 v50) a + S1x1024x4096.size a ≤ S13x7168x4096.size a) ∧
  (∀ (hinb : ∀ a, (k0_off25 v1_0 k0_t5 k0_t6 v50) a + S1x1024x4096.size a ≤ S13x7168x4096.size a), (Rect.unit (s := S13x7168x4096) (k0_off25 v1_0 k0_t5 k0_t6 v50) S1x1024x4096.size hinb).WholeWords (EltTy.packing .fp8e4m3)) ∧
  (∀ a, (k0_off28 v1_0 k0_t5 k0_t6 v50) a + S1x32x4096.size a ≤ S13x224x4096.size a) ∧
  (∀ (hinb : ∀ a, (k0_off28 v1_0 k0_t5 k0_t6 v50) a + S1x32x4096.size a ≤ S13x224x4096.size a), (Rect.unit (s := S13x224x4096) (k0_off28 v1_0 k0_t5 k0_t6 v50) S1x32x4096.size hinb).WholeWords (EltTy.packing .i8))
theorem k0_off25_inb : ∀ (v1_0 : BitVec 32) (k0_t5 : Fin (k0_t5_loop v1_0).trips) (k0_t6 : Fin k0_t6_loop.trips) (v50 : BitVec 32) (k0_hw6 : k0_chk6 v1_0 k0_t5 k0_t6 v50), ∀ a, (k0_off25 v1_0 k0_t5 k0_t6 v50) a + S1x1024x4096.size a ≤ S13x7168x4096.size a := fun v1_0 k0_t5 k0_t6 v50 k0_hw6 => k0_hw6.1
theorem k0_off25_wordsfp8e4m3 : ∀ (v1_0 : BitVec 32) (k0_t5 : Fin (k0_t5_loop v1_0).trips) (k0_t6 : Fin k0_t6_loop.trips) (v50 : BitVec 32) (k0_hw6 : k0_chk6 v1_0 k0_t5 k0_t6 v50), (Rect.unit (s := S13x7168x4096) (k0_off25 v1_0 k0_t5 k0_t6 v50) S1x1024x4096.size (k0_off25_inb v1_0 k0_t5 k0_t6 v50 k0_hw6)).WholeWords (EltTy.packing .fp8e4m3) := fun v1_0 k0_t5 k0_t6 v50 k0_hw6 => k0_hw6.2.1 (k0_off25_inb v1_0 k0_t5 k0_t6 v50 k0_hw6)
theorem k0_off28_inb : ∀ (v1_0 : BitVec 32) (k0_t5 : Fin (k0_t5_loop v1_0).trips) (k0_t6 : Fin k0_t6_loop.trips) (v50 : BitVec 32) (k0_hw6 : k0_chk6 v1_0 k0_t5 k0_t6 v50), ∀ a, (k0_off28 v1_0 k0_t5 k0_t6 v50) a + S1x32x4096.size a ≤ S13x224x4096.size a := fun v1_0 k0_t5 k0_t6 v50 k0_hw6 => k0_hw6.2.2.1
theorem k0_off28_wordsi8 : ∀ (v1_0 : BitVec 32) (k0_t5 : Fin (k0_t5_loop v1_0).trips) (k0_t6 : Fin k0_t6_loop.trips) (v50 : BitVec 32) (k0_hw6 : k0_chk6 v1_0 k0_t5 k0_t6 v50), (Rect.unit (s := S13x224x4096) (k0_off28 v1_0 k0_t5 k0_t6 v50) S1x32x4096.size (k0_off28_inb v1_0 k0_t5 k0_t6 v50 k0_hw6)).WholeWords (EltTy.packing .i8) := fun v1_0 k0_t5 k0_t6 v50 k0_hw6 => k0_hw6.2.2.2 (k0_off28_inb v1_0 k0_t5 k0_t6 v50 k0_hw6)

def k0_off29 (v1_0 : BitVec 32) (k0_t5 : Fin (k0_t5_loop v1_0).trips) (k0_t6 : Fin k0_t6_loop.trips) : Fin 3 → Nat :=
  let c0_i32_14 : BitVec 32 := 0#32
  let c1_i32_17 : BitVec 32 := 1#32
  let arg17 : BitVec 32 := Scf.iv c0_i32_14 c1_i32_17 k0_t5
  let c7_i32_37 : BitVec 32 := 7#32
  let v38 : BitVec 32 := Scalar.muli arg17 c7_i32_37
  let c0_i32_28 : BitVec 32 := 0#32
  let c1_i32_30 : BitVec 32 := 1#32
  let arg19 : BitVec 32 := Scf.iv c0_i32_28 c1_i32_30 k0_t6
  let v39 : BitVec 32 := Scalar.addi v38 arg19
  let c8_i32 : BitVec 32 := 8#32
  let v40 : BitVec 32 := Scalar.remsi v39 c8_i32
  let v65 : Index := Scalar.indexCast v40
  let c0_50 : Index := 0#32
  let c0_51 : Index := 0#32
  ![v65.toNat, 0, 0]
@[reducible] def k0_t7_loop : Scf.Loop 32 :=
  let c0_i32_56 : BitVec 32 := 0#32
  let c16_i32_57 : BitVec 32 := 16#32
  let v77 : BitVec 32 := Scalar.addi c0_i32_56 c16_i32_57
  let c1_i32_58 : BitVec 32 := 1#32
  ⟨c0_i32_56, v77, c1_i32_58⟩
def k0_mult4 (k0_t7 : Fin k0_t7_loop.trips) : BitVec 32 :=
  let c0_i32_56 : BitVec 32 := 0#32
  let c1_i32_58 : BitVec 32 := 1#32
  let arg21 : BitVec 32 := Scf.iv c0_i32_56 c1_i32_58 k0_t7
  let c256_i32 : BitVec 32 := 256#32
  let v79 : BitVec 32 := Scalar.muli arg21 c256_i32
  v79
@[reducible] def k0_t8_loop : Scf.Loop 32 :=
  let c0_i32_62 : BitVec 32 := 0#32
  let c4_i32_63 : BitVec 32 := 4#32
  let v82 : BitVec 32 := Scalar.addi c0_i32_62 c4_i32_63
  let c1_i32_64 : BitVec 32 := 1#32
  ⟨c0_i32_62, v82, c1_i32_64⟩
def k0_mult5 (k0_t6 : Fin k0_t6_loop.trips) (k0_t8 : Fin k0_t8_loop.trips) : BitVec 32 :=
  let c0_i32_28 : BitVec 32 := 0#32
  let c1_i32_30 : BitVec 32 := 1#32
  let arg19 : BitVec 32 := Scf.iv c0_i32_28 c1_i32_30 k0_t6
  let c1024_i32_70 : BitVec 32 := 1024#32
  let v93 : BitVec 32 := Scalar.muli arg19 c1024_i32_70
  let c0_i32_62 : BitVec 32 := 0#32
  let c1_i32_64 : BitVec 32 := 1#32
  let arg23 : BitVec 32 := Scf.iv c0_i32_62 c1_i32_64 k0_t8
  let c256_i32_71 : BitVec 32 := 256#32
  let v94 : BitVec 32 := Scalar.muli arg23 c256_i32_71
  let v95 : BitVec 32 := Scalar.addi v93 v94
  v95
def k0_off30 (v27 : BitVec 32) (k0_t6 : Fin k0_t6_loop.trips) (k0_t8 : Fin k0_t8_loop.trips) : Fin 2 → Nat :=
  let v28 : BitVec 32 := v27
  let v97 : Index := Scalar.indexCast v28
  let c0_i32_28 : BitVec 32 := 0#32
  let c1_i32_30 : BitVec 32 := 1#32
  let arg19 : BitVec 32 := Scf.iv c0_i32_28 c1_i32_30 k0_t6
  let c1024_i32_70 : BitVec 32 := 1024#32
  let v93 : BitVec 32 := Scalar.muli arg19 c1024_i32_70
  let c0_i32_62 : BitVec 32 := 0#32
  let c1_i32_64 : BitVec 32 := 1#32
  let arg23 : BitVec 32 := Scf.iv c0_i32_62 c1_i32_64 k0_t8
  let c256_i32_71 : BitVec 32 := 256#32
  let v94 : BitVec 32 := Scalar.muli arg23 c256_i32_71
  let v95 : BitVec 32 := Scalar.addi v93 v94
  let v96 : BitVec 32 := v95
  let v98 : Index := Scalar.indexCast v96
  ![v97.toNat, v98.toNat]
def k0_mult6 (k0_t8 : Fin k0_t8_loop.trips) : BitVec 32 :=
  let c0_i32_62 : BitVec 32 := 0#32
  let c1_i32_64 : BitVec 32 := 1#32
  let arg23 : BitVec 32 := Scf.iv c0_i32_62 c1_i32_64 k0_t8
  let c8_i32_72 : BitVec 32 := 8#32
  let v100 : BitVec 32 := Scalar.muli arg23 c8_i32_72
  let c0_i32_73 : BitVec 32 := 0#32
  let v101 : BitVec 32 := Scalar.addi v100 c0_i32_73
  let c32_i32_74 : BitVec 32 := 32#32
  let v102 : BitVec 32 := Scalar.muli v101 c32_i32_74
  v102
def k0_off31 (v1_0 : BitVec 32) (k0_t5 : Fin (k0_t5_loop v1_0).trips) (k0_t6 : Fin k0_t6_loop.trips) (k0_t7 : Fin k0_t7_loop.trips) (k0_t8 : Fin k0_t8_loop.trips) (c0_i32_73 : BitVec 32) : Fin 3 → Nat :=
  let c0_i32_14 : BitVec 32 := 0#32
  let c1_i32_17 : BitVec 32 := 1#32
  let arg17 : BitVec 32 := Scf.iv c0_i32_14 c1_i32_17 k0_t5
  let c7_i32_37 : BitVec 32 := 7#32
  let v38 : BitVec 32 := Scalar.muli arg17 c7_i32_37
  let c0_i32_28 : BitVec 32 := 0#32
  let c1_i32_30 : BitVec 32 := 1#32
  let arg19 : BitVec 32 := Scf.iv c0_i32_28 c1_i32_30 k0_t6
  let v39 : BitVec 32 := Scalar.addi v38 arg19
  let c8_i32 : BitVec 32 := 8#32
  let v40 : BitVec 32 := Scalar.remsi v39 c8_i32
  let v104 : Index := Scalar.indexCast v40
  let c0_i32_62 : BitVec 32 := 0#32
  let c1_i32_64 : BitVec 32 := 1#32
  let arg23 : BitVec 32 := Scf.iv c0_i32_62 c1_i32_64 k0_t8
  let c8_i32_72 : BitVec 32 := 8#32
  let v100 : BitVec 32 := Scalar.muli arg23 c8_i32_72
  let v101 : BitVec 32 := Scalar.addi v100 c0_i32_73
  let c32_i32_74 : BitVec 32 := 32#32
  let v102 : BitVec 32 := Scalar.muli v101 c32_i32_74
  let v103 : BitVec 32 := v102
  let v105 : Index := Scalar.indexCast v103
  let c0_i32_56 : BitVec 32 := 0#32
  let c1_i32_58 : BitVec 32 := 1#32
  let arg21 : BitVec 32 := Scf.iv c0_i32_56 c1_i32_58 k0_t7
  let c256_i32 : BitVec 32 := 256#32
  let v79 : BitVec 32 := Scalar.muli arg21 c256_i32
  let v80 : BitVec 32 := v79
  let v106 : Index := Scalar.indexCast v80
  ![v104.toNat, v105.toNat, v106.toNat]
def k0_off32 (k0_t7 : Fin k0_t7_loop.trips) (k0_t8 : Fin k0_t8_loop.trips) (c0_i32_73 : BitVec 32) : Fin 2 → Nat :=
  let c0_i32_62 : BitVec 32 := 0#32
  let c1_i32_64 : BitVec 32 := 1#32
  let arg23 : BitVec 32 := Scf.iv c0_i32_62 c1_i32_64 k0_t8
  let c8_i32_72 : BitVec 32 := 8#32
  let v100 : BitVec 32 := Scalar.muli arg23 c8_i32_72
  let v101 : BitVec 32 := Scalar.addi v100 c0_i32_73
  let v110 : Index := Scalar.indexCast v101
  let c0_i32_56 : BitVec 32 := 0#32
  let c1_i32_58 : BitVec 32 := 1#32
  let arg21 : BitVec 32 := Scf.iv c0_i32_56 c1_i32_58 k0_t7
  let c256_i32 : BitVec 32 := 256#32
  let v79 : BitVec 32 := Scalar.muli arg21 c256_i32
  let v80 : BitVec 32 := v79
  let v111 : Index := Scalar.indexCast v80
  ![v110.toNat, v111.toNat]
def k0_mult7 (k0_t8 : Fin k0_t8_loop.trips) : BitVec 32 :=
  let c0_i32_62 : BitVec 32 := 0#32
  let c1_i32_64 : BitVec 32 := 1#32
  let arg23 : BitVec 32 := Scf.iv c0_i32_62 c1_i32_64 k0_t8
  let c8_i32_75 : BitVec 32 := 8#32
  let v118 : BitVec 32 := Scalar.muli arg23 c8_i32_75
  let c1_i32_76 : BitVec 32 := 1#32
  let v119 : BitVec 32 := Scalar.addi v118 c1_i32_76
  let c32_i32_77 : BitVec 32 := 32#32
  let v120 : BitVec 32 := Scalar.muli v119 c32_i32_77
  v120
def k0_mult8 (k0_t8 : Fin k0_t8_loop.trips) : BitVec 32 :=
  let c0_i32_62 : BitVec 32 := 0#32
  let c1_i32_64 : BitVec 32 := 1#32
  let arg23 : BitVec 32 := Scf.iv c0_i32_62 c1_i32_64 k0_t8
  let c8_i32_78 : BitVec 32 := 8#32
  let v136 : BitVec 32 := Scalar.muli arg23 c8_i32_78
  let c2_i32 : BitVec 32 := 2#32
  let v137 : BitVec 32 := Scalar.addi v136 c2_i32
  let c32_i32_79 : BitVec 32 := 32#32
  let v138 : BitVec 32 := Scalar.muli v137 c32_i32_79
  v138
def k0_mult9 (k0_t8 : Fin k0_t8_loop.trips) : BitVec 32 :=
  let c0_i32_62 : BitVec 32 := 0#32
  let c1_i32_64 : BitVec 32 := 1#32
  let arg23 : BitVec 32 := Scf.iv c0_i32_62 c1_i32_64 k0_t8
  let c8_i32_80 : BitVec 32 := 8#32
  let v154 : BitVec 32 := Scalar.muli arg23 c8_i32_80
  let c3_i32 : BitVec 32 := 3#32
  let v155 : BitVec 32 := Scalar.addi v154 c3_i32
  let c32_i32_81 : BitVec 32 := 32#32
  let v156 : BitVec 32 := Scalar.muli v155 c32_i32_81
  v156
def k0_mult10 (k0_t8 : Fin k0_t8_loop.trips) : BitVec 32 :=
  let c0_i32_62 : BitVec 32 := 0#32
  let c1_i32_64 : BitVec 32 := 1#32
  let arg23 : BitVec 32 := Scf.iv c0_i32_62 c1_i32_64 k0_t8
  let c8_i32_82 : BitVec 32 := 8#32
  let v172 : BitVec 32 := Scalar.muli arg23 c8_i32_82
  let c4_i32_83 : BitVec 32 := 4#32
  let v173 : BitVec 32 := Scalar.addi v172 c4_i32_83
  let c32_i32_84 : BitVec 32 := 32#32
  let v174 : BitVec 32 := Scalar.muli v173 c32_i32_84
  v174
def k0_mult11 (k0_t8 : Fin k0_t8_loop.trips) : BitVec 32 :=
  let c0_i32_62 : BitVec 32 := 0#32
  let c1_i32_64 : BitVec 32 := 1#32
  let arg23 : BitVec 32 := Scf.iv c0_i32_62 c1_i32_64 k0_t8
  let c8_i32_85 : BitVec 32 := 8#32
  let v190 : BitVec 32 := Scalar.muli arg23 c8_i32_85
  let c5_i32 : BitVec 32 := 5#32
  let v191 : BitVec 32 := Scalar.addi v190 c5_i32
  let c32_i32_86 : BitVec 32 := 32#32
  let v192 : BitVec 32 := Scalar.muli v191 c32_i32_86
  v192
def k0_mult12 (k0_t8 : Fin k0_t8_loop.trips) : BitVec 32 :=
  let c0_i32_62 : BitVec 32 := 0#32
  let c1_i32_64 : BitVec 32 := 1#32
  let arg23 : BitVec 32 := Scf.iv c0_i32_62 c1_i32_64 k0_t8
  let c8_i32_87 : BitVec 32 := 8#32
  let v208 : BitVec 32 := Scalar.muli arg23 c8_i32_87
  let c6_i32 : BitVec 32 := 6#32
  let v209 : BitVec 32 := Scalar.addi v208 c6_i32
  let c32_i32_88 : BitVec 32 := 32#32
  let v210 : BitVec 32 := Scalar.muli v209 c32_i32_88
  v210
def k0_mult13 (k0_t8 : Fin k0_t8_loop.trips) : BitVec 32 :=
  let c0_i32_62 : BitVec 32 := 0#32
  let c1_i32_64 : BitVec 32 := 1#32
  let arg23 : BitVec 32 := Scf.iv c0_i32_62 c1_i32_64 k0_t8
  let c8_i32_89 : BitVec 32 := 8#32
  let v226 : BitVec 32 := Scalar.muli arg23 c8_i32_89
  let c7_i32_90 : BitVec 32 := 7#32
  let v227 : BitVec 32 := Scalar.addi v226 c7_i32_90
  let c32_i32_91 : BitVec 32 := 32#32
  let v228 : BitVec 32 := Scalar.muli v227 c32_i32_91
  v228
def k0_off33 (k0_t7 : Fin k0_t7_loop.trips) : Fin 2 → Nat :=
  let c0_67 : Index := 0#32
  let c0_i32_56 : BitVec 32 := 0#32
  let c1_i32_58 : BitVec 32 := 1#32
  let arg21 : BitVec 32 := Scf.iv c0_i32_56 c1_i32_58 k0_t7
  let c256_i32 : BitVec 32 := 256#32
  let v79 : BitVec 32 := Scalar.muli arg21 c256_i32
  let v80 : BitVec 32 := v79
  let v85 : Index := Scalar.indexCast v80
  ![0, v85.toNat]
def k0_off34 (v1_0 : BitVec 32) (k0_t5 : Fin (k0_t5_loop v1_0).trips) : Fin 2 → Nat :=
  let c2 : Index := 2#32
  let c0_i32_14 : BitVec 32 := 0#32
  let c1_i32_17 : BitVec 32 := 1#32
  let arg17 : BitVec 32 := Scf.iv c0_i32_14 c1_i32_17 k0_t5
  let v31 : Index := Scalar.indexCast arg17
  ![2, v31.toNat]
def k0_off35 (v1_0 : BitVec 32) (k0_t5 : Fin (k0_t5_loop v1_0).trips) : Fin 2 → Nat :=
  let c3 : Index := 3#32
  let c0_i32_14 : BitVec 32 := 0#32
  let c1_i32_17 : BitVec 32 := 1#32
  let arg17 : BitVec 32 := Scf.iv c0_i32_14 c1_i32_17 k0_t5
  let v33 : Index := Scalar.indexCast arg17
  ![3, v33.toNat]
@[reducible] def k0_t9_loop : Scf.Loop 32 :=
  let c0_i32_33 : BitVec 32 := 0#32
  let c4_i32 : BitVec 32 := 4#32
  let v36 : BitVec 32 := Scalar.addi c0_i32_33 c4_i32
  let c1_i32_34 : BitVec 32 := 1#32
  ⟨c0_i32_33, v36, c1_i32_34⟩
def k0_mult14 (k0_t9 : Fin k0_t9_loop.trips) : BitVec 32 :=
  let c0_i32_33 : BitVec 32 := 0#32
  let c1_i32_34 : BitVec 32 := 1#32
  let arg19 : BitVec 32 := Scf.iv c0_i32_33 c1_i32_34 k0_t9
  let c32_i32 : BitVec 32 := 32#32
  let v38 : BitVec 32 := Scalar.muli arg19 c32_i32
  v38
def k0_mult15 (v27 : BitVec 32) (k0_t9 : Fin k0_t9_loop.trips) : BitVec 32 :=
  let v28 : BitVec 32 := v27
  let c0_i32_33 : BitVec 32 := 0#32
  let c1_i32_34 : BitVec 32 := 1#32
  let arg19 : BitVec 32 := Scf.iv c0_i32_33 c1_i32_34 k0_t9
  let c32_i32 : BitVec 32 := 32#32
  let v38 : BitVec 32 := Scalar.muli arg19 c32_i32
  let v39 : BitVec 32 := v38
  let v49 : BitVec 32 := Scalar.addi v28 v39
  v49
@[reducible] def k0_t10_loop : Scf.Loop 32 :=
  let c0_i32_38 : BitVec 32 := 0#32
  let c16_i32_39 : BitVec 32 := 16#32
  let v52 : BitVec 32 := Scalar.addi c0_i32_38 c16_i32_39
  let c1_i32_40 : BitVec 32 := 1#32
  ⟨c0_i32_38, v52, c1_i32_40⟩
def k0_mult16 (k0_t10 : Fin k0_t10_loop.trips) : BitVec 32 :=
  let c0_i32_38 : BitVec 32 := 0#32
  let c1_i32_40 : BitVec 32 := 1#32
  let arg21 : BitVec 32 := Scf.iv c0_i32_38 c1_i32_40 k0_t10
  let c128_i32 : BitVec 32 := 128#32
  let v65 : BitVec 32 := Scalar.muli arg21 c128_i32
  v65
def k0_mult17 (k0_t10 : Fin k0_t10_loop.trips) : BitVec 32 :=
  let c0_i32_38 : BitVec 32 := 0#32
  let c1_i32_40 : BitVec 32 := 1#32
  let arg21 : BitVec 32 := Scf.iv c0_i32_38 c1_i32_40 k0_t10
  let c128_i32_46 : BitVec 32 := 128#32
  let v67 : BitVec 32 := Scalar.muli arg21 c128_i32_46
  v67
def k0_off36 (k0_t9 : Fin k0_t9_loop.trips) (k0_t10 : Fin k0_t10_loop.trips) : Fin 2 → Nat :=
  let c0_i32_33 : BitVec 32 := 0#32
  let c1_i32_34 : BitVec 32 := 1#32
  let arg19 : BitVec 32 := Scf.iv c0_i32_33 c1_i32_34 k0_t9
  let c32_i32 : BitVec 32 := 32#32
  let v38 : BitVec 32 := Scalar.muli arg19 c32_i32
  let v39 : BitVec 32 := v38
  let v69 : Index := Scalar.indexCast v39
  let c0_i32_38 : BitVec 32 := 0#32
  let c1_i32_40 : BitVec 32 := 1#32
  let arg21 : BitVec 32 := Scf.iv c0_i32_38 c1_i32_40 k0_t10
  let c128_i32_46 : BitVec 32 := 128#32
  let v67 : BitVec 32 := Scalar.muli arg21 c128_i32_46
  let v68 : BitVec 32 := v67
  let v70 : Index := Scalar.indexCast v68
  ![v69.toNat, v70.toNat]
def k0_mult18 (k0_t10 : Fin k0_t10_loop.trips) : BitVec 32 :=
  let c2048_i32 : BitVec 32 := 2048#32
  let c0_i32_38 : BitVec 32 := 0#32
  let c1_i32_40 : BitVec 32 := 1#32
  let arg21 : BitVec 32 := Scf.iv c0_i32_38 c1_i32_40 k0_t10
  let c128_i32_47 : BitVec 32 := 128#32
  let v72 : BitVec 32 := Scalar.muli arg21 c128_i32_47
  let v73 : BitVec 32 := Scalar.addi c2048_i32 v72
  v73
def k0_off37 (k0_t9 : Fin k0_t9_loop.trips) (k0_t10 : Fin k0_t10_loop.trips) : Fin 2 → Nat :=
  let c0_i32_33 : BitVec 32 := 0#32
  let c1_i32_34 : BitVec 32 := 1#32
  let arg19 : BitVec 32 := Scf.iv c0_i32_33 c1_i32_34 k0_t9
  let c32_i32 : BitVec 32 := 32#32
  let v38 : BitVec 32 := Scalar.muli arg19 c32_i32
  let v39 : BitVec 32 := v38
  let v75 : Index := Scalar.indexCast v39
  let c2048_i32 : BitVec 32 := 2048#32
  let c0_i32_38 : BitVec 32 := 0#32
  let c1_i32_40 : BitVec 32 := 1#32
  let arg21 : BitVec 32 := Scf.iv c0_i32_38 c1_i32_40 k0_t10
  let c128_i32_47 : BitVec 32 := 128#32
  let v72 : BitVec 32 := Scalar.muli arg21 c128_i32_47
  let v73 : BitVec 32 := Scalar.addi c2048_i32 v72
  let v74 : BitVec 32 := v73
  let v76 : Index := Scalar.indexCast v74
  ![v75.toNat, v76.toNat]
def k0_off38 (v27 : BitVec 32) (k0_t9 : Fin k0_t9_loop.trips) (k0_t10 : Fin k0_t10_loop.trips) : Fin 2 → Nat :=
  let v28 : BitVec 32 := v27
  let c0_i32_33 : BitVec 32 := 0#32
  let c1_i32_34 : BitVec 32 := 1#32
  let arg19 : BitVec 32 := Scf.iv c0_i32_33 c1_i32_34 k0_t9
  let c32_i32 : BitVec 32 := 32#32
  let v38 : BitVec 32 := Scalar.muli arg19 c32_i32
  let v39 : BitVec 32 := v38
  let v49 : BitVec 32 := Scalar.addi v28 v39
  let v50 : BitVec 32 := v49
  let v251 : Index := Scalar.indexCast v50
  let c0_i32_38 : BitVec 32 := 0#32
  let c1_i32_40 : BitVec 32 := 1#32
  let arg21 : BitVec 32 := Scf.iv c0_i32_38 c1_i32_40 k0_t10
  let c128_i32 : BitVec 32 := 128#32
  let v65 : BitVec 32 := Scalar.muli arg21 c128_i32
  let v66 : BitVec 32 := v65
  let v252 : Index := Scalar.indexCast v66
  ![v251.toNat, v252.toNat]
def k0_mult19 (v27 : BitVec 32) (k0_t9 : Fin k0_t9_loop.trips) : BitVec 32 :=
  let v28 : BitVec 32 := v27
  let c0_i32_33 : BitVec 32 := 0#32
  let c1_i32_34 : BitVec 32 := 1#32
  let arg19 : BitVec 32 := Scf.iv c0_i32_33 c1_i32_34 k0_t9
  let c32_i32 : BitVec 32 := 32#32
  let v38 : BitVec 32 := Scalar.muli arg19 c32_i32
  let v39 : BitVec 32 := v38
  let v54 : BitVec 32 := Scalar.addi v28 v39
  v54
def k0_off39 (v27 : BitVec 32) (k0_t9 : Fin k0_t9_loop.trips) : Fin 2 → Nat :=
  let v28 : BitVec 32 := v27
  let c0_i32_33 : BitVec 32 := 0#32
  let c1_i32_34 : BitVec 32 := 1#32
  let arg19 : BitVec 32 := Scf.iv c0_i32_33 c1_i32_34 k0_t9
  let c32_i32 : BitVec 32 := 32#32
  let v38 : BitVec 32 := Scalar.muli arg19 c32_i32
  let v39 : BitVec 32 := v38
  let v54 : BitVec 32 := Scalar.addi v28 v39
  let v55 : BitVec 32 := v54
  let v56 : Index := Scalar.indexCast v55
  let c0_42 : Index := 0#32
  ![v56.toNat, 0]

def k0_chk4 (v27 : BitVec 32) : Prop :=
  (16 ∣ (k0_mult3 v27).toNat) ∧
  (∀ (k0_t6 : Fin k0_t6_loop.trips) (k0_t8 : Fin k0_t8_loop.trips), ∀ a, (k0_off30 v27 k0_t6 k0_t8) a + S128x256.size a ≤ S256x7168.size a) ∧
  (∀ k0_t9 : Fin k0_t9_loop.trips, 16 ∣ (k0_mult15 v27 k0_t9).toNat) ∧
  (∀ (k0_t9 : Fin k0_t9_loop.trips) (k0_t10 : Fin k0_t10_loop.trips), ∀ a, (k0_off38 v27 k0_t9 k0_t10) a + S32x128.size a ≤ S256x2048.size a) ∧
  (∀ (k0_t9 : Fin k0_t9_loop.trips) (k0_t10 : Fin k0_t10_loop.trips), ∀ (hinb : ∀ a, (k0_off38 v27 k0_t9 k0_t10) a + S32x128.size a ≤ S256x2048.size a), (Rect.unit (s := S256x2048) (k0_off38 v27 k0_t9 k0_t10) S32x128.size hinb).PackedRows (EltTy.packing .bf16)) ∧
  (∀ k0_t9 : Fin k0_t9_loop.trips, 8 ∣ (k0_mult19 v27 k0_t9).toNat) ∧
  (∀ k0_t9 : Fin k0_t9_loop.trips, ∀ a, (k0_off39 v27 k0_t9) a + S32x128.size a ≤ S256x128.size a)
theorem k0_mult3_dvd : ∀ (v27 : BitVec 32) (k0_hw4 : k0_chk4 v27), 16 ∣ (k0_mult3 v27).toNat := fun v27 k0_hw4 => k0_hw4.1
theorem k0_off30_inb : ∀ (v27 : BitVec 32) (k0_hw4 : k0_chk4 v27) (k0_t6 : Fin k0_t6_loop.trips) (k0_t8 : Fin k0_t8_loop.trips), ∀ a, (k0_off30 v27 k0_t6 k0_t8) a + S128x256.size a ≤ S256x7168.size a := fun v27 k0_hw4 k0_t6 k0_t8 => k0_hw4.2.1 k0_t6 k0_t8
theorem k0_mult15_dvd : ∀ (v27 : BitVec 32) (k0_hw4 : k0_chk4 v27) (k0_t9 : Fin k0_t9_loop.trips), 16 ∣ (k0_mult15 v27 k0_t9).toNat := fun v27 k0_hw4 k0_t9 => k0_hw4.2.2.1 k0_t9
theorem k0_off38_inb : ∀ (v27 : BitVec 32) (k0_hw4 : k0_chk4 v27) (k0_t9 : Fin k0_t9_loop.trips) (k0_t10 : Fin k0_t10_loop.trips), ∀ a, (k0_off38 v27 k0_t9 k0_t10) a + S32x128.size a ≤ S256x2048.size a := fun v27 k0_hw4 k0_t9 k0_t10 => k0_hw4.2.2.2.1 k0_t9 k0_t10
theorem k0_off38_packedbf16 : ∀ (v27 : BitVec 32) (k0_hw4 : k0_chk4 v27) (k0_t9 : Fin k0_t9_loop.trips) (k0_t10 : Fin k0_t10_loop.trips), (Rect.unit (s := S256x2048) (k0_off38 v27 k0_t9 k0_t10) S32x128.size (k0_off38_inb v27 k0_hw4 k0_t9 k0_t10)).PackedRows (EltTy.packing .bf16) := fun v27 k0_hw4 k0_t9 k0_t10 => k0_hw4.2.2.2.2.1 k0_t9 k0_t10 (k0_off38_inb v27 k0_hw4 k0_t9 k0_t10)
theorem k0_mult19_dvd : ∀ (v27 : BitVec 32) (k0_hw4 : k0_chk4 v27) (k0_t9 : Fin k0_t9_loop.trips), 8 ∣ (k0_mult19 v27 k0_t9).toNat := fun v27 k0_hw4 k0_t9 => k0_hw4.2.2.2.2.2.1 k0_t9
theorem k0_off39_inb : ∀ (v27 : BitVec 32) (k0_hw4 : k0_chk4 v27) (k0_t9 : Fin k0_t9_loop.trips), ∀ a, (k0_off39 v27 k0_t9) a + S32x128.size a ≤ S256x128.size a := fun v27 k0_hw4 k0_t9 => k0_hw4.2.2.2.2.2.2 k0_t9

@[reducible] def k0_t11_loop (v1_0 : BitVec 32) : Scf.Loop 32 :=
  let c0_i32_14 : BitVec 32 := 0#32
  let v13 : BitVec 32 := Scalar.subi v1_0 c0_i32_14
  let c1_i32_16 : BitVec 32 := 1#32
  let v15 : BitVec 32 := Scalar.divsi v13 c1_i32_16
  let v16 : BitVec 32 := Scalar.muli v15 c1_i32_16
  let v17 : BitVec 32 := Scalar.addi c0_i32_14 v16
  let v14 : BitVec 32 := Scalar.addi c0_i32_14 v13
  let c1_i32_18 : BitVec 32 := 1#32
  ⟨v17, v14, c1_i32_18⟩
def k0_off40 (v1_0 : BitVec 32) (k0_t11 : Fin (k0_t11_loop v1_0).trips) : Fin 2 → Nat :=
  let c1 : Index := 1#32
  let c0_i32_14 : BitVec 32 := 0#32
  let v13 : BitVec 32 := Scalar.subi v1_0 c0_i32_14
  let c1_i32_16 : BitVec 32 := 1#32
  let v15 : BitVec 32 := Scalar.divsi v13 c1_i32_16
  let v16 : BitVec 32 := Scalar.muli v15 c1_i32_16
  let v17 : BitVec 32 := Scalar.addi c0_i32_14 v16
  let c1_i32_18 : BitVec 32 := 1#32
  let arg17 : BitVec 32 := Scf.iv v17 c1_i32_18 k0_t11
  let v26 : Index := Scalar.indexCast arg17
  ![1, v26.toNat]
def k0_mult20 (v27 : BitVec 32) : BitVec 32 :=
  v27

@[reducible] def k0_t12_loop : Scf.Loop 32 :=
  let c0_i32_28 : BitVec 32 := 0#32
  let c7_i32_29 : BitVec 32 := 7#32
  let v29 : BitVec 32 := Scalar.addi c0_i32_28 c7_i32_29
  let c1_i32_30 : BitVec 32 := 1#32
  ⟨c0_i32_28, v29, c1_i32_30⟩
def k0_off41 (v1_0 : BitVec 32) (k0_t11 : Fin (k0_t11_loop v1_0).trips) (k0_t12 : Fin k0_t12_loop.trips) : Fin 2 → Nat :=
  let c0_64 : Index := 0#32
  let c0_i32_14 : BitVec 32 := 0#32
  let v13 : BitVec 32 := Scalar.subi v1_0 c0_i32_14
  let c1_i32_16 : BitVec 32 := 1#32
  let v15 : BitVec 32 := Scalar.divsi v13 c1_i32_16
  let v16 : BitVec 32 := Scalar.muli v15 c1_i32_16
  let v17 : BitVec 32 := Scalar.addi c0_i32_14 v16
  let c1_i32_18 : BitVec 32 := 1#32
  let arg17 : BitVec 32 := Scf.iv v17 c1_i32_18 k0_t11
  let c7_i32_37 : BitVec 32 := 7#32
  let v38 : BitVec 32 := Scalar.muli arg17 c7_i32_37
  let c0_i32_28 : BitVec 32 := 0#32
  let c1_i32_30 : BitVec 32 := 1#32
  let arg19 : BitVec 32 := Scf.iv c0_i32_28 c1_i32_30 k0_t12
  let v39 : BitVec 32 := Scalar.addi v38 arg19
  let c8_i32_38 : BitVec 32 := 8#32
  let v41 : BitVec 32 := Scalar.addi v39 c8_i32_38
  let c1_i32_39 : BitVec 32 := 1#32
  let v42 : BitVec 32 := Scalar.subi v41 c1_i32_39
  let c7_i32_62 : BitVec 32 := 7#32
  let v80 : BitVec 32 := Scalar.divsi v42 c7_i32_62
  let v83 : Index := Scalar.indexCast v80
  ![0, v83.toNat]
def k0_cond3 (v1_0 : BitVec 32) (k0_t11 : Fin (k0_t11_loop v1_0).trips) (k0_t12 : Fin k0_t12_loop.trips) : BitVec 1 :=
  let c0_i32_14 : BitVec 32 := 0#32
  let v13 : BitVec 32 := Scalar.subi v1_0 c0_i32_14
  let c1_i32_16 : BitVec 32 := 1#32
  let v15 : BitVec 32 := Scalar.divsi v13 c1_i32_16
  let v16 : BitVec 32 := Scalar.muli v15 c1_i32_16
  let v17 : BitVec 32 := Scalar.addi c0_i32_14 v16
  let c1_i32_18 : BitVec 32 := 1#32
  let arg17 : BitVec 32 := Scf.iv v17 c1_i32_18 k0_t11
  let c7_i32_37 : BitVec 32 := 7#32
  let v38 : BitVec 32 := Scalar.muli arg17 c7_i32_37
  let c0_i32_28 : BitVec 32 := 0#32
  let c1_i32_30 : BitVec 32 := 1#32
  let arg19 : BitVec 32 := Scf.iv c0_i32_28 c1_i32_30 k0_t12
  let v39 : BitVec 32 := Scalar.addi v38 arg19
  let c8_i32_38 : BitVec 32 := 8#32
  let v41 : BitVec 32 := Scalar.addi v39 c8_i32_38
  let c1_i32_39 : BitVec 32 := 1#32
  let v42 : BitVec 32 := Scalar.subi v41 c1_i32_39
  let c7_i32 : BitVec 32 := 7#32
  let v2 : BitVec 32 := Scalar.muli v1_0 c7_i32
  let v43 : BitVec 1 := Scalar.cmpi .slt v42 v2
  let v44 : BitVec 32 := Scalar.extui v43
  let c0_i32_40 : BitVec 32 := 0#32
  let v45 : BitVec 1 := Scalar.cmpi .ne v44 c0_i32_40
  v45

def k0_off42 (v1_0 : BitVec 32) (k0_t11 : Fin (k0_t11_loop v1_0).trips) (k0_t12 : Fin k0_t12_loop.trips) : Fin 1 → Nat :=
  let c0_i32_14 : BitVec 32 := 0#32
  let v13 : BitVec 32 := Scalar.subi v1_0 c0_i32_14
  let c1_i32_16 : BitVec 32 := 1#32
  let v15 : BitVec 32 := Scalar.divsi v13 c1_i32_16
  let v16 : BitVec 32 := Scalar.muli v15 c1_i32_16
  let v17 : BitVec 32 := Scalar.addi c0_i32_14 v16
  let c1_i32_18 : BitVec 32 := 1#32
  let arg17 : BitVec 32 := Scf.iv v17 c1_i32_18 k0_t11
  let c7_i32_37 : BitVec 32 := 7#32
  let v38 : BitVec 32 := Scalar.muli arg17 c7_i32_37
  let c0_i32_28 : BitVec 32 := 0#32
  let c1_i32_30 : BitVec 32 := 1#32
  let arg19 : BitVec 32 := Scf.iv c0_i32_28 c1_i32_30 k0_t12
  let v39 : BitVec 32 := Scalar.addi v38 arg19
  let c8_i32_38 : BitVec 32 := 8#32
  let v41 : BitVec 32 := Scalar.addi v39 c8_i32_38
  let c1_i32_39 : BitVec 32 := 1#32
  let v42 : BitVec 32 := Scalar.subi v41 c1_i32_39
  let c8_i32_61 : BitVec 32 := 8#32
  let v79 : BitVec 32 := Scalar.remsi v42 c8_i32_61
  ![v79.toNat]
def k0_off43 (v1_0 : BitVec 32) (k0_t11 : Fin (k0_t11_loop v1_0).trips) (k0_t12 : Fin k0_t12_loop.trips) : Fin 3 → Nat :=
  let c0_i32_14 : BitVec 32 := 0#32
  let v13 : BitVec 32 := Scalar.subi v1_0 c0_i32_14
  let c1_i32_16 : BitVec 32 := 1#32
  let v15 : BitVec 32 := Scalar.divsi v13 c1_i32_16
  let v16 : BitVec 32 := Scalar.muli v15 c1_i32_16
  let v17 : BitVec 32 := Scalar.addi c0_i32_14 v16
  let c1_i32_18 : BitVec 32 := 1#32
  let arg17 : BitVec 32 := Scf.iv v17 c1_i32_18 k0_t11
  let c7_i32_37 : BitVec 32 := 7#32
  let v38 : BitVec 32 := Scalar.muli arg17 c7_i32_37
  let c0_i32_28 : BitVec 32 := 0#32
  let c1_i32_30 : BitVec 32 := 1#32
  let arg19 : BitVec 32 := Scf.iv c0_i32_28 c1_i32_30 k0_t12
  let v39 : BitVec 32 := Scalar.addi v38 arg19
  let c8_i32_38 : BitVec 32 := 8#32
  let v41 : BitVec 32 := Scalar.addi v39 c8_i32_38
  let c1_i32_39 : BitVec 32 := 1#32
  let v42 : BitVec 32 := Scalar.subi v41 c1_i32_39
  let c8_i32_61 : BitVec 32 := 8#32
  let v79 : BitVec 32 := Scalar.remsi v42 c8_i32_61
  let c0_i32_67 : BitVec 32 := 0#32
  let c0_i32_68 : BitVec 32 := 0#32
  ![v79.toNat, 0, 0]
def k0_off44 (v1_0 : BitVec 32) (k0_t11 : Fin (k0_t11_loop v1_0).trips) (k0_t12 : Fin k0_t12_loop.trips) (v84 : BitVec 32) : Fin 3 → Nat :=
  let c0_i32_14 : BitVec 32 := 0#32
  let v13 : BitVec 32 := Scalar.subi v1_0 c0_i32_14
  let c1_i32_16 : BitVec 32 := 1#32
  let v15 : BitVec 32 := Scalar.divsi v13 c1_i32_16
  let v16 : BitVec 32 := Scalar.muli v15 c1_i32_16
  let v17 : BitVec 32 := Scalar.addi c0_i32_14 v16
  let c1_i32_18 : BitVec 32 := 1#32
  let arg17 : BitVec 32 := Scf.iv v17 c1_i32_18 k0_t11
  let c7_i32_37 : BitVec 32 := 7#32
  let v38 : BitVec 32 := Scalar.muli arg17 c7_i32_37
  let c0_i32_28 : BitVec 32 := 0#32
  let c1_i32_30 : BitVec 32 := 1#32
  let arg19 : BitVec 32 := Scf.iv c0_i32_28 c1_i32_30 k0_t12
  let v39 : BitVec 32 := Scalar.addi v38 arg19
  let c8_i32_38 : BitVec 32 := 8#32
  let v41 : BitVec 32 := Scalar.addi v39 c8_i32_38
  let c1_i32_39 : BitVec 32 := 1#32
  let v42 : BitVec 32 := Scalar.subi v41 c1_i32_39
  let c7_i32_62 : BitVec 32 := 7#32
  let v80 : BitVec 32 := Scalar.divsi v42 c7_i32_62
  let c7_i32_63 : BitVec 32 := 7#32
  let v81 : BitVec 32 := Scalar.muli v80 c7_i32_63
  let v82 : BitVec 32 := Scalar.subi v42 v81
  let c1024_i32_65 : BitVec 32 := 1024#32
  let v85 : BitVec 32 := Scalar.muli v82 c1024_i32_65
  let c0_i32_69 : BitVec 32 := 0#32
  ![v84.toNat, v85.toNat, 0]

def k0_off45 (v1_0 : BitVec 32) (k0_t11 : Fin (k0_t11_loop v1_0).trips) (k0_t12 : Fin k0_t12_loop.trips) : Fin 1 → Nat :=
  let c0_i32_14 : BitVec 32 := 0#32
  let v13 : BitVec 32 := Scalar.subi v1_0 c0_i32_14
  let c1_i32_16 : BitVec 32 := 1#32
  let v15 : BitVec 32 := Scalar.divsi v13 c1_i32_16
  let v16 : BitVec 32 := Scalar.muli v15 c1_i32_16
  let v17 : BitVec 32 := Scalar.addi c0_i32_14 v16
  let c1_i32_18 : BitVec 32 := 1#32
  let arg17 : BitVec 32 := Scf.iv v17 c1_i32_18 k0_t11
  let c7_i32_37 : BitVec 32 := 7#32
  let v38 : BitVec 32 := Scalar.muli arg17 c7_i32_37
  let c0_i32_28 : BitVec 32 := 0#32
  let c1_i32_30 : BitVec 32 := 1#32
  let arg19 : BitVec 32 := Scf.iv c0_i32_28 c1_i32_30 k0_t12
  let v39 : BitVec 32 := Scalar.addi v38 arg19
  let c8_i32_38 : BitVec 32 := 8#32
  let v41 : BitVec 32 := Scalar.addi v39 c8_i32_38
  let c1_i32_39 : BitVec 32 := 1#32
  let v42 : BitVec 32 := Scalar.subi v41 c1_i32_39
  let c8_i32_61 : BitVec 32 := 8#32
  let v79 : BitVec 32 := Scalar.remsi v42 c8_i32_61
  ![v79.toNat]
def k0_off46 (v1_0 : BitVec 32) (k0_t11 : Fin (k0_t11_loop v1_0).trips) (k0_t12 : Fin k0_t12_loop.trips) : Fin 3 → Nat :=
  let c0_i32_14 : BitVec 32 := 0#32
  let v13 : BitVec 32 := Scalar.subi v1_0 c0_i32_14
  let c1_i32_16 : BitVec 32 := 1#32
  let v15 : BitVec 32 := Scalar.divsi v13 c1_i32_16
  let v16 : BitVec 32 := Scalar.muli v15 c1_i32_16
  let v17 : BitVec 32 := Scalar.addi c0_i32_14 v16
  let c1_i32_18 : BitVec 32 := 1#32
  let arg17 : BitVec 32 := Scf.iv v17 c1_i32_18 k0_t11
  let c7_i32_37 : BitVec 32 := 7#32
  let v38 : BitVec 32 := Scalar.muli arg17 c7_i32_37
  let c0_i32_28 : BitVec 32 := 0#32
  let c1_i32_30 : BitVec 32 := 1#32
  let arg19 : BitVec 32 := Scf.iv c0_i32_28 c1_i32_30 k0_t12
  let v39 : BitVec 32 := Scalar.addi v38 arg19
  let c8_i32_38 : BitVec 32 := 8#32
  let v41 : BitVec 32 := Scalar.addi v39 c8_i32_38
  let c1_i32_39 : BitVec 32 := 1#32
  let v42 : BitVec 32 := Scalar.subi v41 c1_i32_39
  let c8_i32_61 : BitVec 32 := 8#32
  let v79 : BitVec 32 := Scalar.remsi v42 c8_i32_61
  let c0_i32_70 : BitVec 32 := 0#32
  let c0_i32_71 : BitVec 32 := 0#32
  ![v79.toNat, 0, 0]
def k0_off47 (v1_0 : BitVec 32) (k0_t11 : Fin (k0_t11_loop v1_0).trips) (k0_t12 : Fin k0_t12_loop.trips) (v84 : BitVec 32) : Fin 3 → Nat :=
  let c0_i32_14 : BitVec 32 := 0#32
  let v13 : BitVec 32 := Scalar.subi v1_0 c0_i32_14
  let c1_i32_16 : BitVec 32 := 1#32
  let v15 : BitVec 32 := Scalar.divsi v13 c1_i32_16
  let v16 : BitVec 32 := Scalar.muli v15 c1_i32_16
  let v17 : BitVec 32 := Scalar.addi c0_i32_14 v16
  let c1_i32_18 : BitVec 32 := 1#32
  let arg17 : BitVec 32 := Scf.iv v17 c1_i32_18 k0_t11
  let c7_i32_37 : BitVec 32 := 7#32
  let v38 : BitVec 32 := Scalar.muli arg17 c7_i32_37
  let c0_i32_28 : BitVec 32 := 0#32
  let c1_i32_30 : BitVec 32 := 1#32
  let arg19 : BitVec 32 := Scf.iv c0_i32_28 c1_i32_30 k0_t12
  let v39 : BitVec 32 := Scalar.addi v38 arg19
  let c8_i32_38 : BitVec 32 := 8#32
  let v41 : BitVec 32 := Scalar.addi v39 c8_i32_38
  let c1_i32_39 : BitVec 32 := 1#32
  let v42 : BitVec 32 := Scalar.subi v41 c1_i32_39
  let c7_i32_62 : BitVec 32 := 7#32
  let v80 : BitVec 32 := Scalar.divsi v42 c7_i32_62
  let c7_i32_63 : BitVec 32 := 7#32
  let v81 : BitVec 32 := Scalar.muli v80 c7_i32_63
  let v82 : BitVec 32 := Scalar.subi v42 v81
  let c32_i32_66 : BitVec 32 := 32#32
  let v86 : BitVec 32 := Scalar.muli v82 c32_i32_66
  let c0_i32_72 : BitVec 32 := 0#32
  ![v84.toNat, v86.toNat, 0]

def k0_chk8 (v1_0 : BitVec 32) (k0_t11 : Fin (k0_t11_loop v1_0).trips) (k0_t12 : Fin k0_t12_loop.trips) (v84 : BitVec 32) : Prop :=
  (∀ (k0_h3 : k0_cond3 v1_0 k0_t11 k0_t12 = 1#1), ∀ a, (k0_off44 v1_0 k0_t11 k0_t12 v84) a + S1x1024x4096.size a ≤ S13x7168x4096.size a) ∧
  (∀ (k0_h3 : k0_cond3 v1_0 k0_t11 k0_t12 = 1#1), ∀ (hinb : ∀ a, (k0_off44 v1_0 k0_t11 k0_t12 v84) a + S1x1024x4096.size a ≤ S13x7168x4096.size a), (Rect.unit (s := S13x7168x4096) (k0_off44 v1_0 k0_t11 k0_t12 v84) S1x1024x4096.size hinb).WholeWords (EltTy.packing .fp8e4m3)) ∧
  (∀ (k0_h3 : k0_cond3 v1_0 k0_t11 k0_t12 = 1#1), ∀ a, (k0_off47 v1_0 k0_t11 k0_t12 v84) a + S1x32x4096.size a ≤ S13x224x4096.size a) ∧
  (∀ (k0_h3 : k0_cond3 v1_0 k0_t11 k0_t12 = 1#1), ∀ (hinb : ∀ a, (k0_off47 v1_0 k0_t11 k0_t12 v84) a + S1x32x4096.size a ≤ S13x224x4096.size a), (Rect.unit (s := S13x224x4096) (k0_off47 v1_0 k0_t11 k0_t12 v84) S1x32x4096.size hinb).WholeWords (EltTy.packing .i8))
theorem k0_off44_inb : ∀ (v1_0 : BitVec 32) (k0_t11 : Fin (k0_t11_loop v1_0).trips) (k0_t12 : Fin k0_t12_loop.trips) (v84 : BitVec 32) (k0_hw8 : k0_chk8 v1_0 k0_t11 k0_t12 v84), ∀ (k0_h3 : k0_cond3 v1_0 k0_t11 k0_t12 = 1#1), ∀ a, (k0_off44 v1_0 k0_t11 k0_t12 v84) a + S1x1024x4096.size a ≤ S13x7168x4096.size a := fun v1_0 k0_t11 k0_t12 v84 k0_hw8 k0_h3 => k0_hw8.1 k0_h3
theorem k0_off44_wordsfp8e4m3 : ∀ (v1_0 : BitVec 32) (k0_t11 : Fin (k0_t11_loop v1_0).trips) (k0_t12 : Fin k0_t12_loop.trips) (v84 : BitVec 32) (k0_hw8 : k0_chk8 v1_0 k0_t11 k0_t12 v84), ∀ (k0_h3 : k0_cond3 v1_0 k0_t11 k0_t12 = 1#1), (Rect.unit (s := S13x7168x4096) (k0_off44 v1_0 k0_t11 k0_t12 v84) S1x1024x4096.size (k0_off44_inb v1_0 k0_t11 k0_t12 v84 k0_hw8 k0_h3)).WholeWords (EltTy.packing .fp8e4m3) := fun v1_0 k0_t11 k0_t12 v84 k0_hw8 k0_h3 => k0_hw8.2.1 k0_h3 (k0_off44_inb v1_0 k0_t11 k0_t12 v84 k0_hw8 k0_h3)
theorem k0_off47_inb : ∀ (v1_0 : BitVec 32) (k0_t11 : Fin (k0_t11_loop v1_0).trips) (k0_t12 : Fin k0_t12_loop.trips) (v84 : BitVec 32) (k0_hw8 : k0_chk8 v1_0 k0_t11 k0_t12 v84), ∀ (k0_h3 : k0_cond3 v1_0 k0_t11 k0_t12 = 1#1), ∀ a, (k0_off47 v1_0 k0_t11 k0_t12 v84) a + S1x32x4096.size a ≤ S13x224x4096.size a := fun v1_0 k0_t11 k0_t12 v84 k0_hw8 k0_h3 => k0_hw8.2.2.1 k0_h3
theorem k0_off47_wordsi8 : ∀ (v1_0 : BitVec 32) (k0_t11 : Fin (k0_t11_loop v1_0).trips) (k0_t12 : Fin k0_t12_loop.trips) (v84 : BitVec 32) (k0_hw8 : k0_chk8 v1_0 k0_t11 k0_t12 v84), ∀ (k0_h3 : k0_cond3 v1_0 k0_t11 k0_t12 = 1#1), (Rect.unit (s := S13x224x4096) (k0_off47 v1_0 k0_t11 k0_t12 v84) S1x32x4096.size (k0_off47_inb v1_0 k0_t11 k0_t12 v84 k0_hw8 k0_h3)).WholeWords (EltTy.packing .i8) := fun v1_0 k0_t11 k0_t12 v84 k0_hw8 k0_h3 => k0_hw8.2.2.2 k0_h3 (k0_off47_inb v1_0 k0_t11 k0_t12 v84 k0_hw8 k0_h3)

def k0_off48 (v1_0 : BitVec 32) (k0_t11 : Fin (k0_t11_loop v1_0).trips) (k0_t12 : Fin k0_t12_loop.trips) : Fin 2 → Nat :=
  let c0_43 : Index := 0#32
  let c0_i32_14 : BitVec 32 := 0#32
  let v13 : BitVec 32 := Scalar.subi v1_0 c0_i32_14
  let c1_i32_16 : BitVec 32 := 1#32
  let v15 : BitVec 32 := Scalar.divsi v13 c1_i32_16
  let v16 : BitVec 32 := Scalar.muli v15 c1_i32_16
  let v17 : BitVec 32 := Scalar.addi c0_i32_14 v16
  let c1_i32_18 : BitVec 32 := 1#32
  let arg17 : BitVec 32 := Scf.iv v17 c1_i32_18 k0_t11
  let c7_i32_37 : BitVec 32 := 7#32
  let v38 : BitVec 32 := Scalar.muli arg17 c7_i32_37
  let c0_i32_28 : BitVec 32 := 0#32
  let c1_i32_30 : BitVec 32 := 1#32
  let arg19 : BitVec 32 := Scf.iv c0_i32_28 c1_i32_30 k0_t12
  let v39 : BitVec 32 := Scalar.addi v38 arg19
  let c7_i32_41 : BitVec 32 := 7#32
  let v46 : BitVec 32 := Scalar.divsi v39 c7_i32_41
  let v49 : Index := Scalar.indexCast v46
  ![0, v49.toNat]
def k0_off49 (v1_0 : BitVec 32) (k0_t11 : Fin (k0_t11_loop v1_0).trips) (k0_t12 : Fin k0_t12_loop.trips) : Fin 1 → Nat :=
  let c0_i32_14 : BitVec 32 := 0#32
  let v13 : BitVec 32 := Scalar.subi v1_0 c0_i32_14
  let c1_i32_16 : BitVec 32 := 1#32
  let v15 : BitVec 32 := Scalar.divsi v13 c1_i32_16
  let v16 : BitVec 32 := Scalar.muli v15 c1_i32_16
  let v17 : BitVec 32 := Scalar.addi c0_i32_14 v16
  let c1_i32_18 : BitVec 32 := 1#32
  let arg17 : BitVec 32 := Scf.iv v17 c1_i32_18 k0_t11
  let c7_i32_37 : BitVec 32 := 7#32
  let v38 : BitVec 32 := Scalar.muli arg17 c7_i32_37
  let c0_i32_28 : BitVec 32 := 0#32
  let c1_i32_30 : BitVec 32 := 1#32
  let arg19 : BitVec 32 := Scf.iv c0_i32_28 c1_i32_30 k0_t12
  let v39 : BitVec 32 := Scalar.addi v38 arg19
  let c8_i32 : BitVec 32 := 8#32
  let v40 : BitVec 32 := Scalar.remsi v39 c8_i32
  ![v40.toNat]
def k0_off50 (v1_0 : BitVec 32) (k0_t11 : Fin (k0_t11_loop v1_0).trips) (k0_t12 : Fin k0_t12_loop.trips) : Fin 3 → Nat :=
  let c0_i32_14 : BitVec 32 := 0#32
  let v13 : BitVec 32 := Scalar.subi v1_0 c0_i32_14
  let c1_i32_16 : BitVec 32 := 1#32
  let v15 : BitVec 32 := Scalar.divsi v13 c1_i32_16
  let v16 : BitVec 32 := Scalar.muli v15 c1_i32_16
  let v17 : BitVec 32 := Scalar.addi c0_i32_14 v16
  let c1_i32_18 : BitVec 32 := 1#32
  let arg17 : BitVec 32 := Scf.iv v17 c1_i32_18 k0_t11
  let c7_i32_37 : BitVec 32 := 7#32
  let v38 : BitVec 32 := Scalar.muli arg17 c7_i32_37
  let c0_i32_28 : BitVec 32 := 0#32
  let c1_i32_30 : BitVec 32 := 1#32
  let arg19 : BitVec 32 := Scf.iv c0_i32_28 c1_i32_30 k0_t12
  let v39 : BitVec 32 := Scalar.addi v38 arg19
  let c8_i32 : BitVec 32 := 8#32
  let v40 : BitVec 32 := Scalar.remsi v39 c8_i32
  let c0_i32_44 : BitVec 32 := 0#32
  let c0_i32_45 : BitVec 32 := 0#32
  ![v40.toNat, 0, 0]
def k0_off51 (v1_0 : BitVec 32) (k0_t11 : Fin (k0_t11_loop v1_0).trips) (k0_t12 : Fin k0_t12_loop.trips) (v50 : BitVec 32) : Fin 3 → Nat :=
  let c0_i32_14 : BitVec 32 := 0#32
  let v13 : BitVec 32 := Scalar.subi v1_0 c0_i32_14
  let c1_i32_16 : BitVec 32 := 1#32
  let v15 : BitVec 32 := Scalar.divsi v13 c1_i32_16
  let v16 : BitVec 32 := Scalar.muli v15 c1_i32_16
  let v17 : BitVec 32 := Scalar.addi c0_i32_14 v16
  let c1_i32_18 : BitVec 32 := 1#32
  let arg17 : BitVec 32 := Scf.iv v17 c1_i32_18 k0_t11
  let c7_i32_37 : BitVec 32 := 7#32
  let v38 : BitVec 32 := Scalar.muli arg17 c7_i32_37
  let c0_i32_28 : BitVec 32 := 0#32
  let c1_i32_30 : BitVec 32 := 1#32
  let arg19 : BitVec 32 := Scf.iv c0_i32_28 c1_i32_30 k0_t12
  let v39 : BitVec 32 := Scalar.addi v38 arg19
  let c7_i32_41 : BitVec 32 := 7#32
  let v46 : BitVec 32 := Scalar.divsi v39 c7_i32_41
  let c7_i32_42 : BitVec 32 := 7#32
  let v47 : BitVec 32 := Scalar.muli v46 c7_i32_42
  let v48 : BitVec 32 := Scalar.subi v39 v47
  let c1024_i32 : BitVec 32 := 1024#32
  let v51 : BitVec 32 := Scalar.muli v48 c1024_i32
  let c0_i32_46 : BitVec 32 := 0#32
  ![v50.toNat, v51.toNat, 0]

def k0_off52 (v1_0 : BitVec 32) (k0_t11 : Fin (k0_t11_loop v1_0).trips) (k0_t12 : Fin k0_t12_loop.trips) : Fin 1 → Nat :=
  let c0_i32_14 : BitVec 32 := 0#32
  let v13 : BitVec 32 := Scalar.subi v1_0 c0_i32_14
  let c1_i32_16 : BitVec 32 := 1#32
  let v15 : BitVec 32 := Scalar.divsi v13 c1_i32_16
  let v16 : BitVec 32 := Scalar.muli v15 c1_i32_16
  let v17 : BitVec 32 := Scalar.addi c0_i32_14 v16
  let c1_i32_18 : BitVec 32 := 1#32
  let arg17 : BitVec 32 := Scf.iv v17 c1_i32_18 k0_t11
  let c7_i32_37 : BitVec 32 := 7#32
  let v38 : BitVec 32 := Scalar.muli arg17 c7_i32_37
  let c0_i32_28 : BitVec 32 := 0#32
  let c1_i32_30 : BitVec 32 := 1#32
  let arg19 : BitVec 32 := Scf.iv c0_i32_28 c1_i32_30 k0_t12
  let v39 : BitVec 32 := Scalar.addi v38 arg19
  let c8_i32 : BitVec 32 := 8#32
  let v40 : BitVec 32 := Scalar.remsi v39 c8_i32
  ![v40.toNat]
def k0_off53 (v1_0 : BitVec 32) (k0_t11 : Fin (k0_t11_loop v1_0).trips) (k0_t12 : Fin k0_t12_loop.trips) : Fin 3 → Nat :=
  let c0_i32_14 : BitVec 32 := 0#32
  let v13 : BitVec 32 := Scalar.subi v1_0 c0_i32_14
  let c1_i32_16 : BitVec 32 := 1#32
  let v15 : BitVec 32 := Scalar.divsi v13 c1_i32_16
  let v16 : BitVec 32 := Scalar.muli v15 c1_i32_16
  let v17 : BitVec 32 := Scalar.addi c0_i32_14 v16
  let c1_i32_18 : BitVec 32 := 1#32
  let arg17 : BitVec 32 := Scf.iv v17 c1_i32_18 k0_t11
  let c7_i32_37 : BitVec 32 := 7#32
  let v38 : BitVec 32 := Scalar.muli arg17 c7_i32_37
  let c0_i32_28 : BitVec 32 := 0#32
  let c1_i32_30 : BitVec 32 := 1#32
  let arg19 : BitVec 32 := Scf.iv c0_i32_28 c1_i32_30 k0_t12
  let v39 : BitVec 32 := Scalar.addi v38 arg19
  let c8_i32 : BitVec 32 := 8#32
  let v40 : BitVec 32 := Scalar.remsi v39 c8_i32
  let c0_i32_47 : BitVec 32 := 0#32
  let c0_i32_48 : BitVec 32 := 0#32
  ![v40.toNat, 0, 0]
def k0_off54 (v1_0 : BitVec 32) (k0_t11 : Fin (k0_t11_loop v1_0).trips) (k0_t12 : Fin k0_t12_loop.trips) (v50 : BitVec 32) : Fin 3 → Nat :=
  let c0_i32_14 : BitVec 32 := 0#32
  let v13 : BitVec 32 := Scalar.subi v1_0 c0_i32_14
  let c1_i32_16 : BitVec 32 := 1#32
  let v15 : BitVec 32 := Scalar.divsi v13 c1_i32_16
  let v16 : BitVec 32 := Scalar.muli v15 c1_i32_16
  let v17 : BitVec 32 := Scalar.addi c0_i32_14 v16
  let c1_i32_18 : BitVec 32 := 1#32
  let arg17 : BitVec 32 := Scf.iv v17 c1_i32_18 k0_t11
  let c7_i32_37 : BitVec 32 := 7#32
  let v38 : BitVec 32 := Scalar.muli arg17 c7_i32_37
  let c0_i32_28 : BitVec 32 := 0#32
  let c1_i32_30 : BitVec 32 := 1#32
  let arg19 : BitVec 32 := Scf.iv c0_i32_28 c1_i32_30 k0_t12
  let v39 : BitVec 32 := Scalar.addi v38 arg19
  let c7_i32_41 : BitVec 32 := 7#32
  let v46 : BitVec 32 := Scalar.divsi v39 c7_i32_41
  let c7_i32_42 : BitVec 32 := 7#32
  let v47 : BitVec 32 := Scalar.muli v46 c7_i32_42
  let v48 : BitVec 32 := Scalar.subi v39 v47
  let c32_i32 : BitVec 32 := 32#32
  let v52 : BitVec 32 := Scalar.muli v48 c32_i32
  let c0_i32_49 : BitVec 32 := 0#32
  ![v50.toNat, v52.toNat, 0]

def k0_chk9 (v1_0 : BitVec 32) (k0_t11 : Fin (k0_t11_loop v1_0).trips) (k0_t12 : Fin k0_t12_loop.trips) (v50 : BitVec 32) : Prop :=
  (∀ a, (k0_off51 v1_0 k0_t11 k0_t12 v50) a + S1x1024x4096.size a ≤ S13x7168x4096.size a) ∧
  (∀ (hinb : ∀ a, (k0_off51 v1_0 k0_t11 k0_t12 v50) a + S1x1024x4096.size a ≤ S13x7168x4096.size a), (Rect.unit (s := S13x7168x4096) (k0_off51 v1_0 k0_t11 k0_t12 v50) S1x1024x4096.size hinb).WholeWords (EltTy.packing .fp8e4m3)) ∧
  (∀ a, (k0_off54 v1_0 k0_t11 k0_t12 v50) a + S1x32x4096.size a ≤ S13x224x4096.size a) ∧
  (∀ (hinb : ∀ a, (k0_off54 v1_0 k0_t11 k0_t12 v50) a + S1x32x4096.size a ≤ S13x224x4096.size a), (Rect.unit (s := S13x224x4096) (k0_off54 v1_0 k0_t11 k0_t12 v50) S1x32x4096.size hinb).WholeWords (EltTy.packing .i8))
theorem k0_off51_inb : ∀ (v1_0 : BitVec 32) (k0_t11 : Fin (k0_t11_loop v1_0).trips) (k0_t12 : Fin k0_t12_loop.trips) (v50 : BitVec 32) (k0_hw9 : k0_chk9 v1_0 k0_t11 k0_t12 v50), ∀ a, (k0_off51 v1_0 k0_t11 k0_t12 v50) a + S1x1024x4096.size a ≤ S13x7168x4096.size a := fun v1_0 k0_t11 k0_t12 v50 k0_hw9 => k0_hw9.1
theorem k0_off51_wordsfp8e4m3 : ∀ (v1_0 : BitVec 32) (k0_t11 : Fin (k0_t11_loop v1_0).trips) (k0_t12 : Fin k0_t12_loop.trips) (v50 : BitVec 32) (k0_hw9 : k0_chk9 v1_0 k0_t11 k0_t12 v50), (Rect.unit (s := S13x7168x4096) (k0_off51 v1_0 k0_t11 k0_t12 v50) S1x1024x4096.size (k0_off51_inb v1_0 k0_t11 k0_t12 v50 k0_hw9)).WholeWords (EltTy.packing .fp8e4m3) := fun v1_0 k0_t11 k0_t12 v50 k0_hw9 => k0_hw9.2.1 (k0_off51_inb v1_0 k0_t11 k0_t12 v50 k0_hw9)
theorem k0_off54_inb : ∀ (v1_0 : BitVec 32) (k0_t11 : Fin (k0_t11_loop v1_0).trips) (k0_t12 : Fin k0_t12_loop.trips) (v50 : BitVec 32) (k0_hw9 : k0_chk9 v1_0 k0_t11 k0_t12 v50), ∀ a, (k0_off54 v1_0 k0_t11 k0_t12 v50) a + S1x32x4096.size a ≤ S13x224x4096.size a := fun v1_0 k0_t11 k0_t12 v50 k0_hw9 => k0_hw9.2.2.1
theorem k0_off54_wordsi8 : ∀ (v1_0 : BitVec 32) (k0_t11 : Fin (k0_t11_loop v1_0).trips) (k0_t12 : Fin k0_t12_loop.trips) (v50 : BitVec 32) (k0_hw9 : k0_chk9 v1_0 k0_t11 k0_t12 v50), (Rect.unit (s := S13x224x4096) (k0_off54 v1_0 k0_t11 k0_t12 v50) S1x32x4096.size (k0_off54_inb v1_0 k0_t11 k0_t12 v50 k0_hw9)).WholeWords (EltTy.packing .i8) := fun v1_0 k0_t11 k0_t12 v50 k0_hw9 => k0_hw9.2.2.2 (k0_off54_inb v1_0 k0_t11 k0_t12 v50 k0_hw9)

def k0_off55 (v1_0 : BitVec 32) (k0_t11 : Fin (k0_t11_loop v1_0).trips) (k0_t12 : Fin k0_t12_loop.trips) : Fin 3 → Nat :=
  let c0_i32_14 : BitVec 32 := 0#32
  let v13 : BitVec 32 := Scalar.subi v1_0 c0_i32_14
  let c1_i32_16 : BitVec 32 := 1#32
  let v15 : BitVec 32 := Scalar.divsi v13 c1_i32_16
  let v16 : BitVec 32 := Scalar.muli v15 c1_i32_16
  let v17 : BitVec 32 := Scalar.addi c0_i32_14 v16
  let c1_i32_18 : BitVec 32 := 1#32
  let arg17 : BitVec 32 := Scf.iv v17 c1_i32_18 k0_t11
  let c7_i32_37 : BitVec 32 := 7#32
  let v38 : BitVec 32 := Scalar.muli arg17 c7_i32_37
  let c0_i32_28 : BitVec 32 := 0#32
  let c1_i32_30 : BitVec 32 := 1#32
  let arg19 : BitVec 32 := Scf.iv c0_i32_28 c1_i32_30 k0_t12
  let v39 : BitVec 32 := Scalar.addi v38 arg19
  let c8_i32 : BitVec 32 := 8#32
  let v40 : BitVec 32 := Scalar.remsi v39 c8_i32
  let v65 : Index := Scalar.indexCast v40
  let c0_50 : Index := 0#32
  let c0_51 : Index := 0#32
  ![v65.toNat, 0, 0]
@[reducible] def k0_t13_loop : Scf.Loop 32 :=
  let c0_i32_56 : BitVec 32 := 0#32
  let c16_i32_57 : BitVec 32 := 16#32
  let v77 : BitVec 32 := Scalar.addi c0_i32_56 c16_i32_57
  let c1_i32_58 : BitVec 32 := 1#32
  ⟨c0_i32_56, v77, c1_i32_58⟩
def k0_mult21 (k0_t13 : Fin k0_t13_loop.trips) : BitVec 32 :=
  let c0_i32_56 : BitVec 32 := 0#32
  let c1_i32_58 : BitVec 32 := 1#32
  let arg21 : BitVec 32 := Scf.iv c0_i32_56 c1_i32_58 k0_t13
  let c256_i32 : BitVec 32 := 256#32
  let v79 : BitVec 32 := Scalar.muli arg21 c256_i32
  v79
@[reducible] def k0_t14_loop : Scf.Loop 32 :=
  let c0_i32_62 : BitVec 32 := 0#32
  let c4_i32_63 : BitVec 32 := 4#32
  let v82 : BitVec 32 := Scalar.addi c0_i32_62 c4_i32_63
  let c1_i32_64 : BitVec 32 := 1#32
  ⟨c0_i32_62, v82, c1_i32_64⟩
def k0_mult22 (k0_t12 : Fin k0_t12_loop.trips) (k0_t14 : Fin k0_t14_loop.trips) : BitVec 32 :=
  let c0_i32_28 : BitVec 32 := 0#32
  let c1_i32_30 : BitVec 32 := 1#32
  let arg19 : BitVec 32 := Scf.iv c0_i32_28 c1_i32_30 k0_t12
  let c1024_i32_70 : BitVec 32 := 1024#32
  let v93 : BitVec 32 := Scalar.muli arg19 c1024_i32_70
  let c0_i32_62 : BitVec 32 := 0#32
  let c1_i32_64 : BitVec 32 := 1#32
  let arg23 : BitVec 32 := Scf.iv c0_i32_62 c1_i32_64 k0_t14
  let c256_i32_71 : BitVec 32 := 256#32
  let v94 : BitVec 32 := Scalar.muli arg23 c256_i32_71
  let v95 : BitVec 32 := Scalar.addi v93 v94
  v95
def k0_off56 (v27 : BitVec 32) (k0_t12 : Fin k0_t12_loop.trips) (k0_t14 : Fin k0_t14_loop.trips) : Fin 2 → Nat :=
  let v28 : BitVec 32 := v27
  let v97 : Index := Scalar.indexCast v28
  let c0_i32_28 : BitVec 32 := 0#32
  let c1_i32_30 : BitVec 32 := 1#32
  let arg19 : BitVec 32 := Scf.iv c0_i32_28 c1_i32_30 k0_t12
  let c1024_i32_70 : BitVec 32 := 1024#32
  let v93 : BitVec 32 := Scalar.muli arg19 c1024_i32_70
  let c0_i32_62 : BitVec 32 := 0#32
  let c1_i32_64 : BitVec 32 := 1#32
  let arg23 : BitVec 32 := Scf.iv c0_i32_62 c1_i32_64 k0_t14
  let c256_i32_71 : BitVec 32 := 256#32
  let v94 : BitVec 32 := Scalar.muli arg23 c256_i32_71
  let v95 : BitVec 32 := Scalar.addi v93 v94
  let v96 : BitVec 32 := v95
  let v98 : Index := Scalar.indexCast v96
  ![v97.toNat, v98.toNat]
def k0_mult23 (k0_t14 : Fin k0_t14_loop.trips) : BitVec 32 :=
  let c0_i32_62 : BitVec 32 := 0#32
  let c1_i32_64 : BitVec 32 := 1#32
  let arg23 : BitVec 32 := Scf.iv c0_i32_62 c1_i32_64 k0_t14
  let c8_i32_72 : BitVec 32 := 8#32
  let v100 : BitVec 32 := Scalar.muli arg23 c8_i32_72
  let c0_i32_73 : BitVec 32 := 0#32
  let v101 : BitVec 32 := Scalar.addi v100 c0_i32_73
  let c32_i32_74 : BitVec 32 := 32#32
  let v102 : BitVec 32 := Scalar.muli v101 c32_i32_74
  v102
def k0_off57 (v1_0 : BitVec 32) (k0_t11 : Fin (k0_t11_loop v1_0).trips) (k0_t12 : Fin k0_t12_loop.trips) (k0_t13 : Fin k0_t13_loop.trips) (k0_t14 : Fin k0_t14_loop.trips) (c0_i32_73 : BitVec 32) : Fin 3 → Nat :=
  let c0_i32_14 : BitVec 32 := 0#32
  let v13 : BitVec 32 := Scalar.subi v1_0 c0_i32_14
  let c1_i32_16 : BitVec 32 := 1#32
  let v15 : BitVec 32 := Scalar.divsi v13 c1_i32_16
  let v16 : BitVec 32 := Scalar.muli v15 c1_i32_16
  let v17 : BitVec 32 := Scalar.addi c0_i32_14 v16
  let c1_i32_18 : BitVec 32 := 1#32
  let arg17 : BitVec 32 := Scf.iv v17 c1_i32_18 k0_t11
  let c7_i32_37 : BitVec 32 := 7#32
  let v38 : BitVec 32 := Scalar.muli arg17 c7_i32_37
  let c0_i32_28 : BitVec 32 := 0#32
  let c1_i32_30 : BitVec 32 := 1#32
  let arg19 : BitVec 32 := Scf.iv c0_i32_28 c1_i32_30 k0_t12
  let v39 : BitVec 32 := Scalar.addi v38 arg19
  let c8_i32 : BitVec 32 := 8#32
  let v40 : BitVec 32 := Scalar.remsi v39 c8_i32
  let v104 : Index := Scalar.indexCast v40
  let c0_i32_62 : BitVec 32 := 0#32
  let c1_i32_64 : BitVec 32 := 1#32
  let arg23 : BitVec 32 := Scf.iv c0_i32_62 c1_i32_64 k0_t14
  let c8_i32_72 : BitVec 32 := 8#32
  let v100 : BitVec 32 := Scalar.muli arg23 c8_i32_72
  let v101 : BitVec 32 := Scalar.addi v100 c0_i32_73
  let c32_i32_74 : BitVec 32 := 32#32
  let v102 : BitVec 32 := Scalar.muli v101 c32_i32_74
  let v103 : BitVec 32 := v102
  let v105 : Index := Scalar.indexCast v103
  let c0_i32_56 : BitVec 32 := 0#32
  let c1_i32_58 : BitVec 32 := 1#32
  let arg21 : BitVec 32 := Scf.iv c0_i32_56 c1_i32_58 k0_t13
  let c256_i32 : BitVec 32 := 256#32
  let v79 : BitVec 32 := Scalar.muli arg21 c256_i32
  let v80 : BitVec 32 := v79
  let v106 : Index := Scalar.indexCast v80
  ![v104.toNat, v105.toNat, v106.toNat]
def k0_off58 (k0_t13 : Fin k0_t13_loop.trips) (k0_t14 : Fin k0_t14_loop.trips) (c0_i32_73 : BitVec 32) : Fin 2 → Nat :=
  let c0_i32_62 : BitVec 32 := 0#32
  let c1_i32_64 : BitVec 32 := 1#32
  let arg23 : BitVec 32 := Scf.iv c0_i32_62 c1_i32_64 k0_t14
  let c8_i32_72 : BitVec 32 := 8#32
  let v100 : BitVec 32 := Scalar.muli arg23 c8_i32_72
  let v101 : BitVec 32 := Scalar.addi v100 c0_i32_73
  let v110 : Index := Scalar.indexCast v101
  let c0_i32_56 : BitVec 32 := 0#32
  let c1_i32_58 : BitVec 32 := 1#32
  let arg21 : BitVec 32 := Scf.iv c0_i32_56 c1_i32_58 k0_t13
  let c256_i32 : BitVec 32 := 256#32
  let v79 : BitVec 32 := Scalar.muli arg21 c256_i32
  let v80 : BitVec 32 := v79
  let v111 : Index := Scalar.indexCast v80
  ![v110.toNat, v111.toNat]
def k0_mult24 (k0_t14 : Fin k0_t14_loop.trips) : BitVec 32 :=
  let c0_i32_62 : BitVec 32 := 0#32
  let c1_i32_64 : BitVec 32 := 1#32
  let arg23 : BitVec 32 := Scf.iv c0_i32_62 c1_i32_64 k0_t14
  let c8_i32_75 : BitVec 32 := 8#32
  let v118 : BitVec 32 := Scalar.muli arg23 c8_i32_75
  let c1_i32_76 : BitVec 32 := 1#32
  let v119 : BitVec 32 := Scalar.addi v118 c1_i32_76
  let c32_i32_77 : BitVec 32 := 32#32
  let v120 : BitVec 32 := Scalar.muli v119 c32_i32_77
  v120
def k0_mult25 (k0_t14 : Fin k0_t14_loop.trips) : BitVec 32 :=
  let c0_i32_62 : BitVec 32 := 0#32
  let c1_i32_64 : BitVec 32 := 1#32
  let arg23 : BitVec 32 := Scf.iv c0_i32_62 c1_i32_64 k0_t14
  let c8_i32_78 : BitVec 32 := 8#32
  let v136 : BitVec 32 := Scalar.muli arg23 c8_i32_78
  let c2_i32 : BitVec 32 := 2#32
  let v137 : BitVec 32 := Scalar.addi v136 c2_i32
  let c32_i32_79 : BitVec 32 := 32#32
  let v138 : BitVec 32 := Scalar.muli v137 c32_i32_79
  v138
def k0_mult26 (k0_t14 : Fin k0_t14_loop.trips) : BitVec 32 :=
  let c0_i32_62 : BitVec 32 := 0#32
  let c1_i32_64 : BitVec 32 := 1#32
  let arg23 : BitVec 32 := Scf.iv c0_i32_62 c1_i32_64 k0_t14
  let c8_i32_80 : BitVec 32 := 8#32
  let v154 : BitVec 32 := Scalar.muli arg23 c8_i32_80
  let c3_i32 : BitVec 32 := 3#32
  let v155 : BitVec 32 := Scalar.addi v154 c3_i32
  let c32_i32_81 : BitVec 32 := 32#32
  let v156 : BitVec 32 := Scalar.muli v155 c32_i32_81
  v156
def k0_mult27 (k0_t14 : Fin k0_t14_loop.trips) : BitVec 32 :=
  let c0_i32_62 : BitVec 32 := 0#32
  let c1_i32_64 : BitVec 32 := 1#32
  let arg23 : BitVec 32 := Scf.iv c0_i32_62 c1_i32_64 k0_t14
  let c8_i32_82 : BitVec 32 := 8#32
  let v172 : BitVec 32 := Scalar.muli arg23 c8_i32_82
  let c4_i32_83 : BitVec 32 := 4#32
  let v173 : BitVec 32 := Scalar.addi v172 c4_i32_83
  let c32_i32_84 : BitVec 32 := 32#32
  let v174 : BitVec 32 := Scalar.muli v173 c32_i32_84
  v174
def k0_mult28 (k0_t14 : Fin k0_t14_loop.trips) : BitVec 32 :=
  let c0_i32_62 : BitVec 32 := 0#32
  let c1_i32_64 : BitVec 32 := 1#32
  let arg23 : BitVec 32 := Scf.iv c0_i32_62 c1_i32_64 k0_t14
  let c8_i32_85 : BitVec 32 := 8#32
  let v190 : BitVec 32 := Scalar.muli arg23 c8_i32_85
  let c5_i32 : BitVec 32 := 5#32
  let v191 : BitVec 32 := Scalar.addi v190 c5_i32
  let c32_i32_86 : BitVec 32 := 32#32
  let v192 : BitVec 32 := Scalar.muli v191 c32_i32_86
  v192
def k0_mult29 (k0_t14 : Fin k0_t14_loop.trips) : BitVec 32 :=
  let c0_i32_62 : BitVec 32 := 0#32
  let c1_i32_64 : BitVec 32 := 1#32
  let arg23 : BitVec 32 := Scf.iv c0_i32_62 c1_i32_64 k0_t14
  let c8_i32_87 : BitVec 32 := 8#32
  let v208 : BitVec 32 := Scalar.muli arg23 c8_i32_87
  let c6_i32 : BitVec 32 := 6#32
  let v209 : BitVec 32 := Scalar.addi v208 c6_i32
  let c32_i32_88 : BitVec 32 := 32#32
  let v210 : BitVec 32 := Scalar.muli v209 c32_i32_88
  v210
def k0_mult30 (k0_t14 : Fin k0_t14_loop.trips) : BitVec 32 :=
  let c0_i32_62 : BitVec 32 := 0#32
  let c1_i32_64 : BitVec 32 := 1#32
  let arg23 : BitVec 32 := Scf.iv c0_i32_62 c1_i32_64 k0_t14
  let c8_i32_89 : BitVec 32 := 8#32
  let v226 : BitVec 32 := Scalar.muli arg23 c8_i32_89
  let c7_i32_90 : BitVec 32 := 7#32
  let v227 : BitVec 32 := Scalar.addi v226 c7_i32_90
  let c32_i32_91 : BitVec 32 := 32#32
  let v228 : BitVec 32 := Scalar.muli v227 c32_i32_91
  v228
def k0_off59 (k0_t13 : Fin k0_t13_loop.trips) : Fin 2 → Nat :=
  let c0_67 : Index := 0#32
  let c0_i32_56 : BitVec 32 := 0#32
  let c1_i32_58 : BitVec 32 := 1#32
  let arg21 : BitVec 32 := Scf.iv c0_i32_56 c1_i32_58 k0_t13
  let c256_i32 : BitVec 32 := 256#32
  let v79 : BitVec 32 := Scalar.muli arg21 c256_i32
  let v80 : BitVec 32 := v79
  let v85 : Index := Scalar.indexCast v80
  ![0, v85.toNat]
def k0_off60 (v1_0 : BitVec 32) (k0_t11 : Fin (k0_t11_loop v1_0).trips) : Fin 2 → Nat :=
  let c2 : Index := 2#32
  let c0_i32_14 : BitVec 32 := 0#32
  let v13 : BitVec 32 := Scalar.subi v1_0 c0_i32_14
  let c1_i32_16 : BitVec 32 := 1#32
  let v15 : BitVec 32 := Scalar.divsi v13 c1_i32_16
  let v16 : BitVec 32 := Scalar.muli v15 c1_i32_16
  let v17 : BitVec 32 := Scalar.addi c0_i32_14 v16
  let c1_i32_18 : BitVec 32 := 1#32
  let arg17 : BitVec 32 := Scf.iv v17 c1_i32_18 k0_t11
  let v31 : Index := Scalar.indexCast arg17
  ![2, v31.toNat]
def k0_off61 (v1_0 : BitVec 32) (k0_t11 : Fin (k0_t11_loop v1_0).trips) : Fin 2 → Nat :=
  let c3 : Index := 3#32
  let c0_i32_14 : BitVec 32 := 0#32
  let v13 : BitVec 32 := Scalar.subi v1_0 c0_i32_14
  let c1_i32_16 : BitVec 32 := 1#32
  let v15 : BitVec 32 := Scalar.divsi v13 c1_i32_16
  let v16 : BitVec 32 := Scalar.muli v15 c1_i32_16
  let v17 : BitVec 32 := Scalar.addi c0_i32_14 v16
  let c1_i32_18 : BitVec 32 := 1#32
  let arg17 : BitVec 32 := Scf.iv v17 c1_i32_18 k0_t11
  let v33 : Index := Scalar.indexCast arg17
  ![3, v33.toNat]

def k0_chk3_0 (v1_0 : BitVec 32) : Prop :=
  ((k0_t5_loop v1_0).OK) ∧
  (∀ k0_t5 : Fin (k0_t5_loop v1_0).trips, ∀ a, (k0_off14 v1_0 k0_t5) a + S1x1.size a ≤ S4x32.size a) ∧
  (∀ (k0_t5 : Fin (k0_t5_loop v1_0).trips) (k0_t6 : Fin k0_t6_loop.trips), ∀ (k0_h2 : k0_cond2 v1_0 k0_t5 k0_t6 = 1#1), ∀ a, (k0_off15 v1_0 k0_t5 k0_t6) a + S1x1.size a ≤ S4x32.size a) ∧
  (∀ (k0_t5 : Fin (k0_t5_loop v1_0).trips) (k0_t6 : Fin k0_t6_loop.trips), ∀ (k0_h2 : k0_cond2 v1_0 k0_t5 k0_t6 = 1#1), ∀ a, (k0_off16 v1_0 k0_t5 k0_t6) a + S1.size a ≤ S8.size a) ∧
  (∀ (k0_t5 : Fin (k0_t5_loop v1_0).trips) (k0_t6 : Fin k0_t6_loop.trips), ∀ (k0_h2 : k0_cond2 v1_0 k0_t5 k0_t6 = 1#1), ∀ a, (k0_off17 v1_0 k0_t5 k0_t6) a + S1x1024x4096.size a ≤ S8x1024x4096.size a) ∧
  (∀ (k0_t5 : Fin (k0_t5_loop v1_0).trips) (k0_t6 : Fin k0_t6_loop.trips), ∀ (k0_h2 : k0_cond2 v1_0 k0_t5 k0_t6 = 1#1), ∀ (hinb : ∀ a, (k0_off17 v1_0 k0_t5 k0_t6) a + S1x1024x4096.size a ≤ S8x1024x4096.size a), (Rect.unit (s := S8x1024x4096) (k0_off17 v1_0 k0_t5 k0_t6) S1x1024x4096.size hinb).WholeWords (EltTy.packing .fp8e4m3)) ∧
  (∀ (k0_t5 : Fin (k0_t5_loop v1_0).trips) (k0_t6 : Fin k0_t6_loop.trips), ∀ (k0_h2 : k0_cond2 v1_0 k0_t5 k0_t6 = 1#1), ∀ a, (k0_off19 v1_0 k0_t5 k0_t6) a + S1.size a ≤ S8.size a) ∧
  (∀ (k0_t5 : Fin (k0_t5_loop v1_0).trips) (k0_t6 : Fin k0_t6_loop.trips), ∀ (k0_h2 : k0_cond2 v1_0 k0_t5 k0_t6 = 1#1), ∀ a, (k0_off20 v1_0 k0_t5 k0_t6) a + S1x32x4096.size a ≤ S8x32x4096.size a) ∧
  (∀ (k0_t5 : Fin (k0_t5_loop v1_0).trips) (k0_t6 : Fin k0_t6_loop.trips), ∀ (k0_h2 : k0_cond2 v1_0 k0_t5 k0_t6 = 1#1), ∀ (hinb : ∀ a, (k0_off20 v1_0 k0_t5 k0_t6) a + S1x32x4096.size a ≤ S8x32x4096.size a), (Rect.unit (s := S8x32x4096) (k0_off20 v1_0 k0_t5 k0_t6) S1x32x4096.size hinb).WholeWords (EltTy.packing .i8)) ∧
  (∀ (k0_t5 : Fin (k0_t5_loop v1_0).trips) (k0_t6 : Fin k0_t6_loop.trips), ∀ a, (k0_off22 v1_0 k0_t5 k0_t6) a + S1x1.size a ≤ S4x32.size a) ∧
  (∀ (k0_t5 : Fin (k0_t5_loop v1_0).trips) (k0_t6 : Fin k0_t6_loop.trips), ∀ a, (k0_off23 v1_0 k0_t5 k0_t6) a + S1.size a ≤ S8.size a) ∧
  (∀ (k0_t5 : Fin (k0_t5_loop v1_0).trips) (k0_t6 : Fin k0_t6_loop.trips), ∀ a, (k0_off24 v1_0 k0_t5 k0_t6) a + S1x1024x4096.size a ≤ S8x1024x4096.size a) ∧
  (∀ (k0_t5 : Fin (k0_t5_loop v1_0).trips) (k0_t6 : Fin k0_t6_loop.trips), ∀ (hinb : ∀ a, (k0_off24 v1_0 k0_t5 k0_t6) a + S1x1024x4096.size a ≤ S8x1024x4096.size a), (Rect.unit (s := S8x1024x4096) (k0_off24 v1_0 k0_t5 k0_t6) S1x1024x4096.size hinb).WholeWords (EltTy.packing .fp8e4m3)) ∧
  (∀ (k0_t5 : Fin (k0_t5_loop v1_0).trips) (k0_t6 : Fin k0_t6_loop.trips), ∀ a, (k0_off26 v1_0 k0_t5 k0_t6) a + S1.size a ≤ S8.size a) ∧
  (∀ (k0_t5 : Fin (k0_t5_loop v1_0).trips) (k0_t6 : Fin k0_t6_loop.trips), ∀ a, (k0_off27 v1_0 k0_t5 k0_t6) a + S1x32x4096.size a ≤ S8x32x4096.size a) ∧
  (∀ (k0_t5 : Fin (k0_t5_loop v1_0).trips) (k0_t6 : Fin k0_t6_loop.trips), ∀ (hinb : ∀ a, (k0_off27 v1_0 k0_t5 k0_t6) a + S1x32x4096.size a ≤ S8x32x4096.size a), (Rect.unit (s := S8x32x4096) (k0_off27 v1_0 k0_t5 k0_t6) S1x32x4096.size hinb).WholeWords (EltTy.packing .i8)) ∧
  (∀ (k0_t5 : Fin (k0_t5_loop v1_0).trips) (k0_t6 : Fin k0_t6_loop.trips), ∀ a, (k0_off29 v1_0 k0_t5 k0_t6) a + S1x32x4096.size a ≤ S8x32x4096.size a) ∧
  (∀ (k0_t5 : Fin (k0_t5_loop v1_0).trips) (k0_t6 : Fin k0_t6_loop.trips) (k0_t7 : Fin k0_t7_loop.trips) (k0_t8 : Fin k0_t8_loop.trips), ∀ (r : Fin 8), ∀ a, (k0_off31 v1_0 k0_t5 k0_t6 k0_t7 k0_t8 (BitVec.ofNat 32 r.val)) a + S1x32x256.size a ≤ S8x1024x4096.size a) ∧
  (∀ k0_t5 : Fin (k0_t5_loop v1_0).trips, ∀ a, (k0_off34 v1_0 k0_t5) a + S1x1.size a ≤ S4x32.size a) ∧
  (∀ k0_t5 : Fin (k0_t5_loop v1_0).trips, ∀ a, (k0_off35 v1_0 k0_t5) a + S1x1.size a ≤ S4x32.size a) ∧
  ((k0_t11_loop v1_0).OK) ∧
  (∀ k0_t11 : Fin (k0_t11_loop v1_0).trips, ∀ a, (k0_off40 v1_0 k0_t11) a + S1x1.size a ≤ S4x32.size a) ∧
  (∀ (k0_t11 : Fin (k0_t11_loop v1_0).trips) (k0_t12 : Fin k0_t12_loop.trips), ∀ (k0_h3 : k0_cond3 v1_0 k0_t11 k0_t12 = 1#1), ∀ a, (k0_off41 v1_0 k0_t11 k0_t12) a + S1x1.size a ≤ S4x32.size a) ∧
  (∀ (k0_t11 : Fin (k0_t11_loop v1_0).trips) (k0_t12 : Fin k0_t12_loop.trips), ∀ (k0_h3 : k0_cond3 v1_0 k0_t11 k0_t12 = 1#1), ∀ a, (k0_off42 v1_0 k0_t11 k0_t12) a + S1.size a ≤ S8.size a) ∧
  (∀ (k0_t11 : Fin (k0_t11_loop v1_0).trips) (k0_t12 : Fin k0_t12_loop.trips), ∀ (k0_h3 : k0_cond3 v1_0 k0_t11 k0_t12 = 1#1), ∀ a, (k0_off43 v1_0 k0_t11 k0_t12) a + S1x1024x4096.size a ≤ S8x1024x4096.size a) ∧
  (∀ (k0_t11 : Fin (k0_t11_loop v1_0).trips) (k0_t12 : Fin k0_t12_loop.trips), ∀ (k0_h3 : k0_cond3 v1_0 k0_t11 k0_t12 = 1#1), ∀ (hinb : ∀ a, (k0_off43 v1_0 k0_t11 k0_t12) a + S1x1024x4096.size a ≤ S8x1024x4096.size a), (Rect.unit (s := S8x1024x4096) (k0_off43 v1_0 k0_t11 k0_t12) S1x1024x4096.size hinb).WholeWords (EltTy.packing .fp8e4m3)) ∧
  (∀ (k0_t11 : Fin (k0_t11_loop v1_0).trips) (k0_t12 : Fin k0_t12_loop.trips), ∀ (k0_h3 : k0_cond3 v1_0 k0_t11 k0_t12 = 1#1), ∀ a, (k0_off45 v1_0 k0_t11 k0_t12) a + S1.size a ≤ S8.size a) ∧
  (∀ (k0_t11 : Fin (k0_t11_loop v1_0).trips) (k0_t12 : Fin k0_t12_loop.trips), ∀ (k0_h3 : k0_cond3 v1_0 k0_t11 k0_t12 = 1#1), ∀ a, (k0_off46 v1_0 k0_t11 k0_t12) a + S1x32x4096.size a ≤ S8x32x4096.size a) ∧
  (∀ (k0_t11 : Fin (k0_t11_loop v1_0).trips) (k0_t12 : Fin k0_t12_loop.trips), ∀ (k0_h3 : k0_cond3 v1_0 k0_t11 k0_t12 = 1#1), ∀ (hinb : ∀ a, (k0_off46 v1_0 k0_t11 k0_t12) a + S1x32x4096.size a ≤ S8x32x4096.size a), (Rect.unit (s := S8x32x4096) (k0_off46 v1_0 k0_t11 k0_t12) S1x32x4096.size hinb).WholeWords (EltTy.packing .i8)) ∧
  (∀ (k0_t11 : Fin (k0_t11_loop v1_0).trips) (k0_t12 : Fin k0_t12_loop.trips), ∀ a, (k0_off48 v1_0 k0_t11 k0_t12) a + S1x1.size a ≤ S4x32.size a) ∧
  (∀ (k0_t11 : Fin (k0_t11_loop v1_0).trips) (k0_t12 : Fin k0_t12_loop.trips), ∀ a, (k0_off49 v1_0 k0_t11 k0_t12) a + S1.size a ≤ S8.size a) ∧
  (∀ (k0_t11 : Fin (k0_t11_loop v1_0).trips) (k0_t12 : Fin k0_t12_loop.trips), ∀ a, (k0_off50 v1_0 k0_t11 k0_t12) a + S1x1024x4096.size a ≤ S8x1024x4096.size a)
def k0_chk3_1 (v1_0 : BitVec 32) : Prop :=
  (∀ (k0_t11 : Fin (k0_t11_loop v1_0).trips) (k0_t12 : Fin k0_t12_loop.trips), ∀ (hinb : ∀ a, (k0_off50 v1_0 k0_t11 k0_t12) a + S1x1024x4096.size a ≤ S8x1024x4096.size a), (Rect.unit (s := S8x1024x4096) (k0_off50 v1_0 k0_t11 k0_t12) S1x1024x4096.size hinb).WholeWords (EltTy.packing .fp8e4m3)) ∧
  (∀ (k0_t11 : Fin (k0_t11_loop v1_0).trips) (k0_t12 : Fin k0_t12_loop.trips), ∀ a, (k0_off52 v1_0 k0_t11 k0_t12) a + S1.size a ≤ S8.size a) ∧
  (∀ (k0_t11 : Fin (k0_t11_loop v1_0).trips) (k0_t12 : Fin k0_t12_loop.trips), ∀ a, (k0_off53 v1_0 k0_t11 k0_t12) a + S1x32x4096.size a ≤ S8x32x4096.size a) ∧
  (∀ (k0_t11 : Fin (k0_t11_loop v1_0).trips) (k0_t12 : Fin k0_t12_loop.trips), ∀ (hinb : ∀ a, (k0_off53 v1_0 k0_t11 k0_t12) a + S1x32x4096.size a ≤ S8x32x4096.size a), (Rect.unit (s := S8x32x4096) (k0_off53 v1_0 k0_t11 k0_t12) S1x32x4096.size hinb).WholeWords (EltTy.packing .i8)) ∧
  (∀ (k0_t11 : Fin (k0_t11_loop v1_0).trips) (k0_t12 : Fin k0_t12_loop.trips), ∀ a, (k0_off55 v1_0 k0_t11 k0_t12) a + S1x32x4096.size a ≤ S8x32x4096.size a) ∧
  (∀ (k0_t11 : Fin (k0_t11_loop v1_0).trips) (k0_t12 : Fin k0_t12_loop.trips) (k0_t13 : Fin k0_t13_loop.trips) (k0_t14 : Fin k0_t14_loop.trips), ∀ (r : Fin 8), ∀ a, (k0_off57 v1_0 k0_t11 k0_t12 k0_t13 k0_t14 (BitVec.ofNat 32 r.val)) a + S1x32x256.size a ≤ S8x1024x4096.size a) ∧
  (∀ k0_t11 : Fin (k0_t11_loop v1_0).trips, ∀ a, (k0_off60 v1_0 k0_t11) a + S1x1.size a ≤ S4x32.size a) ∧
  (∀ k0_t11 : Fin (k0_t11_loop v1_0).trips, ∀ a, (k0_off61 v1_0 k0_t11) a + S1x1.size a ≤ S4x32.size a)
def k0_chk3 (v1_0 : BitVec 32) : Prop :=
  k0_chk3_0 v1_0 ∧
  k0_chk3_1 v1_0
theorem k0_t5_ok : ∀ (v1_0 : BitVec 32) (k0_hw3 : k0_chk3 v1_0), (k0_t5_loop v1_0).OK := fun v1_0 k0_hw3 => k0_hw3.1.1
theorem k0_off14_inb : ∀ (v1_0 : BitVec 32) (k0_hw3 : k0_chk3 v1_0) (k0_t5 : Fin (k0_t5_loop v1_0).trips), ∀ a, (k0_off14 v1_0 k0_t5) a + S1x1.size a ≤ S4x32.size a := fun v1_0 k0_hw3 k0_t5 => k0_hw3.1.2.1 k0_t5
theorem k0_off15_inb : ∀ (v1_0 : BitVec 32) (k0_hw3 : k0_chk3 v1_0) (k0_t5 : Fin (k0_t5_loop v1_0).trips) (k0_t6 : Fin k0_t6_loop.trips), ∀ (k0_h2 : k0_cond2 v1_0 k0_t5 k0_t6 = 1#1), ∀ a, (k0_off15 v1_0 k0_t5 k0_t6) a + S1x1.size a ≤ S4x32.size a := fun v1_0 k0_hw3 k0_t5 k0_t6 k0_h2 => k0_hw3.1.2.2.1 k0_t5 k0_t6 k0_h2
theorem k0_off16_inb : ∀ (v1_0 : BitVec 32) (k0_hw3 : k0_chk3 v1_0) (k0_t5 : Fin (k0_t5_loop v1_0).trips) (k0_t6 : Fin k0_t6_loop.trips), ∀ (k0_h2 : k0_cond2 v1_0 k0_t5 k0_t6 = 1#1), ∀ a, (k0_off16 v1_0 k0_t5 k0_t6) a + S1.size a ≤ S8.size a := fun v1_0 k0_hw3 k0_t5 k0_t6 k0_h2 => k0_hw3.1.2.2.2.1 k0_t5 k0_t6 k0_h2
theorem k0_off17_inb : ∀ (v1_0 : BitVec 32) (k0_hw3 : k0_chk3 v1_0) (k0_t5 : Fin (k0_t5_loop v1_0).trips) (k0_t6 : Fin k0_t6_loop.trips), ∀ (k0_h2 : k0_cond2 v1_0 k0_t5 k0_t6 = 1#1), ∀ a, (k0_off17 v1_0 k0_t5 k0_t6) a + S1x1024x4096.size a ≤ S8x1024x4096.size a := fun v1_0 k0_hw3 k0_t5 k0_t6 k0_h2 => k0_hw3.1.2.2.2.2.1 k0_t5 k0_t6 k0_h2
theorem k0_off17_wordsfp8e4m3 : ∀ (v1_0 : BitVec 32) (k0_hw3 : k0_chk3 v1_0) (k0_t5 : Fin (k0_t5_loop v1_0).trips) (k0_t6 : Fin k0_t6_loop.trips), ∀ (k0_h2 : k0_cond2 v1_0 k0_t5 k0_t6 = 1#1), (Rect.unit (s := S8x1024x4096) (k0_off17 v1_0 k0_t5 k0_t6) S1x1024x4096.size (k0_off17_inb v1_0 k0_hw3 k0_t5 k0_t6 k0_h2)).WholeWords (EltTy.packing .fp8e4m3) := fun v1_0 k0_hw3 k0_t5 k0_t6 k0_h2 => k0_hw3.1.2.2.2.2.2.1 k0_t5 k0_t6 k0_h2 (k0_off17_inb v1_0 k0_hw3 k0_t5 k0_t6 k0_h2)
theorem k0_off19_inb : ∀ (v1_0 : BitVec 32) (k0_hw3 : k0_chk3 v1_0) (k0_t5 : Fin (k0_t5_loop v1_0).trips) (k0_t6 : Fin k0_t6_loop.trips), ∀ (k0_h2 : k0_cond2 v1_0 k0_t5 k0_t6 = 1#1), ∀ a, (k0_off19 v1_0 k0_t5 k0_t6) a + S1.size a ≤ S8.size a := fun v1_0 k0_hw3 k0_t5 k0_t6 k0_h2 => k0_hw3.1.2.2.2.2.2.2.1 k0_t5 k0_t6 k0_h2
theorem k0_off20_inb : ∀ (v1_0 : BitVec 32) (k0_hw3 : k0_chk3 v1_0) (k0_t5 : Fin (k0_t5_loop v1_0).trips) (k0_t6 : Fin k0_t6_loop.trips), ∀ (k0_h2 : k0_cond2 v1_0 k0_t5 k0_t6 = 1#1), ∀ a, (k0_off20 v1_0 k0_t5 k0_t6) a + S1x32x4096.size a ≤ S8x32x4096.size a := fun v1_0 k0_hw3 k0_t5 k0_t6 k0_h2 => k0_hw3.1.2.2.2.2.2.2.2.1 k0_t5 k0_t6 k0_h2
theorem k0_off20_wordsi8 : ∀ (v1_0 : BitVec 32) (k0_hw3 : k0_chk3 v1_0) (k0_t5 : Fin (k0_t5_loop v1_0).trips) (k0_t6 : Fin k0_t6_loop.trips), ∀ (k0_h2 : k0_cond2 v1_0 k0_t5 k0_t6 = 1#1), (Rect.unit (s := S8x32x4096) (k0_off20 v1_0 k0_t5 k0_t6) S1x32x4096.size (k0_off20_inb v1_0 k0_hw3 k0_t5 k0_t6 k0_h2)).WholeWords (EltTy.packing .i8) := fun v1_0 k0_hw3 k0_t5 k0_t6 k0_h2 => k0_hw3.1.2.2.2.2.2.2.2.2.1 k0_t5 k0_t6 k0_h2 (k0_off20_inb v1_0 k0_hw3 k0_t5 k0_t6 k0_h2)
theorem k0_off22_inb : ∀ (v1_0 : BitVec 32) (k0_hw3 : k0_chk3 v1_0) (k0_t5 : Fin (k0_t5_loop v1_0).trips) (k0_t6 : Fin k0_t6_loop.trips), ∀ a, (k0_off22 v1_0 k0_t5 k0_t6) a + S1x1.size a ≤ S4x32.size a := fun v1_0 k0_hw3 k0_t5 k0_t6 => k0_hw3.1.2.2.2.2.2.2.2.2.2.1 k0_t5 k0_t6
theorem k0_off23_inb : ∀ (v1_0 : BitVec 32) (k0_hw3 : k0_chk3 v1_0) (k0_t5 : Fin (k0_t5_loop v1_0).trips) (k0_t6 : Fin k0_t6_loop.trips), ∀ a, (k0_off23 v1_0 k0_t5 k0_t6) a + S1.size a ≤ S8.size a := fun v1_0 k0_hw3 k0_t5 k0_t6 => k0_hw3.1.2.2.2.2.2.2.2.2.2.2.1 k0_t5 k0_t6
theorem k0_off24_inb : ∀ (v1_0 : BitVec 32) (k0_hw3 : k0_chk3 v1_0) (k0_t5 : Fin (k0_t5_loop v1_0).trips) (k0_t6 : Fin k0_t6_loop.trips), ∀ a, (k0_off24 v1_0 k0_t5 k0_t6) a + S1x1024x4096.size a ≤ S8x1024x4096.size a := fun v1_0 k0_hw3 k0_t5 k0_t6 => k0_hw3.1.2.2.2.2.2.2.2.2.2.2.2.1 k0_t5 k0_t6
theorem k0_off24_wordsfp8e4m3 : ∀ (v1_0 : BitVec 32) (k0_hw3 : k0_chk3 v1_0) (k0_t5 : Fin (k0_t5_loop v1_0).trips) (k0_t6 : Fin k0_t6_loop.trips), (Rect.unit (s := S8x1024x4096) (k0_off24 v1_0 k0_t5 k0_t6) S1x1024x4096.size (k0_off24_inb v1_0 k0_hw3 k0_t5 k0_t6)).WholeWords (EltTy.packing .fp8e4m3) := fun v1_0 k0_hw3 k0_t5 k0_t6 => k0_hw3.1.2.2.2.2.2.2.2.2.2.2.2.2.1 k0_t5 k0_t6 (k0_off24_inb v1_0 k0_hw3 k0_t5 k0_t6)
theorem k0_off26_inb : ∀ (v1_0 : BitVec 32) (k0_hw3 : k0_chk3 v1_0) (k0_t5 : Fin (k0_t5_loop v1_0).trips) (k0_t6 : Fin k0_t6_loop.trips), ∀ a, (k0_off26 v1_0 k0_t5 k0_t6) a + S1.size a ≤ S8.size a := fun v1_0 k0_hw3 k0_t5 k0_t6 => k0_hw3.1.2.2.2.2.2.2.2.2.2.2.2.2.2.1 k0_t5 k0_t6
theorem k0_off27_inb : ∀ (v1_0 : BitVec 32) (k0_hw3 : k0_chk3 v1_0) (k0_t5 : Fin (k0_t5_loop v1_0).trips) (k0_t6 : Fin k0_t6_loop.trips), ∀ a, (k0_off27 v1_0 k0_t5 k0_t6) a + S1x32x4096.size a ≤ S8x32x4096.size a := fun v1_0 k0_hw3 k0_t5 k0_t6 => k0_hw3.1.2.2.2.2.2.2.2.2.2.2.2.2.2.2.1 k0_t5 k0_t6
theorem k0_off27_wordsi8 : ∀ (v1_0 : BitVec 32) (k0_hw3 : k0_chk3 v1_0) (k0_t5 : Fin (k0_t5_loop v1_0).trips) (k0_t6 : Fin k0_t6_loop.trips), (Rect.unit (s := S8x32x4096) (k0_off27 v1_0 k0_t5 k0_t6) S1x32x4096.size (k0_off27_inb v1_0 k0_hw3 k0_t5 k0_t6)).WholeWords (EltTy.packing .i8) := fun v1_0 k0_hw3 k0_t5 k0_t6 => k0_hw3.1.2.2.2.2.2.2.2.2.2.2.2.2.2.2.2.1 k0_t5 k0_t6 (k0_off27_inb v1_0 k0_hw3 k0_t5 k0_t6)
theorem k0_off29_inb : ∀ (v1_0 : BitVec 32) (k0_hw3 : k0_chk3 v1_0) (k0_t5 : Fin (k0_t5_loop v1_0).trips) (k0_t6 : Fin k0_t6_loop.trips), ∀ a, (k0_off29 v1_0 k0_t5 k0_t6) a + S1x32x4096.size a ≤ S8x32x4096.size a := fun v1_0 k0_hw3 k0_t5 k0_t6 => k0_hw3.1.2.2.2.2.2.2.2.2.2.2.2.2.2.2.2.2.1 k0_t5 k0_t6
theorem k0_off31_inb : ∀ (v1_0 : BitVec 32) (k0_hw3 : k0_chk3 v1_0) (k0_t5 : Fin (k0_t5_loop v1_0).trips) (k0_t6 : Fin k0_t6_loop.trips) (k0_t7 : Fin k0_t7_loop.trips) (k0_t8 : Fin k0_t8_loop.trips), ∀ (r : Fin 8), ∀ a, (k0_off31 v1_0 k0_t5 k0_t6 k0_t7 k0_t8 (BitVec.ofNat 32 r.val)) a + S1x32x256.size a ≤ S8x1024x4096.size a := fun v1_0 k0_hw3 k0_t5 k0_t6 k0_t7 k0_t8 r => k0_hw3.1.2.2.2.2.2.2.2.2.2.2.2.2.2.2.2.2.2.1 k0_t5 k0_t6 k0_t7 k0_t8 r
theorem k0_off34_inb : ∀ (v1_0 : BitVec 32) (k0_hw3 : k0_chk3 v1_0) (k0_t5 : Fin (k0_t5_loop v1_0).trips), ∀ a, (k0_off34 v1_0 k0_t5) a + S1x1.size a ≤ S4x32.size a := fun v1_0 k0_hw3 k0_t5 => k0_hw3.1.2.2.2.2.2.2.2.2.2.2.2.2.2.2.2.2.2.2.1 k0_t5
theorem k0_off35_inb : ∀ (v1_0 : BitVec 32) (k0_hw3 : k0_chk3 v1_0) (k0_t5 : Fin (k0_t5_loop v1_0).trips), ∀ a, (k0_off35 v1_0 k0_t5) a + S1x1.size a ≤ S4x32.size a := fun v1_0 k0_hw3 k0_t5 => k0_hw3.1.2.2.2.2.2.2.2.2.2.2.2.2.2.2.2.2.2.2.2.1 k0_t5
theorem k0_t11_ok : ∀ (v1_0 : BitVec 32) (k0_hw3 : k0_chk3 v1_0), (k0_t11_loop v1_0).OK := fun v1_0 k0_hw3 => k0_hw3.1.2.2.2.2.2.2.2.2.2.2.2.2.2.2.2.2.2.2.2.2.1
theorem k0_off40_inb : ∀ (v1_0 : BitVec 32) (k0_hw3 : k0_chk3 v1_0) (k0_t11 : Fin (k0_t11_loop v1_0).trips), ∀ a, (k0_off40 v1_0 k0_t11) a + S1x1.size a ≤ S4x32.size a := fun v1_0 k0_hw3 k0_t11 => k0_hw3.1.2.2.2.2.2.2.2.2.2.2.2.2.2.2.2.2.2.2.2.2.2.1 k0_t11
theorem k0_off41_inb : ∀ (v1_0 : BitVec 32) (k0_hw3 : k0_chk3 v1_0) (k0_t11 : Fin (k0_t11_loop v1_0).trips) (k0_t12 : Fin k0_t12_loop.trips), ∀ (k0_h3 : k0_cond3 v1_0 k0_t11 k0_t12 = 1#1), ∀ a, (k0_off41 v1_0 k0_t11 k0_t12) a + S1x1.size a ≤ S4x32.size a := fun v1_0 k0_hw3 k0_t11 k0_t12 k0_h3 => k0_hw3.1.2.2.2.2.2.2.2.2.2.2.2.2.2.2.2.2.2.2.2.2.2.2.1 k0_t11 k0_t12 k0_h3
theorem k0_off42_inb : ∀ (v1_0 : BitVec 32) (k0_hw3 : k0_chk3 v1_0) (k0_t11 : Fin (k0_t11_loop v1_0).trips) (k0_t12 : Fin k0_t12_loop.trips), ∀ (k0_h3 : k0_cond3 v1_0 k0_t11 k0_t12 = 1#1), ∀ a, (k0_off42 v1_0 k0_t11 k0_t12) a + S1.size a ≤ S8.size a := fun v1_0 k0_hw3 k0_t11 k0_t12 k0_h3 => k0_hw3.1.2.2.2.2.2.2.2.2.2.2.2.2.2.2.2.2.2.2.2.2.2.2.2.1 k0_t11 k0_t12 k0_h3
theorem k0_off43_inb : ∀ (v1_0 : BitVec 32) (k0_hw3 : k0_chk3 v1_0) (k0_t11 : Fin (k0_t11_loop v1_0).trips) (k0_t12 : Fin k0_t12_loop.trips), ∀ (k0_h3 : k0_cond3 v1_0 k0_t11 k0_t12 = 1#1), ∀ a, (k0_off43 v1_0 k0_t11 k0_t12) a + S1x1024x4096.size a ≤ S8x1024x4096.size a := fun v1_0 k0_hw3 k0_t11 k0_t12 k0_h3 => k0_hw3.1.2.2.2.2.2.2.2.2.2.2.2.2.2.2.2.2.2.2.2.2.2.2.2.2.1 k0_t11 k0_t12 k0_h3
theorem k0_off43_wordsfp8e4m3 : ∀ (v1_0 : BitVec 32) (k0_hw3 : k0_chk3 v1_0) (k0_t11 : Fin (k0_t11_loop v1_0).trips) (k0_t12 : Fin k0_t12_loop.trips), ∀ (k0_h3 : k0_cond3 v1_0 k0_t11 k0_t12 = 1#1), (Rect.unit (s := S8x1024x4096) (k0_off43 v1_0 k0_t11 k0_t12) S1x1024x4096.size (k0_off43_inb v1_0 k0_hw3 k0_t11 k0_t12 k0_h3)).WholeWords (EltTy.packing .fp8e4m3) := fun v1_0 k0_hw3 k0_t11 k0_t12 k0_h3 => k0_hw3.1.2.2.2.2.2.2.2.2.2.2.2.2.2.2.2.2.2.2.2.2.2.2.2.2.2.1 k0_t11 k0_t12 k0_h3 (k0_off43_inb v1_0 k0_hw3 k0_t11 k0_t12 k0_h3)
theorem k0_off45_inb : ∀ (v1_0 : BitVec 32) (k0_hw3 : k0_chk3 v1_0) (k0_t11 : Fin (k0_t11_loop v1_0).trips) (k0_t12 : Fin k0_t12_loop.trips), ∀ (k0_h3 : k0_cond3 v1_0 k0_t11 k0_t12 = 1#1), ∀ a, (k0_off45 v1_0 k0_t11 k0_t12) a + S1.size a ≤ S8.size a := fun v1_0 k0_hw3 k0_t11 k0_t12 k0_h3 => k0_hw3.1.2.2.2.2.2.2.2.2.2.2.2.2.2.2.2.2.2.2.2.2.2.2.2.2.2.2.1 k0_t11 k0_t12 k0_h3
theorem k0_off46_inb : ∀ (v1_0 : BitVec 32) (k0_hw3 : k0_chk3 v1_0) (k0_t11 : Fin (k0_t11_loop v1_0).trips) (k0_t12 : Fin k0_t12_loop.trips), ∀ (k0_h3 : k0_cond3 v1_0 k0_t11 k0_t12 = 1#1), ∀ a, (k0_off46 v1_0 k0_t11 k0_t12) a + S1x32x4096.size a ≤ S8x32x4096.size a := fun v1_0 k0_hw3 k0_t11 k0_t12 k0_h3 => k0_hw3.1.2.2.2.2.2.2.2.2.2.2.2.2.2.2.2.2.2.2.2.2.2.2.2.2.2.2.2.1 k0_t11 k0_t12 k0_h3
theorem k0_off46_wordsi8 : ∀ (v1_0 : BitVec 32) (k0_hw3 : k0_chk3 v1_0) (k0_t11 : Fin (k0_t11_loop v1_0).trips) (k0_t12 : Fin k0_t12_loop.trips), ∀ (k0_h3 : k0_cond3 v1_0 k0_t11 k0_t12 = 1#1), (Rect.unit (s := S8x32x4096) (k0_off46 v1_0 k0_t11 k0_t12) S1x32x4096.size (k0_off46_inb v1_0 k0_hw3 k0_t11 k0_t12 k0_h3)).WholeWords (EltTy.packing .i8) := fun v1_0 k0_hw3 k0_t11 k0_t12 k0_h3 => k0_hw3.1.2.2.2.2.2.2.2.2.2.2.2.2.2.2.2.2.2.2.2.2.2.2.2.2.2.2.2.2.1 k0_t11 k0_t12 k0_h3 (k0_off46_inb v1_0 k0_hw3 k0_t11 k0_t12 k0_h3)
theorem k0_off48_inb : ∀ (v1_0 : BitVec 32) (k0_hw3 : k0_chk3 v1_0) (k0_t11 : Fin (k0_t11_loop v1_0).trips) (k0_t12 : Fin k0_t12_loop.trips), ∀ a, (k0_off48 v1_0 k0_t11 k0_t12) a + S1x1.size a ≤ S4x32.size a := fun v1_0 k0_hw3 k0_t11 k0_t12 => k0_hw3.1.2.2.2.2.2.2.2.2.2.2.2.2.2.2.2.2.2.2.2.2.2.2.2.2.2.2.2.2.2.1 k0_t11 k0_t12
theorem k0_off49_inb : ∀ (v1_0 : BitVec 32) (k0_hw3 : k0_chk3 v1_0) (k0_t11 : Fin (k0_t11_loop v1_0).trips) (k0_t12 : Fin k0_t12_loop.trips), ∀ a, (k0_off49 v1_0 k0_t11 k0_t12) a + S1.size a ≤ S8.size a := fun v1_0 k0_hw3 k0_t11 k0_t12 => k0_hw3.1.2.2.2.2.2.2.2.2.2.2.2.2.2.2.2.2.2.2.2.2.2.2.2.2.2.2.2.2.2.2.1 k0_t11 k0_t12
theorem k0_off50_inb : ∀ (v1_0 : BitVec 32) (k0_hw3 : k0_chk3 v1_0) (k0_t11 : Fin (k0_t11_loop v1_0).trips) (k0_t12 : Fin k0_t12_loop.trips), ∀ a, (k0_off50 v1_0 k0_t11 k0_t12) a + S1x1024x4096.size a ≤ S8x1024x4096.size a := fun v1_0 k0_hw3 k0_t11 k0_t12 => k0_hw3.1.2.2.2.2.2.2.2.2.2.2.2.2.2.2.2.2.2.2.2.2.2.2.2.2.2.2.2.2.2.2.2 k0_t11 k0_t12
theorem k0_off50_wordsfp8e4m3 : ∀ (v1_0 : BitVec 32) (k0_hw3 : k0_chk3 v1_0) (k0_t11 : Fin (k0_t11_loop v1_0).trips) (k0_t12 : Fin k0_t12_loop.trips), (Rect.unit (s := S8x1024x4096) (k0_off50 v1_0 k0_t11 k0_t12) S1x1024x4096.size (k0_off50_inb v1_0 k0_hw3 k0_t11 k0_t12)).WholeWords (EltTy.packing .fp8e4m3) := fun v1_0 k0_hw3 k0_t11 k0_t12 => k0_hw3.2.1 k0_t11 k0_t12 (k0_off50_inb v1_0 k0_hw3 k0_t11 k0_t12)
theorem k0_off52_inb : ∀ (v1_0 : BitVec 32) (k0_hw3 : k0_chk3 v1_0) (k0_t11 : Fin (k0_t11_loop v1_0).trips) (k0_t12 : Fin k0_t12_loop.trips), ∀ a, (k0_off52 v1_0 k0_t11 k0_t12) a + S1.size a ≤ S8.size a := fun v1_0 k0_hw3 k0_t11 k0_t12 => k0_hw3.2.2.1 k0_t11 k0_t12
theorem k0_off53_inb : ∀ (v1_0 : BitVec 32) (k0_hw3 : k0_chk3 v1_0) (k0_t11 : Fin (k0_t11_loop v1_0).trips) (k0_t12 : Fin k0_t12_loop.trips), ∀ a, (k0_off53 v1_0 k0_t11 k0_t12) a + S1x32x4096.size a ≤ S8x32x4096.size a := fun v1_0 k0_hw3 k0_t11 k0_t12 => k0_hw3.2.2.2.1 k0_t11 k0_t12
theorem k0_off53_wordsi8 : ∀ (v1_0 : BitVec 32) (k0_hw3 : k0_chk3 v1_0) (k0_t11 : Fin (k0_t11_loop v1_0).trips) (k0_t12 : Fin k0_t12_loop.trips), (Rect.unit (s := S8x32x4096) (k0_off53 v1_0 k0_t11 k0_t12) S1x32x4096.size (k0_off53_inb v1_0 k0_hw3 k0_t11 k0_t12)).WholeWords (EltTy.packing .i8) := fun v1_0 k0_hw3 k0_t11 k0_t12 => k0_hw3.2.2.2.2.1 k0_t11 k0_t12 (k0_off53_inb v1_0 k0_hw3 k0_t11 k0_t12)
theorem k0_off55_inb : ∀ (v1_0 : BitVec 32) (k0_hw3 : k0_chk3 v1_0) (k0_t11 : Fin (k0_t11_loop v1_0).trips) (k0_t12 : Fin k0_t12_loop.trips), ∀ a, (k0_off55 v1_0 k0_t11 k0_t12) a + S1x32x4096.size a ≤ S8x32x4096.size a := fun v1_0 k0_hw3 k0_t11 k0_t12 => k0_hw3.2.2.2.2.2.1 k0_t11 k0_t12
theorem k0_off57_inb : ∀ (v1_0 : BitVec 32) (k0_hw3 : k0_chk3 v1_0) (k0_t11 : Fin (k0_t11_loop v1_0).trips) (k0_t12 : Fin k0_t12_loop.trips) (k0_t13 : Fin k0_t13_loop.trips) (k0_t14 : Fin k0_t14_loop.trips), ∀ (r : Fin 8), ∀ a, (k0_off57 v1_0 k0_t11 k0_t12 k0_t13 k0_t14 (BitVec.ofNat 32 r.val)) a + S1x32x256.size a ≤ S8x1024x4096.size a := fun v1_0 k0_hw3 k0_t11 k0_t12 k0_t13 k0_t14 r => k0_hw3.2.2.2.2.2.2.1 k0_t11 k0_t12 k0_t13 k0_t14 r
theorem k0_off60_inb : ∀ (v1_0 : BitVec 32) (k0_hw3 : k0_chk3 v1_0) (k0_t11 : Fin (k0_t11_loop v1_0).trips), ∀ a, (k0_off60 v1_0 k0_t11) a + S1x1.size a ≤ S4x32.size a := fun v1_0 k0_hw3 k0_t11 => k0_hw3.2.2.2.2.2.2.2.1 k0_t11
theorem k0_off61_inb : ∀ (v1_0 : BitVec 32) (k0_hw3 : k0_chk3 v1_0) (k0_t11 : Fin (k0_t11_loop v1_0).trips), ∀ a, (k0_off61 v1_0 k0_t11) a + S1x1.size a ≤ S4x32.size a := fun v1_0 k0_hw3 k0_t11 => k0_hw3.2.2.2.2.2.2.2.2 k0_t11

@[reducible] def k0_t15_loop : Scf.Loop 32 :=
  let c0_i32_33 : BitVec 32 := 0#32
  let c4_i32 : BitVec 32 := 4#32
  let v36 : BitVec 32 := Scalar.addi c0_i32_33 c4_i32
  let c1_i32_34 : BitVec 32 := 1#32
  ⟨c0_i32_33, v36, c1_i32_34⟩
def k0_mult31 (k0_t15 : Fin k0_t15_loop.trips) : BitVec 32 :=
  let c0_i32_33 : BitVec 32 := 0#32
  let c1_i32_34 : BitVec 32 := 1#32
  let arg19 : BitVec 32 := Scf.iv c0_i32_33 c1_i32_34 k0_t15
  let c32_i32 : BitVec 32 := 32#32
  let v38 : BitVec 32 := Scalar.muli arg19 c32_i32
  v38
def k0_mult32 (v27 : BitVec 32) (k0_t15 : Fin k0_t15_loop.trips) : BitVec 32 :=
  let v28 : BitVec 32 := v27
  let c0_i32_33 : BitVec 32 := 0#32
  let c1_i32_34 : BitVec 32 := 1#32
  let arg19 : BitVec 32 := Scf.iv c0_i32_33 c1_i32_34 k0_t15
  let c32_i32 : BitVec 32 := 32#32
  let v38 : BitVec 32 := Scalar.muli arg19 c32_i32
  let v39 : BitVec 32 := v38
  let v49 : BitVec 32 := Scalar.addi v28 v39
  v49
@[reducible] def k0_t16_loop : Scf.Loop 32 :=
  let c0_i32_38 : BitVec 32 := 0#32
  let c16_i32_39 : BitVec 32 := 16#32
  let v52 : BitVec 32 := Scalar.addi c0_i32_38 c16_i32_39
  let c1_i32_40 : BitVec 32 := 1#32
  ⟨c0_i32_38, v52, c1_i32_40⟩
def k0_mult33 (k0_t16 : Fin k0_t16_loop.trips) : BitVec 32 :=
  let c0_i32_38 : BitVec 32 := 0#32
  let c1_i32_40 : BitVec 32 := 1#32
  let arg21 : BitVec 32 := Scf.iv c0_i32_38 c1_i32_40 k0_t16
  let c128_i32 : BitVec 32 := 128#32
  let v65 : BitVec 32 := Scalar.muli arg21 c128_i32
  v65
def k0_mult34 (k0_t16 : Fin k0_t16_loop.trips) : BitVec 32 :=
  let c0_i32_38 : BitVec 32 := 0#32
  let c1_i32_40 : BitVec 32 := 1#32
  let arg21 : BitVec 32 := Scf.iv c0_i32_38 c1_i32_40 k0_t16
  let c128_i32_46 : BitVec 32 := 128#32
  let v67 : BitVec 32 := Scalar.muli arg21 c128_i32_46
  v67
def k0_off62 (k0_t15 : Fin k0_t15_loop.trips) (k0_t16 : Fin k0_t16_loop.trips) : Fin 2 → Nat :=
  let c0_i32_33 : BitVec 32 := 0#32
  let c1_i32_34 : BitVec 32 := 1#32
  let arg19 : BitVec 32 := Scf.iv c0_i32_33 c1_i32_34 k0_t15
  let c32_i32 : BitVec 32 := 32#32
  let v38 : BitVec 32 := Scalar.muli arg19 c32_i32
  let v39 : BitVec 32 := v38
  let v69 : Index := Scalar.indexCast v39
  let c0_i32_38 : BitVec 32 := 0#32
  let c1_i32_40 : BitVec 32 := 1#32
  let arg21 : BitVec 32 := Scf.iv c0_i32_38 c1_i32_40 k0_t16
  let c128_i32_46 : BitVec 32 := 128#32
  let v67 : BitVec 32 := Scalar.muli arg21 c128_i32_46
  let v68 : BitVec 32 := v67
  let v70 : Index := Scalar.indexCast v68
  ![v69.toNat, v70.toNat]
def k0_mult35 (k0_t16 : Fin k0_t16_loop.trips) : BitVec 32 :=
  let c2048_i32 : BitVec 32 := 2048#32
  let c0_i32_38 : BitVec 32 := 0#32
  let c1_i32_40 : BitVec 32 := 1#32
  let arg21 : BitVec 32 := Scf.iv c0_i32_38 c1_i32_40 k0_t16
  let c128_i32_47 : BitVec 32 := 128#32
  let v72 : BitVec 32 := Scalar.muli arg21 c128_i32_47
  let v73 : BitVec 32 := Scalar.addi c2048_i32 v72
  v73
def k0_off63 (k0_t15 : Fin k0_t15_loop.trips) (k0_t16 : Fin k0_t16_loop.trips) : Fin 2 → Nat :=
  let c0_i32_33 : BitVec 32 := 0#32
  let c1_i32_34 : BitVec 32 := 1#32
  let arg19 : BitVec 32 := Scf.iv c0_i32_33 c1_i32_34 k0_t15
  let c32_i32 : BitVec 32 := 32#32
  let v38 : BitVec 32 := Scalar.muli arg19 c32_i32
  let v39 : BitVec 32 := v38
  let v75 : Index := Scalar.indexCast v39
  let c2048_i32 : BitVec 32 := 2048#32
  let c0_i32_38 : BitVec 32 := 0#32
  let c1_i32_40 : BitVec 32 := 1#32
  let arg21 : BitVec 32 := Scf.iv c0_i32_38 c1_i32_40 k0_t16
  let c128_i32_47 : BitVec 32 := 128#32
  let v72 : BitVec 32 := Scalar.muli arg21 c128_i32_47
  let v73 : BitVec 32 := Scalar.addi c2048_i32 v72
  let v74 : BitVec 32 := v73
  let v76 : Index := Scalar.indexCast v74
  ![v75.toNat, v76.toNat]
def k0_off64 (v27 : BitVec 32) (k0_t15 : Fin k0_t15_loop.trips) (k0_t16 : Fin k0_t16_loop.trips) : Fin 2 → Nat :=
  let v28 : BitVec 32 := v27
  let c0_i32_33 : BitVec 32 := 0#32
  let c1_i32_34 : BitVec 32 := 1#32
  let arg19 : BitVec 32 := Scf.iv c0_i32_33 c1_i32_34 k0_t15
  let c32_i32 : BitVec 32 := 32#32
  let v38 : BitVec 32 := Scalar.muli arg19 c32_i32
  let v39 : BitVec 32 := v38
  let v49 : BitVec 32 := Scalar.addi v28 v39
  let v50 : BitVec 32 := v49
  let v251 : Index := Scalar.indexCast v50
  let c0_i32_38 : BitVec 32 := 0#32
  let c1_i32_40 : BitVec 32 := 1#32
  let arg21 : BitVec 32 := Scf.iv c0_i32_38 c1_i32_40 k0_t16
  let c128_i32 : BitVec 32 := 128#32
  let v65 : BitVec 32 := Scalar.muli arg21 c128_i32
  let v66 : BitVec 32 := v65
  let v252 : Index := Scalar.indexCast v66
  ![v251.toNat, v252.toNat]
def k0_mult36 (v27 : BitVec 32) (k0_t15 : Fin k0_t15_loop.trips) : BitVec 32 :=
  let v28 : BitVec 32 := v27
  let c0_i32_33 : BitVec 32 := 0#32
  let c1_i32_34 : BitVec 32 := 1#32
  let arg19 : BitVec 32 := Scf.iv c0_i32_33 c1_i32_34 k0_t15
  let c32_i32 : BitVec 32 := 32#32
  let v38 : BitVec 32 := Scalar.muli arg19 c32_i32
  let v39 : BitVec 32 := v38
  let v54 : BitVec 32 := Scalar.addi v28 v39
  v54
def k0_off65 (v27 : BitVec 32) (k0_t15 : Fin k0_t15_loop.trips) : Fin 2 → Nat :=
  let v28 : BitVec 32 := v27
  let c0_i32_33 : BitVec 32 := 0#32
  let c1_i32_34 : BitVec 32 := 1#32
  let arg19 : BitVec 32 := Scf.iv c0_i32_33 c1_i32_34 k0_t15
  let c32_i32 : BitVec 32 := 32#32
  let v38 : BitVec 32 := Scalar.muli arg19 c32_i32
  let v39 : BitVec 32 := v38
  let v54 : BitVec 32 := Scalar.addi v28 v39
  let v55 : BitVec 32 := v54
  let v56 : Index := Scalar.indexCast v55
  let c0_42 : Index := 0#32
  ![v56.toNat, 0]

def k0_chk7 (v27 : BitVec 32) : Prop :=
  (16 ∣ (k0_mult20 v27).toNat) ∧
  (∀ (k0_t12 : Fin k0_t12_loop.trips) (k0_t14 : Fin k0_t14_loop.trips), ∀ a, (k0_off56 v27 k0_t12 k0_t14) a + S128x256.size a ≤ S256x7168.size a) ∧
  (∀ k0_t15 : Fin k0_t15_loop.trips, 16 ∣ (k0_mult32 v27 k0_t15).toNat) ∧
  (∀ (k0_t15 : Fin k0_t15_loop.trips) (k0_t16 : Fin k0_t16_loop.trips), ∀ a, (k0_off64 v27 k0_t15 k0_t16) a + S32x128.size a ≤ S256x2048.size a) ∧
  (∀ (k0_t15 : Fin k0_t15_loop.trips) (k0_t16 : Fin k0_t16_loop.trips), ∀ (hinb : ∀ a, (k0_off64 v27 k0_t15 k0_t16) a + S32x128.size a ≤ S256x2048.size a), (Rect.unit (s := S256x2048) (k0_off64 v27 k0_t15 k0_t16) S32x128.size hinb).PackedRows (EltTy.packing .bf16)) ∧
  (∀ k0_t15 : Fin k0_t15_loop.trips, 8 ∣ (k0_mult36 v27 k0_t15).toNat) ∧
  (∀ k0_t15 : Fin k0_t15_loop.trips, ∀ a, (k0_off65 v27 k0_t15) a + S32x128.size a ≤ S256x128.size a)
theorem k0_mult20_dvd : ∀ (v27 : BitVec 32) (k0_hw7 : k0_chk7 v27), 16 ∣ (k0_mult20 v27).toNat := fun v27 k0_hw7 => k0_hw7.1
theorem k0_off56_inb : ∀ (v27 : BitVec 32) (k0_hw7 : k0_chk7 v27) (k0_t12 : Fin k0_t12_loop.trips) (k0_t14 : Fin k0_t14_loop.trips), ∀ a, (k0_off56 v27 k0_t12 k0_t14) a + S128x256.size a ≤ S256x7168.size a := fun v27 k0_hw7 k0_t12 k0_t14 => k0_hw7.2.1 k0_t12 k0_t14
theorem k0_mult32_dvd : ∀ (v27 : BitVec 32) (k0_hw7 : k0_chk7 v27) (k0_t15 : Fin k0_t15_loop.trips), 16 ∣ (k0_mult32 v27 k0_t15).toNat := fun v27 k0_hw7 k0_t15 => k0_hw7.2.2.1 k0_t15
theorem k0_off64_inb : ∀ (v27 : BitVec 32) (k0_hw7 : k0_chk7 v27) (k0_t15 : Fin k0_t15_loop.trips) (k0_t16 : Fin k0_t16_loop.trips), ∀ a, (k0_off64 v27 k0_t15 k0_t16) a + S32x128.size a ≤ S256x2048.size a := fun v27 k0_hw7 k0_t15 k0_t16 => k0_hw7.2.2.2.1 k0_t15 k0_t16
theorem k0_off64_packedbf16 : ∀ (v27 : BitVec 32) (k0_hw7 : k0_chk7 v27) (k0_t15 : Fin k0_t15_loop.trips) (k0_t16 : Fin k0_t16_loop.trips), (Rect.unit (s := S256x2048) (k0_off64 v27 k0_t15 k0_t16) S32x128.size (k0_off64_inb v27 k0_hw7 k0_t15 k0_t16)).PackedRows (EltTy.packing .bf16) := fun v27 k0_hw7 k0_t15 k0_t16 => k0_hw7.2.2.2.2.1 k0_t15 k0_t16 (k0_off64_inb v27 k0_hw7 k0_t15 k0_t16)
theorem k0_mult36_dvd : ∀ (v27 : BitVec 32) (k0_hw7 : k0_chk7 v27) (k0_t15 : Fin k0_t15_loop.trips), 8 ∣ (k0_mult36 v27 k0_t15).toNat := fun v27 k0_hw7 k0_t15 => k0_hw7.2.2.2.2.2.1 k0_t15
theorem k0_off65_inb : ∀ (v27 : BitVec 32) (k0_hw7 : k0_chk7 v27) (k0_t15 : Fin k0_t15_loop.trips), ∀ a, (k0_off65 v27 k0_t15) a + S32x128.size a ≤ S256x128.size a := fun v27 k0_hw7 k0_t15 => k0_hw7.2.2.2.2.2.2 k0_t15

abbrev stage0_0 : Fin 1 → Memref sig .tc .smem S13 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x64 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S256x7168 : Shape := ⟨2, ![256, 7168]⟩
abbrev S13 : Shape := ⟨1, ![13]⟩
abbrev S13x7168x4096 : Shape := ⟨3, ![13, 7168, 4096]⟩
abbrev S13x224x4096 : Shape := ⟨3, ![13, 224, 4096]⟩
abbrev S256x2048 : Shape := ⟨2, ![256, 2048]⟩
abbrev S256x64 : Shape := ⟨2, ![256, 64]⟩
abbrev S256x224x32 : Shape := ⟨3, ![256, 224, 32]⟩
abbrev S256x224 : Shape := ⟨2, ![256, 224]⟩
abbrev S256x224x1 : Shape := ⟨3, ![256, 224, 1]⟩
abbrev S256x4096 : Shape := ⟨2, ![256, 4096]⟩
abbrev S1 : Shape := ⟨1, ![1]⟩
abbrev S1x224x4096 : Shape := ⟨3, ![1, 224, 4096]⟩
abbrev S224x4096 : Shape := ⟨2, ![224, 4096]⟩
abbrev S1x7168x4096 : Shape := ⟨3, ![1, 7168, 4096]⟩
abbrev S7168x4096 : Shape := ⟨2, ![7168, 4096]⟩
abbrev S224x32x4096 : Shape := ⟨3, ![224, 32, 4096]⟩
abbrev S224x1x4096 : Shape := ⟨3, ![224, 1, 4096]⟩
abbrev S256x64x32 : Shape := ⟨3, ![256, 64, 32]⟩
abbrev S256x64x1 : Shape := ⟨3, ![256, 64, 1]⟩

abbrev nBuf : Space → Nat
  | .hbm => 6
  | .vmem => 5
  | .smem => 1
  | _ => 0

abbrev bufTy : (tb : Table) → Fin (tcTables nBuf tb) → BufTy
  | .hbm, ⟨0, _⟩ => ⟨S256x7168, .bf16⟩
  | .hbm, ⟨1, _⟩ => ⟨S13, .i32⟩
  | .hbm, ⟨2, _⟩ => ⟨S13x7168x4096, .fp8e4m3⟩
  | .hbm, ⟨3, _⟩ => ⟨S13x224x4096, .i8⟩
  | .hbm, ⟨4, _⟩ => ⟨S256x2048, .fp8e4m3⟩
  | .hbm, ⟨5, _⟩ => ⟨S256x64, .i8⟩
  | .local _ .vmem, ⟨0, _⟩ => ⟨S256x7168, .bf16⟩
  | .local _ .vmem, ⟨1, _⟩ => ⟨S13x7168x4096, .fp8e4m3⟩
  | .local _ .vmem, ⟨2, _⟩ => ⟨S13x224x4096, .i8⟩
  | .local _ .vmem, ⟨3, _⟩ => ⟨S256x2048, .fp8e4m3⟩
  | .local _ .vmem, ⟨4, _⟩ => ⟨S256x64, .i8⟩
  | .local _ .smem, ⟨0, _⟩ => ⟨S13, .i32⟩
  | _, _ => ⟨S256x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

@[reducible] def k0_t1_loop : Scf.Loop 32 :=
  let c0_i32_1 : BitVec 32 := 0#32
  let c246_i32 : BitVec 32 := 246#32
  let v6 : BitVec 32 := Scalar.addi c0_i32_1 c246_i32
  let c1_i32 : BitVec 32 := 1#32
  ⟨c0_i32_1, v6, c1_i32⟩
@[reducible] def k0_t2_loop : Scf.Loop 32 :=
  let c0_i32_12 : BitVec 32 := 0#32
  let c13_i32 : BitVec 32 := 13#32
  let v40 : BitVec 32 := Scalar.addi c0_i32_12 c13_i32
  let c1_i32_13 : BitVec 32 := 1#32
  ⟨c0_i32_12, v40, c1_i32_13⟩
def k0_off1 (k0_t2 : Fin k0_t2_loop.trips) : Fin 1 → Nat :=
  let c0_i32_12 : BitVec 32 := 0#32
  let c1_i32_13 : BitVec 32 := 1#32
  let arg6 : BitVec 32 := Scf.iv c0_i32_12 c1_i32_13 k0_t2
  let v77 : Index := Scalar.indexCast arg6
  ![v77.toNat]
def k0_off2 (k0_t2 : Fin k0_t2_loop.trips) : Fin 3 → Nat :=
  let c0_i32_12 : BitVec 32 := 0#32
  let c1_i32_13 : BitVec 32 := 1#32
  let arg6 : BitVec 32 := Scf.iv c0_i32_12 c1_i32_13 k0_t2
  let v80 : Index := Scalar.indexCast arg6
  let c0_31 : Index := 0#32
  let c0_32 : Index := 0#32
  ![v80.toNat, 0, 0]
def k0_off3 (k0_t2 : Fin k0_t2_loop.trips) : Fin 3 → Nat :=
  let c0_i32_12 : BitVec 32 := 0#32
  let c1_i32_13 : BitVec 32 := 1#32
  let arg6 : BitVec 32 := Scf.iv c0_i32_12 c1_i32_13 k0_t2
  let v97 : Index := Scalar.indexCast arg6
  let c0_37 : Index := 0#32
  let c0_38 : Index := 0#32
  ![v97.toNat, 0, 0]
@[reducible] def k0_t3_loop : Scf.Loop 32 :=
  let c0_i32_17 : BitVec 32 := 0#32
  let c246_i32_18 : BitVec 32 := 246#32
  let v51 : BitVec 32 := Scalar.addi c0_i32_17 c246_i32_18
  let c1_i32_19 : BitVec 32 := 1#32
  ⟨c0_i32_17, v51, c1_i32_19⟩
abbrev stage0_0 : Fin 1 → Memref sig .tc .smem S13 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x7168 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S13x7168x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S13x224x4096 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x2048 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x64 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.PI.Checks.lean ====
/- The side conditions the kernel assumes, proved for every number of work items up to 14, and the closed forms of
   the offsets at the ring's accesses. -/
module

public import proofs.«01_k».proof.Proof.Gen.KernelIdeal

@[expose] public section

set_option maxRecDepth 16384

noncomputable section

namespace Cert.Proof.KernelIdeal

open Cert.KernelIdeal
open Idealize.ShloMosaic

abbrev w32 (n : ℕ) : BitVec 32 := BitVec.ofNat 32 n

/-- The table of items holds an item of every number below 32. -/
theorem chk1_n : ∀ n : Fin 32, k0_chk1 (w32 n.val) := by decide +kernel

/-- The first copies are inside their arrays. -/
theorem chk2_n : ∀ (n : Fin 15) (t : Fin k0_t2_loop.trips) (e : Fin 13), k0_chk2 (w32 n.val) t (w32 e.val) := by
  decide +kernel

/-- An item's rows are inside the arrays. -/
theorem chk4_n : ∀ r : Fin 9, k0_chk4 (w32 (16 * r.val)) := by decide +kernel

/-- The loop over the items makes as many trips as there are items. -/
theorem trips5 : ∀ n : Fin 15, (k0_t5_loop (w32 n.val)).trips = n.val := by decide +kernel

/-- The remainder loop makes no trip. -/
theorem trips11 : ∀ n : Fin 15, (k0_t11_loop (w32 n.val)).trips = 0 := by decide +kernel

/-- Where the first row of an item is read. -/
theorem off14_n : ∀ (n : Fin 15) (t : Fin (k0_t5_loop (w32 n.val)).trips), k0_off14 (w32 n.val) t = ![1, t.val] := by
  decide +kernel

/-- Where the expert of the tile seven steps ahead is read. -/
theorem off15_n : ∀ (n : Fin 15) (t : Fin (k0_t5_loop (w32 n.val)).trips) (k : Fin k0_t6_loop.trips),
    k0_off15 (w32 n.val) t k = ![0, (7 * t.val + k.val + 7) / 7] := by decide +kernel

/-- The ring's slot of weights for the tile seven steps ahead. -/
theorem off17_n : ∀ (n : Fin 15) (t : Fin (k0_t5_loop (w32 n.val)).trips) (k : Fin k0_t6_loop.trips),
    k0_off17 (w32 n.val) t k = ![(7 * t.val + k.val + 7) % 8, 0, 0] := by decide +kernel

/-- The weights of the tile seven steps ahead. -/
theorem off18_n : ∀ (n : Fin 15) (t : Fin (k0_t5_loop (w32 n.val)).trips) (k : Fin k0_t6_loop.trips) (e : Fin 13),
    k0_off18 (w32 n.val) t k (w32 e.val) = ![e.val, 1024 * ((7 * t.val + k.val + 7) % 7), 0] := by decide +kernel

/-- A tile seven steps ahead is started when there is one. -/
theorem cond2_n : ∀ (n : Fin 15) (t : Fin (k0_t5_loop (w32 n.val)).trips) (k : Fin k0_t6_loop.trips),
    (k0_cond2 (w32 n.val) t k = 1#1 ↔ 7 * t.val + k.val + 7 < 7 * n.val) := by decide +kernel

/-- The weights and scales of the tile seven steps ahead are inside their arrays. -/
theorem chk5_n : ∀ (n : Fin 15) (t : Fin (k0_t5_loop (w32 n.val)).trips) (k : Fin k0_t6_loop.trips) (e : Fin 13),
    k0_chk5 (w32 n.val) t k (w32 e.val) := by decide +kernel

/-- The weights and scales of a step's tile are inside their arrays. -/
theorem chk6_n : ∀ (n : Fin 15) (t : Fin (k0_t5_loop (w32 n.val)).trips) (k : Fin k0_t6_loop.trips) (e : Fin 13),
    k0_chk6 (w32 n.val) t k (w32 e.val) := by decide +kernel

end Cert.Proof.KernelIdeal

end
-- ==== Proof.PI.Base.lean ====
/- The setting of the kernel's run: the proof's algebra, the buffers' reads and writes through unit rectangles, and the
   table of work items read word by word. -/
module

public import proofs.«01_k».proof.Proof.PI.Checks
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The variants that bound the calls of the one while loop. -/
abbrev 𝒱₀ : Variants := Variants.nat

/-- What buffer `b` holds. -/
abbrev CT (F : FTy → Type) (b : Ref sig .tc) : Type := b.ty.Contents (Elt F)

/-- Buffer `b` whole, at contents `f`. -/
abbrev pts (c : Dev nD) (b : Ref sig .tc) (f : CT F b) : sProp 𝕄 :=
  ((c : Thread nD τ).loc b) ↦{fullShare} (f : Buf (Elt F) ((c : Thread nD τ).loc b))

/-- The run of a program on the core of device `c`. -/
abbrev run {α : Type} (c : Dev nD) (p : Prog (TpuEff nD τ sig (Elt F) (Λ₀ F) .tc) α) (Q : α → sProp 𝕄) : sProp 𝕄 :=
  wp frame (wpE (defs₀ (F := F)) 𝒱₀ (c : Thread nD τ) none) Set.univ p Q

/-- The place of word `(r, i)` of the table of work items. -/
def ixW (r : Fin 4) (i : Fin 32) : S4x32.Idx := fun a => match a with | 0 => r | 1 => i

/-- Word `(r, i)` of the table of work items. -/
def tw (f : CT F cc0_scratch7) (r : Fin 4) (i : Fin 32) : BitVec 32 := f (ixW r i)

/-- The place of word `e` of the group sizes. -/
def ixG (e : Fin 13) : S13.Idx := fun a => match a with | 0 => e

omit [FloatOps F] in
/-- A word of the table of items, as the kernel reads it. -/
theorem rd_items (f : CT F cc0_scratch7) (r : Fin 4) (i : Fin 32) {off : Fin 2 → ℕ} (h : off = ![r.val, i.val])
    (inb : ∀ a, off a + S1x1.size a ≤ S4x32.size a) (x : S1x1.Idx) :
    ((Memref.whole cc0_scratch7).access (Rect.unit (s := S4x32) off S1x1.size inb) : View sig .tc _ _ _).read (Elt F) f x
      = tw f r i := by
  subst h
  rw [View.read_apply]
  show f _ = f _
  congr 1
  funext a
  have hx : ∀ a, (x a).val = 0 := fun a => by
    have := (x a).isLt
    match a with
    | 0 => exact Nat.lt_one_iff.mp this
    | 1 => exact Nat.lt_one_iff.mp this
  match a with
  | 0 => exact Fin.ext (by show r.val + 1 * (x 0).val = r.val; rw [hx]; omega)
  | 1 => exact Fin.ext (by show i.val + 1 * (x 1).val = i.val; rw [hx]; omega)

omit [FloatOps F] in
/-- The table of items after one word is written. -/
theorem tw_write (f : CT F cc0_scratch7) (r : Fin 4) (i : Fin 32) {off : Fin 2 → ℕ} (h : off = ![r.val, i.val])
    (inb : ∀ a, off a + S1x1.size a ≤ S4x32.size a) (w : BitVec 32) (r' : Fin 4) (i' : Fin 32) :
    tw (((Memref.whole cc0_scratch7).access (Rect.unit (s := S4x32) off S1x1.size inb) : View sig .tc _ _ _).write (Elt F) f
        (fun _ => w) Finset.univ) r' i' = if r' = r ∧ i' = i then w else tw f r' i' := by
  subst h
  split
  · rename_i hh
    obtain ⟨rfl, rfl⟩ := hh
    let V : View sig .tc _ _ _ := (Memref.whole cc0_scratch7).access (Rect.unit (s := S4x32) ![r'.val, i'.val] S1x1.size inb)
    have key := rd_items (F := F) (V.write (Elt F) f (fun _ => w) Finset.univ) r' i' rfl inb (fun a => match a with | 0 => (⟨0, Nat.one_pos⟩ : Fin 1) | 1 => (⟨0, Nat.one_pos⟩ : Fin 1))
    rw [← key]
    exact congrFun (View.read_write_univ _ _) _
  · rename_i hh
    refine View.write_of_not_mem _ _ _ ?_
    intro hm
    apply hh
    rw [View.setOn_univ] at hm
    obtain ⟨x, -, hx⟩ := Finset.mem_map.mp hm
    have hx' : ∀ a, (x a).val = 0 := fun a => by
      have := (x a).isLt
      match a with
      | 0 => exact Nat.lt_one_iff.mp this
      | 1 => exact Nat.lt_one_iff.mp this
    have h0 : r.val + 1 * (x 0).val = r'.val := congrArg Fin.val (congrFun hx (0 : Fin 2))
    have h1 : i.val + 1 * (x 1).val = i'.val := congrArg Fin.val (congrFun hx (1 : Fin 2))
    rw [hx'] at h0 h1
    exact ⟨Fin.ext (by omega), Fin.ext (by omega)⟩

omit [FloatOps F] in
/-- A group's size, as the kernel reads it. -/
theorem rd_gs (f : CT F cc0_stg0_0) (e : Fin 13) {off : Fin 1 → ℕ} (h : off = ![e.val])
    (inb : ∀ a, off a + S1.size a ≤ S13.size a) (x : S1.Idx) :
    ((Memref.whole cc0_stg0_0).access (Rect.unit (s := S13) off S1.size inb) : View sig .tc _ _ _).read (Elt F) f x
      = f (ixG e) := by
  subst h
  rw [View.read_apply]
  show f _ = f _
  congr 1
  funext a
  have hx : (x 0).val = 0 := Nat.lt_one_iff.mp (x 0).isLt
  match a with
  | 0 => exact Fin.ext (by show e.val + 1 * (x 0).val = e.val; rw [hx]; omega)

/-! ## The loops' bodies on the kernel's buffers -/

/-- The body of loop 1. -/
def body1 := k0_t1_body (F := F) (Memref.whole cc0_stg0_0) (Memref.isWhole_whole _) (Memref.whole main_arg0) (Memref.isWhole_whole _)
    (Memref.whole main_arg2) (Memref.isWhole_whole _) (Memref.whole main_arg3) (Memref.isWhole_whole _) (Memref.whole cc0_stg1_0) (Memref.isWhole_whole _)
    (Memref.whole cc0_stg2_0) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _)
    (Memref.whole cc0_scratch5) (Memref.isWhole_whole _) (Memref.whole cc0_scratch6) (Memref.isWhole_whole _) (Memref.whole cc0_scratch7) (Memref.isWhole_whole _)
    cc0_scratch8 cc0_scratch9 cc0_scratch10

/-- The body of loop 2. -/
def body2 := k0_t2_body (F := F) (Memref.whole cc0_stg0_0) (Memref.isWhole_whole _) (Memref.whole main_arg0) (Memref.isWhole_whole _)
    (Memref.whole main_arg2) (Memref.isWhole_whole _) (Memref.whole main_arg3) (Memref.isWhole_whole _) (Memref.whole cc0_stg1_0) (Memref.isWhole_whole _)
    (Memref.whole cc0_stg2_0) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _)
    (Memref.whole cc0_scratch5) (Memref.isWhole_whole _) (Memref.whole cc0_scratch6) (Memref.isWhole_whole _) (Memref.whole cc0_scratch7) (Memref.isWhole_whole _)
    cc0_scratch8 cc0_scratch9 cc0_scratch10

/-- The body of loop 3. -/
def body3 := k0_t3_body (F := F) (Memref.whole cc0_stg0_0) (Memref.isWhole_whole _) (Memref.whole main_arg0) (Memref.isWhole_whole _)
    (Memref.whole main_arg2) (Memref.isWhole_whole _) (Memref.whole main_arg3) (Memref.isWhole_whole _) (Memref.whole cc0_stg1_0) (Memref.isWhole_whole _)
    (Memref.whole cc0_stg2_0) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _)
    (Memref.whole cc0_scratch5) (Memref.isWhole_whole _) (Memref.whole cc0_scratch6) (Memref.isWhole_whole _) (Memref.whole cc0_scratch7) (Memref.isWhole_whole _)
    cc0_scratch8 cc0_scratch9 cc0_scratch10

/-- The body of loop 4. -/
def body4 := k0_t4_body (F := F) (Memref.whole cc0_stg0_0) (Memref.isWhole_whole _) (Memref.whole main_arg0) (Memref.isWhole_whole _)
    (Memref.whole main_arg2) (Memref.isWhole_whole _) (Memref.whole main_arg3) (Memref.isWhole_whole _) (Memref.whole cc0_stg1_0) (Memref.isWhole_whole _)
    (Memref.whole cc0_stg2_0) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _)
    (Memref.whole cc0_scratch5) (Memref.isWhole_whole _) (Memref.whole cc0_scratch6) (Memref.isWhole_whole _) (Memref.whole cc0_scratch7) (Memref.isWhole_whole _)
    cc0_scratch8 cc0_scratch9 cc0_scratch10

/-- The body of loop 5. -/
def body5 := k0_t5_body (F := F) (Memref.whole cc0_stg0_0) (Memref.isWhole_whole _) (Memref.whole main_arg0) (Memref.isWhole_whole _)
    (Memref.whole main_arg2) (Memref.isWhole_whole _) (Memref.whole main_arg3) (Memref.isWhole_whole _) (Memref.whole cc0_stg1_0) (Memref.isWhole_whole _)
    (Memref.whole cc0_stg2_0) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _)
    (Memref.whole cc0_scratch5) (Memref.isWhole_whole _) (Memref.whole cc0_scratch6) (Memref.isWhole_whole _) (Memref.whole cc0_scratch7) (Memref.isWhole_whole _)
    cc0_scratch8 cc0_scratch9 cc0_scratch10

/-- The body of loop 6. -/
def body6 := k0_t6_body (F := F) (Memref.whole cc0_stg0_0) (Memref.isWhole_whole _) (Memref.whole main_arg0) (Memref.isWhole_whole _)
    (Memref.whole main_arg2) (Memref.isWhole_whole _) (Memref.whole main_arg3) (Memref.isWhole_whole _) (Memref.whole cc0_stg1_0) (Memref.isWhole_whole _)
    (Memref.whole cc0_stg2_0) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _)
    (Memref.whole cc0_scratch5) (Memref.isWhole_whole _) (Memref.whole cc0_scratch6) (Memref.isWhole_whole _) (Memref.whole cc0_scratch7) (Memref.isWhole_whole _)
    cc0_scratch8 cc0_scratch9 cc0_scratch10

/-- The body of loop 7. -/
def body7 := k0_t7_body (F := F) (Memref.whole cc0_stg0_0) (Memref.isWhole_whole _) (Memref.whole main_arg0) (Memref.isWhole_whole _)
    (Memref.whole main_arg2) (Memref.isWhole_whole _) (Memref.whole main_arg3) (Memref.isWhole_whole _) (Memref.whole cc0_stg1_0) (Memref.isWhole_whole _)
    (Memref.whole cc0_stg2_0) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _)
    (Memref.whole cc0_scratch5) (Memref.isWhole_whole _) (Memref.whole cc0_scratch6) (Memref.isWhole_whole _) (Memref.whole cc0_scratch7) (Memref.isWhole_whole _)
    cc0_scratch8 cc0_scratch9 cc0_scratch10

/-- The body of loop 8. -/
def body8 := k0_t8_body (F := F) (Memref.whole cc0_stg0_0) (Memref.isWhole_whole _) (Memref.whole main_arg0) (Memref.isWhole_whole _)
    (Memref.whole main_arg2) (Memref.isWhole_whole _) (Memref.whole main_arg3) (Memref.isWhole_whole _) (Memref.whole cc0_stg1_0) (Memref.isWhole_whole _)
    (Memref.whole cc0_stg2_0) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _)
    (Memref.whole cc0_scratch5) (Memref.isWhole_whole _) (Memref.whole cc0_scratch6) (Memref.isWhole_whole _) (Memref.whole cc0_scratch7) (Memref.isWhole_whole _)
    cc0_scratch8 cc0_scratch9 cc0_scratch10

/-- The body of loop 9. -/
def body9 := k0_t9_body (F := F) (Memref.whole cc0_stg0_0) (Memref.isWhole_whole _) (Memref.whole main_arg0) (Memref.isWhole_whole _)
    (Memref.whole main_arg2) (Memref.isWhole_whole _) (Memref.whole main_arg3) (Memref.isWhole_whole _) (Memref.whole cc0_stg1_0) (Memref.isWhole_whole _)
    (Memref.whole cc0_stg2_0) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _)
    (Memref.whole cc0_scratch5) (Memref.isWhole_whole _) (Memref.whole cc0_scratch6) (Memref.isWhole_whole _) (Memref.whole cc0_scratch7) (Memref.isWhole_whole _)
    cc0_scratch8 cc0_scratch9 cc0_scratch10

/-- The body of loop 10. -/
def body10 := k0_t10_body (F := F) (Memref.whole cc0_stg0_0) (Memref.isWhole_whole _) (Memref.whole main_arg0) (Memref.isWhole_whole _)
    (Memref.whole main_arg2) (Memref.isWhole_whole _) (Memref.whole main_arg3) (Memref.isWhole_whole _) (Memref.whole cc0_stg1_0) (Memref.isWhole_whole _)
    (Memref.whole cc0_stg2_0) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _)
    (Memref.whole cc0_scratch5) (Memref.isWhole_whole _) (Memref.whole cc0_scratch6) (Memref.isWhole_whole _) (Memref.whole cc0_scratch7) (Memref.isWhole_whole _)
    cc0_scratch8 cc0_scratch9 cc0_scratch10

/-! ## Loads and stores through rectangles of a whole buffer -/

/-- A load through a rectangle of a buffer held whole. -/
theorem wp_ld (c : Dev nD) (bd : Option ℕ) {cs : CoreSpace} {s : Shape} {e : EltTy} {α : Type} {Q : α → sProp 𝕄}
    (m : Memref sig .tc cs s e) {r : Rect s} {hl : m.view.LoadsAt r.toLoadRect}
    {k : (r.shape.Idx → Elt F e) → Prog (TpuEff nD τ sig (Elt F) (Λ₀ F) .tc) α} {f : Buf (Elt F) (m.view.loc (c : Thread nD τ))} :
    (m.view.loc (c : Thread nD τ) ↦{fullShare} f)
      ⊢ iprop(((m.view.loc (c : Thread nD τ) ↦{fullShare} f)
          -∗ wp frame (wpE (defs₀ (F := F)) 𝒱₀ (c : Thread nD τ) bd) Set.univ (k ((m.access r).read (Elt F) f)) Q)
        -∗ wp frame (wpE (defs₀ (F := F)) 𝒱₀ (c : Thread nD τ) bd) Set.univ (.op (.load m r.toLoadRect hl) k) Q) :=
  wp_load_rect 𝒱₀ (c : Thread nD τ) bd Set.univ (m := m) (r := r) (Finset.subset_univ _)

/-- A store of a whole rectangle of a buffer held whole. -/
theorem wp_st (c : Dev nD) (bd : Option ℕ) {cs : CoreSpace} {s : Shape} {e : EltTy} {α : Type} {Q : α → sProp 𝕄}
    (m : Memref sig .tc cs s e) {r : Rect s} {w : r.shape.Idx → Elt F e} {hx : (m.access r).Stores Finset.univ}
    {hm : (Finset.univ : Finset r.shape.Idx) = Finset.univ ∨ ∀ a, r.stride a = 1}
    {k : PUnit → Prog (TpuEff nD τ sig (Elt F) (Λ₀ F) .tc) α} {f : Buf (Elt F) (m.view.loc (c : Thread nD τ))} :
    (m.view.loc (c : Thread nD τ) ↦{fullShare} f)
      ⊢ iprop(((m.view.loc (c : Thread nD τ) ↦{fullShare} ((m.access r).write (Elt F) f w Finset.univ))
          -∗ wp frame (wpE (defs₀ (F := F)) 𝒱₀ (c : Thread nD τ) bd) Set.univ (k ⟨⟩) Q)
        -∗ wp frame (wpE (defs₀ (F := F)) 𝒱₀ (c : Thread nD τ) bd) Set.univ (.op (.store m r w Finset.univ hx hm) k) Q) :=
  wp_store 𝒱₀ (c : Thread nD τ) bd Set.univ (m := m) (r := r) (Mk := Finset.univ) (Finset.subset_univ _)

end Cert.Proof.KernelIdeal

end
-- ==== Proof.PI.Ring.lean ====
/- The two rings of slots that the blocks of the weights and of their scales are copied into: a slot is free, or the
   copy of one block is on its way into it, or that block has landed. -/
module

public import proofs.«01_k».proof.Proof.PI.Base

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The counters that the copies use. -/
abbrev EC (F : FTy → Type) : UEmb Counters (MT nD τ sig Unit (Elt F) ℕ (Pipeline.UD sig nD τ) ℕ) :=
  countersEmb (U := Pipeline.UD sig nD τ)

/-- A slot's semaphore is inside its array. -/
theorem inbSem (k : Fin 8) : ∀ a, (![k.val] : Fin 1 → ℕ) a + S1.size a ≤ S8.size a := fun a => by
  have := k.isLt
  match a with
  | 0 => show k.val + 1 ≤ 8; omega

/-! ## Weights -/

/-- A slot is inside the ring of weights. -/
theorem inbSlotW (k : Fin 8) : ∀ a, (![k.val, 0, 0] : Fin 3 → ℕ) a + S1x1024x4096.size a ≤ S8x1024x4096.size a := fun a => by
  have := k.isLt
  match a with
  | 0 => show k.val + 1 ≤ 8; omega
  | 1 => show 0 + 1024 ≤ 1024; omega
  | 2 => show 0 + 4096 ≤ 4096; omega

/-- A chunk of an expert's weights is inside the weights. -/
theorem inbSrcW (e : Fin 13) (j : Fin 7) : ∀ a, (![e.val, 1024 * j.val, 0] : Fin 3 → ℕ) a + S1x1024x4096.size a ≤ S13x7168x4096.size a :=
  fun a => by
  have := e.isLt
  have := j.isLt
  match a with
  | 0 => show e.val + 1 ≤ 13; omega
  | 1 => show 1024 * j.val + 1024 ≤ 7168; omega
  | 2 => show 0 + 4096 ≤ 4096; omega

/-- Slot `k` of the ring. -/
abbrev slotW (k : Fin 8) : Memref sig .tc .vmem S1024x4096 .fp8e4m3 :=
  ((Memref.whole cc0_scratch1).slice (Rect.unit (s := S8x1024x4096) ![k.val, 0, 0] S1x1024x4096.size (inbSlotW k)) (fun _ => rfl)).squeeze
    S1024x4096 squeezes_S1x1024x4096_S1024x4096

/-- Block `j` of expert `e`. -/
abbrev srcW (e : Fin 13) (j : Fin 7) : Memref sig .tc .hbm S1024x4096 .fp8e4m3 :=
  ((Memref.whole main_arg2).slice (Rect.unit (s := S13x7168x4096) ![e.val, 1024 * j.val, 0] S1x1024x4096.size (inbSrcW e j)) (fun _ => rfl)).squeeze
    S1024x4096 squeezes_S1x1024x4096_S1024x4096

/-- The semaphore of slot `k`. -/
abbrev semW (k : Fin 8) : DmaSem sig :=
  ((cc0_scratch9.slice (Rect.unit (s := S8) ![k.val] S1.size (inbSem k))).squeeze S_ squeezes_S1_S_).sem

/-- The places of slot `k` in the ring's buffer. -/
def setW (k : Fin 8) : Finset (cc0_scratch1.ty.Idx) := Finset.univ.filter fun i : S8x1024x4096.Idx => (i 0).val = k.val

/-- A ring buffer all of whose slots hold block `j` of expert `e`. -/
def landedW (w : CT F main_arg2) (e : Fin 13) (j : Fin 7) : CT F cc0_scratch1 := fun i =>
  w (show S13x7168x4096.Idx from fun a => match a with
    | 0 => e
    | 1 => (⟨1024 * j.val + (i 1).val, by have h1 : (i 1).val < 1024 := (i 1).isLt; have := j.isLt; omega⟩ : Fin 7168)
    | 2 => i 2)

/-- A slot of weights holds the slot's elements only. -/
theorem slotSetW (k : Fin 8) : (slotW k).view.set ⊆ setW k := by
  intro i hi
  obtain ⟨x, -, rfl⟩ := Finset.mem_map.mp hi
  unfold setW
  rw [Finset.mem_filter]
  refine ⟨Finset.mem_univ _, ?_⟩
  have h0 : ((Shape.reshapeEquiv squeezes_S1x1024x4096_S1024x4096.numel_eq x) 0).val = 0 := Nat.lt_one_iff.mp (Fin.isLt _)
  show k.val + 1 * ((Shape.reshapeEquiv squeezes_S1x1024x4096_S1024x4096.numel_eq x) 0).val = k.val
  rw [h0]; omega

omit [FloatOps F] in
/-- The block read off the source and written into the slot is the block landed. -/
theorem landedW_eq (w : CT F main_arg2) (f : CT F cc0_scratch1) (k : Fin 8) (e : Fin 13) (j : Fin 7) :
    ∀ i ∈ setW k, (slotW k).view.write (Elt F) f ((srcW e j).view.read (Elt F) w) Finset.univ i = landedW w e j i := by
  intro i hi
  have hk : (i 0).val = k.val := (Finset.mem_filter.mp hi).2
  let y : S1x1024x4096.Idx := fun a => match a with
    | 0 => (⟨0, Nat.one_pos⟩ : Fin 1)
    | 1 => i 1
    | 2 => i 2
  have hx : (slotW k).view.emb ((Shape.reshapeEquiv squeezes_S1x1024x4096_S1024x4096.numel_eq).symm y) = i := by
    show (Rect.unit (s := S8x1024x4096) ![k.val, 0, 0] S1x1024x4096.size (inbSlotW k)).emb
      (Shape.reshapeEquiv squeezes_S1x1024x4096_S1024x4096.numel_eq ((Shape.reshapeEquiv squeezes_S1x1024x4096_S1024x4096.numel_eq).symm y)) = i
    rw [Equiv.apply_symm_apply]
    funext a
    match a with
    | 0 => exact Fin.ext (by show k.val + 1 * 0 = (i 0).val; rw [hk]; omega)
    | 1 => exact Fin.ext (by show 0 + 1 * (i 1).val = (i 1).val; omega)
    | 2 => exact Fin.ext (by show 0 + 1 * (i 2).val = (i 2).val; omega)
  conv_lhs => rw [← hx]
  rw [View.write_emb_of_mem _ _ (Finset.mem_univ _), View.read_apply]
  show w ((Rect.unit (s := S13x7168x4096) ![e.val, 1024 * j.val, 0] S1x1024x4096.size (inbSrcW e j)).emb
      (Shape.reshapeEquiv squeezes_S1x1024x4096_S1024x4096.numel_eq ((Shape.reshapeEquiv squeezes_S1x1024x4096_S1024x4096.numel_eq).symm y))) = _
  rw [Equiv.apply_symm_apply]
  unfold landedW
  congr 1
  funext a
  match a with
  | 0 => exact Fin.ext (by show e.val + 1 * 0 = e.val; omega)
  | 1 => exact Fin.ext (by show 1024 * j.val + 1 * (i 1).val = 1024 * j.val + (i 1).val; omega)
  | 2 => exact Fin.ext (by show 0 + 1 * (i 2).val = (i 2).val; omega)

/-- Slot `k` of the ring held at `f`. -/
abbrev ownW (c : Dev nD) (k : Fin 8) (f : CT F cc0_scratch1) : sProp 𝕄 :=
  ((c : Thread nD τ).loc cc0_scratch1) ↦[setW k]{fullShare} (f : Buf (Elt F) ((c : Thread nD τ).loc cc0_scratch1))

/-- Slot `k`'s read token of the source. -/
abbrev tokW (c : Dev nD) (k : Fin 8) (w : CT F main_arg2) : sProp 𝕄 :=
  ((c : Thread nD τ).loc main_arg2) ↦{Transfers.shareTok fullShare 8 k} (w : Buf (Elt F) ((c : Thread nD τ).loc main_arg2))

/-- The amount that one copy signals. -/
abbrev amtW : ℕ := (slotW 0).view.amount (.dma (semW 0))

/-- A copy of weights is of a positive amount. -/
theorem amtW_pos : 0 < amtW := View.amount_pos _ _ (Shape.numel_pos fun a => by match a with | 0 => exact Nat.succ_pos _ | 1 => exact Nat.succ_pos _)

/-- Every slot of weights takes the same amount. -/
theorem amtW_eq (k : Fin 8) : (slotW k).view.amount (.dma (semW k)) = amtW := rfl

/-- Every slot of weights pays the same amount. -/
theorem crdW_eq (k : Fin 8) : (slotW k).view.dmaCredit = amtW := rfl

/-- A copy of block `j` of expert `e` into slot `k` on its way. -/
def flyW (c : Dev nD) (k : Fin 8) (w : CT F main_arg2) (e : Fin 13) (j : Fin 7) : sProp 𝕄 :=
  iprop(Transfers.Flight (EC F) (c : Thread nD τ) (.dma (semW k)) () amtW
      iprop(ownW c k (landedW w e j) ∗ ((c : Thread nD τ).loc main_arg2 ↦[(srcW e j).view.set]{Transfers.shareTok fullShare 8 k} (w : Buf (Elt F) ((c : Thread nD τ).loc main_arg2))))
    ∗ ((c : Thread nD τ).loc main_arg2 ↦[Finset.univ \ (srcW e j).view.set]{Transfers.shareTok fullShare 8 k} (w : Buf (Elt F) ((c : Thread nD τ).loc main_arg2))))

/-- Starting a copy into a free slot. -/
theorem wp_startW (c : Dev nD) (k : Fin 8) (e : Fin 13) (j : Fin 7) (w : CT F main_arg2)
    {src : Memref sig .tc .hbm S1024x4096 .fp8e4m3} {dst : Memref sig .tc .vmem S1024x4096 .fp8e4m3} {sm : DmaSem sig}
    (h1 : src = srcW e j) (h2 : dst = slotW k) (h3 : sm = semW k)
    {hsrc : src.view.WordExact} {hdst : dst.view.WordExact} {hsem : DmaTarget.Typed (nD := nD) (p := (.tc : Proc τ)) .hbm (.dma sm) (.here dst)}
    {α : Type} {kk : PUnit → Prog (TpuEff nD τ sig (Elt F) (Λ₀ F) .tc) α} {Q : α → sProp 𝕄} :
    iprop((∃ f, ownW c k f) ∗ tokW c k w ∗ semVal ((c : Thread nD τ), .dma (semW k)) 0)
      ⊢ iprop((flyW c k w e j -∗ run c (kk ⟨⟩) Q)
        -∗ run c (.op (.enqueueDma src (.here dst) (.dma sm) hsrc hdst hsem) kk) Q) := by
  subst h1 h2 h3
  iintro ⟨⟨%f, Hf⟩, Ht, Hs⟩ Hk
  have hsp := (pointsTo_split_subset (ℓ := (c : Thread nD τ).loc main_arg2) (I := (srcW e j).view.set) (S := Finset.univ)
    (q := Transfers.shareTok fullShare 8 k) (f := (w : Buf (Elt F) ((c : Thread nD τ).loc main_arg2))) (Ix := Unit) (Name := ℕ)
    (U := Pipeline.UD sig nD τ) (Lvl := ℕ) (Finset.subset_univ _)).1
  ihave Ht2 := hsp $$ Ht
  icases Ht2 with ⟨Ht1, Ht2⟩
  iapply (Transfers.wp_dmaLocal (EC F) 𝒱₀ (c : Thread nD τ) none () amtW (amtW_eq k) amtW_pos (slotSetW k)) $$ [Hf Ht1 Hs]
  · isplitl [Ht1]; · iexact Ht1
    isplitl [Hf]; · iexact Hf
    iexact Hs
  iintro Hfl
  iapply Hk
  unfold flyW
  isplitl [Hfl]
  · iapply (Transfers.Flight_mono (EC F) (c : Thread nD τ) (D' := iprop(ownW c k (landedW w e j) ∗ ((c : Thread nD τ).loc main_arg2 ↦[(srcW e j).view.set]{Transfers.shareTok fullShare 8 k} (w : Buf (Elt F) ((c : Thread nD τ).loc main_arg2)))))
      (sep_mono_left (show _ ⊢ ownW c k (landedW w e j) from (pointsTo_congr (landedW_eq w f k e j)).le))) $$ Hfl
  · iexact Ht2

/-- Waiting for the copy into a slot. -/
theorem wp_waitW (c : Dev nD) (k : Fin 8) (e : Fin 13) (j : Fin 7) (w : CT F main_arg2)
    {src : Memref sig .tc .hbm S1024x4096 .fp8e4m3} {dst : Memref sig .tc .vmem S1024x4096 .fp8e4m3} {sm : DmaSem sig}
    (h2 : dst.view.dmaCredit = amtW) (h3 : sm = semW k)
    {hsrc : src.view.WordExact} {hdst : dst.view.WordExact}
    {α : Type} {kk : PUnit → Prog (TpuEff nD τ sig (Elt F) (Λ₀ F) .tc) α} {Q : α → sProp 𝕄} :
    iprop(flyW c k w e j ∗ (∃ W, owes (c : Thread nD τ) 0 W))
      ⊢ iprop((iprop(ownW c k (landedW w e j) ∗ tokW c k w ∗ semVal ((c : Thread nD τ), .dma (semW k)) 0 ∗ (∃ W, owes (c : Thread nD τ) 0 W))
          -∗ run c (kk ⟨⟩) Q)
        -∗ run c (.op (.waitDma2 sm src dst hsrc hdst) kk) Q) := by
  subst h3
  have hsp := (pointsTo_split_subset (ℓ := (c : Thread nD τ).loc main_arg2) (I := (srcW e j).view.set) (S := Finset.univ)
    (q := Transfers.shareTok fullShare 8 k) (f := (w : Buf (Elt F) ((c : Thread nD τ).loc main_arg2))) (Ix := Unit) (Name := ℕ)
    (U := Pipeline.UD sig nD τ) (Lvl := ℕ) (Finset.subset_univ _)).2
  unfold flyW
  iintro ⟨⟨Hfl, Ht2⟩, ⟨%W, HW⟩⟩ Hk
  iapply (Transfers.wp_waitLocal (EC F) 𝒱₀ (c : Thread nD τ) none () (N := amtW) (dstw := dst) h2) $$ [Hfl HW]
  · isplitl [Hfl]; · iexact Hfl
    iexact HW
  iintro ⟨⟨Ho, Ht1⟩, Hs, HW⟩
  iapply Hk
  isplitl [Ho]; · iexact Ho
  isplitl [Ht1 Ht2]
  · iapply hsp
    isplitl [Ht1]; · iexact Ht1
    iexact Ht2
  isplitl [Hs]; · iexact Hs
  iexists _; iexact HW

/-! ## Scales -/

/-- A slot is inside the ring of scales. -/
theorem inbSlotS (k : Fin 8) : ∀ a, (![k.val, 0, 0] : Fin 3 → ℕ) a + S1x32x4096.size a ≤ S8x32x4096.size a := fun a => by
  have := k.isLt
  match a with
  | 0 => show k.val + 1 ≤ 8; omega
  | 1 => show 0 + 32 ≤ 32; omega
  | 2 => show 0 + 4096 ≤ 4096; omega

/-- A chunk of an expert's scales is inside the scales. -/
theorem inbSrcS (e : Fin 13) (j : Fin 7) : ∀ a, (![e.val, 32 * j.val, 0] : Fin 3 → ℕ) a + S1x32x4096.size a ≤ S13x224x4096.size a :=
  fun a => by
  have := e.isLt
  have := j.isLt
  match a with
  | 0 => show e.val + 1 ≤ 13; omega
  | 1 => show 32 * j.val + 32 ≤ 224; omega
  | 2 => show 0 + 4096 ≤ 4096; omega

/-- Slot `k` of the ring. -/
abbrev slotS (k : Fin 8) : Memref sig .tc .vmem S32x4096 .i8 :=
  ((Memref.whole cc0_scratch2).slice (Rect.unit (s := S8x32x4096) ![k.val, 0, 0] S1x32x4096.size (inbSlotS k)) (fun _ => rfl)).squeeze
    S32x4096 squeezes_S1x32x4096_S32x4096

/-- Block `j` of expert `e`. -/
abbrev srcS (e : Fin 13) (j : Fin 7) : Memref sig .tc .hbm S32x4096 .i8 :=
  ((Memref.whole main_arg3).slice (Rect.unit (s := S13x224x4096) ![e.val, 32 * j.val, 0] S1x32x4096.size (inbSrcS e j)) (fun _ => rfl)).squeeze
    S32x4096 squeezes_S1x32x4096_S32x4096

/-- The semaphore of slot `k`. -/
abbrev semS (k : Fin 8) : DmaSem sig :=
  ((cc0_scratch10.slice (Rect.unit (s := S8) ![k.val] S1.size (inbSem k))).squeeze S_ squeezes_S1_S_).sem

/-- The places of slot `k` in the ring's buffer. -/
def setS (k : Fin 8) : Finset (cc0_scratch2.ty.Idx) := Finset.univ.filter fun i : S8x32x4096.Idx => (i 0).val = k.val

/-- A ring buffer all of whose slots hold block `j` of expert `e`. -/
def landedS (w : CT F main_arg3) (e : Fin 13) (j : Fin 7) : CT F cc0_scratch2 := fun i =>
  w (show S13x224x4096.Idx from fun a => match a with
    | 0 => e
    | 1 => (⟨32 * j.val + (i 1).val, by have h1 : (i 1).val < 32 := (i 1).isLt; have := j.isLt; omega⟩ : Fin 224)
    | 2 => i 2)

/-- A slot of scales holds the slot's elements only. -/
theorem slotSetS (k : Fin 8) : (slotS k).view.set ⊆ setS k := by
  intro i hi
  obtain ⟨x, -, rfl⟩ := Finset.mem_map.mp hi
  unfold setS
  rw [Finset.mem_filter]
  refine ⟨Finset.mem_univ _, ?_⟩
  have h0 : ((Shape.reshapeEquiv squeezes_S1x32x4096_S32x4096.numel_eq x) 0).val = 0 := Nat.lt_one_iff.mp (Fin.isLt _)
  show k.val + 1 * ((Shape.reshapeEquiv squeezes_S1x32x4096_S32x4096.numel_eq x) 0).val = k.val
  rw [h0]; omega

omit [FloatOps F] in
/-- The block read off the source and written into the slot is the block landed. -/
theorem landedS_eq (w : CT F main_arg3) (f : CT F cc0_scratch2) (k : Fin 8) (e : Fin 13) (j : Fin 7) :
    ∀ i ∈ setS k, (slotS k).view.write (Elt F) f ((srcS e j).view.read (Elt F) w) Finset.univ i = landedS w e j i := by
  intro i hi
  have hk : (i 0).val = k.val := (Finset.mem_filter.mp hi).2
  let y : S1x32x4096.Idx := fun a => match a with
    | 0 => (⟨0, Nat.one_pos⟩ : Fin 1)
    | 1 => i 1
    | 2 => i 2
  have hx : (slotS k).view.emb ((Shape.reshapeEquiv squeezes_S1x32x4096_S32x4096.numel_eq).symm y) = i := by
    show (Rect.unit (s := S8x32x4096) ![k.val, 0, 0] S1x32x4096.size (inbSlotS k)).emb
      (Shape.reshapeEquiv squeezes_S1x32x4096_S32x4096.numel_eq ((Shape.reshapeEquiv squeezes_S1x32x4096_S32x4096.numel_eq).symm y)) = i
    rw [Equiv.apply_symm_apply]
    funext a
    match a with
    | 0 => exact Fin.ext (by show k.val + 1 * 0 = (i 0).val; rw [hk]; omega)
    | 1 => exact Fin.ext (by show 0 + 1 * (i 1).val = (i 1).val; omega)
    | 2 => exact Fin.ext (by show 0 + 1 * (i 2).val = (i 2).val; omega)
  conv_lhs => rw [← hx]
  rw [View.write_emb_of_mem _ _ (Finset.mem_univ _), View.read_apply]
  show w ((Rect.unit (s := S13x224x4096) ![e.val, 32 * j.val, 0] S1x32x4096.size (inbSrcS e j)).emb
      (Shape.reshapeEquiv squeezes_S1x32x4096_S32x4096.numel_eq ((Shape.reshapeEquiv squeezes_S1x32x4096_S32x4096.numel_eq).symm y))) = _
  rw [Equiv.apply_symm_apply]
  unfold landedS
  congr 1
  funext a
  match a with
  | 0 => exact Fin.ext (by show e.val + 1 * 0 = e.val; omega)
  | 1 => exact Fin.ext (by show 32 * j.val + 1 * (i 1).val = 32 * j.val + (i 1).val; omega)
  | 2 => exact Fin.ext (by show 0 + 1 * (i 2).val = (i 2).val; omega)

/-- Slot `k` of the ring held at `f`. -/
abbrev ownS (c : Dev nD) (k : Fin 8) (f : CT F cc0_scratch2) : sProp 𝕄 :=
  ((c : Thread nD τ).loc cc0_scratch2) ↦[setS k]{fullShare} (f : Buf (Elt F) ((c : Thread nD τ).loc cc0_scratch2))

/-- Slot `k`'s read token of the source. -/
abbrev tokS (c : Dev nD) (k : Fin 8) (w : CT F main_arg3) : sProp 𝕄 :=
  ((c : Thread nD τ).loc main_arg3) ↦{Transfers.shareTok fullShare 8 k} (w : Buf (Elt F) ((c : Thread nD τ).loc main_arg3))

/-- The amount that one copy signals. -/
abbrev amtS : ℕ := (slotS 0).view.amount (.dma (semS 0))

/-- A copy of scales is of a positive amount. -/
theorem amtS_pos : 0 < amtS := View.amount_pos _ _ (Shape.numel_pos fun a => by match a with | 0 => exact Nat.succ_pos _ | 1 => exact Nat.succ_pos _)

/-- Every slot of scales takes the same amount. -/
theorem amtS_eq (k : Fin 8) : (slotS k).view.amount (.dma (semS k)) = amtS := rfl

/-- Every slot of scales pays the same amount. -/
theorem crdS_eq (k : Fin 8) : (slotS k).view.dmaCredit = amtS := rfl

/-- A copy of block `j` of expert `e` into slot `k` on its way. -/
def flyS (c : Dev nD) (k : Fin 8) (w : CT F main_arg3) (e : Fin 13) (j : Fin 7) : sProp 𝕄 :=
  iprop(Transfers.Flight (EC F) (c : Thread nD τ) (.dma (semS k)) () amtS
      iprop(ownS c k (landedS w e j) ∗ ((c : Thread nD τ).loc main_arg3 ↦[(srcS e j).view.set]{Transfers.shareTok fullShare 8 k} (w : Buf (Elt F) ((c : Thread nD τ).loc main_arg3))))
    ∗ ((c : Thread nD τ).loc main_arg3 ↦[Finset.univ \ (srcS e j).view.set]{Transfers.shareTok fullShare 8 k} (w : Buf (Elt F) ((c : Thread nD τ).loc main_arg3))))

/-- Starting a copy into a free slot. -/
theorem wp_startS (c : Dev nD) (k : Fin 8) (e : Fin 13) (j : Fin 7) (w : CT F main_arg3)
    {src : Memref sig .tc .hbm S32x4096 .i8} {dst : Memref sig .tc .vmem S32x4096 .i8} {sm : DmaSem sig}
    (h1 : src = srcS e j) (h2 : dst = slotS k) (h3 : sm = semS k)
    {hsrc : src.view.WordExact} {hdst : dst.view.WordExact} {hsem : DmaTarget.Typed (nD := nD) (p := (.tc : Proc τ)) .hbm (.dma sm) (.here dst)}
    {α : Type} {kk : PUnit → Prog (TpuEff nD τ sig (Elt F) (Λ₀ F) .tc) α} {Q : α → sProp 𝕄} :
    iprop((∃ f, ownS c k f) ∗ tokS c k w ∗ semVal ((c : Thread nD τ), .dma (semS k)) 0)
      ⊢ iprop((flyS c k w e j -∗ run c (kk ⟨⟩) Q)
        -∗ run c (.op (.enqueueDma src (.here dst) (.dma sm) hsrc hdst hsem) kk) Q) := by
  subst h1 h2 h3
  iintro ⟨⟨%f, Hf⟩, Ht, Hs⟩ Hk
  have hsp := (pointsTo_split_subset (ℓ := (c : Thread nD τ).loc main_arg3) (I := (srcS e j).view.set) (S := Finset.univ)
    (q := Transfers.shareTok fullShare 8 k) (f := (w : Buf (Elt F) ((c : Thread nD τ).loc main_arg3))) (Ix := Unit) (Name := ℕ)
    (U := Pipeline.UD sig nD τ) (Lvl := ℕ) (Finset.subset_univ _)).1
  ihave Ht2 := hsp $$ Ht
  icases Ht2 with ⟨Ht1, Ht2⟩
  iapply (Transfers.wp_dmaLocal (EC F) 𝒱₀ (c : Thread nD τ) none () amtS (amtS_eq k) amtS_pos (slotSetS k)) $$ [Hf Ht1 Hs]
  · isplitl [Ht1]; · iexact Ht1
    isplitl [Hf]; · iexact Hf
    iexact Hs
  iintro Hfl
  iapply Hk
  unfold flyS
  isplitl [Hfl]
  · iapply (Transfers.Flight_mono (EC F) (c : Thread nD τ) (D' := iprop(ownS c k (landedS w e j) ∗ ((c : Thread nD τ).loc main_arg3 ↦[(srcS e j).view.set]{Transfers.shareTok fullShare 8 k} (w : Buf (Elt F) ((c : Thread nD τ).loc main_arg3)))))
      (sep_mono_left (show _ ⊢ ownS c k (landedS w e j) from (pointsTo_congr (landedS_eq w f k e j)).le))) $$ Hfl
  · iexact Ht2

/-- Waiting for the copy into a slot. -/
theorem wp_waitS (c : Dev nD) (k : Fin 8) (e : Fin 13) (j : Fin 7) (w : CT F main_arg3)
    {src : Memref sig .tc .hbm S32x4096 .i8} {dst : Memref sig .tc .vmem S32x4096 .i8} {sm : DmaSem sig}
    (h2 : dst.view.dmaCredit = amtS) (h3 : sm = semS k)
    {hsrc : src.view.WordExact} {hdst : dst.view.WordExact}
    {α : Type} {kk : PUnit → Prog (TpuEff nD τ sig (Elt F) (Λ₀ F) .tc) α} {Q : α → sProp 𝕄} :
    iprop(flyS c k w e j ∗ (∃ W, owes (c : Thread nD τ) 0 W))
      ⊢ iprop((iprop(ownS c k (landedS w e j) ∗ tokS c k w ∗ semVal ((c : Thread nD τ), .dma (semS k)) 0 ∗ (∃ W, owes (c : Thread nD τ) 0 W))
          -∗ run c (kk ⟨⟩) Q)
        -∗ run c (.op (.waitDma2 sm src dst hsrc hdst) kk) Q) := by
  subst h3
  have hsp := (pointsTo_split_subset (ℓ := (c : Thread nD τ).loc main_arg3) (I := (srcS e j).view.set) (S := Finset.univ)
    (q := Transfers.shareTok fullShare 8 k) (f := (w : Buf (Elt F) ((c : Thread nD τ).loc main_arg3))) (Ix := Unit) (Name := ℕ)
    (U := Pipeline.UD sig nD τ) (Lvl := ℕ) (Finset.subset_univ _)).2
  unfold flyS
  iintro ⟨⟨Hfl, Ht2⟩, ⟨%W, HW⟩⟩ Hk
  iapply (Transfers.wp_waitLocal (EC F) 𝒱₀ (c : Thread nD τ) none () (N := amtS) (dstw := dst) h2) $$ [Hfl HW]
  · isplitl [Hfl]; · iexact Hfl
    iexact HW
  iintro ⟨⟨Ho, Ht1⟩, Hs, HW⟩
  iapply Hk
  isplitl [Ho]; · iexact Ho
  isplitl [Ht1 Ht2]
  · iapply hsp
    isplitl [Ht1]; · iexact Ht1
    iexact Ht2
  isplitl [Hs]; · iexact Hs
  iexists _; iexact HW

/-! ## Both rings -/

/-- Slot `k` of both rings: free, or with the copies of block `j` of expert `e` on their way into it. -/
def slotΦ (c : Dev nD) (w : CT F main_arg2) (ws : CT F main_arg3) (k : Fin 8) : Option (Fin 13 × Fin 7) → sProp 𝕄
  | none => iprop(((∃ f, ownW c k f) ∗ tokW c k w ∗ semVal ((c : Thread nD τ), .dma (semW k)) 0)
      ∗ ((∃ f, ownS c k f) ∗ tokS c k ws ∗ semVal ((c : Thread nD τ), .dma (semS k)) 0))
  | some (e, j) => iprop(flyW c k w e j ∗ flyS c k ws e j)

/-- What a free slot holds. -/
theorem slotΦ_none (c : Dev nD) (w : CT F main_arg2) (ws : CT F main_arg3) (k : Fin 8) :
    slotΦ c w ws k none = iprop(((∃ f, ownW c k f) ∗ tokW c k w ∗ semVal ((c : Thread nD τ), .dma (semW k)) 0)
      ∗ ((∃ f, ownS c k f) ∗ tokS c k ws ∗ semVal ((c : Thread nD τ), .dma (semS k)) 0)) := rfl

/-- What a slot with a copy under way holds. -/
theorem slotΦ_some (c : Dev nD) (w : CT F main_arg2) (ws : CT F main_arg3) (k : Fin 8) (e : Fin 13) (j : Fin 7) :
    slotΦ c w ws k (some (e, j)) = iprop(flyW c k w e j ∗ flyS c k ws e j) := rfl

/-- The rings, slot by slot. -/
abbrev ring (c : Dev nD) (w : CT F main_arg2) (ws : CT F main_arg3) (st : Fin 8 → Option (Fin 13 × Fin 7)) : sProp 𝕄 :=
  Ring.AtW (slotΦ c w ws) st

/-- The rings but for slot `k`. -/
abbrev ringBut (c : Dev nD) (w : CT F main_arg2) (ws : CT F main_arg3) (st : Fin 8 → Option (Fin 13 × Fin 7)) (k : Fin 8) : sProp 𝕄 :=
  Ring.restW (slotΦ c w ws) st k

/-- The two copies of one block are started. -/
theorem wp_start (c : Dev nD) (st : Fin 8 → Option (Fin 13 × Fin 7)) (k : Fin 8) (hk : st k = none) (e : Fin 13) (j : Fin 7)
    (w : CT F main_arg2) (ws : CT F main_arg3)
    {src : Memref sig .tc .hbm S1024x4096 .fp8e4m3} {dst : Memref sig .tc .vmem S1024x4096 .fp8e4m3} {sm : DmaSem sig}
    {src' : Memref sig .tc .hbm S32x4096 .i8} {dst' : Memref sig .tc .vmem S32x4096 .i8} {sm' : DmaSem sig}
    (h1 : src = srcW e j) (h2 : dst = slotW k) (h3 : sm = semW k)
    (h1' : src' = srcS e j) (h2' : dst' = slotS k) (h3' : sm' = semS k)
    {hsrc : src.view.WordExact} {hdst : dst.view.WordExact} {hsem : DmaTarget.Typed (nD := nD) (p := (.tc : Proc τ)) .hbm (.dma sm) (.here dst)}
    {hsrc' : src'.view.WordExact} {hdst' : dst'.view.WordExact} {hsem' : DmaTarget.Typed (nD := nD) (p := (.tc : Proc τ)) .hbm (.dma sm') (.here dst')}
    {α : Type} {kk : PUnit → Prog (TpuEff nD τ sig (Elt F) (Λ₀ F) .tc) α} {Q : α → sProp 𝕄} :
    ring c w ws st
      ⊢ iprop((ring c w ws (Function.update st k (some (e, j))) -∗ run c (kk ⟨⟩) Q)
        -∗ run c (.op (.enqueueDma src (.here dst) (.dma sm) hsrc hdst hsem) fun _ =>
            .op (.enqueueDma src' (.here dst') (.dma sm') hsrc' hdst' hsem') kk) Q) := by
  show Ring.AtW _ _ ⊢ _
  rw [Ring.AtW_focus _ st k, hk, slotΦ_none]
  iintro ⟨⟨HW, HS⟩, Hr⟩ Hk
  iapply (wp_startW c k e j w h1 h2 h3) $$ HW; iintro HW
  iapply (wp_startS c k e j ws h1' h2' h3') $$ HS; iintro HS
  iapply Hk
  iapply (Ring.AtW_update (slotΦ c w ws) st k (some (e, j)))
  isplitr [Hr]
  · rw [slotΦ_some]
    isplitl [HW]; · iexact HW
    iexact HS
  · iexact Hr

/-- What is held of a slot whose block has landed. -/
def landed (c : Dev nD) (w : CT F main_arg2) (ws : CT F main_arg3) (k : Fin 8) (e : Fin 13) (j : Fin 7) : sProp 𝕄 :=
  iprop((ownW c k (landedW w e j) ∗ tokW c k w ∗ semVal ((c : Thread nD τ), .dma (semW k)) 0)
      ∗ (ownS c k (landedS ws e j) ∗ tokS c k ws ∗ semVal ((c : Thread nD τ), .dma (semS k)) 0))

/-- The two copies of one block are awaited. -/
theorem wp_wait (c : Dev nD) (st : Fin 8 → Option (Fin 13 × Fin 7)) (k : Fin 8) (e : Fin 13) (j : Fin 7) (hk : st k = some (e, j))
    (w : CT F main_arg2) (ws : CT F main_arg3)
    {src : Memref sig .tc .hbm S1024x4096 .fp8e4m3} {dst : Memref sig .tc .vmem S1024x4096 .fp8e4m3} {sm : DmaSem sig}
    {src' : Memref sig .tc .hbm S32x4096 .i8} {dst' : Memref sig .tc .vmem S32x4096 .i8} {sm' : DmaSem sig}
    (h2 : dst.view.dmaCredit = amtW) (h3 : sm = semW k) (h2' : dst'.view.dmaCredit = amtS) (h3' : sm' = semS k)
    {hsrc : src.view.WordExact} {hdst : dst.view.WordExact} {hsrc' : src'.view.WordExact} {hdst' : dst'.view.WordExact}
    {α : Type} {kk : PUnit → Prog (TpuEff nD τ sig (Elt F) (Λ₀ F) .tc) α} {Q : α → sProp 𝕄} :
    iprop(ring c w ws st ∗ (∃ W, owes (c : Thread nD τ) 0 W))
      ⊢ iprop((iprop(landed c w ws k e j ∗ ringBut c w ws st k ∗ (∃ W, owes (c : Thread nD τ) 0 W)) -∗ run c (kk ⟨⟩) Q)
        -∗ run c (.op (.waitDma2 sm src dst hsrc hdst) fun _ => .op (.waitDma2 sm' src' dst' hsrc' hdst') kk) Q) := by
  show iprop(Ring.AtW _ _ ∗ _) ⊢ _
  rw [Ring.AtW_focus _ st k, hk, slotΦ_some]
  iintro ⟨⟨⟨HW, HS⟩, Hr⟩, Ho⟩ Hk
  iapply (wp_waitW c k e j w h2 h3) $$ [HW Ho]
  · isplitl [HW]; · iexact HW
    iexact Ho
  iintro ⟨HW1, HW2, HW3, Ho⟩
  iapply (wp_waitS c k e j ws h2' h3') $$ [HS Ho]
  · isplitl [HS]; · iexact HS
    iexact Ho
  iintro ⟨HS1, HS2, HS3, Ho⟩
  iapply Hk
  unfold landed
  isplitr [Hr Ho]
  · isplitl [HW1 HW2 HW3]
    · isplitl [HW1]; · iexact HW1
      isplitl [HW2]; · iexact HW2
      iexact HW3
    · isplitl [HS1]; · iexact HS1
      isplitl [HS2]; · iexact HS2
      iexact HS3
  isplitl [Hr]; · iexact Hr
  iexact Ho

/-- A slot whose block was used is free again. -/
theorem free (c : Dev nD) (st : Fin 8 → Option (Fin 13 × Fin 7)) (k : Fin 8) (e : Fin 13) (j : Fin 7) (w : CT F main_arg2) (ws : CT F main_arg3) :
    iprop(landed c w ws k e j ∗ ringBut c w ws st k) ⊢ ring c w ws (Function.update st k none) := by
  unfold landed
  iintro ⟨⟨⟨HW1, HW2, HW3⟩, ⟨HS1, HS2, HS3⟩⟩, Hr⟩
  iapply (Ring.AtW_update (slotΦ c w ws) st k none)
  isplitr [Hr]
  · rw [slotΦ_none]
    isplitl [HW1 HW2 HW3]
    · isplitl [HW1]; · iexists _; iexact HW1
      isplitl [HW2]; · iexact HW2
      iexact HW3
    · isplitl [HS1]; · iexists _; iexact HS1
      isplitl [HS2]; · iexact HS2
      iexact HS3
  · iexact Hr

/-! ## Which slots are in use -/

/-- The steps from `a` to before `b` are on their way, step `s` in slot `s` modulo 8, with block `g s`. -/
def win (g : ℕ → Fin 13 × Fin 7) (a b : ℕ) (k : Fin 8) : Option (Fin 13 × Fin 7) :=
  if a + (k.val + 8 - a % 8) % 8 < b then some (g (a + (k.val + 8 - a % 8) % 8)) else none

/-- The slot of step `s`. -/
def slotN (s : ℕ) : Fin 8 := ⟨s % 8, Nat.mod_lt _ (by decide)⟩

/-- The oldest tile under way is in its slot. -/
theorem win_first (g : ℕ → Fin 13 × Fin 7) {a b : ℕ} (h : a < b) : win g a b (slotN a) = some (g a) := by
  unfold win slotN
  have : (a % 8 + 8 - a % 8) % 8 = 0 := by omega
  simp only [this, Nat.add_zero, h, if_true]

/-- The next tile's slot is free. -/
theorem win_next (g : ℕ → Fin 13 × Fin 7) {a b : ℕ} (hab : a ≤ b) (h : b < a + 8) : win g a b (slotN b) = none := by
  unfold win slotN
  have : ¬ a + (b % 8 + 8 - a % 8) % 8 < b := by omega
  simp only [this, if_false]

/-- Starting the next tile fills its slot. -/
theorem win_start (g : ℕ → Fin 13 × Fin 7) {a b : ℕ} (hab : a ≤ b) (h : b < a + 8) :
    Function.update (win g a b) (slotN b) (some (g b)) = win g a (b + 1) := by
  funext k
  by_cases hk : k = slotN b
  · subst hk
    rw [Function.update_self]
    unfold win slotN
    have : a + (b % 8 + 8 - a % 8) % 8 = b := by omega
    simp only [this, Nat.lt_succ_self, if_true]
  · rw [Function.update_of_ne hk]
    have hne : k.val ≠ b % 8 := fun h => hk (Fin.ext h)
    have := k.isLt
    unfold win
    by_cases hb : a + (k.val + 8 - a % 8) % 8 < b
    · rw [if_pos hb, if_pos (by omega)]
    · rw [if_neg hb, if_neg (by omega)]

/-- Finishing the oldest tile frees its slot. -/
theorem win_free (g : ℕ → Fin 13 × Fin 7) {a b : ℕ} (h : b ≤ a + 8) :
    Function.update (win g a b) (slotN a) none = win g (a + 1) b := by
  funext k
  by_cases hk : k = slotN a
  · subst hk
    rw [Function.update_self]
    unfold win slotN
    have : ¬ a + 1 + (a % 8 + 8 - (a + 1) % 8) % 8 < b := by omega
    simp only [this, if_false]
  · rw [Function.update_of_ne hk]
    have hne : k.val ≠ a % 8 := fun h => hk (Fin.ext h)
    have := k.isLt
    unfold win
    have : a + 1 + (k.val + 8 - (a + 1) % 8) % 8 = a + (k.val + 8 - a % 8) % 8 := by omega
    rw [this]

/-- With no tile under way every slot is free. -/
theorem win_empty (g : ℕ → Fin 13 × Fin 7) {a b : ℕ} (h : b ≤ a) : win g a b = fun _ => none := by
  funext k
  unfold win
  rw [if_neg (by omega)]

end Cert.Proof.KernelIdeal

end
-- ==== Proof.PI.Offs.lean ====
/- Closed forms of the offsets that the kernel computes, proved by running through their finitely many arguments. -/
module

public import proofs.«01_k».proof.Proof.PI.Checks

@[expose] public section

set_option maxRecDepth 16384

noncomputable section

namespace Cert.Proof.KernelIdeal

open Cert.KernelIdeal Cert.KernelIdeal.Gen
open Idealize.ShloMosaic

/-- The semaphore of the weights of the tile seven steps ahead. -/
theorem off16_n : ∀ (n : Fin 15) (t : Fin (k0_t5_loop (w32 n.val)).trips) (k : Fin k0_t6_loop.trips),
    k0_off16 (w32 n.val) t k = ![(7 * t.val + k.val + 7) % 8] := by decide +kernel

/-- The semaphore of the scales of the tile seven steps ahead. -/
theorem off19_n : ∀ (n : Fin 15) (t : Fin (k0_t5_loop (w32 n.val)).trips) (k : Fin k0_t6_loop.trips),
    k0_off19 (w32 n.val) t k = ![(7 * t.val + k.val + 7) % 8] := by decide +kernel

/-- The slot of the scales of the tile seven steps ahead. -/
theorem off20_n : ∀ (n : Fin 15) (t : Fin (k0_t5_loop (w32 n.val)).trips) (k : Fin k0_t6_loop.trips),
    k0_off20 (w32 n.val) t k = ![(7 * t.val + k.val + 7) % 8, 0, 0] := by decide +kernel

/-- Where an item's expert is read. -/
theorem off22_n : ∀ (n : Fin 15) (t : Fin (k0_t5_loop (w32 n.val)).trips) (k : Fin k0_t6_loop.trips),
    k0_off22 (w32 n.val) t k = ![0, t.val] := by decide +kernel

/-- The semaphore of the weights of a step. -/
theorem off23_n : ∀ (n : Fin 15) (t : Fin (k0_t5_loop (w32 n.val)).trips) (k : Fin k0_t6_loop.trips),
    k0_off23 (w32 n.val) t k = ![(7 * t.val + k.val) % 8] := by decide +kernel

/-- The semaphore of the scales of a step. -/
theorem off26_n : ∀ (n : Fin 15) (t : Fin (k0_t5_loop (w32 n.val)).trips) (k : Fin k0_t6_loop.trips),
    k0_off26 (w32 n.val) t k = ![(7 * t.val + k.val) % 8] := by decide +kernel

/-- The slot of the scales of a step. -/
theorem off29_n : ∀ (n : Fin 15) (t : Fin (k0_t5_loop (w32 n.val)).trips) (k : Fin k0_t6_loop.trips),
    k0_off29 (w32 n.val) t k = ![(7 * t.val + k.val) % 8, 0, 0] := by decide +kernel

/-- The scales of the tile seven steps ahead. -/
theorem off21_n : ∀ (n : Fin 15) (t : Fin (k0_t5_loop (w32 n.val)).trips) (k : Fin k0_t6_loop.trips) (e : Fin 13),
    k0_off21 (w32 n.val) t k (w32 e.val) = ![e.val, 32 * ((7 * t.val + k.val + 7) % 7), 0] := by decide +kernel

/-- Where an item's first own row is read. -/
theorem off34_n : ∀ (n : Fin 15) (t : Fin (k0_t5_loop (w32 n.val)).trips), k0_off34 (w32 n.val) t = ![2, t.val] := by
  decide +kernel

/-- Where the end of an item's own rows is read. -/
theorem off35_n : ∀ (n : Fin 15) (t : Fin (k0_t5_loop (w32 n.val)).trips), k0_off35 (w32 n.val) t = ![3, t.val] := by
  decide +kernel

/-- The weights of a first copy. -/
theorem off9_n : ∀ (t : Fin k0_t2_loop.trips) (e : Fin 13),
    k0_off9 t (w32 e.val) = ![e.val, 1024 * (t.val % 7), 0] := by decide +kernel

/-- The scales of a first copy. -/
theorem off12_n : ∀ (t : Fin k0_t2_loop.trips) (e : Fin 13),
    k0_off12 t (w32 e.val) = ![e.val, 32 * (t.val % 7), 0] := by decide +kernel

/-- A first copy is started when there is such a tile. -/
theorem cond1_n : ∀ (n : Fin 15) (t : Fin k0_t2_loop.trips),
    (k0_cond1 (w32 n.val) t = 1#1 ↔ t.val < 7 * n.val) := by decide +kernel

/-- The rows a product reads. -/
theorem off30_n : ∀ (r : Fin 9) (k : Fin k0_t6_loop.trips) (u : Fin k0_t8_loop.trips),
    k0_off30 (w32 (16 * r.val)) k u = ![16 * r.val, 1024 * k.val + 256 * u.val] := by decide +kernel

/-- The codes of a tile of an item. -/
theorem off38_n : ∀ (r : Fin 9) (a : Fin k0_t9_loop.trips) (b : Fin k0_t10_loop.trips),
    k0_off38 (w32 (16 * r.val)) a b = ![16 * r.val + 32 * a.val, 128 * b.val] := by decide +kernel

/-- The bytes of thirty-two rows of an item. -/
theorem off39_n : ∀ (r : Fin 9) (a : Fin k0_t9_loop.trips),
    k0_off39 (w32 (16 * r.val)) a = ![16 * r.val + 32 * a.val, 0] := by decide +kernel

/-- The scales a product reads. -/
theorem off32_n : ∀ (a : Fin k0_t7_loop.trips) (u : Fin k0_t8_loop.trips) (r : Fin 8),
    k0_off32 a u (BitVec.ofNat 32 r.val) = ![8 * u.val + r.val, 256 * a.val] := by decide +kernel

/-- The block of weights a product reads. -/
theorem off31_n (n : Fin 15) (t : Fin (k0_t5_loop (w32 n.val)).trips) (k : Fin k0_t6_loop.trips) (a : Fin k0_t7_loop.trips)
    (u : Fin k0_t8_loop.trips) (r : Fin 8) :
    k0_off31 (w32 n.val) t k a u (BitVec.ofNat 32 r.val)
      = ![(7 * t.val + k.val) % 8, 32 * (8 * u.val + r.val), 256 * a.val] := by
  have h1 : k0_off31 (w32 n.val) t k a u (BitVec.ofNat 32 r.val) 0 = k0_off29 (w32 n.val) t k 0 := rfl
  have h2 : ∀ (u : Fin k0_t8_loop.trips) (r : Fin 8),
      (Scalar.muli (Scalar.addi (Scalar.muli (Scf.iv 0#32 1#32 u) 8#32) (BitVec.ofNat 32 r.val)) 32#32).toNat
        = 32 * (8 * u.val + r.val) := by decide +kernel
  have h3 : k0_off31 (w32 n.val) t k a u (BitVec.ofNat 32 r.val) 2 = k0_off33 a 1 := rfl
  rw [off29_n] at h1
  rw [k0_off33_eq] at h3
  funext i
  match i with
  | 0 => exact h1
  | 1 => exact h2 u r
  | 2 => exact h3

end Cert.Proof.KernelIdeal

end
-- ==== Proof.PI.Vals.lean ====
/- What the kernel's loops compute, as functions of what the buffers hold: one function for the body of each loop and one
   for the whole loop. -/
module

public import proofs.«01_k».proof.Proof.PI.Ring
public import proofs.«01_k».proof.Proof.PI.Offs

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- `n` steps of `f` from `a`. -/
def iter {α : Type} (n : ℕ) (f : Fin n → α → α) (a : α) : ℕ → α
  | 0 => a
  | k + 1 => if h : k < n then f ⟨k, h⟩ (iter n f a k) else iter n f a k

/-- One more step of an iteration. -/
theorem iter_succ {α : Type} (n : ℕ) (f : Fin n → α → α) (a : α) (k : Fin n) :
    iter n f a (k.val + 1) = f k (iter n f a k.val) := by
  rw [iter, dif_pos k.isLt]

/-! ## The rows quantised -/

/-- A tile of the rows, quantised. -/
def xqTile (v33 : Vec F S16x128 .bf16) : Vec F S16x128 .bf16 :=
  let v71 := k0_pay2 v33
  let v98 := k0_pay7 v71 k0_pay3 k0_pay4
  let v165 := k0_pay9 v98 (k0_pay8 v71 k0_pay3 k0_pay4)
  k0_pay53 (k0_pay11 (k0_pay5 v71 k0_pay3 k0_pay4) (k0_pay6 (F := F)) v98 v165) (k0_pay12 v33 v98 v165)

/-- One tile of the rows' buffer quantised in place. -/
def xqStep (t3 : Fin k0_t3_loop.trips) (t4 : Fin k0_t4_loop.trips) (X : CT F cc0_scratch0) : CT F cc0_scratch0 :=
  let V : View sig .tc _ _ _ := (Memref.whole cc0_scratch0).access (Rect.unit (s := S256x7168) (k0_off13 t3 t4) S16x128.size (k0_off13_inb t3 t4))
  V.write (Elt F) X (xqTile (V.read (Elt F) X)) Finset.univ

/-- Sixteen rows quantised. -/
def xqRow (t3 : Fin k0_t3_loop.trips) (X : CT F cc0_scratch0) : CT F cc0_scratch0 := iter k0_t4_loop.trips (xqStep t3) X k0_t4_loop.trips

/-- All rows quantised. -/
def xqAll (X : CT F cc0_scratch0) : CT F cc0_scratch0 := iter k0_t3_loop.trips xqRow X k0_t3_loop.trips

/-! ## The products -/

/-- Thirty-two rows and 256 columns of block `j` of expert `e`: those at row `32 (8 k + u)` and column `256 t`. -/
def blkW (w : CT F main_arg2) (e : Fin 13) (j : Fin 7) (t7 : Fin k0_t7_loop.trips) (t8 : Fin k0_t8_loop.trips) (u : Fin 8) : Vec F S1x32x256 .fp8e4m3 :=
  fun x => w (show S13x7168x4096.Idx from fun a => match a with
    | 0 => e
    | 1 => (⟨1024 * j.val + (32 * (8 * t8.val + u.val) + (x 1).val), by
        have h1 : (x 1).val < 32 := (x 1).isLt; have h2 : t8.val < 4 := t8.isLt; omega⟩ : Fin 7168)
    | 2 => (⟨256 * t7.val + (x 2).val, by
        have h1 : (x 2).val < 256 := (x 2).isLt; have h2 : t7.val < 16 := t7.isLt; omega⟩ : Fin 4096))

/-- The scales of block `j` of expert `e`. -/
def blkS (ws : CT F main_arg3) (e : Fin 13) (j : Fin 7) : Vec F S1x32x4096 .i8 :=
  fun x => ws (show S13x224x4096.Idx from fun a => match a with
    | 0 => e
    | 1 => (⟨32 * j.val + (x 1).val, by have h1 : (x 1).val < 32 := (x 1).isLt; omega⟩ : Fin 224)
    | 2 => x 2)

/-- The buffer of a block's scale words. -/
def scOf (ws : CT F main_arg3) (e : Fin 13) (j : Fin 7) (SC : CT F cc0_scratch3) : CT F cc0_scratch3 :=
  ((Memref.whole cc0_scratch3).access (Rect.unit (s := S32x4096) ![0, 0] S32x4096.size inb_S32x4096_S32x4096_0_0) : View sig .tc _ _ _).write (Elt F) SC
    (k0_pay54 (k0_pay20 (blkS ws e j)) (k0_pay21 (blkS ws e j))) Finset.univ

/-- A row of scale words read. -/
def rdSC (SC : CT F cc0_scratch3) (t7 : Fin k0_t7_loop.trips) (t8 : Fin k0_t8_loop.trips) (u : Fin 8) : Vec F S1x256 .i32 :=
  ((Memref.whole cc0_scratch3).access (Rect.unit (s := S32x4096) (k0_off32 t7 t8 (BitVec.ofNat 32 u.val)) S1x256.size (k0_off32_inb t7 t8 u)) : View sig .tc _ _ _).read (Elt F) SC

/-- A tile of the quantised rows read. -/
def rdX (X : CT F cc0_scratch0) (r : Fin 9) (t6 : Fin k0_t6_loop.trips) (t8 : Fin k0_t8_loop.trips) : Vec F S128x256 .bf16 :=
  ((Memref.whole cc0_scratch0).access (Rect.unit (s := S256x7168) (k0_off30 (w32 (16 * r.val)) t6 t8) S128x256.size (k0_off30_inb (w32 (16 * r.val)) (chk4_n r) t6 t8)) : View sig .tc _ _ _).read (Elt F) X

/-- The block of a row tile's products with 256 rows of the weights, added to `a`. -/
def dotStep (X : CT F cc0_scratch0) (w : CT F main_arg2) (e : Fin 13) (r : Fin 9) (SC : CT F cc0_scratch3) (t6 : Fin k0_t6_loop.trips)
    (t7 : Fin k0_t7_loop.trips) (t8 : Fin k0_t8_loop.trips) (a : FVec F S128x256 .f32) : FVec F S128x256 .f32 :=
  k0_pay56 a (rdX X r t6 t8)
    (k0_pay18 (k0_pay13 (blkW w e t6 t7 t8 0) (rdSC SC t7 t8 0)) (k0_pay14 (blkW w e t6 t7 t8 1) (rdSC SC t7 t8 1))
      (k0_pay15 (blkW w e t6 t7 t8 2) (rdSC SC t7 t8 2)) (k0_pay16 (blkW w e t6 t7 t8 3) (rdSC SC t7 t8 3))
      (k0_pay17 (blkW w e t6 t7 t8 4) (rdSC SC t7 t8 4)) (blkW w e t6 t7 t8 5) (rdSC SC t7 t8 5) (blkW w e t6 t7 t8 6) (rdSC SC t7 t8 6)
      (blkW w e t6 t7 t8 7) (rdSC SC t7 t8 7))
    (constant S128x256 .f32 0x00000000#32)

/-- The products of a row tile with one block's 256 columns. -/
def dotCol (X : CT F cc0_scratch0) (w : CT F main_arg2) (e : Fin 13) (r : Fin 9) (SC : CT F cc0_scratch3) (t6 : Fin k0_t6_loop.trips)
    (t7 : Fin k0_t7_loop.trips) : FVec F S128x256 .f32 :=
  iter k0_t8_loop.trips (dotStep X w e r SC t6 t7) (k0_pay55 (F := F)) k0_t8_loop.trips

/-- 256 columns of the sums, with one block's products. -/
def accCol (X : CT F cc0_scratch0) (w : CT F main_arg2) (e : Fin 13) (r : Fin 9) (SC : CT F cc0_scratch3) (t6 : Fin k0_t6_loop.trips)
    (t7 : Fin k0_t7_loop.trips) (A : CT F cc0_scratch4) : CT F cc0_scratch4 :=
  let V : View sig .tc _ _ _ := (Memref.whole cc0_scratch4).access (Rect.unit (s := S128x4096) (k0_off33 t7) S128x256.size (k0_off33_inb t7))
  V.write (Elt F) A (k0_pay57 (Scf.iv 0#32 1#32 t6.val) (dotCol X w e r SC t6 t7) (V.read (Elt F) A)) Finset.univ

/-- The sums with one block's products. -/
def accBlk (X : CT F cc0_scratch0) (w : CT F main_arg2) (e : Fin 13) (r : Fin 9) (SC : CT F cc0_scratch3) (t6 : Fin k0_t6_loop.trips)
    (A : CT F cc0_scratch4) : CT F cc0_scratch4 :=
  iter k0_t7_loop.trips (accCol X w e r SC t6) A k0_t7_loop.trips

/-- The scale words and the sums after one block. -/
def blkStep (X : CT F cc0_scratch0) (w : CT F main_arg2) (ws : CT F main_arg3) (e : Fin 13) (r : Fin 9) (t6 : Fin k0_t6_loop.trips)
    (z : CT F cc0_scratch3 × CT F cc0_scratch4) : CT F cc0_scratch3 × CT F cc0_scratch4 :=
  (scOf ws e t6 z.1, accBlk X w e r (scOf ws e t6 z.1) t6 z.2)

/-- The scale words and the sums after all blocks of an item. -/
def blkAll (X : CT F cc0_scratch0) (w : CT F main_arg2) (ws : CT F main_arg3) (e : Fin 13) (r : Fin 9)
    (z : CT F cc0_scratch3 × CT F cc0_scratch4) : CT F cc0_scratch3 × CT F cc0_scratch4 :=
  iter k0_t6_loop.trips (blkStep X w ws e r) z k0_t6_loop.trips

/-! ## The results' rows -/

/-- The mask of an item's own rows. -/
abbrev ownRows (r : Fin 9) (lo hi : BitVec 32) (t9 : Fin k0_t9_loop.trips) : IVec S32x128 1 := k0_pay58 (F := F) (w32 (16 * r.val)) lo hi t9

/-- What 128 columns of 32 rows of the sums give: the codes' values and the scales' words. -/
def outTile (A : CT F cc0_scratch4) (r : Fin 9) (lo hi : BitVec 32) (t9 : Fin k0_t9_loop.trips) (t10 : Fin k0_t10_loop.trips) :
    FVec F S32x128 .f32 × IVec S32x128 32 :=
  let v71 : Vec F S32x128 .f32 := ((Memref.whole cc0_scratch4).access (Rect.unit (s := S128x4096) (k0_off36 t9 t10) S32x128.size (k0_off36_inb t9 t10)) : View sig .tc _ _ _).read (Elt F) A
  let v77 : Vec F S32x128 .f32 := ((Memref.whole cc0_scratch4).access (Rect.unit (s := S128x4096) (k0_off37 t9 t10) S32x128.size (k0_off37_inb t9 t10)) : View sig .tc _ _ _).read (Elt F) A
  let v48 : IVec S32x128 1 := ownRows (F := F) r lo hi t9
  let v82 := k0_pay22 v48 v71 v77
  let v107 := k0_pay23 v48 v71 v77
  let v110 := k0_pay24
  let v143 := k0_pay25 v107 v110 0#32
  let v155 := k0_pay26 v107 v110 0#32
  let v157 := k0_pay27 v107 v110 0#32
  let v199 := k0_pay28 v143 v155 v157
  let v201 := k0_pay29 v143 v155 v157
  (k0_pay31 v82 v143 v199 v201, k0_pay30 v143 v199 v201)

/-- 128 columns of 32 rows of the results. -/
def outStep (A : CT F cc0_scratch4) (r : Fin 9) (lo hi : BitVec 32) (t9 : Fin k0_t9_loop.trips) (t10 : Fin k0_t10_loop.trips)
    (z : CT F cc0_scratch5 × IVec S32x128 32) : CT F cc0_scratch5 × IVec S32x128 32 :=
  let V : View sig .tc _ _ _ := (Memref.whole cc0_scratch5).access (Rect.unit (s := S256x2048) (k0_off38 (w32 (16 * r.val)) t9 t10) S32x128.size (k0_off38_inb (w32 (16 * r.val)) (chk4_n r) t9 t10))
  (V.write (Elt F) z.1 (k0_pay60 (w32 (16 * r.val)) lo hi t9 (outTile A r lo hi t9 t10).1 (Scalar.ofBits .f32 0xC3E00000#32) (V.read (Elt F) z.1)) Finset.univ,
    k0_pay61 z.2 (Scf.iv 0#32 1#32 t10.val) (outTile A r lo hi t9 t10).2)

/-- 32 rows of the results. -/
def outRow (A : CT F cc0_scratch4) (r : Fin 9) (lo hi : BitVec 32) (t9 : Fin k0_t9_loop.trips)
    (z : CT F cc0_scratch5 × CT F cc0_scratch6) : CT F cc0_scratch5 × CT F cc0_scratch6 :=
  let V : View sig .tc _ _ _ := (Memref.whole cc0_scratch6).access (Rect.unit (s := S256x128) (k0_off39 (w32 (16 * r.val)) t9) S32x128.size (k0_off39_inb (w32 (16 * r.val)) (chk4_n r) t9))
  let o := iter k0_t10_loop.trips (outStep A r lo hi t9) (z.1, k0_pay59) k0_t10_loop.trips
  (o.1, V.write (Elt F) z.2 (k0_pay62 (w32 (16 * r.val)) lo hi t9 o.2 (V.read (Elt F) z.2)) Finset.univ)

/-- The rows of one item. -/
def outAll (A : CT F cc0_scratch4) (r : Fin 9) (lo hi : BitVec 32) (z : CT F cc0_scratch5 × CT F cc0_scratch6) : CT F cc0_scratch5 × CT F cc0_scratch6 :=
  iter k0_t9_loop.trips (outRow A r lo hi) z k0_t9_loop.trips

end Cert.Proof.KernelIdeal

end
-- ==== Proof.PI.Comp.lean ====
/- The loops that compute, run: each ends with its buffers holding what the functions of the loops say. -/
module

public import proofs.«01_k».proof.Proof.PI.Vals

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- A load through a rectangle inside a slot of the ring of weights. -/
theorem wp_ldW (c : Dev nD) (k : Fin 8) {r : Rect S8x1024x4096} {hl : (Memref.whole cc0_scratch1 : Memref sig .tc _ _ _).view.LoadsAt r.toLoadRect}
    {α : Type} {Q : α → sProp 𝕄}
    {kk : (r.shape.Idx → Elt F .fp8e4m3) → Prog (TpuEff nD τ sig (Elt F) (Λ₀ F) .tc) α} {f : CT F cc0_scratch1}
    (hs : ((Memref.whole cc0_scratch1).access r : View sig .tc _ _ _).set ⊆ setW k) :
    ownW c k f ⊢ iprop((ownW c k f -∗ run c (kk (((Memref.whole cc0_scratch1).access r : View sig .tc _ _ _).read (Elt F) f)) Q)
        -∗ run c (.op (.load (Memref.whole cc0_scratch1) r.toLoadRect hl) kk) Q) :=
  wp_load_rect 𝒱₀ (c : Thread nD τ) none Set.univ (m := Memref.whole cc0_scratch1) (r := r) hs

/-- A load through a rectangle inside a slot of the ring of scales. -/
theorem wp_ldS (c : Dev nD) (k : Fin 8) {r : Rect S8x32x4096} {hl : (Memref.whole cc0_scratch2 : Memref sig .tc _ _ _).view.LoadsAt r.toLoadRect}
    {α : Type} {Q : α → sProp 𝕄}
    {kk : (r.shape.Idx → Elt F .i8) → Prog (TpuEff nD τ sig (Elt F) (Λ₀ F) .tc) α} {f : CT F cc0_scratch2}
    (hs : ((Memref.whole cc0_scratch2).access r : View sig .tc _ _ _).set ⊆ setS k) :
    ownS c k f ⊢ iprop((ownS c k f -∗ run c (kk (((Memref.whole cc0_scratch2).access r : View sig .tc _ _ _).read (Elt F) f)) Q)
        -∗ run c (.op (.load (Memref.whole cc0_scratch2) r.toLoadRect hl) kk) Q) :=
  wp_load_rect 𝒱₀ (c : Thread nD τ) none Set.univ (m := Memref.whole cc0_scratch2) (r := r) hs

/-- A counted loop, by an invariant. -/
theorem run_for (c : Dev nD) {m : ℕ} (L : Scf.Loop m) (hok : L.OK) {σ : Type} (init : σ)
    (body : Fin L.trips → σ → Prog (TpuEff nD τ sig (Elt F) (Λ₀ F) .tc) σ) (I : ℕ → σ → sProp 𝕄)
    (hbody : ∀ (k : Fin L.trips) (a : σ), I k.val a ⊢ run c (body k a) (I (k.val + 1))) {Q : σ → sProp 𝕄} :
    iprop(I 0 init ∗ (∀ a, I L.trips a -∗ Q a)) ⊢ run c (Scf.Loop.for L hok init body) Q :=
  Scf.wp_for frame (wpE (defs₀ (F := F)) 𝒱₀ (c : Thread nD τ) none) Set.univ _ _ _ _ _ _ I hbody

/-! ## The slot's reads -/

/-- The slot of step `k` of item `t`. -/
abbrev slotAt {n : ℕ} (t : Fin n) (k : Fin k0_t6_loop.trips) : Fin 8 := slotN (7 * t.val + k.val)

/-- The block of weights a product reads is inside the slot of its tile. -/
theorem setW_off31 (n : Fin 15) (t5 : Fin (k0_t5_loop (w32 n.val)).trips) (t6 : Fin k0_t6_loop.trips) (t7 : Fin k0_t7_loop.trips) (t8 : Fin k0_t8_loop.trips) (u : Fin 8)
    (v : BitVec 32) (hv : v = BitVec.ofNat 32 u.val) (inb : ∀ a, k0_off31 (w32 n.val) t5 t6 t7 t8 v a + S1x32x256.size a ≤ S8x1024x4096.size a) :
    ((Memref.whole cc0_scratch1).access (Rect.unit (s := S8x1024x4096) (k0_off31 (w32 n.val) t5 t6 t7 t8 v) S1x32x256.size inb) : View sig .tc _ _ _).set
      ⊆ setW (slotAt t5 t6) := by
  subst hv
  intro i hi
  obtain ⟨x, -, rfl⟩ := Finset.mem_map.mp hi
  unfold setW
  rw [Finset.mem_filter]
  refine ⟨Finset.mem_univ _, ?_⟩
  have h0 : (x 0).val = 0 := Nat.lt_one_iff.mp (x 0).isLt
  show k0_off31 (w32 n.val) t5 t6 t7 t8 (BitVec.ofNat 32 u.val) 0 + 1 * (x 0).val = _
  rw [h0, off31_n]
  rfl

omit [FloatOps F] in
/-- The block of weights a product reads is the expert's. -/
theorem rd_off31 (n : Fin 15) (t5 : Fin (k0_t5_loop (w32 n.val)).trips) (t6 : Fin k0_t6_loop.trips) (t7 : Fin k0_t7_loop.trips) (t8 : Fin k0_t8_loop.trips) (u : Fin 8)
    (v : BitVec 32) (hv : v = BitVec.ofNat 32 u.val) (inb : ∀ a, k0_off31 (w32 n.val) t5 t6 t7 t8 v a + S1x32x256.size a ≤ S8x1024x4096.size a)
    (w : CT F main_arg2) (e : Fin 13) :
    ((Memref.whole cc0_scratch1).access (Rect.unit (s := S8x1024x4096) (k0_off31 (w32 n.val) t5 t6 t7 t8 v) S1x32x256.size inb) : View sig .tc _ _ _).read (Elt F) (landedW w e t6)
      = blkW w e t6 t7 t8 u := by
  subst hv
  funext x
  rw [View.read_apply]
  unfold landedW blkW
  show w _ = w _
  congr 1
  funext a
  match a with
  | 0 => rfl
  | 1 =>
    refine Fin.ext ?_
    show 1024 * t6.val + (k0_off31 (w32 n.val) t5 t6 t7 t8 (BitVec.ofNat 32 u.val) 1 + 1 * (x 1).val) = 1024 * t6.val + (32 * (8 * t8.val + u.val) + (x 1).val)
    have e1 : k0_off31 (w32 n.val) t5 t6 t7 t8 (BitVec.ofNat 32 u.val) 1 = 32 * (8 * t8.val + u.val) := congrFun (off31_n n t5 t6 t7 t8 u) 1
    rw [e1]; omega
  | 2 =>
    refine Fin.ext ?_
    show k0_off31 (w32 n.val) t5 t6 t7 t8 (BitVec.ofNat 32 u.val) 2 + 1 * (x 2).val = 256 * t7.val + (x 2).val
    have e1 : k0_off31 (w32 n.val) t5 t6 t7 t8 (BitVec.ofNat 32 u.val) 2 = 256 * t7.val := congrFun (off31_n n t5 t6 t7 t8 u) 2
    rw [e1]; omega

/-- The scales a tile reads are the slot of the tile. -/
theorem setS_off29 (n : Fin 15) (t5 : Fin (k0_t5_loop (w32 n.val)).trips) (t6 : Fin k0_t6_loop.trips) (hw : k0_chk3 (w32 n.val)) :
    ((Memref.whole cc0_scratch2).access (Rect.unit (s := S8x32x4096) (k0_off29 (w32 n.val) t5 t6) S1x32x4096.size (k0_off29_inb (w32 n.val) hw t5 t6)) : View sig .tc _ _ _).set
      ⊆ setS (slotAt t5 t6) := by
  intro i hi
  obtain ⟨x, -, rfl⟩ := Finset.mem_map.mp hi
  unfold setS
  rw [Finset.mem_filter]
  refine ⟨Finset.mem_univ _, ?_⟩
  have h0 : (x 0).val = 0 := Nat.lt_one_iff.mp (x 0).isLt
  show k0_off29 (w32 n.val) t5 t6 0 + 1 * (x 0).val = _
  rw [h0, off29_n]
  rfl

omit [FloatOps F] in
/-- The scales a tile reads are the expert's. -/
theorem rd_off29 (n : Fin 15) (t5 : Fin (k0_t5_loop (w32 n.val)).trips) (t6 : Fin k0_t6_loop.trips) (hw : k0_chk3 (w32 n.val)) (ws : CT F main_arg3) (e : Fin 13) :
    ((Memref.whole cc0_scratch2).access (Rect.unit (s := S8x32x4096) (k0_off29 (w32 n.val) t5 t6) S1x32x4096.size (k0_off29_inb (w32 n.val) hw t5 t6)) : View sig .tc _ _ _).read (Elt F) (landedS ws e t6)
      = blkS ws e t6 := by
  funext x
  rw [View.read_apply]
  unfold landedS blkS
  show ws _ = ws _
  congr 1
  funext a
  match a with
  | 0 => rfl
  | 1 =>
    refine Fin.ext ?_
    show 32 * t6.val + (k0_off29 (w32 n.val) t5 t6 1 + 1 * (x 1).val) = 32 * t6.val + (x 1).val
    have e1 : k0_off29 (w32 n.val) t5 t6 1 = 0 := congrFun (off29_n n t5 t6) 1
    rw [e1]; omega
  | 2 =>
    refine Fin.ext ?_
    show k0_off29 (w32 n.val) t5 t6 2 + 1 * (x 2).val = (x 2).val
    have e1 : k0_off29 (w32 n.val) t5 t6 2 = 0 := congrFun (off29_n n t5 t6) 2
    rw [e1]; omega

/-! ## The rows quantised -/

/-- A trip over the columns quantises one tile of the rows. -/
theorem trip4 (c : Dev nD) (t3 : Fin k0_t3_loop.trips) (v : BitVec 32) (t4 : Fin k0_t4_loop.trips) (u : Unit) (X : CT F cc0_scratch0) {K : Unit → sProp 𝕄} :
    iprop(pts c cc0_scratch0 X ∗ (pts c cc0_scratch0 (xqStep t3 t4 X) -∗ K ⟨⟩)) ⊢ run c (body4 t3 v t4 u) K := by
  iintro ⟨H, Hk⟩
  unfold body4 k0_t4_body
  simp only [k0_part1_eq_skeleton, k0_part2_eq_skeleton, k0_part3_eq_skeleton, k0_part4_eq_skeleton]
  unfold k0_part1_skel k0_part2_skel k0_part3_skel k0_part4_skel
  simp only [Prog.lift, Prog.bind_op, Prog.bind_ret, Prog.pure_eq_ret]
  iapply (wp_ld c _ (Memref.whole cc0_scratch0)) $$ H; iintro H
  iapply (wp_ld c _ (Memref.whole cc0_scratch0)) $$ H; iintro H
  iapply (wp_st c _ (Memref.whole cc0_scratch0)) $$ H; iintro H
  rw [wp_ret]; imodintro
  iapply Hk
  iexact H

/-- The loop over the columns quantises sixteen rows. -/
theorem loop4 (c : Dev nD) (t3 : Fin k0_t3_loop.trips) (v : BitVec 32) (X : CT F cc0_scratch0) {K : Unit → sProp 𝕄} :
    iprop(pts c cc0_scratch0 X ∗ (pts c cc0_scratch0 (xqRow t3 X) -∗ K ⟨⟩)) ⊢ run c (Scf.Loop.for k0_t4_loop k0_t4_ok ⟨⟩ (body4 t3 v)) K := by
  iintro ⟨H, Hk⟩
  iapply (run_for c k0_t4_loop k0_t4_ok ⟨⟩ (body4 t3 v) (fun k _ => pts c cc0_scratch0 (iter k0_t4_loop.trips (xqStep t3) X k)) (fun k u => by
    rw [iter_succ]
    iintro H
    iapply (trip4 c t3 v k u)
    isplitl [H]; · iexact H
    iintro H
    iexact H))
  isplitl [H]; · iexact H
  iintro %_ H
  iapply Hk
  iexact H

/-- A trip over the rows quantises sixteen rows. -/
theorem trip3 (c : Dev nD) (t3 : Fin k0_t3_loop.trips) (u : Unit) (X : CT F cc0_scratch0) {K : Unit → sProp 𝕄} :
    iprop(pts c cc0_scratch0 X ∗ (pts c cc0_scratch0 (xqRow t3 X) -∗ K ⟨⟩)) ⊢ run c (body3 t3 u) K := by
  iintro ⟨H, Hk⟩
  unfold body3 k0_t3_body
  simp only [Prog.lift, Prog.bind_op, Prog.bind_ret, Prog.pure_eq_ret]
  rw [run, wp_bind]
  iapply (loop4 c t3 _ X)
  isplitl [H]; · iexact H
  iintro H
  rw [wp_ret]; imodintro
  iapply Hk
  iexact H

/-- The loop over the rows quantises them all. -/
theorem loop3 (c : Dev nD) (X : CT F cc0_scratch0) {K : Unit → sProp 𝕄} :
    iprop(pts c cc0_scratch0 X ∗ (pts c cc0_scratch0 (xqAll X) -∗ K ⟨⟩)) ⊢ run c (Scf.Loop.for k0_t3_loop k0_t3_ok ⟨⟩ body3) K := by
  iintro ⟨H, Hk⟩
  iapply (run_for c k0_t3_loop k0_t3_ok ⟨⟩ body3 (fun k _ => pts c cc0_scratch0 (iter k0_t3_loop.trips xqRow X k)) (fun k u => by
    iintro H
    rw [iter_succ]
    iapply (trip3 c k u)
    isplitl [H]; · iexact H
    iintro H
    iexact H))
  isplitl [H]; · iexact H
  iintro %_ H
  iapply Hk
  iexact H

/-! ## The products -/

/-- What the products' loops hold: the quantised rows, the slot with its block, the scale words. -/
abbrev held8 (c : Dev nD) (X : CT F cc0_scratch0) (k : Fin 8) (w : CT F main_arg2) (e : Fin 13) (j : Fin 7) (SC : CT F cc0_scratch3) : sProp 𝕄 :=
  iprop(pts c cc0_scratch0 X ∗ ownW c k (landedW w e j) ∗ pts c cc0_scratch3 SC)

/-- A trip over the contraction's tiles adds one product. -/
theorem trip8 (c : Dev nD) (n : Fin 15) (hw3 : k0_chk3 (w32 n.val)) (t5 : Fin (k0_t5_loop (w32 n.val)).trips) (r : Fin 9) (hw4 : k0_chk4 (w32 (16 * r.val)))
    (v28 : BitVec 32) (t6 : Fin k0_t6_loop.trips) (v40 : BitVec 32) (t7 : Fin k0_t7_loop.trips) (v80 : BitVec 32) (t8 : Fin k0_t8_loop.trips)
    (a : FVec F S128x256 .f32) (X : CT F cc0_scratch0) (w : CT F main_arg2) (e : Fin 13) (SC : CT F cc0_scratch3) (a19 : BitVec 32)
    {K : FVec F S128x256 .f32 → sProp 𝕄} :
    iprop(held8 c X (slotAt t5 t6) w e t6 SC ∗ (∀ b, ⌜b = dotStep X w e r SC t6 t7 t8 a⌝ -∗ held8 c X (slotAt t5 t6) w e t6 SC -∗ K b))
      ⊢ run c (body8 (w32 n.val) hw3 t5 (w32 (16 * r.val)) hw4 v28 t6 a19 v40 t7 v80 t8 a) K := by
  iintro ⟨⟨HX, HW, HC⟩, Hk⟩
  unfold body8 k0_t8_body
  simp only [k0_part5_eq_skeleton, k0_part6_eq_skeleton, k0_part7_eq_skeleton]
  unfold k0_part5_skel k0_part6_skel k0_part7_skel
  simp only [Prog.lift, Prog.bind_op, Prog.bind_ret, Prog.pure_eq_ret]
  iapply (wp_ld c _ (Memref.whole cc0_scratch0)) $$ HX; iintro HX
  iapply (wp_ldW c (slotAt t5 t6) (setW_off31 n t5 t6 t7 t8 0 _ rfl _)) $$ HW; iintro HW
  rw [rd_off31 n t5 t6 t7 t8 0 _ rfl]
  iapply (wp_ld c _ (Memref.whole cc0_scratch3)) $$ HC; iintro HC
  iapply (wp_ldW c (slotAt t5 t6) (setW_off31 n t5 t6 t7 t8 1 _ rfl _)) $$ HW; iintro HW
  rw [rd_off31 n t5 t6 t7 t8 1 _ rfl]
  iapply (wp_ld c _ (Memref.whole cc0_scratch3)) $$ HC; iintro HC
  iapply (wp_ldW c (slotAt t5 t6) (setW_off31 n t5 t6 t7 t8 2 _ rfl _)) $$ HW; iintro HW
  rw [rd_off31 n t5 t6 t7 t8 2 _ rfl]
  iapply (wp_ld c _ (Memref.whole cc0_scratch3)) $$ HC; iintro HC
  iapply (wp_ldW c (slotAt t5 t6) (setW_off31 n t5 t6 t7 t8 3 _ rfl _)) $$ HW; iintro HW
  rw [rd_off31 n t5 t6 t7 t8 3 _ rfl]
  iapply (wp_ld c _ (Memref.whole cc0_scratch3)) $$ HC; iintro HC
  iapply (wp_ldW c (slotAt t5 t6) (setW_off31 n t5 t6 t7 t8 4 _ rfl _)) $$ HW; iintro HW
  rw [rd_off31 n t5 t6 t7 t8 4 _ rfl]
  iapply (wp_ld c _ (Memref.whole cc0_scratch3)) $$ HC; iintro HC
  iapply (wp_ldW c (slotAt t5 t6) (setW_off31 n t5 t6 t7 t8 5 _ rfl _)) $$ HW; iintro HW
  rw [rd_off31 n t5 t6 t7 t8 5 _ rfl]
  iapply (wp_ld c _ (Memref.whole cc0_scratch3)) $$ HC; iintro HC
  iapply (wp_ldW c (slotAt t5 t6) (setW_off31 n t5 t6 t7 t8 6 _ rfl _)) $$ HW; iintro HW
  rw [rd_off31 n t5 t6 t7 t8 6 _ rfl]
  iapply (wp_ld c _ (Memref.whole cc0_scratch3)) $$ HC; iintro HC
  iapply (wp_ldW c (slotAt t5 t6) (setW_off31 n t5 t6 t7 t8 7 _ rfl _)) $$ HW; iintro HW
  rw [rd_off31 n t5 t6 t7 t8 7 _ rfl]
  iapply (wp_ld c _ (Memref.whole cc0_scratch3)) $$ HC; iintro HC
  rw [wp_ret]; imodintro
  iapply Hk $$ %_ [] [HX HW HC]
  · ipureintro; rfl
  isplitl [HX]; · iexact HX
  isplitl [HW]; · iexact HW
  iexact HC

/-- The loop over the contraction's tiles sums their products. -/
theorem loop8 (c : Dev nD) (n : Fin 15) (hw3 : k0_chk3 (w32 n.val)) (t5 : Fin (k0_t5_loop (w32 n.val)).trips) (r : Fin 9) (hw4 : k0_chk4 (w32 (16 * r.val)))
    (v28 : BitVec 32) (t6 : Fin k0_t6_loop.trips) (v40 : BitVec 32) (t7 : Fin k0_t7_loop.trips) (v80 : BitVec 32)
    (X : CT F cc0_scratch0) (w : CT F main_arg2) (e : Fin 13) (SC : CT F cc0_scratch3) (a19 : BitVec 32)
    {K : FVec F S128x256 .f32 → sProp 𝕄} :
    iprop(held8 c X (slotAt t5 t6) w e t6 SC ∗ (held8 c X (slotAt t5 t6) w e t6 SC -∗ K (dotCol X w e r SC t6 t7)))
      ⊢ run c (Scf.Loop.for k0_t8_loop k0_t8_ok (k0_pay55 (F := F)) (body8 (w32 n.val) hw3 t5 (w32 (16 * r.val)) hw4 v28 t6 a19 v40 t7 v80)) K := by
  iintro ⟨H, Hk⟩
  iapply (run_for c k0_t8_loop k0_t8_ok (k0_pay55 (F := F)) (body8 (w32 n.val) hw3 t5 (w32 (16 * r.val)) hw4 v28 t6 a19 v40 t7 v80)
    (fun k a => iprop(⌜a = iter k0_t8_loop.trips (dotStep X w e r SC t6 t7) (k0_pay55 (F := F)) k⌝ ∗ held8 c X (slotAt t5 t6) w e t6 SC)) (fun k a => by
    iintro ⟨%ha, H⟩
    iapply (trip8 c n hw3 t5 r hw4 v28 t6 v40 t7 v80 k a X w e SC a19)
    isplitl [H]; · iexact H
    iintro %b %hb H
    isplitr
    · ipureintro; rw [hb, ha, iter_succ]
    · iexact H))
  isplitl [H]
  · isplitr
    · ipureintro; rfl
    · iexact H
  iintro %a ⟨%ha, H⟩
  have ha' : a = dotCol X w e r SC t6 t7 := ha
  rw [ha']
  iapply Hk
  iexact H

/-- A trip over the column tiles adds one tile to the accumulator. -/
theorem trip7 (c : Dev nD) (n : Fin 15) (hw3 : k0_chk3 (w32 n.val)) (t5 : Fin (k0_t5_loop (w32 n.val)).trips) (r : Fin 9) (hw4 : k0_chk4 (w32 (16 * r.val)))
    (v28 : BitVec 32) (t6 : Fin k0_t6_loop.trips) (v40 : BitVec 32) (t7 : Fin k0_t7_loop.trips)
    (u : BitVec 32) (X : CT F cc0_scratch0) (w : CT F main_arg2) (e : Fin 13) (SC : CT F cc0_scratch3) (A : CT F cc0_scratch4)
    {K : BitVec 32 → sProp 𝕄} :
    iprop((held8 c X (slotAt t5 t6) w e t6 SC ∗ pts c cc0_scratch4 A)
        ∗ (iprop(held8 c X (slotAt t5 t6) w e t6 SC ∗ pts c cc0_scratch4 (accCol X w e r SC t6 t7 A)) -∗ K 0#32))
      ⊢ run c (body7 (w32 n.val) hw3 t5 (w32 (16 * r.val)) hw4 v28 t6 (Scf.iv 0#32 1#32 t6.val) v40 t7 u) K := by
  iintro ⟨⟨H, HA⟩, Hk⟩
  unfold body7 k0_t7_body
  simp only [Prog.lift, Prog.bind_op, Prog.bind_ret, Prog.pure_eq_ret]
  rw [run, wp_bind]
  iapply (loop8 c n hw3 t5 r hw4 v28 t6 v40 t7 _ X w e SC _)
  isplitl [H]; · iexact H
  iintro H
  iapply (wp_ld c _ (Memref.whole cc0_scratch4)) $$ HA; iintro HA
  iapply (wp_ld c _ (Memref.whole cc0_scratch4)) $$ HA; iintro HA
  iapply (wp_st c _ (Memref.whole cc0_scratch4)) $$ HA; iintro HA
  rw [wp_ret]; imodintro
  iapply Hk
  isplitl [H]; · iexact H
  iexact HA

/-- The loop over the column tiles adds a chunk to the accumulator. -/
theorem loop7 (c : Dev nD) (n : Fin 15) (hw3 : k0_chk3 (w32 n.val)) (t5 : Fin (k0_t5_loop (w32 n.val)).trips) (r : Fin 9) (hw4 : k0_chk4 (w32 (16 * r.val)))
    (v28 : BitVec 32) (t6 : Fin k0_t6_loop.trips) (v40 : BitVec 32)
    (u : BitVec 32) (X : CT F cc0_scratch0) (w : CT F main_arg2) (e : Fin 13) (SC : CT F cc0_scratch3) (A : CT F cc0_scratch4)
    {K : BitVec 32 → sProp 𝕄} :
    iprop((held8 c X (slotAt t5 t6) w e t6 SC ∗ pts c cc0_scratch4 A)
        ∗ (∀ u, iprop(held8 c X (slotAt t5 t6) w e t6 SC ∗ pts c cc0_scratch4 (accBlk X w e r SC t6 A)) -∗ K u))
      ⊢ run c (Scf.Loop.for k0_t7_loop k0_t7_ok u (body7 (w32 n.val) hw3 t5 (w32 (16 * r.val)) hw4 v28 t6 (Scf.iv 0#32 1#32 t6.val) v40)) K := by
  iintro ⟨H, Hk⟩
  iapply (run_for c k0_t7_loop k0_t7_ok u (body7 (w32 n.val) hw3 t5 (w32 (16 * r.val)) hw4 v28 t6 (Scf.iv 0#32 1#32 t6.val) v40)
    (fun k _ => iprop(held8 c X (slotAt t5 t6) w e t6 SC ∗ pts c cc0_scratch4 (iter k0_t7_loop.trips (accCol X w e r SC t6) A k))) (fun k a => by
    iintro H
    iapply (trip7 c n hw3 t5 r hw4 v28 t6 v40 k a X w e SC _)
    isplitl [H]; · iexact H
    iintro H
    rw [iter_succ]
    iexact H))
  isplitl [H]; · iexact H
  iintro %u H
  iapply Hk $$ %u
  iexact H

/-! ## The results' rows -/

/-- A trip over the result's column tiles writes a tile of codes and collects its bytes. -/
theorem trip10 (c : Dev nD) (r : Fin 9) (hw4 : k0_chk4 (w32 (16 * r.val))) (lo hi : BitVec 32) (t9 : Fin k0_t9_loop.trips) (v39 : BitVec 32) (t10 : Fin k0_t10_loop.trips)
    (m : IVec S32x128 32) (A : CT F cc0_scratch4) (Y : CT F cc0_scratch5) {K : IVec S32x128 32 → sProp 𝕄} :
    iprop((pts c cc0_scratch4 A ∗ pts c cc0_scratch5 Y)
        ∗ (∀ b, ⌜b = (outStep A r lo hi t9 t10 (Y, m)).2⌝ -∗ iprop(pts c cc0_scratch4 A ∗ pts c cc0_scratch5 (outStep A r lo hi t9 t10 (Y, m)).1) -∗ K b))
      ⊢ run c (body10 (w32 (16 * r.val)) hw4 lo hi t9 v39 t10 m) K := by
  iintro ⟨⟨HA, HY⟩, Hk⟩
  unfold body10 k0_t10_body
  simp only [k0_part9_eq_skeleton, k0_part10_eq_skeleton, k0_part11_eq_skeleton, k0_part12_eq_skeleton]
  unfold k0_part9_skel k0_part10_skel k0_part11_skel k0_part12_skel
  simp only [Prog.lift, Prog.bind_op, Prog.bind_ret, Prog.pure_eq_ret]
  iapply (wp_ld c _ (Memref.whole cc0_scratch4)) $$ HA; iintro HA
  iapply (wp_ld c _ (Memref.whole cc0_scratch4)) $$ HA; iintro HA
  iapply (wp_ld c _ (Memref.whole cc0_scratch5)) $$ HY; iintro HY
  iapply (wp_ld c _ (Memref.whole cc0_scratch5)) $$ HY; iintro HY
  iapply (wp_st c _ (Memref.whole cc0_scratch5)) $$ HY; iintro HY
  rw [wp_ret]; imodintro
  iapply Hk $$ %_ [] [HA HY]
  · ipureintro; rfl
  isplitl [HA]; · iexact HA
  iexact HY

/-- A trip over the result's rows writes thirty-two rows of codes and bytes. -/
theorem trip9 (c : Dev nD) (r : Fin 9) (hw4 : k0_chk4 (w32 (16 * r.val))) (lo hi : BitVec 32) (t9 : Fin k0_t9_loop.trips)
    (u : BitVec 32) (A : CT F cc0_scratch4) (Y : CT F cc0_scratch5) (S : CT F cc0_scratch6) {K : BitVec 32 → sProp 𝕄} :
    iprop((pts c cc0_scratch4 A ∗ pts c cc0_scratch5 Y ∗ pts c cc0_scratch6 S)
        ∗ (iprop(pts c cc0_scratch4 A ∗ pts c cc0_scratch5 (outRow A r lo hi t9 (Y, S)).1 ∗ pts c cc0_scratch6 (outRow A r lo hi t9 (Y, S)).2) -∗ K 0#32))
      ⊢ run c (body9 (w32 (16 * r.val)) hw4 lo hi t9 u) K := by
  iintro ⟨⟨HA, HY, HS⟩, Hk⟩
  unfold body9 k0_t9_body
  simp only [Prog.lift, Prog.bind_op, Prog.bind_ret, Prog.pure_eq_ret]
  rw [run, wp_bind]
  iapply (run_for c k0_t10_loop k0_t10_ok k0_pay59 (body10 (w32 (16 * r.val)) hw4 lo hi t9 _)
    (fun k m => iprop(⌜m = (iter k0_t10_loop.trips (outStep A r lo hi t9) (Y, k0_pay59) k).2⌝ ∗ pts c cc0_scratch4 A
      ∗ pts c cc0_scratch5 (iter k0_t10_loop.trips (outStep A r lo hi t9) (Y, k0_pay59) k).1)) (fun k m => by
    iintro ⟨%hm, HA, HY⟩
    iapply (trip10 c r hw4 lo hi t9 _ k m A _)
    isplitl [HA HY]
    · isplitl [HA]; · iexact HA
      iexact HY
    iintro %b %hb ⟨HA, HY⟩
    rw [iter_succ, hb, hm]
    isplitr
    · ipureintro; rfl
    isplitl [HA]; · iexact HA
    iexact HY))
  isplitl [HA HY]
  · isplitr
    · ipureintro; rfl
    isplitl [HA]; · iexact HA
    iexact HY
  iintro %m ⟨%hm, HA, HY⟩
  rw [hm]
  iapply (wp_ld c _ (Memref.whole cc0_scratch6)) $$ HS; iintro HS
  iapply (wp_ld c _ (Memref.whole cc0_scratch6)) $$ HS; iintro HS
  iapply (wp_st c _ (Memref.whole cc0_scratch6)) $$ HS; iintro HS
  rw [wp_ret]; imodintro
  iapply Hk
  isplitl [HA]; · iexact HA
  isplitl [HY]; · iexact HY
  iexact HS

/-- The loop over the result's rows writes an item's codes and bytes. -/
theorem loop9 (c : Dev nD) (r : Fin 9) (hw4 : k0_chk4 (w32 (16 * r.val))) (lo hi : BitVec 32)
    (u : BitVec 32) (A : CT F cc0_scratch4) (z : CT F cc0_scratch5 × CT F cc0_scratch6) {K : BitVec 32 → sProp 𝕄} :
    iprop((pts c cc0_scratch4 A ∗ pts c cc0_scratch5 z.1 ∗ pts c cc0_scratch6 z.2)
        ∗ (∀ u, iprop(pts c cc0_scratch4 A ∗ pts c cc0_scratch5 (outAll A r lo hi z).1 ∗ pts c cc0_scratch6 (outAll A r lo hi z).2) -∗ K u))
      ⊢ run c (Scf.Loop.for k0_t9_loop k0_t9_ok u (body9 (w32 (16 * r.val)) hw4 lo hi)) K := by
  iintro ⟨H, Hk⟩
  iapply (run_for c k0_t9_loop k0_t9_ok u (body9 (w32 (16 * r.val)) hw4 lo hi)
    (fun k _ => iprop(pts c cc0_scratch4 A ∗ pts c cc0_scratch5 (iter k0_t9_loop.trips (outRow A r lo hi) z k).1
      ∗ pts c cc0_scratch6 (iter k0_t9_loop.trips (outRow A r lo hi) z k).2)) (fun k a => by
    iintro H
    iapply (trip9 c r hw4 lo hi k a A _ _)
    isplitl [H]; · iexact H
    iintro H
    rw [iter_succ]
    iexact H))
  isplitl [H]; · iexact H
  iintro %u H
  iapply Hk $$ %u
  iexact H

end Cert.Proof.KernelIdeal

end
-- ==== Proof.PI.Sched.lean ====
/- The table of work items: what the kernel's first loop writes there. An item names an expert, the first row of a block of
   128 rows, and the rows `lo … hi - 1` of that block that belong to the expert. -/
module

public import proofs.«01_k».proof.Proof.PI.Base

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The rows of the experts -/

/-- The size of group `k`, zero past the last group. -/
def gsN (g : CT F cc0_stg0_0) (k : ℕ) : ℕ := if h : k < 13 then (show BitVec 32 from g (ixG ⟨k, h⟩)).toNat else 0

/-- The first row of group `k`. -/
def rowS (g : CT F cc0_stg0_0) (k : ℕ) : ℕ := ∑ j ∈ Finset.range k, gsN g j

omit [FloatOps F] in
/-- A group's end is its start and its size. -/
theorem rowS_succ (g : CT F cc0_stg0_0) (k : ℕ) : rowS g (k + 1) = rowS g k + gsN g k := Finset.sum_range_succ _ _

omit [FloatOps F] in
/-- The groups' starts increase. -/
theorem rowS_mono (g : CT F cc0_stg0_0) {a b : ℕ} (h : a ≤ b) : rowS g a ≤ rowS g b := by
  induction b, h using Nat.le_induction with
  | base => exact le_rfl
  | succ b _ ih => rw [rowS_succ]; omega

/-! ## Items -/

/-- Item `i` of the table is one of an expert's. -/
def ItemOk (g : CT F cc0_stg0_0) (f : CT F cc0_scratch7) (i : Fin 32) : Prop :=
  ∃ (e : Fin 13) (q : Fin 9), tw f 0 i = w32 e.val ∧ tw f 1 i = w32 (16 * q.val)
    ∧ rowS g e.val ≤ (tw f 2 i).toNat ∧ (tw f 3 i).toNat ≤ rowS g (e.val + 1)
    ∧ 16 * q.val ≤ (tw f 2 i).toNat ∧ (tw f 3 i).toNat ≤ 16 * q.val + 128 ∧ (tw f 3 i).toNat ≤ 256
    ∧ (tw f 2 i).toNat ≤ 256

/-- The table's first `n` items are items, and they cover the rows before `r`. -/
def Items (g : CT F cc0_stg0_0) (f : CT F cc0_scratch7) (n r : ℕ) : Prop :=
  (∀ i : Fin 32, i.val < n → ItemOk g f i)
    ∧ ∀ ρ < r, ∃ i : Fin 32, i.val < n ∧ (tw f 2 i).toNat ≤ ρ ∧ ρ < (tw f 3 i).toNat

omit [FloatOps F] in
/-- No item covers no row. -/
theorem Items.zero (g : CT F cc0_stg0_0) (f : CT F cc0_scratch7) : Items g f 0 0 :=
  ⟨fun _ h => absurd h (Nat.not_lt_zero _), fun _ h => absurd h (Nat.not_lt_zero _)⟩

omit [FloatOps F] in
/-- One more item covers the rows up to its end. -/
theorem Items.snoc {g : CT F cc0_stg0_0} {f f' : CT F cc0_scratch7} {n r r' : ℕ} (hn : n < 32) (h : Items g f n r)
    (heq : ∀ (a : Fin 4) (i : Fin 32), i.val ≠ n → tw f' a i = tw f a i) (hi : ItemOk g f' ⟨n, hn⟩)
    (hlo : (tw f' 2 ⟨n, hn⟩).toNat = r) (hhi : (tw f' 3 ⟨n, hn⟩).toNat = r') : Items g f' (n + 1) r' := by
  constructor
  · intro i hin
    by_cases hc : i.val = n
    · have : i = ⟨n, hn⟩ := Fin.ext hc
      rw [this]; exact hi
    · have := h.1 i (by omega)
      unfold ItemOk at this ⊢
      simpa only [heq _ _ hc] using this
  · intro ρ hρ
    by_cases hc : ρ < r
    · obtain ⟨i, h1, h2, h3⟩ := h.2 ρ hc
      have hne : i.val ≠ n := by omega
      exact ⟨i, by omega, by rw [heq _ _ hne]; exact h2, by rw [heq _ _ hne]; exact h3⟩
    · exact ⟨⟨n, hn⟩, Nat.lt_succ_self n, by rw [hlo]; omega, by rw [hhi]; exact hρ⟩

/-! ## The words of one item -/

/-- An item's first row is a multiple of sixteen, at most 128. -/
theorem row0_w : ∀ r : Fin 257, Scalar.minsi (Scalar.andi (w32 r.val) 4294967280#32) 128#32 = w32 (16 * min (r.val / 16) 8) := by
  decide +kernel

/-- An item's end is the group's, or its first row and 128. -/
theorem hi_w : ∀ (s : Fin 257) (q : Fin 9),
    Scalar.minsi (w32 s.val) (Scalar.addi (w32 (16 * q.val)) 128#32) = w32 (min s.val (16 * q.val + 128)) := by
  decide +kernel

/-- Row numbers compare as words as they do as numbers. -/
theorem slt_w (r s : Fin 257) : (Scalar.cmpi .slt (w32 r.val) (w32 s.val) = 1#1) ↔ r.val < s.val := by
  have h1 := r.isLt
  have h2 := s.isLt
  have e : Scalar.cmpi .slt (w32 r.val) (w32 s.val) = BitVec.ofBool ((w32 r.val).slt (w32 s.val)) := rfl
  rw [e]
  have hb : ∀ b : Bool, BitVec.ofBool b = 1#1 ↔ b = true := by decide
  rw [hb, BitVec.slt, decide_eq_true_eq]
  have t1 : (w32 r.val).toInt = r.val := by
    rw [BitVec.toInt_eq_toNat_of_lt (by rw [BitVec.toNat_ofNat]; omega), BitVec.toNat_ofNat]; omega
  have t2 : (w32 s.val).toInt = s.val := by
    rw [BitVec.toInt_eq_toNat_of_lt (by rw [BitVec.toNat_ofNat]; omega), BitVec.toNat_ofNat]; omega
  rw [t1, t2]; omega

/-- Words add as numbers do. -/
theorem addi_w (a b : ℕ) : Scalar.addi (w32 a) (w32 b) = w32 (a + b) := by
  show w32 a + w32 b = _
  rw [w32, w32, w32, BitVec.ofNat_add]

/-- A small number is its word's. -/
theorem toNat_w (a : ℕ) (h : a < 2 ^ 32) : (w32 a).toNat = a := by
  rw [w32, BitVec.toNat_ofNat]; exact Nat.mod_eq_of_lt h

/-- How many items an expert still needs: from row `r` to its end `s`. -/
def need (r s : ℕ) : ℕ := if r < s then (if r < 128 ∧ 16 * (r / 16) + 128 < s then 2 else 1) else 0

/-- The last row of the item at row `r`. -/
abbrev hiOf (r s : ℕ) : ℕ := min s (16 * min (r / 16) 8 + 128)

/-- One item less is needed after an item. -/
theorem need_step {r s : ℕ} (hs : s ≤ 256) (h : r < s) : need r s = need (hiOf r s) s + 1 := by
  unfold need hiOf
  by_cases hc : r < 128 ∧ 16 * (r / 16) + 128 < s
  · rw [if_pos h, if_pos hc]
    have e : min s (16 * min (r / 16) 8 + 128) = 16 * (r / 16) + 128 := by omega
    rw [e, if_pos hc.2, if_neg (by omega)]
  · rw [if_pos h, if_neg hc]
    have e : min s (16 * min (r / 16) 8 + 128) = s := by omega
    rw [e, if_neg (by omega)]

/-- The table with the words of item `n` entered. -/
abbrev putItem (f : CT F cc0_scratch7) (n : ℕ) (hw : k0_chk1 (w32 n)) (a b l h : BitVec 32) : CT F cc0_scratch7 :=
  let V2 : View sig .tc _ _ _ := (Memref.whole cc0_scratch7).access (Rect.unit (s := S4x32) (k0_off2 (w32 n)) S1x1.size (k0_off2_inb (w32 n) hw))
  let V3 : View sig .tc _ _ _ := (Memref.whole cc0_scratch7).access (Rect.unit (s := S4x32) (k0_off3 (w32 n)) S1x1.size (k0_off3_inb (w32 n) hw))
  let V4 : View sig .tc _ _ _ := (Memref.whole cc0_scratch7).access (Rect.unit (s := S4x32) (k0_off4 (w32 n)) S1x1.size (k0_off4_inb (w32 n) hw))
  let V5 : View sig .tc _ _ _ := (Memref.whole cc0_scratch7).access (Rect.unit (s := S4x32) (k0_off5 (w32 n)) S1x1.size (k0_off5_inb (w32 n) hw))
  V5.write (Elt F) (V4.write (Elt F) (V3.write (Elt F) (V2.write (Elt F) f (fun _ => a) Finset.univ) (fun _ => b) Finset.univ)
    (fun _ => l) Finset.univ) (fun _ => h) Finset.univ

omit [FloatOps F] in
/-- The table of items after one item is written. -/
theorem tw_putItem (f : CT F cc0_scratch7) (n : ℕ) (hn : n < 32) (hw : k0_chk1 (w32 n)) (a b l h : BitVec 32) (r : Fin 4) (i : Fin 32) :
    tw (putItem f n hw a b l h) r i
      = if i.val = n then (if r = 0 then a else if r = 1 then b else if r = 2 then l else h) else tw f r i := by
  have o2 : k0_off2 (w32 n) = ![(0 : Fin 4).val, (⟨n, hn⟩ : Fin 32).val] := by
    show ![0, (w32 n).toNat] = _; rw [toNat_w n (by omega)]; rfl
  have o3 : k0_off3 (w32 n) = ![(1 : Fin 4).val, (⟨n, hn⟩ : Fin 32).val] := by
    show ![1, (w32 n).toNat] = _; rw [toNat_w n (by omega)]; rfl
  have o4 : k0_off4 (w32 n) = ![(2 : Fin 4).val, (⟨n, hn⟩ : Fin 32).val] := by
    show ![2, (w32 n).toNat] = _; rw [toNat_w n (by omega)]; rfl
  have o5 : k0_off5 (w32 n) = ![(3 : Fin 4).val, (⟨n, hn⟩ : Fin 32).val] := by
    show ![3, (w32 n).toNat] = _; rw [toNat_w n (by omega)]; rfl
  unfold putItem
  rw [tw_write _ 3 ⟨n, hn⟩ o5, tw_write _ 2 ⟨n, hn⟩ o4, tw_write _ 1 ⟨n, hn⟩ o3, tw_write _ 0 ⟨n, hn⟩ o2]
  by_cases hi : i.val = n
  · have : i = ⟨n, hn⟩ := Fin.ext hi
    subst this
    rw [if_pos rfl]
    fin_cases r <;> simp
  · have : i ≠ ⟨n, hn⟩ := fun h => hi (congrArg Fin.val h)
    simp only [this, _root_.and_false, if_false, if_neg hi]

/-- The loop over the experts counts them. -/
theorem iv_w : ∀ t : Fin k0_t1_loop.trips, Scf.iv 0#32 1#32 t.val = w32 t.val := by decide

omit [FloatOps F] in
/-- Writing one item covers the rows up to its end. -/
theorem items_step (g : CT F cc0_stg0_0) (e : Fin 13) (hS : rowS g (e.val + 1) ≤ 256) {r n : ℕ} (hn : n < 32)
    (hr : rowS g e.val ≤ r) (hrs : r < rowS g (e.val + 1)) (f : CT F cc0_scratch7) (hf : Items g f n r) (hw : k0_chk1 (w32 n)) :
    Items g (putItem f n hw (w32 e.val) (w32 (16 * min (r / 16) 8)) (w32 r) (w32 (hiOf r (rowS g (e.val + 1))))) (n + 1)
      (hiOf r (rowS g (e.val + 1))) := by
  have hh : hiOf r (rowS g (e.val + 1)) ≤ 256 := by unfold hiOf; omega
  refine Items.snoc hn hf (fun a i hi => by rw [tw_putItem _ _ hn, if_neg hi]) ?_
    (by rw [tw_putItem _ _ hn, if_pos rfl]; exact toNat_w r (by omega))
    (by rw [tw_putItem _ _ hn, if_pos rfl]; exact toNat_w _ (by omega))
  refine ⟨e, ⟨min (r / 16) 8, by omega⟩, ?_⟩
  simp only [tw_putItem _ _ hn, if_true]
  refine ⟨?_, ?_, ?_⟩
  · trivial
  · trivial
  show _ ≤ (w32 r).toNat ∧ (w32 (hiOf r (rowS g (e.val + 1)))).toNat ≤ _ ∧ _ ≤ (w32 r).toNat
    ∧ (w32 (hiOf r (rowS g (e.val + 1)))).toNat ≤ _ ∧ (w32 (hiOf r (rowS g (e.val + 1)))).toNat ≤ _ ∧ (w32 r).toNat ≤ _
  rw [toNat_w r (by omega), toNat_w _ (by omega)]
  unfold hiOf
  refine ⟨hr, ?_, ?_, ?_, ?_, ?_⟩ <;> omega

/-! ## The while loop -/

/-- The while loop of expert `e` entered at row `r` with `n` items in the table: it leaves the table with the expert's
    items entered too. -/
theorem while_run (c : Dev nD) (g : CT F cc0_stg0_0) (t : Fin k0_t1_loop.trips) (e : Fin 13) (he : t.val = e.val)
    (hS : rowS g (e.val + 1) ≤ 256) :
    ∀ (k r n : ℕ), need r (rowS g (e.val + 1)) = k → rowS g e.val ≤ r → r ≤ rowS g (e.val + 1) → n + k ≤ 14 →
      ∀ (f : CT F cc0_scratch7), Items g f n r → ∀ (K : BitVec 32 × BitVec 32 → sProp 𝕄),
      iprop(pts c cc0_scratch7 f ∗ (∀ f' : CT F cc0_scratch7, ⌜Items g f' (n + k) (rowS g (e.val + 1))⌝ -∗ pts c cc0_scratch7 f'
          -∗ K (w32 (n + k), w32 (rowS g (e.val + 1)))))
        ⊢ wp frame (wpE (defs₀ (F := F)) 𝒱₀ (c : Thread nD τ) (some k)) Set.univ
            (cc0_while1 t (w32 (rowS g (e.val + 1))) (Memref.whole cc0_scratch7) (Memref.isWhole_whole _) (w32 n) (w32 r)) K := by
  intro k
  induction k with
  | zero =>
    intro r n hk hr hr' hn f hf K
    have hrs : ¬ r < rowS g (e.val + 1) := by
      intro h; rw [need_step hS h] at hk; omega
    have hreq : r = rowS g (e.val + 1) := by omega
    have hc : ¬ (Scalar.cmpi .slt (w32 r) (w32 (rowS g (e.val + 1))) = 1#1) := by
      rw [slt_w ⟨r, by omega⟩ ⟨rowS g (e.val + 1), by omega⟩]; exact hrs
    rw [cc0_while1_eq_skeleton]; unfold cc0_while1_skel
    simp only [if_neg hc, Prog.pure_eq_ret]
    iintro ⟨Hf, Hk⟩
    rw [wp_ret]; imodintro
    rw [Nat.add_zero, ← hreq]
    ispecialize Hk $$ %f
    iapply Hk $$ [] [Hf]
    · ipureintro; exact hf
    · iexact Hf
  | succ k ih =>
    intro r n hk hr hr' hn f hf K
    have hrs : r < rowS g (e.val + 1) := by
      by_contra h; unfold need at hk; rw [if_neg h] at hk; omega
    have hc : Scalar.cmpi .slt (w32 r) (w32 (rowS g (e.val + 1))) = 1#1 :=
      (slt_w ⟨r, by omega⟩ ⟨rowS g (e.val + 1), by omega⟩).mpr hrs
    rw [cc0_while1_eq_skeleton]; unfold cc0_while1_skel
    simp only [if_pos hc, smemLoad, smemLoadElt, Prog.lift, Prog.bind_op, Prog.bind_ret, Prog.pure_eq_ret]
    have hn32 : n < 32 := by omega
    have o2 : k0_off2 (w32 n) = ![0, n] := by
      show ![0, (w32 n).toNat] = _; rw [toNat_w n (by omega)]
    have o3 : k0_off3 (w32 n) = ![1, n] := by
      show ![1, (w32 n).toNat] = _; rw [toNat_w n (by omega)]
    have o4 : k0_off4 (w32 n) = ![2, n] := by
      show ![2, (w32 n).toNat] = _; rw [toNat_w n (by omega)]
    have o5 : k0_off5 (w32 n) = ![3, n] := by
      show ![3, (w32 n).toNat] = _; rw [toNat_w n (by omega)]
    iintro ⟨Hf, Hk⟩
    iapply (wp_assume 𝒱₀ (c : Thread nD τ) _ Set.univ (chk1_n ⟨n, hn32⟩))
    iapply (wp_ld c _ (Memref.whole cc0_scratch7)) $$ Hf; iintro Hf
    iapply (wp_st c _ (Memref.whole cc0_scratch7)) $$ Hf; iintro Hf
    iapply (wp_ld c _ (Memref.whole cc0_scratch7)) $$ Hf; iintro Hf
    iapply (wp_st c _ (Memref.whole cc0_scratch7)) $$ Hf; iintro Hf
    iapply (wp_ld c _ (Memref.whole cc0_scratch7)) $$ Hf; iintro Hf
    iapply (wp_st c _ (Memref.whole cc0_scratch7)) $$ Hf; iintro Hf
    iapply (wp_ld c _ (Memref.whole cc0_scratch7)) $$ Hf; iintro Hf
    iapply (wp_st c _ (Memref.whole cc0_scratch7)) $$ Hf; iintro Hf
    have hq : min (r / 16) 8 < 9 := by omega
    have hr0 := row0_w ⟨r, by omega⟩
    have hhi := hi_w ⟨rowS g (e.val + 1), by omega⟩ ⟨min (r / 16) 8, hq⟩
    have hstep := need_step hS hrs
    have hadd : Scalar.addi (w32 n) 1#32 = w32 (n + 1) := addi_w n 1
    dsimp only at hr0 hhi
    simp only [hr0, hhi, hadd]
    iapply (wp_call 𝒱₀ (c : Thread nD τ) (some (k + 1)) Set.univ k (fun u hu => by cases hu; exact Nat.lt_succ_self k))
    have hlast : need (hiOf r (rowS g (e.val + 1))) (rowS g (e.val + 1)) = k := by omega
    have hI := ih (hiOf r (rowS g (e.val + 1))) (n + 1) hlast (by unfold hiOf; omega) (by unfold hiOf; omega) (by omega)
    have hw : k0_chk1 (w32 n) := chk1_n ⟨n, hn32⟩
    have hput := items_step g e hS hn32 hr hrs f hf hw
    have hiv : Scf.iv 0#32 1#32 t.val = w32 e.val := by rw [iv_w, he]
    simp only [hiv]
    iapply (hI _ hput _) $$ [Hf Hk]
    isplitl [Hf]; · iexact Hf
    rw [show n + 1 + k = n + (k + 1) by omega]
    iintro %f' %hf' Hf'
    rw [wp_ret]; imodintro
    ispecialize Hk $$ %f'
    iapply Hk $$ [] [Hf']
    · ipureintro; exact hf'
    · iexact Hf'

/-! ## The loop over the experts -/

/-- After `k` experts the table holds their items, and not more than `k` of them, or `k + 1` once half of the rows are
    passed. -/
def inv1 (c : Dev nD) (g : CT F cc0_stg0_0) (k : ℕ) (a : BitVec 32 × BitVec 32) : sProp 𝕄 :=
  iprop(∃ (f : CT F cc0_scratch7) (n : ℕ), ⌜a = (w32 n, w32 (rowS g k)) ∧ Items g f n (rowS g k)
      ∧ n ≤ k + (if 128 ≤ rowS g k then 1 else 0)⌝ ∗ pts c cc0_stg0_0 g ∗ pts c cc0_scratch7 f)

/-- A trip over the experts writes the items of one expert. -/
theorem trip1 (c : Dev nD) (g : CT F cc0_stg0_0) (hS : rowS g 13 ≤ 256) (t : Fin k0_t1_loop.trips) (a : BitVec 32 × BitVec 32) :
    inv1 c g t.val a ⊢ wp frame (wpE (defs₀ (F := F)) 𝒱₀ (c : Thread nD τ) none) Set.univ
      (body1 t a) (inv1 c g (t.val + 1)) := by
  have ht : t.val < 13 := t.isLt
  unfold inv1
  iintro ⟨%f, %n, %h, Hg, Hf⟩
  obtain ⟨rfl, hf, hn⟩ := h
  unfold body1 k0_t1_body
  simp only [smemLoad, smemLoadElt, Prog.lift, Prog.bind_op, Prog.bind_ret, Prog.pure_eq_ret]
  iapply (wp_ld c _ (Memref.whole cc0_stg0_0)) $$ Hg; iintro Hg
  have hrd := rd_gs g ⟨t.val, ht⟩ (k0_off1_eq t) (k0_off1_inb t) (Shape.Idx.first (numel1_S1.symm ▸ Nat.one_pos))
  have hword : @Eq (BitVec 32) (g (ixG ⟨t.val, ht⟩)) (w32 (gsN g t.val)) := by
    unfold gsN; rw [dif_pos ht, w32, BitVec.ofNat_toNat, BitVec.setWidth_eq]
  have hS' : rowS g (t.val + 1) ≤ 256 := (rowS_mono g (by omega)).trans hS
  have hadd : Scalar.addi (w32 (rowS g t.val)) (w32 (gsN g t.val)) = w32 (rowS g (t.val + 1)) := by
    rw [addi_w, rowS_succ]
  erw [hrd]
  erw [hword]
  simp only [hadd]
  have hm : rowS g t.val ≤ rowS g (t.val + 1) := rowS_mono g (by omega)
  have hneed : n + need (rowS g t.val) (rowS g (t.val + 1)) ≤ (t.val + 1) + (if 128 ≤ rowS g (t.val + 1) then 1 else 0) := by
    unfold need
    split_ifs at hn ⊢ <;> omega
  iapply (wp_call 𝒱₀ (c : Thread nD τ) none Set.univ (need (rowS g t.val) (rowS g (t.val + 1))) (fun u hu => nomatch hu))
  iapply (while_run c g t ⟨t.val, ht⟩ rfl hS' _ (rowS g t.val) n rfl le_rfl hm (show n + need (rowS g t.val) (rowS g (t.val + 1)) ≤ 14 by split_ifs at hneed <;> omega) f hf _)
  isplitl [Hf]; · iexact Hf
  iintro %f' %hf' Hf'
  rw [wp_ret]; imodintro
  iexists f', _
  isplitr
  · ipureintro; exact ⟨rfl, hf', hneed⟩
  isplitl [Hg]; · iexact Hg
  iexact Hf'

end Cert.Proof.KernelIdeal

end
-- ==== Proof.PI.Flow.lean ====
/- The copies of the weights: how many blocks are on their way, and the loops over blocks and items. -/
module

public import proofs.«01_k».proof.Proof.PI.Comp
public import proofs.«01_k».proof.Proof.PI.Sched

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- A table place. -/
def fi (i : ℕ) : Fin 32 := ⟨i % 32, Nat.mod_lt _ (by decide)⟩

/-- The block of step `s`. -/
def gOf (eN : ℕ → Fin 13) (s : ℕ) : Fin 13 × Fin 7 := (eN (s / 7), ⟨s % 7, Nat.mod_lt _ (by decide)⟩)

/-- The expert and the chunk of a step. -/
theorem gOf_step (eN : ℕ → Fin 13) (t : ℕ) (k : Fin k0_t6_loop.trips) : gOf eN (7 * t + k.val) = (eN t, k) := by
  have hk : k.val < 7 := k.isLt
  unfold gOf
  have h1 : (7 * t + k.val) / 7 = t := by omega
  have h2 : (7 * t + k.val) % 7 = k.val := by omega
  refine Prod.ext ?_ (Fin.ext ?_)
  · show eN ((7 * t + k.val) / 7) = eN t; rw [h1]
  · show (7 * t + k.val) % 7 = k.val; exact h2

/-- The table's first `n` items are of the experts `eN` and begin at the rows `16 rN`. -/
def Tab (f : CT F cc0_scratch7) (n : ℕ) (eN : ℕ → Fin 13) (rN : ℕ → Fin 9) : Prop :=
  ∀ i < n, tw f 0 (fi i) = w32 (eN i).val ∧ tw f 1 (fi i) = w32 (16 * (rN i).val)

/-! ## Slices by their offsets -/

/-- A slot of the ring of weights, at the offsets the kernel computes. -/
theorem slotW_of (k : Fin 8) {off : Fin 3 → ℕ} (h : off = ![k.val, 0, 0]) (inb : ∀ a, off a + S1x1024x4096.size a ≤ S8x1024x4096.size a) :
    ((Memref.whole cc0_scratch1 : Memref sig .tc _ _ _).slice (Rect.unit (s := S8x1024x4096) off S1x1024x4096.size inb) (fun _ => rfl)).squeeze
      S1024x4096 squeezes_S1x1024x4096_S1024x4096 = slotW k := by subst h; rfl

/-- A slot of the ring of scales, at the offsets the kernel computes. -/
theorem slotS_of (k : Fin 8) {off : Fin 3 → ℕ} (h : off = ![k.val, 0, 0]) (inb : ∀ a, off a + S1x32x4096.size a ≤ S8x32x4096.size a) :
    ((Memref.whole cc0_scratch2 : Memref sig .tc _ _ _).slice (Rect.unit (s := S8x32x4096) off S1x32x4096.size inb) (fun _ => rfl)).squeeze
      S32x4096 squeezes_S1x32x4096_S32x4096 = slotS k := by subst h; rfl

/-- A chunk of an expert's weights, at the offsets the kernel computes. -/
theorem srcW_of (e : Fin 13) (j : Fin 7) {off : Fin 3 → ℕ} (h : off = ![e.val, 1024 * j.val, 0]) (inb : ∀ a, off a + S1x1024x4096.size a ≤ S13x7168x4096.size a) :
    ((Memref.whole main_arg2 : Memref sig .tc _ _ _).slice (Rect.unit (s := S13x7168x4096) off S1x1024x4096.size inb) (fun _ => rfl)).squeeze
      S1024x4096 squeezes_S1x1024x4096_S1024x4096 = srcW e j := by subst h; rfl

/-- A chunk of an expert's scales, at the offsets the kernel computes. -/
theorem srcS_of (e : Fin 13) (j : Fin 7) {off : Fin 3 → ℕ} (h : off = ![e.val, 32 * j.val, 0]) (inb : ∀ a, off a + S1x32x4096.size a ≤ S13x224x4096.size a) :
    ((Memref.whole main_arg3 : Memref sig .tc _ _ _).slice (Rect.unit (s := S13x224x4096) off S1x32x4096.size inb) (fun _ => rfl)).squeeze
      S32x4096 squeezes_S1x32x4096_S32x4096 = srcS e j := by subst h; rfl

/-- A slot's semaphore of the weights, at the offset the kernel computes. -/
theorem semW_of (k : Fin 8) {off : Fin 1 → ℕ} (h : off = ![k.val]) (inb : ∀ a, off a + S1.size a ≤ S8.size a) :
    ((cc0_scratch9.slice (Rect.unit (s := S8) off S1.size inb)).squeeze S_ squeezes_S1_S_).sem = semW k := by subst h; rfl

/-- A slot's semaphore of the scales, at the offset the kernel computes. -/
theorem semS_of (k : Fin 8) {off : Fin 1 → ℕ} (h : off = ![k.val]) (inb : ∀ a, off a + S1.size a ≤ S8.size a) :
    ((cc0_scratch10.slice (Rect.unit (s := S8) off S1.size inb)).squeeze S_ squeezes_S1_S_).sem = semS k := by subst h; rfl

/-- The amount of a copy of weights. -/
theorem crdW_of (off : Fin 3 → ℕ) (inb : ∀ a, off a + S1x1024x4096.size a ≤ S8x1024x4096.size a) :
    (((Memref.whole cc0_scratch1 : Memref sig .tc _ _ _).slice (Rect.unit (s := S8x1024x4096) off S1x1024x4096.size inb) (fun _ => rfl)).squeeze
      S1024x4096 squeezes_S1x1024x4096_S1024x4096).view.dmaCredit = amtW := rfl

/-- The amount of a copy of scales. -/
theorem crdS_of (off : Fin 3 → ℕ) (inb : ∀ a, off a + S1x32x4096.size a ≤ S8x32x4096.size a) :
    (((Memref.whole cc0_scratch2 : Memref sig .tc _ _ _).slice (Rect.unit (s := S8x32x4096) off S1x32x4096.size inb) (fun _ => rfl)).squeeze
      S32x4096 squeezes_S1x32x4096_S32x4096).view.dmaCredit = amtS := rfl

/-- Where the expert of a first copy is read. -/
theorem off6_n : ∀ t : Fin k0_t2_loop.trips, k0_off6 t = ![0, t.val / 7] := by decide +kernel
/-- The semaphore of the weights of a first copy. -/
theorem off7_n : ∀ t : Fin k0_t2_loop.trips, k0_off7 t = ![t.val % 8] := by decide +kernel
/-- The slot of the weights of a first copy. -/
theorem off8_n : ∀ t : Fin k0_t2_loop.trips, k0_off8 t = ![t.val % 8, 0, 0] := by decide +kernel
/-- The semaphore of the scales of a first copy. -/
theorem off10_n : ∀ t : Fin k0_t2_loop.trips, k0_off10 t = ![t.val % 8] := by decide +kernel
/-- The slot of the scales of a first copy. -/
theorem off11_n : ∀ t : Fin k0_t2_loop.trips, k0_off11 t = ![t.val % 8, 0, 0] := by decide +kernel

/-! ## The first copies -/

/-- A trip over the first copies starts one tile if there is one. -/
theorem trip2 (c : Dev nD) (n : Fin 15) (f : CT F cc0_scratch7) (eN : ℕ → Fin 13) (rN : ℕ → Fin 9) (hT : Tab f n.val eN rN)
    (w : CT F main_arg2) (ws : CT F main_arg3) (t : Fin k0_t2_loop.trips) (u : Unit) {K : Unit → sProp 𝕄} :
    iprop((pts c cc0_scratch7 f ∗ ring c w ws (win (gOf eN) 0 (min t.val (7 * n.val))))
        ∗ (iprop(pts c cc0_scratch7 f ∗ ring c w ws (win (gOf eN) 0 (min (t.val + 1) (7 * n.val)))) -∗ K ⟨⟩))
      ⊢ run c (body2 (w32 n.val) t u) K := by
  have ht : t.val < 7 := t.isLt
  iintro ⟨⟨Hf, Hr⟩, Hk⟩
  unfold body2 k0_t2_body
  by_cases hc : t.val < 7 * n.val
  · simp only [dif_pos ((cond1_n n t).mpr hc), smemLoad, smemLoadElt, Prog.lift, Prog.bind_op, Prog.bind_ret, Prog.pure_eq_ret]
    have hb1 : min t.val (7 * n.val) = t.val := by omega
    have hb2 : min (t.val + 1) (7 * n.val) = t.val + 1 := by omega
    rw [hb1, hb2]
    have hi : t.val / 7 = 0 := by omega
    have hrd := rd_items f 0 (fi (t.val / 7)) ((off6_n t).trans (by rw [hi]; rfl)) (k0_off6_inb t) (Shape.Idx.first (numel1_S1x1.symm ▸ Nat.one_pos))
    have hword : @Eq (BitVec 32) (tw f 0 (fi (t.val / 7))) (w32 (eN (t.val / 7)).val) := (hT _ (by omega)).1
    iapply (wp_ld c _ (Memref.whole cc0_scratch7)) $$ Hf; iintro Hf
    erw [hrd]
    erw [hword]
    iapply (wp_assume 𝒱₀ (c : Thread nD τ) _ Set.univ (chk2_n n t (eN (t.val / 7))))
    iapply (wp_start c (win (gOf eN) 0 t.val) (slotN t.val) (win_next _ (Nat.zero_le _) (by omega)) (eN (t.val / 7)) ⟨t.val % 7, Nat.mod_lt _ (by decide)⟩ w ws
      (srcW_of _ _ (off9_n t _) _) (slotW_of _ (off8_n t) _) (semW_of _ (off7_n t) _)
      (srcS_of _ _ (off12_n t _) _) (slotS_of _ (off11_n t) _) (semS_of _ (off10_n t) _)) $$ Hr
    iintro Hr
    have hst : Function.update (win (gOf eN) 0 t.val) (slotN t.val) (some (eN (t.val / 7), ⟨t.val % 7, Nat.mod_lt _ (by decide)⟩))
        = win (gOf eN) 0 (t.val + 1) := win_start (gOf eN) (Nat.zero_le _) (by omega)
    rw [hst]
    rw [run, wp_ret]; imodintro
    iapply Hk
    isplitl [Hf]; · iexact Hf
    iexact Hr
  · simp only [dif_neg (fun h => hc ((cond1_n n t).mp h)), Prog.bind_ret, Prog.pure_eq_ret]
    have hb : min (t.val + 1) (7 * n.val) = min t.val (7 * n.val) := by omega
    rw [hb]
    rw [run, wp_ret]; imodintro
    iapply Hk
    isplitl [Hf]; · iexact Hf
    iexact Hr

/-- The first copies start seven tiles. -/
theorem loop2 (c : Dev nD) (n : Fin 15) (f : CT F cc0_scratch7) (eN : ℕ → Fin 13) (rN : ℕ → Fin 9) (hT : Tab f n.val eN rN)
    (w : CT F main_arg2) (ws : CT F main_arg3) {K : Unit → sProp 𝕄} :
    iprop((pts c cc0_scratch7 f ∗ ring c w ws (fun _ => none))
        ∗ (iprop(pts c cc0_scratch7 f ∗ ring c w ws (win (gOf eN) 0 (min 7 (7 * n.val)))) -∗ K ⟨⟩))
      ⊢ run c (Scf.Loop.for k0_t2_loop k0_t2_ok ⟨⟩ (body2 (w32 n.val))) K := by
  iintro ⟨⟨Hf, Hr⟩, Hk⟩
  iapply (run_for c k0_t2_loop k0_t2_ok ⟨⟩ (body2 (w32 n.val))
    (fun k _ => iprop(pts c cc0_scratch7 f ∗ ring c w ws (win (gOf eN) 0 (min k (7 * n.val))))) (fun k u => by
    iintro H
    iapply (trip2 c n f eN rN hT w ws k u)
    isplitl [H]; · iexact H
    iintro H
    iexact H))
  isplitl [Hf Hr]
  · isplitl [Hf]; · iexact Hf
    rw [win_empty (gOf eN) (show min 0 (7 * n.val) ≤ 0 by omega)]
    iexact Hr
  iintro %_ H
  iapply Hk
  iexact H

/-! ## The blocks of an item -/

/-- What the loop over blocks holds before step `s`. -/
abbrev held6 (c : Dev nD) (n : ℕ) (f : CT F cc0_scratch7) (eN : ℕ → Fin 13) (X : CT F cc0_scratch0) (w : CT F main_arg2) (ws : CT F main_arg3) (s : ℕ) : sProp 𝕄 :=
  iprop(pts c cc0_scratch0 X ∗ pts c cc0_scratch7 f ∗ ring c w ws (win (gOf eN) s (min (s + 7) (7 * n))) ∗ (∃ W, owes (c : Thread nD τ) 0 W))

/-- A trip over an item's chunks starts a tile, waits for one and adds its products. -/
theorem trip6 (c : Dev nD) (n : Fin 15) (hw3 : k0_chk3 (w32 n.val)) (v2 : BitVec 32) (t5 : Fin (k0_t5_loop (w32 n.val)).trips) (a17 : BitVec 32) (r : Fin 9)
    (hw4 : k0_chk4 (w32 (16 * r.val))) (v28 : BitVec 32) (t6 : Fin k0_t6_loop.trips) (u : BitVec 32)
    (f : CT F cc0_scratch7) (eN : ℕ → Fin 13) (rN : ℕ → Fin 9) (hT : Tab f n.val eN rN)
    (X : CT F cc0_scratch0) (w : CT F main_arg2) (ws : CT F main_arg3) (z : CT F cc0_scratch3 × CT F cc0_scratch4) {K : BitVec 32 → sProp 𝕄} :
    iprop((held6 c n.val f eN X w ws (7 * t5.val + t6.val) ∗ pts c cc0_scratch3 z.1 ∗ pts c cc0_scratch4 z.2)
        ∗ (iprop(held6 c n.val f eN X w ws (7 * t5.val + t6.val + 1) ∗ pts c cc0_scratch3 (blkStep X w ws (eN t5.val) r t6 z).1
            ∗ pts c cc0_scratch4 (blkStep X w ws (eN t5.val) r t6 z).2) -∗ K 0#32))
      ⊢ run c (body6 (w32 n.val) hw3 v2 t5 a17 (w32 (16 * r.val)) hw4 v28 t6 u) K := by
  have ht6 : t6.val < 7 := t6.isLt
  have ht5 : t5.val < n.val := lt_of_lt_of_eq t5.isLt (trips5 n)
  have hn := n.isLt
  have hrd2 := rd_items f 0 (fi t5.val) ((off22_n n t5 t6).trans (by rw [show (fi t5.val).val = t5.val from Nat.mod_eq_of_lt (by omega)]; rfl))
    (k0_off22_inb (w32 n.val) hw3 t5 t6) (Shape.Idx.first (numel1_S1x1.symm ▸ Nat.one_pos))
  have hword2 : @Eq (BitVec 32) (tw f 0 (fi t5.val)) (w32 (eN t5.val).val) := (hT _ ht5).1
  iintro ⟨⟨⟨HX, Hf, Hr, HW⟩, HC, HA⟩, Hk⟩
  unfold body6 k0_t6_body
  simp only [k0_part8_eq_skeleton]
  unfold k0_part8_skel
  by_cases hc : 7 * t5.val + t6.val + 7 < 7 * n.val
  · simp only [dif_pos ((cond2_n n t5 t6).mpr hc), smemLoad, smemLoadElt, Prog.lift, Prog.bind_op, Prog.bind_ret, Prog.pure_eq_ret]
    have hb1 : min (7 * t5.val + t6.val + 7) (7 * n.val) = 7 * t5.val + t6.val + 7 := by omega
    rw [hb1]
    have hi : (7 * t5.val + t6.val + 7) / 7 < n.val := by omega
    have hrd := rd_items f 0 (fi ((7 * t5.val + t6.val + 7) / 7)) ((off15_n n t5 t6).trans (by rw [show (fi ((7 * t5.val + t6.val + 7) / 7)).val = (7 * t5.val + t6.val + 7) / 7 from Nat.mod_eq_of_lt (by omega)]; rfl))
      (k0_off15_inb (w32 n.val) hw3 t5 t6 ((cond2_n n t5 t6).mpr hc)) (Shape.Idx.first (numel1_S1x1.symm ▸ Nat.one_pos))
    have hword : @Eq (BitVec 32) (tw f 0 (fi ((7 * t5.val + t6.val + 7) / 7))) (w32 (eN ((7 * t5.val + t6.val + 7) / 7)).val) := (hT _ hi).1
    iapply (wp_ld c _ (Memref.whole cc0_scratch7)) $$ Hf; iintro Hf
    erw [hrd]
    erw [hword]
    iapply (wp_assume 𝒱₀ (c : Thread nD τ) _ Set.univ (chk5_n n t5 t6 (eN ((7 * t5.val + t6.val + 7) / 7))))
    iapply (wp_start c (win (gOf eN) (7 * t5.val + t6.val) (7 * t5.val + t6.val + 7)) (slotN (7 * t5.val + t6.val + 7)) (win_next _ (by omega) (by omega))
      (eN ((7 * t5.val + t6.val + 7) / 7)) ⟨(7 * t5.val + t6.val + 7) % 7, Nat.mod_lt _ (by decide)⟩ w ws
      (srcW_of _ _ (off18_n n t5 t6 _) _) (slotW_of _ (off17_n n t5 t6) _) (semW_of _ (off16_n n t5 t6) _)
      (srcS_of _ _ (off21_n n t5 t6 _) _) (slotS_of _ (off20_n n t5 t6) _) (semS_of _ (off19_n n t5 t6) _)) $$ Hr
    iintro Hr
    have hst : Function.update (win (gOf eN) (7 * t5.val + t6.val) (7 * t5.val + t6.val + 7)) (slotN (7 * t5.val + t6.val + 7))
        (some (eN ((7 * t5.val + t6.val + 7) / 7), ⟨(7 * t5.val + t6.val + 7) % 7, Nat.mod_lt _ (by decide)⟩))
        = win (gOf eN) (7 * t5.val + t6.val) (7 * t5.val + t6.val + 8) := win_start (gOf eN) (by omega) (by omega)
    rw [hst]
    have hb2 : min (7 * t5.val + t6.val + 1 + 7) (7 * n.val) = 7 * t5.val + t6.val + 8 := by omega
    iapply (wp_ld c _ (Memref.whole cc0_scratch7)) $$ Hf; iintro Hf
    erw [hrd2]
    erw [hword2]
    iapply (wp_assume 𝒱₀ (c : Thread nD τ) _ Set.univ (chk6_n n t5 t6 (eN t5.val)))
    iapply (wp_wait c (win (gOf eN) (7 * t5.val + t6.val) (7 * t5.val + t6.val + 8)) (slotAt t5 t6) (eN t5.val) t6
      ((win_first (gOf eN) (by omega)).trans (congrArg some (gOf_step eN t5.val t6))) w ws (crdW_of _ _) (semW_of _ (off23_n n t5 t6) _) (crdS_of _ _) (semS_of _ (off26_n n t5 t6) _)) $$ [Hr HW]
    · isplitl [Hr]; · iexact Hr
      iexact HW
    unfold landed
    iintro ⟨⟨⟨HW1, HW2, HW3⟩, HS1, HS2, HS3⟩, Hr, HW⟩
    iapply (wp_ldS c (slotAt t5 t6) (setS_off29 n t5 t6 hw3)) $$ HS1; iintro HS1
    rw [rd_off29 n t5 t6 hw3]
    iapply (wp_ld c _ (Memref.whole cc0_scratch3)) $$ HC; iintro HC
    iapply (wp_st c _ (Memref.whole cc0_scratch3)) $$ HC; iintro HC
    rw [wp_bind]
    iapply (loop7 c n hw3 t5 r hw4 v28 t6 _ _ X w (eN t5.val) (scOf ws (eN t5.val) t6 z.1) z.2)
    isplitl [HX HW1 HC HA]
    · isplitr [HA]
      · isplitl [HX]; · iexact HX
        isplitl [HW1]; · iexact HW1
        iexact HC
      · iexact HA
    iintro %u ⟨⟨HX, HW1, HC⟩, HA⟩
    rw [wp_ret]; imodintro
    iapply Hk
    isplitr [HC HA]
    · isplitl [HX]; · iexact HX
      isplitl [Hf]; · iexact Hf
      isplitr [HW]
      · have hfr := free c (win (gOf eN) (7 * t5.val + t6.val) (7 * t5.val + t6.val + 8)) (slotAt t5 t6) (eN t5.val) t6 w ws
        have hwf : Function.update (win (gOf eN) (7 * t5.val + t6.val) (7 * t5.val + t6.val + 8)) (slotAt t5 t6) none = win (gOf eN) (7 * t5.val + t6.val + 1) (7 * t5.val + t6.val + 8) := win_free (gOf eN) (by omega)
        rw [hwf] at hfr
        rw [hb2]
        iapply hfr
        isplitr [Hr]
        · unfold landed
          isplitl [HW1 HW2 HW3]
          · isplitl [HW1]; · iexact HW1
            isplitl [HW2]; · iexact HW2
            iexact HW3
          · isplitl [HS1]; · iexact HS1
            isplitl [HS2]; · iexact HS2
            iexact HS3
        · iexact Hr
      · iexact HW
    · isplitl [HC]; · iexact HC
      iexact HA
  · simp only [dif_neg (fun h => hc ((cond2_n n t5 t6).mp h)), smemLoad, smemLoadElt, Prog.lift, Prog.bind_op, Prog.bind_ret, Prog.pure_eq_ret]
    have hb1 : min (7 * t5.val + t6.val + 7) (7 * n.val) = 7 * n.val := by omega
    have hb2 : min (7 * t5.val + t6.val + 1 + 7) (7 * n.val) = 7 * n.val := by omega
    rw [hb1]
    iapply (wp_ld c _ (Memref.whole cc0_scratch7)) $$ Hf; iintro Hf
    erw [hrd2]
    erw [hword2]
    iapply (wp_assume 𝒱₀ (c : Thread nD τ) _ Set.univ (chk6_n n t5 t6 (eN t5.val)))
    iapply (wp_wait c (win (gOf eN) (7 * t5.val + t6.val) (7 * n.val)) (slotAt t5 t6) (eN t5.val) t6
      ((win_first (gOf eN) (by omega)).trans (congrArg some (gOf_step eN t5.val t6))) w ws (crdW_of _ _) (semW_of _ (off23_n n t5 t6) _) (crdS_of _ _) (semS_of _ (off26_n n t5 t6) _)) $$ [Hr HW]
    · isplitl [Hr]; · iexact Hr
      iexact HW
    unfold landed
    iintro ⟨⟨⟨HW1, HW2, HW3⟩, HS1, HS2, HS3⟩, Hr, HW⟩
    iapply (wp_ldS c (slotAt t5 t6) (setS_off29 n t5 t6 hw3)) $$ HS1; iintro HS1
    rw [rd_off29 n t5 t6 hw3]
    iapply (wp_ld c _ (Memref.whole cc0_scratch3)) $$ HC; iintro HC
    iapply (wp_st c _ (Memref.whole cc0_scratch3)) $$ HC; iintro HC
    rw [wp_bind]
    iapply (loop7 c n hw3 t5 r hw4 v28 t6 _ _ X w (eN t5.val) (scOf ws (eN t5.val) t6 z.1) z.2)
    isplitl [HX HW1 HC HA]
    · isplitr [HA]
      · isplitl [HX]; · iexact HX
        isplitl [HW1]; · iexact HW1
        iexact HC
      · iexact HA
    iintro %u ⟨⟨HX, HW1, HC⟩, HA⟩
    rw [wp_ret]; imodintro
    iapply Hk
    isplitr [HC HA]
    · isplitl [HX]; · iexact HX
      isplitl [Hf]; · iexact Hf
      isplitr [HW]
      · have hfr := free c (win (gOf eN) (7 * t5.val + t6.val) (7 * n.val)) (slotAt t5 t6) (eN t5.val) t6 w ws
        have hwf : Function.update (win (gOf eN) (7 * t5.val + t6.val) (7 * n.val)) (slotAt t5 t6) none = win (gOf eN) (7 * t5.val + t6.val + 1) (7 * n.val) := win_free (gOf eN) (by omega)
        rw [hwf] at hfr
        rw [hb2]
        iapply hfr
        isplitr [Hr]
        · unfold landed
          isplitl [HW1 HW2 HW3]
          · isplitl [HW1]; · iexact HW1
            isplitl [HW2]; · iexact HW2
            iexact HW3
          · isplitl [HS1]; · iexact HS1
            isplitl [HS2]; · iexact HS2
            iexact HS3
        · iexact Hr
      · iexact HW
    · isplitl [HC]; · iexact HC
      iexact HA

/-- The loop over an item's chunks leaves the item's products in the accumulator. -/
theorem loop6 (c : Dev nD) (n : Fin 15) (hw3 : k0_chk3 (w32 n.val)) (v2 : BitVec 32) (t5 : Fin (k0_t5_loop (w32 n.val)).trips) (a17 : BitVec 32) (r : Fin 9)
    (hw4 : k0_chk4 (w32 (16 * r.val))) (v28 : BitVec 32) (u : BitVec 32)
    (f : CT F cc0_scratch7) (eN : ℕ → Fin 13) (rN : ℕ → Fin 9) (hT : Tab f n.val eN rN)
    (X : CT F cc0_scratch0) (w : CT F main_arg2) (ws : CT F main_arg3) (z : CT F cc0_scratch3 × CT F cc0_scratch4) {K : BitVec 32 → sProp 𝕄} :
    iprop((held6 c n.val f eN X w ws (7 * t5.val) ∗ pts c cc0_scratch3 z.1 ∗ pts c cc0_scratch4 z.2)
        ∗ (∀ u, iprop(held6 c n.val f eN X w ws (7 * (t5.val + 1)) ∗ pts c cc0_scratch3 (blkAll X w ws (eN t5.val) r z).1
            ∗ pts c cc0_scratch4 (blkAll X w ws (eN t5.val) r z).2) -∗ K u))
      ⊢ run c (Scf.Loop.for k0_t6_loop k0_t6_ok u (body6 (w32 n.val) hw3 v2 t5 a17 (w32 (16 * r.val)) hw4 v28)) K := by
  iintro ⟨H, Hk⟩
  iapply (run_for c k0_t6_loop k0_t6_ok u (body6 (w32 n.val) hw3 v2 t5 a17 (w32 (16 * r.val)) hw4 v28)
    (fun k _ => iprop(held6 c n.val f eN X w ws (7 * t5.val + k)
      ∗ pts c cc0_scratch3 (iter k0_t6_loop.trips (blkStep X w ws (eN t5.val) r) z k).1
      ∗ pts c cc0_scratch4 (iter k0_t6_loop.trips (blkStep X w ws (eN t5.val) r) z k).2)) (fun k u => by
    rw [iter_succ]
    iintro H
    iapply (trip6 c n hw3 v2 t5 a17 r hw4 v28 k u f eN rN hT X w ws _)
    isplitl [H]; · iexact H
    iintro H
    iexact H))
  isplitl [H]; · iexact H
  iintro %u H
  iapply Hk $$ %u
  iexact H

/-! ## The items -/

/-- The scale words, the sums, the results' values and the results' scale words. -/
abbrev St (F : FTy → Type) : Type := CT F cc0_scratch3 × CT F cc0_scratch4 × CT F cc0_scratch5 × CT F cc0_scratch6

/-- One item done. -/
def itemStep (X : CT F cc0_scratch0) (w : CT F main_arg2) (ws : CT F main_arg3) (f : CT F cc0_scratch7) (eN : ℕ → Fin 13) (rN : ℕ → Fin 9) (i : ℕ) (z : St F) : St F :=
  let b := blkAll X w ws (eN i) (rN i) (z.1, z.2.1)
  let o := outAll b.2 (rN i) (tw f 2 (fi i)) (tw f 3 (fi i)) (z.2.2.1, z.2.2.2)
  (b.1, b.2, o.1, o.2)

/-- The first `k` items done. -/
def itemsTo (X : CT F cc0_scratch0) (w : CT F main_arg2) (ws : CT F main_arg3) (f : CT F cc0_scratch7) (eN : ℕ → Fin 13) (rN : ℕ → Fin 9) (z : St F) : ℕ → St F
  | 0 => z
  | k + 1 => itemStep X w ws f eN rN k (itemsTo X w ws f eN rN z k)

/-- The four buffers. -/
abbrev ptsSt (c : Dev nD) (z : St F) : sProp 𝕄 :=
  iprop(pts c cc0_scratch3 z.1 ∗ pts c cc0_scratch4 z.2.1 ∗ pts c cc0_scratch5 z.2.2.1 ∗ pts c cc0_scratch6 z.2.2.2)

/-- A trip over the items writes one item's results. -/
theorem trip5 (c : Dev nD) (n : Fin 15) (hw3 : k0_chk3 (w32 n.val)) (v2 : BitVec 32) (t5 : Fin (k0_t5_loop (w32 n.val)).trips) (u : BitVec 32)
    (f : CT F cc0_scratch7) (eN : ℕ → Fin 13) (rN : ℕ → Fin 9) (hT : Tab f n.val eN rN)
    (X : CT F cc0_scratch0) (w : CT F main_arg2) (ws : CT F main_arg3) (z : St F) {K : BitVec 32 → sProp 𝕄} :
    iprop((held6 c n.val f eN X w ws (7 * t5.val) ∗ ptsSt c z)
        ∗ (iprop(held6 c n.val f eN X w ws (7 * (t5.val + 1)) ∗ ptsSt c (itemStep X w ws f eN rN t5.val z)) -∗ K 0#32))
      ⊢ run c (body5 (w32 n.val) hw3 v2 t5 u) K := by
  have ht5 : t5.val < n.val := lt_of_lt_of_eq t5.isLt (trips5 n)
  have hn := n.isLt
  have hfi : (fi t5.val).val = t5.val := Nat.mod_eq_of_lt (by omega)
  have hrd := rd_items f 1 (fi t5.val) ((off14_n n t5).trans (by rw [hfi]; rfl))
    (k0_off14_inb (w32 n.val) hw3 t5) (Shape.Idx.first (numel1_S1x1.symm ▸ Nat.one_pos))
  have hword : @Eq (BitVec 32) (tw f 1 (fi t5.val)) (w32 (16 * (rN t5.val).val)) := (hT _ ht5).2
  have hrd2 := rd_items f 2 (fi t5.val) ((off34_n n t5).trans (by rw [hfi]; rfl))
    (k0_off34_inb (w32 n.val) hw3 t5) (Shape.Idx.first (numel1_S1x1.symm ▸ Nat.one_pos))
  have hrd3 := rd_items f 3 (fi t5.val) ((off35_n n t5).trans (by rw [hfi]; rfl))
    (k0_off35_inb (w32 n.val) hw3 t5) (Shape.Idx.first (numel1_S1x1.symm ▸ Nat.one_pos))
  iintro ⟨⟨⟨HX, Hf, Hr, HW⟩, HC, HA, HY, HS⟩, Hk⟩
  unfold body5 k0_t5_body
  simp only [smemLoad, smemLoadElt, Prog.lift, Prog.bind_op, Prog.bind_ret, Prog.pure_eq_ret]
  iapply (wp_ld c _ (Memref.whole cc0_scratch7)) $$ Hf; iintro Hf
  erw [hrd]
  erw [hword]
  iapply (wp_assume 𝒱₀ (c : Thread nD τ) _ Set.univ (chk4_n (rN t5.val)))
  rw [wp_bind]
  iapply (loop6 c n hw3 v2 t5 _ (rN t5.val) (chk4_n (rN t5.val)) _ _ f eN rN hT X w ws (z.1, z.2.1))
  isplitl [HX Hf Hr HW HC HA]
  · isplitr [HC HA]
    · isplitl [HX]; · iexact HX
      isplitl [Hf]; · iexact Hf
      isplitl [Hr]; · iexact Hr
      iexact HW
    · isplitl [HC]; · iexact HC
      iexact HA
  iintro %_ ⟨⟨HX, Hf, Hr, HW⟩, HC, HA⟩
  iapply (wp_ld c _ (Memref.whole cc0_scratch7)) $$ Hf; iintro Hf
  erw [hrd2]
  iapply (wp_ld c _ (Memref.whole cc0_scratch7)) $$ Hf; iintro Hf
  erw [hrd3]
  rw [wp_bind]
  iapply (loop9 c (rN t5.val) (chk4_n (rN t5.val)) (tw f 2 (fi t5.val)) (tw f 3 (fi t5.val)) _
    (blkAll X w ws (eN t5.val) (rN t5.val) (z.1, z.2.1)).2 (z.2.2.1, z.2.2.2))
  isplitl [HA HY HS]
  · isplitl [HA]; · iexact HA
    isplitl [HY]; · iexact HY
    iexact HS
  iintro %_ ⟨HA, HY, HS⟩
  rw [wp_ret]; imodintro
  iapply Hk
  isplitr [HC HA HY HS]
  · isplitl [HX]; · iexact HX
    isplitl [Hf]; · iexact Hf
    isplitl [Hr]; · iexact Hr
    iexact HW
  · isplitl [HC]; · iexact HC
    isplitl [HA]; · iexact HA
    isplitl [HY]; · iexact HY
    iexact HS

/-- The loop over the items writes all items' results and leaves the ring empty. -/
theorem loop5 (c : Dev nD) (n : Fin 15) (hw3 : k0_chk3 (w32 n.val)) (hok : (k0_t5_loop (w32 n.val)).OK) (v2 : BitVec 32) (u : BitVec 32)
    (f : CT F cc0_scratch7) (eN : ℕ → Fin 13) (rN : ℕ → Fin 9) (hT : Tab f n.val eN rN)
    (X : CT F cc0_scratch0) (w : CT F main_arg2) (ws : CT F main_arg3) (z : St F) {K : BitVec 32 → sProp 𝕄} :
    iprop((held6 c n.val f eN X w ws 0 ∗ ptsSt c z)
        ∗ (∀ u, iprop(held6 c n.val f eN X w ws (7 * n.val) ∗ ptsSt c (itemsTo X w ws f eN rN z n.val)) -∗ K u))
      ⊢ run c (Scf.Loop.for (k0_t5_loop (w32 n.val)) hok u (body5 (w32 n.val) hw3 v2)) K := by
  iintro ⟨H, Hk⟩
  iapply (run_for c (k0_t5_loop (w32 n.val)) hok u (body5 (w32 n.val) hw3 v2)
    (fun k _ => iprop(held6 c n.val f eN X w ws (7 * k) ∗ ptsSt c (itemsTo X w ws f eN rN z k))) (fun k u => by
    iintro H
    iapply (trip5 c n hw3 v2 k u f eN rN hT X w ws _)
    isplitl [H]; · iexact H
    iintro H
    iexact H))
  isplitl [H]; · iexact H
  iintro %u H
  rw [trips5]
  iapply Hk $$ %u
  iexact H

end Cert.Proof.KernelIdeal

end
-- ==== Proof.PI.RingIO.lean ====
/- The rings at their beginning and at their end: the buffers cut into slots, and the slots put together again. -/
module

public import proofs.«01_k».proof.Proof.PI.Ring

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The slots of weights are disjoint. -/
theorem setW_disj : ∀ t ∈ (Finset.univ : Finset (Fin 8)), ∀ t' ∈ (Finset.univ : Finset (Fin 8)), t ≠ t' → Disjoint (setW t) (setW t') := by
  intro t _ t' _ h
  rw [Finset.disjoint_left]
  intro i h1 h2
  exact h (Fin.ext ((Finset.mem_filter.mp h1).2.symm.trans (Finset.mem_filter.mp h2).2))

/-- The slots of weights are the whole ring. -/
theorem setW_cover : (Finset.univ : Finset (Fin 8)).biUnion setW = Finset.univ := by
  refine Finset.eq_univ_of_forall fun i => ?_
  rw [Finset.mem_biUnion]
  exact ⟨⟨(show S8x1024x4096.Idx from i) 0, ((show S8x1024x4096.Idx from i) 0).isLt⟩, Finset.mem_univ _, Finset.mem_filter.mpr ⟨Finset.mem_univ _, rfl⟩⟩

/-- The ring of weights is cut into its slots. -/
theorem cutW (c : Dev nD) (f : CT F cc0_scratch1) :
    pts c cc0_scratch1 f ⊢ bigSep Finset.univ fun k : Fin 8 => iprop(∃ f : CT F cc0_scratch1, ownW c k f) := by
  unfold pts
  have h := pointsTo_biUnion (ℓ := (c : Thread nD τ).loc cc0_scratch1) (q := fullShare) (f := (f : Buf (Elt F) ((c : Thread nD τ).loc cc0_scratch1)))
    (Ix := Unit) (Name := ℕ) (U := Pipeline.UD sig nD τ) (Lvl := ℕ) Finset.univ setW setW_disj
  rw [setW_cover] at h
  refine (Entails.of_eq h).trans (bigSep_mono fun k _ => ?_)
  refine (show ownW c k f ⊢ iprop(∃ f : CT F cc0_scratch1, ownW c k f) from ?_)
  iintro H; iexists f; iexact H

/-- The slots of weights are joined to the ring. -/
theorem glueW (c : Dev nD) (f₀ : CT F cc0_scratch1) :
    (bigSep Finset.univ fun k : Fin 8 => iprop(∃ f : CT F cc0_scratch1, ownW c k f)) ⊢ iprop(∃ f : CT F cc0_scratch1, pts c cc0_scratch1 f) := by
  haveI : Nonempty (CT F cc0_scratch1) := ⟨f₀⟩
  refine (bigSep_exists_pi (Y := fun _ => CT F cc0_scratch1) Finset.univ fun k f => ownW c k f).trans ?_
  iintro ⟨%fs, H⟩
  have h := pointsTo_biUnion_join (ℓ := (c : Thread nD τ).loc cc0_scratch1) (q := fullShare)
    (Ix := Unit) (Name := ℕ) (U := Pipeline.UD sig nD τ) (Lvl := ℕ) (Val := Elt F) Finset.univ setW fs f₀ setW_disj
  rw [setW_cover] at h
  ihave H2 := h $$ H
  icases H2 with ⟨%g, -, H⟩
  iexists g
  unfold pts
  iexact H

/-- What is kept of the source while the ring's read tokens are out. -/
def keepW (c : Dev nD) (w : CT F main_arg2) : sProp 𝕄 :=
  ((c : Thread nD τ).loc main_arg2) ↦{Transfers.shareDrop fullShare 8} (w : Buf (Elt F) ((c : Thread nD τ).loc main_arg2))

/-- A part of the weights is dealt to each slot. -/
theorem dealW (c : Dev nD) (w : CT F main_arg2) :
    pts c main_arg2 w ⊢ iprop(keepW c w ∗ bigSep Finset.univ fun k : Fin 8 => tokW c k w) := by
  unfold pts keepW
  exact Transfers.pointsTo_toks_split fullShare 8

/-- The parts of the weights are joined again. -/
theorem undealW (c : Dev nD) (w : CT F main_arg2) :
    iprop(keepW c w ∗ bigSep Finset.univ fun k : Fin 8 => tokW c k w) ⊢ pts c main_arg2 w := by
  unfold pts keepW
  exact Transfers.pointsTo_toks_join fullShare 8

/-- The slots of scales are disjoint. -/
theorem setS_disj : ∀ t ∈ (Finset.univ : Finset (Fin 8)), ∀ t' ∈ (Finset.univ : Finset (Fin 8)), t ≠ t' → Disjoint (setS t) (setS t') := by
  intro t _ t' _ h
  rw [Finset.disjoint_left]
  intro i h1 h2
  exact h (Fin.ext ((Finset.mem_filter.mp h1).2.symm.trans (Finset.mem_filter.mp h2).2))

/-- The slots of scales are the whole ring. -/
theorem setS_cover : (Finset.univ : Finset (Fin 8)).biUnion setS = Finset.univ := by
  refine Finset.eq_univ_of_forall fun i => ?_
  rw [Finset.mem_biUnion]
  exact ⟨⟨(show S8x32x4096.Idx from i) 0, ((show S8x32x4096.Idx from i) 0).isLt⟩, Finset.mem_univ _, Finset.mem_filter.mpr ⟨Finset.mem_univ _, rfl⟩⟩

/-- The ring of scales is cut into its slots. -/
theorem cutS (c : Dev nD) (f : CT F cc0_scratch2) :
    pts c cc0_scratch2 f ⊢ bigSep Finset.univ fun k : Fin 8 => iprop(∃ f : CT F cc0_scratch2, ownS c k f) := by
  unfold pts
  have h := pointsTo_biUnion (ℓ := (c : Thread nD τ).loc cc0_scratch2) (q := fullShare) (f := (f : Buf (Elt F) ((c : Thread nD τ).loc cc0_scratch2)))
    (Ix := Unit) (Name := ℕ) (U := Pipeline.UD sig nD τ) (Lvl := ℕ) Finset.univ setS setS_disj
  rw [setS_cover] at h
  refine (Entails.of_eq h).trans (bigSep_mono fun k _ => ?_)
  refine (show ownS c k f ⊢ iprop(∃ f : CT F cc0_scratch2, ownS c k f) from ?_)
  iintro H; iexists f; iexact H

/-- The slots of scales are joined to the ring. -/
theorem glueS (c : Dev nD) (f₀ : CT F cc0_scratch2) :
    (bigSep Finset.univ fun k : Fin 8 => iprop(∃ f : CT F cc0_scratch2, ownS c k f)) ⊢ iprop(∃ f : CT F cc0_scratch2, pts c cc0_scratch2 f) := by
  haveI : Nonempty (CT F cc0_scratch2) := ⟨f₀⟩
  refine (bigSep_exists_pi (Y := fun _ => CT F cc0_scratch2) Finset.univ fun k f => ownS c k f).trans ?_
  iintro ⟨%fs, H⟩
  have h := pointsTo_biUnion_join (ℓ := (c : Thread nD τ).loc cc0_scratch2) (q := fullShare)
    (Ix := Unit) (Name := ℕ) (U := Pipeline.UD sig nD τ) (Lvl := ℕ) (Val := Elt F) Finset.univ setS fs f₀ setS_disj
  rw [setS_cover] at h
  ihave H2 := h $$ H
  icases H2 with ⟨%g, -, H⟩
  iexists g
  unfold pts
  iexact H

/-- What is kept of the source while the ring's read tokens are out. -/
def keepS (c : Dev nD) (w : CT F main_arg3) : sProp 𝕄 :=
  ((c : Thread nD τ).loc main_arg3) ↦{Transfers.shareDrop fullShare 8} (w : Buf (Elt F) ((c : Thread nD τ).loc main_arg3))

/-- A part of the scales is dealt to each slot. -/
theorem dealS (c : Dev nD) (w : CT F main_arg3) :
    pts c main_arg3 w ⊢ iprop(keepS c w ∗ bigSep Finset.univ fun k : Fin 8 => tokS c k w) := by
  unfold pts keepS
  exact Transfers.pointsTo_toks_split fullShare 8

/-- The parts of the scales are joined again. -/
theorem undealS (c : Dev nD) (w : CT F main_arg3) :
    iprop(keepS c w ∗ bigSep Finset.univ fun k : Fin 8 => tokS c k w) ⊢ pts c main_arg3 w := by
  unfold pts keepS
  exact Transfers.pointsTo_toks_join fullShare 8

/-- The semaphores of the two rings, at zero. -/
def sems (c : Dev nD) : sProp 𝕄 :=
  iprop((bigSep Finset.univ fun k : Fin 8 => semVal ((c : Thread nD τ), .dma (semW k)) 0)
    ∗ bigSep Finset.univ fun k : Fin 8 => semVal ((c : Thread nD τ), .dma (semS k)) 0)

/-- An empty ring is its slots, its parts of the arrays and its semaphores. -/
theorem ring_open (c : Dev nD) (w : CT F main_arg2) (ws : CT F main_arg3) :
    ring c w ws (fun _ => none)
      = iprop(((bigSep Finset.univ fun k : Fin 8 => iprop(∃ f : CT F cc0_scratch1, ownW c k f)) ∗ (bigSep Finset.univ fun k : Fin 8 => tokW c k w)
            ∗ (bigSep Finset.univ fun k : Fin 8 => semVal ((c : Thread nD τ), .dma (semW k)) 0))
          ∗ ((bigSep Finset.univ fun k : Fin 8 => iprop(∃ f : CT F cc0_scratch2, ownS c k f)) ∗ (bigSep Finset.univ fun k : Fin 8 => tokS c k ws)
            ∗ (bigSep Finset.univ fun k : Fin 8 => semVal ((c : Thread nD τ), .dma (semS k)) 0))) := by
  unfold ring Ring.AtW
  simp only [slotΦ_none, bigSep_sep']

/-- The rings at their beginning. -/
theorem ring_intro (c : Dev nD) (w : CT F main_arg2) (ws : CT F main_arg3) (f1 : CT F cc0_scratch1) (f2 : CT F cc0_scratch2) :
    iprop(pts c cc0_scratch1 f1 ∗ pts c cc0_scratch2 f2 ∗ pts c main_arg2 w ∗ pts c main_arg3 ws ∗ sems c)
      ⊢ iprop(ring c w ws (fun _ => none) ∗ keepW c w ∗ keepS c ws) := by
  rw [ring_open]
  unfold sems
  iintro ⟨H1, H2, HW, HS, HsW, HsS⟩
  ihave H1 := (cutW c f1) $$ H1
  ihave H2 := (cutS c f2) $$ H2
  ihave HW := (dealW c w) $$ HW
  ihave HS := (dealS c ws) $$ HS
  icases HW with ⟨KW, HW⟩
  icases HS with ⟨KS, HS⟩
  isplitl [H1 H2 HW HS HsW HsS]
  · isplitl [H1 HW HsW]
    · isplitl [H1]; · iexact H1
      isplitl [HW]; · iexact HW
      iexact HsW
    · isplitl [H2]; · iexact H2
      isplitl [HS]; · iexact HS
      iexact HsS
  isplitl [KW]; · iexact KW
  iexact KS

/-- The rings at their end. -/
theorem ring_elim (c : Dev nD) (w : CT F main_arg2) (ws : CT F main_arg3) (f1 : CT F cc0_scratch1) (f2 : CT F cc0_scratch2) :
    iprop(ring c w ws (fun _ => none) ∗ keepW c w ∗ keepS c ws)
      ⊢ iprop((∃ f : CT F cc0_scratch1, pts c cc0_scratch1 f) ∗ (∃ f : CT F cc0_scratch2, pts c cc0_scratch2 f) ∗ pts c main_arg2 w ∗ pts c main_arg3 ws ∗ sems c) := by
  rw [ring_open]
  unfold sems
  iintro ⟨⟨⟨H1, HW, HsW⟩, ⟨H2, HS, HsS⟩⟩, KW, KS⟩
  isplitl [H1]; · iapply (glueW c f1); iexact H1
  isplitl [H2]; · iapply (glueS c f2); iexact H2
  isplitl [HW KW]
  · iapply (undealW c w)
    isplitl [KW]; · iexact KW
    iexact HW
  isplitl [HS KS]
  · iapply (undealS c ws)
    isplitl [KS]; · iexact KS
    iexact HS
  isplitl [HsW]; · iexact HsW
  iexact HsS

end Cert.Proof.KernelIdeal

end
-- ==== Proof.PI.CopyX.lean ====
/- The copy of the activations into the chip's memory. -/
module

public import proofs.«01_k».proof.Proof.PI.Base

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The counters that the copy uses. -/
abbrev EX (F : FTy → Type) : UEmb Counters (MT nD τ sig Unit (Elt F) ℕ (Pipeline.UD sig nD τ) ℕ) :=
  countersEmb (U := Pipeline.UD sig nD τ)

/-- The amount that the copy signals. -/
abbrev amtX : ℕ := (Memref.whole cc0_scratch0 : Memref sig .tc _ _ _).view.amount (.dma cc0_scratch8.sem)

/-- The copy of the rows is of a positive amount. -/
theorem amtX_pos : 0 < amtX := View.amount_pos _ _ (Shape.numel_pos fun a => by match a with | 0 => exact Nat.succ_pos _ | 1 => exact Nat.succ_pos _)

/-- The activations as the copy leaves them. -/
abbrev landedX (x : CT F main_arg0) : CT F cc0_scratch0 := fun i => x i

/-- The copy on its way. -/
def flyX (c : Dev nD) (x : CT F main_arg0) : sProp 𝕄 :=
  Transfers.Flight (EX F) (c : Thread nD τ) (.dma cc0_scratch8.sem) () amtX
      iprop(pts c cc0_scratch0 (landedX x) ∗ pts c main_arg0 x)

/-- The start of the copy of the rows. -/
theorem wp_startX (c : Dev nD) (x : CT F main_arg0) (f : CT F cc0_scratch0)
    {hsrc : (Memref.whole main_arg0 : Memref sig .tc _ _ _).view.WordExact} {hdst : (Memref.whole cc0_scratch0 : Memref sig .tc _ _ _).view.WordExact}
    {hsem : DmaTarget.Typed (nD := nD) (p := (.tc : Proc τ)) .hbm (.dma cc0_scratch8.sem) (.here (Memref.whole cc0_scratch0))}
    {α : Type} {kk : PUnit → Prog (TpuEff nD τ sig (Elt F) (Λ₀ F) .tc) α} {Q : α → sProp 𝕄} :
    iprop(pts c cc0_scratch0 f ∗ pts c main_arg0 x ∗ semVal ((c : Thread nD τ), .dma cc0_scratch8.sem) 0)
      ⊢ iprop((flyX c x -∗ run c (kk ⟨⟩) Q)
        -∗ run c (.op (.enqueueDma (Memref.whole main_arg0) (.here (Memref.whole cc0_scratch0)) (.dma cc0_scratch8.sem) hsrc hdst hsem) kk) Q) := by
  iintro ⟨Hf, Hx, Hs⟩ Hk
  iapply (Transfers.wp_dmaLocal (EX F) 𝒱₀ (c : Thread nD τ) none () amtX rfl amtX_pos (Finset.subset_univ _)
    (q := fullShare) (fs := (x : Buf (Elt F) ((c : Thread nD τ).loc main_arg0))) (fd := (f : Buf (Elt F) ((c : Thread nD τ).loc cc0_scratch0)))) $$ [Hf Hx Hs]
  · isplitl [Hx]
    · rw [View.set_whole]
      iexact Hx
    isplitl [Hf]; · iexact Hf
    iexact Hs
  iintro Hfl
  iapply Hk
  unfold flyX
  iapply (Transfers.Flight_mono (EX F) (c : Thread nD τ) (D' := iprop(pts c cc0_scratch0 (landedX x) ∗ pts c main_arg0 x)) (by
    rw [View.set_whole]
    refine sep_mono_left (Entails.of_eq ?_)
    congr 1
    exact View.write_whole_univ _ _ _)) $$ Hfl

/-- The wait for the copy of the rows. -/
theorem wp_waitX (c : Dev nD) (x : CT F main_arg0)
    {hsrc : (Memref.whole main_arg0 : Memref sig .tc _ _ _).view.WordExact} {hdst : (Memref.whole cc0_scratch0 : Memref sig .tc _ _ _).view.WordExact}
    {α : Type} {kk : PUnit → Prog (TpuEff nD τ sig (Elt F) (Λ₀ F) .tc) α} {Q : α → sProp 𝕄} :
    iprop(flyX c x ∗ (∃ W, owes (c : Thread nD τ) 0 W))
      ⊢ iprop((iprop((pts c cc0_scratch0 (landedX x) ∗ pts c main_arg0 x) ∗ semVal ((c : Thread nD τ), .dma cc0_scratch8.sem) 0 ∗ (∃ W, owes (c : Thread nD τ) 0 W))
          -∗ run c (kk ⟨⟩) Q)
        -∗ run c (.op (.waitDma2 cc0_scratch8.sem (Memref.whole main_arg0) (Memref.whole cc0_scratch0) hsrc hdst) kk) Q) := by
  unfold flyX
  iintro ⟨Hfl, ⟨%W, HW⟩⟩ Hk
  iapply (Transfers.wp_waitLocal (EX F) 𝒱₀ (c : Thread nD τ) none () (N := amtX) (dstw := Memref.whole cc0_scratch0) rfl) $$ [Hfl HW]
  · isplitl [Hfl]; · iexact Hfl
    iexact HW
  iintro ⟨HD, Hs, HW⟩
  iapply Hk
  isplitl [HD]; · iexact HD
  isplitl [Hs]; · iexact Hs
  iexists _; iexact HW

end Cert.Proof.KernelIdeal

end
-- ==== Proof.PI.Chk3.lean ====
/- The side conditions of the loop over the work items, for every number of work items up to 14. -/
module

public import proofs.«01_k».proof.Proof.PI.Offs

@[expose] public section

set_option maxRecDepth 16384

noncomputable section

namespace Cert.Proof.KernelIdeal

open Cert.KernelIdeal Cert.KernelIdeal.Gen
open Idealize.ShloMosaic

/-- The blocks of 32 rows of a tile of the weights are inside the ring. -/
theorem off31_le (n : Fin 15) (t : Fin (k0_t5_loop (w32 n.val)).trips) (k : Fin k0_t6_loop.trips) (a : Fin k0_t7_loop.trips)
    (u : Fin k0_t8_loop.trips) (r : Fin 8) (i : Fin 3) :
    (k0_off31 (w32 n.val) t k a u (BitVec.ofNat 32 r.val)) i + S1x32x256.size i ≤ S8x1024x4096.size i := by
  rw [off31_n]
  have h1 : a.val < 16 := a.isLt
  have h2 : u.val < 4 := u.isLt
  have h3 := r.isLt
  match i with
  | 0 => show (7 * t.val + k.val) % 8 + 1 ≤ 8; omega
  | 1 => show 32 * (8 * u.val + r.val) + 32 ≤ 1024; omega
  | 2 => show 256 * a.val + 256 ≤ 4096; omega

/-- The loop over the work items stays inside its arrays. The remainder loop makes no trip, so of it there is nothing to show. -/
theorem chk3_n (n : Fin 15) : k0_chk3 (w32 n.val) := by
  have no {P : Fin (k0_t11_loop (w32 n.val)).trips → Prop} : ∀ t, P t := fun t => (Fin.cast (trips11 n) t).elim0
  refine ⟨⟨?_, ?_, ?_, ?_, ?_, ?_, ?_, ?_, ?_, ?_, ?_, ?_, ?_, ?_, ?_, ?_, ?_, off31_le n, ?_, ?_, ?_, no, no, no, no, no, no, no, no, no, no, no⟩, no, no, no, no, no, no, no, no⟩
  all_goals
    clear no
    revert n
    decide +kernel

end Cert.Proof.KernelIdeal

end
-- ==== Proof.PI.Whole.lean ====
/- The kernel's whole body: from the buffers as the launch hands them over to the two results. -/
module

public import proofs.«01_k».proof.Proof.PI.Flow
public import proofs.«01_k».proof.Proof.PI.RingIO
public import proofs.«01_k».proof.Proof.PI.CopyX
public import proofs.«01_k».proof.Proof.PI.Chk3

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The kernel's body on its buffers, all but the last stores. -/
def part21 := k0_part21 (F := F) (Memref.whole cc0_stg0_0) (Memref.isWhole_whole _) (Memref.whole main_arg0) (Memref.isWhole_whole _)
    (Memref.whole main_arg2) (Memref.isWhole_whole _) (Memref.whole main_arg3) (Memref.isWhole_whole _) (Memref.whole cc0_stg1_0) (Memref.isWhole_whole _)
    (Memref.whole cc0_stg2_0) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _)
    (Memref.whole cc0_scratch5) (Memref.isWhole_whole _) (Memref.whole cc0_scratch6) (Memref.isWhole_whole _) (Memref.whole cc0_scratch7) (Memref.isWhole_whole _)
    cc0_scratch8 cc0_scratch9 cc0_scratch10

/-- The kernel's body on its buffers. -/
def whole := cc0_moe_gate_up (F := F) (Memref.whole cc0_stg0_0) (Memref.isWhole_whole _) (Memref.whole main_arg0) (Memref.isWhole_whole _)
    (Memref.whole main_arg2) (Memref.isWhole_whole _) (Memref.whole main_arg3) (Memref.isWhole_whole _) (Memref.whole cc0_stg1_0) (Memref.isWhole_whole _)
    (Memref.whole cc0_stg2_0) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _)
    (Memref.whole cc0_scratch5) (Memref.isWhole_whole _) (Memref.whole cc0_scratch6) (Memref.isWhole_whole _) (Memref.whole cc0_scratch7) (Memref.isWhole_whole _)
    cc0_scratch8 cc0_scratch9 cc0_scratch10

/-- The table of the work items as the first loop leaves it. -/
def TabOk (g : CT F cc0_stg0_0) (f : CT F cc0_scratch7) (n : ℕ) (eN : ℕ → Fin 13) (rN : ℕ → Fin 9) : Prop :=
  n < 15 ∧ (∀ i < n, tw f 0 (fi i) = w32 (eN i).val ∧ tw f 1 (fi i) = w32 (16 * (rN i).val)
      ∧ rowS g (eN i).val ≤ (tw f 2 (fi i)).toNat ∧ (tw f 3 (fi i)).toNat ≤ rowS g ((eN i).val + 1)
      ∧ 16 * (rN i).val ≤ (tw f 2 (fi i)).toNat ∧ (tw f 3 (fi i)).toNat ≤ 16 * (rN i).val + 128 ∧ (tw f 3 (fi i)).toNat ≤ 256
      ∧ (tw f 2 (fi i)).toNat ≤ 256)
    ∧ ∀ ρ < rowS g 13, ∃ i < n, (tw f 2 (fi i)).toNat ≤ ρ ∧ ρ < (tw f 3 (fi i)).toNat

omit [FloatOps F] in
/-- A table that describes the groups describes tiles inside the arrays. -/
theorem TabOk.tab {g : CT F cc0_stg0_0} {f : CT F cc0_scratch7} {n : ℕ} {eN : ℕ → Fin 13} {rN : ℕ → Fin 9} (h : TabOk g f n eN rN) :
    Tab f n eN rN := fun i hi => ⟨(h.2.1 i hi).1, (h.2.1 i hi).2.1⟩

omit [FloatOps F] in
/-- The table the scheduling loop leaves describes the groups. -/
theorem Items.tabOk {g : CT F cc0_stg0_0} {f : CT F cc0_scratch7} {n : ℕ} (hn : n < 15) (h : Items g f n (rowS g 13)) :
    ∃ eN rN, TabOk g f n eN rN := by
  have hfi : ∀ i < n, (fi i).val = i := fun i hi => Nat.mod_eq_of_lt (by omega)
  have key : ∀ i : ℕ, ∃ (e : Fin 13) (q : Fin 9), i < n → (tw f 0 (fi i) = w32 e.val ∧ tw f 1 (fi i) = w32 (16 * q.val)
      ∧ rowS g e.val ≤ (tw f 2 (fi i)).toNat ∧ (tw f 3 (fi i)).toNat ≤ rowS g (e.val + 1)
      ∧ 16 * q.val ≤ (tw f 2 (fi i)).toNat ∧ (tw f 3 (fi i)).toNat ≤ 16 * q.val + 128 ∧ (tw f 3 (fi i)).toNat ≤ 256
      ∧ (tw f 2 (fi i)).toNat ≤ 256) := by
    intro i
    by_cases hi : i < n
    · obtain ⟨e, q, H⟩ := h.1 (fi i) (by rw [hfi i hi]; exact hi)
      exact ⟨e, q, fun _ => H⟩
    · exact ⟨0, 0, fun h => absurd h hi⟩
  choose eN rN H using key
  refine ⟨eN, rN, hn, H, fun ρ hρ => ?_⟩
  obtain ⟨i, hi, h1, h2⟩ := h.2 ρ hρ
  have hi' : fi i.val = i := Fin.ext (hfi i.val hi)
  exact ⟨i.val, hi, by rw [hi']; exact h1, by rw [hi']; exact h2⟩

/-- What the loops over the items leave, from the arguments, the table, and what the two buffers that nothing has written yet hold. -/
def outSt (x : CT F main_arg0) (w : CT F main_arg2) (ws : CT F main_arg3) (n : ℕ) (f : CT F cc0_scratch7) (eN : ℕ → Fin 13) (rN : ℕ → Fin 9)
    (SC : CT F cc0_scratch3) (A : CT F cc0_scratch4) : St F :=
  itemsTo (xqAll (landedX x)) w ws f eN rN (SC, A, k0_pay51 (F := F), k0_pay52) n

/-- The first 64 columns of the buffer of the scales' bytes. -/
def rdYS (S : CT F cc0_scratch6) : Vec F S256x64 .i32 :=
  ((Memref.whole cc0_scratch6 : Memref sig .tc _ _ _).access (Rect.unit (s := S256x128) ![0, 0] S256x64.size inb_S256x128_S256x64_0_0)).read (Elt F) S

/-- The first result may be `y`. -/
def OutY (x : CT F main_arg0) (w : CT F main_arg2) (ws : CT F main_arg3) (g : CT F cc0_stg0_0) (y : CT F cc0_stg1_0) : Prop :=
  ∃ n f eN rN SC A, TabOk g f n eN rN ∧ y = k0_pay72 (outSt x w ws n f eN rN SC A).2.2.1

/-- The second result may be `s`. -/
def OutS (x : CT F main_arg0) (w : CT F main_arg2) (ws : CT F main_arg3) (g : CT F cc0_stg0_0) (s : CT F cc0_stg2_0) : Prop :=
  ∃ n f eN rN SC A, TabOk g f n eN rN ∧ s = k0_pay1 (rdYS (outSt x w ws n f eN rN SC A).2.2.2)

/-- The buffers that the body only uses. -/
def scratch (c : Dev nD) : sProp 𝕄 :=
  iprop((∃ f : CT F cc0_scratch0, pts c cc0_scratch0 f) ∗ (∃ f : CT F cc0_scratch1, pts c cc0_scratch1 f)
    ∗ (∃ f : CT F cc0_scratch2, pts c cc0_scratch2 f) ∗ (∃ f : CT F cc0_scratch3, pts c cc0_scratch3 f)
    ∗ (∃ f : CT F cc0_scratch4, pts c cc0_scratch4 f) ∗ (∃ f : CT F cc0_scratch5, pts c cc0_scratch5 f)
    ∗ (∃ f : CT F cc0_scratch6, pts c cc0_scratch6 f) ∗ (∃ f : CT F cc0_scratch7, pts c cc0_scratch7 f))

/-- The arguments, the semaphores at zero, and that nothing is owed. -/
def kept (c : Dev nD) (x : CT F main_arg0) (w : CT F main_arg2) (ws : CT F main_arg3) (g : CT F cc0_stg0_0) : sProp 𝕄 :=
  iprop(pts c cc0_stg0_0 g ∗ pts c main_arg0 x ∗ pts c main_arg2 w ∗ pts c main_arg3 ws
    ∗ semVal ((c : Thread nD τ), .dma cc0_scratch8.sem) 0 ∗ sems c ∗ ∃ W, owes (c : Thread nD τ) 0 W)

/-- What is held before the last stores, `v` being the first result. -/
def mid (c : Dev nD) (x : CT F main_arg0) (w : CT F main_arg2) (ws : CT F main_arg3) (g : CT F cc0_stg0_0) (y : CT F cc0_stg1_0)
    (v : FVec F S256x2048 .fp8e4m3) : sProp 𝕄 :=
  iprop(∃ (n : ℕ) (f : CT F cc0_scratch7) (eN : ℕ → Fin 13) (rN : ℕ → Fin 9) (SC : CT F cc0_scratch3) (A : CT F cc0_scratch4),
    ⌜TabOk g f n eN rN ∧ v = k0_pay72 (outSt x w ws n f eN rN SC A).2.2.1⌝
    ∗ kept c x w ws g ∗ pts c cc0_stg1_0 y ∗ pts c cc0_scratch6 (outSt x w ws n f eN rN SC A).2.2.2
    ∗ (∃ f : CT F cc0_scratch0, pts c cc0_scratch0 f) ∗ (∃ f : CT F cc0_scratch1, pts c cc0_scratch1 f)
    ∗ (∃ f : CT F cc0_scratch2, pts c cc0_scratch2 f) ∗ (∃ f : CT F cc0_scratch3, pts c cc0_scratch3 f)
    ∗ (∃ f : CT F cc0_scratch4, pts c cc0_scratch4 f) ∗ (∃ f : CT F cc0_scratch5, pts c cc0_scratch5 f)
    ∗ (∃ f : CT F cc0_scratch7, pts c cc0_scratch7 f))

omit [FloatOps F] in
/-- Writing all of the codes leaves what was written. -/
theorem wr_stg1 (f w : CT F cc0_stg1_0) :
    ((Memref.whole cc0_stg1_0 : Memref sig .tc _ _ _).access (Rect.unit (s := S256x2048) ![0, 0] S256x2048.size inb_S256x2048_S256x2048_0_0)).write (Elt F) f w Finset.univ = w :=
  Memref.write_access_unit_zero_univ (Elt F) cc0_stg1_0 (funext fun a => by match a with | 0 => rfl | 1 => rfl) _ f w

omit [FloatOps F] in
/-- Writing all of the bytes leaves what was written. -/
theorem wr_stg2 (f w : CT F cc0_stg2_0) :
    ((Memref.whole cc0_stg2_0 : Memref sig .tc _ _ _).access (Rect.unit (s := S256x64) ![0, 0] S256x64.size inb_S256x64_S256x64_0_0)).write (Elt F) f w Finset.univ = w :=
  Memref.write_access_unit_zero_univ (Elt F) cc0_stg2_0 (funext fun a => by match a with | 0 => rfl | 1 => rfl) _ f w

omit [FloatOps F] in
/-- Writing all of the buffer of codes leaves what was written. -/
theorem wr_s5 (f w : CT F cc0_scratch5) :
    ((Memref.whole cc0_scratch5 : Memref sig .tc _ _ _).access (Rect.unit (s := S256x2048) ![0, 0] S256x2048.size inb_S256x2048_S256x2048_0_0)).write (Elt F) f w Finset.univ = w :=
  Memref.write_access_unit_zero_univ (Elt F) cc0_scratch5 (funext fun a => by match a with | 0 => rfl | 1 => rfl) _ f w

omit [FloatOps F] in
/-- Writing all of the buffer of bytes leaves what was written. -/
theorem wr_s6 (f w : CT F cc0_scratch6) :
    ((Memref.whole cc0_scratch6 : Memref sig .tc _ _ _).access (Rect.unit (s := S256x128) ![0, 0] S256x128.size inb_S256x128_S256x128_0_0)).write (Elt F) f w Finset.univ = w :=
  Memref.write_access_unit_zero_univ (Elt F) cc0_scratch6 (funext fun a => by match a with | 0 => rfl | 1 => rfl) _ f w

omit [FloatOps F] in
/-- Reading all of the buffer of codes gives its content. -/
theorem rd_s5 (f : CT F cc0_scratch5) :
    ((Memref.whole cc0_scratch5 : Memref sig .tc _ _ _).access (Rect.unit (s := S256x2048) ![0, 0] S256x2048.size inb_S256x2048_S256x2048_0_0)).read (Elt F) f = f :=
  Memref.read_access_unit_zero (Elt F) cc0_scratch5 (funext fun a => by match a with | 0 => rfl | 1 => rfl) _ f

/-- The first loop. -/
theorem loop1 (c : Dev nD) (g : CT F cc0_stg0_0) (hS : rowS g 13 ≤ 256) (f : CT F cc0_scratch7) {K : BitVec 32 × BitVec 32 → sProp 𝕄} :
    iprop((pts c cc0_stg0_0 g ∗ pts c cc0_scratch7 f)
        ∗ (∀ (n : Fin 15) (r : BitVec 32) (f : CT F cc0_scratch7) (eN : ℕ → Fin 13) (rN : ℕ → Fin 9),
            iprop(⌜TabOk g f n.val eN rN⌝ ∗ pts c cc0_stg0_0 g ∗ pts c cc0_scratch7 f) -∗ K (w32 n.val, r)))
      ⊢ run c (Scf.Loop.for k0_t1_loop k0_t1_ok (0#32, 0#32) body1) K := by
  iintro ⟨⟨Hg, Hf⟩, Hk⟩
  iapply (run_for c k0_t1_loop k0_t1_ok (0#32, 0#32) body1 (fun k a => inv1 c g k a) (fun k a => trip1 c g hS k a))
  isplitl [Hg Hf]
  · unfold inv1
    iexists f, 0
    isplitr
    · ipureintro
      exact ⟨rfl, Items.zero g f, Nat.zero_le _⟩
    isplitl [Hg]; · iexact Hg
    iexact Hf
  iintro %a H
  unfold inv1
  icases H with ⟨%f, %n, %h, Hg, Hf⟩
  obtain ⟨rfl, hI, hn⟩ := h
  have hn' : n < 15 := by
    have h13 : k0_t1_loop.trips = 13 := rfl
    rw [h13] at hn
    split at hn <;> omega
  obtain ⟨eN, rN, hT⟩ := Items.tabOk hn' hI
  iapply Hk $$ %⟨n, hn'⟩ %_ %f %eN %rN
  isplitr
  · ipureintro; exact hT
  isplitl [Hg]; · iexact Hg
  iexact Hf

/-- The loop that has no trips. -/
theorem loop11 (c : Dev nD) (n : Fin 15) (hok : (k0_t11_loop (w32 n.val)).OK) (u : BitVec 32)
    (body : Fin (k0_t11_loop (w32 n.val)).trips → BitVec 32 → Prog (TpuEff nD τ sig (Elt F) (Λ₀ F) .tc) (BitVec 32)) {K : BitVec 32 → sProp 𝕄} :
    (iprop(∀ u, K u)) ⊢ run c (Scf.Loop.for (k0_t11_loop (w32 n.val)) hok u body) K := by
  iintro Hk
  iapply (run_for c (k0_t11_loop (w32 n.val)) hok u body (fun _ _ => iprop(∀ u, K u))
    (fun k => absurd (lt_of_lt_of_eq k.isLt (trips11 n)) (Nat.not_lt_zero _)))
  isplitl [Hk]; · iexact Hk
  iintro %a H
  iapply H

set_option maxHeartbeats 2000000 in
/-- The body up to the loop over the items and the buffer of codes. -/
theorem part21_run (c : Dev nD) (x : CT F main_arg0) (w : CT F main_arg2) (ws : CT F main_arg3) (g : CT F cc0_stg0_0) (hS : rowS g 13 ≤ 256)
    (y : CT F cc0_stg1_0) {K : FVec F S256x2048 .fp8e4m3 → sProp 𝕄} :
    iprop((kept c x w ws g ∗ scratch c ∗ pts c cc0_stg1_0 y) ∗ (∀ v, mid c x w ws g y v -∗ K v)) ⊢ run c part21 K := by
  unfold kept scratch
  iintro ⟨⟨⟨Hg, Hx, Hw, Hws, Hsx, Hsm, HW⟩, ⟨⟨%f0, H0⟩, ⟨%f1, H1⟩, ⟨%f2, H2⟩, ⟨%f3, H3⟩, ⟨%f4, H4⟩, ⟨%f5, H5⟩, ⟨%f6, H6⟩, ⟨%f7, H7⟩⟩, Hy⟩, Hk⟩
  ihave HR := (ring_intro c w ws f1 f2) $$ [H1 H2 Hw Hws Hsm]
  · isplitl [H1]; · iexact H1
    isplitl [H2]; · iexact H2
    isplitl [Hw]; · iexact Hw
    isplitl [Hws]; · iexact Hws
    iexact Hsm
  icases HR with ⟨HR, HKW, HKS⟩
  unfold part21
  rw [k0_part21_eq_skeleton]
  unfold k0_part21_skel
  simp only [Prog.lift, Prog.bind_op, Prog.bind_ret, Prog.pure_eq_ret]
  iapply (wp_startX c x f0) $$ [H0 Hx Hsx]
  · isplitl [H0]; · iexact H0
    isplitl [Hx]; · iexact Hx
    iexact Hsx
  iintro Hfly
  rw [run, wp_bind]
  iapply (loop1 c g hS f7)
  isplitl [Hg H7]
  · isplitl [Hg]; · iexact Hg
    iexact H7
  iintro %n %r %f %eN %rN ⟨%hT, Hg, H7⟩
  iapply (wp_assume 𝒱₀ (c : Thread nD τ) _ Set.univ (chk3_n n))
  rw [wp_bind]
  iapply (loop2 c n f eN rN hT.tab w ws)
  isplitl [H7 HR]
  · isplitl [H7]; · iexact H7
    iexact HR
  iintro ⟨H7, HR⟩
  iapply (wp_ld c _ (Memref.whole cc0_scratch5)) $$ H5; iintro H5
  iapply (wp_st c _ (Memref.whole cc0_scratch5)) $$ H5; iintro H5
  iapply (wp_ld c _ (Memref.whole cc0_scratch6)) $$ H6; iintro H6
  iapply (wp_st c _ (Memref.whole cc0_scratch6)) $$ H6; iintro H6
  have e5 := wr_s5 f5 (k0_pay51 (F := F))
  have e6 := wr_s6 f6 (k0_pay52 : CT F cc0_scratch6)
  rw [e5, e6]
  iapply (wp_waitX c x) $$ [Hfly HW]
  · isplitl [Hfly]; · iexact Hfly
    iexact HW
  iintro ⟨⟨H0, Hx⟩, Hsx, HW⟩
  rw [run, wp_bind]
  iapply (loop3 c (landedX x))
  isplitl [H0]; · iexact H0
  iintro H0
  rw [wp_bind]
  iapply (loop5 c n (chk3_n n) _ _ _ f eN rN hT.tab (xqAll (landedX x)) w ws (f3, f4, k0_pay51 (F := F), k0_pay52))
  isplitl [H0 H7 HR HW H3 H4 H5 H6]
  · isplitl [H0 H7 HR HW]
    · unfold held6
      isplitl [H0]; · iexact H0
      isplitl [H7]; · iexact H7
      isplitl [HR]; · rw [show 0 + 7 = 7 from rfl]; iexact HR
      iexact HW
    unfold ptsSt
    isplitl [H3]; · iexact H3
    isplitl [H4]; · iexact H4
    isplitl [H5]; · iexact H5
    iexact H6
  iintro %u ⟨HH, HS⟩
  rw [wp_bind]
  iapply (loop11 c n)
  iintro %u
  unfold held6 ptsSt
  icases HH with ⟨H0, H7, HR, HW⟩
  icases HS with ⟨H3, H4, H5, H6⟩
  iapply (wp_ld c _ (Memref.whole cc0_scratch5)) $$ H5; iintro H5
  iapply (wp_ld c _ (Memref.whole cc0_stg1_0)) $$ Hy; iintro Hy
  rw [wp_ret]; imodintro
  iapply Hk
  rw [win_empty (gOf eN) (Nat.min_le_right _ _)]
  ihave HE := (ring_elim c w ws f1 f2) $$ [HR HKW HKS]
  · isplitl [HR]; · iexact HR
    isplitl [HKW]; · iexact HKW
    iexact HKS
  icases HE with ⟨H1, H2, Hw, Hws, Hsm⟩
  unfold mid
  iexists n.val, f, eN, rN, f3, f4
  isplitr
  · ipureintro
    exact ⟨hT, by rw [rd_s5]; rfl⟩
  isplitl [Hg Hx Hw Hws Hsx Hsm HW]
  · unfold kept
    isplitl [Hg]; · iexact Hg
    isplitl [Hx]; · iexact Hx
    isplitl [Hw]; · iexact Hw
    isplitl [Hws]; · iexact Hws
    isplitl [Hsx]; · iexact Hsx
    isplitl [Hsm]; · iexact Hsm
    iexact HW
  isplitl [Hy]; · iexact Hy
  isplitl [H6]; · iexact H6
  isplitl [H0]; · iexists _; iexact H0
  isplitl [H1]; · iexact H1
  isplitl [H2]; · iexact H2
  isplitl [H3]; · iexists _; iexact H3
  isplitl [H4]; · iexists _; iexact H4
  isplitl [H5]; · iexists _; iexact H5
  iexists _; iexact H7

/-- The whole body. -/
theorem whole_run (c : Dev nD) (x : CT F main_arg0) (w : CT F main_arg2) (ws : CT F main_arg3) (g : CT F cc0_stg0_0) (hS : rowS g 13 ≤ 256)
    (y : CT F cc0_stg1_0) (s : CT F cc0_stg2_0) :
    iprop(kept c x w ws g ∗ scratch c ∗ pts c cc0_stg1_0 y ∗ pts c cc0_stg2_0 s)
      ⊢ run c whole fun _ => iprop(kept c x w ws g ∗ scratch c
          ∗ (∃ y : CT F cc0_stg1_0, ⌜OutY x w ws g y⌝ ∗ pts c cc0_stg1_0 y) ∗ (∃ s : CT F cc0_stg2_0, ⌜OutS x w ws g s⌝ ∗ pts c cc0_stg2_0 s)) := by
  iintro ⟨HK, Hsc, Hy, Hs⟩
  unfold whole
  rw [cc0_moe_gate_up_eq_skeleton]
  unfold cc0_moe_gate_up_skel
  simp only [Prog.lift, Prog.bind_op, Prog.bind_ret, Prog.pure_eq_ret]
  rw [run, wp_bind]
  iapply (part21_run c x w ws g hS y)
  isplitl [HK Hsc Hy]
  · isplitl [HK]; · iexact HK
    isplitl [Hsc]; · iexact Hsc
    iexact Hy
  iintro %v H
  unfold mid
  icases H with ⟨%n, %f, %eN, %rN, %SC, %A, %hv, HK, Hy, H6, H0, H1, H2, H3, H4, H5, H7⟩
  obtain ⟨hT, rfl⟩ := hv
  iapply (wp_st c _ (Memref.whole cc0_stg1_0)) $$ Hy; iintro Hy
  iapply (wp_ld c _ (Memref.whole cc0_scratch6)) $$ H6; iintro H6
  iapply (wp_ld c _ (Memref.whole cc0_stg2_0)) $$ Hs; iintro Hs
  iapply (wp_st c _ (Memref.whole cc0_stg2_0)) $$ Hs; iintro Hs
  have e1 := fun w => wr_stg1 (F := F) y w
  have e2 := fun w => wr_stg2 (F := F) s w
  rw [e1, e2]
  rw [wp_ret]; imodintro
  isplitl [HK]; · iexact HK
  isplitl [H0 H1 H2 H3 H4 H5 H6 H7]
  · unfold scratch
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexact H7
  isplitl [Hy]
  · iexists _
    isplitr
    · ipureintro; exact ⟨n, f, eN, rN, SC, A, hT, rfl⟩
    iexact Hy
  · iexists _
    isplitr
    · ipureintro; exact ⟨n, f, eN, rN, SC, A, hT, rfl⟩
    iexact Hs

end Cert.Proof.KernelIdeal

end
-- ==== Proof.PI.Launch.lean ====
/- The launch: the body under the pipeline, and what a run of the program leaves. -/
module

public import proofs.«01_k».proof.Proof.PI.Whole
public import proofs.«01_k».proof.Proof.Gen.KernelIdeal.Points
public import Idealize.ShloMosaic.Lib.Pipeline.Frame

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Idealize.ShloMosaic.Pipeline (RDat)

variable (m : (ℓ : Loc nD τ sig) → Buf (Elt F) ℓ) (ρ : Dev nD → PrngReg)

/-- The buffers as the region finds them: as launched. -/
abbrev V (c : Dev nD) (b : Ref sig .tc) : Buf (Elt F) ((c : Thread nD τ).loc b) := m ((c : Thread nD τ).loc b)

/-- The arguments, as buffers of their types. -/
abbrev argX (c : Dev nD) : CT F main_arg0 := m ((c : Thread nD τ).loc main_arg0)
abbrev argG (c : Dev nD) : CT F cc0_stg0_0 := m ((c : Thread nD τ).loc main_arg1)
abbrev argW (c : Dev nD) : CT F main_arg2 := m ((c : Thread nD τ).loc main_arg2)
abbrev argS (c : Dev nD) : CT F main_arg3 := m ((c : Thread nD τ).loc main_arg3)

omit [FloatOps F] in
/-- The program is the one pipelined call. -/
theorem hmain [FloatOps F] (𝒱 : Variants) :
    Pipeline.HMain (Ix := Unit) (Name := ℕ) (U := Pipeline.UD sig nD τ) (Lvl := ℕ) cfgs 0 defs₀ 𝒱 m (main (F := F)) (V m) :=
  Pipeline.hmain_region cfgs 0 defs₀ 𝒱 m main fun c => (main_chain c).trans rfl

/-- The body's own semaphores: the copy of the rows, and the two rings'. -/
abbrev osem0 : Fin 17 → SemLoc sig := fun j => SemLoc.dma ⟨3 + j.val, by have := j.isLt; show 3 + j.val < 20; omega⟩
/-- The kernel's own semaphores are none of the pipeline's. -/
theorem ownSemFacts0 : Pipeline.OwnSemFacts spec0 osem0 := by decide

/-- The arguments that stay where they are. -/
def H0 : Finset (Ref sig .tc) := {main_arg0, main_arg2, main_arg3}
/-- The arrays the kernel copies from itself are none of the pipeline's. -/
theorem H0_sub : H0 ⊆ Pipeline.restRefs sig spec0 := by decide
/-- No further array is kept. -/
theorem R0_sub : (∅ : Finset (Ref sig .tc)) ⊆ Pipeline.restRefs sig spec0 \ H0 := by decide

omit [FloatOps F] in
/-- Separating conjunction is associative, as an equation. -/
theorem sepAssoc (P Q R : sProp 𝕄) : BI.sep (BI.sep P Q) R = BI.sep P (BI.sep Q R) := equiv_iff.mp ⟨Idealize.SL.BI.sep_assoc, Idealize.SL.BI.sep_assoc'⟩

omit [FloatOps F] in
/-- The kernel's own semaphores, one by one. -/
theorem sems_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), .dma cc0_scratch8.sem) 0 ∗ sems c) := by
  rw [Pipeline.ownSems0_eq_of_list c osem0 [0, 1, 2, 3, 4, 5, 6, 7, 8, 9, 10, 11, 12, 13, 14, 15, 16] (by decide) (by decide)]
  unfold sems
  rw [bigSep_univ_eq_bigSepL [0, 1, 2, 3, 4, 5, 6, 7] (by decide) (by decide), bigSep_univ_eq_bigSepL [0, 1, 2, 3, 4, 5, 6, 7] (by decide) (by decide)]
  simp only [bigSepL_cons_cons, bigSepL_singleton]
  show _ = BI.sep _ (BI.sep _ _)
  simp only [sepAssoc]
  rfl

omit [FloatOps F] in
/-- The arrays the kernel copies from itself, one by one. -/
theorem arrs_eq (c : Dev nD) :
    (bigSep H0 (fun b => ((c : Thread nD τ).loc b) ↦{fullShare} V m c b) : sProp 𝕄)
      = iprop(pts c main_arg0 (argX m c) ∗ pts c main_arg2 (argW m c) ∗ pts c main_arg3 (argS m c)) := by
  rw [BI.bigSep_eq_bigSepL_of_eq [main_arg0, main_arg2, main_arg3] (by decide) (by decide)]; rfl

omit [FloatOps F] in
/-- What the body is given beside its windows, one by one. -/
theorem Phi_eq (c : Dev nD) :
    (Pipeline.ΦDR osem0 spec0 H0 ∅ (V m) c : sProp 𝕄)
      = iprop(scratch c ∗ (∃ r, prngReg c r) ∗ (semVal ((c : Thread nD τ), .dma cc0_scratch8.sem) 0 ∗ sems c)
          ∗ (pts c main_arg0 (argX m c) ∗ pts c main_arg2 (argW m c) ∗ pts c main_arg3 (argS m c)) ∗ emp) := by
  rw [Pipeline.ΦDR_eq, scopedRest0_eq, sems_eq, arrs_eq]
  unfold Pipeline.owned scratch
  rw [bigSep_empty]
  try rfl

/-- What the region's windows hold: the first what it found, the others what the body may leave. -/
def rdat (c : Dev nD) : RDat τ (Elt F) Unit ℕ (Pipeline.UD sig nD τ) ℕ (cfg0 (F := F)) c where
  A w := V m c (Pipeline.arrRef spec0 w)
  after w _ := match w with
    | ⟨0, _⟩ => fun Y X => X = Y
    | ⟨1, _⟩ => fun _ X => OutY (argX m c) (argW m c) (argS m c) (argG m c) X
    | ⟨2, _⟩ => fun _ X => OutS (argX m c) (argW m c) (argS m c) (argG m c) X
  Φ _ := Pipeline.ΦDR osem0 spec0 H0 ∅ (V m) c
  q _ := fullShare
  owed _ := 0

omit [FloatOps F] in
/-- The window of the group sizes is the whole array. -/
theorem read0 (f : CT F main_arg1) : (win0_0.blk t0_0).view.read (Elt F) f = f :=
  Memref.read_access_unit_zero (Elt F) main_arg1
    (show (fun a => (win0_0.index t0_0) a * main_arg1.ty.shape.size a) = fun _ => 0 from
      funext fun a => by fin_cases a <;> decide) (fun a => by fin_cases a <;> decide) f
omit [FloatOps F] in
/-- The window of the codes is the whole array. -/
theorem read1 (f : CT F main_v0_0) : (win0_1.blk t0_0).view.read (Elt F) f = f :=
  Memref.read_access_unit_zero (Elt F) main_v0_0
    (show (fun a => (win0_1.index t0_0) a * main_v0_0.ty.shape.size a) = fun _ => 0 from
      funext fun a => by fin_cases a <;> decide) (fun a => by fin_cases a <;> decide) f
omit [FloatOps F] in
/-- The window of the bytes is the whole array. -/
theorem read2 (f : CT F main_v0_1) : (win0_2.blk t0_0).view.read (Elt F) f = f :=
  Memref.read_access_unit_zero (Elt F) main_v0_1
    (show (fun a => (win0_2.index t0_0) a * main_v0_1.ty.shape.size a) = fun _ => 0 from
      funext fun a => by fin_cases a <;> decide) (fun a => by fin_cases a <;> decide) f

/-- The body finds the group sizes in its window. -/
theorem found0 (c : Dev nD) (t : Fin (cfg0 (F := F)).N) (d) : (rdat m c).fetched 0 t d = argG m c := by
  obtain rfl := fin_N0 t
  refine Eq.trans ?_ (read0 (argG m c))
  refine funext fun i => ?_
  rfl

/-- The body's label is the kernel's body. -/
theorem defs₀_row (t : Fin (cfg0 (F := F)).N) :
    defs₀ (F := F) .tc cfg0.body (cfg0.bodyArgs t (cfg0.slots t)) = whole := by
  obtain rfl := fin_N0 t
  unfold defs₀; rw [Defs.onTc_tc]; rfl

omit [FloatOps F] in
/-- Owning a whole reference is owning its buffer. -/
theorem owns_in (c : Dev nD) (b : Ref sig .tc) (f : CT F b) : owns (c : Thread nD τ) (Memref.whole b) fullShare f ⊢ pts (F := F) c b f := by
  rw [owns_whole]
omit [FloatOps F] in
/-- Owning a buffer is owning its whole reference. -/
theorem owns_out (c : Dev nD) (b : Ref sig .tc) (f : CT F b) : pts (F := F) c b f ⊢ owns (c : Thread nD τ) (Memref.whole b) fullShare f := by
  rw [owns_whole]

/-- A run's postcondition may be weakened. -/
theorem run_mono {α : Type} (c : Dev nD) (p : Prog (TpuEff nD τ sig (Elt F) (Λ₀ F) .tc) α) (Q Q' : α → sProp 𝕄) :
    run c p Q ⊢ iprop((∀ a, Q a -∗ Q' a) -∗ run c p Q') := wp_wand _ _ _

/-- The body at its windows keeps the call's contract. -/
theorem sound_body (c : Dev nD) (t : Fin (cfg0 (F := F)).N) (Y : (w : Fin (cfg0 (F := F)).W) → ((cfg0 (F := F)).win w).block.Idx → Elt F ((cfg0 (F := F)).win w).elt)
    (h0 : Y 0 = argG m c) (hS : rowS (argG m c) 13 ≤ 256) :
    iprop((rdat m c).Φ t.castSucc ∗ (rdat m c).owesAt () t.castSucc
        ∗ (owns (c : Thread nD τ) (st0_0 t) fullShare (Y 0) ∗ owns (c : Thread nD τ) (st0_1 t) fullShare (Y 1) ∗ owns (c : Thread nD τ) (st0_2 t) fullShare (Y 2)))
      ⊢ run c whole fun _ => iprop((rdat m c).Φ t.succ ∗ (rdat m c).owesAt () t.succ
        ∗ ((∃ X, ⌜(rdat m c).after 0 t (Y 0) X⌝ ∗ owns (c : Thread nD τ) (st0_0 t) fullShare X)
          ∗ (∃ X, ⌜(rdat m c).after 1 t (Y 1) X⌝ ∗ owns (c : Thread nD τ) (st0_1 t) fullShare X)
          ∗ (∃ X, ⌜(rdat m c).after 2 t (Y 2) X⌝ ∗ owns (c : Thread nD τ) (st0_2 t) fullShare X))) := by
  obtain rfl := fin_N0 t
  rw [h0]
  rw [show (rdat m c).Φ (t0_0 : Fin (cfg0 (F := F)).N).succ = (rdat m c).Φ (t0_0 : Fin (cfg0 (F := F)).N).castSucc from rfl]
  rw [show (rdat m c).Φ (t0_0 : Fin (cfg0 (F := F)).N).castSucc = Pipeline.ΦDR osem0 spec0 H0 ∅ (V m) c from rfl, Phi_eq]
  unfold RDat.owesAt Pipeline.owesWithin
  rw [show (rdat m c).owed (t0_0 : Fin (cfg0 (F := F)).N).castSucc = 0 from rfl, show (rdat m c).owed (t0_0 : Fin (cfg0 (F := F)).N).succ = 0 from rfl]
  have e0 : owns (c : Thread nD τ) (st0_0 (F := F) t0_0) fullShare (argG m c) ⊢ pts c cc0_stg0_0 (argG m c) := owns_in c cc0_stg0_0 (argG m c)
  have e1 : owns (c : Thread nD τ) (st0_1 (F := F) t0_0) fullShare (Y 1) ⊢ pts c cc0_stg1_0 (Y 1) := owns_in c cc0_stg1_0 (Y 1)
  have e2 : owns (c : Thread nD τ) (st0_2 (F := F) t0_0) fullShare (Y 2) ⊢ pts c cc0_stg2_0 (Y 2) := owns_in c cc0_stg2_0 (Y 2)
  have e0' : pts c cc0_stg0_0 (argG m c) ⊢ owns (c : Thread nD τ) (st0_0 (F := F) t0_0) fullShare (argG m c) := owns_out c cc0_stg0_0 (argG m c)
  have e1' (y : CT F cc0_stg1_0) : pts c cc0_stg1_0 y ⊢ owns (c : Thread nD τ) (st0_1 (F := F) t0_0) fullShare y := owns_out c cc0_stg1_0 y
  have e2' (s : CT F cc0_stg2_0) : pts c cc0_stg2_0 s ⊢ owns (c : Thread nD τ) (st0_2 (F := F) t0_0) fullShare s := owns_out c cc0_stg2_0 s
  iintro ⟨⟨Hsc, Hg, ⟨Hx, Hse⟩, ⟨Ha0, Ha2, Ha3⟩, Hem⟩, ⟨%W, -, HW⟩, ⟨H0, H1, H2⟩⟩
  iapply (run_mono c whole) $$ [Hsc Hx Hse Ha0 Ha2 Ha3 HW H0 H1 H2] [Hg Hem]
  · iapply (whole_run c (argX m c) (argW m c) (argS m c) (argG m c) hS (Y 1) (Y 2))
    unfold kept
    isplitl [Hx Hse Ha0 Ha2 Ha3 HW H0]
    · isplitl [H0]; · iapply e0 $$ H0
      isplitl [Ha0]; · iexact Ha0
      isplitl [Ha2]; · iexact Ha2
      isplitl [Ha3]; · iexact Ha3
      isplitl [Hx]; · iexact Hx
      isplitl [Hse]; · iexact Hse
      iexists W; iexact HW
    isplitl [Hsc]; · iexact Hsc
    isplitl [H1]; · iapply e1 $$ H1
    iapply e2 $$ H2
  unfold kept
  iintro %u ⟨⟨H0, Ha0, Ha2, Ha3, Hx, Hse, %W', HW⟩, Hsc, ⟨%y, %hy, H1⟩, ⟨%s, %hs, H2⟩⟩
  isplitl [Hsc Hg Hx Hse Ha0 Ha2 Ha3 Hem]
  · isplitl [Hsc]; · iexact Hsc
    isplitl [Hg]; · iexact Hg
    isplitl [Hx Hse]
    · isplitl [Hx]; · iexact Hx
      iexact Hse
    isplitl [Ha0 Ha2 Ha3]
    · isplitl [Ha0]; · iexact Ha0
      isplitl [Ha2]; · iexact Ha2
      iexact Ha3
    iexact Hem
  isplitl [HW]
  · iexists W'; isplitr; · ipureintro; exact fun _ _ => Or.inl trivial
    iexact HW
  isplitl [H0]
  · iexists (argG m c); isplitr; · ipureintro; rfl
    iapply e0' $$ H0
  isplitl [H1]
  · iexists y; isplitr; · ipureintro; exact hy
    iapply (e1' y) $$ H1
  · iexists s; isplitr; · ipureintro; exact hs
    iapply (e2' s) $$ H2

/-- The body meets what the pipeline asks of it. -/
theorem body_obligation (hS : ∀ c, rowS (argG m c) 13 ≤ 256) (c : Dev nD) :
    (rdat m c).BodyObligation (defs₀ (F := F)) 𝒱₀ () Set.univ := fun t Y hY => by
  have h0 : Y 0 = argG m c := by
    obtain ⟨d, hd⟩ := ((rdat m c).finds_of_fetch (fetch0_0 t) _).mp (hY 0)
    rw [hd, found0]
  rw [bigSep_W0, bigSep_W0, defs₀_row]
  exact triple_restated (sound_body m c t Y h0 (hS c)) rfl .rfl fun _ => .rfl

/-- The codes written back are the window's. -/
theorem left1 (G G' : CT F main_v0_0) (X : CT F cc0_stg1_0)
    (h : G' = ((cfg0 (F := F)).win 1 |>.blk t0_0).view.write (Elt F) G (((cfg0 (F := F)).win 1).cut ((cfg0 (F := F)).grid.coords t0_0) X) Finset.univ) : G' = X := by
  have hw : (((cfg0 (F := F)).win 1).blk t0_0).view.read (Elt F) G' = ((cfg0 (F := F)).win 1).cut ((cfg0 (F := F)).grid.coords t0_0) X := by
    rw [h]; exact View.read_write_univ _ _
  exact (read1 G').symm.trans hw

/-- The bytes written back are the window's. -/
theorem left2 (G G' : CT F main_v0_1) (X : CT F cc0_stg2_0)
    (h : G' = ((cfg0 (F := F)).win 2 |>.blk t0_0).view.write (Elt F) G (((cfg0 (F := F)).win 2).cut ((cfg0 (F := F)).grid.coords t0_0) X) Finset.univ) : G' = X := by
  have hw : (((cfg0 (F := F)).win 2).blk t0_0).view.read (Elt F) G' = ((cfg0 (F := F)).win 2).cut ((cfg0 (F := F)).grid.coords t0_0) X := by
    rw [h]; exact View.read_write_univ _ _
  exact (read2 G').symm.trans hw

set_option backward.isDefEq.respectTransparency.types false in
/-- The whole call runs, and its arrays end as the body leaves them. -/
theorem run_main (hS : ∀ c, rowS (argG m c) 13 ≤ 256) :
    θ_run defs (onTc (τ := τ) (main (F := F))) (s₀ m ρ)
      (fun r => RDat.FramePostR cfg0 (rdat m) ∅ (V m) r ∧ r.2.sem = fun _ => 0) :=
  Pipeline.RDat.θ_run_frame_dmaR (Q' := _) cfgs (0 : Fin 1) launch0 osem0 defs₀ 𝒱₀ (rdat m) ownSemFacts0 H0 ∅ H0_sub R0_sub m ρ main
    (hbody := body_obligation m hS) (hshare := fun c => (rdat m c).share_full fun _ => rfl)
    (howed := fun _ _ => rfl) (V := V m) (hmain := hmain m 𝒱₀) (hA := fun _ _ => rfl)
    (hin := fun _ => .rfl) (hout := fun _ => .rfl)

/-- An array of no window is among the rest. -/
theorem rest_mem (b : Ref sig .tc) (hs : b.isScoped = false) (ha : ∀ w, (spec0 w).arr.view.ref ≠ b) :
    b ∈ Pipeline.restRefs sig (cfg0 (F := F)).spec \ ∅ :=
  Finset.mem_sdiff.mpr ⟨Pipeline.mem_restRefs_of b hs ha, Finset.notMem_empty b⟩

/-- A run of the program: the arguments are as they were, the semaphores zero, the results among what the body may leave. -/
theorem main_run (hS : ∀ c, rowS (argG m c) 13 ≤ 256) :
    θ_run defs (onTc (τ := τ) (main (F := F))) ⟨m, fun _ => 0, ρ⟩ (fun r => (∀ c : Dev nD,
      (OutY (argX m c) (argW m c) (argS m c) (argG m c) (r.2.mem ((c.tc : Thread nD τ).loc main_v0_0))
        ∧ OutS (argX m c) (argW m c) (argS m c) (argG m c) (r.2.mem ((c.tc : Thread nD τ).loc main_v0_1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨⟨by
        have hw := (h.1 c).1 1
        rw [show (cfg0 (F := F)).N = (t0_0 : Fin (cfg0 (F := F)).N).val + 1 from N_0, RDat.ArrAt_succ, if_pos (flush0_1 _)] at hw
        obtain ⟨G, X, -, ⟨Y, -, hX⟩, e⟩ := hw
        have e' := left1 _ _ _ e
        show OutY _ _ _ _ (r.2.mem ((c.tc : Thread nD τ).loc main_v0_0))
        exact e' ▸ hX, by
        have hw := (h.1 c).1 2
        rw [show (cfg0 (F := F)).N = (t0_0 : Fin (cfg0 (F := F)).N).val + 1 from N_0, RDat.ArrAt_succ, if_pos (flush0_2 _)] at hw
        obtain ⟨G, X, -, ⟨Y, -, hX⟩, e⟩ := hw
        have e' := left2 _ _ _ e
        show OutS _ _ _ _ (r.2.mem ((c.tc : Thread nD τ).loc main_v0_1))
        exact e' ▸ hX⟩,
      (h.1 c).2 main_arg0 (rest_mem main_arg0 (by decide) (by decide)),
      (by
        have hw := (h.1 c).1 0
        rw [RDat.ArrAt_in _ _ rfl] at hw
        exact hw),
      (h.1 c).2 main_arg2 (rest_mem main_arg2 (by decide) (by decide)),
      (h.1 c).2 main_arg3 (rest_mem main_arg3 (by decide) (by decide))⟩, h.2⟩)
    (run_main m ρ hS)

end Cert.Proof.KernelIdeal

end
-- ==== Proof.PI.Pre.lean ====
/- The precondition of the frames, read: how many rows the groups hold. -/
module

public import proofs.«01_k».proof.Proof.PI.Sched
public import proofs.«01_k».proof.Proof.Gen.Pre_rows_fit
public import Idealize.ShloMosaic.Lib.WordSum
public import Idealize.ShloMosaic.PureOps.Reduce

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The indices of the groups. -/
def ixE : Fin 13 ≃ S13.Idx where
  toFun := ixG
  invFun i := i 0
  left_inv _ := rfl
  right_inv i := by
    funext a
    match a with
    | 0 => rfl

/-- The conjunction of two bits. -/
theorem andi_ofBool (p q : Bool) : IntOp.andi (BitVec.ofBool p) (BitVec.ofBool q) = BitVec.ofBool (p && q) := by
  cases p <;> cases q <;> decide
/-- A bit is one just when it is true. -/
theorem ofBool_eq_one (p : Bool) : (BitVec.ofBool p = 1#1) ↔ p = true := by cases p <;> decide

omit [FloatOps F] in
/-- The groups' end is the sum of the sizes. -/
theorem rowS_eq (g : CT F cc0_stg0_0) : rowS g 13 = ∑ e : Fin 13, (show BitVec 32 from g (ixG e)).toNat := by
  unfold rowS
  rw [Finset.sum_range]
  refine Finset.sum_congr rfl fun e _ => ?_
  unfold gsN
  rw [dif_pos e.isLt]

/-- The sum over the groups, as the count of their rows. -/
theorem sum_words (g : CT F cc0_stg0_0) (hu : 0 < Cert.Pre_rows_fit.S_.numel) (h : S13.ReducesTo [0] Cert.Pre_rows_fit.S_) (init : IVec Cert.Pre_rows_fit.S_ 32) (hi : ∀ i, init i = 0#32)
    (hb : ∀ i, (show BitVec 32 from g i).toNat ≤ 256) (j : Cert.Pre_rows_fit.S_.Idx) :
    (show BitVec 32 from Host.reduce IntOp.addi (show IVec S13 32 from g) init h hu j).toNat = rowS g 13 := by
  rw [Host.reduce_eq_fold, hi]
  have hS : (Finset.univ.filter fun i : S13.Idx => h.drop i = j) = Finset.univ := by
    refine Finset.filter_true_of_mem fun i _ => ?_
    funext a
    exact a.elim0
  rw [hS, show Finset.fold IntOp.addi 0#32 (show IVec S13 32 from g) Finset.univ = ∑ i : S13.Idx, (show BitVec 32 from g i) from rfl]
  have e : ∑ i : S13.Idx, (show BitVec 32 from g i).toNat = rowS g 13 := by
    rw [rowS_eq, ← ixE.sum_comp]; rfl
  have hlt : ∑ i : S13.Idx, (show BitVec 32 from g i).toNat < 2 ^ 32 := by
    rw [← ixE.sum_comp]
    refine lt_of_le_of_lt (Finset.sum_le_card_nsmul _ _ 256 fun i _ => hb _) ?_
    simp
  rw [WordSum.toNat_sum _ _ hlt, e]

/-- A word between 0 and 256 is such a number. -/
theorem toNat_le (b : BitVec 32) (h0 : BitVec.sle 0#32 b = true) (h1 : BitVec.sle b 256#32 = true) : b.toNat ≤ 256 := by
  simp only [BitVec.sle, decide_eq_true_eq, BitVec.toInt, BitVec.toNat_ofNat] at h0 h1
  omega

/-- A small word is not negative. -/
theorem sle_of_le (b : BitVec 32) (h : b.toNat ≤ 3328) : BitVec.sle 0#32 b = true := by
  simp only [BitVec.sle, decide_eq_true_eq, BitVec.toInt, BitVec.toNat_ofNat]
  omega

/-- The groups fit. -/
theorem fit_rows (x : FVec F S256x7168 .bf16) (g : CT F cc0_stg0_0) (w : FVec F S13x7168x4096 .fp8e4m3) (s : IVec S13x224x4096 8)
    (h : Cert.Pre_rows_fit.fn (F := F) x g w s = fun _ => 1#1) : rowS g 13 ≤ 256 := by
  have hd (i : S13.Idx) := congrFun h i
  simp only [Pre_rows_fit.fn, andi, cmpi, broadcastInDim, constantI, IntOp.cmpi, andi_ofBool, ofBool_eq_one, Bool.and_eq_true] at hd
  have hb : ∀ i, (show BitVec 32 from g i).toNat ≤ 256 := fun i => toNat_le _ (hd i).1.1 (hd i).1.2
  have h2 := (hd (ixG 0)).2
  have e := sum_words g Cert.Pre_rows_fit.Facts.h_S_ Cert.Pre_rows_fit.Facts.reducesTo_S13_S_d0 (fun _ => 0#32) (fun _ => rfl) hb (fun a => a.elim0)
  have hle : rowS g 13 ≤ 3328 := by
    rw [rowS_eq]
    exact (Finset.sum_le_card_nsmul _ _ 256 fun i _ => hb _).trans (by simp)
  rewrite [← e]
  rewrite [← e] at hle
  exact toNat_le _ (sle_of_le _ hle) h2

end Cert.Proof.KernelIdeal

end
-- ==== Proof.PI.PreFilled.lean ====
/- The precondition of the values, read: the groups fill the rows. -/
module

public import proofs.«01_k».proof.Proof.PI.Pre
public import proofs.«01_k».proof.Proof.Gen.Pre_rows_filled

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The groups fill the rows. -/
theorem fill_rows (x : FVec F S256x7168 .bf16) (g : CT F cc0_stg0_0) (w : FVec F S13x7168x4096 .fp8e4m3) (s : IVec S13x224x4096 8)
    (h : Cert.Pre_rows_filled.fn (F := F) x g w s = fun _ => 1#1) : rowS g 13 = 256 := by
  have hd (i : S13.Idx) := congrFun h i
  simp only [Pre_rows_filled.fn, andi, cmpi, broadcastInDim, constantI, IntOp.cmpi, andi_ofBool, ofBool_eq_one, Bool.and_eq_true] at hd
  have hb : ∀ i, (show BitVec 32 from g i).toNat ≤ 256 := fun i => toNat_le _ (hd i).1.1 (hd i).1.2
  have h2 := (hd (ixG 0)).2
  have e := sum_words g Cert.Pre_rows_filled.Facts.h_S_ Cert.Pre_rows_filled.Facts.reducesTo_S13_S_d0 (fun _ => 0#32) (fun _ => rfl) hb (fun a => a.elim0)
  rewrite [← e]
  have h3 := of_decide_eq_true h2
  exact congrArg BitVec.toNat h3

end Cert.Proof.KernelIdeal

end
-- ==== Proof.Num.lean ====
/- Numbers: the exponent of a block that a bisection finds on words and the one that a count finds on powers of two. -/
module

public import Idealize.ShloMosaic.Lib.Pointwise
public import Idealize.ShloMosaic.Lib.IdealHost
public import Mathlib.Tactic.NormNum
public import Mathlib.Tactic.Positivity
public import Mathlib.Tactic.IntervalCases

@[expose] public section

noncomputable section

namespace Cert.Proof.Num

open Idealize.ShloMosaic

/-- The power of two. -/
def pow2 (z : ℤ) : EReal := (((2 : ℝ) ^ z : ℝ) : EReal)

/-- The number at which the exponent of a block becomes `k - 126`, `c` being the largest number of a block of exponent zero. -/
def thr (c : ℝ) (k : ℤ) : EReal := ((c * (2 : ℝ) ^ (k - 126) : ℝ) : EReal)

/-- The thresholds increase. -/
theorem thr_mono {c : ℝ} (hc : 0 < c) {k l : ℤ} (h : k ≤ l) : thr c k ≤ thr c l := by
  unfold thr
  rw [EReal.coe_le_coe_iff]
  exact mul_le_mul_of_nonneg_left (zpow_le_zpow_right₀ (by norm_num) (by omega)) hc.le

open scoped Classical in
/-- How many of the 246 numbers are at most `a`. -/
def cnt (c : ℝ) (a : EReal) (n : ℕ) : ℕ := ((Finset.range n).filter fun k : ℕ => thr c k ≤ a).card

/-- One more threshold that is reached adds one to the count. -/
theorem cnt_succ_pos {c : ℝ} {a : EReal} {n : ℕ} (h : thr c n ≤ a) : cnt c a (n + 1) = cnt c a n + 1 := by
  classical
  unfold cnt
  rw [Finset.range_add_one, Finset.filter_insert, if_pos h, Finset.card_insert_of_notMem (by simp)]

/-- One more threshold that is not reached adds nothing to the count. -/
theorem cnt_succ_neg {c : ℝ} {a : EReal} {n : ℕ} (h : ¬ thr c n ≤ a) : cnt c a (n + 1) = cnt c a n := by
  classical
  unfold cnt
  rw [Finset.range_add_one, Finset.filter_insert, if_neg h]

/-- The thresholds reached are the first ones, as many as the count. -/
theorem cnt_spec {c : ℝ} (hc : 0 < c) (a : EReal) (n : ℕ) : cnt c a n ≤ n ∧ ∀ k < n, (thr c (k : ℕ) ≤ a ↔ k < cnt c a n) := by
  induction n with
  | zero => exact ⟨by simp [cnt], fun k hk => absurd hk (Nat.not_lt_zero k)⟩
  | succ n ih =>
    obtain ⟨h1, h2⟩ := ih
    by_cases h : thr c n ≤ a
    · rw [cnt_succ_pos h]
      have hn : cnt c a n = n := by
        by_contra hne
        have hlt : cnt c a n < n := lt_of_le_of_ne h1 hne
        have := (h2 _ hlt).1 (le_trans (thr_mono hc (by omega)) h)
        omega
      refine ⟨by omega, fun k hk => ⟨fun _ => by omega, fun _ => le_trans (thr_mono hc (by omega)) h⟩⟩
    · rw [cnt_succ_neg h]
      refine ⟨by omega, fun k hk => ?_⟩
      rcases Nat.lt_succ_iff_lt_or_eq.1 hk with hk' | rfl
      · exact h2 k hk'
      · exact ⟨fun h' => absurd h' h, fun h' => by omega⟩

/-! ## Words as numbers -/

/-- The number of a word whose exponent field is that of a normal number. -/
theorem f32_norm {b : BitVec 32} {ex fr : ℕ} (hn : b.extractLsb' 31 1 = 0#1) (he : (b.extractLsb' 23 8).toNat = ex)
    (hf : (b.extractLsb' 0 23).toNat = fr) (h0 : ex ≠ 0) (h1 : ex ≠ 255) :
    Ideal.ofBits .f32 b = ((((8388608 + fr : ℕ) : ℝ) * (2 : ℝ) ^ ((ex : ℤ) - 150) : ℝ) : EReal) := by
  have e : (ex : ℤ) - 127 - 23 = (ex : ℤ) - 150 := by omega
  simp only [Ideal.ofBits, Ideal.ieee, hn, he, hf]
  norm_num [h0, h1, e]

/-- The word of a number of the bisection. -/
def kw (add e : BitVec 32) : BitVec 32 := IntOp.subi (IntOp.shli .vector e 23#32) add

/-- The fields of the bisection's words for the rows. -/
theorem kw_x : ∀ s : Fin 256, 2 ≤ s.val → (kw 0x200000#32 (BitVec.ofNat 32 s.val)).extractLsb' 31 1 = 0#1
    ∧ ((kw 0x200000#32 (BitVec.ofNat 32 s.val)).extractLsb' 23 8).toNat = s.val - 1
    ∧ ((kw 0x200000#32 (BitVec.ofNat 32 s.val)).extractLsb' 0 23).toNat = 0x600000 := by decide +kernel

/-- The fields of the bisection's words for the results. -/
theorem kw_h : ∀ s : Fin 256, 2 ≤ s.val → (kw 0x200001#32 (BitVec.ofNat 32 s.val)).extractLsb' 31 1 = 0#1
    ∧ ((kw 0x200001#32 (BitVec.ofNat 32 s.val)).extractLsb' 23 8).toNat = s.val - 1
    ∧ ((kw 0x200001#32 (BitVec.ofNat 32 s.val)).extractLsb' 0 23).toNat = 0x5FFFFF := by decide +kernel

/-- The largest number of a block of exponent zero, of the rows and of the results. -/
def cx : ℝ := 448
def ch : ℝ := 14680063 * (2 : ℝ) ^ (-15 : ℤ)

/-- The rows' first number is positive. -/
theorem cx_pos : 0 < cx := by norm_num [cx]
/-- The results' first number is positive. -/
theorem ch_pos : 0 < ch := by unfold ch; positivity

/-- Powers of two multiply. -/
theorem two_zpow (a b : ℤ) : (2 : ℝ) ^ a * (2 : ℝ) ^ b = (2 : ℝ) ^ (a + b) := (zpow_add₀ (by norm_num) a b).symm

/-- A number times a power of two is a threshold when the two are equal as reals. -/
theorem thr_word (x c : ℝ) (a b : ℤ) (h : x * (2 : ℝ) ^ a = c * (2 : ℝ) ^ (b - 126)) : ((x * (2 : ℝ) ^ a : ℝ) : EReal) = thr c b := by
  rw [thr, h]

/-- The bisection's words for the rows are thresholds. -/
theorem kthr_x (s : ℕ) (h2 : 2 ≤ s) (h : s < 256) : Ideal.ofBits .f32 (kw 0x200000#32 (BitVec.ofNat 32 s)) = thr cx ((s : ℤ) - 10) := by
  have hk := kw_x ⟨s, h⟩ h2
  rw [f32_norm (ex := s - 1) (fr := 0x600000) hk.1 hk.2.1 hk.2.2 (by omega) (by omega)]
  refine thr_word _ _ _ _ ?_
  have e : ((8388608 + 0x600000 : ℕ) : ℝ) = 448 * (2 : ℝ) ^ (15 : ℤ) := by norm_num
  have e2 : (15 : ℤ) + (((s - 1 : ℕ) : ℤ) - 150) = (s : ℤ) - 10 - 126 := by omega
  rw [e, mul_assoc, two_zpow, e2, cx]

/-- The bisection's words for the results are thresholds. -/
theorem kthr_h (s : ℕ) (h2 : 2 ≤ s) (h : s < 256) : Ideal.ofBits .f32 (kw 0x200001#32 (BitVec.ofNat 32 s)) = thr ch ((s : ℤ) - 10) := by
  have hk := kw_h ⟨s, h⟩ h2
  rw [f32_norm (ex := s - 1) (fr := 0x5FFFFF) hk.1 hk.2.1 hk.2.2 (by omega) (by omega)]
  refine thr_word _ _ _ _ ?_
  have e : ((8388608 + 0x5FFFFF : ℕ) : ℝ) = 14680063 := by norm_num
  have e2 : (-15 : ℤ) + ((s : ℤ) - 10 - 126) = (((s - 1 : ℕ) : ℤ) - 150) := by omega
  rw [e, ch, mul_assoc, two_zpow, e2]

/-- The fields of a word that is a power of two. -/
theorem pow_word : ∀ s : Fin 255, 1 ≤ s.val → (IntOp.shli .vector (BitVec.ofNat 32 s.val) 23#32).extractLsb' 31 1 = 0#1
    ∧ ((IntOp.shli .vector (BitVec.ofNat 32 s.val) 23#32).extractLsb' 23 8).toNat = s.val
    ∧ ((IntOp.shli .vector (BitVec.ofNat 32 s.val) 23#32).extractLsb' 0 23).toNat = 0 := by decide +kernel

/-- A word that has an exponent's field alone is a power of two. -/
theorem ofBits_pow (s : ℕ) (h1 : 1 ≤ s) (h : s < 255) : Ideal.ofBits .f32 (IntOp.shli .vector (BitVec.ofNat 32 s) 23#32) = pow2 ((s : ℤ) - 127) := by
  have hk := pow_word ⟨s, h⟩ h1
  rw [f32_norm (ex := s) (fr := 0) hk.1 hk.2.1 hk.2.2 (by omega) (by omega), pow2]
  have e : ((8388608 + 0 : ℕ) : ℝ) = (2 : ℝ) ^ (23 : ℤ) := by norm_num
  have e2 : (23 : ℤ) + ((s : ℤ) - 150) = (s : ℤ) - 127 := by omega
  rw [e, two_zpow, e2]

/-! ## The bisection -/

/-- One step of the bisection. -/
def bstep (add : BitVec 32) (m : EReal) (s e : BitVec 32) : BitVec 32 :=
  Scalar.select (Ideal.cmp .oge m (Ideal.ofBits .f32 (kw add (IntOp.addi e s)))) (IntOp.addi e s) e

/-- The bisection in eight steps. -/
def bis (add : BitVec 32) (m : EReal) : BitVec 32 :=
  bstep add m 1#32 (bstep add m 2#32 (bstep add m 4#32 (bstep add m 8#32 (bstep add m 16#32 (bstep add m 32#32
    (bstep add m 64#32 (bstep add m 128#32 0#32)))))))

/-- A step of the bisection keeps the greatest multiple that is reached. -/
theorem bstep_spec {add : BitVec 32} {m : EReal} {N : ℕ}
    (hP : ∀ s, 1 ≤ s → s ≤ 255 → (Ideal.ofBits .f32 (kw add (BitVec.ofNat 32 s)) ≤ m ↔ s ≤ N)) {e : BitVec 32} {s n : ℕ}
    (he : e = BitVec.ofNat 32 n) (hs : 1 ≤ s) (h1 : n + 2 * s ≤ 256) (h2 : n ≤ N) (h3 : N < n + 2 * s) :
    ∃ n', bstep add m (BitVec.ofNat 32 s) e = BitVec.ofNat 32 n' ∧ n' + s ≤ 256 ∧ n' ≤ N ∧ N < n' + s := by
  subst he
  have ea : IntOp.addi (BitVec.ofNat 32 n) (BitVec.ofNat 32 s) = BitVec.ofNat 32 (n + s) := by
    simp only [IntOp.addi]; rw [BitVec.ofNat_add]
  unfold bstep
  rw [ea]
  have hq := hP (n + s) (by omega) (by omega)
  by_cases h : Ideal.ofBits .f32 (kw add (BitVec.ofNat 32 (n + s))) ≤ m
  · refine ⟨n + s, ?_, by omega, hq.1 h, by omega⟩
    have : Ideal.cmp .oge m (Ideal.ofBits .f32 (kw add (BitVec.ofNat 32 (n + s)))) = 1#1 := by simp [Ideal.cmp, h]
    rw [this]; rfl
  · refine ⟨n, ?_, by omega, h2, by have := mt hq.2 h; omega⟩
    have : Ideal.cmp .oge m (Ideal.ofBits .f32 (kw add (BitVec.ofNat 32 (n + s)))) = 0#1 := by simp [Ideal.cmp, h]
    rw [this]; rfl

/-- The bisection finds the greatest word whose number is at most `m`. -/
theorem bis_eq {add : BitVec 32} {m : EReal} {N : ℕ} (hN : N ≤ 255)
    (hP : ∀ s, 1 ≤ s → s ≤ 255 → (Ideal.ofBits .f32 (kw add (BitVec.ofNat 32 s)) ≤ m ↔ s ≤ N)) : bis add m = BitVec.ofNat 32 N := by
  obtain ⟨n1, e1, a1, b1, c1⟩ := bstep_spec hP (e := 0#32) (s := 128) (n := 0) rfl (by norm_num) (by norm_num) (Nat.zero_le _) (by omega)
  obtain ⟨n2, e2, a2, b2, c2⟩ := bstep_spec hP (s := 64) e1 (by norm_num) (by omega) b1 (by omega)
  obtain ⟨n3, e3, a3, b3, c3⟩ := bstep_spec hP (s := 32) e2 (by norm_num) (by omega) b2 (by omega)
  obtain ⟨n4, e4, a4, b4, c4⟩ := bstep_spec hP (s := 16) e3 (by norm_num) (by omega) b3 (by omega)
  obtain ⟨n5, e5, a5, b5, c5⟩ := bstep_spec hP (s := 8) e4 (by norm_num) (by omega) b4 (by omega)
  obtain ⟨n6, e6, a6, b6, c6⟩ := bstep_spec hP (s := 4) e5 (by norm_num) (by omega) b5 (by omega)
  obtain ⟨n7, e7, a7, b7, c7⟩ := bstep_spec hP (s := 2) e6 (by norm_num) (by omega) b6 (by omega)
  obtain ⟨n8, e8, a8, b8, c8⟩ := bstep_spec hP (s := 1) e7 (by norm_num) (by omega) b7 (by omega)
  have : n8 = N := by omega
  rw [this] at e8
  exact e8

end Cert.Proof.Num

end
-- ==== Proof.Scal.lean ====
/- The scalars of a block: its exponent, the codes' values and the exponent's byte, as a specification, and that the words of
   the bisection and the words of the count both give them. -/
module

public import proofs.«01_k».proof.Proof.Num

@[expose] public section

noncomputable section

namespace Cert.Proof.Num

open Idealize.ShloMosaic

/-! ## The specification -/

/-- The exponent of a block of which `n` numbers are at most its maximum. -/
def exN (n : ℕ) : ℤ := if n = 0 then 0 else (n : ℤ) - 126

/-- A number held to the codes' range. -/
def clip (x : EReal) : EReal := min (Ideal.ofBits .f32 0x43E00000#32) (max (Ideal.ofBits .f32 0xC3E00000#32) x)

/-- A row's number `x` quantised in a block of maximum `a` and scaled back. -/
def deq (x a : EReal) : EReal := clip (x * pow2 (- exN (cnt cx a 246))) * (if cnt cx a 246 = 0 then 0 else pow2 (exN (cnt cx a 246)))

/-- The code of a result `h` in a block of maximum `a`. -/
def code (h a : EReal) : EReal := clip (h * pow2 (- exN (cnt ch a 246)))

/-- The byte of the exponent of a block of maximum `a`. -/
def byteN (a : EReal) : ℕ := if cnt ch a 246 = 0 then 127 else cnt ch a 246 + 1

/-- A weights' scale from its byte. -/
def scale (b : BitVec 8) : EReal := Ideal.ofBits .bf16 (b.setWidth 16 <<< 7)

/-! ## The bisection's words -/

/-- A number is at the first threshold or above it just when it has a count. -/
theorem cnt_pos {c : ℝ} (hc : 0 < c) {a : EReal} : thr c 0 ≤ a ↔ 0 < cnt c a 246 := (cnt_spec hc a 246).2 0 (by norm_num)

/-- The bisection finds nine more than the count of thresholds at most a number that has a count. -/
theorem bis_cnt {add : BitVec 32} {c : ℝ} (hc : 0 < c) {m : EReal} (hm : thr c 0 ≤ m)
    (hk : ∀ s : ℕ, 2 ≤ s → s < 256 → Ideal.ofBits .f32 (kw add (BitVec.ofNat 32 s)) = thr c ((s : ℤ) - 10))
    (h1 : Ideal.ofBits .f32 (kw add (BitVec.ofNat 32 1)) ≤ thr c 0) : bis add m = BitVec.ofNat 32 (9 + cnt c m 246) := by
  obtain ⟨hle, hs⟩ := cnt_spec hc m 246
  refine bis_eq (by omega) fun s hs1 hs2 => ?_
  by_cases h10 : s < 10
  · refine ⟨fun _ => by omega, fun _ => le_trans ?_ hm⟩
    by_cases hs' : s = 1
    · subst hs'; exact h1
    · rw [hk s (by omega) (by omega)]; exact thr_mono hc (by omega)
  · rw [hk s (by omega) (by omega)]
    have := hs (s - 10) (by omega)
    have e : ((s - 10 : ℕ) : ℤ) = (s : ℤ) - 10 := by omega
    rw [e] at this
    rw [this]; omega

/-- A step of the bisection stays at nine or below when no greater threshold is reached. -/
theorem bstep_le {add : BitVec 32} {m : EReal}
    (hP : ∀ s, 10 ≤ s → s ≤ 255 → ¬ Ideal.ofBits .f32 (kw add (BitVec.ofNat 32 s)) ≤ m) {e : BitVec 32} {n : ℕ} (s : ℕ)
    (he : e = BitVec.ofNat 32 n) (h : n ≤ 9) (hs : s ≤ 128) : ∃ n', bstep add m (BitVec.ofNat 32 s) e = BitVec.ofNat 32 n' ∧ n' ≤ 9 := by
  subst he
  have ea : IntOp.addi (BitVec.ofNat 32 n) (BitVec.ofNat 32 s) = BitVec.ofNat 32 (n + s) := by
    simp only [IntOp.addi]; rw [BitVec.ofNat_add]
  unfold bstep
  rw [ea]
  by_cases h' : Ideal.ofBits .f32 (kw add (BitVec.ofNat 32 (n + s))) ≤ m
  · refine ⟨n + s, ?_, by by_contra hc; exact hP _ (by omega) (by omega) h'⟩
    have : Ideal.cmp .oge m (Ideal.ofBits .f32 (kw add (BitVec.ofNat 32 (n + s)))) = 1#1 := by simp [Ideal.cmp, h']
    rw [this]; rfl
  · refine ⟨n, ?_, h⟩
    have : Ideal.cmp .oge m (Ideal.ofBits .f32 (kw add (BitVec.ofNat 32 (n + s)))) = 0#1 := by simp [Ideal.cmp, h']
    rw [this]; rfl

/-- The bisection stays at nine or below when no greater threshold is reached. -/
theorem bis_le {add : BitVec 32} {m : EReal}
    (hP : ∀ s, 10 ≤ s → s ≤ 255 → ¬ Ideal.ofBits .f32 (kw add (BitVec.ofNat 32 s)) ≤ m) : ∃ N, bis add m = BitVec.ofNat 32 N ∧ N ≤ 9 := by
  obtain ⟨n1, e1, a1⟩ := bstep_le hP (e := 0#32) (n := 0) 128 rfl (by norm_num) (by norm_num)
  obtain ⟨n2, e2, a2⟩ := bstep_le hP 64 e1 a1 (by norm_num)
  obtain ⟨n3, e3, a3⟩ := bstep_le hP 32 e2 a2 (by norm_num)
  obtain ⟨n4, e4, a4⟩ := bstep_le hP 16 e3 a3 (by norm_num)
  obtain ⟨n5, e5, a5⟩ := bstep_le hP 8 e4 a4 (by norm_num)
  obtain ⟨n6, e6, a6⟩ := bstep_le hP 4 e5 a5 (by norm_num)
  obtain ⟨n7, e7, a7⟩ := bstep_le hP 2 e6 a6 (by norm_num)
  obtain ⟨n8, e8, a8⟩ := bstep_le hP 1 e7 a7 (by norm_num)
  exact ⟨n8, e8, a8⟩

/-- The number of a word whose exponent field is zero. -/
theorem f32_sub {b : BitVec 32} {fr : ℕ} (hn : b.extractLsb' 31 1 = 0#1) (he : (b.extractLsb' 23 8).toNat = 0)
    (hf : (b.extractLsb' 0 23).toNat = fr) : Ideal.ofBits .f32 b = (((fr : ℝ) * (2 : ℝ) ^ (-149 : ℤ) : ℝ) : EReal) := by
  simp only [Ideal.ofBits, Ideal.ieee, hn, he, hf]
  norm_num

/-- The bisection's least word is at most the first threshold, given its fraction. -/
theorem kthr_one {add : BitVec 32} {fr : ℕ} {c : ℝ} (hn : (kw add 1#32).extractLsb' 31 1 = 0#1) (he : ((kw add 1#32).extractLsb' 23 8).toNat = 0)
    (hf : ((kw add 1#32).extractLsb' 0 23).toNat = fr) (h : (fr : ℝ) * (2 : ℝ) ^ (-23 : ℤ) ≤ c) :
    Ideal.ofBits .f32 (kw add (BitVec.ofNat 32 1)) ≤ thr c 0 := by
  rw [show BitVec.ofNat 32 1 = 1#32 from rfl, f32_sub hn he hf, thr, EReal.coe_le_coe_iff]
  have : (fr : ℝ) * (2 : ℝ) ^ (-149 : ℤ) = ((fr : ℝ) * (2 : ℝ) ^ (-23 : ℤ)) * (2 : ℝ) ^ ((0 : ℤ) - 126) := by
    rw [mul_assoc, two_zpow]; norm_num
  rw [this]
  exact mul_le_mul_of_nonneg_right h (by positivity)

/-- The bisection's least word is at most the first threshold of the rows. -/
theorem kthr_x_one : Ideal.ofBits .f32 (kw 0x200000#32 (BitVec.ofNat 32 1)) ≤ thr cx 0 :=
  kthr_one (fr := 0x600000) (by decide) (by decide) (by decide) (by norm_num [cx])

/-- The bisection's least word is at most the first threshold of the results. -/
theorem kthr_h_one : Ideal.ofBits .f32 (kw 0x200001#32 (BitVec.ofNat 32 1)) ≤ thr ch 0 :=
  kthr_one (fr := 0x5FFFFF) (by decide) (by decide) (by decide) (by norm_num [ch])

/-- The least maximum of a block that has an exponent of its own. -/
theorem floor_x : Ideal.ofBits .f32 81788928#32 = thr cx 0 := by
  have := kthr_x 10 (by norm_num) (by norm_num)
  rw [show kw 0x200000#32 (BitVec.ofNat 32 10) = 81788928#32 by decide] at this
  rw [this]; norm_num

/-- The words the kernel makes of an exponent found: the byte, the inverse's byte, and whether the byte is small. -/
theorem words : ∀ n : Fin 247, IntOp.subi (BitVec.ofNat 32 (9 + n.val)) 8#32 = BitVec.ofNat 32 (n.val + 1)
    ∧ IntOp.subi 254#32 (BitVec.ofNat 32 (n.val + 1)) = BitVec.ofNat 32 (253 - n.val)
    ∧ IntOp.cmpi .sle (BitVec.ofNat 32 (n.val + 1)) 1#32 = (if n.val = 0 then 1#1 else 0#1) := by decide +kernel

/-- An exponent found of nine or below has a byte of one or below. -/
theorem words9 : ∀ n : Fin 10, IntOp.cmpi .sle (IntOp.subi (BitVec.ofNat 32 n.val) 8#32) 1#32 = 1#1 := by decide +kernel

/-- The kernel's quantised number. -/
theorem deq_kernel (x m : EReal) :
    clip (x * Ideal.ofBits .f32 (IntOp.shli .vector (IntOp.subi 254#32 (IntOp.subi (bis 0x200000#32 (max m (Ideal.ofBits .f32 81788928#32))) 8#32)) 23#32))
      * Scalar.select (Ideal.cmp .oge m (Ideal.ofBits .f32 81788928#32))
          (Ideal.ofBits .f32 (IntOp.shli .vector (IntOp.subi (bis 0x200000#32 (max m (Ideal.ofBits .f32 81788928#32))) 8#32) 23#32)) 0 = deq x m := by
  rw [floor_x, deq]
  have hle := (cnt_spec cx_pos m 246).1
  by_cases h : thr cx 0 ≤ m
  · have hp := (cnt_pos cx_pos).1 h
    have hc : Ideal.cmp .oge m (thr cx 0) = 1#1 := by simp [Ideal.cmp, h]
    rw [max_eq_left h, hc, bis_cnt cx_pos h kthr_x kthr_x_one]
    obtain ⟨w1, w2, -⟩ := words ⟨cnt cx m 246, by omega⟩
    simp only at w1 w2
    rw [w1, w2, ofBits_pow _ (by omega) (by omega), ofBits_pow _ (by omega) (by omega), exN, if_neg (by omega), if_neg (by omega)]
    have e1 : (((253 - cnt cx m 246 : ℕ)) : ℤ) - 127 = -((cnt cx m 246 : ℤ) - 126) := by omega
    have e2 : (((cnt cx m 246 + 1 : ℕ)) : ℤ) - 127 = (cnt cx m 246 : ℤ) - 126 := by omega
    rw [e1, e2]; rfl
  · have hp : cnt cx m 246 = 0 := by
      by_contra hne
      exact h ((cnt_pos cx_pos).2 (by omega))
    have hc : Ideal.cmp .oge m (thr cx 0) = 0#1 := by simp [Ideal.cmp, h]
    rw [hc, if_pos hp]
    simp [Scalar.select]

/-- The bisection's byte, after the exponents too small to have one are given that of one. -/
def kbyte (m : EReal) : BitVec 32 :=
  Scalar.select (IntOp.cmpi .sle (IntOp.subi (bis 0x200001#32 m) 8#32) 1#32) 127#32 (IntOp.subi (bis 0x200001#32 m) 8#32)

/-- The kernel's byte of a maximum is the specification's. -/
theorem kbyte_eq (m : EReal) : kbyte m = BitVec.ofNat 32 (byteN m) := by
  have hle := (cnt_spec ch_pos m 246).1
  unfold kbyte byteN
  by_cases h : thr ch 0 ≤ m
  · have hp := (cnt_pos ch_pos).1 h
    rw [bis_cnt ch_pos h kthr_h kthr_h_one]
    obtain ⟨w1, -, w3⟩ := words ⟨cnt ch m 246, by omega⟩
    simp only at w1 w3
    rw [w1, w3, if_neg (by omega), if_neg (by omega)]; rfl
  · have hp : cnt ch m 246 = 0 := by
      by_contra hne
      exact h ((cnt_pos ch_pos).2 (by omega))
    obtain ⟨N, hN, h9⟩ := bis_le (add := 0x200001#32) (m := m) fun s h1 h2 hc => by
      rw [kthr_h s (by omega) (by omega)] at hc
      exact h (le_trans (thr_mono ch_pos (by omega)) hc)
    rw [hN, words9 ⟨N, by omega⟩, if_pos hp]; rfl

/-- The byte of the inverse of a power of two. -/
theorem words127 : ∀ n : Fin 248, IntOp.subi 254#32 (BitVec.ofNat 32 n.val) = BitVec.ofNat 32 (254 - n.val) := by decide +kernel

/-- The kernel's code is the specification's. -/
theorem code_kernel (h m : EReal) :
    clip (h * Ideal.ofBits .f32 (IntOp.shli .vector (IntOp.subi 254#32 (kbyte m)) 23#32)) = code h m := by
  have hle := (cnt_spec ch_pos m 246).1
  have hb : 1 ≤ byteN m ∧ byteN m ≤ 247 ∧ (127 : ℤ) - byteN m = - exN (cnt ch m 246) := by
    unfold byteN exN
    split <;> omega
  rw [kbyte_eq, words127 ⟨byteN m, by omega⟩, ofBits_pow _ (by simp only; omega) (by simp only; omega), code, ← hb.2.2]
  have e : (((254 - byteN m : ℕ)) : ℤ) - 127 = 127 - byteN m := by omega
  simp only [e]

/-! ## The count's words -/

/-- Two to an integer's power. -/
theorem exp2_sitofp (w : BitVec 32) : Ideal.exp2 (((w.toInt : ℝ) : EReal)) = pow2 w.toInt := by
  rw [Ideal.exp2_coe, pow2]
  congr 1
  exact Real.rpow_intCast 2 w.toInt

/-- The number at which the rows' blocks change exponent. -/
theorem first_x : Ideal.ofBits .f32 0x43E00000#32 = ((cx : ℝ) : EReal) := by
  rw [f32_norm (ex := 135) (fr := 0x600000) (by decide) (by decide) (by decide) (by norm_num) (by norm_num)]
  congr 1; norm_num [cx]

/-- The number at which the results' blocks change exponent. -/
theorem first_h : Ideal.ofBits .f32 0x43DFFFFF#32 = ((ch : ℝ) : EReal) := by
  rw [f32_norm (ex := 135) (fr := 0x5FFFFF) (by decide) (by decide) (by decide) (by norm_num) (by norm_num)]
  congr 1

/-- A first number times a power of two is a threshold. -/
theorem mul_pow2 (c : ℝ) (k : ℤ) : ((c : ℝ) : EReal) * pow2 (k - 126) = thr c k := by
  rw [pow2, thr, EReal.coe_mul]

/-- The count as a word, one number more. -/
theorem cnt_word {c : ℝ} {a : EReal} {n : ℕ} :
    IntOp.addi (BitVec.ofNat 32 (cnt c a n)) ((Ideal.cmp .oge a (thr c n)).setWidth 32) = BitVec.ofNat 32 (cnt c a (n + 1)) := by
  by_cases h : thr c n ≤ a
  · have : Ideal.cmp .oge a (thr c n) = 1#1 := by simp [Ideal.cmp, h]
    rw [this, cnt_succ_pos h, BitVec.ofNat_add]; rfl
  · have : Ideal.cmp .oge a (thr c n) = 0#1 := by simp [Ideal.cmp, h]
    rw [this, cnt_succ_neg h]; simp [IntOp.addi]

/-- The exponent's word of a count. -/
def eword (n : BitVec 32) : BitVec 32 := Scalar.select (IntOp.cmpi .eq n 0#32) 0#32 (IntOp.subi n 126#32)

/-- The reference's exponent of a count, and its opposite. -/
theorem eword_toInt : ∀ n : Fin 247, (eword (BitVec.ofNat 32 n.val)).toInt = (if n.val = 0 then 0 else (n.val : ℤ) - 126)
    ∧ (IntOp.subi 0#32 (eword (BitVec.ofNat 32 n.val))).toInt = -(if n.val = 0 then 0 else (n.val : ℤ) - 126)
    ∧ IntOp.cmpi .sgt (BitVec.ofNat 32 n.val) 0#32 = (if n.val = 0 then 0#1 else 1#1)
    ∧ (IntOp.addi (eword (BitVec.ofNat 32 n.val)) 127#32).setWidth 8 = (BitVec.ofNat 8 (if n.val = 0 then 127 else n.val + 1)) := by decide +kernel

/-! ## The weights' scales -/

/-- The scale of byte 0 is zero. -/
theorem scale_zero : scale 0#8 = 0 := by
  simp [scale, Ideal.ofBits, Ideal.ieee]

/-- The scale of byte 255 is infinity. -/
theorem scale_top : scale 255#8 = ⊤ := by
  simp [scale, Ideal.ofBits, Ideal.ieee]

/-- The fields of the half word the kernel makes of a byte. -/
theorem scale_fields : ∀ b : BitVec 8, b ≠ 0#8 → b ≠ 255#8 → (b.setWidth 16 <<< 7).extractLsb' 15 1 = 0#1
    ∧ ((b.setWidth 16 <<< 7).extractLsb' 7 8).toNat = b.toNat ∧ ((b.setWidth 16 <<< 7).extractLsb' 0 7).toNat = 0
    ∧ (IntOp.subi (b.setWidth 32) 127#32).toInt = (b.toNat : ℤ) - 127 := by decide +kernel

/-- The scale of any other byte is a power of two. -/
theorem scale_pow {b : BitVec 8} (h0 : b ≠ 0#8) (h1 : b ≠ 255#8) : scale b = pow2 ((IntOp.subi (b.setWidth 32) 127#32).toInt) := by
  obtain ⟨a1, a2, a3, a4⟩ := scale_fields b h0 h1
  have n0 : b.toNat ≠ 0 := fun h => h0 (BitVec.eq_of_toNat_eq h)
  have n1 : b.toNat ≠ 255 := fun h => h1 (BitVec.eq_of_toNat_eq h)
  rw [a4]
  simp only [scale, Ideal.ofBits, Ideal.ieee, a1, a2, a3]
  have e : (b.toNat : ℤ) - 127 - 7 = (b.toNat : ℤ) - 127 + (-7) := by ring
  have e7 : (2 : ℝ) ^ (7 : ℕ) = (2 : ℝ) ^ (7 : ℤ) := by norm_num
  norm_num [n0, n1, pow2]
  rw [← EReal.coe_mul, EReal.coe_eq_coe_iff]
  have : (128 : ℝ) = (2 : ℝ) ^ (7 : ℤ) := by norm_num
  rw [this, two_zpow]
  congr 1; ring

/-- The reference's scale of a byte is the kernel's. -/
theorem scale_ref (b : BitVec 8) :
    Scalar.select (IntOp.cmpi .eq (b.setWidth 32) 0#32) (0 : EReal) (Scalar.select (IntOp.cmpi .eq (b.setWidth 32) 255#32) ⊤
      (pow2 ((IntOp.subi (b.setWidth 32) 127#32).toInt))) = scale b := by
  by_cases h0 : b = 0#8
  · subst h0; rw [scale_zero]; rfl
  by_cases h1 : b = 255#8
  · subst h1; rw [scale_top]; rfl
  have c0 : ∀ b : BitVec 8, b ≠ 0#8 → IntOp.cmpi .eq (b.setWidth 32) 0#32 = 0#1 := by decide +kernel
  have c1 : ∀ b : BitVec 8, b ≠ 255#8 → IntOp.cmpi .eq (b.setWidth 32) 255#32 = 0#1 := by decide +kernel
  rw [c0 b h0, c1 b h1, scale_pow h0 h1]; rfl

/-- Both halves of the word the kernel makes of a byte are the byte in a bf16's exponent field. -/
theorem half_word : ∀ b : BitVec 8, ∀ p : Fin 2,
    (IntOp.ori (IntOp.shli .vector (b.setWidth 32) 7#32) (IntOp.shli .vector (b.setWidth 32) 23#32)).extractLsb' (16 * p.val) 16 = b.setWidth 16 <<< 7 := by
  decide +kernel

end Cert.Proof.Num

end
-- ==== Proof.Spec.lean ====
/- What both programs compute, as functions of the rows, the weights and their scales at natural indices. -/
module

public import proofs.«01_k».proof.Proof.Scal

@[expose] public section

noncomputable section

namespace Cert.Proof.Num

open Idealize.ShloMosaic

/-! ## Arrays at natural indices -/

/-- An array at two natural indices, each reduced to its range. -/
def rd2 {α : Type} {n k : ℕ} [NeZero n] [NeZero k] (f : (⟨2, ![n, k]⟩ : Shape).Idx → α) (r c : ℕ) : α := f (ix2 (Fin.ofNat n r) (Fin.ofNat k c))

/-- An array at three natural indices. -/
def rd3 {α : Type} {n k l : ℕ} [NeZero n] [NeZero k] [NeZero l] (f : (⟨3, ![n, k, l]⟩ : Shape).Idx → α) (a r c : ℕ) : α :=
  f (ix3 (Fin.ofNat n a) (Fin.ofNat k r) (Fin.ofNat l c))

/-- An array of two axes read at an index is the array at the index's two numbers. -/
theorem rd2_eq {α : Type} {n k : ℕ} [NeZero n] [NeZero k] (f : (⟨2, ![n, k]⟩ : Shape).Idx → α) (j : (⟨2, ![n, k]⟩ : Shape).Idx) (r c : ℕ)
    (h0 : (j 0).val = r) (h1 : (j 1).val = c) : f j = rd2 f r c := by
  unfold rd2
  congr 1
  funext a
  refine Fin.cases ?_ (fun b => ?_) a
  · refine Fin.ext ?_
    have : r < n := h0 ▸ (j 0).isLt
    show (j 0).val = r % n
    rw [h0, Nat.mod_eq_of_lt this]
  · obtain rfl : b = 0 := Subsingleton.elim _ _
    refine Fin.ext ?_
    have : c < k := h1 ▸ (j 1).isLt
    show (j 1).val = c % k
    rw [h1, Nat.mod_eq_of_lt this]

/-- An array of three axes read at an index is the array at the index's three numbers. -/
theorem rd3_eq {α : Type} {n k l : ℕ} [NeZero n] [NeZero k] [NeZero l] (f : (⟨3, ![n, k, l]⟩ : Shape).Idx → α) (j : (⟨3, ![n, k, l]⟩ : Shape).Idx)
    (a r c : ℕ) (h0 : (j 0).val = a) (h1 : (j 1).val = r) (h2 : (j 2).val = c) : f j = rd3 f a r c := by
  have l0 : a < n := h0 ▸ (j 0).isLt
  have l1 : r < k := h1 ▸ (j 1).isLt
  have l2 : c < l := h2 ▸ (j 2).isLt
  unfold rd3
  congr 1
  funext b
  fin_cases b
  · refine Fin.ext ?_
    show (j 0).val = a % n
    rw [h0, Nat.mod_eq_of_lt l0]
  · refine Fin.ext ?_
    show (j 1).val = r % k
    rw [h1, Nat.mod_eq_of_lt l1]
  · refine Fin.ext ?_
    show (j 2).val = c % l
    rw [h2, Nat.mod_eq_of_lt l2]

/-! ## The specification -/

/-- The magnitude. -/
def mag (x : EReal) : EReal := max x (-x)

/-- The maximum magnitude of the thirty-two columns of a row that column `c` is among. -/
def bmax (X : ℕ → ℕ → EReal) (r c : ℕ) : EReal := (Finset.range 32).sup fun j => mag (X r (32 * (c / 32) + j))

/-- The rows quantised. -/
def xq (X : ℕ → ℕ → EReal) (r c : ℕ) : EReal := deq (X r c) (bmax X r c)

/-- The products of a row with expert `e`'s column. -/
def accE (X : ℕ → ℕ → EReal) (W : ℕ → ℕ → ℕ → EReal) (S : ℕ → ℕ → ℕ → BitVec 8) (e r n : ℕ) : EReal :=
  ∑ k ∈ Finset.range 7168, xq X r k * (W e k n * scale (S e (k / 32) n))

/-- The gated product of two numbers. -/
def gated (g u : EReal) : EReal := g * Ideal.logistic g * u

/-- The results before they are quantised. -/
def hE (X : ℕ → ℕ → EReal) (W : ℕ → ℕ → ℕ → EReal) (S : ℕ → ℕ → ℕ → BitVec 8) (e r c : ℕ) : EReal :=
  gated (accE X W S e r c) (accE X W S e r (c + 2048))

/-- The codes. -/
def yE (X : ℕ → ℕ → EReal) (W : ℕ → ℕ → ℕ → EReal) (S : ℕ → ℕ → ℕ → BitVec 8) (e r c : ℕ) : EReal :=
  code (hE X W S e r c) (bmax (hE X W S e) r c)

/-- The exponents' bytes. -/
def sE (X : ℕ → ℕ → EReal) (W : ℕ → ℕ → ℕ → EReal) (S : ℕ → ℕ → ℕ → BitVec 8) (e r b : ℕ) : ℕ := byteN (bmax (hE X W S e) r (32 * b))

end Cert.Proof.Num

end
-- ==== Proof.PI.PayX.lean ====
/- What the kernel's values are at an index: the rows quantised. -/
module

public import proofs.«01_k».proof.Proof.Spec
public import proofs.«01_k».proof.Proof.PI.Vals

@[expose] public section

set_option maxRecDepth 16384

noncomputable section

namespace Cert.Proof.KernelIdeal

open Cert.KernelIdeal Cert.KernelIdeal.Gen Cert.Proof.Num
open Idealize.ShloMosaic

/-! ## The maximum over thirty-two lanes -/

/-- The maximum of a lane and the lane `s` away. -/
def lmax (s : ℕ) (f : ℕ → EReal) (c : ℕ) : EReal := max (f c) (f (c ^^^ s))

/-- Exclusive or below 32 stays inside the block of 32. -/
theorem xor_div (c e : ℕ) (he : e < 32) : (c ^^^ e) / 32 = c / 32 := by
  have h := Nat.shiftRight_xor_distrib (a := c) (b := e) (i := 5)
  rw [Nat.shiftRight_eq_div_pow, Nat.shiftRight_eq_div_pow, Nat.shiftRight_eq_div_pow] at h
  norm_num at h
  rw [h, Nat.div_eq_of_lt he, Nat.xor_zero]

/-- The five steps give the maximum of the thirty-two lanes a lane is among. -/
theorem lmax_all (f : ℕ → EReal) (c : ℕ) :
    lmax 1 (lmax 2 (lmax 4 (lmax 8 (lmax 16 f)))) c = (Finset.range 32).sup fun j => f (32 * (c / 32) + j) := by
  refine eq_of_forall_ge_iff fun b => ?_
  have h1 : lmax 1 (lmax 2 (lmax 4 (lmax 8 (lmax 16 f)))) c ≤ b ↔ ∀ e, e < 32 → f (c ^^^ e) ≤ b := by
    simp only [lmax, max_le_iff, Nat.xor_assoc, Nat.reduceXor]
    constructor
    · intro h e he
      interval_cases e <;> simp_all
    · intro h
      have h0 := h 0 (by norm_num)
      rw [Nat.xor_zero] at h0
      exact ⟨⟨⟨⟨⟨h0, h _ (by norm_num)⟩, h _ (by norm_num), h _ (by norm_num)⟩, ⟨h _ (by norm_num), h _ (by norm_num)⟩, h _ (by norm_num), h _ (by norm_num)⟩,
        ⟨⟨h _ (by norm_num), h _ (by norm_num)⟩, h _ (by norm_num), h _ (by norm_num)⟩, ⟨h _ (by norm_num), h _ (by norm_num)⟩, h _ (by norm_num), h _ (by norm_num)⟩,
        ⟨⟨⟨h _ (by norm_num), h _ (by norm_num)⟩, h _ (by norm_num), h _ (by norm_num)⟩, ⟨h _ (by norm_num), h _ (by norm_num)⟩, h _ (by norm_num), h _ (by norm_num)⟩,
        ⟨⟨h _ (by norm_num), h _ (by norm_num)⟩, h _ (by norm_num), h _ (by norm_num)⟩, ⟨h _ (by norm_num), h _ (by norm_num)⟩, h _ (by norm_num), h _ (by norm_num)⟩
  rw [h1, Finset.sup_le_iff]
  constructor
  · intro h j hj
    have hj := Finset.mem_range.1 hj
    have hd : (c ^^^ (32 * (c / 32) + j)) < 32 := by
      have h2 := Nat.shiftRight_xor_distrib (a := c) (b := 32 * (c / 32) + j) (i := 5)
      rw [Nat.shiftRight_eq_div_pow, Nat.shiftRight_eq_div_pow, Nat.shiftRight_eq_div_pow] at h2
      norm_num at h2
      rw [show (32 * (c / 32) + j) / 32 = c / 32 by omega, Nat.xor_self] at h2
      omega
    have := h _ hd
    rwa [← Nat.xor_assoc, Nat.xor_self, Nat.zero_xor] at this
  · intro h e he
    have := h ((c ^^^ e) % 32) (Finset.mem_range.2 (Nat.mod_lt _ (by norm_num)))
    rwa [← xor_div c e he, Nat.div_add_mod] at this

/-- The lane that the gather reads. -/
theorem lane (n s : ℕ) (hs : s < 128) :
    (Scalar.select (IntOp.cmpi CmpIPredicate.slt (IntOp.xori (BitVec.ofNat 32 n) (BitVec.ofNat 32 s)) 0#32)
      (IntOp.addi (IntOp.xori (BitVec.ofNat 32 n) (BitVec.ofNat 32 s)) 128#32) (IntOp.xori (BitVec.ofNat 32 n) (BitVec.ofNat 32 s))).toNat % 128
      = (n % 128) ^^^ s := by
  have h : (IntOp.xori (BitVec.ofNat 32 n) (BitVec.ofNat 32 s)).toNat % 128 = (n % 128) ^^^ s := by
    have hx : (IntOp.xori (BitVec.ofNat 32 n) (BitVec.ofNat 32 s)).toNat = (n % 2 ^ 32) ^^^ (s % 2 ^ 32) := by
      simp [IntOp.xori]
    rw [hx, show (128 : ℕ) = 2 ^ 7 by norm_num, Nat.xor_mod_two_pow]
    congr 1 <;> omega
  unfold Scalar.select
  split
  · rw [← h, IntOp.addi, BitVec.toNat_add]
    simp
  · exact h

/-- Exclusive or of a lane below 128 stays inside the 128 lanes. -/
theorem lane_mod (n s : ℕ) (hs : s < 128) : (n ^^^ s) % 128 = (n % 128) ^^^ s := by
  rw [show (128 : ℕ) = 2 ^ 7 by norm_num, Nat.xor_mod_two_pow]
  congr 1; omega

/-- The first three steps on a tile of the rows. -/
theorem pay2_at (v : Vec Ideal S16x128 .bf16) (j : S16x128.Idx) :
    k0_pay2 v j = lmax 4 (lmax 8 (lmax 16 fun c => mag (rd2 v (j 0).val c))) (j 1).val := by
  have hj : (j 1).val < 128 := (j 1).isLt
  have key : ∀ (c : ℕ) (h : c < 128), v (ix2 (j 0) ⟨c, h⟩) = rd2 v (j 0).val c := fun c h => rd2_eq v _ _ _ rfl rfl
  pointwise [k0_pay2]
  rw [rd2_eq v j _ _ rfl rfl]
  simp only [lane _ 16 (by norm_num), lane _ 8 (by norm_num), lane _ 4 (by norm_num), lane_mod _ 8 (by norm_num), lane_mod _ 4 (by norm_num),
    Nat.mod_eq_of_lt hj, key]
  rfl

/-- The last two steps on a tile of the rows. -/
theorem pay5_at (v : FVec Ideal S16x128 .f32) (j : S16x128.Idx) :
    k0_pay5 v k0_pay3 k0_pay4 j = lmax 1 (lmax 2 (rd2 v (j 0).val)) (j 1).val := by
  have hj : (j 1).val < 128 := (j 1).isLt
  have key : ∀ (c : ℕ) (h : c < 128), v (ix2 (j 0) ⟨c, h⟩) = rd2 v (j 0).val c := fun c h => rd2_eq v _ _ _ rfl rfl
  pointwise [k0_pay5, k0_pay3, k0_pay4]
  rw [rd2_eq v j _ _ rfl rfl]
  simp only [lane _ 1 (by norm_num), lane _ 2 (by norm_num), lane_mod _ 1 (by norm_num), Nat.mod_eq_of_lt hj, key]
  rfl

/-- The maximum of a block, at least the least that has an exponent. -/
theorem pay7_at (v : FVec Ideal S16x128 .f32) (a b : IVec S16x128 32) (j : S16x128.Idx) :
    k0_pay7 v a b j = max (k0_pay5 v a b j) (Ideal.ofBits .f32 81788928#32) := by
  pointwise [k0_pay7, k0_pay6]

/-- The third to the sixth step of the rows' bisection. -/
theorem pay9_at (m : FVec Ideal S16x128 .f32) (e : IVec S16x128 32) (j : S16x128.Idx) : k0_pay9 m e j
    = bstep 0x200000#32 (m j) 4#32 (bstep 0x200000#32 (m j) 8#32 (bstep 0x200000#32 (m j) 16#32 (bstep 0x200000#32 (m j) 32#32 (e j)))) := by
  pointwise [k0_pay9, bstep, kw]

/-- The first two steps of the rows' bisection. -/
theorem pay8_at (v : FVec Ideal S16x128 .f32) (a b : IVec S16x128 32) (j : S16x128.Idx) : k0_pay8 v a b j
    = bstep 0x200000#32 (k0_pay7 v a b j) 64#32 (bstep 0x200000#32 (k0_pay7 v a b j) 128#32 0#32) := by
  generalize h : k0_pay7 v a b = m
  pointwise [k0_pay8, bstep, kw, h]

/-- The last steps of the rows' bisection, and the byte. -/
theorem pay10_at (m : FVec Ideal S16x128 .f32) (e : IVec S16x128 32) (j : S16x128.Idx) : k0_pay10 m e j
    = IntOp.subi (bstep 0x200000#32 (m j) 1#32 (bstep 0x200000#32 (m j) 2#32 (e j))) 8#32 := by
  pointwise [k0_pay10, bstep, kw]

/-- The five steps on a row of a tile. -/
theorem lmax_congr {n : ℕ} (s : ℕ) (hs : s < 2 ^ n) {f g : ℕ → EReal} (h : ∀ c < 2 ^ n, f c = g c) : ∀ c < 2 ^ n, lmax s f c = lmax s g c :=
  fun c hc => by rw [lmax, lmax, h c hc, h _ (Nat.xor_lt_two_pow hc hs)]

/-- An array at a row and a natural column inside it. -/
theorem rd2_row {α : Type} {n k : ℕ} [NeZero n] [NeZero k] (f : (⟨2, ![n, k]⟩ : Shape).Idx → α) (r : Fin n) {c : ℕ} (h : c < k) :
    rd2 f r.val c = f (ix2 r ⟨c, h⟩) := (rd2_eq f (ix2 r ⟨c, h⟩) r.val c rfl rfl).symm

/-- A tile of the rows, quantised. -/
theorem xqTile_at (v : Vec Ideal S16x128 .bf16) (j : S16x128.Idx) :
    xqTile v j = deq (rd2 v (j 0).val (j 1).val) (bmax (rd2 v) (j 0).val (j 1).val) := by
  have hm : k0_pay5 (k0_pay2 v) k0_pay3 k0_pay4 j = bmax (rd2 v) (j 0).val (j 1).val := by
    rw [pay5_at]
    refine (lmax_congr (n := 7) 1 (by norm_num) (lmax_congr 2 (by norm_num) fun c hc => ?_) _ (j 1).isLt).trans (lmax_all (fun c => mag (rd2 v (j 0).val c)) (j 1).val)
    exact (rd2_row (k0_pay2 v) (j 0) hc).trans (pay2_at v _)
  have hb : k0_pay7 (k0_pay2 v) k0_pay3 k0_pay4 j = max (bmax (rd2 v) (j 0).val (j 1).val) (Ideal.ofBits .f32 81788928#32) := by
    rw [← hm, pay7_at]
  have he : k0_pay10 (k0_pay7 (k0_pay2 v) k0_pay3 k0_pay4) (k0_pay9 (k0_pay7 (k0_pay2 v) k0_pay3 k0_pay4) (k0_pay8 (k0_pay2 v) k0_pay3 k0_pay4)) j
      = IntOp.subi (bis 0x200000#32 (max (bmax (rd2 v) (j 0).val (j 1).val) (Ideal.ofBits .f32 81788928#32))) 8#32 := by
    rw [pay10_at, pay9_at, pay8_at, hb]; rfl
  rw [← deq_kernel, ← he, ← hm, ← rd2_eq v j _ _ rfl rfl]
  pointwise [xqTile, k0_pay53, k0_pay11, k0_pay12, k0_pay6]
  rfl

end Cert.Proof.KernelIdeal

end
-- ==== Proof.PI.View2.lean ====
/- The windows of two-dimensional buffers at natural indices, and induction on the loops' functions. -/
module

public import proofs.«01_k».proof.Proof.Spec
public import proofs.«01_k».proof.Proof.PI.Vals

@[expose] public section

set_option maxRecDepth 16384

noncomputable section

namespace Cert.Proof.KernelIdeal

open Cert.KernelIdeal Cert.KernelIdeal.Gen Cert.Proof.Num
open Idealize.ShloMosaic

variable {F : FTy → Type}

/-- What holds at first and is kept by each step holds after all steps. -/
theorem iter_ind {α : Type} (n : ℕ) (f : Fin n → α → α) (a : α) (P : ℕ → α → Prop) (h0 : P 0 a)
    (hs : ∀ (k : Fin n) x, P k.val x → P (k.val + 1) (f k x)) : ∀ k, k ≤ n → P k (iter n f a k)
  | 0, _ => h0
  | k + 1, h => by
    have := hs ⟨k, h⟩ _ (iter_ind n f a P h0 hs k (Nat.le_of_succ_le h))
    rwa [← iter_succ n f a ⟨k, h⟩] at this

/-- A window written, at an index of the buffer. -/
theorem acc_write (b : Ref sig .tc) {off size : Fin b.ty.shape.rank → ℕ} (inb : ∀ a, off a + size a ≤ b.ty.shape.size a)
    (f : CT F b) (u : (Rect.unit (s := b.ty.shape) off size inb).shape.Idx → Elt F b.ty.elt) (i : b.ty.shape.Idx) :
    (((Memref.whole b).access (Rect.unit (s := b.ty.shape) off size inb) : View sig .tc _ _ _).write (Elt F) f u Finset.univ) i
      = if h : ∀ a, off a ≤ (i a).val ∧ (i a).val < off a + size a then
          u (show (Rect.unit (s := b.ty.shape) off size inb).shape.Idx from fun a => (⟨(i a).val - off a, by have := h a; omega⟩ : Fin (size a)))
        else f i := by
  split
  · rename_i h
    let V : View sig .tc _ _ _ := (Memref.whole b).access (Rect.unit (s := b.ty.shape) off size inb)
    let x : (Rect.unit (s := b.ty.shape) off size inb).shape.Idx := fun a => (⟨(i a).val - off a, by have := h a; omega⟩ : Fin (size a))
    have hi : V.emb x = i := funext fun a => Fin.ext (by
      show off a + 1 * ((i a).val - off a) = (i a).val
      have := h a; omega)
    have := View.write_emb_of_mem (v := V) (Val := Elt F) f u (Finset.mem_univ x)
    rw [hi] at this
    exact this
  · rename_i h
    refine View.write_of_not_mem _ _ _ ?_
    intro hm
    apply h
    rw [View.setOn_univ] at hm
    obtain ⟨x, -, hx⟩ := Finset.mem_map.mp hm
    intro a
    have h0 : off a + 1 * (x a).val = (i a).val := congrArg Fin.val (congrFun hx a)
    have h1 : (x a).val < size a := (x a).isLt
    omega

/-- … of a two-dimensional buffer. -/
theorem rect2 {α : Type} {n k m l : ℕ} [NeZero n] [NeZero k] [NeZero m] [NeZero l] (f g : (⟨2, ![n, k]⟩ : Shape).Idx → α)
    (u : (⟨2, ![m, l]⟩ : Shape).Idx → α) (o0 o1 : ℕ) {off : Fin 2 → ℕ} (ho : off = ![o0, o1])
    (h : ∀ i : (⟨2, ![n, k]⟩ : Shape).Idx, g i = if h : ∀ a : Fin 2, off a ≤ (i a).val ∧ (i a).val < off a + (![m, l] : Fin 2 → ℕ) a then
      u (fun a => (⟨(i a).val - off a, by have := h a; omega⟩ : Fin ((![m, l] : Fin 2 → ℕ) a))) else f i)
    (r c : ℕ) (hr : r < n) (hc : c < k) :
    rd2 g r c = if (o0 ≤ r ∧ r < o0 + m) ∧ o1 ≤ c ∧ c < o1 + l then rd2 u (r - o0) (c - o1) else rd2 f r c := by
  subst ho
  have e (q : (⟨2, ![n, k]⟩ : Shape).Idx → α) : rd2 q r c = q (ix2 ⟨r, hr⟩ ⟨c, hc⟩) := (rd2_eq q (ix2 ⟨r, hr⟩ ⟨c, hc⟩) r c rfl rfl).symm
  rw [e, h, e]
  by_cases hh : (o0 ≤ r ∧ r < o0 + m) ∧ o1 ≤ c ∧ c < o1 + l
  · rw [if_pos hh, dif_pos (by intro a; match a with | 0 => exact hh.1 | 1 => exact hh.2)]
    exact rd2_eq u _ _ _ rfl rfl
  · rw [if_neg hh, dif_neg fun hq => hh ⟨hq 0, hq 1⟩]

/-- A window read. -/
theorem rect2_read {α : Type} {n k m l : ℕ} [NeZero n] [NeZero k] [NeZero m] [NeZero l] (f : (⟨2, ![n, k]⟩ : Shape).Idx → α)
    (u : (⟨2, ![m, l]⟩ : Shape).Idx → α) (o0 o1 : ℕ) {off : Fin 2 → ℕ} (ho : off = ![o0, o1]) (inb : ∀ a, off a + (![m, l] : Fin 2 → ℕ) a ≤ (![n, k] : Fin 2 → ℕ) a)
    (h : ∀ x : (⟨2, ![m, l]⟩ : Shape).Idx, u x = f (fun a => (⟨off a + 1 * (x a).val, by
      have := inb a; have h1 : (x a).val < (![m, l] : Fin 2 → ℕ) a := (x a).isLt; omega⟩ : Fin ((![n, k] : Fin 2 → ℕ) a))))
    (r c : ℕ) (hr : r < m) (hc : c < l) : rd2 u r c = rd2 f (o0 + r) (o1 + c) := by
  subst ho
  have e : rd2 u r c = u (ix2 ⟨r, hr⟩ ⟨c, hc⟩) := (rd2_eq u (ix2 ⟨r, hr⟩ ⟨c, hc⟩) r c rfl rfl).symm
  rw [e, h]
  exact rd2_eq f _ _ _ (by show o0 + 1 * r = _; omega) (by show o1 + 1 * c = _; omega)

variable [FloatOps F]

/-- A tile of the rows, as the kernel reads it. -/
theorem rd_x (X : CT F cc0_scratch0) (t3 : Fin k0_t3_loop.trips) (t4 : Fin k0_t4_loop.trips) (r c : ℕ) (hr : r < 16) (hc : c < 128) :
    rd2 (n := 16) (k := 128) (((Memref.whole cc0_scratch0).access (Rect.unit (s := S256x7168) (k0_off13 t3 t4) S16x128.size (k0_off13_inb t3 t4)) : View sig .tc _ _ _).read (Elt F) X) r c
      = rd2 (n := 256) (k := 7168) X (16 * t3.val + r) (128 * t4.val + c) :=
  rect2_read (n := 256) (k := 7168) (m := 16) (l := 128) X _ _ _ (k0_off13_eq t3 t4) (k0_off13_inb t3 t4) (fun _ => rfl) r c hr hc

/-- The rows after a tile is written. -/
theorem wr_x (X : CT F cc0_scratch0) (u : Vec F S16x128 .bf16) (t3 : Fin k0_t3_loop.trips) (t4 : Fin k0_t4_loop.trips) (r c : ℕ) (hr : r < 256) (hc : c < 7168) :
    rd2 (n := 256) (k := 7168) (((Memref.whole cc0_scratch0).access (Rect.unit (s := S256x7168) (k0_off13 t3 t4) S16x128.size (k0_off13_inb t3 t4)) : View sig .tc _ _ _).write (Elt F) X u Finset.univ) r c
      = if (16 * t3.val ≤ r ∧ r < 16 * t3.val + 16) ∧ 128 * t4.val ≤ c ∧ c < 128 * t4.val + 128 then rd2 (n := 16) (k := 128) u (r - 16 * t3.val) (c - 128 * t4.val)
        else rd2 (n := 256) (k := 7168) X r c :=
  rect2 (n := 256) (k := 7168) (m := 16) (l := 128) X _ u _ _ (k0_off13_eq t3 t4) (acc_write cc0_scratch0 (k0_off13_inb t3 t4) X u) r c hr hc

end Cert.Proof.KernelIdeal

end
-- ==== Proof.PI.ValX.lean ====
/- What the loop over the rows' tiles leaves: every row quantised. -/
module

public import proofs.«01_k».proof.Proof.PI.PayX
public import proofs.«01_k».proof.Proof.PI.View2

@[expose] public section

set_option maxRecDepth 16384

noncomputable section

namespace Cert.Proof.KernelIdeal

open Cert.KernelIdeal Cert.KernelIdeal.Gen Cert.Proof.Num
open Idealize.ShloMosaic

/-- The buffer of the rows at natural indices. -/
abbrev rdA (X : CT Ideal cc0_scratch0) : ℕ → ℕ → EReal := rd2 (n := 256) (k := 7168) X

/-- The rows' buffer with the first `q` tiles quantised. -/
def XqTo (X0 : CT Ideal cc0_scratch0) (q : ℕ) (X : CT Ideal cc0_scratch0) : Prop :=
  ∀ r c, r < 256 → c < 7168 → rdA X r c = if r / 16 * 56 + c / 128 < q then xq (rdA X0) r c else rdA X0 r c

/-- One more tile of the rows is quantised. -/
theorem xqStep_to (X0 X : CT Ideal cc0_scratch0) (t3 : Fin k0_t3_loop.trips) (t4 : Fin k0_t4_loop.trips)
    (h : XqTo X0 (t3.val * 56 + t4.val) X) : XqTo X0 (t3.val * 56 + (t4.val + 1)) (xqStep t3 t4 X) := by
  have h3 : t3.val < 16 := Nat.lt_of_lt_of_le t3.isLt k0_t3_abs.2.1
  have h4 : t4.val < 56 := Nat.lt_of_lt_of_le t4.isLt k0_t4_abs.2.1
  intro r c hr hc
  have rd : ∀ a b, a < 16 → b < 128 → rd2 (n := 16) (k := 128) (((Memref.whole cc0_scratch0).access (Rect.unit (s := S256x7168) (k0_off13 t3 t4) S16x128.size (k0_off13_inb t3 t4)) : View sig .tc _ _ _).read (Elt Ideal) X) a b
      = rdA X0 (16 * t3.val + a) (128 * t4.val + b) := fun a b ha hb => by
    rw [rd_x X t3 t4 a b ha hb]
    refine (h _ _ (by omega) (by omega)).trans (if_neg (by omega))
  refine (wr_x X _ t3 t4 r c hr hc).trans ?_
  by_cases hh : (16 * t3.val ≤ r ∧ r < 16 * t3.val + 16) ∧ 128 * t4.val ≤ c ∧ c < 128 * t4.val + 128
  · rw [if_pos hh, if_pos (by omega)]
    have h1 : r - 16 * t3.val < 16 := by omega
    have h2 : c - 128 * t4.val < 128 := by omega
    refine (rd2_row (n := 16) (k := 128) _ ⟨_, h1⟩ h2).trans ((xqTile_at _ _).trans ?_)
    unfold xq bmax
    congr 1
    · refine (rd _ _ h1 h2).trans ?_
      congr 1 <;> omega
    · refine Finset.sup_congr rfl fun x hx => ?_
      have hx := Finset.mem_range.1 hx
      refine (congrArg mag (rd _ _ h1 (by show 32 * ((c - 128 * t4.val) / 32) + x < 128; omega))).trans ?_
      show mag (rdA X0 (16 * t3.val + (r - 16 * t3.val)) (128 * t4.val + (32 * ((c - 128 * t4.val) / 32) + x))) = _
      congr 2 <;> omega
  · rw [if_neg hh]
    refine (h r c hr hc).trans ?_
    have : (r / 16 * 56 + c / 128 < t3.val * 56 + t4.val) ↔ (r / 16 * 56 + c / 128 < t3.val * 56 + (t4.val + 1)) := by omega
    simp only [this]

/-- The rows as the loop leaves them. -/
theorem xqAll_at (X : CT Ideal cc0_scratch0) (r c : ℕ) (hr : r < 256) (hc : c < 7168) : rdA (xqAll X) r c = xq (rdA X) r c := by
  have e3 : k0_t3_loop.trips = 16 := by decide +kernel
  have e4 : k0_t4_loop.trips = 56 := by decide +kernel
  have h := iter_ind k0_t3_loop.trips (xqRow (F := Ideal)) X (fun k Y => XqTo X (k * 56) Y)
    (fun r c _ _ => (if_neg (by omega)).symm) (fun t3 Y hY => by
      have := iter_ind k0_t4_loop.trips (xqStep (F := Ideal) t3) Y (fun k Z => XqTo X (t3.val * 56 + k) Z) hY
        (fun t4 Z hZ => xqStep_to X Z t3 t4 hZ) _ le_rfl
      have e : (t3.val + 1) * 56 = t3.val * 56 + k0_t4_loop.trips := by omega
      exact e.symm ▸ this) _ le_rfl
  exact (h r c hr hc).trans (if_pos (by rw [e3]; omega))

end Cert.Proof.KernelIdeal

end
-- ==== Proof.PI.PayO.lean ====
/- What the kernel's values are at an index: the results' tiles. -/
module

public import proofs.«01_k».proof.Proof.PI.ValX
public import Idealize.ShloMosaic.Lib.WordCmp

@[expose] public section

set_option maxRecDepth 16384

noncomputable section

namespace Cert.Proof.KernelIdeal

open Cert.KernelIdeal Cert.KernelIdeal.Gen Cert.Proof.Num
open Idealize.ShloMosaic

/-- A result before it is quantised: the gated product on the item's own rows, zero elsewhere. -/
theorem pay22_at (m : IVec S32x128 1) (a b : Vec Ideal S32x128 .f32) (j : S32x128.Idx) : k0_pay22 m a b j = Scalar.select (m j) (gated (a j) (b j)) 0 := by
  pointwise [k0_pay22, gated]

/-- The first two steps of the maximum. -/
theorem pay23_at (m : IVec S32x128 1) (a b : Vec Ideal S32x128 .f32) (j : S32x128.Idx) :
    k0_pay23 m a b j = lmax 8 (lmax 16 fun c => mag (rd2 (k0_pay22 m a b) (j 0).val c)) (j 1).val := by
  have hj : (j 1).val < 128 := (j 1).isLt
  generalize hv : k0_pay22 m a b = v
  have key : ∀ (c : ℕ) (h : c < 128), v (ix2 (j 0) ⟨c, h⟩) = rd2 v (j 0).val c := fun c h => rd2_eq v _ _ _ rfl rfl
  pointwise [k0_pay23, hv]
  rw [rd2_eq v j _ _ rfl rfl]
  simp only [lane _ 16 (by norm_num), lane _ 8 (by norm_num), lane_mod _ 8 (by norm_num), Nat.mod_eq_of_lt hj, key]
  rfl

/-- The last three steps of the maximum. -/
theorem pay25_at (v : FVec Ideal S32x128 .f32) (j : S32x128.Idx) : k0_pay25 v k0_pay24 0#32 j = lmax 1 (lmax 2 (lmax 4 (rd2 v (j 0).val))) (j 1).val := by
  have hj : (j 1).val < 128 := (j 1).isLt
  have key : ∀ (c : ℕ) (h : c < 128), v (ix2 (j 0) ⟨c, h⟩) = rd2 v (j 0).val c := fun c h => rd2_eq v _ _ _ rfl rfl
  pointwise [k0_pay25, k0_pay24]
  rw [rd2_eq v j _ _ rfl rfl]
  simp only [lane _ 1 (by norm_num), lane _ 2 (by norm_num), lane _ 4 (by norm_num), lane_mod _ 2 (by norm_num), lane_mod _ 1 (by norm_num), Nat.mod_eq_of_lt hj, key]
  rfl

/-- The first step of the results' bisection. -/
theorem pay26_at (v : FVec Ideal S32x128 .f32) (b z) (j : S32x128.Idx) : k0_pay26 v b z j = bstep 0x200001#32 (k0_pay25 v b z j) 128#32 0#32 := by
  generalize h : k0_pay25 v b z = m
  pointwise [k0_pay26, bstep, kw, h]

/-- The second to the fifth step of the results' bisection. -/
theorem pay28_at (m : FVec Ideal S32x128 .f32) (e : IVec S32x128 32) (j : S32x128.Idx) : k0_pay28 m e (addi e (broadcast S32x128 64#32)) j
    = bstep 0x200001#32 (m j) 8#32 (bstep 0x200001#32 (m j) 16#32 (bstep 0x200001#32 (m j) 32#32 (bstep 0x200001#32 (m j) 64#32 (e j)))) := by
  pointwise [k0_pay28, bstep, kw]

/-- The last steps of the results' bisection, and the byte. -/
theorem pay30_at (m : FVec Ideal S32x128 .f32) (e : IVec S32x128 32) (x : EReal) (j : S32x128.Idx) (hm : m j = x)
    (he : e j = bstep 0x200001#32 x 8#32 (bstep 0x200001#32 x 16#32 (bstep 0x200001#32 x 32#32 (bstep 0x200001#32 x 64#32 (bstep 0x200001#32 x 128#32 0#32))))) :
    k0_pay30 m e (addi e (broadcast S32x128 4#32)) j = kbyte x := by
  unfold kbyte bis
  rw [← he, ← hm]
  pointwise [k0_pay30, bstep, kw]

/-- A result times the inverse of its scale. -/
theorem pay31_at (h m : FVec Ideal S32x128 .f32) (b z) (j : S32x128.Idx) : k0_pay31 h m b z j
    = h j * Ideal.ofBits .f32 (IntOp.shli .vector (IntOp.subi 254#32 (k0_pay30 m b z j)) 23#32) := by
  generalize hv : k0_pay30 m b z = v
  pointwise [k0_pay31, hv]

/-- The maximum of the thirty-two columns. -/
theorem omax_at (m : IVec S32x128 1) (a b : Vec Ideal S32x128 .f32) (j : S32x128.Idx) :
    k0_pay25 (k0_pay23 m a b) k0_pay24 0#32 j = bmax (rd2 (k0_pay22 m a b)) (j 0).val (j 1).val := by
  rw [pay25_at]
  refine (lmax_congr (n := 7) 1 (by norm_num) (lmax_congr 2 (by norm_num) (lmax_congr 4 (by norm_num) fun c hc => ?_)) _ (j 1).isLt).trans
    (lmax_all (fun c => mag (rd2 (k0_pay22 m a b) (j 0).val c)) (j 1).val)
  exact (rd2_row (k0_pay23 m a b) (j 0) hc).trans (pay23_at m a b _)

/-- The byte of a result is that of the maximum of its block. -/
theorem obyte_at (m : IVec S32x128 1) (a b : Vec Ideal S32x128 .f32) (j : S32x128.Idx) :
    let v := k0_pay25 (k0_pay23 m a b) k0_pay24 0#32
    let e := k0_pay26 (k0_pay23 m a b) k0_pay24 0#32
    let e' := k0_pay27 (k0_pay23 m a b) k0_pay24 0#32
    k0_pay30 v (k0_pay28 v e e') (k0_pay29 v e e') j = kbyte (bmax (rd2 (k0_pay22 m a b)) (j 0).val (j 1).val) := by
  refine pay30_at _ _ _ j (omax_at m a b j) ?_
  refine (pay28_at _ _ j).trans ?_
  rw [pay26_at, omax_at]

/-- Whether a row is the item's own. -/
theorem pay58_at (a b c : BitVec 32) (d) (j : S32x128.Idx) : k0_pay58 (F := Ideal) a b c d j = IntOp.andi
      (IntOp.cmpi CmpIPredicate.sge (IntOp.addi (Scalar.addi a (Scalar.muli (Scf.iv 0#32 1#32 d.val) 32#32)) (BitVec.ofNat 32 (j 0).val)) b)
      (IntOp.cmpi CmpIPredicate.slt (IntOp.addi (Scalar.addi a (Scalar.muli (Scf.iv 0#32 1#32 d.val) 32#32)) (BitVec.ofNat 32 (j 0).val)) c) := by
  pointwise [k0_pay58]

/-- A code is written on the item's own rows only. -/
theorem pay60_at (a b c : BitVec 32) (d v x y) (j : S32x128.Idx) : k0_pay60 (F := Ideal) a b c d v x y j
    = Scalar.select (k0_pay58 (F := Ideal) a b c d j) (min (Ideal.ofBits .f32 0x43E00000#32) (max x (v j))) (y j) := by
  pointwise [k0_pay60]

/-- A word put in lane `4 t + q` is that of lane `32 q`. -/
theorem pay61_at (a : IVec S32x128 32) (t : Fin 16) (v) (j : S32x128.Idx) : k0_pay61 a (Scf.iv 0#32 1#32 t.val) v j
    = if (j 1).val / 4 = t.val then v (ix2 (j 0) ⟨32 * ((j 1).val % 4), by omega⟩) else a j := by
  have hj : (j 1).val < 128 := (j 1).isLt
  have e1 : ∀ l : Fin 128, ∀ t : Fin 16, IntOp.cmpi CmpIPredicate.eq (IntOp.shrsi ArithUnit.vector (BitVec.ofNat 32 l.val) 2#32) (Scf.iv 0#32 1#32 t.val)
      = if l.val / 4 = t.val then 1#1 else 0#1 := by decide +kernel
  have e2 : ∀ l : Fin 128, (Scalar.select (IntOp.cmpi CmpIPredicate.slt (IntOp.muli (IntOp.andi (BitVec.ofNat 32 l.val) 3#32) 32#32) 0#32)
      (IntOp.addi (IntOp.muli (IntOp.andi (BitVec.ofNat 32 l.val) 3#32) 32#32) 128#32) (IntOp.muli (IntOp.andi (BitVec.ofNat 32 l.val) 3#32) 32#32)).toNat % 128
      = 32 * (l.val % 4) := by decide +kernel
  pointwise [k0_pay61]
  have := e1 ⟨_, hj⟩ t
  simp only [] at this
  rw [this]
  have := e2 ⟨_, hj⟩
  simp only [] at this
  simp only [this]
  split <;> rfl

/-- A byte is joined on the item's own rows only. -/
theorem pay62_at (a b c : BitVec 32) (d v x) (j : S32x128.Idx) : k0_pay62 (F := Ideal) a b c d v x j
    = IntOp.ori (x j) (Scalar.select (k0_pay58 (F := Ideal) a b c d j) (v j) 0#32) := by
  pointwise [k0_pay62]

/-- The mask of an item's own rows. -/
theorem own_at (r : Fin 9) (lo hi : BitVec 32) (hlo : lo.toNat ≤ 256) (hhi : hi.toNat ≤ 256) (t9 : Fin k0_t9_loop.trips) (j : S32x128.Idx) :
    k0_pay58 (F := Ideal) (w32 (16 * r.val)) lo hi t9 j
      = if lo.toNat ≤ 16 * r.val + (32 * t9.val + (j 0).val) ∧ 16 * r.val + (32 * t9.val + (j 0).val) < hi.toNat then 1#1 else 0#1 := by
  have h9 : t9.val < 4 := t9.isLt
  have h0 : (j 0).val < 32 := (j 0).isLt
  have e0 : ∀ (r : Fin 9) (t : Fin 4) (q : Fin 32), IntOp.addi (Scalar.addi (w32 (16 * r.val)) (Scalar.muli (Scf.iv 0#32 1#32 t.val) 32#32)) (BitVec.ofNat 32 q.val)
      = BitVec.ofNat 32 (16 * r.val + (32 * t.val + q.val)) := by decide +kernel
  rw [pay58_at]
  have := e0 r ⟨t9.val, h9⟩ ⟨_, h0⟩
  simp only [] at this
  rw [this]
  generalize hn : 16 * r.val + (32 * t9.val + (j 0).val) = n
  have hn : n < 256 := by omega
  have hw : (BitVec.ofNat 32 n).toNat = n := by rw [BitVec.toNat_ofNat]; exact Nat.mod_eq_of_lt (by omega)
  have c1 : IntOp.cmpi CmpIPredicate.sge (BitVec.ofNat 32 n) lo = if lo.toNat ≤ n then 1#1 else 0#1 := by
    rw [Idealize.ShloMosaic.WordCmp.cmpi_sge_of_lt (by rw [hw]; omega) (by omega), hw]
    by_cases h : lo.toNat ≤ n <;> simp [h]
  have c2 : IntOp.cmpi CmpIPredicate.slt (BitVec.ofNat 32 n) hi = if n < hi.toNat then 1#1 else 0#1 := by
    rw [Idealize.ShloMosaic.WordCmp.cmpi_slt_of_lt (by rw [hw]; omega) (by omega), hw]
    by_cases h : n < hi.toNat <;> simp [h]
  rw [c1, c2]
  by_cases h1 : lo.toNat ≤ n <;> by_cases h2 : n < hi.toNat <;> simp [h1, h2] <;> rfl

/-- … at a row of the buffer. -/
theorem own_ix (r : Fin 9) (lo hi : BitVec 32) (hlo : lo.toNat ≤ 256) (hhi : hi.toNat ≤ 256) (t9 : Fin k0_t9_loop.trips) (p : Fin 32) (l : Fin 128) (ρ : ℕ)
    (h : 16 * r.val + (32 * t9.val + p.val) = ρ) :
    k0_pay58 (F := Ideal) (w32 (16 * r.val)) lo hi t9 (ix2 p l) = if lo.toNat ≤ ρ ∧ ρ < hi.toNat then 1#1 else 0#1 := by
  subst h
  exact own_at r lo hi hlo hhi t9 (ix2 p l)

end Cert.Proof.KernelIdeal

end
-- ==== Proof.PI.PayW.lean ====
/- What the kernel's values are at an index: the weights scaled and the products. -/
module

public import proofs.«01_k».proof.Proof.Spec
public import proofs.«01_k».proof.Proof.PI.View2
public import Idealize.ShloMosaic.Lib.BitcastPair

@[expose] public section

set_option maxRecDepth 16384

noncomputable section

namespace Cert.Proof.KernelIdeal

open Cert.KernelIdeal Cert.KernelIdeal.Gen Cert.Proof.Num
open Idealize.ShloMosaic

/-- The scales' words as sixteen-bit halves. -/
theorem half_at (s : Vec Ideal S8x256 .i32) (a : Fin 16) (b : Fin 256) :
    bitcast S16x256 16 s bitcasts_S8x256_w32_S16x256_w16 (ix2 a b) = (s (ix2 ⟨a.val / 2, by omega⟩ b)).extractLsb' (16 * (a.val % 2)) 16 := by
  rw [bitcast_32_16]
  have hr : S16x256.row (ix2 a b) = a.val := rfl
  simp only [hr]
  congr 1
  congr 1
  funext i
  match i with
  | 0 => exact Fin.ext (Shape.Bitcasts.srcIdx_row _ _ _ _ _ rfl)
  | 1 => exact Fin.ext (Shape.Bitcasts.srcIdx_other _ _ _ _ _ (by decide))

/-- A dequantised weight. -/
theorem pay13_at (w : Vec Ideal S1x32x256 .fp8e4m3) (s : Vec Ideal S1x256 .i32) (j : S32x256.Idx) :
    k0_pay13 w s j = w (ix3 0 (j 0) (j 1)) * Ideal.ofBits .bf16 ((s (ix2 0 (j 1))).extractLsb' (16 * ((j 0).val % 2)) 16) := by
  have h0 : (j 0).val < 32 := (j 0).isLt
  pointwise [k0_pay13]
  congr 1
  split
  · refine congrArg _ ((half_at _ _ _).trans ?_)
    pointwise []
  · refine congrArg _ ((half_at _ _ _).trans ?_)
    have e : ((j 0).val - 16) % 2 = (j 0).val % 2 := by omega
    pointwise []
    rw [e]

/-- The second block of a tile is dequantised as the first. -/
theorem pay14_eq : @k0_pay14 Ideal _ = k0_pay13 := rfl
/-- The third block of a tile is dequantised as the first. -/
theorem pay15_eq : @k0_pay15 Ideal _ = k0_pay13 := rfl
/-- The fourth block of a tile is dequantised as the first. -/
theorem pay16_eq : @k0_pay16 Ideal _ = k0_pay13 := rfl
/-- The fifth block of a tile is dequantised as the first. -/
theorem pay17_eq : @k0_pay17 Ideal _ = k0_pay13 := rfl

/-- A tile of dequantised weights, of its eight blocks. -/
theorem pay18_at (B : Fin 8 → Vec Ideal S1x32x256 .fp8e4m3) (C : Fin 8 → Vec Ideal S1x256 .i32) (j : S256x256.Idx) :
    k0_pay18 (k0_pay13 (B 0) (C 0)) (k0_pay14 (B 1) (C 1)) (k0_pay15 (B 2) (C 2)) (k0_pay16 (B 3) (C 3)) (k0_pay17 (B 4) (C 4))
      (B 5) (C 5) (B 6) (C 6) (B 7) (C 7) j
    = k0_pay13 (B ⟨(j 0).val / 32, by have : (j 0).val < 256 := (j 0).isLt; omega⟩) (C ⟨(j 0).val / 32, by have : (j 0).val < 256 := (j 0).isLt; omega⟩)
        (ix2 ⟨(j 0).val % 32, by omega⟩ (j 1)) := by
  have h0 : (j 0).val < 256 := (j 0).isLt
  have hu : k0_pay18 (k0_pay13 (B 0) (C 0)) (k0_pay14 (B 1) (C 1)) (k0_pay15 (B 2) (C 2)) (k0_pay16 (B 3) (C 3)) (k0_pay17 (B 4) (C 4))
      (B 5) (C 5) (B 6) (C 6) (B 7) (C 7) = concatenate S256x256 0 [⟨S32x256, k0_pay13 (B 0) (C 0)⟩, ⟨S32x256, k0_pay13 (B 1) (C 1)⟩, ⟨S32x256, k0_pay13 (B 2) (C 2)⟩, ⟨S32x256, k0_pay13 (B 3) (C 3)⟩, ⟨S32x256, k0_pay13 (B 4) (C 4)⟩, ⟨S32x256, k0_pay13 (B 5) (C 5)⟩, ⟨S32x256, k0_pay13 (B 6) (C 6)⟩, ⟨S32x256, k0_pay13 (B 7) (C 7)⟩] concatenates_S32x256_S32x256_S32x256_S32x256_S32x256_S32x256_S32x256_S32x256_S256x256_d0 := rfl
  rw [hu]
  have key : ∀ (u : Fin 8) (q : ℕ) (hq : q < 32), (j 0).val = 32 * u.val + q → k0_pay13 (B u) (C u) (ix2 ⟨q, hq⟩ (j 1))
      = k0_pay13 (B ⟨(j 0).val / 32, by omega⟩) (C ⟨(j 0).val / 32, by omega⟩) (ix2 ⟨(j 0).val % 32, by omega⟩ (j 1)) := by
    intro u q hq h
    have e : (⟨(j 0).val / 32, by omega⟩ : Fin 8) = u := Fin.ext (by show (j 0).val / 32 = _; omega)
    have e' : (⟨(j 0).val % 32, by omega⟩ : Fin 32) = ⟨q, hq⟩ := Fin.ext (by show (j 0).val % 32 = q; omega)
    rw [e, e']
  pointwise []
  split
  · exact key 0 _ _ (by simp)
  split
  · exact key 1 _ _ (by show _ = 32 * 1 + _; omega)
  split
  · exact key 2 _ _ (by show _ = 32 * 2 + _; omega)
  split
  · exact key 3 _ _ (by show _ = 32 * 3 + _; omega)
  split
  · exact key 4 _ _ (by show _ = 32 * 4 + _; omega)
  split
  · exact key 5 _ _ (by show _ = 32 * 5 + _; omega)
  split
  · exact key 6 _ _ (by show _ = 32 * 6 + _; omega)
  · exact key 7 _ _ (by show _ = 32 * 7 + _; omega)

/-- A tile's product added to the sum. -/
theorem pay56_at (a x w z) (j : S128x256.Idx) : k0_pay56 (F := Ideal) a x w z j = a j + (z j + ∑ k : Fin 256, x (ix2 (j 0) k) * w (ix2 k (j 1))) := by
  pointwise [k0_pay56]

/-- The first chunk replaces the accumulator, any other is added to it. -/
theorem pay57_at (t : BitVec 32) (a b) (j : S128x256.Idx) :
    k0_pay57 (F := Ideal) t a b j = Scalar.select (Scalar.cmpi CmpIPredicate.eq t 0#32) (a j) (b j + a j) := by
  pointwise [k0_pay57]

/-- The word made of a scale's byte. -/
theorem pay54_at (v : Vec Ideal S1x32x4096 .i8) (j : S32x4096.Idx) : k0_pay54 (k0_pay20 (F := Ideal) v) (k0_pay21 (F := Ideal) v) j
    = IntOp.ori (IntOp.shli .vector ((v (ix3 0 (j 0) (j 1))).setWidth 32) 7#32) (IntOp.shli .vector ((v (ix3 0 (j 0) (j 1))).setWidth 32) 23#32) := by
  pointwise [k0_pay54, k0_pay20, k0_pay21, k0_pay19]

end Cert.Proof.KernelIdeal

end
-- ==== Proof.PI.ValA.lean ====
/- What the loops over the blocks leave: the products of an item's rows with its expert's columns. -/
module

public import proofs.«01_k».proof.Proof.PI.PayW
public import proofs.«01_k».proof.Proof.PI.ValX

@[expose] public section

set_option maxRecDepth 16384

noncomputable section

namespace Cert.Proof.KernelIdeal

open Cert.KernelIdeal Cert.KernelIdeal.Gen Cert.Proof.Num
open Idealize.ShloMosaic

/-- The weights, their scales and the sums at natural indices. -/
abbrev rdW (w : CT Ideal main_arg2) : ℕ → ℕ → ℕ → EReal := rd3 (n := 13) (k := 7168) (l := 4096) w

@[inherit_doc rdW] abbrev rdS (ws : CT Ideal main_arg3) : ℕ → ℕ → ℕ → BitVec 8 := rd3 (n := 13) (k := 224) (l := 4096) ws

@[inherit_doc rdW] abbrev rdC (A : CT Ideal cc0_scratch4) : ℕ → ℕ → EReal := rd2 (n := 128) (k := 4096) A

/-- One product of row `r` with column `n` of expert `e`. -/
def term (X : ℕ → ℕ → EReal) (W : ℕ → ℕ → ℕ → EReal) (S : ℕ → ℕ → ℕ → BitVec 8) (e r n k : ℕ) : EReal :=
  X r k * (W e k n * scale (S e (k / 32) n))

/-- The word of a scale's byte. -/
def wordOf (b : BitVec 8) : BitVec 32 := IntOp.ori (IntOp.shli .vector (b.setWidth 32) 7#32) (IntOp.shli .vector (b.setWidth 32) 23#32)

/-- The words of a tile's scales. -/
theorem scOf_at (ws : CT Ideal main_arg3) (e : Fin 13) (j : Fin 7) (SC : CT Ideal cc0_scratch3) (a c : ℕ) (ha : a < 32) (hc : c < 4096) :
    rd2 (n := 32) (k := 4096) (scOf ws e j SC) a c = wordOf (rdS ws e.val (32 * j.val + a) c) := by
  refine (rect2 (n := 32) (k := 4096) (m := 32) (l := 4096) SC _ _ 0 0 rfl (acc_write cc0_scratch3 inb_S32x4096_S32x4096_0_0 SC
    (k0_pay54 (k0_pay20 (blkS ws e j)) (k0_pay21 (blkS ws e j)))) a c ha hc).trans ?_
  rw [if_pos ⟨⟨by omega, by omega⟩, by omega, by omega⟩]
  refine (rd2_row (n := 32) (k := 4096) _ ⟨a - 0, by omega⟩ (by omega)).trans ((pay54_at _ _).trans ?_)
  refine congrArg wordOf ?_
  exact rd3_eq (n := 13) (k := 224) (l := 4096) ws _ _ _ _ rfl rfl rfl

/-- The scales' words a product reads. -/
theorem rdSC_at (SC : CT Ideal cc0_scratch3) (t7 : Fin k0_t7_loop.trips) (t8 : Fin k0_t8_loop.trips) (u : Fin 8) (c : Fin 256) :
    rdSC SC t7 t8 u (ix2 0 c) = rd2 (n := 32) (k := 4096) SC (8 * t8.val + u.val) (256 * t7.val + c.val) := by
  refine (rd2_eq (n := 1) (k := 256) _ _ 0 c.val rfl rfl).trans ?_
  exact rect2_read (n := 32) (k := 4096) (m := 1) (l := 256) SC _ _ _ (off32_n t7 t8 u) (k0_off32_inb t7 t8 u) (fun _ => rfl) 0 c.val (by omega) c.isLt

/-- The rows a product reads. -/
theorem rdX_at (X : CT Ideal cc0_scratch0) (r : Fin 9) (t6 : Fin k0_t6_loop.trips) (t8 : Fin k0_t8_loop.trips) (p : Fin 128) (c : Fin 256) :
    rdX X r t6 t8 (ix2 p c) = rdA X (16 * r.val + p.val) (1024 * t6.val + 256 * t8.val + c.val) := by
  refine (rd2_eq (n := 128) (k := 256) _ _ p.val c.val rfl rfl).trans ?_
  exact rect2_read (n := 256) (k := 7168) (m := 128) (l := 256) X _ _ _ (off30_n r t6 t8) (k0_off30_inb (w32 (16 * r.val)) (chk4_n r) t6 t8) (fun _ => rfl) p.val c.val p.isLt c.isLt

/-- The weights a product reads. -/
theorem blkW_at (w : CT Ideal main_arg2) (e : Fin 13) (j : Fin 7) (t7 : Fin k0_t7_loop.trips) (t8 : Fin k0_t8_loop.trips) (u : Fin 8) (a : Fin 32) (c : Fin 256) :
    blkW w e j t7 t8 u (ix3 0 a c) = rdW w e.val (1024 * j.val + (32 * (8 * t8.val + u.val) + a.val)) (256 * t7.val + c.val) :=
  rd3_eq (n := 13) (k := 7168) (l := 4096) w _ _ _ _ rfl rfl rfl

variable (X : CT Ideal cc0_scratch0) (w : CT Ideal main_arg2) (ws : CT Ideal main_arg3) (e : Fin 13) (r : Fin 9)

/-- The products one step adds. -/
theorem dotStep_at (SC : CT Ideal cc0_scratch3) (t6 : Fin k0_t6_loop.trips) (t7 : Fin k0_t7_loop.trips) (t8 : Fin k0_t8_loop.trips)
    (a : FVec Ideal S128x256 .f32) (j : S128x256.Idx) :
    dotStep X w e r (scOf ws e t6 SC) t6 t7 t8 a j
      = a j + ∑ k ∈ Finset.range 256, term (rdA X) (rdW w) (rdS ws) e.val (16 * r.val + (j 0).val) (256 * t7.val + (j 1).val) (1024 * t6.val + 256 * t8.val + k) := by
  have h6 : t6.val < 7 := t6.isLt
  have h7 : t7.val < 16 := t7.isLt
  have h8 : t8.val < 4 := t8.isLt
  have hj : (j 1).val < 256 := (j 1).isLt
  unfold dotStep
  refine (pay56_at _ _ _ _ _).trans ?_
  congr 1
  rw [show (constant (F := Ideal) S128x256 .f32 0x00000000#32) j = (0 : EReal) from Ideal.ofBits_zero .f32, zero_add, Finset.sum_range]
  refine Finset.sum_congr rfl fun k _ => ?_
  refine congrArg₂ (· * ·) (rdX_at X r t6 t8 _ _) ?_
  refine (pay18_at (fun u => blkW w e t6 t7 t8 u) (fun u => rdSC (scOf ws e t6 SC) t7 t8 u) (ix2 k (j 1))).trans ((pay13_at _ _ _).trans ?_)
  refine congrArg₂ (· * ·) ((blkW_at _ _ _ _ _ _ _ _).trans ?_) ?_
  · show rdW w e.val (1024 * t6.val + (32 * (8 * t8.val + k.val / 32) + k.val % 32)) (256 * t7.val + (j 1).val) = _
    congr 1
    omega
  · unfold scale
    refine congrArg _ ?_
    refine (congrArg (fun b : BitVec 32 => b.extractLsb' (16 * (k.val % 32 % 2)) 16) ((rdSC_at _ t7 t8 ⟨k.val / 32, by omega⟩ ⟨(j 1).val, hj⟩).trans
      (scOf_at ws e t6 SC (8 * t8.val + k.val / 32) (256 * t7.val + (j 1).val) (by omega) (by omega)))).trans ?_
    refine (half_word _ ⟨k.val % 32 % 2, Nat.mod_lt _ (by omega)⟩).trans ?_
    refine congrArg (fun b : BitVec 8 => b.setWidth 16 <<< 7) ?_
    show rdS ws e.val (32 * t6.val + (8 * t8.val + k.val / 32)) (256 * t7.val + (j 1).val) = _
    congr 1
    omega

/-- The products with one block. -/
theorem dotCol_at (SC : CT Ideal cc0_scratch3) (t6 : Fin k0_t6_loop.trips) (t7 : Fin k0_t7_loop.trips) (j : S128x256.Idx) :
    dotCol X w e r (scOf ws e t6 SC) t6 t7 j
      = ∑ k ∈ Finset.range 1024, term (rdA X) (rdW w) (rdS ws) e.val (16 * r.val + (j 0).val) (256 * t7.val + (j 1).val) (1024 * t6.val + k) := by
  have h := iter_ind k0_t8_loop.trips (dotStep X w e r (scOf ws e t6 SC) t6 t7) (k0_pay55 (F := Ideal))
    (fun k a => ∀ j : S128x256.Idx, a j = ∑ k ∈ Finset.range (256 * k), term (rdA X) (rdW w) (rdS ws) e.val (16 * r.val + (j 0).val) (256 * t7.val + (j 1).val) (1024 * t6.val + k))
    (fun j => (Ideal.ofBits_zero .f32).trans (by simp)) (fun t8 a ha j => by
      rw [dotStep_at, ha, show 256 * (t8.val + 1) = 256 * t8.val + 256 by omega, Finset.sum_range_add]
      simp only [Nat.add_assoc]) _ le_rfl j
  exact h

/-- The products of one column with one block. -/
def dcol (t6 p n : ℕ) : EReal := ∑ k ∈ Finset.range 1024, term (rdA X) (rdW w) (rdS ws) e.val (16 * r.val + p) n (1024 * t6 + k)

/-- The sums after a block. -/
theorem accBlk_at (SC : CT Ideal cc0_scratch3) (t6 : Fin k0_t6_loop.trips) (A : CT Ideal cc0_scratch4) (p n : ℕ) (hp : p < 128) (hn : n < 4096) :
    rdC (accBlk X w e r (scOf ws e t6 SC) t6 A) p n = if t6.val = 0 then dcol X w ws e r t6.val p n else rdC A p n + dcol X w ws e r t6.val p n := by
  have e7 : k0_t7_loop.trips = 16 := by decide +kernel
  have h6 : t6.val < 7 := t6.isLt
  have h := iter_ind k0_t7_loop.trips (accCol X w e r (scOf ws e t6 SC) t6) A
    (fun k B => ∀ p n, p < 128 → n < 4096 → rdC B p n = if n < 256 * k then (if t6.val = 0 then dcol X w ws e r t6.val p n else rdC A p n + dcol X w ws e r t6.val p n) else rdC A p n)
    (fun p n _ _ => by simp) (fun t7 B hB p n hp hn => by
      refine (rect2 (n := 128) (k := 4096) (m := 128) (l := 256) B _ _ _ _ (k0_off33_eq t7) (acc_write cc0_scratch4 (k0_off33_inb t7) B _) p n hp hn).trans ?_
      by_cases hh : 256 * t7.val ≤ n ∧ n < 256 * t7.val + 256
      · rw [if_pos ⟨⟨by omega, by omega⟩, hh⟩, if_pos (by omega)]
        have hl : n - 256 * t7.val < 256 := by omega
        refine (rd2_row (n := 128) (k := 256) _ ⟨p - 0, by omega⟩ hl).trans ((pay57_at _ _ _ _).trans ?_)
        have hD : dotCol X w e r (scOf ws e t6 SC) t6 t7 (ix2 ⟨p - 0, by omega⟩ ⟨_, hl⟩) = dcol X w ws e r t6.val p n := by
          refine (dotCol_at X w ws e r SC t6 t7 _).trans ?_
          show ∑ k ∈ Finset.range 1024, term (rdA X) (rdW w) (rdS ws) e.val (16 * r.val + p) (256 * t7.val + (n - 256 * t7.val)) (1024 * t6.val + k) = _
          rw [show 256 * t7.val + (n - 256 * t7.val) = n by omega]
          rfl
        rw [hD]
        have hO : (((Memref.whole cc0_scratch4).access (Rect.unit (s := S128x4096) (k0_off33 t7) S128x256.size (k0_off33_inb t7)) : View sig .tc _ _ _).read (Elt Ideal) B)
            (ix2 ⟨p - 0, by omega⟩ ⟨_, hl⟩) = rdC A p n := by
          refine (rd2_eq (n := 128) (k := 256) _ _ p (n - 256 * t7.val) rfl rfl).trans ?_
          refine (rect2_read (n := 128) (k := 4096) (m := 128) (l := 256) B _ _ _ (k0_off33_eq t7) (k0_off33_inb t7) (fun _ => rfl) p (n - 256 * t7.val) hp hl).trans ?_
          rw [Nat.zero_add, show 256 * t7.val + (n - 256 * t7.val) = n by omega]
          exact (hB p n hp hn).trans (if_neg (by omega))
        rw [hO]
        by_cases h0 : t6.val = 0
        · rw [if_pos h0, h0]; rfl
        · rw [if_neg h0]
          have : Scalar.cmpi CmpIPredicate.eq (Scf.iv 0#32 1#32 t6.val) 0#32 = 0#1 := by
            revert h0; revert h6
            generalize t6.val = q
            intro h6 h0
            interval_cases q <;> first | contradiction | rfl
          rw [this]
          rfl
      · rw [if_neg fun q => hh q.2]
        refine (hB p n hp hn).trans ?_
        have : (n < 256 * t7.val) ↔ (n < 256 * (t7.val + 1)) := by omega
        simp only [this]) _ le_rfl p n hp hn
  exact h.trans (if_pos (by rw [e7]; omega))

/-- The sums after all blocks. -/
theorem blkAll_at (z : CT Ideal cc0_scratch3 × CT Ideal cc0_scratch4) (p n : ℕ) (hp : p < 128) (hn : n < 4096) :
    rdC (blkAll X w ws e r z).2 p n = ∑ k ∈ Finset.range 7168, term (rdA X) (rdW w) (rdS ws) e.val (16 * r.val + p) n k := by
  have e6 : k0_t6_loop.trips = 7 := by decide +kernel
  have h := iter_ind k0_t6_loop.trips (blkStep X w ws e r) z
    (fun k z => 0 < k → ∀ p n, p < 128 → n < 4096 → rdC z.2 p n = ∑ k ∈ Finset.range (1024 * k), term (rdA X) (rdW w) (rdS ws) e.val (16 * r.val + p) n k)
    (fun h => absurd h (by omega)) (fun t6 z hz _ p n hp hn => by
      refine (accBlk_at X w ws e r z.1 t6 z.2 p n hp hn).trans ?_
      by_cases h0 : t6.val = 0
      · rw [if_pos h0, h0]
        unfold dcol
        simp
      · rw [if_neg h0, hz (by omega) p n hp hn, show 1024 * (t6.val + 1) = 1024 * t6.val + 1024 by omega, Finset.sum_range_add]
        rfl) _ le_rfl (by omega) p n hp hn
  have e : 7168 = 1024 * k0_t6_loop.trips := by omega
  rw [e]
  exact h

/-- … of the quantised rows. -/
theorem blkAll_xq (z : CT Ideal cc0_scratch3 × CT Ideal cc0_scratch4) (p n : ℕ) (hp : p < 128) (hn : n < 4096) :
    rdC (blkAll (xqAll X) w ws e r z).2 p n = accE (rdA X) (rdW w) (rdS ws) e.val (16 * r.val + p) n := by
  refine (blkAll_at (xqAll X) w ws e r z p n hp hn).trans ?_
  unfold accE
  refine Finset.sum_congr rfl fun k hk => ?_
  unfold term
  rw [xqAll_at X _ _ (by omega) (Finset.mem_range.1 hk)]

end Cert.Proof.KernelIdeal

end
-- ==== Proof.PI.ValO.lean ====
/- What an item leaves in the results' buffers. -/
module

public import proofs.«01_k».proof.Proof.PI.PayO
public import proofs.«01_k».proof.Proof.PI.ValA

@[expose] public section

set_option maxRecDepth 16384

noncomputable section

namespace Cert.Proof.KernelIdeal

open Cert.KernelIdeal Cert.KernelIdeal.Gen Cert.Proof.Num
open Idealize.ShloMosaic

/-- The results' buffers at natural indices. -/
abbrev rdY (Y : CT Ideal cc0_scratch5) : ℕ → ℕ → EReal := rd2 (n := 256) (k := 2048) Y

@[inherit_doc rdY] abbrev rdZ (Z : CT Ideal cc0_scratch6) : ℕ → ℕ → BitVec 32 := rd2 (n := 256) (k := 128) Z

/-- The gated products of the sums. -/
def hA (A : CT Ideal cc0_scratch4) (p c : ℕ) : EReal := gated (rdC A p c) (rdC A p (c + 2048))

variable (A : CT Ideal cc0_scratch4) (r : Fin 9) (lo hi : BitVec 32)

/-- The results of a tile on the item's own rows. -/
theorem tile_at (hlo : lo.toNat ≤ 256) (hhi : hi.toNat ≤ 256) (t9 : Fin k0_t9_loop.trips) (t10 : Fin k0_t10_loop.trips) (p : Fin 32) (l : Fin 128)
    (ho : lo.toNat ≤ 16 * r.val + (32 * t9.val + p.val) ∧ 16 * r.val + (32 * t9.val + p.val) < hi.toNat) :
    min (Ideal.ofBits .f32 0x43E00000#32) (max (Ideal.ofBits .f32 0xC3E00000#32) ((outTile A r lo hi t9 t10).1 (ix2 p l)))
      = code (hA A (32 * t9.val + p.val) (128 * t10.val + l.val)) (bmax (hA A) (32 * t9.val + p.val) (128 * t10.val + l.val))
    ∧ (outTile A r lo hi t9 t10).2 (ix2 p l) = BitVec.ofNat 32 (byteN (bmax (hA A) (32 * t9.val + p.val) (128 * t10.val + l.val))) := by
  have h9 : t9.val < 4 := t9.isLt
  have h10 : t10.val < 16 := t10.isLt
  have hp := p.isLt
  have hl := l.isLt
  let v71 : Vec Ideal S32x128 .f32 := ((Memref.whole cc0_scratch4).access (Rect.unit (s := S128x4096) (k0_off36 t9 t10) S32x128.size (k0_off36_inb t9 t10)) : View sig .tc _ _ _).read (Elt Ideal) A
  let v77 : Vec Ideal S32x128 .f32 := ((Memref.whole cc0_scratch4).access (Rect.unit (s := S128x4096) (k0_off37 t9 t10) S32x128.size (k0_off37_inb t9 t10)) : View sig .tc _ _ _).read (Elt Ideal) A
  have hv : ∀ c, c < 128 → rd2 (n := 32) (k := 128) (k0_pay22 (ownRows (F := Ideal) r lo hi t9) v71 v77) p.val c = hA A (32 * t9.val + p.val) (128 * t10.val + c) := by
    intro c hc
    refine (rd2_row (n := 32) (k := 128) _ p hc).trans ((pay22_at _ _ _ _).trans ?_)
    refine (congrArg (fun m => Scalar.select m _ _) ((own_ix r lo hi hlo hhi t9 p ⟨c, hc⟩ _ rfl).trans (if_pos ho))).trans ?_
    show gated (v71 (ix2 p ⟨c, hc⟩)) (v77 (ix2 p ⟨c, hc⟩)) = _
    unfold hA
    refine congrArg₂ gated ?_ ?_
    · exact (rd2_eq (n := 32) (k := 128) _ _ p.val c rfl rfl).trans
        (rect2_read (n := 128) (k := 4096) (m := 32) (l := 128) A _ _ _ (k0_off36_eq t9 t10) (k0_off36_inb t9 t10) (fun _ => rfl) p.val c hp hc)
    · refine (rd2_eq (n := 32) (k := 128) _ _ p.val c rfl rfl).trans
        ((rect2_read (n := 128) (k := 4096) (m := 32) (l := 128) A _ _ _ (k0_off37_eq t9 t10) (k0_off37_inb t9 t10) (fun _ => rfl) p.val c hp hc).trans ?_)
      congr 1
      omega
  have hb : bmax (rd2 (n := 32) (k := 128) (k0_pay22 (ownRows (F := Ideal) r lo hi t9) v71 v77)) p.val l.val = bmax (hA A) (32 * t9.val + p.val) (128 * t10.val + l.val) := by
    unfold bmax
    refine Finset.sup_congr rfl fun x hx => ?_
    have hx := Finset.mem_range.1 hx
    rw [hv _ (by omega)]
    congr 2
    omega
  have h2 : (outTile A r lo hi t9 t10).2 (ix2 p l) = kbyte (bmax (hA A) (32 * t9.val + p.val) (128 * t10.val + l.val)) := by
    rw [← hb]
    exact obyte_at _ v71 v77 (ix2 p l)
  refine ⟨?_, h2.trans (kbyte_eq _)⟩
  have h1 : (outTile A r lo hi t9 t10).1 (ix2 p l) = hA A (32 * t9.val + p.val) (128 * t10.val + l.val)
      * Ideal.ofBits .f32 (IntOp.shli .vector (IntOp.subi 254#32 (kbyte (bmax (hA A) (32 * t9.val + p.val) (128 * t10.val + l.val)))) 23#32) := by
    rw [← h2, ← hv _ hl, rd2_row (n := 32) (k := 128) _ p hl]
    exact pay31_at _ _ _ _ _
  rw [h1]
  exact code_kernel _ _

/-- The codes that an item gives a row. -/
def yA (ρ c : ℕ) : EReal := code (hA A (ρ - 16 * r.val) c) (bmax (hA A) (ρ - 16 * r.val) c)

/-- The bytes. -/
def sA (ρ b : ℕ) : BitVec 32 := if b < 64 then BitVec.ofNat 32 (byteN (bmax (hA A) (ρ - 16 * r.val) (32 * b))) else 0#32

/-- An item's own rows. -/
abbrev own (ρ : ℕ) : Prop := lo.toNat ≤ ρ ∧ ρ < hi.toNat

/-- The codes of thirty-two rows after some of their column tiles, and their bytes. -/
theorem outStep_at (hlo : lo.toNat ≤ 256) (hhi : hi.toNat ≤ 256) (t9 : Fin k0_t9_loop.trips) (z : CT Ideal cc0_scratch5 × IVec S32x128 32) (h0 : ∀ j, z.2 j = 0#32) :
    let o := iter k0_t10_loop.trips (outStep A r lo hi t9) z k0_t10_loop.trips
    (∀ ρ c, ρ < 256 → c < 2048 → rdY o.1 ρ c = if (16 * r.val + 32 * t9.val ≤ ρ ∧ ρ < 16 * r.val + 32 * t9.val + 32) ∧ own lo hi ρ then yA A r ρ c else rdY z.1 ρ c)
    ∧ ∀ p l, p < 32 → l < 128 → own lo hi (16 * r.val + (32 * t9.val + p)) → rd2 (n := 32) (k := 128) o.2 p l = sA A r (16 * r.val + (32 * t9.val + p)) l := by
  have e10 : k0_t10_loop.trips = 16 := by decide +kernel
  have h := iter_ind k0_t10_loop.trips (outStep A r lo hi t9) z (fun k o =>
    (∀ ρ c, ρ < 256 → c < 2048 → rdY o.1 ρ c = if ((16 * r.val + 32 * t9.val ≤ ρ ∧ ρ < 16 * r.val + 32 * t9.val + 32) ∧ own lo hi ρ) ∧ c < 128 * k then yA A r ρ c else rdY z.1 ρ c)
    ∧ ∀ p l, p < 32 → l < 128 → own lo hi (16 * r.val + (32 * t9.val + p)) → rd2 (n := 32) (k := 128) o.2 p l
      = if l < 4 * k then sA A r (16 * r.val + (32 * t9.val + p)) l else 0#32)
    ⟨fun ρ c _ _ => by simp, fun p l _ _ _ => by rw [if_neg (by omega)]; exact h0 _⟩ (fun t10 o ho => by
      have h9 : t9.val < 4 := t9.isLt
      have h10 : t10.val < 16 := t10.isLt
      obtain ⟨hy, hs⟩ := ho
      refine ⟨fun ρ c hρ hc => ?_, fun p l hp hl how => ?_⟩
      · refine (rect2 (n := 256) (k := 2048) (m := 32) (l := 128) o.1 _ _ _ _ (off38_n r t9 t10)
          (acc_write cc0_scratch5 (k0_off38_inb (w32 (16 * r.val)) (chk4_n r) t9 t10) o.1 _) ρ c hρ hc).trans ?_
        by_cases hh : (16 * r.val + 32 * t9.val ≤ ρ ∧ ρ < 16 * r.val + 32 * t9.val + 32) ∧ 128 * t10.val ≤ c ∧ c < 128 * t10.val + 128
        · rw [if_pos hh]
          have hp : ρ - (16 * r.val + 32 * t9.val) < 32 := by omega
          have hl : c - 128 * t10.val < 128 := by omega
          refine (rd2_row (n := 32) (k := 128) _ ⟨_, hp⟩ hl).trans ((pay60_at _ _ _ _ _ _ _ _).trans ?_)
          have er : 16 * r.val + (32 * t9.val + (ρ - (16 * r.val + 32 * t9.val))) = ρ := by omega
          have er' : 32 * t9.val + (ρ - (16 * r.val + 32 * t9.val)) = ρ - 16 * r.val := by omega
          have ec : 128 * t10.val + (c - 128 * t10.val) = c := by omega
          refine (congrArg (fun m => Scalar.select m _ _) (own_ix r lo hi hlo hhi t9 ⟨_, hp⟩ ⟨_, hl⟩ ρ er)).trans ?_
          by_cases how : own lo hi ρ
          · refine Eq.trans ?_ (if_pos ⟨⟨hh.1, how⟩, by omega⟩).symm
            refine (congrArg (fun m => Scalar.select m _ _) (if_pos how)).trans ?_
            have := (tile_at A r lo hi hlo hhi t9 t10 ⟨_, hp⟩ ⟨_, hl⟩ (by show _ ≤ 16 * r.val + (32 * t9.val + (ρ - (16 * r.val + 32 * t9.val))) ∧ _ < _; rw [er]; exact how)).1
            simp only [er', ec] at this
            exact this
          · refine Eq.trans ?_ (if_neg (fun q => how q.1.2)).symm
            refine (congrArg (fun m => Scalar.select m _ _) (if_neg how)).trans ?_
            refine (rd2_eq (n := 32) (k := 128) _ (ix2 ⟨_, hp⟩ ⟨_, hl⟩) _ _ rfl rfl).trans ((rect2_read (n := 256) (k := 2048) (m := 32) (l := 128) o.1 _ _ _ (off38_n r t9 t10)
              (k0_off38_inb (w32 (16 * r.val)) (chk4_n r) t9 t10) (fun _ => rfl) _ _ hp hl).trans ?_)
            rw [show 16 * r.val + 32 * t9.val + (ρ - (16 * r.val + 32 * t9.val)) = ρ by omega, ec]
            exact (hy ρ c hρ hc).trans (if_neg (fun q => how q.1.2))
        · rw [if_neg hh]
          refine (hy ρ c hρ hc).trans ?_
          refine if_congr ?_ rfl rfl
          constructor
          · rintro ⟨q, q'⟩; exact ⟨q, by omega⟩
          · rintro ⟨q, q'⟩; exact ⟨q, by have := q.1; omega⟩
      · refine (rd2_row (n := 32) (k := 128) _ ⟨p, hp⟩ hl).trans ((pay61_at _ ⟨t10.val, h10⟩ _ _).trans ?_)
        by_cases hq : l / 4 = t10.val
        · refine (if_pos hq).trans (Eq.trans ?_ (if_pos (by omega)).symm)
          refine (tile_at A r lo hi hlo hhi t9 t10 ⟨p, hp⟩ ⟨32 * (l % 4), by omega⟩ how).2.trans ?_
          unfold sA
          rw [if_pos (by omega)]
          show BitVec.ofNat 32 (byteN (bmax (hA A) (32 * t9.val + p) (128 * t10.val + 32 * (l % 4)))) = _
          rw [show 128 * t10.val + 32 * (l % 4) = 32 * l by omega, show 16 * r.val + (32 * t9.val + p) - 16 * r.val = 32 * t9.val + p by omega]
        · refine (if_neg hq).trans ?_
          refine (rd2_row (n := 32) (k := 128) o.2 ⟨p, hp⟩ hl).symm.trans ((hs p l hp hl how).trans ?_)
          refine if_congr ?_ rfl rfl
          omega) _ le_rfl
  refine ⟨fun ρ c hρ hc => (h.1 ρ c hρ hc).trans (if_congr ⟨fun q => q.1, fun q => ⟨q, by rw [e10]; omega⟩⟩ rfl rfl), fun p l hp hl how => (h.2 p l hp hl how).trans ?_⟩
  by_cases hq : l < 64
  · rw [if_pos (by rw [e10]; omega)]
  · rw [if_neg (by rw [e10]; omega), sA, if_neg hq]

/-- The results after an item. -/
theorem outAll_at (hlo : lo.toNat ≤ 256) (hhi : hi.toNat ≤ 256) (h1 : 16 * r.val ≤ lo.toNat) (h2 : hi.toNat ≤ 16 * r.val + 128) (z : CT Ideal cc0_scratch5 × CT Ideal cc0_scratch6) :
    (∀ ρ c, ρ < 256 → c < 2048 → rdY (outAll A r lo hi z).1 ρ c = if own lo hi ρ then yA A r ρ c else rdY z.1 ρ c)
    ∧ ∀ ρ b, ρ < 256 → b < 128 → rdZ (outAll A r lo hi z).2 ρ b = if own lo hi ρ then IntOp.ori (rdZ z.2 ρ b) (sA A r ρ b) else rdZ z.2 ρ b := by
  have e9 : k0_t9_loop.trips = 4 := by decide +kernel
  have h := iter_ind k0_t9_loop.trips (outRow A r lo hi) z (fun k o =>
    (∀ ρ c, ρ < 256 → c < 2048 → rdY o.1 ρ c = if ρ < 16 * r.val + 32 * k ∧ own lo hi ρ then yA A r ρ c else rdY z.1 ρ c)
    ∧ ∀ ρ b, ρ < 256 → b < 128 → rdZ o.2 ρ b = if ρ < 16 * r.val + 32 * k ∧ own lo hi ρ then IntOp.ori (rdZ z.2 ρ b) (sA A r ρ b) else rdZ z.2 ρ b)
    ⟨fun ρ c _ _ => (if_neg (by rintro ⟨q, q', -⟩; omega)).symm, fun ρ c _ _ => (if_neg (by rintro ⟨q, q', -⟩; omega)).symm⟩ (fun t9 o ho => by
      have h9 : t9.val < 4 := t9.isLt
      obtain ⟨hy, hs⟩ := ho
      obtain ⟨gy, gs⟩ := outStep_at A r lo hi hlo hhi t9 (o.1, k0_pay59) (fun _ => rfl)
      refine ⟨fun ρ c hρ hc => ?_, fun ρ b hρ hb => ?_⟩
      · refine (gy ρ c hρ hc).trans ?_
        by_cases hh : (16 * r.val + 32 * t9.val ≤ ρ ∧ ρ < 16 * r.val + 32 * t9.val + 32) ∧ own lo hi ρ
        · rw [if_pos hh, if_pos ⟨by omega, hh.2⟩]
        · rw [if_neg hh]
          refine (hy ρ c hρ hc).trans (if_congr ?_ rfl rfl)
          constructor
          · rintro ⟨q, q'⟩; exact ⟨by omega, q'⟩
          · rintro ⟨q, q'⟩
            refine ⟨?_, q'⟩
            by_contra hn
            exact hh ⟨⟨by omega, by omega⟩, q'⟩
      · refine (rect2 (n := 256) (k := 128) (m := 32) (l := 128) o.2 _ _ _ _ (off39_n r t9)
          (acc_write cc0_scratch6 (k0_off39_inb (w32 (16 * r.val)) (chk4_n r) t9) o.2 _) ρ b hρ hb).trans ?_
        by_cases hh : (16 * r.val + 32 * t9.val ≤ ρ ∧ ρ < 16 * r.val + 32 * t9.val + 32)
        · rw [if_pos ⟨hh, by omega, by omega⟩]
          have hp : ρ - (16 * r.val + 32 * t9.val) < 32 := by omega
          have hl : b - 0 < 128 := by omega
          have er : 16 * r.val + (32 * t9.val + (ρ - (16 * r.val + 32 * t9.val))) = ρ := by omega
          refine (rd2_row (n := 32) (k := 128) _ ⟨_, hp⟩ hl).trans ((pay62_at _ _ _ _ _ _ _).trans ?_)
          have hold : (((Memref.whole cc0_scratch6).access (Rect.unit (s := S256x128) (k0_off39 (w32 (16 * r.val)) t9) S32x128.size (k0_off39_inb (w32 (16 * r.val)) (chk4_n r) t9)) : View sig .tc _ _ _).read (Elt Ideal) o.2)
              (ix2 ⟨_, hp⟩ ⟨_, hl⟩) = rdZ z.2 ρ b := by
            refine (rd2_eq (n := 32) (k := 128) _ _ (ρ - (16 * r.val + 32 * t9.val)) b rfl rfl).trans ((rect2_read (n := 256) (k := 128) (m := 32) (l := 128) o.2 _ _ _ (off39_n r t9)
              (k0_off39_inb (w32 (16 * r.val)) (chk4_n r) t9) (fun _ => rfl) _ _ hp hb).trans ?_)
            rw [show 16 * r.val + 32 * t9.val + (ρ - (16 * r.val + 32 * t9.val)) = ρ by omega, Nat.zero_add]
            exact (hs ρ b hρ hb).trans (if_neg (by rintro ⟨q, -⟩; omega))
          refine congrArg₂ IntOp.ori hold (congrArg (fun m => Scalar.select m _ _) (own_ix r lo hi hlo hhi t9 ⟨_, hp⟩ ⟨_, hl⟩ ρ er)) |>.trans ?_
          by_cases how : own lo hi ρ
          · refine Eq.trans ?_ (if_pos ⟨by omega, how⟩).symm
            have := gs _ b hp hb (er.symm ▸ how)
            rw [er] at this
            refine congrArg (IntOp.ori (rdZ z.2 ρ b)) ((congrArg (fun m => Scalar.select m _ _) (if_pos how)).trans ?_)
            refine Eq.trans ?_ this
            exact rd2_eq (n := 32) (k := 128) (iter k0_t10_loop.trips (outStep A r lo hi t9) (o.1, k0_pay59) k0_t10_loop.trips).2 (ix2 ⟨_, hp⟩ ⟨_, hl⟩) _ _ rfl rfl
          · refine Eq.trans ?_ (if_neg (fun q => how q.2)).symm
            refine (congrArg (fun m => IntOp.ori _ (Scalar.select m _ _)) (if_neg how)).trans ?_
            show rdZ z.2 ρ b ||| 0#32 = _
            exact BitVec.or_zero
        · rw [if_neg fun q => hh q.1]
          refine (hs ρ b hρ hb).trans (if_congr ?_ rfl rfl)
          constructor
          · rintro ⟨q, q'⟩; exact ⟨by omega, q'⟩
          · rintro ⟨q, q'⟩
            exact ⟨by omega, q'⟩) _ le_rfl
  refine ⟨fun ρ c hρ hc => (h.1 ρ c hρ hc).trans (if_congr ⟨fun q => q.2, fun q => ⟨by have := q.2; rw [e9]; omega, q⟩⟩ rfl rfl),
    fun ρ c hρ hc => (h.2 ρ c hρ hc).trans (if_congr ⟨fun q => q.2, fun q => ⟨by have := q.2; rw [e9]; omega, q⟩⟩ rfl rfl)⟩

end Cert.Proof.KernelIdeal

end
-- ==== Proof.PI.ValI.lean ====
/- What the kernel's results are. -/
module

public import proofs.«01_k».proof.Proof.PI.ValO
public import proofs.«01_k».proof.Proof.PI.Whole

@[expose] public section

set_option maxRecDepth 16384

noncomputable section

namespace Cert.Proof.KernelIdeal

open Cert.KernelIdeal Cert.KernelIdeal.Gen Cert.Proof.Num
open Idealize.ShloMosaic

/-- Row `ρ` is of group `e`. -/
abbrev RowOf (g : CT Ideal cc0_stg0_0) (e ρ : ℕ) : Prop := rowS g e ≤ ρ ∧ ρ < rowS g (e + 1)

/-- A row is in one group only. -/
theorem rowOf_unique {g : CT Ideal cc0_stg0_0} {e e' ρ : ℕ} (h : RowOf g e ρ) (h' : RowOf g e' ρ) : e = e' := by
  rcases Nat.lt_trichotomy e e' with q | q | q
  · have := rowS_mono g (show e + 1 ≤ e' from q); omega
  · exact q
  · have := rowS_mono g (show e' + 1 ≤ e from q); omega

/-- A row of the results' buffers is that of expert `e`. -/
def RowDone (X : ℕ → ℕ → EReal) (W : ℕ → ℕ → ℕ → EReal) (S : ℕ → ℕ → ℕ → BitVec 8) (e ρ : ℕ) (z : St Ideal) : Prop :=
  (∀ c, c < 2048 → rdY z.2.2.1 ρ c = yE X W S e ρ c)
    ∧ ∀ b, b < 128 → rdZ z.2.2.2 ρ b = if b < 64 then BitVec.ofNat 32 (sE X W S e ρ b) else 0#32

/-- One item's row. -/
theorem item_row (x : CT Ideal cc0_scratch0) (w : CT Ideal main_arg2) (ws : CT Ideal main_arg3) (e : Fin 13) (r : Fin 9) (z : CT Ideal cc0_scratch3 × CT Ideal cc0_scratch4)
    (ρ : ℕ) (h1 : 16 * r.val ≤ ρ) (h2 : ρ < 16 * r.val + 128) :
    (∀ c, c < 2048 → yA (blkAll (xqAll x) w ws e r z).2 r ρ c = yE (rdA x) (rdW w) (rdS ws) e.val ρ c)
    ∧ ∀ b, sA (blkAll (xqAll x) w ws e r z).2 r ρ b = if b < 64 then BitVec.ofNat 32 (sE (rdA x) (rdW w) (rdS ws) e.val ρ b) else 0#32 := by
  have hh : ∀ c, c < 2048 → hA (blkAll (xqAll x) w ws e r z).2 (ρ - 16 * r.val) c = hE (rdA x) (rdW w) (rdS ws) e.val ρ c := by
    intro c hc
    unfold hA hE
    rw [blkAll_xq x w ws e r z _ _ (by omega) (by omega), blkAll_xq x w ws e r z _ _ (by omega) (by omega), show 16 * r.val + (ρ - 16 * r.val) = ρ by omega]
  have hb : ∀ c, c < 2048 → bmax (hA (blkAll (xqAll x) w ws e r z).2) (ρ - 16 * r.val) c = bmax (hE (rdA x) (rdW w) (rdS ws) e.val) ρ c := by
    intro c hc
    unfold bmax
    refine Finset.sup_congr rfl fun q hq => ?_
    have hq := Finset.mem_range.1 hq
    rw [hh _ (by omega)]
  refine ⟨fun c hc => ?_, fun b => ?_⟩
  · unfold yA yE
    rw [hh c hc, hb c hc]
  · unfold sA sE
    by_cases hq : b < 64
    · rw [if_pos hq, if_pos hq, hb _ (by omega)]
    · rw [if_neg hq, if_neg hq]

variable (x : CT Ideal cc0_scratch0) (w : CT Ideal main_arg2) (ws : CT Ideal main_arg3) (g : CT Ideal cc0_stg0_0) (f : CT Ideal cc0_scratch7)
  (n : ℕ) (eN : ℕ → Fin 13) (rN : ℕ → Fin 9)

/-- Nothing was put in a row of the scales' buffer. -/
def RowZero (ρ : ℕ) (z : St Ideal) : Prop := ∀ b, b < 128 → rdZ z.2.2.2 ρ b = 0#32

/-- A row after one more item. -/
theorem itemStep_row (i : ℕ) (hT : TabOk g f n eN rN) (hi : i < n) (z : St Ideal) (ρ e : ℕ) (hρ : ρ < 256) (he : RowOf g e ρ) :
    (own (tw f 2 (fi i)) (tw f 3 (fi i)) ρ → RowDone (rdA x) (rdW w) (rdS ws) e ρ z ∨ RowZero ρ z →
      RowDone (rdA x) (rdW w) (rdS ws) e ρ (itemStep (xqAll x) w ws f eN rN i z))
    ∧ (¬ own (tw f 2 (fi i)) (tw f 3 (fi i)) ρ →
      (RowDone (rdA x) (rdW w) (rdS ws) e ρ z → RowDone (rdA x) (rdW w) (rdS ws) e ρ (itemStep (xqAll x) w ws f eN rN i z))
      ∧ (RowZero ρ z → RowZero ρ (itemStep (xqAll x) w ws f eN rN i z))) := by
  obtain ⟨-, -, t1, t2, t3, t4, t5, t6⟩ := hT.2.1 i hi
  have oo := outAll_at (blkAll (xqAll x) w ws (eN i) (rN i) (z.1, z.2.1)).2 (rN i) (tw f 2 (fi i)) (tw f 3 (fi i)) t6 t5 t3 t4 (z.2.2.1, z.2.2.2)
  have ii := item_row x w ws (eN i) (rN i) (z.1, z.2.1) ρ
  have e1 : (itemStep (xqAll x) w ws f eN rN i z).2.2.1 = (outAll (blkAll (xqAll x) w ws (eN i) (rN i) (z.1, z.2.1)).2 (rN i) (tw f 2 (fi i)) (tw f 3 (fi i)) (z.2.2.1, z.2.2.2)).1 := rfl
  have e2 : (itemStep (xqAll x) w ws f eN rN i z).2.2.2 = (outAll (blkAll (xqAll x) w ws (eN i) (rN i) (z.1, z.2.1)).2 (rN i) (tw f 2 (fi i)) (tw f 3 (fi i)) (z.2.2.1, z.2.2.2)).2 := rfl
  unfold RowDone RowZero
  rewrite [e1, e2]
  clear e1 e2
  revert oo ii
  generalize outAll (blkAll (xqAll x) w ws (eN i) (rN i) (z.1, z.2.1)).2 (rN i) (tw f 2 (fi i)) (tw f 3 (fi i)) (z.2.2.1, z.2.2.2) = O
  generalize blkAll (xqAll x) w ws (eN i) (rN i) (z.1, z.2.1) = B
  rintro ⟨oy, os⟩ ii
  refine ⟨fun how hz => ?_, fun how => ⟨fun hz => ⟨fun c hc => (oy ρ c hρ hc).trans ((if_neg how).trans (hz.1 c hc)), fun b hb => (os ρ b hρ hb).trans ((if_neg how).trans (hz.2 b hb))⟩,
    fun hz b hb => (os ρ b hρ hb).trans ((if_neg how).trans (hz b hb))⟩⟩
  have hek : (eN i).val = e := rowOf_unique (g := g) ⟨t1.trans how.1, lt_of_lt_of_le how.2 t2⟩ he
  obtain ⟨iy, is⟩ := ii (t3.trans how.1) (lt_of_lt_of_le how.2 t4)
  rewrite [hek] at iy is
  refine ⟨fun c hc => (oy ρ c hρ hc).trans ((if_pos how).trans (iy c hc)), fun b hb => (os ρ b hρ hb).trans ((if_pos how).trans ?_)⟩
  rewrite [is]
  rcases hz with hz | hz
  · refine (congrArg (fun q => IntOp.ori q _) (hz.2 b hb)).trans ?_
    exact BitVec.or_self
  · refine (congrArg (fun q => IntOp.ori q _) (hz b hb)).trans ?_
    exact BitVec.zero_or

/-- The buffers after `k` items. -/
theorem itemsTo_at (hT : TabOk g f n eN rN) (z : St Ideal) (ρ e : ℕ) (h0 : RowZero ρ z) (hρ : ρ < 256) (he : RowOf g e ρ) (k : ℕ) (hk : k ≤ n) :
    RowDone (rdA x) (rdW w) (rdS ws) e ρ (itemsTo (xqAll x) w ws f eN rN z k)
      ∨ ((¬ ∃ i < k, own (tw f 2 (fi i)) (tw f 3 (fi i)) ρ) ∧ RowZero ρ (itemsTo (xqAll x) w ws f eN rN z k)) := by
  induction k with
  | zero => exact .inr ⟨fun ⟨_, h, _⟩ => absurd h (Nat.not_lt_zero _), h0⟩
  | succ k ih =>
    have ih := ih (by omega)
    have e1 : itemsTo (xqAll x) w ws f eN rN z (k + 1) = itemStep (xqAll x) w ws f eN rN k (itemsTo (xqAll x) w ws f eN rN z k) := rfl
    rewrite [e1]
    clear e1
    revert ih
    generalize itemsTo (xqAll x) w ws f eN rN z k = Z
    intro ih
    obtain ⟨s1, s2⟩ := itemStep_row x w ws g f n eN rN k hT hk Z ρ e hρ he
    by_cases how : own (tw f 2 (fi k)) (tw f 3 (fi k)) ρ
    · exact .inl (s1 how (ih.imp id And.right))
    · rcases ih with ih | ⟨ih, iz⟩
      · exact .inl ((s2 how).1 ih)
      · refine .inr ⟨?_, (s2 how).2 iz⟩
        rintro ⟨i, hi, h⟩
        rcases Nat.lt_succ_iff_lt_or_eq.1 hi with q | q
        · exact ih ⟨i, q, h⟩
        · subst q; exact how h

/-- A row of a group, after all items. -/
theorem outSt_row (x : CT Ideal main_arg0) (hT : TabOk g f n eN rN) (hF : rowS g 13 = 256) (SC : CT Ideal cc0_scratch3) (A : CT Ideal cc0_scratch4) (ρ e : ℕ) (hρ : ρ < 256) (he : RowOf g e ρ) :
    RowDone (rd2 (n := 256) (k := 7168) x) (rdW w) (rdS ws) e ρ (outSt x w ws n f eN rN SC A) :=
  (itemsTo_at (landedX x) w ws g f n eN rN hT (SC, A, k0_pay51 (F := Ideal), k0_pay52) ρ e (fun _ _ => rfl) hρ he n le_rfl).resolve_right
    fun h => h.1 (hT.2.2 ρ (by omega))

/-- The first result. -/
theorem outY_at {x : CT Ideal main_arg0} {y : CT Ideal cc0_stg1_0} (h : OutY x w ws g y) (hF : rowS g 13 = 256) (ρ : Fin 256) (c : Fin 2048) (e : ℕ) (he : RowOf g e ρ.val) :
    y (ix2 ρ c) = yE (rd2 (n := 256) (k := 7168) x) (rdW w) (rdS ws) e ρ.val c.val := by
  obtain ⟨n, f, eN, rN, SC, A, hT, rfl⟩ := h
  refine Eq.trans ?_ ((outSt_row w ws g f n eN rN x hT hF SC A ρ.val e ρ.isLt he).1 c.val c.isLt)
  exact rd2_eq (n := 256) (k := 2048) (outSt x w ws n f eN rN SC A).2.2.1 (ix2 ρ c) _ _ rfl rfl

/-- The second result. -/
theorem outS_at {x : CT Ideal main_arg0} {s : CT Ideal cc0_stg2_0} (h : OutS x w ws g s) (hF : rowS g 13 = 256) (ρ : Fin 256) (b : Fin 64) (e : ℕ) (he : RowOf g e ρ.val) :
    s (ix2 ρ b) = BitVec.ofNat 8 (sE (rd2 (n := 256) (k := 7168) x) (rdW w) (rdS ws) e ρ.val b.val) := by
  obtain ⟨n, f, eN, rN, SC, A, hT, rfl⟩ := h
  have hr : rdYS (outSt x w ws n f eN rN SC A).2.2.2 (ix2 ρ b) = BitVec.ofNat 32 (sE (rd2 (n := 256) (k := 7168) x) (rdW w) (rdS ws) e ρ.val b.val) := by
    refine (rd2_eq (n := 256) (k := 64) _ _ ρ.val b.val rfl rfl).trans ((rect2_read (n := 256) (k := 128) (m := 256) (l := 64) (outSt x w ws n f eN rN SC A).2.2.2 _ 0 0 rfl
      inb_S256x128_S256x64_0_0 (fun _ => rfl) _ _ ρ.isLt b.isLt).trans ?_)
    rw [Nat.zero_add, Nat.zero_add]
    have hb := b.isLt
    exact ((outSt_row w ws g f n eN rN x hT hF SC A ρ.val e ρ.isLt he).2 b.val (by omega)).trans (if_pos hb)
  have hp : ∀ v : Vec Ideal S256x64 .i32, k0_pay1 (F := Ideal) v (ix2 ρ b) = (v (ix2 ρ b)).setWidth 8 := fun v => by
    pointwise [k0_pay1]
  refine (hp _).trans ((congrArg (BitVec.setWidth 8) hr).trans ?_)
  exact BitVec.setWidth_ofNat_of_le (by decide) _

end Cert.Proof.KernelIdeal

end
-- ==== Proof.Ref.Pay.lean ====
/- What the reference's values are at an index. -/
module

public import proofs.«01_k».proof.Proof.Spec
public import proofs.«01_k».proof.Proof.Gen.ReferenceIdeal.Skeleton

@[expose] public section

set_option maxRecDepth 16384

noncomputable section

namespace Cert.Proof.ReferenceIdeal

open Cert.ReferenceIdeal Cert.ReferenceIdeal.Gen Cert.Proof.Num
open Idealize.ShloMosaic

/-- The word of the least number. -/
theorem bot_word : Ideal.ofBits .f32 4286578688#32 = ⊥ := by
  simp [Ideal.ofBits, Ideal.ieee]

/-- The maximum over a block is a supremum. -/
theorem fold_sup (f : Fin 32 → EReal) (g : ℕ → EReal) (h : ∀ x : Fin 32, f x = g x.val) :
    Finset.univ.fold max (Ideal.ofBits .f32 4286578688#32) f = (Finset.range 32).sup g := by
  rw [bot_word]
  refine eq_of_forall_ge_iff fun c => ?_
  rw [Finset.fold_max_le, Finset.sup_le_iff]
  constructor
  · intro hh x hx
    have := hh.2 ⟨x, Finset.mem_range.1 hx⟩ (Finset.mem_univ _)
    rwa [h] at this
  · intro hh
    refine ⟨bot_le, fun x _ => ?_⟩
    rw [h]; exact hh x.val (Finset.mem_range.2 x.isLt)

/-- The exponent of a trip's threshold. -/
theorem iv_word : ∀ k : Fin 246, (Scalar.subi (Scf.iv 0#32 1#32 k.val) 126#32).toInt = (k.val : ℤ) - 126 := by decide +kernel

/-- A trip's comparison with its threshold. -/
theorem step_word {c : ℝ} {w : EReal} (hw : w = ((c : ℝ) : EReal)) (k : ℕ) (hk : k < 246) (a a' : EReal) (ha : a = a') :
    BitVec.ofBool (decide (w * Ideal.exp2 ((((Scalar.subi (Scf.iv 0#32 1#32 k) 126#32).toInt : ℝ)) : EReal) ≤ a)) = Ideal.cmp .oge a' (thr c k) := by
  rw [exp2_sitofp, iv_word ⟨k, hk⟩, hw, mul_pow2, ha]
  rfl

/-- The reference's exponent of a count, its opposite, and whether there is one. -/
theorem eword_exp {a : EReal} {c : ℝ} (hc : 0 < c) : (eword (BitVec.ofNat 32 (cnt c a 246))).toInt = exN (cnt c a 246)
    ∧ (IntOp.subi 0#32 (eword (BitVec.ofNat 32 (cnt c a 246)))).toInt = - exN (cnt c a 246)
    ∧ IntOp.cmpi .sgt (BitVec.ofNat 32 (cnt c a 246)) 0#32 = (if cnt c a 246 = 0 then 0#1 else 1#1)
    ∧ (IntOp.addi (eword (BitVec.ofNat 32 (cnt c a 246))) 127#32).setWidth 8 = (BitVec.ofNat 8 (if cnt c a 246 = 0 then 127 else cnt c a 246 + 1)) :=
  eword_toInt ⟨cnt c a 246, by have := (cnt_spec hc a 246).1; omega⟩

/-- The reference's dequantised row entry is the specification's. -/
theorem ref_deq (x a : EReal) (w : BitVec 32) (hw : w = BitVec.ofNat 32 (cnt cx a 246)) :
    Scalar.select (IntOp.cmpi .sgt w 0#32) (clip (x * Ideal.exp2 ((((IntOp.subi 0#32 (eword w)).toInt : ℝ)) : EReal))
      * Ideal.exp2 ((((eword w).toInt : ℝ)) : EReal)) 0 = deq x a := by
  subst hw
  obtain ⟨h1, h2, h3, -⟩ := eword_exp (a := a) cx_pos
  rw [exp2_sitofp, exp2_sitofp, h1, h2, h3, deq]
  by_cases h : cnt cx a 246 = 0
  · rw [if_pos h, if_pos h, mul_zero]; rfl
  · rw [if_neg h, if_neg h]; rfl

/-- The reference's code of a result is the specification's. -/
theorem ref_code (x a : EReal) (w : BitVec 32) (hw : w = BitVec.ofNat 32 (cnt ch a 246)) :
    clip (x * Ideal.exp2 ((((IntOp.subi 0#32 (eword w)).toInt : ℝ)) : EReal)) = code x a := by
  subst hw
  rw [exp2_sitofp, (eword_exp (a := a) ch_pos).2.1, code]

/-- The rows' count of one more number. -/
theorem pay10_at (v : Vec Ideal S256x7168 .bf16) (k : Fin k0_t1_loop.trips) (hk : k.val < 246) (a : IVec S256x224 32) (j : S256x224.Idx) :
    k0_pay10 v k a j = IntOp.addi (a j) ((Ideal.cmp .oge (bmax (rd2 v) (j 0).val (32 * (j 1).val)) (thr cx k.val)).setWidth 32) := by
  pointwise [k0_pay10, k0_pay8]
  congr 2
  refine step_word first_x k.val hk _ _ ?_
  refine fold_sup _ _ fun x => ?_
  have hx : x.val < 32 := x.isLt
  rw [rd2_eq v _ (j 0).val (32 * (32 * (j 1).val / 32) + x.val) rfl (by show (j 1).val * 32 + x.val = _; omega)]
  rfl

/-- The rows quantised, from their counts. -/
theorem pay11_at (v : Vec Ideal S256x7168 .bf16) (a : IVec S256x224 32) (j : S256x7168.Idx)
    (ha : ∀ i : S256x224.Idx, a i = BitVec.ofNat 32 (cnt cx (bmax (rd2 v) (i 0).val (32 * (i 1).val)) 246)) :
    k0_pay11 v a j = xq (rd2 v) (j 0).val (j 1).val := by
  pointwise [k0_pay11, k0_pay8]
  have hb : bmax (rd2 v) (j 0).val (32 * ((j 1).val / 32)) = bmax (rd2 v) (j 0).val (j 1).val := by
    unfold bmax; congr 1; funext x; congr 2; omega
  unfold xq
  rw [← rd2_eq v j _ _ rfl rfl]
  exact ref_deq (v j) _ _ ((ha _).trans (by rw [← hb]; rfl))

/-- The result before quantising, from the sums. -/
def hOf (v : FVec Ideal S256x4096 .f32) (r c : ℕ) : EReal := gated (rd2 v r c) (rd2 v r (c + 2048))

/-- The results' count of one more number. -/
theorem pay4_at (v : FVec Ideal S256x4096 .f32) (k : Fin k0_t3_loop.trips) (hk : k.val < 246) (a : IVec S256x64 32) (j : S256x64.Idx) :
    k0_pay4 v k a j = IntOp.addi (a j) ((Ideal.cmp .oge (bmax (hOf v) (j 0).val (32 * (j 1).val)) (thr ch k.val)).setWidth 32) := by
  pointwise [k0_pay4, k0_pay2]
  congr 2
  refine step_word first_h k.val hk _ _ ?_
  refine fold_sup _ _ fun x => ?_
  have hx : x.val < 32 := x.isLt
  rw [rd2_eq v (ix2 (j 0) ⟨(j 1).val * 32 + x.val, _⟩) (j 0).val (32 * (32 * (j 1).val / 32) + x.val) rfl (by show (j 1).val * 32 + x.val = _; omega),
    rd2_eq v (ix2 (j 0) ⟨2048 + ((j 1).val * 32 + x.val), _⟩) (j 0).val (32 * (32 * (j 1).val / 32) + x.val + 2048) rfl
      (by show 2048 + ((j 1).val * 32 + x.val) = _; omega)]
  rfl

/-- The codes, from the results' counts. -/
theorem pay6_at (v : FVec Ideal S256x4096 .f32) (a : IVec S256x64 32) (j : S256x2048.Idx)
    (ha : ∀ i : S256x64.Idx, a i = BitVec.ofNat 32 (cnt ch (bmax (hOf v) (i 0).val (32 * (i 1).val)) 246)) :
    k0_pay6 v a j = code (hOf v (j 0).val (j 1).val) (bmax (hOf v) (j 0).val (j 1).val) := by
  pointwise [k0_pay6, k0_pay2, k0_pay5]
  have hb : bmax (hOf v) (j 0).val (32 * ((j 1).val / 32)) = bmax (hOf v) (j 0).val (j 1).val := by
    unfold bmax; congr 1; funext x; congr 2; omega
  rw [rd2_eq v (ix2 (j 0) ⟨(j 1).val, _⟩) (j 0).val (j 1).val rfl rfl,
    rd2_eq v (ix2 (j 0) ⟨2048 + (j 1).val, _⟩) (j 0).val ((j 1).val + 2048) rfl (by show 2048 + (j 1).val = _; omega)]
  exact ref_code (hOf v (j 0).val (j 1).val) _ _ ((ha _).trans (by rw [← hb]; rfl))

/-- The bytes, from the results' counts. -/
theorem pay7_at (v : FVec Ideal S256x4096 .f32) (a : IVec S256x64 32) (j : S256x64.Idx)
    (ha : ∀ i : S256x64.Idx, a i = BitVec.ofNat 32 (cnt ch (bmax (hOf v) (i 0).val (32 * (i 1).val)) 246)) :
    k0_pay7 a j = BitVec.ofNat 8 (byteN (bmax (hOf v) (j 0).val (32 * (j 1).val))) := by
  have h : k0_pay7 a j = (IntOp.addi (eword (a j)) 127#32).setWidth 8 := rfl
  rw [h, ha j, (eword_exp ch_pos).2.2.2]
  rfl

end Cert.Proof.ReferenceIdeal

end
-- ==== Proof.Ref.PayDot.lean ====
/- One trip of the reference's loop over the experts, at an index. -/
module

public import proofs.«01_k».proof.Proof.Spec
public import proofs.«01_k».proof.Proof.Gen.ReferenceIdeal.Skeleton

@[expose] public section

set_option maxRecDepth 16384

noncomputable section

namespace Cert.Proof.ReferenceIdeal

open Cert.ReferenceIdeal Cert.ReferenceIdeal.Gen Cert.Proof.Num
open Idealize.ShloMosaic

/-- The word of infinity. -/
theorem top_word : Ideal.ofBits .f32 2139095040#32 = ⊤ := by
  simp [Ideal.ofBits, Ideal.ieee]

/-- A choice between zero and a product with a scale is a product with a choice. -/
theorem select_mul (c : BitVec 1) (x w s : EReal) : Scalar.select c 0 (x * (w * s)) = x * (w * Scalar.select c 0 s) := by
  unfold Scalar.select
  split <;> simp

/-- The products of one expert, kept on its rows. -/
theorem pay1_at (v37 v38 a7 a8 v78 v81 v98) (j : S256x4096.Idx) : k0_pay1 (F := Ideal) v37 v38 a7 a8 v78 v81 v98 j
    = Scalar.select (IntOp.andi (IntOp.cmpi .sge (v38 j) a8) (IntOp.cmpi .slt (v38 j) (Scalar.addi a8 v78)))
        (∑ x : Fin 7168, v37 (ix2 (j 0) x) * (v98 (ix3 0 x (j 1)) * scale (v81 (ix3 0 ⟨x.val / 32, by omega⟩ (j 1))))) (a7 j) := by
  pointwise [k0_pay1]
  congr 1
  refine Finset.sum_congr rfl fun x _ => ?_
  rw [select_mul, top_word]
  congr 2
  rw [← scale_ref, ← exp2_sitofp]
  rfl

end Cert.Proof.ReferenceIdeal

end
-- ==== Proof.Ref.Val.lean ====
/- The reference's results at an index: its counts, its loop over the experts, its codes and bytes. -/
module

public import proofs.«01_k».proof.Proof.Ref.Pay
public import proofs.«01_k».proof.Proof.Ref.PayDot
public import proofs.«01_k».proof.Proof.Gen.ReferenceIdeal.Value
public import Idealize.ShloMosaic.Lib.WholeRead
public import Idealize.ShloMosaic.Lib.VecWindow
public import Idealize.ShloMosaic.Lib.WordCmp

@[expose] public section

set_option maxRecDepth 16384

noncomputable section

namespace Cert.Proof.ReferenceIdeal

open Cert.ReferenceIdeal Cert.ReferenceIdeal.Gen Cert.Proof.Num
open Idealize.ShloMosaic Idealize.ShloMosaic.TcCoe

/-- What holds at first and is kept by each trip holds of the fold. -/
theorem fold_ind {α : Type} {n : ℕ} (g : Fin n → α → α) (a : α) (P : ℕ → α → Prop) (h0 : P 0 a)
    (hs : ∀ (k : Fin n) x, P k.val x → P (k.val + 1) (g k x)) : P n (Scf.fold g a) := by
  rw [Scf.fold_eq]
  induction n with
  | zero => simpa using h0
  | succ n ih =>
    rw [List.finRange_succ_last, List.foldl_append, List.foldl_map]
    exact hs (Fin.last n) _ (ih (fun k => g k.castSucc) fun k x h => hs k.castSucc x h)

/-- The rows' thresholds are 246. -/
theorem trips1 : k0_t1_loop.trips = 246 := by decide +kernel
/-- The experts are 13. -/
theorem trips2 : k0_t2_loop.trips = 13 := by decide +kernel
/-- The results' thresholds are 246. -/
theorem trips3 : k0_t3_loop.trips = 246 := by decide +kernel

/-- The rows' counts. -/
theorem cntX_at (v : Vec Ideal S256x7168 .bf16) (i : S256x224.Idx) :
    Scf.fold (fun k a => k0_pay10 v k a) k0_pay9 i = BitVec.ofNat 32 (cnt cx (bmax (rd2 v) (i 0).val (32 * (i 1).val)) 246) := by
  have h := fold_ind (fun k a => k0_pay10 v k a) k0_pay9
    (fun k a => ∀ i : S256x224.Idx, a i = BitVec.ofNat 32 (cnt cx (bmax (rd2 v) (i 0).val (32 * (i 1).val)) k)) (fun _ => by simp only [cnt]; rfl)
    (fun k a h i => by
      refine (pay10_at v k (k.isLt.trans_eq trips1) a i).trans ?_
      rw [h i]
      exact cnt_word)
  exact (h i).trans (congrArg (fun q => BitVec.ofNat 32 (cnt cx (bmax (rd2 v) (i 0).val (32 * (i 1).val)) q)) trips1)

/-- The results' counts. -/
theorem cntH_at (v : FVec Ideal S256x4096 .f32) (i : S256x64.Idx) :
    Scf.fold (fun k a => k0_pay4 v k a) k0_pay3 i = BitVec.ofNat 32 (cnt ch (bmax (hOf v) (i 0).val (32 * (i 1).val)) 246) := by
  have h := fold_ind (fun k a => k0_pay4 v k a) k0_pay3
    (fun k a => ∀ i : S256x64.Idx, a i = BitVec.ofNat 32 (cnt ch (bmax (hOf v) (i 0).val (32 * (i 1).val)) k)) (fun _ => by simp only [cnt]; rfl)
    (fun k a h i => by
      refine (pay4_at v k (k.isLt.trans_eq trips3) a i).trans ?_
      rw [h i]
      exact cnt_word)
  exact (h i).trans (congrArg (fun q => BitVec.ofNat 32 (cnt ch (bmax (hOf v) (i 0).val (32 * (i 1).val)) q)) trips3)

/-! ## The loop over the experts -/

/-- Where an expert's group size is read. -/
theorem off1_eq : ∀ k : Fin k0_t2_loop.trips, ∀ a, k0_off1 k a = (![k.val] : Fin 1 → ℕ) a := by decide +kernel
/-- Where an expert's scales are read. -/
theorem off2_eq : ∀ k : Fin k0_t2_loop.trips, ∀ a, k0_off2 k a = (![k.val, 0, 0] : Fin 3 → ℕ) a := by decide +kernel
/-- Where an expert's weights are read. -/
theorem off3_eq : ∀ k : Fin k0_t2_loop.trips, ∀ a, k0_off3 k a = (![k.val, 0, 0] : Fin 3 → ℕ) a := by decide +kernel

variable (c : Dev nD) (arg0 : Memref sig .tc .smem S13 .i32) (harg0 : arg0.IsWhole) (arg1 : Memref sig .tc .vmem S256x7168 .bf16) (harg1 : arg1.IsWhole)
  (arg2 : Memref sig .tc .vmem S13x7168x4096 .fp8e4m3) (harg2 : arg2.IsWhole) (arg3 : Memref sig .tc .vmem S13x224x4096 .i8) (harg3 : arg3.IsWhole)
  (arg4 : Memref sig .tc .vmem S256x2048 .fp8e4m3) (harg4 : arg4.IsWhole) (arg5 : Memref sig .tc .vmem S256x64 .i8) (harg5 : arg5.IsWhole)
  (x0 : Vec Ideal S13 .i32) (x1 : Vec Ideal S256x7168 .bf16) (x2 : Vec Ideal S13x7168x4096 .fp8e4m3) (x3 : Vec Ideal S13x224x4096 .i8)

/-- The size of a group. -/
def gw (k : ℕ) : BitVec 32 := if h : k < 13 then x0 (ix1 ⟨k, h⟩) else 0#32

/-- One trip: the group's end, and the sums, in the rows of the group. -/
theorem trip_at (v37 : FVec Ideal S256x7168 .bf16) (v38 : IVec S256x4096 32) (k : Fin k0_t2_loop.trips) (acc : FVec Ideal S256x4096 .f32 × BitVec 32)
    (𝒱 : Variants) (bd : Option 𝒱.V) (R : FVec Ideal S256x4096 .f32 × BitVec 32)
    (hR : R = tripR_k0_t2 (F := Ideal) 𝒱 c bd arg0 harg0 arg1 harg1 arg2 harg2 arg3 harg3 arg4 harg4 arg5 harg5 v37 v38 (harg0.unread x0) (harg2.unread x2) (harg3.unread x3) k acc) :
    R.2 = IntOp.addi acc.2 (gw x0 k.val)
    ∧ ∀ j : S256x4096.Idx, R.1 j = Scalar.select (IntOp.andi (IntOp.cmpi .sge (v38 j) acc.2) (IntOp.cmpi .slt (v38 j) (IntOp.addi acc.2 (gw x0 k.val))))
        (∑ x : Fin 7168, v37 (ix2 (j 0) x) * (rd3 x2 k.val x.val (j 1).val * scale (rd3 x3 k.val (x.val / 32) (j 1).val))) (acc.1 j) := by
  have hk : k.val < 13 := k.isLt.trans_eq trips2
  have hr : trip_k0_t2.sl.r arg0 (harg0.unread x0) k = gw x0 k.val := by
    unfold trip_k0_t2.sl.r gw
    rw [dif_pos hk]
    refine (harg0.readAt_unread (Val := Elt Ideal) x0 _ _).trans (congrArg x0 (funext fun a => ?_))
    match a with
    | 0 => exact Fin.ext (by show k0_off1 k 0 + 1 * 0 = k.val; rw [off1_eq]; rfl)
  have hv : R = (k0_pay1 v37 v38 acc.1 acc.2 (gw x0 k.val)
      (View.readAt (Elt Ideal) arg3.view (Rect.unit (s := S13x224x4096) (k0_off2 k) S1x224x4096.size (k0_off2_inb k)).toLoadRect (harg3.unread x3))
      (View.readAt (Elt Ideal) arg2.view (Rect.unit (s := S13x7168x4096) (k0_off3 k) S1x7168x4096.size (k0_off3_inb k)).toLoadRect (harg2.unread x2)),
      IntOp.addi acc.2 (gw x0 k.val)) := by
    rw [hR, ← hr]
    unfold tripR_k0_t2 trip_k0_t2
    rfl
  subst hv
  refine ⟨rfl, fun j => (pay1_at v37 v38 acc.1 acc.2 (gw x0 k.val) _ _ j).trans ?_⟩
  refine congrArg (fun q => Scalar.select _ q _) (Finset.sum_congr rfl fun x _ => congrArg (_ * ·) (congrArg₂ (fun a b => a * scale b) ?_ ?_))
  · refine (harg2.readAt_unread (Val := Elt Ideal) x2 _ _).trans (rd3_eq x2 _ _ _ _ ?_ ?_ ?_)
    · show k0_off3 k 0 + 1 * 0 = _; rw [off3_eq]; rfl
    · show k0_off3 k 1 + 1 * x.val = _; rw [off3_eq]; show 0 + 1 * x.val = _; omega
    · show k0_off3 k 2 + 1 * (j 1).val = _; rw [off3_eq]; show 0 + 1 * (j 1).val = _; omega
  · refine (harg3.readAt_unread (Val := Elt Ideal) x3 _ _).trans (rd3_eq x3 _ _ _ _ ?_ ?_ ?_)
    · show k0_off2 k 0 + 1 * 0 = _; rw [off2_eq]; rfl
    · show k0_off2 k 1 + 1 * (x.val / 32) = _; rw [off2_eq]; show 0 + 1 * (x.val / 32) = _; omega
    · show k0_off2 k 2 + 1 * (j 1).val = _; rw [off2_eq]; show 0 + 1 * (j 1).val = _; omega

/-- The first rows of the groups, by the groups' sizes. -/
def Starts (s : ℕ → ℕ) : Prop := s 0 = 0 ∧ (∀ k < 13, s (k + 1) = s k + (gw x0 k).toNat) ∧ s 13 = 256

/-- The groups' starts increase. -/
theorem starts_le {s : ℕ → ℕ} (h : Starts x0 s) : ∀ b ≤ 13, ∀ a ≤ b, s a ≤ s b := by
  intro b
  induction b with
  | zero => intro _ a ha; rw [Nat.le_zero.1 ha]
  | succ b ih =>
    intro hb a ha
    rcases Nat.lt_or_ge a (b + 1) with q | q
    · have := ih (by omega) a (by omega); have := h.2.1 b (by omega); omega
    · rw [show a = b + 1 by omega]

/-- Whether a row is in a group, as words say it. -/
theorem row_word (r s l : ℕ) (hr : r < 256) (hs : s ≤ 256) (hl : l ≤ 256) :
    IntOp.andi (IntOp.cmpi .sge (BitVec.ofNat 32 r) (BitVec.ofNat 32 s)) (IntOp.cmpi .slt (BitVec.ofNat 32 r) (BitVec.ofNat 32 l))
      = BitVec.ofBool (decide (s ≤ r ∧ r < l)) := by
  rw [WordCmp.cmpi_sge_ofNat (by norm_num; omega) (by norm_num; omega), WordCmp.cmpi_slt_ofNat (by norm_num; omega) (by norm_num; omega)]
  by_cases h1 : s ≤ r <;> by_cases h2 : r < l <;> simp [h1, h2, IntOp.andi]

/-- The sums before trip `k`: those of the rows of the groups before. -/
theorem st_at {s : ℕ → ℕ} (hs : Starts x0 s) (v37 : FVec Ideal S256x7168 .bf16) (v38 : IVec S256x4096 32)
    (h37 : ∀ j, v37 j = xq (rd2 x1) (j 0).val (j 1).val) (h38 : ∀ j : S256x4096.Idx, v38 j = BitVec.ofNat 32 (j 0).val) (𝒱 : Variants) (bd : Option 𝒱.V) (k : ℕ) (hk : k ≤ 13)
    (R : FVec Ideal S256x4096 .f32 × BitVec 32)
    (hR : R = st_k0_t2 (F := Ideal) 𝒱 c bd arg0 harg0 arg1 harg1 arg2 harg2 arg3 harg3 arg4 harg4 arg5 harg5 v37 v38 (harg0.unread x0) (harg2.unread x2) (harg3.unread x3) (k0_pay12, 0#32) k) :
    R.2 = BitVec.ofNat 32 (s k) ∧ ∀ (j : S256x4096.Idx) (e : ℕ), e < k → s e ≤ (j 0).val → (j 0).val < s (e + 1) →
      R.1 j = accE (rd2 x1) (rd3 x2) (rd3 x3) e (j 0).val (j 1).val := by
  induction k generalizing R with
  | zero =>
    subst hR
    rw [st_k0_t2_zero]
    exact ⟨by rw [hs.1], fun _ _ h => absurd h (Nat.not_lt_zero _)⟩
  | succ k ih =>
    have hk' : k < k0_t2_loop.trips := by rw [trips2]; omega
    rw [st_k0_t2_succ (F := Ideal) 𝒱 c bd arg0 harg0 arg1 harg1 arg2 harg2 arg3 harg3 arg4 harg4 arg5 harg5 v37 v38 (harg0.unread x0) (harg2.unread x2) (harg3.unread x3) (k0_pay12, 0#32) ⟨k, hk'⟩] at hR
    have ih := ih (by omega) _ rfl
    revert hR ih
    generalize st_k0_t2 (F := Ideal) 𝒱 c bd arg0 harg0 arg1 harg1 arg2 harg2 arg3 harg3 arg4 harg4 arg5 harg5 v37 v38 (harg0.unread x0) (harg2.unread x2) (harg3.unread x3) (k0_pay12, 0#32) k = Z
    rintro hR ⟨i1, i2⟩
    obtain ⟨t1, t2⟩ := trip_at c arg0 harg0 arg1 harg1 arg2 harg2 arg3 harg3 arg4 harg4 arg5 harg5 x0 x2 x3 v37 v38 ⟨k, hk'⟩ Z 𝒱 bd R hR
    have hsk := hs.2.1 k (by omega)
    have hle := starts_le x0 hs 13 le_rfl (k + 1) hk
    rw [hs.2.2] at hle
    have hw : IntOp.addi Z.2 (gw x0 k) = BitVec.ofNat 32 (s (k + 1)) := by
      rw [i1, hsk, BitVec.ofNat_add, BitVec.ofNat_toNat, BitVec.setWidth_eq]; rfl
    refine ⟨t1.trans hw, fun j e he h1 h2 => (t2 j).trans ?_⟩
    have hj : (j 0).val < 256 := (j 0).isLt
    have hc : IntOp.andi (IntOp.cmpi .sge (v38 j) Z.2) (IntOp.cmpi .slt (v38 j) (IntOp.addi Z.2 (gw x0 k)))
        = BitVec.ofBool (decide (s k ≤ (j 0).val ∧ (j 0).val < s (k + 1))) := by
      rw [hw, i1, h38]
      exact row_word _ _ _ hj (by omega) hle
    refine (congrArg (fun q => Scalar.select q _ _) hc).trans ?_
    rcases Nat.lt_succ_iff_lt_or_eq.1 he with q | q
    · have := starts_le x0 hs k (by omega) (e + 1) q
      rw [decide_eq_false (by omega)]
      exact i2 j e q h1 h2
    · subst q
      rw [decide_eq_true ⟨h1, h2⟩]
      refine Eq.trans (show _ = ∑ x : Fin 7168, v37 (ix2 (j 0) x) * (rd3 x2 e x.val (j 1).val * scale (rd3 x3 e (x.val / 32) (j 1).val)) from rfl) ?_
      unfold accE
      rw [Finset.sum_range]
      exact Finset.sum_congr rfl fun x _ => congrArg (· * _) (h37 _)

/-! ## The results -/

/-- A block's maximum is that of equal entries. -/
theorem bmax_row {f g : ℕ → ℕ → EReal} {r : ℕ} (h : ∀ c < 2048, f r c = g r c) (c : ℕ) (hc : c < 2048) : bmax f r c = bmax g r c := by
  unfold bmax
  refine Finset.sup_congr rfl fun j hj => ?_
  have := Finset.mem_range.1 hj
  rw [h _ (by omega)]

/-- The result before quantising, in the rows of a group. -/
theorem hOf_at (v : FVec Ideal S256x4096 .f32) (e : ℕ) (r : ℕ) (hr : r < 256)
    (h : ∀ j : S256x4096.Idx, (j 0).val = r → v j = accE (rd2 x1) (rd3 x2) (rd3 x3) e r (j 1).val) (c : ℕ) (hc : c < 2048) :
    hOf v r c = hE (rd2 x1) (rd3 x2) (rd3 x3) e r c := by
  have g (n : ℕ) (hn : n < 4096) : rd2 v r n = accE (rd2 x1) (rd3 x2) (rd3 x3) e r n :=
    (rd2_eq v (ix2 ⟨r, hr⟩ ⟨n, hn⟩) r n rfl rfl).symm.trans (h _ rfl)
  unfold hOf hE
  rw [g c (by omega), g (c + 2048) (by omega)]

/-- The rows the first window holds. -/
theorem rows_in : View.readAt (Elt Ideal) arg1.view (Rect.unit (s := S256x7168) ![0, 0] S256x7168.size inb_S256x7168_S256x7168_0_0).toLoadRect (harg1.unread x1) = x1 := by
  funext x
  refine (harg1.readAt_unread (Val := Elt Ideal) x1 _ _).trans (congrArg x1 (funext fun a => ?_))
  match a with
  | 0 => exact Fin.ext (by show 0 + 1 * (x 0).val = _; omega)
  | 1 => exact Fin.ext (by show 0 + 1 * (x 1).val = _; omega)

/-- The row number of an index. -/
theorem iota_row (j : S256x4096.Idx) : iota .tc S256x4096 32 [0] iota_S256x4096_d0_w32 j = BitVec.ofNat 32 (j 0).val := by
  pointwise []

/-- The sums after the loop over the experts. -/
def accR : FVec Ideal S256x4096 .f32 :=
  (st_k0_t2 (F := Ideal) Variants.none c none arg0 harg0 arg1 harg1 arg2 harg2 arg3 harg3 arg4 harg4 arg5 harg5 (kernelRun0_A.sl.r_1 c arg1 harg1 x1) kernelRun0_A.sl.v38 (harg0.unread x0) (harg2.unread x2)
    (harg3.unread x3) (k0_pay12, 0#32) 13).1

/-- The reference's products of a row are those with the weights of the row's expert. -/
theorem accR_at {s : ℕ → ℕ} (hs : Starts x0 s) (e r : ℕ) (he : e < 13) (h1 : s e ≤ r) (h2 : r < s (e + 1)) (j : S256x4096.Idx) (hj : (j 0).val = r) :
    accR c arg0 harg0 arg1 harg1 arg2 harg2 arg3 harg3 arg4 harg4 arg5 harg5 x0 x1 x2 x3 j = accE (rd2 x1) (rd3 x2) (rd3 x3) e r (j 1).val := by
  subst hj
  refine (st_at c arg0 harg0 arg1 harg1 arg2 harg2 arg3 harg3 arg4 harg4 arg5 harg5 x0 x1 x2 x3 hs (kernelRun0_A.sl.r_1 c arg1 harg1 x1) kernelRun0_A.sl.v38 ?_ ?_ Variants.none none 13 le_rfl _ rfl).2 j e he h1 h2
  · intro j
    unfold kernelRun0_A.sl.r_1 kernelRun0_A.sl.r
    rw [rows_in]
    exact pay11_at x1 _ j fun i => cntX_at x1 i
  · intro j
    unfold kernelRun0_A.sl.v38
    exact iota_row j

/-- The first result's block. -/
theorem out4_at {s : ℕ → ℕ} (hs : Starts x0 s) (e : ℕ) (r : Fin 256) (n : Fin 2048) (he : e < 13) (h1 : s e ≤ r.val) (h2 : r.val < s (e + 1)) :
    out0_A_4 c arg0 harg0 arg1 harg1 arg2 harg2 arg3 harg3 arg4 harg4 arg5 harg5 x0 x1 x2 x3 (ix2 r n) = yE (rd2 x1) (rd3 x2) (rd3 x3) e r.val n.val := by
  have hk : (kernelRun0_A c arg0 harg0 arg1 harg1 arg2 harg2 arg3 harg3 arg4 harg4 arg5 harg5 x0 x1 x2 x3).1 = [⟨Rect.unit (s := S256x2048) ![0, 0] S256x2048.size inb_S256x2048_S256x2048_0_0,
      k0_pay6 (accR c arg0 harg0 arg1 harg1 arg2 harg2 arg3 harg3 arg4 harg4 arg5 harg5 x0 x1 x2 x3) (Scf.fold (fun k a => k0_pay4 (accR c arg0 harg0 arg1 harg1 arg2 harg2 arg3 harg3 arg4 harg4 arg5 harg5 x0 x1 x2 x3) k a) k0_pay3)⟩] := by
    unfold kernelRun0_A accR
    dsimp only
    unfold kernelRun0_A.sl.r_2
    rfl
  unfold out0_A_4
  rw [hk]
  refine (congrFun (View.read_writes_full (s := S256x2048) VO0_4 _ inb_S256x2048_S256x2048_0_0 _ []) (ix2 r n)).trans ?_
  refine (pay6_at _ _ (ix2 r n) fun i => cntH_at _ i).trans ?_
  have hh := hOf_at x1 x2 x3 _ e r.val r.isLt (accR_at c arg0 harg0 arg1 harg1 arg2 harg2 arg3 harg3 arg4 harg4 arg5 harg5 x0 x1 x2 x3 hs e r.val he h1 h2)
  show code (hOf _ r.val n.val) (bmax (hOf _) r.val n.val) = _
  rw [hh n.val n.isLt, bmax_row hh n.val n.isLt]
  rfl

/-- The second result's block. -/
theorem out5_at {s : ℕ → ℕ} (hs : Starts x0 s) (e : ℕ) (r : Fin 256) (b : Fin 64) (he : e < 13) (h1 : s e ≤ r.val) (h2 : r.val < s (e + 1)) :
    out0_A_5 c arg0 harg0 arg1 harg1 arg2 harg2 arg3 harg3 arg4 harg4 arg5 harg5 x0 x1 x2 x3 (ix2 r b) = BitVec.ofNat 8 (sE (rd2 x1) (rd3 x2) (rd3 x3) e r.val b.val) := by
  have hk : (kernelRun0_A c arg0 harg0 arg1 harg1 arg2 harg2 arg3 harg3 arg4 harg4 arg5 harg5 x0 x1 x2 x3).2.1 = [⟨Rect.unit (s := S256x64) ![0, 0] S256x64.size inb_S256x64_S256x64_0_0,
      k0_pay7 (Scf.fold (fun k a => k0_pay4 (accR c arg0 harg0 arg1 harg1 arg2 harg2 arg3 harg3 arg4 harg4 arg5 harg5 x0 x1 x2 x3) k a) k0_pay3)⟩] := by
    unfold kernelRun0_A accR
    dsimp only
    unfold kernelRun0_A.sl.r_2
    rfl
  unfold out0_A_5
  rw [hk]
  refine (congrFun (View.read_writes_full (s := S256x64) VO0_5 _ inb_S256x64_S256x64_0_0 _ []) (ix2 r b)).trans ?_
  refine (pay7_at (accR c arg0 harg0 arg1 harg1 arg2 harg2 arg3 harg3 arg4 harg4 arg5 harg5 x0 x1 x2 x3) _ (ix2 r b) fun i => cntH_at _ i).trans ?_
  have hh := hOf_at x1 x2 x3 _ e r.val r.isLt (accR_at c arg0 harg0 arg1 harg1 arg2 harg2 arg3 harg3 arg4 harg4 arg5 harg5 x0 x1 x2 x3 hs e r.val he h1 h2)
  have hb := b.isLt
  show BitVec.ofNat 8 (byteN (bmax (hOf _) r.val (32 * b.val))) = _
  rw [bmax_row hh (32 * b.val) (by omega)]
  rfl

end Cert.Proof.ReferenceIdeal

end
-- ==== Proof.Ref.Run.lean ====
/- The reference's run, with its results at an index. -/
module

public import proofs.«01_k».proof.Proof.Ref.Val

@[expose] public section

set_option maxRecDepth 16384

noncomputable section

namespace Cert.Proof.ReferenceIdeal

open Cert.ReferenceIdeal Cert.ReferenceIdeal.Gen Cert.Proof.Num
open Idealize.ShloMosaic Idealize.ShloMosaic.TcCoe Idealize.SL.Sem

/-! ## The windows hold the whole arrays -/

/-- The window of the group sizes is the whole array. -/
theorem read0 (f : main_arg1.ty.Contents (Elt Ideal)) : (win0_0.blk t0_0).view.read (Elt Ideal) f = f :=
  Memref.read_access_unit_zero (Elt Ideal) main_arg1
    (show (fun a => (win0_0.index t0_0) a * main_arg1.ty.shape.size a) = fun _ => 0 from
      funext fun a => by fin_cases a <;> decide) (fun a => by fin_cases a <;> decide) f
/-- The window of the rows is the whole array. -/
theorem read1 (f : main_arg0.ty.Contents (Elt Ideal)) : (win0_1.blk t0_0).view.read (Elt Ideal) f = f :=
  Memref.read_access_unit_zero (Elt Ideal) main_arg0
    (show (fun a => (win0_1.index t0_0) a * main_arg0.ty.shape.size a) = fun _ => 0 from
      funext fun a => by fin_cases a <;> decide) (fun a => by fin_cases a <;> decide) f
/-- The window of the weights is the whole array. -/
theorem read2 (f : main_arg2.ty.Contents (Elt Ideal)) : (win0_2.blk t0_0).view.read (Elt Ideal) f = f :=
  Memref.read_access_unit_zero (Elt Ideal) main_arg2
    (show (fun a => (win0_2.index t0_0) a * main_arg2.ty.shape.size a) = fun _ => 0 from
      funext fun a => by fin_cases a <;> decide) (fun a => by fin_cases a <;> decide) f
/-- The window of the scales is the whole array. -/
theorem read3 (f : main_arg3.ty.Contents (Elt Ideal)) : (win0_3.blk t0_0).view.read (Elt Ideal) f = f :=
  Memref.read_access_unit_zero (Elt Ideal) main_arg3
    (show (fun a => (win0_3.index t0_0) a * main_arg3.ty.shape.size a) = fun _ => 0 from
      funext fun a => by fin_cases a <;> decide) (fun a => by fin_cases a <;> decide) f
/-- The window of the codes is the whole array. -/
theorem read4 (f : main_v0_0.ty.Contents (Elt Ideal)) : (win0_4.blk t0_0).view.read (Elt Ideal) f = f :=
  Memref.read_access_unit_zero (Elt Ideal) main_v0_0
    (show (fun a => (win0_4.index t0_0) a * main_v0_0.ty.shape.size a) = fun _ => 0 from
      funext fun a => by fin_cases a <;> decide) (fun a => by fin_cases a <;> decide) f
/-- The window of the bytes is the whole array. -/
theorem read5 (f : main_v0_1.ty.Contents (Elt Ideal)) : (win0_5.blk t0_0).view.read (Elt Ideal) f = f :=
  Memref.read_access_unit_zero (Elt Ideal) main_v0_1
    (show (fun a => (win0_5.index t0_0) a * main_v0_1.ty.shape.size a) = fun _ => 0 from
      funext fun a => by fin_cases a <;> decide) (fun a => by fin_cases a <;> decide) f

variable (m : (ℓ : Loc nD τ sig) → Buf (Elt Ideal) ℓ) (ρ : Dev nD → PrngReg) (c : Dev nD)

/-- The groups' sizes, the rows, the weights and their scales. -/
abbrev inG : Vec Ideal S13 .i32 := m ((c : Thread nD τ).loc main_arg1)
@[inherit_doc inG] abbrev inX : Vec Ideal S256x7168 .bf16 := m ((c : Thread nD τ).loc main_arg0)
@[inherit_doc inG] abbrev inW : Vec Ideal S13x7168x4096 .fp8e4m3 := m ((c : Thread nD τ).loc main_arg2)
@[inherit_doc inG] abbrev inS : Vec Ideal S13x224x4096 .i8 := m ((c : Thread nD τ).loc main_arg3)

/-- The first result after the run. -/
theorem arr4_at {s : ℕ → ℕ} (hs : Starts (inG m c) s) (e : ℕ) (r : Fin 256) (n : Fin 2048) (he : e < 13) (h1 : s e ≤ r.val) (h2 : r.val < s (e + 1)) :
    (dats m 0 c).arrAt 4 cfg0.N (ix2 r n) = yE (rd2 (inX m c)) (rd3 (inW m c)) (rd3 (inS m c)) e r.val n.val := by
  have h := (read4 ((dats m 0 c).arrAt 4 cfg0.N)).symm.trans ((Value.blocks4 m c t0_0 (flush0_4 _)).trans (Value.flushed4_A m c t0_0))
  refine (congrFun h (ix2 r n)).trans ?_
  refine Eq.trans ?_ (out4_at c (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0)
    (inG m c) (inX m c) (inW m c) (inS m c) hs e r n he h1 h2)
  rw [show iblk m c 0 t0_0 = inG m c from read0 _, show iblk m c 1 t0_0 = inX m c from read1 _, show iblk m c 2 t0_0 = inW m c from read2 _,
    show iblk m c 3 t0_0 = inS m c from read3 _]
  rfl

/-- The second result after the run. -/
theorem arr5_at {s : ℕ → ℕ} (hs : Starts (inG m c) s) (e : ℕ) (r : Fin 256) (b : Fin 64) (he : e < 13) (h1 : s e ≤ r.val) (h2 : r.val < s (e + 1)) :
    (dats m 0 c).arrAt 5 cfg0.N (ix2 r b) = BitVec.ofNat 8 (sE (rd2 (inX m c)) (rd3 (inW m c)) (rd3 (inS m c)) e r.val b.val) := by
  have h := (read5 ((dats m 0 c).arrAt 5 cfg0.N)).symm.trans ((Value.blocks5 m c t0_0 (flush0_5 _)).trans (Value.flushed5_A m c t0_0))
  refine (congrFun h (ix2 r b)).trans ?_
  refine Eq.trans ?_ (out5_at c (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0)
    (inG m c) (inX m c) (inW m c) (inS m c) hs e r b he h1 h2)
  rw [show iblk m c 0 t0_0 = inG m c from read0 _, show iblk m c 1 t0_0 = inX m c from read1 _, show iblk m c 2 t0_0 = inW m c from read2 _,
    show iblk m c 3 t0_0 = inS m c from read3 _]
  rfl

end Cert.Proof.ReferenceIdeal

end
-- ==== Proof.Alg.lean ====
/- The kernel's results are the reference's. -/
module

public import proofs.«01_k».proof.Defs
public import proofs.«01_k».proof.Proof.PI.Launch
public import proofs.«01_k».proof.Proof.PI.ValI
public import proofs.«01_k».proof.Proof.PI.PreFilled
public import proofs.«01_k».proof.Proof.Ref.Run

@[expose] public section

set_option maxRecDepth 16384

noncomputable section

namespace Cert.Proof

open Cert.Proof.Num Cert.Proof.KernelIdeal
open Idealize.ShloMosaic Idealize.ShloMosaic.TcCoe Idealize.SL.Sem

/-- Every row is in a group when the groups fill the rows. -/
theorem row_group {g : CT Ideal Cert.KernelIdeal.cc0_stg0_0} (hF : rowS g 13 = 256) (r : ℕ) (hr : r < 256) : ∃ e < 13, RowOf g e r := by
  by_contra hn
  have h : ∀ k ≤ 13, rowS g k ≤ r := by
    intro k
    induction k with
    | zero => intro _; exact Nat.zero_le _
    | succ k ih =>
      intro hk
      by_contra hq
      exact hn ⟨k, by omega, ih (by omega), by omega⟩
  have := h 13 le_rfl
  omega

/-- The first rows of the groups, as the reference counts them. -/
theorem starts_rowS {g : CT Ideal Cert.KernelIdeal.cc0_stg0_0} (hF : rowS g 13 = 256) : ReferenceIdeal.Starts g (rowS g) := by
  refine ⟨rfl, fun k hk => ?_, hF⟩
  rw [rowS_succ]
  unfold gsN ReferenceIdeal.gw
  rw [dif_pos hk, dif_pos hk]
  have e : ixG ⟨k, hk⟩ = ix1 (⟨k, hk⟩ : Fin 13) := funext fun a => by match a with | 0 => rfl
  exact congrArg (fun i => rowS g k + (show BitVec 32 from g i).toNat) e

/-- The kernel's codes and bytes are the reference's, when the groups fill the rows. -/
theorem algebraic : Cert.algebraic_KernelIdeal_ReferenceIdeal_pre_rows_filled := by
  intro m g m' g' hpre hagree
  have hF : ∀ c, rowS (argG m c) 13 = 256 := fun c => fill_rows _ _ _ _ (hpre c)
  refine ⟨fun c => (Cert.ReferenceIdeal.Gen.dats m' 0 c).arrAt 4 Cert.ReferenceIdeal.cfg0.N, fun c => (Cert.ReferenceIdeal.Gen.dats m' 0 c).arrAt 5 Cert.ReferenceIdeal.cfg0.N, ?_,
    Cert.ReferenceIdeal.Value.run_blocks (F := Ideal) m' g'⟩
  refine (θ_run Cert.KernelIdeal.defs _ _).mono (fun r h c => ?_) (KernelIdeal.main_run (F := Ideal) m g fun c => (hF c).le)
  obtain ⟨⟨hY, hS⟩, hk⟩ := h.1 c
  obtain ⟨a0, a1, a2, a3⟩ := hagree c
  have e0 : ReferenceIdeal.inX m' c = argX m c := a0
  have e1 : ReferenceIdeal.inG m' c = argG m c := a1
  have e2 : ReferenceIdeal.inW m' c = argW m c := a2
  have e3 : ReferenceIdeal.inS m' c = argS m c := a3
  have hs : ReferenceIdeal.Starts (ReferenceIdeal.inG m' c) (rowS (argG m c)) := by
    rw [e1]; exact starts_rowS (hF c)
  refine ⟨?_, ?_, hk⟩
  · funext j
    obtain ⟨r, n, rfl⟩ : ∃ (r : Fin 256) (n : Fin 2048), j = ix2 r n := ⟨j 0, j 1, funext fun a => by match a with | 0 => rfl | 1 => rfl⟩
    obtain ⟨e, he, h1, h2⟩ := row_group (hF c) r.val r.isLt
    refine (outY_at _ _ _ hY (hF c) r n e ⟨h1, h2⟩).trans ?_
    refine Eq.trans ?_ (ReferenceIdeal.arr4_at m' c hs e r n he h1 h2).symm
    rw [e0, e2, e3]
  · funext j
    obtain ⟨r, n, rfl⟩ : ∃ (r : Fin 256) (n : Fin 64), j = ix2 r n := ⟨j 0, j 1, funext fun a => by match a with | 0 => rfl | 1 => rfl⟩
    obtain ⟨e, he, h1, h2⟩ := row_group (hF c) r.val r.isLt
    refine (outS_at _ _ _ hS (hF c) r n e ⟨h1, h2⟩).trans ?_
    refine Eq.trans ?_ (ReferenceIdeal.arr5_at m' c hs e r n he h1 h2).symm
    rw [e0, e2, e3]

end Cert.Proof

end
-- ==== Proof.P.Checks.lean ====
/- The side conditions the kernel assumes, proved for every number of work items up to 14, and the closed forms of
   the offsets at the ring's accesses. -/
module

public import proofs.«01_k».proof.Proof.Gen.Kernel

@[expose] public section

set_option maxRecDepth 16384

noncomputable section

namespace Cert.Proof.Kernel

open Cert.Kernel
open Idealize.ShloMosaic

abbrev w32 (n : ℕ) : BitVec 32 := BitVec.ofNat 32 n

/-- The table of items holds an item of every number below 32. -/
theorem chk1_n : ∀ n : Fin 32, k0_chk1 (w32 n.val) := by decide +kernel

/-- The first copies are inside their arrays. -/
theorem chk2_n : ∀ (n : Fin 15) (t : Fin k0_t2_loop.trips) (e : Fin 13), k0_chk2 (w32 n.val) t (w32 e.val) := by
  decide +kernel

/-- An item's rows are inside the arrays. -/
theorem chk4_n : ∀ r : Fin 9, k0_chk4 (w32 (16 * r.val)) := by decide +kernel

/-- The loop over the items makes as many trips as there are items. -/
theorem trips5 : ∀ n : Fin 15, (k0_t5_loop (w32 n.val)).trips = n.val := by decide +kernel

/-- The remainder loop makes no trip. -/
theorem trips11 : ∀ n : Fin 15, (k0_t11_loop (w32 n.val)).trips = 0 := by decide +kernel

/-- Where the first row of an item is read. -/
theorem off14_n : ∀ (n : Fin 15) (t : Fin (k0_t5_loop (w32 n.val)).trips), k0_off14 (w32 n.val) t = ![1, t.val] := by
  decide +kernel

/-- Where the expert of the tile seven steps ahead is read. -/
theorem off15_n : ∀ (n : Fin 15) (t : Fin (k0_t5_loop (w32 n.val)).trips) (k : Fin k0_t6_loop.trips),
    k0_off15 (w32 n.val) t k = ![0, (7 * t.val + k.val + 7) / 7] := by decide +kernel

/-- The ring's slot of weights for the tile seven steps ahead. -/
theorem off17_n : ∀ (n : Fin 15) (t : Fin (k0_t5_loop (w32 n.val)).trips) (k : Fin k0_t6_loop.trips),
    k0_off17 (w32 n.val) t k = ![(7 * t.val + k.val + 7) % 8, 0, 0] := by decide +kernel

/-- The weights of the tile seven steps ahead. -/
theorem off18_n : ∀ (n : Fin 15) (t : Fin (k0_t5_loop (w32 n.val)).trips) (k : Fin k0_t6_loop.trips) (e : Fin 13),
    k0_off18 (w32 n.val) t k (w32 e.val) = ![e.val, 1024 * ((7 * t.val + k.val + 7) % 7), 0] := by decide +kernel

/-- A tile seven steps ahead is started when there is one. -/
theorem cond2_n : ∀ (n : Fin 15) (t : Fin (k0_t5_loop (w32 n.val)).trips) (k : Fin k0_t6_loop.trips),
    (k0_cond2 (w32 n.val) t k = 1#1 ↔ 7 * t.val + k.val + 7 < 7 * n.val) := by decide +kernel

/-- The weights and scales of the tile seven steps ahead are inside their arrays. -/
theorem chk5_n : ∀ (n : Fin 15) (t : Fin (k0_t5_loop (w32 n.val)).trips) (k : Fin k0_t6_loop.trips) (e : Fin 13),
    k0_chk5 (w32 n.val) t k (w32 e.val) := by decide +kernel

/-- The weights and scales of a step's tile are inside their arrays. -/
theorem chk6_n : ∀ (n : Fin 15) (t : Fin (k0_t5_loop (w32 n.val)).trips) (k : Fin k0_t6_loop.trips) (e : Fin 13),
    k0_chk6 (w32 n.val) t k (w32 e.val) := by decide +kernel

end Cert.Proof.Kernel

end
-- ==== Proof.P.Base.lean ====
/- The setting of the kernel's run: the proof's algebra, the buffers' reads and writes through unit rectangles, and the
   table of work items read word by word. -/
module

public import proofs.«01_k».proof.Proof.P.Checks
public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The variants that bound the calls of the one while loop. -/
abbrev 𝒱₀ : Variants := Variants.nat

/-- What buffer `b` holds. -/
abbrev CT (F : FTy → Type) (b : Ref sig .tc) : Type := b.ty.Contents (Elt F)

/-- Buffer `b` whole, at contents `f`. -/
abbrev pts (c : Dev nD) (b : Ref sig .tc) (f : CT F b) : sProp 𝕄 :=
  ((c : Thread nD τ).loc b) ↦{fullShare} (f : Buf (Elt F) ((c : Thread nD τ).loc b))

/-- The run of a program on the core of device `c`. -/
abbrev run {α : Type} (c : Dev nD) (p : Prog (TpuEff nD τ sig (Elt F) (Λ₀ F) .tc) α) (Q : α → sProp 𝕄) : sProp 𝕄 :=
  wp frame (wpE (defs₀ (F := F)) 𝒱₀ (c : Thread nD τ) none) Set.univ p Q

/-- The place of word `(r, i)` of the table of work items. -/
def ixW (r : Fin 4) (i : Fin 32) : S4x32.Idx := fun a => match a with | 0 => r | 1 => i

/-- Word `(r, i)` of the table of work items. -/
def tw (f : CT F cc0_scratch7) (r : Fin 4) (i : Fin 32) : BitVec 32 := f (ixW r i)

/-- The place of word `e` of the group sizes. -/
def ixG (e : Fin 13) : S13.Idx := fun a => match a with | 0 => e

omit [FloatOps F] in
/-- A word of the table of items, as the kernel reads it. -/
theorem rd_items (f : CT F cc0_scratch7) (r : Fin 4) (i : Fin 32) {off : Fin 2 → ℕ} (h : off = ![r.val, i.val])
    (inb : ∀ a, off a + S1x1.size a ≤ S4x32.size a) (x : S1x1.Idx) :
    ((Memref.whole cc0_scratch7).access (Rect.unit (s := S4x32) off S1x1.size inb) : View sig .tc _ _ _).read (Elt F) f x
      = tw f r i := by
  subst h
  rw [View.read_apply]
  show f _ = f _
  congr 1
  funext a
  have hx : ∀ a, (x a).val = 0 := fun a => by
    have := (x a).isLt
    match a with
    | 0 => exact Nat.lt_one_iff.mp this
    | 1 => exact Nat.lt_one_iff.mp this
  match a with
  | 0 => exact Fin.ext (by show r.val + 1 * (x 0).val = r.val; rw [hx]; omega)
  | 1 => exact Fin.ext (by show i.val + 1 * (x 1).val = i.val; rw [hx]; omega)

omit [FloatOps F] in
/-- The table of items after one word is written. -/
theorem tw_write (f : CT F cc0_scratch7) (r : Fin 4) (i : Fin 32) {off : Fin 2 → ℕ} (h : off = ![r.val, i.val])
    (inb : ∀ a, off a + S1x1.size a ≤ S4x32.size a) (w : BitVec 32) (r' : Fin 4) (i' : Fin 32) :
    tw (((Memref.whole cc0_scratch7).access (Rect.unit (s := S4x32) off S1x1.size inb) : View sig .tc _ _ _).write (Elt F) f
        (fun _ => w) Finset.univ) r' i' = if r' = r ∧ i' = i then w else tw f r' i' := by
  subst h
  split
  · rename_i hh
    obtain ⟨rfl, rfl⟩ := hh
    let V : View sig .tc _ _ _ := (Memref.whole cc0_scratch7).access (Rect.unit (s := S4x32) ![r'.val, i'.val] S1x1.size inb)
    have key := rd_items (F := F) (V.write (Elt F) f (fun _ => w) Finset.univ) r' i' rfl inb (fun a => match a with | 0 => (⟨0, Nat.one_pos⟩ : Fin 1) | 1 => (⟨0, Nat.one_pos⟩ : Fin 1))
    rw [← key]
    exact congrFun (View.read_write_univ _ _) _
  · rename_i hh
    refine View.write_of_not_mem _ _ _ ?_
    intro hm
    apply hh
    rw [View.setOn_univ] at hm
    obtain ⟨x, -, hx⟩ := Finset.mem_map.mp hm
    have hx' : ∀ a, (x a).val = 0 := fun a => by
      have := (x a).isLt
      match a with
      | 0 => exact Nat.lt_one_iff.mp this
      | 1 => exact Nat.lt_one_iff.mp this
    have h0 : r.val + 1 * (x 0).val = r'.val := congrArg Fin.val (congrFun hx (0 : Fin 2))
    have h1 : i.val + 1 * (x 1).val = i'.val := congrArg Fin.val (congrFun hx (1 : Fin 2))
    rw [hx'] at h0 h1
    exact ⟨Fin.ext (by omega), Fin.ext (by omega)⟩

omit [FloatOps F] in
/-- A group's size, as the kernel reads it. -/
theorem rd_gs (f : CT F cc0_stg0_0) (e : Fin 13) {off : Fin 1 → ℕ} (h : off = ![e.val])
    (inb : ∀ a, off a + S1.size a ≤ S13.size a) (x : S1.Idx) :
    ((Memref.whole cc0_stg0_0).access (Rect.unit (s := S13) off S1.size inb) : View sig .tc _ _ _).read (Elt F) f x
      = f (ixG e) := by
  subst h
  rw [View.read_apply]
  show f _ = f _
  congr 1
  funext a
  have hx : (x 0).val = 0 := Nat.lt_one_iff.mp (x 0).isLt
  match a with
  | 0 => exact Fin.ext (by show e.val + 1 * (x 0).val = e.val; rw [hx]; omega)

/-! ## The loops' bodies on the kernel's buffers -/

/-- The body of loop 1. -/
def body1 := k0_t1_body (F := F) (Memref.whole cc0_stg0_0) (Memref.isWhole_whole _) (Memref.whole main_arg0) (Memref.isWhole_whole _)
    (Memref.whole main_arg2) (Memref.isWhole_whole _) (Memref.whole main_arg3) (Memref.isWhole_whole _) (Memref.whole cc0_stg1_0) (Memref.isWhole_whole _)
    (Memref.whole cc0_stg2_0) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _)
    (Memref.whole cc0_scratch5) (Memref.isWhole_whole _) (Memref.whole cc0_scratch6) (Memref.isWhole_whole _) (Memref.whole cc0_scratch7) (Memref.isWhole_whole _)
    cc0_scratch8 cc0_scratch9 cc0_scratch10

/-- The body of loop 2. -/
def body2 := k0_t2_body (F := F) (Memref.whole cc0_stg0_0) (Memref.isWhole_whole _) (Memref.whole main_arg0) (Memref.isWhole_whole _)
    (Memref.whole main_arg2) (Memref.isWhole_whole _) (Memref.whole main_arg3) (Memref.isWhole_whole _) (Memref.whole cc0_stg1_0) (Memref.isWhole_whole _)
    (Memref.whole cc0_stg2_0) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _)
    (Memref.whole cc0_scratch5) (Memref.isWhole_whole _) (Memref.whole cc0_scratch6) (Memref.isWhole_whole _) (Memref.whole cc0_scratch7) (Memref.isWhole_whole _)
    cc0_scratch8 cc0_scratch9 cc0_scratch10

/-- The body of loop 3. -/
def body3 := k0_t3_body (F := F) (Memref.whole cc0_stg0_0) (Memref.isWhole_whole _) (Memref.whole main_arg0) (Memref.isWhole_whole _)
    (Memref.whole main_arg2) (Memref.isWhole_whole _) (Memref.whole main_arg3) (Memref.isWhole_whole _) (Memref.whole cc0_stg1_0) (Memref.isWhole_whole _)
    (Memref.whole cc0_stg2_0) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _)
    (Memref.whole cc0_scratch5) (Memref.isWhole_whole _) (Memref.whole cc0_scratch6) (Memref.isWhole_whole _) (Memref.whole cc0_scratch7) (Memref.isWhole_whole _)
    cc0_scratch8 cc0_scratch9 cc0_scratch10

/-- The body of loop 4. -/
def body4 := k0_t4_body (F := F) (Memref.whole cc0_stg0_0) (Memref.isWhole_whole _) (Memref.whole main_arg0) (Memref.isWhole_whole _)
    (Memref.whole main_arg2) (Memref.isWhole_whole _) (Memref.whole main_arg3) (Memref.isWhole_whole _) (Memref.whole cc0_stg1_0) (Memref.isWhole_whole _)
    (Memref.whole cc0_stg2_0) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _)
    (Memref.whole cc0_scratch5) (Memref.isWhole_whole _) (Memref.whole cc0_scratch6) (Memref.isWhole_whole _) (Memref.whole cc0_scratch7) (Memref.isWhole_whole _)
    cc0_scratch8 cc0_scratch9 cc0_scratch10

/-- The body of loop 5. -/
def body5 := k0_t5_body (F := F) (Memref.whole cc0_stg0_0) (Memref.isWhole_whole _) (Memref.whole main_arg0) (Memref.isWhole_whole _)
    (Memref.whole main_arg2) (Memref.isWhole_whole _) (Memref.whole main_arg3) (Memref.isWhole_whole _) (Memref.whole cc0_stg1_0) (Memref.isWhole_whole _)
    (Memref.whole cc0_stg2_0) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _)
    (Memref.whole cc0_scratch5) (Memref.isWhole_whole _) (Memref.whole cc0_scratch6) (Memref.isWhole_whole _) (Memref.whole cc0_scratch7) (Memref.isWhole_whole _)
    cc0_scratch8 cc0_scratch9 cc0_scratch10

/-- The body of loop 6. -/
def body6 := k0_t6_body (F := F) (Memref.whole cc0_stg0_0) (Memref.isWhole_whole _) (Memref.whole main_arg0) (Memref.isWhole_whole _)
    (Memref.whole main_arg2) (Memref.isWhole_whole _) (Memref.whole main_arg3) (Memref.isWhole_whole _) (Memref.whole cc0_stg1_0) (Memref.isWhole_whole _)
    (Memref.whole cc0_stg2_0) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _)
    (Memref.whole cc0_scratch5) (Memref.isWhole_whole _) (Memref.whole cc0_scratch6) (Memref.isWhole_whole _) (Memref.whole cc0_scratch7) (Memref.isWhole_whole _)
    cc0_scratch8 cc0_scratch9 cc0_scratch10

/-- The body of loop 7. -/
def body7 := k0_t7_body (F := F) (Memref.whole cc0_stg0_0) (Memref.isWhole_whole _) (Memref.whole main_arg0) (Memref.isWhole_whole _)
    (Memref.whole main_arg2) (Memref.isWhole_whole _) (Memref.whole main_arg3) (Memref.isWhole_whole _) (Memref.whole cc0_stg1_0) (Memref.isWhole_whole _)
    (Memref.whole cc0_stg2_0) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _)
    (Memref.whole cc0_scratch5) (Memref.isWhole_whole _) (Memref.whole cc0_scratch6) (Memref.isWhole_whole _) (Memref.whole cc0_scratch7) (Memref.isWhole_whole _)
    cc0_scratch8 cc0_scratch9 cc0_scratch10

/-- The body of loop 8. -/
def body8 := k0_t8_body (F := F) (Memref.whole cc0_stg0_0) (Memref.isWhole_whole _) (Memref.whole main_arg0) (Memref.isWhole_whole _)
    (Memref.whole main_arg2) (Memref.isWhole_whole _) (Memref.whole main_arg3) (Memref.isWhole_whole _) (Memref.whole cc0_stg1_0) (Memref.isWhole_whole _)
    (Memref.whole cc0_stg2_0) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _)
    (Memref.whole cc0_scratch5) (Memref.isWhole_whole _) (Memref.whole cc0_scratch6) (Memref.isWhole_whole _) (Memref.whole cc0_scratch7) (Memref.isWhole_whole _)
    cc0_scratch8 cc0_scratch9 cc0_scratch10

/-- The body of loop 9. -/
def body9 := k0_t9_body (F := F) (Memref.whole cc0_stg0_0) (Memref.isWhole_whole _) (Memref.whole main_arg0) (Memref.isWhole_whole _)
    (Memref.whole main_arg2) (Memref.isWhole_whole _) (Memref.whole main_arg3) (Memref.isWhole_whole _) (Memref.whole cc0_stg1_0) (Memref.isWhole_whole _)
    (Memref.whole cc0_stg2_0) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _)
    (Memref.whole cc0_scratch5) (Memref.isWhole_whole _) (Memref.whole cc0_scratch6) (Memref.isWhole_whole _) (Memref.whole cc0_scratch7) (Memref.isWhole_whole _)
    cc0_scratch8 cc0_scratch9 cc0_scratch10

/-- The body of loop 10. -/
def body10 := k0_t10_body (F := F) (Memref.whole cc0_stg0_0) (Memref.isWhole_whole _) (Memref.whole main_arg0) (Memref.isWhole_whole _)
    (Memref.whole main_arg2) (Memref.isWhole_whole _) (Memref.whole main_arg3) (Memref.isWhole_whole _) (Memref.whole cc0_stg1_0) (Memref.isWhole_whole _)
    (Memref.whole cc0_stg2_0) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _)
    (Memref.whole cc0_scratch5) (Memref.isWhole_whole _) (Memref.whole cc0_scratch6) (Memref.isWhole_whole _) (Memref.whole cc0_scratch7) (Memref.isWhole_whole _)
    cc0_scratch8 cc0_scratch9 cc0_scratch10

/-! ## Loads and stores through rectangles of a whole buffer -/

/-- A load through a rectangle of a buffer held whole. -/
theorem wp_ld (c : Dev nD) (bd : Option ℕ) {cs : CoreSpace} {s : Shape} {e : EltTy} {α : Type} {Q : α → sProp 𝕄}
    (m : Memref sig .tc cs s e) {r : Rect s} {hl : m.view.LoadsAt r.toLoadRect}
    {k : (r.shape.Idx → Elt F e) → Prog (TpuEff nD τ sig (Elt F) (Λ₀ F) .tc) α} {f : Buf (Elt F) (m.view.loc (c : Thread nD τ))} :
    (m.view.loc (c : Thread nD τ) ↦{fullShare} f)
      ⊢ iprop(((m.view.loc (c : Thread nD τ) ↦{fullShare} f)
          -∗ wp frame (wpE (defs₀ (F := F)) 𝒱₀ (c : Thread nD τ) bd) Set.univ (k ((m.access r).read (Elt F) f)) Q)
        -∗ wp frame (wpE (defs₀ (F := F)) 𝒱₀ (c : Thread nD τ) bd) Set.univ (.op (.load m r.toLoadRect hl) k) Q) :=
  wp_load_rect 𝒱₀ (c : Thread nD τ) bd Set.univ (m := m) (r := r) (Finset.subset_univ _)

/-- A store of a whole rectangle of a buffer held whole. -/
theorem wp_st (c : Dev nD) (bd : Option ℕ) {cs : CoreSpace} {s : Shape} {e : EltTy} {α : Type} {Q : α → sProp 𝕄}
    (m : Memref sig .tc cs s e) {r : Rect s} {w : r.shape.Idx → Elt F e} {hx : (m.access r).Stores Finset.univ}
    {hm : (Finset.univ : Finset r.shape.Idx) = Finset.univ ∨ ∀ a, r.stride a = 1}
    {k : PUnit → Prog (TpuEff nD τ sig (Elt F) (Λ₀ F) .tc) α} {f : Buf (Elt F) (m.view.loc (c : Thread nD τ))} :
    (m.view.loc (c : Thread nD τ) ↦{fullShare} f)
      ⊢ iprop(((m.view.loc (c : Thread nD τ) ↦{fullShare} ((m.access r).write (Elt F) f w Finset.univ))
          -∗ wp frame (wpE (defs₀ (F := F)) 𝒱₀ (c : Thread nD τ) bd) Set.univ (k ⟨⟩) Q)
        -∗ wp frame (wpE (defs₀ (F := F)) 𝒱₀ (c : Thread nD τ) bd) Set.univ (.op (.store m r w Finset.univ hx hm) k) Q) :=
  wp_store 𝒱₀ (c : Thread nD τ) bd Set.univ (m := m) (r := r) (Mk := Finset.univ) (Finset.subset_univ _)

end Cert.Proof.Kernel

end
-- ==== Proof.P.Ring.lean ====
/- The two rings of slots that the blocks of the weights and of their scales are copied into: a slot is free, or the
   copy of one block is on its way into it, or that block has landed. -/
module

public import proofs.«01_k».proof.Proof.P.Base

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The counters that the copies use. -/
abbrev EC (F : FTy → Type) : UEmb Counters (MT nD τ sig Unit (Elt F) ℕ (Pipeline.UD sig nD τ) ℕ) :=
  countersEmb (U := Pipeline.UD sig nD τ)

/-- A slot's semaphore is inside its array. -/
theorem inbSem (k : Fin 8) : ∀ a, (![k.val] : Fin 1 → ℕ) a + S1.size a ≤ S8.size a := fun a => by
  have := k.isLt
  match a with
  | 0 => show k.val + 1 ≤ 8; omega

/-! ## Weights -/

/-- A slot is inside the ring of weights. -/
theorem inbSlotW (k : Fin 8) : ∀ a, (![k.val, 0, 0] : Fin 3 → ℕ) a + S1x1024x4096.size a ≤ S8x1024x4096.size a := fun a => by
  have := k.isLt
  match a with
  | 0 => show k.val + 1 ≤ 8; omega
  | 1 => show 0 + 1024 ≤ 1024; omega
  | 2 => show 0 + 4096 ≤ 4096; omega

/-- A chunk of an expert's weights is inside the weights. -/
theorem inbSrcW (e : Fin 13) (j : Fin 7) : ∀ a, (![e.val, 1024 * j.val, 0] : Fin 3 → ℕ) a + S1x1024x4096.size a ≤ S13x7168x4096.size a :=
  fun a => by
  have := e.isLt
  have := j.isLt
  match a with
  | 0 => show e.val + 1 ≤ 13; omega
  | 1 => show 1024 * j.val + 1024 ≤ 7168; omega
  | 2 => show 0 + 4096 ≤ 4096; omega

/-- Slot `k` of the ring. -/
abbrev slotW (k : Fin 8) : Memref sig .tc .vmem S1024x4096 .fp8e4m3 :=
  ((Memref.whole cc0_scratch1).slice (Rect.unit (s := S8x1024x4096) ![k.val, 0, 0] S1x1024x4096.size (inbSlotW k)) (fun _ => rfl)).squeeze
    S1024x4096 squeezes_S1x1024x4096_S1024x4096

/-- Block `j` of expert `e`. -/
abbrev srcW (e : Fin 13) (j : Fin 7) : Memref sig .tc .hbm S1024x4096 .fp8e4m3 :=
  ((Memref.whole main_arg2).slice (Rect.unit (s := S13x7168x4096) ![e.val, 1024 * j.val, 0] S1x1024x4096.size (inbSrcW e j)) (fun _ => rfl)).squeeze
    S1024x4096 squeezes_S1x1024x4096_S1024x4096

/-- The semaphore of slot `k`. -/
abbrev semW (k : Fin 8) : DmaSem sig :=
  ((cc0_scratch9.slice (Rect.unit (s := S8) ![k.val] S1.size (inbSem k))).squeeze S_ squeezes_S1_S_).sem

/-- The places of slot `k` in the ring's buffer. -/
def setW (k : Fin 8) : Finset (cc0_scratch1.ty.Idx) := Finset.univ.filter fun i : S8x1024x4096.Idx => (i 0).val = k.val

/-- A ring buffer all of whose slots hold block `j` of expert `e`. -/
def landedW (w : CT F main_arg2) (e : Fin 13) (j : Fin 7) : CT F cc0_scratch1 := fun i =>
  w (show S13x7168x4096.Idx from fun a => match a with
    | 0 => e
    | 1 => (⟨1024 * j.val + (i 1).val, by have h1 : (i 1).val < 1024 := (i 1).isLt; have := j.isLt; omega⟩ : Fin 7168)
    | 2 => i 2)

/-- A slot of weights holds the slot's elements only. -/
theorem slotSetW (k : Fin 8) : (slotW k).view.set ⊆ setW k := by
  intro i hi
  obtain ⟨x, -, rfl⟩ := Finset.mem_map.mp hi
  unfold setW
  rw [Finset.mem_filter]
  refine ⟨Finset.mem_univ _, ?_⟩
  have h0 : ((Shape.reshapeEquiv squeezes_S1x1024x4096_S1024x4096.numel_eq x) 0).val = 0 := Nat.lt_one_iff.mp (Fin.isLt _)
  show k.val + 1 * ((Shape.reshapeEquiv squeezes_S1x1024x4096_S1024x4096.numel_eq x) 0).val = k.val
  rw [h0]; omega

omit [FloatOps F] in
/-- The block read off the source and written into the slot is the block landed. -/
theorem landedW_eq (w : CT F main_arg2) (f : CT F cc0_scratch1) (k : Fin 8) (e : Fin 13) (j : Fin 7) :
    ∀ i ∈ setW k, (slotW k).view.write (Elt F) f ((srcW e j).view.read (Elt F) w) Finset.univ i = landedW w e j i := by
  intro i hi
  have hk : (i 0).val = k.val := (Finset.mem_filter.mp hi).2
  let y : S1x1024x4096.Idx := fun a => match a with
    | 0 => (⟨0, Nat.one_pos⟩ : Fin 1)
    | 1 => i 1
    | 2 => i 2
  have hx : (slotW k).view.emb ((Shape.reshapeEquiv squeezes_S1x1024x4096_S1024x4096.numel_eq).symm y) = i := by
    show (Rect.unit (s := S8x1024x4096) ![k.val, 0, 0] S1x1024x4096.size (inbSlotW k)).emb
      (Shape.reshapeEquiv squeezes_S1x1024x4096_S1024x4096.numel_eq ((Shape.reshapeEquiv squeezes_S1x1024x4096_S1024x4096.numel_eq).symm y)) = i
    rw [Equiv.apply_symm_apply]
    funext a
    match a with
    | 0 => exact Fin.ext (by show k.val + 1 * 0 = (i 0).val; rw [hk]; omega)
    | 1 => exact Fin.ext (by show 0 + 1 * (i 1).val = (i 1).val; omega)
    | 2 => exact Fin.ext (by show 0 + 1 * (i 2).val = (i 2).val; omega)
  conv_lhs => rw [← hx]
  rw [View.write_emb_of_mem _ _ (Finset.mem_univ _), View.read_apply]
  show w ((Rect.unit (s := S13x7168x4096) ![e.val, 1024 * j.val, 0] S1x1024x4096.size (inbSrcW e j)).emb
      (Shape.reshapeEquiv squeezes_S1x1024x4096_S1024x4096.numel_eq ((Shape.reshapeEquiv squeezes_S1x1024x4096_S1024x4096.numel_eq).symm y))) = _
  rw [Equiv.apply_symm_apply]
  unfold landedW
  congr 1
  funext a
  match a with
  | 0 => exact Fin.ext (by show e.val + 1 * 0 = e.val; omega)
  | 1 => exact Fin.ext (by show 1024 * j.val + 1 * (i 1).val = 1024 * j.val + (i 1).val; omega)
  | 2 => exact Fin.ext (by show 0 + 1 * (i 2).val = (i 2).val; omega)

/-- Slot `k` of the ring held at `f`. -/
abbrev ownW (c : Dev nD) (k : Fin 8) (f : CT F cc0_scratch1) : sProp 𝕄 :=
  ((c : Thread nD τ).loc cc0_scratch1) ↦[setW k]{fullShare} (f : Buf (Elt F) ((c : Thread nD τ).loc cc0_scratch1))

/-- Slot `k`'s read token of the source. -/
abbrev tokW (c : Dev nD) (k : Fin 8) (w : CT F main_arg2) : sProp 𝕄 :=
  ((c : Thread nD τ).loc main_arg2) ↦{Transfers.shareTok fullShare 8 k} (w : Buf (Elt F) ((c : Thread nD τ).loc main_arg2))

/-- The amount that one copy signals. -/
abbrev amtW : ℕ := (slotW 0).view.amount (.dma (semW 0))

/-- A copy of weights is of a positive amount. -/
theorem amtW_pos : 0 < amtW := View.amount_pos _ _ (Shape.numel_pos fun a => by match a with | 0 => exact Nat.succ_pos _ | 1 => exact Nat.succ_pos _)

/-- Every slot of weights takes the same amount. -/
theorem amtW_eq (k : Fin 8) : (slotW k).view.amount (.dma (semW k)) = amtW := rfl

/-- Every slot of weights pays the same amount. -/
theorem crdW_eq (k : Fin 8) : (slotW k).view.dmaCredit = amtW := rfl

/-- A copy of block `j` of expert `e` into slot `k` on its way. -/
def flyW (c : Dev nD) (k : Fin 8) (w : CT F main_arg2) (e : Fin 13) (j : Fin 7) : sProp 𝕄 :=
  iprop(Transfers.Flight (EC F) (c : Thread nD τ) (.dma (semW k)) () amtW
      iprop(ownW c k (landedW w e j) ∗ ((c : Thread nD τ).loc main_arg2 ↦[(srcW e j).view.set]{Transfers.shareTok fullShare 8 k} (w : Buf (Elt F) ((c : Thread nD τ).loc main_arg2))))
    ∗ ((c : Thread nD τ).loc main_arg2 ↦[Finset.univ \ (srcW e j).view.set]{Transfers.shareTok fullShare 8 k} (w : Buf (Elt F) ((c : Thread nD τ).loc main_arg2))))

/-- Starting a copy into a free slot. -/
theorem wp_startW (c : Dev nD) (k : Fin 8) (e : Fin 13) (j : Fin 7) (w : CT F main_arg2)
    {src : Memref sig .tc .hbm S1024x4096 .fp8e4m3} {dst : Memref sig .tc .vmem S1024x4096 .fp8e4m3} {sm : DmaSem sig}
    (h1 : src = srcW e j) (h2 : dst = slotW k) (h3 : sm = semW k)
    {hsrc : src.view.WordExact} {hdst : dst.view.WordExact} {hsem : DmaTarget.Typed (nD := nD) (p := (.tc : Proc τ)) .hbm (.dma sm) (.here dst)}
    {α : Type} {kk : PUnit → Prog (TpuEff nD τ sig (Elt F) (Λ₀ F) .tc) α} {Q : α → sProp 𝕄} :
    iprop((∃ f, ownW c k f) ∗ tokW c k w ∗ semVal ((c : Thread nD τ), .dma (semW k)) 0)
      ⊢ iprop((flyW c k w e j -∗ run c (kk ⟨⟩) Q)
        -∗ run c (.op (.enqueueDma src (.here dst) (.dma sm) hsrc hdst hsem) kk) Q) := by
  subst h1 h2 h3
  iintro ⟨⟨%f, Hf⟩, Ht, Hs⟩ Hk
  have hsp := (pointsTo_split_subset (ℓ := (c : Thread nD τ).loc main_arg2) (I := (srcW e j).view.set) (S := Finset.univ)
    (q := Transfers.shareTok fullShare 8 k) (f := (w : Buf (Elt F) ((c : Thread nD τ).loc main_arg2))) (Ix := Unit) (Name := ℕ)
    (U := Pipeline.UD sig nD τ) (Lvl := ℕ) (Finset.subset_univ _)).1
  ihave Ht2 := hsp $$ Ht
  icases Ht2 with ⟨Ht1, Ht2⟩
  iapply (Transfers.wp_dmaLocal (EC F) 𝒱₀ (c : Thread nD τ) none () amtW (amtW_eq k) amtW_pos (slotSetW k)) $$ [Hf Ht1 Hs]
  · isplitl [Ht1]; · iexact Ht1
    isplitl [Hf]; · iexact Hf
    iexact Hs
  iintro Hfl
  iapply Hk
  unfold flyW
  isplitl [Hfl]
  · iapply (Transfers.Flight_mono (EC F) (c : Thread nD τ) (D' := iprop(ownW c k (landedW w e j) ∗ ((c : Thread nD τ).loc main_arg2 ↦[(srcW e j).view.set]{Transfers.shareTok fullShare 8 k} (w : Buf (Elt F) ((c : Thread nD τ).loc main_arg2)))))
      (sep_mono_left (show _ ⊢ ownW c k (landedW w e j) from (pointsTo_congr (landedW_eq w f k e j)).le))) $$ Hfl
  · iexact Ht2

/-- Waiting for the copy into a slot. -/
theorem wp_waitW (c : Dev nD) (k : Fin 8) (e : Fin 13) (j : Fin 7) (w : CT F main_arg2)
    {src : Memref sig .tc .hbm S1024x4096 .fp8e4m3} {dst : Memref sig .tc .vmem S1024x4096 .fp8e4m3} {sm : DmaSem sig}
    (h2 : dst.view.dmaCredit = amtW) (h3 : sm = semW k)
    {hsrc : src.view.WordExact} {hdst : dst.view.WordExact}
    {α : Type} {kk : PUnit → Prog (TpuEff nD τ sig (Elt F) (Λ₀ F) .tc) α} {Q : α → sProp 𝕄} :
    iprop(flyW c k w e j ∗ (∃ W, owes (c : Thread nD τ) 0 W))
      ⊢ iprop((iprop(ownW c k (landedW w e j) ∗ tokW c k w ∗ semVal ((c : Thread nD τ), .dma (semW k)) 0 ∗ (∃ W, owes (c : Thread nD τ) 0 W))
          -∗ run c (kk ⟨⟩) Q)
        -∗ run c (.op (.waitDma2 sm src dst hsrc hdst) kk) Q) := by
  subst h3
  have hsp := (pointsTo_split_subset (ℓ := (c : Thread nD τ).loc main_arg2) (I := (srcW e j).view.set) (S := Finset.univ)
    (q := Transfers.shareTok fullShare 8 k) (f := (w : Buf (Elt F) ((c : Thread nD τ).loc main_arg2))) (Ix := Unit) (Name := ℕ)
    (U := Pipeline.UD sig nD τ) (Lvl := ℕ) (Finset.subset_univ _)).2
  unfold flyW
  iintro ⟨⟨Hfl, Ht2⟩, ⟨%W, HW⟩⟩ Hk
  iapply (Transfers.wp_waitLocal (EC F) 𝒱₀ (c : Thread nD τ) none () (N := amtW) (dstw := dst) h2) $$ [Hfl HW]
  · isplitl [Hfl]; · iexact Hfl
    iexact HW
  iintro ⟨⟨Ho, Ht1⟩, Hs, HW⟩
  iapply Hk
  isplitl [Ho]; · iexact Ho
  isplitl [Ht1 Ht2]
  · iapply hsp
    isplitl [Ht1]; · iexact Ht1
    iexact Ht2
  isplitl [Hs]; · iexact Hs
  iexists _; iexact HW

/-! ## Scales -/

/-- A slot is inside the ring of scales. -/
theorem inbSlotS (k : Fin 8) : ∀ a, (![k.val, 0, 0] : Fin 3 → ℕ) a + S1x32x4096.size a ≤ S8x32x4096.size a := fun a => by
  have := k.isLt
  match a with
  | 0 => show k.val + 1 ≤ 8; omega
  | 1 => show 0 + 32 ≤ 32; omega
  | 2 => show 0 + 4096 ≤ 4096; omega

/-- A chunk of an expert's scales is inside the scales. -/
theorem inbSrcS (e : Fin 13) (j : Fin 7) : ∀ a, (![e.val, 32 * j.val, 0] : Fin 3 → ℕ) a + S1x32x4096.size a ≤ S13x224x4096.size a :=
  fun a => by
  have := e.isLt
  have := j.isLt
  match a with
  | 0 => show e.val + 1 ≤ 13; omega
  | 1 => show 32 * j.val + 32 ≤ 224; omega
  | 2 => show 0 + 4096 ≤ 4096; omega

/-- Slot `k` of the ring. -/
abbrev slotS (k : Fin 8) : Memref sig .tc .vmem S32x4096 .i8 :=
  ((Memref.whole cc0_scratch2).slice (Rect.unit (s := S8x32x4096) ![k.val, 0, 0] S1x32x4096.size (inbSlotS k)) (fun _ => rfl)).squeeze
    S32x4096 squeezes_S1x32x4096_S32x4096

/-- Block `j` of expert `e`. -/
abbrev srcS (e : Fin 13) (j : Fin 7) : Memref sig .tc .hbm S32x4096 .i8 :=
  ((Memref.whole main_arg3).slice (Rect.unit (s := S13x224x4096) ![e.val, 32 * j.val, 0] S1x32x4096.size (inbSrcS e j)) (fun _ => rfl)).squeeze
    S32x4096 squeezes_S1x32x4096_S32x4096

/-- The semaphore of slot `k`. -/
abbrev semS (k : Fin 8) : DmaSem sig :=
  ((cc0_scratch10.slice (Rect.unit (s := S8) ![k.val] S1.size (inbSem k))).squeeze S_ squeezes_S1_S_).sem

/-- The places of slot `k` in the ring's buffer. -/
def setS (k : Fin 8) : Finset (cc0_scratch2.ty.Idx) := Finset.univ.filter fun i : S8x32x4096.Idx => (i 0).val = k.val

/-- A ring buffer all of whose slots hold block `j` of expert `e`. -/
def landedS (w : CT F main_arg3) (e : Fin 13) (j : Fin 7) : CT F cc0_scratch2 := fun i =>
  w (show S13x224x4096.Idx from fun a => match a with
    | 0 => e
    | 1 => (⟨32 * j.val + (i 1).val, by have h1 : (i 1).val < 32 := (i 1).isLt; have := j.isLt; omega⟩ : Fin 224)
    | 2 => i 2)

/-- A slot of scales holds the slot's elements only. -/
theorem slotSetS (k : Fin 8) : (slotS k).view.set ⊆ setS k := by
  intro i hi
  obtain ⟨x, -, rfl⟩ := Finset.mem_map.mp hi
  unfold setS
  rw [Finset.mem_filter]
  refine ⟨Finset.mem_univ _, ?_⟩
  have h0 : ((Shape.reshapeEquiv squeezes_S1x32x4096_S32x4096.numel_eq x) 0).val = 0 := Nat.lt_one_iff.mp (Fin.isLt _)
  show k.val + 1 * ((Shape.reshapeEquiv squeezes_S1x32x4096_S32x4096.numel_eq x) 0).val = k.val
  rw [h0]; omega

omit [FloatOps F] in
/-- The block read off the source and written into the slot is the block landed. -/
theorem landedS_eq (w : CT F main_arg3) (f : CT F cc0_scratch2) (k : Fin 8) (e : Fin 13) (j : Fin 7) :
    ∀ i ∈ setS k, (slotS k).view.write (Elt F) f ((srcS e j).view.read (Elt F) w) Finset.univ i = landedS w e j i := by
  intro i hi
  have hk : (i 0).val = k.val := (Finset.mem_filter.mp hi).2
  let y : S1x32x4096.Idx := fun a => match a with
    | 0 => (⟨0, Nat.one_pos⟩ : Fin 1)
    | 1 => i 1
    | 2 => i 2
  have hx : (slotS k).view.emb ((Shape.reshapeEquiv squeezes_S1x32x4096_S32x4096.numel_eq).symm y) = i := by
    show (Rect.unit (s := S8x32x4096) ![k.val, 0, 0] S1x32x4096.size (inbSlotS k)).emb
      (Shape.reshapeEquiv squeezes_S1x32x4096_S32x4096.numel_eq ((Shape.reshapeEquiv squeezes_S1x32x4096_S32x4096.numel_eq).symm y)) = i
    rw [Equiv.apply_symm_apply]
    funext a
    match a with
    | 0 => exact Fin.ext (by show k.val + 1 * 0 = (i 0).val; rw [hk]; omega)
    | 1 => exact Fin.ext (by show 0 + 1 * (i 1).val = (i 1).val; omega)
    | 2 => exact Fin.ext (by show 0 + 1 * (i 2).val = (i 2).val; omega)
  conv_lhs => rw [← hx]
  rw [View.write_emb_of_mem _ _ (Finset.mem_univ _), View.read_apply]
  show w ((Rect.unit (s := S13x224x4096) ![e.val, 32 * j.val, 0] S1x32x4096.size (inbSrcS e j)).emb
      (Shape.reshapeEquiv squeezes_S1x32x4096_S32x4096.numel_eq ((Shape.reshapeEquiv squeezes_S1x32x4096_S32x4096.numel_eq).symm y))) = _
  rw [Equiv.apply_symm_apply]
  unfold landedS
  congr 1
  funext a
  match a with
  | 0 => exact Fin.ext (by show e.val + 1 * 0 = e.val; omega)
  | 1 => exact Fin.ext (by show 32 * j.val + 1 * (i 1).val = 32 * j.val + (i 1).val; omega)
  | 2 => exact Fin.ext (by show 0 + 1 * (i 2).val = (i 2).val; omega)

/-- Slot `k` of the ring held at `f`. -/
abbrev ownS (c : Dev nD) (k : Fin 8) (f : CT F cc0_scratch2) : sProp 𝕄 :=
  ((c : Thread nD τ).loc cc0_scratch2) ↦[setS k]{fullShare} (f : Buf (Elt F) ((c : Thread nD τ).loc cc0_scratch2))

/-- Slot `k`'s read token of the source. -/
abbrev tokS (c : Dev nD) (k : Fin 8) (w : CT F main_arg3) : sProp 𝕄 :=
  ((c : Thread nD τ).loc main_arg3) ↦{Transfers.shareTok fullShare 8 k} (w : Buf (Elt F) ((c : Thread nD τ).loc main_arg3))

/-- The amount that one copy signals. -/
abbrev amtS : ℕ := (slotS 0).view.amount (.dma (semS 0))

/-- A copy of scales is of a positive amount. -/
theorem amtS_pos : 0 < amtS := View.amount_pos _ _ (Shape.numel_pos fun a => by match a with | 0 => exact Nat.succ_pos _ | 1 => exact Nat.succ_pos _)

/-- Every slot of scales takes the same amount. -/
theorem amtS_eq (k : Fin 8) : (slotS k).view.amount (.dma (semS k)) = amtS := rfl

/-- Every slot of scales pays the same amount. -/
theorem crdS_eq (k : Fin 8) : (slotS k).view.dmaCredit = amtS := rfl

/-- A copy of block `j` of expert `e` into slot `k` on its way. -/
def flyS (c : Dev nD) (k : Fin 8) (w : CT F main_arg3) (e : Fin 13) (j : Fin 7) : sProp 𝕄 :=
  iprop(Transfers.Flight (EC F) (c : Thread nD τ) (.dma (semS k)) () amtS
      iprop(ownS c k (landedS w e j) ∗ ((c : Thread nD τ).loc main_arg3 ↦[(srcS e j).view.set]{Transfers.shareTok fullShare 8 k} (w : Buf (Elt F) ((c : Thread nD τ).loc main_arg3))))
    ∗ ((c : Thread nD τ).loc main_arg3 ↦[Finset.univ \ (srcS e j).view.set]{Transfers.shareTok fullShare 8 k} (w : Buf (Elt F) ((c : Thread nD τ).loc main_arg3))))

/-- Starting a copy into a free slot. -/
theorem wp_startS (c : Dev nD) (k : Fin 8) (e : Fin 13) (j : Fin 7) (w : CT F main_arg3)
    {src : Memref sig .tc .hbm S32x4096 .i8} {dst : Memref sig .tc .vmem S32x4096 .i8} {sm : DmaSem sig}
    (h1 : src = srcS e j) (h2 : dst = slotS k) (h3 : sm = semS k)
    {hsrc : src.view.WordExact} {hdst : dst.view.WordExact} {hsem : DmaTarget.Typed (nD := nD) (p := (.tc : Proc τ)) .hbm (.dma sm) (.here dst)}
    {α : Type} {kk : PUnit → Prog (TpuEff nD τ sig (Elt F) (Λ₀ F) .tc) α} {Q : α → sProp 𝕄} :
    iprop((∃ f, ownS c k f) ∗ tokS c k w ∗ semVal ((c : Thread nD τ), .dma (semS k)) 0)
      ⊢ iprop((flyS c k w e j -∗ run c (kk ⟨⟩) Q)
        -∗ run c (.op (.enqueueDma src (.here dst) (.dma sm) hsrc hdst hsem) kk) Q) := by
  subst h1 h2 h3
  iintro ⟨⟨%f, Hf⟩, Ht, Hs⟩ Hk
  have hsp := (pointsTo_split_subset (ℓ := (c : Thread nD τ).loc main_arg3) (I := (srcS e j).view.set) (S := Finset.univ)
    (q := Transfers.shareTok fullShare 8 k) (f := (w : Buf (Elt F) ((c : Thread nD τ).loc main_arg3))) (Ix := Unit) (Name := ℕ)
    (U := Pipeline.UD sig nD τ) (Lvl := ℕ) (Finset.subset_univ _)).1
  ihave Ht2 := hsp $$ Ht
  icases Ht2 with ⟨Ht1, Ht2⟩
  iapply (Transfers.wp_dmaLocal (EC F) 𝒱₀ (c : Thread nD τ) none () amtS (amtS_eq k) amtS_pos (slotSetS k)) $$ [Hf Ht1 Hs]
  · isplitl [Ht1]; · iexact Ht1
    isplitl [Hf]; · iexact Hf
    iexact Hs
  iintro Hfl
  iapply Hk
  unfold flyS
  isplitl [Hfl]
  · iapply (Transfers.Flight_mono (EC F) (c : Thread nD τ) (D' := iprop(ownS c k (landedS w e j) ∗ ((c : Thread nD τ).loc main_arg3 ↦[(srcS e j).view.set]{Transfers.shareTok fullShare 8 k} (w : Buf (Elt F) ((c : Thread nD τ).loc main_arg3)))))
      (sep_mono_left (show _ ⊢ ownS c k (landedS w e j) from (pointsTo_congr (landedS_eq w f k e j)).le))) $$ Hfl
  · iexact Ht2

/-- Waiting for the copy into a slot. -/
theorem wp_waitS (c : Dev nD) (k : Fin 8) (e : Fin 13) (j : Fin 7) (w : CT F main_arg3)
    {src : Memref sig .tc .hbm S32x4096 .i8} {dst : Memref sig .tc .vmem S32x4096 .i8} {sm : DmaSem sig}
    (h2 : dst.view.dmaCredit = amtS) (h3 : sm = semS k)
    {hsrc : src.view.WordExact} {hdst : dst.view.WordExact}
    {α : Type} {kk : PUnit → Prog (TpuEff nD τ sig (Elt F) (Λ₀ F) .tc) α} {Q : α → sProp 𝕄} :
    iprop(flyS c k w e j ∗ (∃ W, owes (c : Thread nD τ) 0 W))
      ⊢ iprop((iprop(ownS c k (landedS w e j) ∗ tokS c k w ∗ semVal ((c : Thread nD τ), .dma (semS k)) 0 ∗ (∃ W, owes (c : Thread nD τ) 0 W))
          -∗ run c (kk ⟨⟩) Q)
        -∗ run c (.op (.waitDma2 sm src dst hsrc hdst) kk) Q) := by
  subst h3
  have hsp := (pointsTo_split_subset (ℓ := (c : Thread nD τ).loc main_arg3) (I := (srcS e j).view.set) (S := Finset.univ)
    (q := Transfers.shareTok fullShare 8 k) (f := (w : Buf (Elt F) ((c : Thread nD τ).loc main_arg3))) (Ix := Unit) (Name := ℕ)
    (U := Pipeline.UD sig nD τ) (Lvl := ℕ) (Finset.subset_univ _)).2
  unfold flyS
  iintro ⟨⟨Hfl, Ht2⟩, ⟨%W, HW⟩⟩ Hk
  iapply (Transfers.wp_waitLocal (EC F) 𝒱₀ (c : Thread nD τ) none () (N := amtS) (dstw := dst) h2) $$ [Hfl HW]
  · isplitl [Hfl]; · iexact Hfl
    iexact HW
  iintro ⟨⟨Ho, Ht1⟩, Hs, HW⟩
  iapply Hk
  isplitl [Ho]; · iexact Ho
  isplitl [Ht1 Ht2]
  · iapply hsp
    isplitl [Ht1]; · iexact Ht1
    iexact Ht2
  isplitl [Hs]; · iexact Hs
  iexists _; iexact HW

/-! ## Both rings -/

/-- Slot `k` of both rings: free, or with the copies of block `j` of expert `e` on their way into it. -/
def slotΦ (c : Dev nD) (w : CT F main_arg2) (ws : CT F main_arg3) (k : Fin 8) : Option (Fin 13 × Fin 7) → sProp 𝕄
  | none => iprop(((∃ f, ownW c k f) ∗ tokW c k w ∗ semVal ((c : Thread nD τ), .dma (semW k)) 0)
      ∗ ((∃ f, ownS c k f) ∗ tokS c k ws ∗ semVal ((c : Thread nD τ), .dma (semS k)) 0))
  | some (e, j) => iprop(flyW c k w e j ∗ flyS c k ws e j)

/-- What a free slot holds. -/
theorem slotΦ_none (c : Dev nD) (w : CT F main_arg2) (ws : CT F main_arg3) (k : Fin 8) :
    slotΦ c w ws k none = iprop(((∃ f, ownW c k f) ∗ tokW c k w ∗ semVal ((c : Thread nD τ), .dma (semW k)) 0)
      ∗ ((∃ f, ownS c k f) ∗ tokS c k ws ∗ semVal ((c : Thread nD τ), .dma (semS k)) 0)) := rfl

/-- What a slot with a copy under way holds. -/
theorem slotΦ_some (c : Dev nD) (w : CT F main_arg2) (ws : CT F main_arg3) (k : Fin 8) (e : Fin 13) (j : Fin 7) :
    slotΦ c w ws k (some (e, j)) = iprop(flyW c k w e j ∗ flyS c k ws e j) := rfl

/-- The rings, slot by slot. -/
abbrev ring (c : Dev nD) (w : CT F main_arg2) (ws : CT F main_arg3) (st : Fin 8 → Option (Fin 13 × Fin 7)) : sProp 𝕄 :=
  Ring.AtW (slotΦ c w ws) st

/-- The rings but for slot `k`. -/
abbrev ringBut (c : Dev nD) (w : CT F main_arg2) (ws : CT F main_arg3) (st : Fin 8 → Option (Fin 13 × Fin 7)) (k : Fin 8) : sProp 𝕄 :=
  Ring.restW (slotΦ c w ws) st k

/-- The two copies of one block are started. -/
theorem wp_start (c : Dev nD) (st : Fin 8 → Option (Fin 13 × Fin 7)) (k : Fin 8) (hk : st k = none) (e : Fin 13) (j : Fin 7)
    (w : CT F main_arg2) (ws : CT F main_arg3)
    {src : Memref sig .tc .hbm S1024x4096 .fp8e4m3} {dst : Memref sig .tc .vmem S1024x4096 .fp8e4m3} {sm : DmaSem sig}
    {src' : Memref sig .tc .hbm S32x4096 .i8} {dst' : Memref sig .tc .vmem S32x4096 .i8} {sm' : DmaSem sig}
    (h1 : src = srcW e j) (h2 : dst = slotW k) (h3 : sm = semW k)
    (h1' : src' = srcS e j) (h2' : dst' = slotS k) (h3' : sm' = semS k)
    {hsrc : src.view.WordExact} {hdst : dst.view.WordExact} {hsem : DmaTarget.Typed (nD := nD) (p := (.tc : Proc τ)) .hbm (.dma sm) (.here dst)}
    {hsrc' : src'.view.WordExact} {hdst' : dst'.view.WordExact} {hsem' : DmaTarget.Typed (nD := nD) (p := (.tc : Proc τ)) .hbm (.dma sm') (.here dst')}
    {α : Type} {kk : PUnit → Prog (TpuEff nD τ sig (Elt F) (Λ₀ F) .tc) α} {Q : α → sProp 𝕄} :
    ring c w ws st
      ⊢ iprop((ring c w ws (Function.update st k (some (e, j))) -∗ run c (kk ⟨⟩) Q)
        -∗ run c (.op (.enqueueDma src (.here dst) (.dma sm) hsrc hdst hsem) fun _ =>
            .op (.enqueueDma src' (.here dst') (.dma sm') hsrc' hdst' hsem') kk) Q) := by
  show Ring.AtW _ _ ⊢ _
  rw [Ring.AtW_focus _ st k, hk, slotΦ_none]
  iintro ⟨⟨HW, HS⟩, Hr⟩ Hk
  iapply (wp_startW c k e j w h1 h2 h3) $$ HW; iintro HW
  iapply (wp_startS c k e j ws h1' h2' h3') $$ HS; iintro HS
  iapply Hk
  iapply (Ring.AtW_update (slotΦ c w ws) st k (some (e, j)))
  isplitr [Hr]
  · rw [slotΦ_some]
    isplitl [HW]; · iexact HW
    iexact HS
  · iexact Hr

/-- What is held of a slot whose block has landed. -/
def landed (c : Dev nD) (w : CT F main_arg2) (ws : CT F main_arg3) (k : Fin 8) (e : Fin 13) (j : Fin 7) : sProp 𝕄 :=
  iprop((ownW c k (landedW w e j) ∗ tokW c k w ∗ semVal ((c : Thread nD τ), .dma (semW k)) 0)
      ∗ (ownS c k (landedS ws e j) ∗ tokS c k ws ∗ semVal ((c : Thread nD τ), .dma (semS k)) 0))

/-- The two copies of one block are awaited. -/
theorem wp_wait (c : Dev nD) (st : Fin 8 → Option (Fin 13 × Fin 7)) (k : Fin 8) (e : Fin 13) (j : Fin 7) (hk : st k = some (e, j))
    (w : CT F main_arg2) (ws : CT F main_arg3)
    {src : Memref sig .tc .hbm S1024x4096 .fp8e4m3} {dst : Memref sig .tc .vmem S1024x4096 .fp8e4m3} {sm : DmaSem sig}
    {src' : Memref sig .tc .hbm S32x4096 .i8} {dst' : Memref sig .tc .vmem S32x4096 .i8} {sm' : DmaSem sig}
    (h2 : dst.view.dmaCredit = amtW) (h3 : sm = semW k) (h2' : dst'.view.dmaCredit = amtS) (h3' : sm' = semS k)
    {hsrc : src.view.WordExact} {hdst : dst.view.WordExact} {hsrc' : src'.view.WordExact} {hdst' : dst'.view.WordExact}
    {α : Type} {kk : PUnit → Prog (TpuEff nD τ sig (Elt F) (Λ₀ F) .tc) α} {Q : α → sProp 𝕄} :
    iprop(ring c w ws st ∗ (∃ W, owes (c : Thread nD τ) 0 W))
      ⊢ iprop((iprop(landed c w ws k e j ∗ ringBut c w ws st k ∗ (∃ W, owes (c : Thread nD τ) 0 W)) -∗ run c (kk ⟨⟩) Q)
        -∗ run c (.op (.waitDma2 sm src dst hsrc hdst) fun _ => .op (.waitDma2 sm' src' dst' hsrc' hdst') kk) Q) := by
  show iprop(Ring.AtW _ _ ∗ _) ⊢ _
  rw [Ring.AtW_focus _ st k, hk, slotΦ_some]
  iintro ⟨⟨⟨HW, HS⟩, Hr⟩, Ho⟩ Hk
  iapply (wp_waitW c k e j w h2 h3) $$ [HW Ho]
  · isplitl [HW]; · iexact HW
    iexact Ho
  iintro ⟨HW1, HW2, HW3, Ho⟩
  iapply (wp_waitS c k e j ws h2' h3') $$ [HS Ho]
  · isplitl [HS]; · iexact HS
    iexact Ho
  iintro ⟨HS1, HS2, HS3, Ho⟩
  iapply Hk
  unfold landed
  isplitr [Hr Ho]
  · isplitl [HW1 HW2 HW3]
    · isplitl [HW1]; · iexact HW1
      isplitl [HW2]; · iexact HW2
      iexact HW3
    · isplitl [HS1]; · iexact HS1
      isplitl [HS2]; · iexact HS2
      iexact HS3
  isplitl [Hr]; · iexact Hr
  iexact Ho

/-- A slot whose block was used is free again. -/
theorem free (c : Dev nD) (st : Fin 8 → Option (Fin 13 × Fin 7)) (k : Fin 8) (e : Fin 13) (j : Fin 7) (w : CT F main_arg2) (ws : CT F main_arg3) :
    iprop(landed c w ws k e j ∗ ringBut c w ws st k) ⊢ ring c w ws (Function.update st k none) := by
  unfold landed
  iintro ⟨⟨⟨HW1, HW2, HW3⟩, ⟨HS1, HS2, HS3⟩⟩, Hr⟩
  iapply (Ring.AtW_update (slotΦ c w ws) st k none)
  isplitr [Hr]
  · rw [slotΦ_none]
    isplitl [HW1 HW2 HW3]
    · isplitl [HW1]; · iexists _; iexact HW1
      isplitl [HW2]; · iexact HW2
      iexact HW3
    · isplitl [HS1]; · iexists _; iexact HS1
      isplitl [HS2]; · iexact HS2
      iexact HS3
  · iexact Hr

/-! ## Which slots are in use -/

/-- The steps from `a` to before `b` are on their way, step `s` in slot `s` modulo 8, with block `g s`. -/
def win (g : ℕ → Fin 13 × Fin 7) (a b : ℕ) (k : Fin 8) : Option (Fin 13 × Fin 7) :=
  if a + (k.val + 8 - a % 8) % 8 < b then some (g (a + (k.val + 8 - a % 8) % 8)) else none

/-- The slot of step `s`. -/
def slotN (s : ℕ) : Fin 8 := ⟨s % 8, Nat.mod_lt _ (by decide)⟩

/-- The oldest tile under way is in its slot. -/
theorem win_first (g : ℕ → Fin 13 × Fin 7) {a b : ℕ} (h : a < b) : win g a b (slotN a) = some (g a) := by
  unfold win slotN
  have : (a % 8 + 8 - a % 8) % 8 = 0 := by omega
  simp only [this, Nat.add_zero, h, if_true]

/-- The next tile's slot is free. -/
theorem win_next (g : ℕ → Fin 13 × Fin 7) {a b : ℕ} (hab : a ≤ b) (h : b < a + 8) : win g a b (slotN b) = none := by
  unfold win slotN
  have : ¬ a + (b % 8 + 8 - a % 8) % 8 < b := by omega
  simp only [this, if_false]

/-- Starting the next tile fills its slot. -/
theorem win_start (g : ℕ → Fin 13 × Fin 7) {a b : ℕ} (hab : a ≤ b) (h : b < a + 8) :
    Function.update (win g a b) (slotN b) (some (g b)) = win g a (b + 1) := by
  funext k
  by_cases hk : k = slotN b
  · subst hk
    rw [Function.update_self]
    unfold win slotN
    have : a + (b % 8 + 8 - a % 8) % 8 = b := by omega
    simp only [this, Nat.lt_succ_self, if_true]
  · rw [Function.update_of_ne hk]
    have hne : k.val ≠ b % 8 := fun h => hk (Fin.ext h)
    have := k.isLt
    unfold win
    by_cases hb : a + (k.val + 8 - a % 8) % 8 < b
    · rw [if_pos hb, if_pos (by omega)]
    · rw [if_neg hb, if_neg (by omega)]

/-- Finishing the oldest tile frees its slot. -/
theorem win_free (g : ℕ → Fin 13 × Fin 7) {a b : ℕ} (h : b ≤ a + 8) :
    Function.update (win g a b) (slotN a) none = win g (a + 1) b := by
  funext k
  by_cases hk : k = slotN a
  · subst hk
    rw [Function.update_self]
    unfold win slotN
    have : ¬ a + 1 + (a % 8 + 8 - (a + 1) % 8) % 8 < b := by omega
    simp only [this, if_false]
  · rw [Function.update_of_ne hk]
    have hne : k.val ≠ a % 8 := fun h => hk (Fin.ext h)
    have := k.isLt
    unfold win
    have : a + 1 + (k.val + 8 - (a + 1) % 8) % 8 = a + (k.val + 8 - a % 8) % 8 := by omega
    rw [this]

/-- With no tile under way every slot is free. -/
theorem win_empty (g : ℕ → Fin 13 × Fin 7) {a b : ℕ} (h : b ≤ a) : win g a b = fun _ => none := by
  funext k
  unfold win
  rw [if_neg (by omega)]

end Cert.Proof.Kernel

end
-- ==== Proof.P.Offs.lean ====
/- Closed forms of the offsets that the kernel computes, proved by running through their finitely many arguments. -/
module

public import proofs.«01_k».proof.Proof.P.Checks

@[expose] public section

set_option maxRecDepth 16384

noncomputable section

namespace Cert.Proof.Kernel

open Cert.Kernel Cert.Kernel.Gen
open Idealize.ShloMosaic

/-- The semaphore of the weights of the tile seven steps ahead. -/
theorem off16_n : ∀ (n : Fin 15) (t : Fin (k0_t5_loop (w32 n.val)).trips) (k : Fin k0_t6_loop.trips),
    k0_off16 (w32 n.val) t k = ![(7 * t.val + k.val + 7) % 8] := by decide +kernel

/-- The semaphore of the scales of the tile seven steps ahead. -/
theorem off19_n : ∀ (n : Fin 15) (t : Fin (k0_t5_loop (w32 n.val)).trips) (k : Fin k0_t6_loop.trips),
    k0_off19 (w32 n.val) t k = ![(7 * t.val + k.val + 7) % 8] := by decide +kernel

/-- The slot of the scales of the tile seven steps ahead. -/
theorem off20_n : ∀ (n : Fin 15) (t : Fin (k0_t5_loop (w32 n.val)).trips) (k : Fin k0_t6_loop.trips),
    k0_off20 (w32 n.val) t k = ![(7 * t.val + k.val + 7) % 8, 0, 0] := by decide +kernel

/-- Where an item's expert is read. -/
theorem off22_n : ∀ (n : Fin 15) (t : Fin (k0_t5_loop (w32 n.val)).trips) (k : Fin k0_t6_loop.trips),
    k0_off22 (w32 n.val) t k = ![0, t.val] := by decide +kernel

/-- The semaphore of the weights of a step. -/
theorem off23_n : ∀ (n : Fin 15) (t : Fin (k0_t5_loop (w32 n.val)).trips) (k : Fin k0_t6_loop.trips),
    k0_off23 (w32 n.val) t k = ![(7 * t.val + k.val) % 8] := by decide +kernel

/-- The semaphore of the scales of a step. -/
theorem off26_n : ∀ (n : Fin 15) (t : Fin (k0_t5_loop (w32 n.val)).trips) (k : Fin k0_t6_loop.trips),
    k0_off26 (w32 n.val) t k = ![(7 * t.val + k.val) % 8] := by decide +kernel

/-- The slot of the scales of a step. -/
theorem off29_n : ∀ (n : Fin 15) (t : Fin (k0_t5_loop (w32 n.val)).trips) (k : Fin k0_t6_loop.trips),
    k0_off29 (w32 n.val) t k = ![(7 * t.val + k.val) % 8, 0, 0] := by decide +kernel

/-- The scales of the tile seven steps ahead. -/
theorem off21_n : ∀ (n : Fin 15) (t : Fin (k0_t5_loop (w32 n.val)).trips) (k : Fin k0_t6_loop.trips) (e : Fin 13),
    k0_off21 (w32 n.val) t k (w32 e.val) = ![e.val, 32 * ((7 * t.val + k.val + 7) % 7), 0] := by decide +kernel

/-- Where an item's first own row is read. -/
theorem off34_n : ∀ (n : Fin 15) (t : Fin (k0_t5_loop (w32 n.val)).trips), k0_off34 (w32 n.val) t = ![2, t.val] := by
  decide +kernel

/-- Where the end of an item's own rows is read. -/
theorem off35_n : ∀ (n : Fin 15) (t : Fin (k0_t5_loop (w32 n.val)).trips), k0_off35 (w32 n.val) t = ![3, t.val] := by
  decide +kernel

/-- The weights of a first copy. -/
theorem off9_n : ∀ (t : Fin k0_t2_loop.trips) (e : Fin 13),
    k0_off9 t (w32 e.val) = ![e.val, 1024 * (t.val % 7), 0] := by decide +kernel

/-- The scales of a first copy. -/
theorem off12_n : ∀ (t : Fin k0_t2_loop.trips) (e : Fin 13),
    k0_off12 t (w32 e.val) = ![e.val, 32 * (t.val % 7), 0] := by decide +kernel

/-- A first copy is started when there is such a tile. -/
theorem cond1_n : ∀ (n : Fin 15) (t : Fin k0_t2_loop.trips),
    (k0_cond1 (w32 n.val) t = 1#1 ↔ t.val < 7 * n.val) := by decide +kernel

/-- The rows a product reads. -/
theorem off30_n : ∀ (r : Fin 9) (k : Fin k0_t6_loop.trips) (u : Fin k0_t8_loop.trips),
    k0_off30 (w32 (16 * r.val)) k u = ![16 * r.val, 1024 * k.val + 256 * u.val] := by decide +kernel

/-- The codes of a tile of an item. -/
theorem off38_n : ∀ (r : Fin 9) (a : Fin k0_t9_loop.trips) (b : Fin k0_t10_loop.trips),
    k0_off38 (w32 (16 * r.val)) a b = ![16 * r.val + 32 * a.val, 128 * b.val] := by decide +kernel

/-- The bytes of thirty-two rows of an item. -/
theorem off39_n : ∀ (r : Fin 9) (a : Fin k0_t9_loop.trips),
    k0_off39 (w32 (16 * r.val)) a = ![16 * r.val + 32 * a.val, 0] := by decide +kernel

/-- The scales a product reads. -/
theorem off32_n : ∀ (a : Fin k0_t7_loop.trips) (u : Fin k0_t8_loop.trips) (r : Fin 8),
    k0_off32 a u (BitVec.ofNat 32 r.val) = ![8 * u.val + r.val, 256 * a.val] := by decide +kernel

/-- The block of weights a product reads. -/
theorem off31_n (n : Fin 15) (t : Fin (k0_t5_loop (w32 n.val)).trips) (k : Fin k0_t6_loop.trips) (a : Fin k0_t7_loop.trips)
    (u : Fin k0_t8_loop.trips) (r : Fin 8) :
    k0_off31 (w32 n.val) t k a u (BitVec.ofNat 32 r.val)
      = ![(7 * t.val + k.val) % 8, 32 * (8 * u.val + r.val), 256 * a.val] := by
  have h1 : k0_off31 (w32 n.val) t k a u (BitVec.ofNat 32 r.val) 0 = k0_off29 (w32 n.val) t k 0 := rfl
  have h2 : ∀ (u : Fin k0_t8_loop.trips) (r : Fin 8),
      (Scalar.muli (Scalar.addi (Scalar.muli (Scf.iv 0#32 1#32 u) 8#32) (BitVec.ofNat 32 r.val)) 32#32).toNat
        = 32 * (8 * u.val + r.val) := by decide +kernel
  have h3 : k0_off31 (w32 n.val) t k a u (BitVec.ofNat 32 r.val) 2 = k0_off33 a 1 := rfl
  rw [off29_n] at h1
  rw [k0_off33_eq] at h3
  funext i
  match i with
  | 0 => exact h1
  | 1 => exact h2 u r
  | 2 => exact h3

end Cert.Proof.Kernel

end
-- ==== Proof.P.Vals.lean ====
/- What the kernel's loops compute, as functions of what the buffers hold: one function for the body of each loop and one
   for the whole loop. -/
module

public import proofs.«01_k».proof.Proof.P.Ring
public import proofs.«01_k».proof.Proof.P.Offs

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- `n` steps of `f` from `a`. -/
def iter {α : Type} (n : ℕ) (f : Fin n → α → α) (a : α) : ℕ → α
  | 0 => a
  | k + 1 => if h : k < n then f ⟨k, h⟩ (iter n f a k) else iter n f a k

/-- One more step of an iteration. -/
theorem iter_succ {α : Type} (n : ℕ) (f : Fin n → α → α) (a : α) (k : Fin n) :
    iter n f a (k.val + 1) = f k (iter n f a k.val) := by
  rw [iter, dif_pos k.isLt]

/-! ## The rows quantised -/

/-- A tile of the rows, quantised. -/
def xqTile (v33 : Vec F S16x128 .bf16) : Vec F S16x128 .bf16 :=
  let v71 := k0_pay2 v33
  let v98 := k0_pay7 v71 k0_pay3 k0_pay4
  let v165 := k0_pay9 v98 (k0_pay8 v71 k0_pay3 k0_pay4)
  k0_pay53 (k0_pay11 (k0_pay5 v71 k0_pay3 k0_pay4) (k0_pay6 (F := F)) v98 v165) (k0_pay12 v33 v98 v165)

/-- One tile of the rows' buffer quantised in place. -/
def xqStep (t3 : Fin k0_t3_loop.trips) (t4 : Fin k0_t4_loop.trips) (X : CT F cc0_scratch0) : CT F cc0_scratch0 :=
  let V : View sig .tc _ _ _ := (Memref.whole cc0_scratch0).access (Rect.unit (s := S256x7168) (k0_off13 t3 t4) S16x128.size (k0_off13_inb t3 t4))
  V.write (Elt F) X (xqTile (V.read (Elt F) X)) Finset.univ

/-- Sixteen rows quantised. -/
def xqRow (t3 : Fin k0_t3_loop.trips) (X : CT F cc0_scratch0) : CT F cc0_scratch0 := iter k0_t4_loop.trips (xqStep t3) X k0_t4_loop.trips

/-- All rows quantised. -/
def xqAll (X : CT F cc0_scratch0) : CT F cc0_scratch0 := iter k0_t3_loop.trips xqRow X k0_t3_loop.trips

/-! ## The products -/

/-- Thirty-two rows and 256 columns of block `j` of expert `e`: those at row `32 (8 k + u)` and column `256 t`. -/
def blkW (w : CT F main_arg2) (e : Fin 13) (j : Fin 7) (t7 : Fin k0_t7_loop.trips) (t8 : Fin k0_t8_loop.trips) (u : Fin 8) : Vec F S1x32x256 .fp8e4m3 :=
  fun x => w (show S13x7168x4096.Idx from fun a => match a with
    | 0 => e
    | 1 => (⟨1024 * j.val + (32 * (8 * t8.val + u.val) + (x 1).val), by
        have h1 : (x 1).val < 32 := (x 1).isLt; have h2 : t8.val < 4 := t8.isLt; omega⟩ : Fin 7168)
    | 2 => (⟨256 * t7.val + (x 2).val, by
        have h1 : (x 2).val < 256 := (x 2).isLt; have h2 : t7.val < 16 := t7.isLt; omega⟩ : Fin 4096))

/-- The scales of block `j` of expert `e`. -/
def blkS (ws : CT F main_arg3) (e : Fin 13) (j : Fin 7) : Vec F S1x32x4096 .i8 :=
  fun x => ws (show S13x224x4096.Idx from fun a => match a with
    | 0 => e
    | 1 => (⟨32 * j.val + (x 1).val, by have h1 : (x 1).val < 32 := (x 1).isLt; omega⟩ : Fin 224)
    | 2 => x 2)

/-- The buffer of a block's scale words. -/
def scOf (ws : CT F main_arg3) (e : Fin 13) (j : Fin 7) (SC : CT F cc0_scratch3) : CT F cc0_scratch3 :=
  ((Memref.whole cc0_scratch3).access (Rect.unit (s := S32x4096) ![0, 0] S32x4096.size inb_S32x4096_S32x4096_0_0) : View sig .tc _ _ _).write (Elt F) SC
    (k0_pay54 (k0_pay20 (blkS ws e j)) (k0_pay21 (blkS ws e j))) Finset.univ

/-- A row of scale words read. -/
def rdSC (SC : CT F cc0_scratch3) (t7 : Fin k0_t7_loop.trips) (t8 : Fin k0_t8_loop.trips) (u : Fin 8) : Vec F S1x256 .i32 :=
  ((Memref.whole cc0_scratch3).access (Rect.unit (s := S32x4096) (k0_off32 t7 t8 (BitVec.ofNat 32 u.val)) S1x256.size (k0_off32_inb t7 t8 u)) : View sig .tc _ _ _).read (Elt F) SC

/-- A tile of the quantised rows read. -/
def rdX (X : CT F cc0_scratch0) (r : Fin 9) (t6 : Fin k0_t6_loop.trips) (t8 : Fin k0_t8_loop.trips) : Vec F S128x256 .bf16 :=
  ((Memref.whole cc0_scratch0).access (Rect.unit (s := S256x7168) (k0_off30 (w32 (16 * r.val)) t6 t8) S128x256.size (k0_off30_inb (w32 (16 * r.val)) (chk4_n r) t6 t8)) : View sig .tc _ _ _).read (Elt F) X

/-- The block of a row tile's products with 256 rows of the weights, added to `a`. -/
def dotStep (X : CT F cc0_scratch0) (w : CT F main_arg2) (e : Fin 13) (r : Fin 9) (SC : CT F cc0_scratch3) (t6 : Fin k0_t6_loop.trips)
    (t7 : Fin k0_t7_loop.trips) (t8 : Fin k0_t8_loop.trips) (a : FVec F S128x256 .f32) : FVec F S128x256 .f32 :=
  k0_pay56 a (rdX X r t6 t8)
    (k0_pay18 (k0_pay13 (blkW w e t6 t7 t8 0) (rdSC SC t7 t8 0)) (k0_pay14 (blkW w e t6 t7 t8 1) (rdSC SC t7 t8 1))
      (k0_pay15 (blkW w e t6 t7 t8 2) (rdSC SC t7 t8 2)) (k0_pay16 (blkW w e t6 t7 t8 3) (rdSC SC t7 t8 3))
      (k0_pay17 (blkW w e t6 t7 t8 4) (rdSC SC t7 t8 4)) (blkW w e t6 t7 t8 5) (rdSC SC t7 t8 5) (blkW w e t6 t7 t8 6) (rdSC SC t7 t8 6)
      (blkW w e t6 t7 t8 7) (rdSC SC t7 t8 7))
    (constant S128x256 .f32 0x00000000#32)

/-- The products of a row tile with one block's 256 columns. -/
def dotCol (X : CT F cc0_scratch0) (w : CT F main_arg2) (e : Fin 13) (r : Fin 9) (SC : CT F cc0_scratch3) (t6 : Fin k0_t6_loop.trips)
    (t7 : Fin k0_t7_loop.trips) : FVec F S128x256 .f32 :=
  iter k0_t8_loop.trips (dotStep X w e r SC t6 t7) (k0_pay55 (F := F)) k0_t8_loop.trips

/-- 256 columns of the sums, with one block's products. -/
def accCol (X : CT F cc0_scratch0) (w : CT F main_arg2) (e : Fin 13) (r : Fin 9) (SC : CT F cc0_scratch3) (t6 : Fin k0_t6_loop.trips)
    (t7 : Fin k0_t7_loop.trips) (A : CT F cc0_scratch4) : CT F cc0_scratch4 :=
  let V : View sig .tc _ _ _ := (Memref.whole cc0_scratch4).access (Rect.unit (s := S128x4096) (k0_off33 t7) S128x256.size (k0_off33_inb t7))
  V.write (Elt F) A (k0_pay57 (Scf.iv 0#32 1#32 t6.val) (dotCol X w e r SC t6 t7) (V.read (Elt F) A)) Finset.univ

/-- The sums with one block's products. -/
def accBlk (X : CT F cc0_scratch0) (w : CT F main_arg2) (e : Fin 13) (r : Fin 9) (SC : CT F cc0_scratch3) (t6 : Fin k0_t6_loop.trips)
    (A : CT F cc0_scratch4) : CT F cc0_scratch4 :=
  iter k0_t7_loop.trips (accCol X w e r SC t6) A k0_t7_loop.trips

/-- The scale words and the sums after one block. -/
def blkStep (X : CT F cc0_scratch0) (w : CT F main_arg2) (ws : CT F main_arg3) (e : Fin 13) (r : Fin 9) (t6 : Fin k0_t6_loop.trips)
    (z : CT F cc0_scratch3 × CT F cc0_scratch4) : CT F cc0_scratch3 × CT F cc0_scratch4 :=
  (scOf ws e t6 z.1, accBlk X w e r (scOf ws e t6 z.1) t6 z.2)

/-- The scale words and the sums after all blocks of an item. -/
def blkAll (X : CT F cc0_scratch0) (w : CT F main_arg2) (ws : CT F main_arg3) (e : Fin 13) (r : Fin 9)
    (z : CT F cc0_scratch3 × CT F cc0_scratch4) : CT F cc0_scratch3 × CT F cc0_scratch4 :=
  iter k0_t6_loop.trips (blkStep X w ws e r) z k0_t6_loop.trips

/-! ## The results' rows -/

/-- The mask of an item's own rows. -/
abbrev ownRows (r : Fin 9) (lo hi : BitVec 32) (t9 : Fin k0_t9_loop.trips) : IVec S32x128 1 := k0_pay58 (F := F) (w32 (16 * r.val)) lo hi t9

/-- What 128 columns of 32 rows of the sums give: the codes' values and the scales' words. -/
def outTile (A : CT F cc0_scratch4) (r : Fin 9) (lo hi : BitVec 32) (t9 : Fin k0_t9_loop.trips) (t10 : Fin k0_t10_loop.trips) :
    FVec F S32x128 .f32 × IVec S32x128 32 :=
  let v71 : Vec F S32x128 .f32 := ((Memref.whole cc0_scratch4).access (Rect.unit (s := S128x4096) (k0_off36 t9 t10) S32x128.size (k0_off36_inb t9 t10)) : View sig .tc _ _ _).read (Elt F) A
  let v77 : Vec F S32x128 .f32 := ((Memref.whole cc0_scratch4).access (Rect.unit (s := S128x4096) (k0_off37 t9 t10) S32x128.size (k0_off37_inb t9 t10)) : View sig .tc _ _ _).read (Elt F) A
  let v48 : IVec S32x128 1 := ownRows (F := F) r lo hi t9
  let v82 := k0_pay22 v48 v71 v77
  let v107 := k0_pay23 v48 v71 v77
  let v110 := k0_pay24
  let v143 := k0_pay25 v107 v110 0#32
  let v155 := k0_pay26 v107 v110 0#32
  let v157 := k0_pay27 v107 v110 0#32
  let v199 := k0_pay28 v143 v155 v157
  let v201 := k0_pay29 v143 v155 v157
  (k0_pay31 v82 v143 v199 v201, k0_pay30 v143 v199 v201)

/-- 128 columns of 32 rows of the results. -/
def outStep (A : CT F cc0_scratch4) (r : Fin 9) (lo hi : BitVec 32) (t9 : Fin k0_t9_loop.trips) (t10 : Fin k0_t10_loop.trips)
    (z : CT F cc0_scratch5 × IVec S32x128 32) : CT F cc0_scratch5 × IVec S32x128 32 :=
  let V : View sig .tc _ _ _ := (Memref.whole cc0_scratch5).access (Rect.unit (s := S256x2048) (k0_off38 (w32 (16 * r.val)) t9 t10) S32x128.size (k0_off38_inb (w32 (16 * r.val)) (chk4_n r) t9 t10))
  (V.write (Elt F) z.1 (k0_pay60 (w32 (16 * r.val)) lo hi t9 (outTile A r lo hi t9 t10).1 (Scalar.ofBits .f32 0xC3E00000#32) (V.read (Elt F) z.1)) Finset.univ,
    k0_pay61 z.2 (Scf.iv 0#32 1#32 t10.val) (outTile A r lo hi t9 t10).2)

/-- 32 rows of the results. -/
def outRow (A : CT F cc0_scratch4) (r : Fin 9) (lo hi : BitVec 32) (t9 : Fin k0_t9_loop.trips)
    (z : CT F cc0_scratch5 × CT F cc0_scratch6) : CT F cc0_scratch5 × CT F cc0_scratch6 :=
  let V : View sig .tc _ _ _ := (Memref.whole cc0_scratch6).access (Rect.unit (s := S256x128) (k0_off39 (w32 (16 * r.val)) t9) S32x128.size (k0_off39_inb (w32 (16 * r.val)) (chk4_n r) t9))
  let o := iter k0_t10_loop.trips (outStep A r lo hi t9) (z.1, k0_pay59) k0_t10_loop.trips
  (o.1, V.write (Elt F) z.2 (k0_pay62 (w32 (16 * r.val)) lo hi t9 o.2 (V.read (Elt F) z.2)) Finset.univ)

/-- The rows of one item. -/
def outAll (A : CT F cc0_scratch4) (r : Fin 9) (lo hi : BitVec 32) (z : CT F cc0_scratch5 × CT F cc0_scratch6) : CT F cc0_scratch5 × CT F cc0_scratch6 :=
  iter k0_t9_loop.trips (outRow A r lo hi) z k0_t9_loop.trips

end Cert.Proof.Kernel

end
-- ==== Proof.P.Comp.lean ====
/- The loops that compute, run: each ends with its buffers holding what the functions of the loops say. -/
module

public import proofs.«01_k».proof.Proof.P.Vals

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- A load through a rectangle inside a slot of the ring of weights. -/
theorem wp_ldW (c : Dev nD) (k : Fin 8) {r : Rect S8x1024x4096} {hl : (Memref.whole cc0_scratch1 : Memref sig .tc _ _ _).view.LoadsAt r.toLoadRect}
    {α : Type} {Q : α → sProp 𝕄}
    {kk : (r.shape.Idx → Elt F .fp8e4m3) → Prog (TpuEff nD τ sig (Elt F) (Λ₀ F) .tc) α} {f : CT F cc0_scratch1}
    (hs : ((Memref.whole cc0_scratch1).access r : View sig .tc _ _ _).set ⊆ setW k) :
    ownW c k f ⊢ iprop((ownW c k f -∗ run c (kk (((Memref.whole cc0_scratch1).access r : View sig .tc _ _ _).read (Elt F) f)) Q)
        -∗ run c (.op (.load (Memref.whole cc0_scratch1) r.toLoadRect hl) kk) Q) :=
  wp_load_rect 𝒱₀ (c : Thread nD τ) none Set.univ (m := Memref.whole cc0_scratch1) (r := r) hs

/-- A load through a rectangle inside a slot of the ring of scales. -/
theorem wp_ldS (c : Dev nD) (k : Fin 8) {r : Rect S8x32x4096} {hl : (Memref.whole cc0_scratch2 : Memref sig .tc _ _ _).view.LoadsAt r.toLoadRect}
    {α : Type} {Q : α → sProp 𝕄}
    {kk : (r.shape.Idx → Elt F .i8) → Prog (TpuEff nD τ sig (Elt F) (Λ₀ F) .tc) α} {f : CT F cc0_scratch2}
    (hs : ((Memref.whole cc0_scratch2).access r : View sig .tc _ _ _).set ⊆ setS k) :
    ownS c k f ⊢ iprop((ownS c k f -∗ run c (kk (((Memref.whole cc0_scratch2).access r : View sig .tc _ _ _).read (Elt F) f)) Q)
        -∗ run c (.op (.load (Memref.whole cc0_scratch2) r.toLoadRect hl) kk) Q) :=
  wp_load_rect 𝒱₀ (c : Thread nD τ) none Set.univ (m := Memref.whole cc0_scratch2) (r := r) hs

/-- A counted loop, by an invariant. -/
theorem run_for (c : Dev nD) {m : ℕ} (L : Scf.Loop m) (hok : L.OK) {σ : Type} (init : σ)
    (body : Fin L.trips → σ → Prog (TpuEff nD τ sig (Elt F) (Λ₀ F) .tc) σ) (I : ℕ → σ → sProp 𝕄)
    (hbody : ∀ (k : Fin L.trips) (a : σ), I k.val a ⊢ run c (body k a) (I (k.val + 1))) {Q : σ → sProp 𝕄} :
    iprop(I 0 init ∗ (∀ a, I L.trips a -∗ Q a)) ⊢ run c (Scf.Loop.for L hok init body) Q :=
  Scf.wp_for frame (wpE (defs₀ (F := F)) 𝒱₀ (c : Thread nD τ) none) Set.univ _ _ _ _ _ _ I hbody

/-! ## The slot's reads -/

/-- The slot of step `k` of item `t`. -/
abbrev slotAt {n : ℕ} (t : Fin n) (k : Fin k0_t6_loop.trips) : Fin 8 := slotN (7 * t.val + k.val)

/-- The block of weights a product reads is inside the slot of its tile. -/
theorem setW_off31 (n : Fin 15) (t5 : Fin (k0_t5_loop (w32 n.val)).trips) (t6 : Fin k0_t6_loop.trips) (t7 : Fin k0_t7_loop.trips) (t8 : Fin k0_t8_loop.trips) (u : Fin 8)
    (v : BitVec 32) (hv : v = BitVec.ofNat 32 u.val) (inb : ∀ a, k0_off31 (w32 n.val) t5 t6 t7 t8 v a + S1x32x256.size a ≤ S8x1024x4096.size a) :
    ((Memref.whole cc0_scratch1).access (Rect.unit (s := S8x1024x4096) (k0_off31 (w32 n.val) t5 t6 t7 t8 v) S1x32x256.size inb) : View sig .tc _ _ _).set
      ⊆ setW (slotAt t5 t6) := by
  subst hv
  intro i hi
  obtain ⟨x, -, rfl⟩ := Finset.mem_map.mp hi
  unfold setW
  rw [Finset.mem_filter]
  refine ⟨Finset.mem_univ _, ?_⟩
  have h0 : (x 0).val = 0 := Nat.lt_one_iff.mp (x 0).isLt
  show k0_off31 (w32 n.val) t5 t6 t7 t8 (BitVec.ofNat 32 u.val) 0 + 1 * (x 0).val = _
  rw [h0, off31_n]
  rfl

omit [FloatOps F] in
/-- The block of weights a product reads is the expert's. -/
theorem rd_off31 (n : Fin 15) (t5 : Fin (k0_t5_loop (w32 n.val)).trips) (t6 : Fin k0_t6_loop.trips) (t7 : Fin k0_t7_loop.trips) (t8 : Fin k0_t8_loop.trips) (u : Fin 8)
    (v : BitVec 32) (hv : v = BitVec.ofNat 32 u.val) (inb : ∀ a, k0_off31 (w32 n.val) t5 t6 t7 t8 v a + S1x32x256.size a ≤ S8x1024x4096.size a)
    (w : CT F main_arg2) (e : Fin 13) :
    ((Memref.whole cc0_scratch1).access (Rect.unit (s := S8x1024x4096) (k0_off31 (w32 n.val) t5 t6 t7 t8 v) S1x32x256.size inb) : View sig .tc _ _ _).read (Elt F) (landedW w e t6)
      = blkW w e t6 t7 t8 u := by
  subst hv
  funext x
  rw [View.read_apply]
  unfold landedW blkW
  show w _ = w _
  congr 1
  funext a
  match a with
  | 0 => rfl
  | 1 =>
    refine Fin.ext ?_
    show 1024 * t6.val + (k0_off31 (w32 n.val) t5 t6 t7 t8 (BitVec.ofNat 32 u.val) 1 + 1 * (x 1).val) = 1024 * t6.val + (32 * (8 * t8.val + u.val) + (x 1).val)
    have e1 : k0_off31 (w32 n.val) t5 t6 t7 t8 (BitVec.ofNat 32 u.val) 1 = 32 * (8 * t8.val + u.val) := congrFun (off31_n n t5 t6 t7 t8 u) 1
    rw [e1]; omega
  | 2 =>
    refine Fin.ext ?_
    show k0_off31 (w32 n.val) t5 t6 t7 t8 (BitVec.ofNat 32 u.val) 2 + 1 * (x 2).val = 256 * t7.val + (x 2).val
    have e1 : k0_off31 (w32 n.val) t5 t6 t7 t8 (BitVec.ofNat 32 u.val) 2 = 256 * t7.val := congrFun (off31_n n t5 t6 t7 t8 u) 2
    rw [e1]; omega

/-- The scales a tile reads are the slot of the tile. -/
theorem setS_off29 (n : Fin 15) (t5 : Fin (k0_t5_loop (w32 n.val)).trips) (t6 : Fin k0_t6_loop.trips) (hw : k0_chk3 (w32 n.val)) :
    ((Memref.whole cc0_scratch2).access (Rect.unit (s := S8x32x4096) (k0_off29 (w32 n.val) t5 t6) S1x32x4096.size (k0_off29_inb (w32 n.val) hw t5 t6)) : View sig .tc _ _ _).set
      ⊆ setS (slotAt t5 t6) := by
  intro i hi
  obtain ⟨x, -, rfl⟩ := Finset.mem_map.mp hi
  unfold setS
  rw [Finset.mem_filter]
  refine ⟨Finset.mem_univ _, ?_⟩
  have h0 : (x 0).val = 0 := Nat.lt_one_iff.mp (x 0).isLt
  show k0_off29 (w32 n.val) t5 t6 0 + 1 * (x 0).val = _
  rw [h0, off29_n]
  rfl

omit [FloatOps F] in
/-- The scales a tile reads are the expert's. -/
theorem rd_off29 (n : Fin 15) (t5 : Fin (k0_t5_loop (w32 n.val)).trips) (t6 : Fin k0_t6_loop.trips) (hw : k0_chk3 (w32 n.val)) (ws : CT F main_arg3) (e : Fin 13) :
    ((Memref.whole cc0_scratch2).access (Rect.unit (s := S8x32x4096) (k0_off29 (w32 n.val) t5 t6) S1x32x4096.size (k0_off29_inb (w32 n.val) hw t5 t6)) : View sig .tc _ _ _).read (Elt F) (landedS ws e t6)
      = blkS ws e t6 := by
  funext x
  rw [View.read_apply]
  unfold landedS blkS
  show ws _ = ws _
  congr 1
  funext a
  match a with
  | 0 => rfl
  | 1 =>
    refine Fin.ext ?_
    show 32 * t6.val + (k0_off29 (w32 n.val) t5 t6 1 + 1 * (x 1).val) = 32 * t6.val + (x 1).val
    have e1 : k0_off29 (w32 n.val) t5 t6 1 = 0 := congrFun (off29_n n t5 t6) 1
    rw [e1]; omega
  | 2 =>
    refine Fin.ext ?_
    show k0_off29 (w32 n.val) t5 t6 2 + 1 * (x 2).val = (x 2).val
    have e1 : k0_off29 (w32 n.val) t5 t6 2 = 0 := congrFun (off29_n n t5 t6) 2
    rw [e1]; omega

/-! ## The rows quantised -/

/-- A trip over the columns quantises one tile of the rows. -/
theorem trip4 (c : Dev nD) (t3 : Fin k0_t3_loop.trips) (v : BitVec 32) (t4 : Fin k0_t4_loop.trips) (u : Unit) (X : CT F cc0_scratch0) {K : Unit → sProp 𝕄} :
    iprop(pts c cc0_scratch0 X ∗ (pts c cc0_scratch0 (xqStep t3 t4 X) -∗ K ⟨⟩)) ⊢ run c (body4 t3 v t4 u) K := by
  iintro ⟨H, Hk⟩
  unfold body4 k0_t4_body
  simp only [k0_part1_eq_skeleton, k0_part2_eq_skeleton, k0_part3_eq_skeleton, k0_part4_eq_skeleton]
  unfold k0_part1_skel k0_part2_skel k0_part3_skel k0_part4_skel
  simp only [Prog.lift, Prog.bind_op, Prog.bind_ret, Prog.pure_eq_ret]
  iapply (wp_ld c _ (Memref.whole cc0_scratch0)) $$ H; iintro H
  iapply (wp_ld c _ (Memref.whole cc0_scratch0)) $$ H; iintro H
  iapply (wp_st c _ (Memref.whole cc0_scratch0)) $$ H; iintro H
  rw [wp_ret]; imodintro
  iapply Hk
  iexact H

/-- The loop over the columns quantises sixteen rows. -/
theorem loop4 (c : Dev nD) (t3 : Fin k0_t3_loop.trips) (v : BitVec 32) (X : CT F cc0_scratch0) {K : Unit → sProp 𝕄} :
    iprop(pts c cc0_scratch0 X ∗ (pts c cc0_scratch0 (xqRow t3 X) -∗ K ⟨⟩)) ⊢ run c (Scf.Loop.for k0_t4_loop k0_t4_ok ⟨⟩ (body4 t3 v)) K := by
  iintro ⟨H, Hk⟩
  iapply (run_for c k0_t4_loop k0_t4_ok ⟨⟩ (body4 t3 v) (fun k _ => pts c cc0_scratch0 (iter k0_t4_loop.trips (xqStep t3) X k)) (fun k u => by
    rw [iter_succ]
    iintro H
    iapply (trip4 c t3 v k u)
    isplitl [H]; · iexact H
    iintro H
    iexact H))
  isplitl [H]; · iexact H
  iintro %_ H
  iapply Hk
  iexact H

/-- A trip over the rows quantises sixteen rows. -/
theorem trip3 (c : Dev nD) (t3 : Fin k0_t3_loop.trips) (u : Unit) (X : CT F cc0_scratch0) {K : Unit → sProp 𝕄} :
    iprop(pts c cc0_scratch0 X ∗ (pts c cc0_scratch0 (xqRow t3 X) -∗ K ⟨⟩)) ⊢ run c (body3 t3 u) K := by
  iintro ⟨H, Hk⟩
  unfold body3 k0_t3_body
  simp only [Prog.lift, Prog.bind_op, Prog.bind_ret, Prog.pure_eq_ret]
  rw [run, wp_bind]
  iapply (loop4 c t3 _ X)
  isplitl [H]; · iexact H
  iintro H
  rw [wp_ret]; imodintro
  iapply Hk
  iexact H

/-- The loop over the rows quantises them all. -/
theorem loop3 (c : Dev nD) (X : CT F cc0_scratch0) {K : Unit → sProp 𝕄} :
    iprop(pts c cc0_scratch0 X ∗ (pts c cc0_scratch0 (xqAll X) -∗ K ⟨⟩)) ⊢ run c (Scf.Loop.for k0_t3_loop k0_t3_ok ⟨⟩ body3) K := by
  iintro ⟨H, Hk⟩
  iapply (run_for c k0_t3_loop k0_t3_ok ⟨⟩ body3 (fun k _ => pts c cc0_scratch0 (iter k0_t3_loop.trips xqRow X k)) (fun k u => by
    iintro H
    rw [iter_succ]
    iapply (trip3 c k u)
    isplitl [H]; · iexact H
    iintro H
    iexact H))
  isplitl [H]; · iexact H
  iintro %_ H
  iapply Hk
  iexact H

/-! ## The products -/

/-- What the products' loops hold: the quantised rows, the slot with its block, the scale words. -/
abbrev held8 (c : Dev nD) (X : CT F cc0_scratch0) (k : Fin 8) (w : CT F main_arg2) (e : Fin 13) (j : Fin 7) (SC : CT F cc0_scratch3) : sProp 𝕄 :=
  iprop(pts c cc0_scratch0 X ∗ ownW c k (landedW w e j) ∗ pts c cc0_scratch3 SC)

/-- A trip over the contraction's tiles adds one product. -/
theorem trip8 (c : Dev nD) (n : Fin 15) (hw3 : k0_chk3 (w32 n.val)) (t5 : Fin (k0_t5_loop (w32 n.val)).trips) (r : Fin 9) (hw4 : k0_chk4 (w32 (16 * r.val)))
    (v28 : BitVec 32) (t6 : Fin k0_t6_loop.trips) (v40 : BitVec 32) (t7 : Fin k0_t7_loop.trips) (v80 : BitVec 32) (t8 : Fin k0_t8_loop.trips)
    (a : FVec F S128x256 .f32) (X : CT F cc0_scratch0) (w : CT F main_arg2) (e : Fin 13) (SC : CT F cc0_scratch3) (a19 : BitVec 32)
    {K : FVec F S128x256 .f32 → sProp 𝕄} :
    iprop(held8 c X (slotAt t5 t6) w e t6 SC ∗ (∀ b, ⌜b = dotStep X w e r SC t6 t7 t8 a⌝ -∗ held8 c X (slotAt t5 t6) w e t6 SC -∗ K b))
      ⊢ run c (body8 (w32 n.val) hw3 t5 (w32 (16 * r.val)) hw4 v28 t6 a19 v40 t7 v80 t8 a) K := by
  iintro ⟨⟨HX, HW, HC⟩, Hk⟩
  unfold body8 k0_t8_body
  simp only [k0_part5_eq_skeleton, k0_part6_eq_skeleton, k0_part7_eq_skeleton]
  unfold k0_part5_skel k0_part6_skel k0_part7_skel
  simp only [Prog.lift, Prog.bind_op, Prog.bind_ret, Prog.pure_eq_ret]
  iapply (wp_ld c _ (Memref.whole cc0_scratch0)) $$ HX; iintro HX
  iapply (wp_ldW c (slotAt t5 t6) (setW_off31 n t5 t6 t7 t8 0 _ rfl _)) $$ HW; iintro HW
  rw [rd_off31 n t5 t6 t7 t8 0 _ rfl]
  iapply (wp_ld c _ (Memref.whole cc0_scratch3)) $$ HC; iintro HC
  iapply (wp_ldW c (slotAt t5 t6) (setW_off31 n t5 t6 t7 t8 1 _ rfl _)) $$ HW; iintro HW
  rw [rd_off31 n t5 t6 t7 t8 1 _ rfl]
  iapply (wp_ld c _ (Memref.whole cc0_scratch3)) $$ HC; iintro HC
  iapply (wp_ldW c (slotAt t5 t6) (setW_off31 n t5 t6 t7 t8 2 _ rfl _)) $$ HW; iintro HW
  rw [rd_off31 n t5 t6 t7 t8 2 _ rfl]
  iapply (wp_ld c _ (Memref.whole cc0_scratch3)) $$ HC; iintro HC
  iapply (wp_ldW c (slotAt t5 t6) (setW_off31 n t5 t6 t7 t8 3 _ rfl _)) $$ HW; iintro HW
  rw [rd_off31 n t5 t6 t7 t8 3 _ rfl]
  iapply (wp_ld c _ (Memref.whole cc0_scratch3)) $$ HC; iintro HC
  iapply (wp_ldW c (slotAt t5 t6) (setW_off31 n t5 t6 t7 t8 4 _ rfl _)) $$ HW; iintro HW
  rw [rd_off31 n t5 t6 t7 t8 4 _ rfl]
  iapply (wp_ld c _ (Memref.whole cc0_scratch3)) $$ HC; iintro HC
  iapply (wp_ldW c (slotAt t5 t6) (setW_off31 n t5 t6 t7 t8 5 _ rfl _)) $$ HW; iintro HW
  rw [rd_off31 n t5 t6 t7 t8 5 _ rfl]
  iapply (wp_ld c _ (Memref.whole cc0_scratch3)) $$ HC; iintro HC
  iapply (wp_ldW c (slotAt t5 t6) (setW_off31 n t5 t6 t7 t8 6 _ rfl _)) $$ HW; iintro HW
  rw [rd_off31 n t5 t6 t7 t8 6 _ rfl]
  iapply (wp_ld c _ (Memref.whole cc0_scratch3)) $$ HC; iintro HC
  iapply (wp_ldW c (slotAt t5 t6) (setW_off31 n t5 t6 t7 t8 7 _ rfl _)) $$ HW; iintro HW
  rw [rd_off31 n t5 t6 t7 t8 7 _ rfl]
  iapply (wp_ld c _ (Memref.whole cc0_scratch3)) $$ HC; iintro HC
  rw [wp_ret]; imodintro
  iapply Hk $$ %_ [] [HX HW HC]
  · ipureintro; rfl
  isplitl [HX]; · iexact HX
  isplitl [HW]; · iexact HW
  iexact HC

/-- The loop over the contraction's tiles sums their products. -/
theorem loop8 (c : Dev nD) (n : Fin 15) (hw3 : k0_chk3 (w32 n.val)) (t5 : Fin (k0_t5_loop (w32 n.val)).trips) (r : Fin 9) (hw4 : k0_chk4 (w32 (16 * r.val)))
    (v28 : BitVec 32) (t6 : Fin k0_t6_loop.trips) (v40 : BitVec 32) (t7 : Fin k0_t7_loop.trips) (v80 : BitVec 32)
    (X : CT F cc0_scratch0) (w : CT F main_arg2) (e : Fin 13) (SC : CT F cc0_scratch3) (a19 : BitVec 32)
    {K : FVec F S128x256 .f32 → sProp 𝕄} :
    iprop(held8 c X (slotAt t5 t6) w e t6 SC ∗ (held8 c X (slotAt t5 t6) w e t6 SC -∗ K (dotCol X w e r SC t6 t7)))
      ⊢ run c (Scf.Loop.for k0_t8_loop k0_t8_ok (k0_pay55 (F := F)) (body8 (w32 n.val) hw3 t5 (w32 (16 * r.val)) hw4 v28 t6 a19 v40 t7 v80)) K := by
  iintro ⟨H, Hk⟩
  iapply (run_for c k0_t8_loop k0_t8_ok (k0_pay55 (F := F)) (body8 (w32 n.val) hw3 t5 (w32 (16 * r.val)) hw4 v28 t6 a19 v40 t7 v80)
    (fun k a => iprop(⌜a = iter k0_t8_loop.trips (dotStep X w e r SC t6 t7) (k0_pay55 (F := F)) k⌝ ∗ held8 c X (slotAt t5 t6) w e t6 SC)) (fun k a => by
    iintro ⟨%ha, H⟩
    iapply (trip8 c n hw3 t5 r hw4 v28 t6 v40 t7 v80 k a X w e SC a19)
    isplitl [H]; · iexact H
    iintro %b %hb H
    isplitr
    · ipureintro; rw [hb, ha, iter_succ]
    · iexact H))
  isplitl [H]
  · isplitr
    · ipureintro; rfl
    · iexact H
  iintro %a ⟨%ha, H⟩
  have ha' : a = dotCol X w e r SC t6 t7 := ha
  rw [ha']
  iapply Hk
  iexact H

/-- A trip over the column tiles adds one tile to the accumulator. -/
theorem trip7 (c : Dev nD) (n : Fin 15) (hw3 : k0_chk3 (w32 n.val)) (t5 : Fin (k0_t5_loop (w32 n.val)).trips) (r : Fin 9) (hw4 : k0_chk4 (w32 (16 * r.val)))
    (v28 : BitVec 32) (t6 : Fin k0_t6_loop.trips) (v40 : BitVec 32) (t7 : Fin k0_t7_loop.trips)
    (u : BitVec 32) (X : CT F cc0_scratch0) (w : CT F main_arg2) (e : Fin 13) (SC : CT F cc0_scratch3) (A : CT F cc0_scratch4)
    {K : BitVec 32 → sProp 𝕄} :
    iprop((held8 c X (slotAt t5 t6) w e t6 SC ∗ pts c cc0_scratch4 A)
        ∗ (iprop(held8 c X (slotAt t5 t6) w e t6 SC ∗ pts c cc0_scratch4 (accCol X w e r SC t6 t7 A)) -∗ K 0#32))
      ⊢ run c (body7 (w32 n.val) hw3 t5 (w32 (16 * r.val)) hw4 v28 t6 (Scf.iv 0#32 1#32 t6.val) v40 t7 u) K := by
  iintro ⟨⟨H, HA⟩, Hk⟩
  unfold body7 k0_t7_body
  simp only [Prog.lift, Prog.bind_op, Prog.bind_ret, Prog.pure_eq_ret]
  rw [run, wp_bind]
  iapply (loop8 c n hw3 t5 r hw4 v28 t6 v40 t7 _ X w e SC _)
  isplitl [H]; · iexact H
  iintro H
  iapply (wp_ld c _ (Memref.whole cc0_scratch4)) $$ HA; iintro HA
  iapply (wp_ld c _ (Memref.whole cc0_scratch4)) $$ HA; iintro HA
  iapply (wp_st c _ (Memref.whole cc0_scratch4)) $$ HA; iintro HA
  rw [wp_ret]; imodintro
  iapply Hk
  isplitl [H]; · iexact H
  iexact HA

/-- The loop over the column tiles adds a chunk to the accumulator. -/
theorem loop7 (c : Dev nD) (n : Fin 15) (hw3 : k0_chk3 (w32 n.val)) (t5 : Fin (k0_t5_loop (w32 n.val)).trips) (r : Fin 9) (hw4 : k0_chk4 (w32 (16 * r.val)))
    (v28 : BitVec 32) (t6 : Fin k0_t6_loop.trips) (v40 : BitVec 32)
    (u : BitVec 32) (X : CT F cc0_scratch0) (w : CT F main_arg2) (e : Fin 13) (SC : CT F cc0_scratch3) (A : CT F cc0_scratch4)
    {K : BitVec 32 → sProp 𝕄} :
    iprop((held8 c X (slotAt t5 t6) w e t6 SC ∗ pts c cc0_scratch4 A)
        ∗ (∀ u, iprop(held8 c X (slotAt t5 t6) w e t6 SC ∗ pts c cc0_scratch4 (accBlk X w e r SC t6 A)) -∗ K u))
      ⊢ run c (Scf.Loop.for k0_t7_loop k0_t7_ok u (body7 (w32 n.val) hw3 t5 (w32 (16 * r.val)) hw4 v28 t6 (Scf.iv 0#32 1#32 t6.val) v40)) K := by
  iintro ⟨H, Hk⟩
  iapply (run_for c k0_t7_loop k0_t7_ok u (body7 (w32 n.val) hw3 t5 (w32 (16 * r.val)) hw4 v28 t6 (Scf.iv 0#32 1#32 t6.val) v40)
    (fun k _ => iprop(held8 c X (slotAt t5 t6) w e t6 SC ∗ pts c cc0_scratch4 (iter k0_t7_loop.trips (accCol X w e r SC t6) A k))) (fun k a => by
    iintro H
    iapply (trip7 c n hw3 t5 r hw4 v28 t6 v40 k a X w e SC _)
    isplitl [H]; · iexact H
    iintro H
    rw [iter_succ]
    iexact H))
  isplitl [H]; · iexact H
  iintro %u H
  iapply Hk $$ %u
  iexact H

/-! ## The results' rows -/

/-- A trip over the result's column tiles writes a tile of codes and collects its bytes. -/
theorem trip10 (c : Dev nD) (r : Fin 9) (hw4 : k0_chk4 (w32 (16 * r.val))) (lo hi : BitVec 32) (t9 : Fin k0_t9_loop.trips) (v39 : BitVec 32) (t10 : Fin k0_t10_loop.trips)
    (m : IVec S32x128 32) (A : CT F cc0_scratch4) (Y : CT F cc0_scratch5) {K : IVec S32x128 32 → sProp 𝕄} :
    iprop((pts c cc0_scratch4 A ∗ pts c cc0_scratch5 Y)
        ∗ (∀ b, ⌜b = (outStep A r lo hi t9 t10 (Y, m)).2⌝ -∗ iprop(pts c cc0_scratch4 A ∗ pts c cc0_scratch5 (outStep A r lo hi t9 t10 (Y, m)).1) -∗ K b))
      ⊢ run c (body10 (w32 (16 * r.val)) hw4 lo hi t9 v39 t10 m) K := by
  iintro ⟨⟨HA, HY⟩, Hk⟩
  unfold body10 k0_t10_body
  simp only [k0_part9_eq_skeleton, k0_part10_eq_skeleton, k0_part11_eq_skeleton, k0_part12_eq_skeleton]
  unfold k0_part9_skel k0_part10_skel k0_part11_skel k0_part12_skel
  simp only [Prog.lift, Prog.bind_op, Prog.bind_ret, Prog.pure_eq_ret]
  iapply (wp_ld c _ (Memref.whole cc0_scratch4)) $$ HA; iintro HA
  iapply (wp_ld c _ (Memref.whole cc0_scratch4)) $$ HA; iintro HA
  iapply (wp_ld c _ (Memref.whole cc0_scratch5)) $$ HY; iintro HY
  iapply (wp_ld c _ (Memref.whole cc0_scratch5)) $$ HY; iintro HY
  iapply (wp_st c _ (Memref.whole cc0_scratch5)) $$ HY; iintro HY
  rw [wp_ret]; imodintro
  iapply Hk $$ %_ [] [HA HY]
  · ipureintro; rfl
  isplitl [HA]; · iexact HA
  iexact HY

/-- A trip over the result's rows writes thirty-two rows of codes and bytes. -/
theorem trip9 (c : Dev nD) (r : Fin 9) (hw4 : k0_chk4 (w32 (16 * r.val))) (lo hi : BitVec 32) (t9 : Fin k0_t9_loop.trips)
    (u : BitVec 32) (A : CT F cc0_scratch4) (Y : CT F cc0_scratch5) (S : CT F cc0_scratch6) {K : BitVec 32 → sProp 𝕄} :
    iprop((pts c cc0_scratch4 A ∗ pts c cc0_scratch5 Y ∗ pts c cc0_scratch6 S)
        ∗ (iprop(pts c cc0_scratch4 A ∗ pts c cc0_scratch5 (outRow A r lo hi t9 (Y, S)).1 ∗ pts c cc0_scratch6 (outRow A r lo hi t9 (Y, S)).2) -∗ K 0#32))
      ⊢ run c (body9 (w32 (16 * r.val)) hw4 lo hi t9 u) K := by
  iintro ⟨⟨HA, HY, HS⟩, Hk⟩
  unfold body9 k0_t9_body
  simp only [Prog.lift, Prog.bind_op, Prog.bind_ret, Prog.pure_eq_ret]
  rw [run, wp_bind]
  iapply (run_for c k0_t10_loop k0_t10_ok k0_pay59 (body10 (w32 (16 * r.val)) hw4 lo hi t9 _)
    (fun k m => iprop(⌜m = (iter k0_t10_loop.trips (outStep A r lo hi t9) (Y, k0_pay59) k).2⌝ ∗ pts c cc0_scratch4 A
      ∗ pts c cc0_scratch5 (iter k0_t10_loop.trips (outStep A r lo hi t9) (Y, k0_pay59) k).1)) (fun k m => by
    iintro ⟨%hm, HA, HY⟩
    iapply (trip10 c r hw4 lo hi t9 _ k m A _)
    isplitl [HA HY]
    · isplitl [HA]; · iexact HA
      iexact HY
    iintro %b %hb ⟨HA, HY⟩
    rw [iter_succ, hb, hm]
    isplitr
    · ipureintro; rfl
    isplitl [HA]; · iexact HA
    iexact HY))
  isplitl [HA HY]
  · isplitr
    · ipureintro; rfl
    isplitl [HA]; · iexact HA
    iexact HY
  iintro %m ⟨%hm, HA, HY⟩
  rw [hm]
  iapply (wp_ld c _ (Memref.whole cc0_scratch6)) $$ HS; iintro HS
  iapply (wp_ld c _ (Memref.whole cc0_scratch6)) $$ HS; iintro HS
  iapply (wp_st c _ (Memref.whole cc0_scratch6)) $$ HS; iintro HS
  rw [wp_ret]; imodintro
  iapply Hk
  isplitl [HA]; · iexact HA
  isplitl [HY]; · iexact HY
  iexact HS

/-- The loop over the result's rows writes an item's codes and bytes. -/
theorem loop9 (c : Dev nD) (r : Fin 9) (hw4 : k0_chk4 (w32 (16 * r.val))) (lo hi : BitVec 32)
    (u : BitVec 32) (A : CT F cc0_scratch4) (z : CT F cc0_scratch5 × CT F cc0_scratch6) {K : BitVec 32 → sProp 𝕄} :
    iprop((pts c cc0_scratch4 A ∗ pts c cc0_scratch5 z.1 ∗ pts c cc0_scratch6 z.2)
        ∗ (∀ u, iprop(pts c cc0_scratch4 A ∗ pts c cc0_scratch5 (outAll A r lo hi z).1 ∗ pts c cc0_scratch6 (outAll A r lo hi z).2) -∗ K u))
      ⊢ run c (Scf.Loop.for k0_t9_loop k0_t9_ok u (body9 (w32 (16 * r.val)) hw4 lo hi)) K := by
  iintro ⟨H, Hk⟩
  iapply (run_for c k0_t9_loop k0_t9_ok u (body9 (w32 (16 * r.val)) hw4 lo hi)
    (fun k _ => iprop(pts c cc0_scratch4 A ∗ pts c cc0_scratch5 (iter k0_t9_loop.trips (outRow A r lo hi) z k).1
      ∗ pts c cc0_scratch6 (iter k0_t9_loop.trips (outRow A r lo hi) z k).2)) (fun k a => by
    iintro H
    iapply (trip9 c r hw4 lo hi k a A _ _)
    isplitl [H]; · iexact H
    iintro H
    rw [iter_succ]
    iexact H))
  isplitl [H]; · iexact H
  iintro %u H
  iapply Hk $$ %u
  iexact H

end Cert.Proof.Kernel

end
-- ==== Proof.P.Sched.lean ====
/- The table of work items: what the kernel's first loop writes there. An item names an expert, the first row of a block of
   128 rows, and the rows `lo … hi - 1` of that block that belong to the expert. -/
module

public import proofs.«01_k».proof.Proof.P.Base

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The rows of the experts -/

/-- The size of group `k`, zero past the last group. -/
def gsN (g : CT F cc0_stg0_0) (k : ℕ) : ℕ := if h : k < 13 then (show BitVec 32 from g (ixG ⟨k, h⟩)).toNat else 0

/-- The first row of group `k`. -/
def rowS (g : CT F cc0_stg0_0) (k : ℕ) : ℕ := ∑ j ∈ Finset.range k, gsN g j

omit [FloatOps F] in
/-- A group's end is its start and its size. -/
theorem rowS_succ (g : CT F cc0_stg0_0) (k : ℕ) : rowS g (k + 1) = rowS g k + gsN g k := Finset.sum_range_succ _ _

omit [FloatOps F] in
/-- The groups' starts increase. -/
theorem rowS_mono (g : CT F cc0_stg0_0) {a b : ℕ} (h : a ≤ b) : rowS g a ≤ rowS g b := by
  induction b, h using Nat.le_induction with
  | base => exact le_rfl
  | succ b _ ih => rw [rowS_succ]; omega

/-! ## Items -/

/-- Item `i` of the table is one of an expert's. -/
def ItemOk (g : CT F cc0_stg0_0) (f : CT F cc0_scratch7) (i : Fin 32) : Prop :=
  ∃ (e : Fin 13) (q : Fin 9), tw f 0 i = w32 e.val ∧ tw f 1 i = w32 (16 * q.val)
    ∧ rowS g e.val ≤ (tw f 2 i).toNat ∧ (tw f 3 i).toNat ≤ rowS g (e.val + 1)
    ∧ 16 * q.val ≤ (tw f 2 i).toNat ∧ (tw f 3 i).toNat ≤ 16 * q.val + 128 ∧ (tw f 3 i).toNat ≤ 256
    ∧ (tw f 2 i).toNat ≤ 256

/-- The table's first `n` items are items, and they cover the rows before `r`. -/
def Items (g : CT F cc0_stg0_0) (f : CT F cc0_scratch7) (n r : ℕ) : Prop :=
  (∀ i : Fin 32, i.val < n → ItemOk g f i)
    ∧ ∀ ρ < r, ∃ i : Fin 32, i.val < n ∧ (tw f 2 i).toNat ≤ ρ ∧ ρ < (tw f 3 i).toNat

omit [FloatOps F] in
/-- No item covers no row. -/
theorem Items.zero (g : CT F cc0_stg0_0) (f : CT F cc0_scratch7) : Items g f 0 0 :=
  ⟨fun _ h => absurd h (Nat.not_lt_zero _), fun _ h => absurd h (Nat.not_lt_zero _)⟩

omit [FloatOps F] in
/-- One more item covers the rows up to its end. -/
theorem Items.snoc {g : CT F cc0_stg0_0} {f f' : CT F cc0_scratch7} {n r r' : ℕ} (hn : n < 32) (h : Items g f n r)
    (heq : ∀ (a : Fin 4) (i : Fin 32), i.val ≠ n → tw f' a i = tw f a i) (hi : ItemOk g f' ⟨n, hn⟩)
    (hlo : (tw f' 2 ⟨n, hn⟩).toNat = r) (hhi : (tw f' 3 ⟨n, hn⟩).toNat = r') : Items g f' (n + 1) r' := by
  constructor
  · intro i hin
    by_cases hc : i.val = n
    · have : i = ⟨n, hn⟩ := Fin.ext hc
      rw [this]; exact hi
    · have := h.1 i (by omega)
      unfold ItemOk at this ⊢
      simpa only [heq _ _ hc] using this
  · intro ρ hρ
    by_cases hc : ρ < r
    · obtain ⟨i, h1, h2, h3⟩ := h.2 ρ hc
      have hne : i.val ≠ n := by omega
      exact ⟨i, by omega, by rw [heq _ _ hne]; exact h2, by rw [heq _ _ hne]; exact h3⟩
    · exact ⟨⟨n, hn⟩, Nat.lt_succ_self n, by rw [hlo]; omega, by rw [hhi]; exact hρ⟩

/-! ## The words of one item -/

/-- An item's first row is a multiple of sixteen, at most 128. -/
theorem row0_w : ∀ r : Fin 257, Scalar.minsi (Scalar.andi (w32 r.val) 4294967280#32) 128#32 = w32 (16 * min (r.val / 16) 8) := by
  decide +kernel

/-- An item's end is the group's, or its first row and 128. -/
theorem hi_w : ∀ (s : Fin 257) (q : Fin 9),
    Scalar.minsi (w32 s.val) (Scalar.addi (w32 (16 * q.val)) 128#32) = w32 (min s.val (16 * q.val + 128)) := by
  decide +kernel

/-- Row numbers compare as words as they do as numbers. -/
theorem slt_w (r s : Fin 257) : (Scalar.cmpi .slt (w32 r.val) (w32 s.val) = 1#1) ↔ r.val < s.val := by
  have h1 := r.isLt
  have h2 := s.isLt
  have e : Scalar.cmpi .slt (w32 r.val) (w32 s.val) = BitVec.ofBool ((w32 r.val).slt (w32 s.val)) := rfl
  rw [e]
  have hb : ∀ b : Bool, BitVec.ofBool b = 1#1 ↔ b = true := by decide
  rw [hb, BitVec.slt, decide_eq_true_eq]
  have t1 : (w32 r.val).toInt = r.val := by
    rw [BitVec.toInt_eq_toNat_of_lt (by rw [BitVec.toNat_ofNat]; omega), BitVec.toNat_ofNat]; omega
  have t2 : (w32 s.val).toInt = s.val := by
    rw [BitVec.toInt_eq_toNat_of_lt (by rw [BitVec.toNat_ofNat]; omega), BitVec.toNat_ofNat]; omega
  rw [t1, t2]; omega

/-- Words add as numbers do. -/
theorem addi_w (a b : ℕ) : Scalar.addi (w32 a) (w32 b) = w32 (a + b) := by
  show w32 a + w32 b = _
  rw [w32, w32, w32, BitVec.ofNat_add]

/-- A small number is its word's. -/
theorem toNat_w (a : ℕ) (h : a < 2 ^ 32) : (w32 a).toNat = a := by
  rw [w32, BitVec.toNat_ofNat]; exact Nat.mod_eq_of_lt h

/-- How many items an expert still needs: from row `r` to its end `s`. -/
def need (r s : ℕ) : ℕ := if r < s then (if r < 128 ∧ 16 * (r / 16) + 128 < s then 2 else 1) else 0

/-- The last row of the item at row `r`. -/
abbrev hiOf (r s : ℕ) : ℕ := min s (16 * min (r / 16) 8 + 128)

/-- One item less is needed after an item. -/
theorem need_step {r s : ℕ} (hs : s ≤ 256) (h : r < s) : need r s = need (hiOf r s) s + 1 := by
  unfold need hiOf
  by_cases hc : r < 128 ∧ 16 * (r / 16) + 128 < s
  · rw [if_pos h, if_pos hc]
    have e : min s (16 * min (r / 16) 8 + 128) = 16 * (r / 16) + 128 := by omega
    rw [e, if_pos hc.2, if_neg (by omega)]
  · rw [if_pos h, if_neg hc]
    have e : min s (16 * min (r / 16) 8 + 128) = s := by omega
    rw [e, if_neg (by omega)]

/-- The table with the words of item `n` entered. -/
abbrev putItem (f : CT F cc0_scratch7) (n : ℕ) (hw : k0_chk1 (w32 n)) (a b l h : BitVec 32) : CT F cc0_scratch7 :=
  let V2 : View sig .tc _ _ _ := (Memref.whole cc0_scratch7).access (Rect.unit (s := S4x32) (k0_off2 (w32 n)) S1x1.size (k0_off2_inb (w32 n) hw))
  let V3 : View sig .tc _ _ _ := (Memref.whole cc0_scratch7).access (Rect.unit (s := S4x32) (k0_off3 (w32 n)) S1x1.size (k0_off3_inb (w32 n) hw))
  let V4 : View sig .tc _ _ _ := (Memref.whole cc0_scratch7).access (Rect.unit (s := S4x32) (k0_off4 (w32 n)) S1x1.size (k0_off4_inb (w32 n) hw))
  let V5 : View sig .tc _ _ _ := (Memref.whole cc0_scratch7).access (Rect.unit (s := S4x32) (k0_off5 (w32 n)) S1x1.size (k0_off5_inb (w32 n) hw))
  V5.write (Elt F) (V4.write (Elt F) (V3.write (Elt F) (V2.write (Elt F) f (fun _ => a) Finset.univ) (fun _ => b) Finset.univ)
    (fun _ => l) Finset.univ) (fun _ => h) Finset.univ

omit [FloatOps F] in
/-- The table of items after one item is written. -/
theorem tw_putItem (f : CT F cc0_scratch7) (n : ℕ) (hn : n < 32) (hw : k0_chk1 (w32 n)) (a b l h : BitVec 32) (r : Fin 4) (i : Fin 32) :
    tw (putItem f n hw a b l h) r i
      = if i.val = n then (if r = 0 then a else if r = 1 then b else if r = 2 then l else h) else tw f r i := by
  have o2 : k0_off2 (w32 n) = ![(0 : Fin 4).val, (⟨n, hn⟩ : Fin 32).val] := by
    show ![0, (w32 n).toNat] = _; rw [toNat_w n (by omega)]; rfl
  have o3 : k0_off3 (w32 n) = ![(1 : Fin 4).val, (⟨n, hn⟩ : Fin 32).val] := by
    show ![1, (w32 n).toNat] = _; rw [toNat_w n (by omega)]; rfl
  have o4 : k0_off4 (w32 n) = ![(2 : Fin 4).val, (⟨n, hn⟩ : Fin 32).val] := by
    show ![2, (w32 n).toNat] = _; rw [toNat_w n (by omega)]; rfl
  have o5 : k0_off5 (w32 n) = ![(3 : Fin 4).val, (⟨n, hn⟩ : Fin 32).val] := by
    show ![3, (w32 n).toNat] = _; rw [toNat_w n (by omega)]; rfl
  unfold putItem
  rw [tw_write _ 3 ⟨n, hn⟩ o5, tw_write _ 2 ⟨n, hn⟩ o4, tw_write _ 1 ⟨n, hn⟩ o3, tw_write _ 0 ⟨n, hn⟩ o2]
  by_cases hi : i.val = n
  · have : i = ⟨n, hn⟩ := Fin.ext hi
    subst this
    rw [if_pos rfl]
    fin_cases r <;> simp
  · have : i ≠ ⟨n, hn⟩ := fun h => hi (congrArg Fin.val h)
    simp only [this, _root_.and_false, if_false, if_neg hi]

/-- The loop over the experts counts them. -/
theorem iv_w : ∀ t : Fin k0_t1_loop.trips, Scf.iv 0#32 1#32 t.val = w32 t.val := by decide

omit [FloatOps F] in
/-- Writing one item covers the rows up to its end. -/
theorem items_step (g : CT F cc0_stg0_0) (e : Fin 13) (hS : rowS g (e.val + 1) ≤ 256) {r n : ℕ} (hn : n < 32)
    (hr : rowS g e.val ≤ r) (hrs : r < rowS g (e.val + 1)) (f : CT F cc0_scratch7) (hf : Items g f n r) (hw : k0_chk1 (w32 n)) :
    Items g (putItem f n hw (w32 e.val) (w32 (16 * min (r / 16) 8)) (w32 r) (w32 (hiOf r (rowS g (e.val + 1))))) (n + 1)
      (hiOf r (rowS g (e.val + 1))) := by
  have hh : hiOf r (rowS g (e.val + 1)) ≤ 256 := by unfold hiOf; omega
  refine Items.snoc hn hf (fun a i hi => by rw [tw_putItem _ _ hn, if_neg hi]) ?_
    (by rw [tw_putItem _ _ hn, if_pos rfl]; exact toNat_w r (by omega))
    (by rw [tw_putItem _ _ hn, if_pos rfl]; exact toNat_w _ (by omega))
  refine ⟨e, ⟨min (r / 16) 8, by omega⟩, ?_⟩
  simp only [tw_putItem _ _ hn, if_true]
  refine ⟨?_, ?_, ?_⟩
  · trivial
  · trivial
  show _ ≤ (w32 r).toNat ∧ (w32 (hiOf r (rowS g (e.val + 1)))).toNat ≤ _ ∧ _ ≤ (w32 r).toNat
    ∧ (w32 (hiOf r (rowS g (e.val + 1)))).toNat ≤ _ ∧ (w32 (hiOf r (rowS g (e.val + 1)))).toNat ≤ _ ∧ (w32 r).toNat ≤ _
  rw [toNat_w r (by omega), toNat_w _ (by omega)]
  unfold hiOf
  refine ⟨hr, ?_, ?_, ?_, ?_, ?_⟩ <;> omega

/-! ## The while loop -/

/-- The while loop of expert `e` entered at row `r` with `n` items in the table: it leaves the table with the expert's
    items entered too. -/
theorem while_run (c : Dev nD) (g : CT F cc0_stg0_0) (t : Fin k0_t1_loop.trips) (e : Fin 13) (he : t.val = e.val)
    (hS : rowS g (e.val + 1) ≤ 256) :
    ∀ (k r n : ℕ), need r (rowS g (e.val + 1)) = k → rowS g e.val ≤ r → r ≤ rowS g (e.val + 1) → n + k ≤ 14 →
      ∀ (f : CT F cc0_scratch7), Items g f n r → ∀ (K : BitVec 32 × BitVec 32 → sProp 𝕄),
      iprop(pts c cc0_scratch7 f ∗ (∀ f' : CT F cc0_scratch7, ⌜Items g f' (n + k) (rowS g (e.val + 1))⌝ -∗ pts c cc0_scratch7 f'
          -∗ K (w32 (n + k), w32 (rowS g (e.val + 1)))))
        ⊢ wp frame (wpE (defs₀ (F := F)) 𝒱₀ (c : Thread nD τ) (some k)) Set.univ
            (cc0_while1 t (w32 (rowS g (e.val + 1))) (Memref.whole cc0_scratch7) (Memref.isWhole_whole _) (w32 n) (w32 r)) K := by
  intro k
  induction k with
  | zero =>
    intro r n hk hr hr' hn f hf K
    have hrs : ¬ r < rowS g (e.val + 1) := by
      intro h; rw [need_step hS h] at hk; omega
    have hreq : r = rowS g (e.val + 1) := by omega
    have hc : ¬ (Scalar.cmpi .slt (w32 r) (w32 (rowS g (e.val + 1))) = 1#1) := by
      rw [slt_w ⟨r, by omega⟩ ⟨rowS g (e.val + 1), by omega⟩]; exact hrs
    rw [cc0_while1_eq_skeleton]; unfold cc0_while1_skel
    simp only [if_neg hc, Prog.pure_eq_ret]
    iintro ⟨Hf, Hk⟩
    rw [wp_ret]; imodintro
    rw [Nat.add_zero, ← hreq]
    ispecialize Hk $$ %f
    iapply Hk $$ [] [Hf]
    · ipureintro; exact hf
    · iexact Hf
  | succ k ih =>
    intro r n hk hr hr' hn f hf K
    have hrs : r < rowS g (e.val + 1) := by
      by_contra h; unfold need at hk; rw [if_neg h] at hk; omega
    have hc : Scalar.cmpi .slt (w32 r) (w32 (rowS g (e.val + 1))) = 1#1 :=
      (slt_w ⟨r, by omega⟩ ⟨rowS g (e.val + 1), by omega⟩).mpr hrs
    rw [cc0_while1_eq_skeleton]; unfold cc0_while1_skel
    simp only [if_pos hc, smemLoad, smemLoadElt, Prog.lift, Prog.bind_op, Prog.bind_ret, Prog.pure_eq_ret]
    have hn32 : n < 32 := by omega
    have o2 : k0_off2 (w32 n) = ![0, n] := by
      show ![0, (w32 n).toNat] = _; rw [toNat_w n (by omega)]
    have o3 : k0_off3 (w32 n) = ![1, n] := by
      show ![1, (w32 n).toNat] = _; rw [toNat_w n (by omega)]
    have o4 : k0_off4 (w32 n) = ![2, n] := by
      show ![2, (w32 n).toNat] = _; rw [toNat_w n (by omega)]
    have o5 : k0_off5 (w32 n) = ![3, n] := by
      show ![3, (w32 n).toNat] = _; rw [toNat_w n (by omega)]
    iintro ⟨Hf, Hk⟩
    iapply (wp_assume 𝒱₀ (c : Thread nD τ) _ Set.univ (chk1_n ⟨n, hn32⟩))
    iapply (wp_ld c _ (Memref.whole cc0_scratch7)) $$ Hf; iintro Hf
    iapply (wp_st c _ (Memref.whole cc0_scratch7)) $$ Hf; iintro Hf
    iapply (wp_ld c _ (Memref.whole cc0_scratch7)) $$ Hf; iintro Hf
    iapply (wp_st c _ (Memref.whole cc0_scratch7)) $$ Hf; iintro Hf
    iapply (wp_ld c _ (Memref.whole cc0_scratch7)) $$ Hf; iintro Hf
    iapply (wp_st c _ (Memref.whole cc0_scratch7)) $$ Hf; iintro Hf
    iapply (wp_ld c _ (Memref.whole cc0_scratch7)) $$ Hf; iintro Hf
    iapply (wp_st c _ (Memref.whole cc0_scratch7)) $$ Hf; iintro Hf
    have hq : min (r / 16) 8 < 9 := by omega
    have hr0 := row0_w ⟨r, by omega⟩
    have hhi := hi_w ⟨rowS g (e.val + 1), by omega⟩ ⟨min (r / 16) 8, hq⟩
    have hstep := need_step hS hrs
    have hadd : Scalar.addi (w32 n) 1#32 = w32 (n + 1) := addi_w n 1
    dsimp only at hr0 hhi
    simp only [hr0, hhi, hadd]
    iapply (wp_call 𝒱₀ (c : Thread nD τ) (some (k + 1)) Set.univ k (fun u hu => by cases hu; exact Nat.lt_succ_self k))
    have hlast : need (hiOf r (rowS g (e.val + 1))) (rowS g (e.val + 1)) = k := by omega
    have hI := ih (hiOf r (rowS g (e.val + 1))) (n + 1) hlast (by unfold hiOf; omega) (by unfold hiOf; omega) (by omega)
    have hw : k0_chk1 (w32 n) := chk1_n ⟨n, hn32⟩
    have hput := items_step g e hS hn32 hr hrs f hf hw
    have hiv : Scf.iv 0#32 1#32 t.val = w32 e.val := by rw [iv_w, he]
    simp only [hiv]
    iapply (hI _ hput _) $$ [Hf Hk]
    isplitl [Hf]; · iexact Hf
    rw [show n + 1 + k = n + (k + 1) by omega]
    iintro %f' %hf' Hf'
    rw [wp_ret]; imodintro
    ispecialize Hk $$ %f'
    iapply Hk $$ [] [Hf']
    · ipureintro; exact hf'
    · iexact Hf'

/-! ## The loop over the experts -/

/-- After `k` experts the table holds their items, and not more than `k` of them, or `k + 1` once half of the rows are
    passed. -/
def inv1 (c : Dev nD) (g : CT F cc0_stg0_0) (k : ℕ) (a : BitVec 32 × BitVec 32) : sProp 𝕄 :=
  iprop(∃ (f : CT F cc0_scratch7) (n : ℕ), ⌜a = (w32 n, w32 (rowS g k)) ∧ Items g f n (rowS g k)
      ∧ n ≤ k + (if 128 ≤ rowS g k then 1 else 0)⌝ ∗ pts c cc0_stg0_0 g ∗ pts c cc0_scratch7 f)

/-- A trip over the experts writes the items of one expert. -/
theorem trip1 (c : Dev nD) (g : CT F cc0_stg0_0) (hS : rowS g 13 ≤ 256) (t : Fin k0_t1_loop.trips) (a : BitVec 32 × BitVec 32) :
    inv1 c g t.val a ⊢ wp frame (wpE (defs₀ (F := F)) 𝒱₀ (c : Thread nD τ) none) Set.univ
      (body1 t a) (inv1 c g (t.val + 1)) := by
  have ht : t.val < 13 := t.isLt
  unfold inv1
  iintro ⟨%f, %n, %h, Hg, Hf⟩
  obtain ⟨rfl, hf, hn⟩ := h
  unfold body1 k0_t1_body
  simp only [smemLoad, smemLoadElt, Prog.lift, Prog.bind_op, Prog.bind_ret, Prog.pure_eq_ret]
  iapply (wp_ld c _ (Memref.whole cc0_stg0_0)) $$ Hg; iintro Hg
  have hrd := rd_gs g ⟨t.val, ht⟩ (k0_off1_eq t) (k0_off1_inb t) (Shape.Idx.first (numel1_S1.symm ▸ Nat.one_pos))
  have hword : @Eq (BitVec 32) (g (ixG ⟨t.val, ht⟩)) (w32 (gsN g t.val)) := by
    unfold gsN; rw [dif_pos ht, w32, BitVec.ofNat_toNat, BitVec.setWidth_eq]
  have hS' : rowS g (t.val + 1) ≤ 256 := (rowS_mono g (by omega)).trans hS
  have hadd : Scalar.addi (w32 (rowS g t.val)) (w32 (gsN g t.val)) = w32 (rowS g (t.val + 1)) := by
    rw [addi_w, rowS_succ]
  erw [hrd]
  erw [hword]
  simp only [hadd]
  have hm : rowS g t.val ≤ rowS g (t.val + 1) := rowS_mono g (by omega)
  have hneed : n + need (rowS g t.val) (rowS g (t.val + 1)) ≤ (t.val + 1) + (if 128 ≤ rowS g (t.val + 1) then 1 else 0) := by
    unfold need
    split_ifs at hn ⊢ <;> omega
  iapply (wp_call 𝒱₀ (c : Thread nD τ) none Set.univ (need (rowS g t.val) (rowS g (t.val + 1))) (fun u hu => nomatch hu))
  iapply (while_run c g t ⟨t.val, ht⟩ rfl hS' _ (rowS g t.val) n rfl le_rfl hm (show n + need (rowS g t.val) (rowS g (t.val + 1)) ≤ 14 by split_ifs at hneed <;> omega) f hf _)
  isplitl [Hf]; · iexact Hf
  iintro %f' %hf' Hf'
  rw [wp_ret]; imodintro
  iexists f', _
  isplitr
  · ipureintro; exact ⟨rfl, hf', hneed⟩
  isplitl [Hg]; · iexact Hg
  iexact Hf'

end Cert.Proof.Kernel

end
-- ==== Proof.P.Flow.lean ====
/- The copies of the weights: how many blocks are on their way, and the loops over blocks and items. -/
module

public import proofs.«01_k».proof.Proof.P.Comp
public import proofs.«01_k».proof.Proof.P.Sched

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- A table place. -/
def fi (i : ℕ) : Fin 32 := ⟨i % 32, Nat.mod_lt _ (by decide)⟩

/-- The block of step `s`. -/
def gOf (eN : ℕ → Fin 13) (s : ℕ) : Fin 13 × Fin 7 := (eN (s / 7), ⟨s % 7, Nat.mod_lt _ (by decide)⟩)

/-- The expert and the chunk of a step. -/
theorem gOf_step (eN : ℕ → Fin 13) (t : ℕ) (k : Fin k0_t6_loop.trips) : gOf eN (7 * t + k.val) = (eN t, k) := by
  have hk : k.val < 7 := k.isLt
  unfold gOf
  have h1 : (7 * t + k.val) / 7 = t := by omega
  have h2 : (7 * t + k.val) % 7 = k.val := by omega
  refine Prod.ext ?_ (Fin.ext ?_)
  · show eN ((7 * t + k.val) / 7) = eN t; rw [h1]
  · show (7 * t + k.val) % 7 = k.val; exact h2

/-- The table's first `n` items are of the experts `eN` and begin at the rows `16 rN`. -/
def Tab (f : CT F cc0_scratch7) (n : ℕ) (eN : ℕ → Fin 13) (rN : ℕ → Fin 9) : Prop :=
  ∀ i < n, tw f 0 (fi i) = w32 (eN i).val ∧ tw f 1 (fi i) = w32 (16 * (rN i).val)

/-! ## Slices by their offsets -/

/-- A slot of the ring of weights, at the offsets the kernel computes. -/
theorem slotW_of (k : Fin 8) {off : Fin 3 → ℕ} (h : off = ![k.val, 0, 0]) (inb : ∀ a, off a + S1x1024x4096.size a ≤ S8x1024x4096.size a) :
    ((Memref.whole cc0_scratch1 : Memref sig .tc _ _ _).slice (Rect.unit (s := S8x1024x4096) off S1x1024x4096.size inb) (fun _ => rfl)).squeeze
      S1024x4096 squeezes_S1x1024x4096_S1024x4096 = slotW k := by subst h; rfl

/-- A slot of the ring of scales, at the offsets the kernel computes. -/
theorem slotS_of (k : Fin 8) {off : Fin 3 → ℕ} (h : off = ![k.val, 0, 0]) (inb : ∀ a, off a + S1x32x4096.size a ≤ S8x32x4096.size a) :
    ((Memref.whole cc0_scratch2 : Memref sig .tc _ _ _).slice (Rect.unit (s := S8x32x4096) off S1x32x4096.size inb) (fun _ => rfl)).squeeze
      S32x4096 squeezes_S1x32x4096_S32x4096 = slotS k := by subst h; rfl

/-- A chunk of an expert's weights, at the offsets the kernel computes. -/
theorem srcW_of (e : Fin 13) (j : Fin 7) {off : Fin 3 → ℕ} (h : off = ![e.val, 1024 * j.val, 0]) (inb : ∀ a, off a + S1x1024x4096.size a ≤ S13x7168x4096.size a) :
    ((Memref.whole main_arg2 : Memref sig .tc _ _ _).slice (Rect.unit (s := S13x7168x4096) off S1x1024x4096.size inb) (fun _ => rfl)).squeeze
      S1024x4096 squeezes_S1x1024x4096_S1024x4096 = srcW e j := by subst h; rfl

/-- A chunk of an expert's scales, at the offsets the kernel computes. -/
theorem srcS_of (e : Fin 13) (j : Fin 7) {off : Fin 3 → ℕ} (h : off = ![e.val, 32 * j.val, 0]) (inb : ∀ a, off a + S1x32x4096.size a ≤ S13x224x4096.size a) :
    ((Memref.whole main_arg3 : Memref sig .tc _ _ _).slice (Rect.unit (s := S13x224x4096) off S1x32x4096.size inb) (fun _ => rfl)).squeeze
      S32x4096 squeezes_S1x32x4096_S32x4096 = srcS e j := by subst h; rfl

/-- A slot's semaphore of the weights, at the offset the kernel computes. -/
theorem semW_of (k : Fin 8) {off : Fin 1 → ℕ} (h : off = ![k.val]) (inb : ∀ a, off a + S1.size a ≤ S8.size a) :
    ((cc0_scratch9.slice (Rect.unit (s := S8) off S1.size inb)).squeeze S_ squeezes_S1_S_).sem = semW k := by subst h; rfl

/-- A slot's semaphore of the scales, at the offset the kernel computes. -/
theorem semS_of (k : Fin 8) {off : Fin 1 → ℕ} (h : off = ![k.val]) (inb : ∀ a, off a + S1.size a ≤ S8.size a) :
    ((cc0_scratch10.slice (Rect.unit (s := S8) off S1.size inb)).squeeze S_ squeezes_S1_S_).sem = semS k := by subst h; rfl

/-- The amount of a copy of weights. -/
theorem crdW_of (off : Fin 3 → ℕ) (inb : ∀ a, off a + S1x1024x4096.size a ≤ S8x1024x4096.size a) :
    (((Memref.whole cc0_scratch1 : Memref sig .tc _ _ _).slice (Rect.unit (s := S8x1024x4096) off S1x1024x4096.size inb) (fun _ => rfl)).squeeze
      S1024x4096 squeezes_S1x1024x4096_S1024x4096).view.dmaCredit = amtW := rfl

/-- The amount of a copy of scales. -/
theorem crdS_of (off : Fin 3 → ℕ) (inb : ∀ a, off a + S1x32x4096.size a ≤ S8x32x4096.size a) :
    (((Memref.whole cc0_scratch2 : Memref sig .tc _ _ _).slice (Rect.unit (s := S8x32x4096) off S1x32x4096.size inb) (fun _ => rfl)).squeeze
      S32x4096 squeezes_S1x32x4096_S32x4096).view.dmaCredit = amtS := rfl

/-- Where the expert of a first copy is read. -/
theorem off6_n : ∀ t : Fin k0_t2_loop.trips, k0_off6 t = ![0, t.val / 7] := by decide +kernel
/-- The semaphore of the weights of a first copy. -/
theorem off7_n : ∀ t : Fin k0_t2_loop.trips, k0_off7 t = ![t.val % 8] := by decide +kernel
/-- The slot of the weights of a first copy. -/
theorem off8_n : ∀ t : Fin k0_t2_loop.trips, k0_off8 t = ![t.val % 8, 0, 0] := by decide +kernel
/-- The semaphore of the scales of a first copy. -/
theorem off10_n : ∀ t : Fin k0_t2_loop.trips, k0_off10 t = ![t.val % 8] := by decide +kernel
/-- The slot of the scales of a first copy. -/
theorem off11_n : ∀ t : Fin k0_t2_loop.trips, k0_off11 t = ![t.val % 8, 0, 0] := by decide +kernel

/-! ## The first copies -/

/-- A trip over the first copies starts one tile if there is one. -/
theorem trip2 (c : Dev nD) (n : Fin 15) (f : CT F cc0_scratch7) (eN : ℕ → Fin 13) (rN : ℕ → Fin 9) (hT : Tab f n.val eN rN)
    (w : CT F main_arg2) (ws : CT F main_arg3) (t : Fin k0_t2_loop.trips) (u : Unit) {K : Unit → sProp 𝕄} :
    iprop((pts c cc0_scratch7 f ∗ ring c w ws (win (gOf eN) 0 (min t.val (7 * n.val))))
        ∗ (iprop(pts c cc0_scratch7 f ∗ ring c w ws (win (gOf eN) 0 (min (t.val + 1) (7 * n.val)))) -∗ K ⟨⟩))
      ⊢ run c (body2 (w32 n.val) t u) K := by
  have ht : t.val < 7 := t.isLt
  iintro ⟨⟨Hf, Hr⟩, Hk⟩
  unfold body2 k0_t2_body
  by_cases hc : t.val < 7 * n.val
  · simp only [dif_pos ((cond1_n n t).mpr hc), smemLoad, smemLoadElt, Prog.lift, Prog.bind_op, Prog.bind_ret, Prog.pure_eq_ret]
    have hb1 : min t.val (7 * n.val) = t.val := by omega
    have hb2 : min (t.val + 1) (7 * n.val) = t.val + 1 := by omega
    rw [hb1, hb2]
    have hi : t.val / 7 = 0 := by omega
    have hrd := rd_items f 0 (fi (t.val / 7)) ((off6_n t).trans (by rw [hi]; rfl)) (k0_off6_inb t) (Shape.Idx.first (numel1_S1x1.symm ▸ Nat.one_pos))
    have hword : @Eq (BitVec 32) (tw f 0 (fi (t.val / 7))) (w32 (eN (t.val / 7)).val) := (hT _ (by omega)).1
    iapply (wp_ld c _ (Memref.whole cc0_scratch7)) $$ Hf; iintro Hf
    erw [hrd]
    erw [hword]
    iapply (wp_assume 𝒱₀ (c : Thread nD τ) _ Set.univ (chk2_n n t (eN (t.val / 7))))
    iapply (wp_start c (win (gOf eN) 0 t.val) (slotN t.val) (win_next _ (Nat.zero_le _) (by omega)) (eN (t.val / 7)) ⟨t.val % 7, Nat.mod_lt _ (by decide)⟩ w ws
      (srcW_of _ _ (off9_n t _) _) (slotW_of _ (off8_n t) _) (semW_of _ (off7_n t) _)
      (srcS_of _ _ (off12_n t _) _) (slotS_of _ (off11_n t) _) (semS_of _ (off10_n t) _)) $$ Hr
    iintro Hr
    have hst : Function.update (win (gOf eN) 0 t.val) (slotN t.val) (some (eN (t.val / 7), ⟨t.val % 7, Nat.mod_lt _ (by decide)⟩))
        = win (gOf eN) 0 (t.val + 1) := win_start (gOf eN) (Nat.zero_le _) (by omega)
    rw [hst]
    rw [run, wp_ret]; imodintro
    iapply Hk
    isplitl [Hf]; · iexact Hf
    iexact Hr
  · simp only [dif_neg (fun h => hc ((cond1_n n t).mp h)), Prog.bind_ret, Prog.pure_eq_ret]
    have hb : min (t.val + 1) (7 * n.val) = min t.val (7 * n.val) := by omega
    rw [hb]
    rw [run, wp_ret]; imodintro
    iapply Hk
    isplitl [Hf]; · iexact Hf
    iexact Hr

/-- The first copies start seven tiles. -/
theorem loop2 (c : Dev nD) (n : Fin 15) (f : CT F cc0_scratch7) (eN : ℕ → Fin 13) (rN : ℕ → Fin 9) (hT : Tab f n.val eN rN)
    (w : CT F main_arg2) (ws : CT F main_arg3) {K : Unit → sProp 𝕄} :
    iprop((pts c cc0_scratch7 f ∗ ring c w ws (fun _ => none))
        ∗ (iprop(pts c cc0_scratch7 f ∗ ring c w ws (win (gOf eN) 0 (min 7 (7 * n.val)))) -∗ K ⟨⟩))
      ⊢ run c (Scf.Loop.for k0_t2_loop k0_t2_ok ⟨⟩ (body2 (w32 n.val))) K := by
  iintro ⟨⟨Hf, Hr⟩, Hk⟩
  iapply (run_for c k0_t2_loop k0_t2_ok ⟨⟩ (body2 (w32 n.val))
    (fun k _ => iprop(pts c cc0_scratch7 f ∗ ring c w ws (win (gOf eN) 0 (min k (7 * n.val))))) (fun k u => by
    iintro H
    iapply (trip2 c n f eN rN hT w ws k u)
    isplitl [H]; · iexact H
    iintro H
    iexact H))
  isplitl [Hf Hr]
  · isplitl [Hf]; · iexact Hf
    rw [win_empty (gOf eN) (show min 0 (7 * n.val) ≤ 0 by omega)]
    iexact Hr
  iintro %_ H
  iapply Hk
  iexact H

/-! ## The blocks of an item -/

/-- What the loop over blocks holds before step `s`. -/
abbrev held6 (c : Dev nD) (n : ℕ) (f : CT F cc0_scratch7) (eN : ℕ → Fin 13) (X : CT F cc0_scratch0) (w : CT F main_arg2) (ws : CT F main_arg3) (s : ℕ) : sProp 𝕄 :=
  iprop(pts c cc0_scratch0 X ∗ pts c cc0_scratch7 f ∗ ring c w ws (win (gOf eN) s (min (s + 7) (7 * n))) ∗ (∃ W, owes (c : Thread nD τ) 0 W))

/-- A trip over an item's chunks starts a tile, waits for one and adds its products. -/
theorem trip6 (c : Dev nD) (n : Fin 15) (hw3 : k0_chk3 (w32 n.val)) (v2 : BitVec 32) (t5 : Fin (k0_t5_loop (w32 n.val)).trips) (a17 : BitVec 32) (r : Fin 9)
    (hw4 : k0_chk4 (w32 (16 * r.val))) (v28 : BitVec 32) (t6 : Fin k0_t6_loop.trips) (u : BitVec 32)
    (f : CT F cc0_scratch7) (eN : ℕ → Fin 13) (rN : ℕ → Fin 9) (hT : Tab f n.val eN rN)
    (X : CT F cc0_scratch0) (w : CT F main_arg2) (ws : CT F main_arg3) (z : CT F cc0_scratch3 × CT F cc0_scratch4) {K : BitVec 32 → sProp 𝕄} :
    iprop((held6 c n.val f eN X w ws (7 * t5.val + t6.val) ∗ pts c cc0_scratch3 z.1 ∗ pts c cc0_scratch4 z.2)
        ∗ (iprop(held6 c n.val f eN X w ws (7 * t5.val + t6.val + 1) ∗ pts c cc0_scratch3 (blkStep X w ws (eN t5.val) r t6 z).1
            ∗ pts c cc0_scratch4 (blkStep X w ws (eN t5.val) r t6 z).2) -∗ K 0#32))
      ⊢ run c (body6 (w32 n.val) hw3 v2 t5 a17 (w32 (16 * r.val)) hw4 v28 t6 u) K := by
  have ht6 : t6.val < 7 := t6.isLt
  have ht5 : t5.val < n.val := lt_of_lt_of_eq t5.isLt (trips5 n)
  have hn := n.isLt
  have hrd2 := rd_items f 0 (fi t5.val) ((off22_n n t5 t6).trans (by rw [show (fi t5.val).val = t5.val from Nat.mod_eq_of_lt (by omega)]; rfl))
    (k0_off22_inb (w32 n.val) hw3 t5 t6) (Shape.Idx.first (numel1_S1x1.symm ▸ Nat.one_pos))
  have hword2 : @Eq (BitVec 32) (tw f 0 (fi t5.val)) (w32 (eN t5.val).val) := (hT _ ht5).1
  iintro ⟨⟨⟨HX, Hf, Hr, HW⟩, HC, HA⟩, Hk⟩
  unfold body6 k0_t6_body
  simp only [k0_part8_eq_skeleton]
  unfold k0_part8_skel
  by_cases hc : 7 * t5.val + t6.val + 7 < 7 * n.val
  · simp only [dif_pos ((cond2_n n t5 t6).mpr hc), smemLoad, smemLoadElt, Prog.lift, Prog.bind_op, Prog.bind_ret, Prog.pure_eq_ret]
    have hb1 : min (7 * t5.val + t6.val + 7) (7 * n.val) = 7 * t5.val + t6.val + 7 := by omega
    rw [hb1]
    have hi : (7 * t5.val + t6.val + 7) / 7 < n.val := by omega
    have hrd := rd_items f 0 (fi ((7 * t5.val + t6.val + 7) / 7)) ((off15_n n t5 t6).trans (by rw [show (fi ((7 * t5.val + t6.val + 7) / 7)).val = (7 * t5.val + t6.val + 7) / 7 from Nat.mod_eq_of_lt (by omega)]; rfl))
      (k0_off15_inb (w32 n.val) hw3 t5 t6 ((cond2_n n t5 t6).mpr hc)) (Shape.Idx.first (numel1_S1x1.symm ▸ Nat.one_pos))
    have hword : @Eq (BitVec 32) (tw f 0 (fi ((7 * t5.val + t6.val + 7) / 7))) (w32 (eN ((7 * t5.val + t6.val + 7) / 7)).val) := (hT _ hi).1
    iapply (wp_ld c _ (Memref.whole cc0_scratch7)) $$ Hf; iintro Hf
    erw [hrd]
    erw [hword]
    iapply (wp_assume 𝒱₀ (c : Thread nD τ) _ Set.univ (chk5_n n t5 t6 (eN ((7 * t5.val + t6.val + 7) / 7))))
    iapply (wp_start c (win (gOf eN) (7 * t5.val + t6.val) (7 * t5.val + t6.val + 7)) (slotN (7 * t5.val + t6.val + 7)) (win_next _ (by omega) (by omega))
      (eN ((7 * t5.val + t6.val + 7) / 7)) ⟨(7 * t5.val + t6.val + 7) % 7, Nat.mod_lt _ (by decide)⟩ w ws
      (srcW_of _ _ (off18_n n t5 t6 _) _) (slotW_of _ (off17_n n t5 t6) _) (semW_of _ (off16_n n t5 t6) _)
      (srcS_of _ _ (off21_n n t5 t6 _) _) (slotS_of _ (off20_n n t5 t6) _) (semS_of _ (off19_n n t5 t6) _)) $$ Hr
    iintro Hr
    have hst : Function.update (win (gOf eN) (7 * t5.val + t6.val) (7 * t5.val + t6.val + 7)) (slotN (7 * t5.val + t6.val + 7))
        (some (eN ((7 * t5.val + t6.val + 7) / 7), ⟨(7 * t5.val + t6.val + 7) % 7, Nat.mod_lt _ (by decide)⟩))
        = win (gOf eN) (7 * t5.val + t6.val) (7 * t5.val + t6.val + 8) := win_start (gOf eN) (by omega) (by omega)
    rw [hst]
    have hb2 : min (7 * t5.val + t6.val + 1 + 7) (7 * n.val) = 7 * t5.val + t6.val + 8 := by omega
    iapply (wp_ld c _ (Memref.whole cc0_scratch7)) $$ Hf; iintro Hf
    erw [hrd2]
    erw [hword2]
    iapply (wp_assume 𝒱₀ (c : Thread nD τ) _ Set.univ (chk6_n n t5 t6 (eN t5.val)))
    iapply (wp_wait c (win (gOf eN) (7 * t5.val + t6.val) (7 * t5.val + t6.val + 8)) (slotAt t5 t6) (eN t5.val) t6
      ((win_first (gOf eN) (by omega)).trans (congrArg some (gOf_step eN t5.val t6))) w ws (crdW_of _ _) (semW_of _ (off23_n n t5 t6) _) (crdS_of _ _) (semS_of _ (off26_n n t5 t6) _)) $$ [Hr HW]
    · isplitl [Hr]; · iexact Hr
      iexact HW
    unfold landed
    iintro ⟨⟨⟨HW1, HW2, HW3⟩, HS1, HS2, HS3⟩, Hr, HW⟩
    iapply (wp_ldS c (slotAt t5 t6) (setS_off29 n t5 t6 hw3)) $$ HS1; iintro HS1
    rw [rd_off29 n t5 t6 hw3]
    iapply (wp_ld c _ (Memref.whole cc0_scratch3)) $$ HC; iintro HC
    iapply (wp_st c _ (Memref.whole cc0_scratch3)) $$ HC; iintro HC
    rw [wp_bind]
    iapply (loop7 c n hw3 t5 r hw4 v28 t6 _ _ X w (eN t5.val) (scOf ws (eN t5.val) t6 z.1) z.2)
    isplitl [HX HW1 HC HA]
    · isplitr [HA]
      · isplitl [HX]; · iexact HX
        isplitl [HW1]; · iexact HW1
        iexact HC
      · iexact HA
    iintro %u ⟨⟨HX, HW1, HC⟩, HA⟩
    rw [wp_ret]; imodintro
    iapply Hk
    isplitr [HC HA]
    · isplitl [HX]; · iexact HX
      isplitl [Hf]; · iexact Hf
      isplitr [HW]
      · have hfr := free c (win (gOf eN) (7 * t5.val + t6.val) (7 * t5.val + t6.val + 8)) (slotAt t5 t6) (eN t5.val) t6 w ws
        have hwf : Function.update (win (gOf eN) (7 * t5.val + t6.val) (7 * t5.val + t6.val + 8)) (slotAt t5 t6) none = win (gOf eN) (7 * t5.val + t6.val + 1) (7 * t5.val + t6.val + 8) := win_free (gOf eN) (by omega)
        rw [hwf] at hfr
        rw [hb2]
        iapply hfr
        isplitr [Hr]
        · unfold landed
          isplitl [HW1 HW2 HW3]
          · isplitl [HW1]; · iexact HW1
            isplitl [HW2]; · iexact HW2
            iexact HW3
          · isplitl [HS1]; · iexact HS1
            isplitl [HS2]; · iexact HS2
            iexact HS3
        · iexact Hr
      · iexact HW
    · isplitl [HC]; · iexact HC
      iexact HA
  · simp only [dif_neg (fun h => hc ((cond2_n n t5 t6).mp h)), smemLoad, smemLoadElt, Prog.lift, Prog.bind_op, Prog.bind_ret, Prog.pure_eq_ret]
    have hb1 : min (7 * t5.val + t6.val + 7) (7 * n.val) = 7 * n.val := by omega
    have hb2 : min (7 * t5.val + t6.val + 1 + 7) (7 * n.val) = 7 * n.val := by omega
    rw [hb1]
    iapply (wp_ld c _ (Memref.whole cc0_scratch7)) $$ Hf; iintro Hf
    erw [hrd2]
    erw [hword2]
    iapply (wp_assume 𝒱₀ (c : Thread nD τ) _ Set.univ (chk6_n n t5 t6 (eN t5.val)))
    iapply (wp_wait c (win (gOf eN) (7 * t5.val + t6.val) (7 * n.val)) (slotAt t5 t6) (eN t5.val) t6
      ((win_first (gOf eN) (by omega)).trans (congrArg some (gOf_step eN t5.val t6))) w ws (crdW_of _ _) (semW_of _ (off23_n n t5 t6) _) (crdS_of _ _) (semS_of _ (off26_n n t5 t6) _)) $$ [Hr HW]
    · isplitl [Hr]; · iexact Hr
      iexact HW
    unfold landed
    iintro ⟨⟨⟨HW1, HW2, HW3⟩, HS1, HS2, HS3⟩, Hr, HW⟩
    iapply (wp_ldS c (slotAt t5 t6) (setS_off29 n t5 t6 hw3)) $$ HS1; iintro HS1
    rw [rd_off29 n t5 t6 hw3]
    iapply (wp_ld c _ (Memref.whole cc0_scratch3)) $$ HC; iintro HC
    iapply (wp_st c _ (Memref.whole cc0_scratch3)) $$ HC; iintro HC
    rw [wp_bind]
    iapply (loop7 c n hw3 t5 r hw4 v28 t6 _ _ X w (eN t5.val) (scOf ws (eN t5.val) t6 z.1) z.2)
    isplitl [HX HW1 HC HA]
    · isplitr [HA]
      · isplitl [HX]; · iexact HX
        isplitl [HW1]; · iexact HW1
        iexact HC
      · iexact HA
    iintro %u ⟨⟨HX, HW1, HC⟩, HA⟩
    rw [wp_ret]; imodintro
    iapply Hk
    isplitr [HC HA]
    · isplitl [HX]; · iexact HX
      isplitl [Hf]; · iexact Hf
      isplitr [HW]
      · have hfr := free c (win (gOf eN) (7 * t5.val + t6.val) (7 * n.val)) (slotAt t5 t6) (eN t5.val) t6 w ws
        have hwf : Function.update (win (gOf eN) (7 * t5.val + t6.val) (7 * n.val)) (slotAt t5 t6) none = win (gOf eN) (7 * t5.val + t6.val + 1) (7 * n.val) := win_free (gOf eN) (by omega)
        rw [hwf] at hfr
        rw [hb2]
        iapply hfr
        isplitr [Hr]
        · unfold landed
          isplitl [HW1 HW2 HW3]
          · isplitl [HW1]; · iexact HW1
            isplitl [HW2]; · iexact HW2
            iexact HW3
          · isplitl [HS1]; · iexact HS1
            isplitl [HS2]; · iexact HS2
            iexact HS3
        · iexact Hr
      · iexact HW
    · isplitl [HC]; · iexact HC
      iexact HA

/-- The loop over an item's chunks leaves the item's products in the accumulator. -/
theorem loop6 (c : Dev nD) (n : Fin 15) (hw3 : k0_chk3 (w32 n.val)) (v2 : BitVec 32) (t5 : Fin (k0_t5_loop (w32 n.val)).trips) (a17 : BitVec 32) (r : Fin 9)
    (hw4 : k0_chk4 (w32 (16 * r.val))) (v28 : BitVec 32) (u : BitVec 32)
    (f : CT F cc0_scratch7) (eN : ℕ → Fin 13) (rN : ℕ → Fin 9) (hT : Tab f n.val eN rN)
    (X : CT F cc0_scratch0) (w : CT F main_arg2) (ws : CT F main_arg3) (z : CT F cc0_scratch3 × CT F cc0_scratch4) {K : BitVec 32 → sProp 𝕄} :
    iprop((held6 c n.val f eN X w ws (7 * t5.val) ∗ pts c cc0_scratch3 z.1 ∗ pts c cc0_scratch4 z.2)
        ∗ (∀ u, iprop(held6 c n.val f eN X w ws (7 * (t5.val + 1)) ∗ pts c cc0_scratch3 (blkAll X w ws (eN t5.val) r z).1
            ∗ pts c cc0_scratch4 (blkAll X w ws (eN t5.val) r z).2) -∗ K u))
      ⊢ run c (Scf.Loop.for k0_t6_loop k0_t6_ok u (body6 (w32 n.val) hw3 v2 t5 a17 (w32 (16 * r.val)) hw4 v28)) K := by
  iintro ⟨H, Hk⟩
  iapply (run_for c k0_t6_loop k0_t6_ok u (body6 (w32 n.val) hw3 v2 t5 a17 (w32 (16 * r.val)) hw4 v28)
    (fun k _ => iprop(held6 c n.val f eN X w ws (7 * t5.val + k)
      ∗ pts c cc0_scratch3 (iter k0_t6_loop.trips (blkStep X w ws (eN t5.val) r) z k).1
      ∗ pts c cc0_scratch4 (iter k0_t6_loop.trips (blkStep X w ws (eN t5.val) r) z k).2)) (fun k u => by
    rw [iter_succ]
    iintro H
    iapply (trip6 c n hw3 v2 t5 a17 r hw4 v28 k u f eN rN hT X w ws _)
    isplitl [H]; · iexact H
    iintro H
    iexact H))
  isplitl [H]; · iexact H
  iintro %u H
  iapply Hk $$ %u
  iexact H

/-! ## The items -/

/-- The scale words, the sums, the results' values and the results' scale words. -/
abbrev St (F : FTy → Type) : Type := CT F cc0_scratch3 × CT F cc0_scratch4 × CT F cc0_scratch5 × CT F cc0_scratch6

/-- One item done. -/
def itemStep (X : CT F cc0_scratch0) (w : CT F main_arg2) (ws : CT F main_arg3) (f : CT F cc0_scratch7) (eN : ℕ → Fin 13) (rN : ℕ → Fin 9) (i : ℕ) (z : St F) : St F :=
  let b := blkAll X w ws (eN i) (rN i) (z.1, z.2.1)
  let o := outAll b.2 (rN i) (tw f 2 (fi i)) (tw f 3 (fi i)) (z.2.2.1, z.2.2.2)
  (b.1, b.2, o.1, o.2)

/-- The first `k` items done. -/
def itemsTo (X : CT F cc0_scratch0) (w : CT F main_arg2) (ws : CT F main_arg3) (f : CT F cc0_scratch7) (eN : ℕ → Fin 13) (rN : ℕ → Fin 9) (z : St F) : ℕ → St F
  | 0 => z
  | k + 1 => itemStep X w ws f eN rN k (itemsTo X w ws f eN rN z k)

/-- The four buffers. -/
abbrev ptsSt (c : Dev nD) (z : St F) : sProp 𝕄 :=
  iprop(pts c cc0_scratch3 z.1 ∗ pts c cc0_scratch4 z.2.1 ∗ pts c cc0_scratch5 z.2.2.1 ∗ pts c cc0_scratch6 z.2.2.2)

/-- A trip over the items writes one item's results. -/
theorem trip5 (c : Dev nD) (n : Fin 15) (hw3 : k0_chk3 (w32 n.val)) (v2 : BitVec 32) (t5 : Fin (k0_t5_loop (w32 n.val)).trips) (u : BitVec 32)
    (f : CT F cc0_scratch7) (eN : ℕ → Fin 13) (rN : ℕ → Fin 9) (hT : Tab f n.val eN rN)
    (X : CT F cc0_scratch0) (w : CT F main_arg2) (ws : CT F main_arg3) (z : St F) {K : BitVec 32 → sProp 𝕄} :
    iprop((held6 c n.val f eN X w ws (7 * t5.val) ∗ ptsSt c z)
        ∗ (iprop(held6 c n.val f eN X w ws (7 * (t5.val + 1)) ∗ ptsSt c (itemStep X w ws f eN rN t5.val z)) -∗ K 0#32))
      ⊢ run c (body5 (w32 n.val) hw3 v2 t5 u) K := by
  have ht5 : t5.val < n.val := lt_of_lt_of_eq t5.isLt (trips5 n)
  have hn := n.isLt
  have hfi : (fi t5.val).val = t5.val := Nat.mod_eq_of_lt (by omega)
  have hrd := rd_items f 1 (fi t5.val) ((off14_n n t5).trans (by rw [hfi]; rfl))
    (k0_off14_inb (w32 n.val) hw3 t5) (Shape.Idx.first (numel1_S1x1.symm ▸ Nat.one_pos))
  have hword : @Eq (BitVec 32) (tw f 1 (fi t5.val)) (w32 (16 * (rN t5.val).val)) := (hT _ ht5).2
  have hrd2 := rd_items f 2 (fi t5.val) ((off34_n n t5).trans (by rw [hfi]; rfl))
    (k0_off34_inb (w32 n.val) hw3 t5) (Shape.Idx.first (numel1_S1x1.symm ▸ Nat.one_pos))
  have hrd3 := rd_items f 3 (fi t5.val) ((off35_n n t5).trans (by rw [hfi]; rfl))
    (k0_off35_inb (w32 n.val) hw3 t5) (Shape.Idx.first (numel1_S1x1.symm ▸ Nat.one_pos))
  iintro ⟨⟨⟨HX, Hf, Hr, HW⟩, HC, HA, HY, HS⟩, Hk⟩
  unfold body5 k0_t5_body
  simp only [smemLoad, smemLoadElt, Prog.lift, Prog.bind_op, Prog.bind_ret, Prog.pure_eq_ret]
  iapply (wp_ld c _ (Memref.whole cc0_scratch7)) $$ Hf; iintro Hf
  erw [hrd]
  erw [hword]
  iapply (wp_assume 𝒱₀ (c : Thread nD τ) _ Set.univ (chk4_n (rN t5.val)))
  rw [wp_bind]
  iapply (loop6 c n hw3 v2 t5 _ (rN t5.val) (chk4_n (rN t5.val)) _ _ f eN rN hT X w ws (z.1, z.2.1))
  isplitl [HX Hf Hr HW HC HA]
  · isplitr [HC HA]
    · isplitl [HX]; · iexact HX
      isplitl [Hf]; · iexact Hf
      isplitl [Hr]; · iexact Hr
      iexact HW
    · isplitl [HC]; · iexact HC
      iexact HA
  iintro %_ ⟨⟨HX, Hf, Hr, HW⟩, HC, HA⟩
  iapply (wp_ld c _ (Memref.whole cc0_scratch7)) $$ Hf; iintro Hf
  erw [hrd2]
  iapply (wp_ld c _ (Memref.whole cc0_scratch7)) $$ Hf; iintro Hf
  erw [hrd3]
  rw [wp_bind]
  iapply (loop9 c (rN t5.val) (chk4_n (rN t5.val)) (tw f 2 (fi t5.val)) (tw f 3 (fi t5.val)) _
    (blkAll X w ws (eN t5.val) (rN t5.val) (z.1, z.2.1)).2 (z.2.2.1, z.2.2.2))
  isplitl [HA HY HS]
  · isplitl [HA]; · iexact HA
    isplitl [HY]; · iexact HY
    iexact HS
  iintro %_ ⟨HA, HY, HS⟩
  rw [wp_ret]; imodintro
  iapply Hk
  isplitr [HC HA HY HS]
  · isplitl [HX]; · iexact HX
    isplitl [Hf]; · iexact Hf
    isplitl [Hr]; · iexact Hr
    iexact HW
  · isplitl [HC]; · iexact HC
    isplitl [HA]; · iexact HA
    isplitl [HY]; · iexact HY
    iexact HS

/-- The loop over the items writes all items' results and leaves the ring empty. -/
theorem loop5 (c : Dev nD) (n : Fin 15) (hw3 : k0_chk3 (w32 n.val)) (hok : (k0_t5_loop (w32 n.val)).OK) (v2 : BitVec 32) (u : BitVec 32)
    (f : CT F cc0_scratch7) (eN : ℕ → Fin 13) (rN : ℕ → Fin 9) (hT : Tab f n.val eN rN)
    (X : CT F cc0_scratch0) (w : CT F main_arg2) (ws : CT F main_arg3) (z : St F) {K : BitVec 32 → sProp 𝕄} :
    iprop((held6 c n.val f eN X w ws 0 ∗ ptsSt c z)
        ∗ (∀ u, iprop(held6 c n.val f eN X w ws (7 * n.val) ∗ ptsSt c (itemsTo X w ws f eN rN z n.val)) -∗ K u))
      ⊢ run c (Scf.Loop.for (k0_t5_loop (w32 n.val)) hok u (body5 (w32 n.val) hw3 v2)) K := by
  iintro ⟨H, Hk⟩
  iapply (run_for c (k0_t5_loop (w32 n.val)) hok u (body5 (w32 n.val) hw3 v2)
    (fun k _ => iprop(held6 c n.val f eN X w ws (7 * k) ∗ ptsSt c (itemsTo X w ws f eN rN z k))) (fun k u => by
    iintro H
    iapply (trip5 c n hw3 v2 k u f eN rN hT X w ws _)
    isplitl [H]; · iexact H
    iintro H
    iexact H))
  isplitl [H]; · iexact H
  iintro %u H
  rw [trips5]
  iapply Hk $$ %u
  iexact H

end Cert.Proof.Kernel

end
-- ==== Proof.P.RingIO.lean ====
/- The rings at their beginning and at their end: the buffers cut into slots, and the slots put together again. -/
module

public import proofs.«01_k».proof.Proof.P.Ring

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The slots of weights are disjoint. -/
theorem setW_disj : ∀ t ∈ (Finset.univ : Finset (Fin 8)), ∀ t' ∈ (Finset.univ : Finset (Fin 8)), t ≠ t' → Disjoint (setW t) (setW t') := by
  intro t _ t' _ h
  rw [Finset.disjoint_left]
  intro i h1 h2
  exact h (Fin.ext ((Finset.mem_filter.mp h1).2.symm.trans (Finset.mem_filter.mp h2).2))

/-- The slots of weights are the whole ring. -/
theorem setW_cover : (Finset.univ : Finset (Fin 8)).biUnion setW = Finset.univ := by
  refine Finset.eq_univ_of_forall fun i => ?_
  rw [Finset.mem_biUnion]
  exact ⟨⟨(show S8x1024x4096.Idx from i) 0, ((show S8x1024x4096.Idx from i) 0).isLt⟩, Finset.mem_univ _, Finset.mem_filter.mpr ⟨Finset.mem_univ _, rfl⟩⟩

/-- The ring of weights is cut into its slots. -/
theorem cutW (c : Dev nD) (f : CT F cc0_scratch1) :
    pts c cc0_scratch1 f ⊢ bigSep Finset.univ fun k : Fin 8 => iprop(∃ f : CT F cc0_scratch1, ownW c k f) := by
  unfold pts
  have h := pointsTo_biUnion (ℓ := (c : Thread nD τ).loc cc0_scratch1) (q := fullShare) (f := (f : Buf (Elt F) ((c : Thread nD τ).loc cc0_scratch1)))
    (Ix := Unit) (Name := ℕ) (U := Pipeline.UD sig nD τ) (Lvl := ℕ) Finset.univ setW setW_disj
  rw [setW_cover] at h
  refine (Entails.of_eq h).trans (bigSep_mono fun k _ => ?_)
  refine (show ownW c k f ⊢ iprop(∃ f : CT F cc0_scratch1, ownW c k f) from ?_)
  iintro H; iexists f; iexact H

/-- The slots of weights are joined to the ring. -/
theorem glueW (c : Dev nD) (f₀ : CT F cc0_scratch1) :
    (bigSep Finset.univ fun k : Fin 8 => iprop(∃ f : CT F cc0_scratch1, ownW c k f)) ⊢ iprop(∃ f : CT F cc0_scratch1, pts c cc0_scratch1 f) := by
  haveI : Nonempty (CT F cc0_scratch1) := ⟨f₀⟩
  refine (bigSep_exists_pi (Y := fun _ => CT F cc0_scratch1) Finset.univ fun k f => ownW c k f).trans ?_
  iintro ⟨%fs, H⟩
  have h := pointsTo_biUnion_join (ℓ := (c : Thread nD τ).loc cc0_scratch1) (q := fullShare)
    (Ix := Unit) (Name := ℕ) (U := Pipeline.UD sig nD τ) (Lvl := ℕ) (Val := Elt F) Finset.univ setW fs f₀ setW_disj
  rw [setW_cover] at h
  ihave H2 := h $$ H
  icases H2 with ⟨%g, -, H⟩
  iexists g
  unfold pts
  iexact H

/-- What is kept of the source while the ring's read tokens are out. -/
def keepW (c : Dev nD) (w : CT F main_arg2) : sProp 𝕄 :=
  ((c : Thread nD τ).loc main_arg2) ↦{Transfers.shareDrop fullShare 8} (w : Buf (Elt F) ((c : Thread nD τ).loc main_arg2))

/-- A part of the weights is dealt to each slot. -/
theorem dealW (c : Dev nD) (w : CT F main_arg2) :
    pts c main_arg2 w ⊢ iprop(keepW c w ∗ bigSep Finset.univ fun k : Fin 8 => tokW c k w) := by
  unfold pts keepW
  exact Transfers.pointsTo_toks_split fullShare 8

/-- The parts of the weights are joined again. -/
theorem undealW (c : Dev nD) (w : CT F main_arg2) :
    iprop(keepW c w ∗ bigSep Finset.univ fun k : Fin 8 => tokW c k w) ⊢ pts c main_arg2 w := by
  unfold pts keepW
  exact Transfers.pointsTo_toks_join fullShare 8

/-- The slots of scales are disjoint. -/
theorem setS_disj : ∀ t ∈ (Finset.univ : Finset (Fin 8)), ∀ t' ∈ (Finset.univ : Finset (Fin 8)), t ≠ t' → Disjoint (setS t) (setS t') := by
  intro t _ t' _ h
  rw [Finset.disjoint_left]
  intro i h1 h2
  exact h (Fin.ext ((Finset.mem_filter.mp h1).2.symm.trans (Finset.mem_filter.mp h2).2))

/-- The slots of scales are the whole ring. -/
theorem setS_cover : (Finset.univ : Finset (Fin 8)).biUnion setS = Finset.univ := by
  refine Finset.eq_univ_of_forall fun i => ?_
  rw [Finset.mem_biUnion]
  exact ⟨⟨(show S8x32x4096.Idx from i) 0, ((show S8x32x4096.Idx from i) 0).isLt⟩, Finset.mem_univ _, Finset.mem_filter.mpr ⟨Finset.mem_univ _, rfl⟩⟩

/-- The ring of scales is cut into its slots. -/
theorem cutS (c : Dev nD) (f : CT F cc0_scratch2) :
    pts c cc0_scratch2 f ⊢ bigSep Finset.univ fun k : Fin 8 => iprop(∃ f : CT F cc0_scratch2, ownS c k f) := by
  unfold pts
  have h := pointsTo_biUnion (ℓ := (c : Thread nD τ).loc cc0_scratch2) (q := fullShare) (f := (f : Buf (Elt F) ((c : Thread nD τ).loc cc0_scratch2)))
    (Ix := Unit) (Name := ℕ) (U := Pipeline.UD sig nD τ) (Lvl := ℕ) Finset.univ setS setS_disj
  rw [setS_cover] at h
  refine (Entails.of_eq h).trans (bigSep_mono fun k _ => ?_)
  refine (show ownS c k f ⊢ iprop(∃ f : CT F cc0_scratch2, ownS c k f) from ?_)
  iintro H; iexists f; iexact H

/-- The slots of scales are joined to the ring. -/
theorem glueS (c : Dev nD) (f₀ : CT F cc0_scratch2) :
    (bigSep Finset.univ fun k : Fin 8 => iprop(∃ f : CT F cc0_scratch2, ownS c k f)) ⊢ iprop(∃ f : CT F cc0_scratch2, pts c cc0_scratch2 f) := by
  haveI : Nonempty (CT F cc0_scratch2) := ⟨f₀⟩
  refine (bigSep_exists_pi (Y := fun _ => CT F cc0_scratch2) Finset.univ fun k f => ownS c k f).trans ?_
  iintro ⟨%fs, H⟩
  have h := pointsTo_biUnion_join (ℓ := (c : Thread nD τ).loc cc0_scratch2) (q := fullShare)
    (Ix := Unit) (Name := ℕ) (U := Pipeline.UD sig nD τ) (Lvl := ℕ) (Val := Elt F) Finset.univ setS fs f₀ setS_disj
  rw [setS_cover] at h
  ihave H2 := h $$ H
  icases H2 with ⟨%g, -, H⟩
  iexists g
  unfold pts
  iexact H

/-- What is kept of the source while the ring's read tokens are out. -/
def keepS (c : Dev nD) (w : CT F main_arg3) : sProp 𝕄 :=
  ((c : Thread nD τ).loc main_arg3) ↦{Transfers.shareDrop fullShare 8} (w : Buf (Elt F) ((c : Thread nD τ).loc main_arg3))

/-- A part of the scales is dealt to each slot. -/
theorem dealS (c : Dev nD) (w : CT F main_arg3) :
    pts c main_arg3 w ⊢ iprop(keepS c w ∗ bigSep Finset.univ fun k : Fin 8 => tokS c k w) := by
  unfold pts keepS
  exact Transfers.pointsTo_toks_split fullShare 8

/-- The parts of the scales are joined again. -/
theorem undealS (c : Dev nD) (w : CT F main_arg3) :
    iprop(keepS c w ∗ bigSep Finset.univ fun k : Fin 8 => tokS c k w) ⊢ pts c main_arg3 w := by
  unfold pts keepS
  exact Transfers.pointsTo_toks_join fullShare 8

/-- The semaphores of the two rings, at zero. -/
def sems (c : Dev nD) : sProp 𝕄 :=
  iprop((bigSep Finset.univ fun k : Fin 8 => semVal ((c : Thread nD τ), .dma (semW k)) 0)
    ∗ bigSep Finset.univ fun k : Fin 8 => semVal ((c : Thread nD τ), .dma (semS k)) 0)

/-- An empty ring is its slots, its parts of the arrays and its semaphores. -/
theorem ring_open (c : Dev nD) (w : CT F main_arg2) (ws : CT F main_arg3) :
    ring c w ws (fun _ => none)
      = iprop(((bigSep Finset.univ fun k : Fin 8 => iprop(∃ f : CT F cc0_scratch1, ownW c k f)) ∗ (bigSep Finset.univ fun k : Fin 8 => tokW c k w)
            ∗ (bigSep Finset.univ fun k : Fin 8 => semVal ((c : Thread nD τ), .dma (semW k)) 0))
          ∗ ((bigSep Finset.univ fun k : Fin 8 => iprop(∃ f : CT F cc0_scratch2, ownS c k f)) ∗ (bigSep Finset.univ fun k : Fin 8 => tokS c k ws)
            ∗ (bigSep Finset.univ fun k : Fin 8 => semVal ((c : Thread nD τ), .dma (semS k)) 0))) := by
  unfold ring Ring.AtW
  simp only [slotΦ_none, bigSep_sep']

/-- The rings at their beginning. -/
theorem ring_intro (c : Dev nD) (w : CT F main_arg2) (ws : CT F main_arg3) (f1 : CT F cc0_scratch1) (f2 : CT F cc0_scratch2) :
    iprop(pts c cc0_scratch1 f1 ∗ pts c cc0_scratch2 f2 ∗ pts c main_arg2 w ∗ pts c main_arg3 ws ∗ sems c)
      ⊢ iprop(ring c w ws (fun _ => none) ∗ keepW c w ∗ keepS c ws) := by
  rw [ring_open]
  unfold sems
  iintro ⟨H1, H2, HW, HS, HsW, HsS⟩
  ihave H1 := (cutW c f1) $$ H1
  ihave H2 := (cutS c f2) $$ H2
  ihave HW := (dealW c w) $$ HW
  ihave HS := (dealS c ws) $$ HS
  icases HW with ⟨KW, HW⟩
  icases HS with ⟨KS, HS⟩
  isplitl [H1 H2 HW HS HsW HsS]
  · isplitl [H1 HW HsW]
    · isplitl [H1]; · iexact H1
      isplitl [HW]; · iexact HW
      iexact HsW
    · isplitl [H2]; · iexact H2
      isplitl [HS]; · iexact HS
      iexact HsS
  isplitl [KW]; · iexact KW
  iexact KS

/-- The rings at their end. -/
theorem ring_elim (c : Dev nD) (w : CT F main_arg2) (ws : CT F main_arg3) (f1 : CT F cc0_scratch1) (f2 : CT F cc0_scratch2) :
    iprop(ring c w ws (fun _ => none) ∗ keepW c w ∗ keepS c ws)
      ⊢ iprop((∃ f : CT F cc0_scratch1, pts c cc0_scratch1 f) ∗ (∃ f : CT F cc0_scratch2, pts c cc0_scratch2 f) ∗ pts c main_arg2 w ∗ pts c main_arg3 ws ∗ sems c) := by
  rw [ring_open]
  unfold sems
  iintro ⟨⟨⟨H1, HW, HsW⟩, ⟨H2, HS, HsS⟩⟩, KW, KS⟩
  isplitl [H1]; · iapply (glueW c f1); iexact H1
  isplitl [H2]; · iapply (glueS c f2); iexact H2
  isplitl [HW KW]
  · iapply (undealW c w)
    isplitl [KW]; · iexact KW
    iexact HW
  isplitl [HS KS]
  · iapply (undealS c ws)
    isplitl [KS]; · iexact KS
    iexact HS
  isplitl [HsW]; · iexact HsW
  iexact HsS

end Cert.Proof.Kernel

end
-- ==== Proof.P.CopyX.lean ====
/- The copy of the activations into the chip's memory. -/
module

public import proofs.«01_k».proof.Proof.P.Base

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The counters that the copy uses. -/
abbrev EX (F : FTy → Type) : UEmb Counters (MT nD τ sig Unit (Elt F) ℕ (Pipeline.UD sig nD τ) ℕ) :=
  countersEmb (U := Pipeline.UD sig nD τ)

/-- The amount that the copy signals. -/
abbrev amtX : ℕ := (Memref.whole cc0_scratch0 : Memref sig .tc _ _ _).view.amount (.dma cc0_scratch8.sem)

/-- The copy of the rows is of a positive amount. -/
theorem amtX_pos : 0 < amtX := View.amount_pos _ _ (Shape.numel_pos fun a => by match a with | 0 => exact Nat.succ_pos _ | 1 => exact Nat.succ_pos _)

/-- The activations as the copy leaves them. -/
abbrev landedX (x : CT F main_arg0) : CT F cc0_scratch0 := fun i => x i

/-- The copy on its way. -/
def flyX (c : Dev nD) (x : CT F main_arg0) : sProp 𝕄 :=
  Transfers.Flight (EX F) (c : Thread nD τ) (.dma cc0_scratch8.sem) () amtX
      iprop(pts c cc0_scratch0 (landedX x) ∗ pts c main_arg0 x)

/-- The start of the copy of the rows. -/
theorem wp_startX (c : Dev nD) (x : CT F main_arg0) (f : CT F cc0_scratch0)
    {hsrc : (Memref.whole main_arg0 : Memref sig .tc _ _ _).view.WordExact} {hdst : (Memref.whole cc0_scratch0 : Memref sig .tc _ _ _).view.WordExact}
    {hsem : DmaTarget.Typed (nD := nD) (p := (.tc : Proc τ)) .hbm (.dma cc0_scratch8.sem) (.here (Memref.whole cc0_scratch0))}
    {α : Type} {kk : PUnit → Prog (TpuEff nD τ sig (Elt F) (Λ₀ F) .tc) α} {Q : α → sProp 𝕄} :
    iprop(pts c cc0_scratch0 f ∗ pts c main_arg0 x ∗ semVal ((c : Thread nD τ), .dma cc0_scratch8.sem) 0)
      ⊢ iprop((flyX c x -∗ run c (kk ⟨⟩) Q)
        -∗ run c (.op (.enqueueDma (Memref.whole main_arg0) (.here (Memref.whole cc0_scratch0)) (.dma cc0_scratch8.sem) hsrc hdst hsem) kk) Q) := by
  iintro ⟨Hf, Hx, Hs⟩ Hk
  iapply (Transfers.wp_dmaLocal (EX F) 𝒱₀ (c : Thread nD τ) none () amtX rfl amtX_pos (Finset.subset_univ _)
    (q := fullShare) (fs := (x : Buf (Elt F) ((c : Thread nD τ).loc main_arg0))) (fd := (f : Buf (Elt F) ((c : Thread nD τ).loc cc0_scratch0)))) $$ [Hf Hx Hs]
  · isplitl [Hx]
    · rw [View.set_whole]
      iexact Hx
    isplitl [Hf]; · iexact Hf
    iexact Hs
  iintro Hfl
  iapply Hk
  unfold flyX
  iapply (Transfers.Flight_mono (EX F) (c : Thread nD τ) (D' := iprop(pts c cc0_scratch0 (landedX x) ∗ pts c main_arg0 x)) (by
    rw [View.set_whole]
    refine sep_mono_left (Entails.of_eq ?_)
    congr 1
    exact View.write_whole_univ _ _ _)) $$ Hfl

/-- The wait for the copy of the rows. -/
theorem wp_waitX (c : Dev nD) (x : CT F main_arg0)
    {hsrc : (Memref.whole main_arg0 : Memref sig .tc _ _ _).view.WordExact} {hdst : (Memref.whole cc0_scratch0 : Memref sig .tc _ _ _).view.WordExact}
    {α : Type} {kk : PUnit → Prog (TpuEff nD τ sig (Elt F) (Λ₀ F) .tc) α} {Q : α → sProp 𝕄} :
    iprop(flyX c x ∗ (∃ W, owes (c : Thread nD τ) 0 W))
      ⊢ iprop((iprop((pts c cc0_scratch0 (landedX x) ∗ pts c main_arg0 x) ∗ semVal ((c : Thread nD τ), .dma cc0_scratch8.sem) 0 ∗ (∃ W, owes (c : Thread nD τ) 0 W))
          -∗ run c (kk ⟨⟩) Q)
        -∗ run c (.op (.waitDma2 cc0_scratch8.sem (Memref.whole main_arg0) (Memref.whole cc0_scratch0) hsrc hdst) kk) Q) := by
  unfold flyX
  iintro ⟨Hfl, ⟨%W, HW⟩⟩ Hk
  iapply (Transfers.wp_waitLocal (EX F) 𝒱₀ (c : Thread nD τ) none () (N := amtX) (dstw := Memref.whole cc0_scratch0) rfl) $$ [Hfl HW]
  · isplitl [Hfl]; · iexact Hfl
    iexact HW
  iintro ⟨HD, Hs, HW⟩
  iapply Hk
  isplitl [HD]; · iexact HD
  isplitl [Hs]; · iexact Hs
  iexists _; iexact HW

end Cert.Proof.Kernel

end
-- ==== Proof.P.Chk3.lean ====
/- The side conditions of the loop over the work items, for every number of work items up to 14. -/
module

public import proofs.«01_k».proof.Proof.P.Offs

@[expose] public section

set_option maxRecDepth 16384

noncomputable section

namespace Cert.Proof.Kernel

open Cert.Kernel Cert.Kernel.Gen
open Idealize.ShloMosaic

/-- The blocks of 32 rows of a tile of the weights are inside the ring. -/
theorem off31_le (n : Fin 15) (t : Fin (k0_t5_loop (w32 n.val)).trips) (k : Fin k0_t6_loop.trips) (a : Fin k0_t7_loop.trips)
    (u : Fin k0_t8_loop.trips) (r : Fin 8) (i : Fin 3) :
    (k0_off31 (w32 n.val) t k a u (BitVec.ofNat 32 r.val)) i + S1x32x256.size i ≤ S8x1024x4096.size i := by
  rw [off31_n]
  have h1 : a.val < 16 := a.isLt
  have h2 : u.val < 4 := u.isLt
  have h3 := r.isLt
  match i with
  | 0 => show (7 * t.val + k.val) % 8 + 1 ≤ 8; omega
  | 1 => show 32 * (8 * u.val + r.val) + 32 ≤ 1024; omega
  | 2 => show 256 * a.val + 256 ≤ 4096; omega

/-- The loop over the work items stays inside its arrays. The remainder loop makes no trip, so of it there is nothing to show. -/
theorem chk3_n (n : Fin 15) : k0_chk3 (w32 n.val) := by
  have no {P : Fin (k0_t11_loop (w32 n.val)).trips → Prop} : ∀ t, P t := fun t => (Fin.cast (trips11 n) t).elim0
  refine ⟨⟨?_, ?_, ?_, ?_, ?_, ?_, ?_, ?_, ?_, ?_, ?_, ?_, ?_, ?_, ?_, ?_, ?_, off31_le n, ?_, ?_, ?_, no, no, no, no, no, no, no, no, no, no, no⟩, no, no, no, no, no, no, no, no⟩
  all_goals
    clear no
    revert n
    decide +kernel

end Cert.Proof.Kernel

end
-- ==== Proof.P.Whole.lean ====
/- The kernel's whole body: from the buffers as the launch hands them over to the two results. -/
module

public import proofs.«01_k».proof.Proof.P.Flow
public import proofs.«01_k».proof.Proof.P.RingIO
public import proofs.«01_k».proof.Proof.P.CopyX
public import proofs.«01_k».proof.Proof.P.Chk3

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The kernel's body on its buffers, all but the last stores. -/
def part21 := k0_part21 (F := F) (Memref.whole cc0_stg0_0) (Memref.isWhole_whole _) (Memref.whole main_arg0) (Memref.isWhole_whole _)
    (Memref.whole main_arg2) (Memref.isWhole_whole _) (Memref.whole main_arg3) (Memref.isWhole_whole _) (Memref.whole cc0_stg1_0) (Memref.isWhole_whole _)
    (Memref.whole cc0_stg2_0) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _)
    (Memref.whole cc0_scratch5) (Memref.isWhole_whole _) (Memref.whole cc0_scratch6) (Memref.isWhole_whole _) (Memref.whole cc0_scratch7) (Memref.isWhole_whole _)
    cc0_scratch8 cc0_scratch9 cc0_scratch10

/-- The kernel's body on its buffers. -/
def whole := cc0_moe_gate_up (F := F) (Memref.whole cc0_stg0_0) (Memref.isWhole_whole _) (Memref.whole main_arg0) (Memref.isWhole_whole _)
    (Memref.whole main_arg2) (Memref.isWhole_whole _) (Memref.whole main_arg3) (Memref.isWhole_whole _) (Memref.whole cc0_stg1_0) (Memref.isWhole_whole _)
    (Memref.whole cc0_stg2_0) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _)
    (Memref.whole cc0_scratch5) (Memref.isWhole_whole _) (Memref.whole cc0_scratch6) (Memref.isWhole_whole _) (Memref.whole cc0_scratch7) (Memref.isWhole_whole _)
    cc0_scratch8 cc0_scratch9 cc0_scratch10

/-- The table of the work items as the first loop leaves it. -/
def TabOk (g : CT F cc0_stg0_0) (f : CT F cc0_scratch7) (n : ℕ) (eN : ℕ → Fin 13) (rN : ℕ → Fin 9) : Prop :=
  n < 15 ∧ (∀ i < n, tw f 0 (fi i) = w32 (eN i).val ∧ tw f 1 (fi i) = w32 (16 * (rN i).val)
      ∧ rowS g (eN i).val ≤ (tw f 2 (fi i)).toNat ∧ (tw f 3 (fi i)).toNat ≤ rowS g ((eN i).val + 1)
      ∧ 16 * (rN i).val ≤ (tw f 2 (fi i)).toNat ∧ (tw f 3 (fi i)).toNat ≤ 16 * (rN i).val + 128 ∧ (tw f 3 (fi i)).toNat ≤ 256
      ∧ (tw f 2 (fi i)).toNat ≤ 256)
    ∧ ∀ ρ < rowS g 13, ∃ i < n, (tw f 2 (fi i)).toNat ≤ ρ ∧ ρ < (tw f 3 (fi i)).toNat

omit [FloatOps F] in
/-- A table that describes the groups describes tiles inside the arrays. -/
theorem TabOk.tab {g : CT F cc0_stg0_0} {f : CT F cc0_scratch7} {n : ℕ} {eN : ℕ → Fin 13} {rN : ℕ → Fin 9} (h : TabOk g f n eN rN) :
    Tab f n eN rN := fun i hi => ⟨(h.2.1 i hi).1, (h.2.1 i hi).2.1⟩

omit [FloatOps F] in
/-- The table the scheduling loop leaves describes the groups. -/
theorem Items.tabOk {g : CT F cc0_stg0_0} {f : CT F cc0_scratch7} {n : ℕ} (hn : n < 15) (h : Items g f n (rowS g 13)) :
    ∃ eN rN, TabOk g f n eN rN := by
  have hfi : ∀ i < n, (fi i).val = i := fun i hi => Nat.mod_eq_of_lt (by omega)
  have key : ∀ i : ℕ, ∃ (e : Fin 13) (q : Fin 9), i < n → (tw f 0 (fi i) = w32 e.val ∧ tw f 1 (fi i) = w32 (16 * q.val)
      ∧ rowS g e.val ≤ (tw f 2 (fi i)).toNat ∧ (tw f 3 (fi i)).toNat ≤ rowS g (e.val + 1)
      ∧ 16 * q.val ≤ (tw f 2 (fi i)).toNat ∧ (tw f 3 (fi i)).toNat ≤ 16 * q.val + 128 ∧ (tw f 3 (fi i)).toNat ≤ 256
      ∧ (tw f 2 (fi i)).toNat ≤ 256) := by
    intro i
    by_cases hi : i < n
    · obtain ⟨e, q, H⟩ := h.1 (fi i) (by rw [hfi i hi]; exact hi)
      exact ⟨e, q, fun _ => H⟩
    · exact ⟨0, 0, fun h => absurd h hi⟩
  choose eN rN H using key
  refine ⟨eN, rN, hn, H, fun ρ hρ => ?_⟩
  obtain ⟨i, hi, h1, h2⟩ := h.2 ρ hρ
  have hi' : fi i.val = i := Fin.ext (hfi i.val hi)
  exact ⟨i.val, hi, by rw [hi']; exact h1, by rw [hi']; exact h2⟩

/-- What the loops over the items leave, from the arguments, the table, and what the two buffers that nothing has written yet hold. -/
def outSt (x : CT F main_arg0) (w : CT F main_arg2) (ws : CT F main_arg3) (n : ℕ) (f : CT F cc0_scratch7) (eN : ℕ → Fin 13) (rN : ℕ → Fin 9)
    (SC : CT F cc0_scratch3) (A : CT F cc0_scratch4) : St F :=
  itemsTo (xqAll (landedX x)) w ws f eN rN (SC, A, k0_pay51 (F := F), k0_pay52) n

/-- The first 64 columns of the buffer of the scales' bytes. -/
def rdYS (S : CT F cc0_scratch6) : Vec F S256x64 .i32 :=
  ((Memref.whole cc0_scratch6 : Memref sig .tc _ _ _).access (Rect.unit (s := S256x128) ![0, 0] S256x64.size inb_S256x128_S256x64_0_0)).read (Elt F) S

/-- The first result may be `y`. -/
def OutY (x : CT F main_arg0) (w : CT F main_arg2) (ws : CT F main_arg3) (g : CT F cc0_stg0_0) (y : CT F cc0_stg1_0) : Prop :=
  ∃ n f eN rN SC A, TabOk g f n eN rN ∧ y = k0_pay72 (outSt x w ws n f eN rN SC A).2.2.1

/-- The second result may be `s`. -/
def OutS (x : CT F main_arg0) (w : CT F main_arg2) (ws : CT F main_arg3) (g : CT F cc0_stg0_0) (s : CT F cc0_stg2_0) : Prop :=
  ∃ n f eN rN SC A, TabOk g f n eN rN ∧ s = k0_pay1 (rdYS (outSt x w ws n f eN rN SC A).2.2.2)

/-- The buffers that the body only uses. -/
def scratch (c : Dev nD) : sProp 𝕄 :=
  iprop((∃ f : CT F cc0_scratch0, pts c cc0_scratch0 f) ∗ (∃ f : CT F cc0_scratch1, pts c cc0_scratch1 f)
    ∗ (∃ f : CT F cc0_scratch2, pts c cc0_scratch2 f) ∗ (∃ f : CT F cc0_scratch3, pts c cc0_scratch3 f)
    ∗ (∃ f : CT F cc0_scratch4, pts c cc0_scratch4 f) ∗ (∃ f : CT F cc0_scratch5, pts c cc0_scratch5 f)
    ∗ (∃ f : CT F cc0_scratch6, pts c cc0_scratch6 f) ∗ (∃ f : CT F cc0_scratch7, pts c cc0_scratch7 f))

/-- The arguments, the semaphores at zero, and that nothing is owed. -/
def kept (c : Dev nD) (x : CT F main_arg0) (w : CT F main_arg2) (ws : CT F main_arg3) (g : CT F cc0_stg0_0) : sProp 𝕄 :=
  iprop(pts c cc0_stg0_0 g ∗ pts c main_arg0 x ∗ pts c main_arg2 w ∗ pts c main_arg3 ws
    ∗ semVal ((c : Thread nD τ), .dma cc0_scratch8.sem) 0 ∗ sems c ∗ ∃ W, owes (c : Thread nD τ) 0 W)

/-- What is held before the last stores, `v` being the first result. -/
def mid (c : Dev nD) (x : CT F main_arg0) (w : CT F main_arg2) (ws : CT F main_arg3) (g : CT F cc0_stg0_0) (y : CT F cc0_stg1_0)
    (v : FVec F S256x2048 .fp8e4m3) : sProp 𝕄 :=
  iprop(∃ (n : ℕ) (f : CT F cc0_scratch7) (eN : ℕ → Fin 13) (rN : ℕ → Fin 9) (SC : CT F cc0_scratch3) (A : CT F cc0_scratch4),
    ⌜TabOk g f n eN rN ∧ v = k0_pay72 (outSt x w ws n f eN rN SC A).2.2.1⌝
    ∗ kept c x w ws g ∗ pts c cc0_stg1_0 y ∗ pts c cc0_scratch6 (outSt x w ws n f eN rN SC A).2.2.2
    ∗ (∃ f : CT F cc0_scratch0, pts c cc0_scratch0 f) ∗ (∃ f : CT F cc0_scratch1, pts c cc0_scratch1 f)
    ∗ (∃ f : CT F cc0_scratch2, pts c cc0_scratch2 f) ∗ (∃ f : CT F cc0_scratch3, pts c cc0_scratch3 f)
    ∗ (∃ f : CT F cc0_scratch4, pts c cc0_scratch4 f) ∗ (∃ f : CT F cc0_scratch5, pts c cc0_scratch5 f)
    ∗ (∃ f : CT F cc0_scratch7, pts c cc0_scratch7 f))

omit [FloatOps F] in
/-- Writing all of the codes leaves what was written. -/
theorem wr_stg1 (f w : CT F cc0_stg1_0) :
    ((Memref.whole cc0_stg1_0 : Memref sig .tc _ _ _).access (Rect.unit (s := S256x2048) ![0, 0] S256x2048.size inb_S256x2048_S256x2048_0_0)).write (Elt F) f w Finset.univ = w :=
  Memref.write_access_unit_zero_univ (Elt F) cc0_stg1_0 (funext fun a => by match a with | 0 => rfl | 1 => rfl) _ f w

omit [FloatOps F] in
/-- Writing all of the bytes leaves what was written. -/
theorem wr_stg2 (f w : CT F cc0_stg2_0) :
    ((Memref.whole cc0_stg2_0 : Memref sig .tc _ _ _).access (Rect.unit (s := S256x64) ![0, 0] S256x64.size inb_S256x64_S256x64_0_0)).write (Elt F) f w Finset.univ = w :=
  Memref.write_access_unit_zero_univ (Elt F) cc0_stg2_0 (funext fun a => by match a with | 0 => rfl | 1 => rfl) _ f w

omit [FloatOps F] in
/-- Writing all of the buffer of codes leaves what was written. -/
theorem wr_s5 (f w : CT F cc0_scratch5) :
    ((Memref.whole cc0_scratch5 : Memref sig .tc _ _ _).access (Rect.unit (s := S256x2048) ![0, 0] S256x2048.size inb_S256x2048_S256x2048_0_0)).write (Elt F) f w Finset.univ = w :=
  Memref.write_access_unit_zero_univ (Elt F) cc0_scratch5 (funext fun a => by match a with | 0 => rfl | 1 => rfl) _ f w

omit [FloatOps F] in
/-- Writing all of the buffer of bytes leaves what was written. -/
theorem wr_s6 (f w : CT F cc0_scratch6) :
    ((Memref.whole cc0_scratch6 : Memref sig .tc _ _ _).access (Rect.unit (s := S256x128) ![0, 0] S256x128.size inb_S256x128_S256x128_0_0)).write (Elt F) f w Finset.univ = w :=
  Memref.write_access_unit_zero_univ (Elt F) cc0_scratch6 (funext fun a => by match a with | 0 => rfl | 1 => rfl) _ f w

omit [FloatOps F] in
/-- Reading all of the buffer of codes gives its content. -/
theorem rd_s5 (f : CT F cc0_scratch5) :
    ((Memref.whole cc0_scratch5 : Memref sig .tc _ _ _).access (Rect.unit (s := S256x2048) ![0, 0] S256x2048.size inb_S256x2048_S256x2048_0_0)).read (Elt F) f = f :=
  Memref.read_access_unit_zero (Elt F) cc0_scratch5 (funext fun a => by match a with | 0 => rfl | 1 => rfl) _ f

/-- The first loop. -/
theorem loop1 (c : Dev nD) (g : CT F cc0_stg0_0) (hS : rowS g 13 ≤ 256) (f : CT F cc0_scratch7) {K : BitVec 32 × BitVec 32 → sProp 𝕄} :
    iprop((pts c cc0_stg0_0 g ∗ pts c cc0_scratch7 f)
        ∗ (∀ (n : Fin 15) (r : BitVec 32) (f : CT F cc0_scratch7) (eN : ℕ → Fin 13) (rN : ℕ → Fin 9),
            iprop(⌜TabOk g f n.val eN rN⌝ ∗ pts c cc0_stg0_0 g ∗ pts c cc0_scratch7 f) -∗ K (w32 n.val, r)))
      ⊢ run c (Scf.Loop.for k0_t1_loop k0_t1_ok (0#32, 0#32) body1) K := by
  iintro ⟨⟨Hg, Hf⟩, Hk⟩
  iapply (run_for c k0_t1_loop k0_t1_ok (0#32, 0#32) body1 (fun k a => inv1 c g k a) (fun k a => trip1 c g hS k a))
  isplitl [Hg Hf]
  · unfold inv1
    iexists f, 0
    isplitr
    · ipureintro
      exact ⟨rfl, Items.zero g f, Nat.zero_le _⟩
    isplitl [Hg]; · iexact Hg
    iexact Hf
  iintro %a H
  unfold inv1
  icases H with ⟨%f, %n, %h, Hg, Hf⟩
  obtain ⟨rfl, hI, hn⟩ := h
  have hn' : n < 15 := by
    have h13 : k0_t1_loop.trips = 13 := rfl
    rw [h13] at hn
    split at hn <;> omega
  obtain ⟨eN, rN, hT⟩ := Items.tabOk hn' hI
  iapply Hk $$ %⟨n, hn'⟩ %_ %f %eN %rN
  isplitr
  · ipureintro; exact hT
  isplitl [Hg]; · iexact Hg
  iexact Hf

/-- The loop that has no trips. -/
theorem loop11 (c : Dev nD) (n : Fin 15) (hok : (k0_t11_loop (w32 n.val)).OK) (u : BitVec 32)
    (body : Fin (k0_t11_loop (w32 n.val)).trips → BitVec 32 → Prog (TpuEff nD τ sig (Elt F) (Λ₀ F) .tc) (BitVec 32)) {K : BitVec 32 → sProp 𝕄} :
    (iprop(∀ u, K u)) ⊢ run c (Scf.Loop.for (k0_t11_loop (w32 n.val)) hok u body) K := by
  iintro Hk
  iapply (run_for c (k0_t11_loop (w32 n.val)) hok u body (fun _ _ => iprop(∀ u, K u))
    (fun k => absurd (lt_of_lt_of_eq k.isLt (trips11 n)) (Nat.not_lt_zero _)))
  isplitl [Hk]; · iexact Hk
  iintro %a H
  iapply H

set_option maxHeartbeats 2000000 in
/-- The body up to the loop over the items and the buffer of codes. -/
theorem part21_run (c : Dev nD) (x : CT F main_arg0) (w : CT F main_arg2) (ws : CT F main_arg3) (g : CT F cc0_stg0_0) (hS : rowS g 13 ≤ 256)
    (y : CT F cc0_stg1_0) {K : FVec F S256x2048 .fp8e4m3 → sProp 𝕄} :
    iprop((kept c x w ws g ∗ scratch c ∗ pts c cc0_stg1_0 y) ∗ (∀ v, mid c x w ws g y v -∗ K v)) ⊢ run c part21 K := by
  unfold kept scratch
  iintro ⟨⟨⟨Hg, Hx, Hw, Hws, Hsx, Hsm, HW⟩, ⟨⟨%f0, H0⟩, ⟨%f1, H1⟩, ⟨%f2, H2⟩, ⟨%f3, H3⟩, ⟨%f4, H4⟩, ⟨%f5, H5⟩, ⟨%f6, H6⟩, ⟨%f7, H7⟩⟩, Hy⟩, Hk⟩
  ihave HR := (ring_intro c w ws f1 f2) $$ [H1 H2 Hw Hws Hsm]
  · isplitl [H1]; · iexact H1
    isplitl [H2]; · iexact H2
    isplitl [Hw]; · iexact Hw
    isplitl [Hws]; · iexact Hws
    iexact Hsm
  icases HR with ⟨HR, HKW, HKS⟩
  unfold part21
  rw [k0_part21_eq_skeleton]
  unfold k0_part21_skel
  simp only [Prog.lift, Prog.bind_op, Prog.bind_ret, Prog.pure_eq_ret]
  iapply (wp_startX c x f0) $$ [H0 Hx Hsx]
  · isplitl [H0]; · iexact H0
    isplitl [Hx]; · iexact Hx
    iexact Hsx
  iintro Hfly
  rw [run, wp_bind]
  iapply (loop1 c g hS f7)
  isplitl [Hg H7]
  · isplitl [Hg]; · iexact Hg
    iexact H7
  iintro %n %r %f %eN %rN ⟨%hT, Hg, H7⟩
  iapply (wp_assume 𝒱₀ (c : Thread nD τ) _ Set.univ (chk3_n n))
  rw [wp_bind]
  iapply (loop2 c n f eN rN hT.tab w ws)
  isplitl [H7 HR]
  · isplitl [H7]; · iexact H7
    iexact HR
  iintro ⟨H7, HR⟩
  iapply (wp_ld c _ (Memref.whole cc0_scratch5)) $$ H5; iintro H5
  iapply (wp_st c _ (Memref.whole cc0_scratch5)) $$ H5; iintro H5
  iapply (wp_ld c _ (Memref.whole cc0_scratch6)) $$ H6; iintro H6
  iapply (wp_st c _ (Memref.whole cc0_scratch6)) $$ H6; iintro H6
  have e5 := wr_s5 f5 (k0_pay51 (F := F))
  have e6 := wr_s6 f6 (k0_pay52 : CT F cc0_scratch6)
  rw [e5, e6]
  iapply (wp_waitX c x) $$ [Hfly HW]
  · isplitl [Hfly]; · iexact Hfly
    iexact HW
  iintro ⟨⟨H0, Hx⟩, Hsx, HW⟩
  rw [run, wp_bind]
  iapply (loop3 c (landedX x))
  isplitl [H0]; · iexact H0
  iintro H0
  rw [wp_bind]
  iapply (loop5 c n (chk3_n n) _ _ _ f eN rN hT.tab (xqAll (landedX x)) w ws (f3, f4, k0_pay51 (F := F), k0_pay52))
  isplitl [H0 H7 HR HW H3 H4 H5 H6]
  · isplitl [H0 H7 HR HW]
    · unfold held6
      isplitl [H0]; · iexact H0
      isplitl [H7]; · iexact H7
      isplitl [HR]; · rw [show 0 + 7 = 7 from rfl]; iexact HR
      iexact HW
    unfold ptsSt
    isplitl [H3]; · iexact H3
    isplitl [H4]; · iexact H4
    isplitl [H5]; · iexact H5
    iexact H6
  iintro %u ⟨HH, HS⟩
  rw [wp_bind]
  iapply (loop11 c n)
  iintro %u
  unfold held6 ptsSt
  icases HH with ⟨H0, H7, HR, HW⟩
  icases HS with ⟨H3, H4, H5, H6⟩
  iapply (wp_ld c _ (Memref.whole cc0_scratch5)) $$ H5; iintro H5
  iapply (wp_ld c _ (Memref.whole cc0_stg1_0)) $$ Hy; iintro Hy
  rw [wp_ret]; imodintro
  iapply Hk
  rw [win_empty (gOf eN) (Nat.min_le_right _ _)]
  ihave HE := (ring_elim c w ws f1 f2) $$ [HR HKW HKS]
  · isplitl [HR]; · iexact HR
    isplitl [HKW]; · iexact HKW
    iexact HKS
  icases HE with ⟨H1, H2, Hw, Hws, Hsm⟩
  unfold mid
  iexists n.val, f, eN, rN, f3, f4
  isplitr
  · ipureintro
    exact ⟨hT, by rw [rd_s5]; rfl⟩
  isplitl [Hg Hx Hw Hws Hsx Hsm HW]
  · unfold kept
    isplitl [Hg]; · iexact Hg
    isplitl [Hx]; · iexact Hx
    isplitl [Hw]; · iexact Hw
    isplitl [Hws]; · iexact Hws
    isplitl [Hsx]; · iexact Hsx
    isplitl [Hsm]; · iexact Hsm
    iexact HW
  isplitl [Hy]; · iexact Hy
  isplitl [H6]; · iexact H6
  isplitl [H0]; · iexists _; iexact H0
  isplitl [H1]; · iexact H1
  isplitl [H2]; · iexact H2
  isplitl [H3]; · iexists _; iexact H3
  isplitl [H4]; · iexists _; iexact H4
  isplitl [H5]; · iexists _; iexact H5
  iexists _; iexact H7

/-- The whole body. -/
theorem whole_run (c : Dev nD) (x : CT F main_arg0) (w : CT F main_arg2) (ws : CT F main_arg3) (g : CT F cc0_stg0_0) (hS : rowS g 13 ≤ 256)
    (y : CT F cc0_stg1_0) (s : CT F cc0_stg2_0) :
    iprop(kept c x w ws g ∗ scratch c ∗ pts c cc0_stg1_0 y ∗ pts c cc0_stg2_0 s)
      ⊢ run c whole fun _ => iprop(kept c x w ws g ∗ scratch c
          ∗ (∃ y : CT F cc0_stg1_0, ⌜OutY x w ws g y⌝ ∗ pts c cc0_stg1_0 y) ∗ (∃ s : CT F cc0_stg2_0, ⌜OutS x w ws g s⌝ ∗ pts c cc0_stg2_0 s)) := by
  iintro ⟨HK, Hsc, Hy, Hs⟩
  unfold whole
  rw [cc0_moe_gate_up_eq_skeleton]
  unfold cc0_moe_gate_up_skel
  simp only [Prog.lift, Prog.bind_op, Prog.bind_ret, Prog.pure_eq_ret]
  rw [run, wp_bind]
  iapply (part21_run c x w ws g hS y)
  isplitl [HK Hsc Hy]
  · isplitl [HK]; · iexact HK
    isplitl [Hsc]; · iexact Hsc
    iexact Hy
  iintro %v H
  unfold mid
  icases H with ⟨%n, %f, %eN, %rN, %SC, %A, %hv, HK, Hy, H6, H0, H1, H2, H3, H4, H5, H7⟩
  obtain ⟨hT, rfl⟩ := hv
  iapply (wp_st c _ (Memref.whole cc0_stg1_0)) $$ Hy; iintro Hy
  iapply (wp_ld c _ (Memref.whole cc0_scratch6)) $$ H6; iintro H6
  iapply (wp_ld c _ (Memref.whole cc0_stg2_0)) $$ Hs; iintro Hs
  iapply (wp_st c _ (Memref.whole cc0_stg2_0)) $$ Hs; iintro Hs
  have e1 := fun w => wr_stg1 (F := F) y w
  have e2 := fun w => wr_stg2 (F := F) s w
  rw [e1, e2]
  rw [wp_ret]; imodintro
  isplitl [HK]; · iexact HK
  isplitl [H0 H1 H2 H3 H4 H5 H6 H7]
  · unfold scratch
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexact H7
  isplitl [Hy]
  · iexists _
    isplitr
    · ipureintro; exact ⟨n, f, eN, rN, SC, A, hT, rfl⟩
    iexact Hy
  · iexists _
    isplitr
    · ipureintro; exact ⟨n, f, eN, rN, SC, A, hT, rfl⟩
    iexact Hs

end Cert.Proof.Kernel

end
-- ==== Proof.P.Launch.lean ====
/- The launch: the body under the pipeline, and what a run of the program leaves. -/
module

public import proofs.«01_k».proof.Proof.P.Whole
public import proofs.«01_k».proof.Proof.Gen.Kernel.Points
public import Idealize.ShloMosaic.Lib.Pipeline.Frame

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Idealize.ShloMosaic.Pipeline (RDat)

variable (m : (ℓ : Loc nD τ sig) → Buf (Elt F) ℓ) (ρ : Dev nD → PrngReg)

/-- The buffers as the region finds them: as launched. -/
abbrev V (c : Dev nD) (b : Ref sig .tc) : Buf (Elt F) ((c : Thread nD τ).loc b) := m ((c : Thread nD τ).loc b)

/-- The arguments, as buffers of their types. -/
abbrev argX (c : Dev nD) : CT F main_arg0 := m ((c : Thread nD τ).loc main_arg0)
abbrev argG (c : Dev nD) : CT F cc0_stg0_0 := m ((c : Thread nD τ).loc main_arg1)
abbrev argW (c : Dev nD) : CT F main_arg2 := m ((c : Thread nD τ).loc main_arg2)
abbrev argS (c : Dev nD) : CT F main_arg3 := m ((c : Thread nD τ).loc main_arg3)

omit [FloatOps F] in
/-- The program is the one pipelined call. -/
theorem hmain [FloatOps F] (𝒱 : Variants) :
    Pipeline.HMain (Ix := Unit) (Name := ℕ) (U := Pipeline.UD sig nD τ) (Lvl := ℕ) cfgs 0 defs₀ 𝒱 m (main (F := F)) (V m) :=
  Pipeline.hmain_region cfgs 0 defs₀ 𝒱 m main fun c => (main_chain c).trans rfl

/-- The body's own semaphores: the copy of the rows, and the two rings'. -/
abbrev osem0 : Fin 17 → SemLoc sig := fun j => SemLoc.dma ⟨3 + j.val, by have := j.isLt; show 3 + j.val < 20; omega⟩
/-- The kernel's own semaphores are none of the pipeline's. -/
theorem ownSemFacts0 : Pipeline.OwnSemFacts spec0 osem0 := by decide

/-- The arguments that stay where they are. -/
def H0 : Finset (Ref sig .tc) := {main_arg0, main_arg2, main_arg3}
/-- The arrays the kernel copies from itself are none of the pipeline's. -/
theorem H0_sub : H0 ⊆ Pipeline.restRefs sig spec0 := by decide
/-- No further array is kept. -/
theorem R0_sub : (∅ : Finset (Ref sig .tc)) ⊆ Pipeline.restRefs sig spec0 \ H0 := by decide

omit [FloatOps F] in
/-- Separating conjunction is associative, as an equation. -/
theorem sepAssoc (P Q R : sProp 𝕄) : BI.sep (BI.sep P Q) R = BI.sep P (BI.sep Q R) := equiv_iff.mp ⟨Idealize.SL.BI.sep_assoc, Idealize.SL.BI.sep_assoc'⟩

omit [FloatOps F] in
/-- The kernel's own semaphores, one by one. -/
theorem sems_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), .dma cc0_scratch8.sem) 0 ∗ sems c) := by
  rw [Pipeline.ownSems0_eq_of_list c osem0 [0, 1, 2, 3, 4, 5, 6, 7, 8, 9, 10, 11, 12, 13, 14, 15, 16] (by decide) (by decide)]
  unfold sems
  rw [bigSep_univ_eq_bigSepL [0, 1, 2, 3, 4, 5, 6, 7] (by decide) (by decide), bigSep_univ_eq_bigSepL [0, 1, 2, 3, 4, 5, 6, 7] (by decide) (by decide)]
  simp only [bigSepL_cons_cons, bigSepL_singleton]
  show _ = BI.sep _ (BI.sep _ _)
  simp only [sepAssoc]
  rfl

omit [FloatOps F] in
/-- The arrays the kernel copies from itself, one by one. -/
theorem arrs_eq (c : Dev nD) :
    (bigSep H0 (fun b => ((c : Thread nD τ).loc b) ↦{fullShare} V m c b) : sProp 𝕄)
      = iprop(pts c main_arg0 (argX m c) ∗ pts c main_arg2 (argW m c) ∗ pts c main_arg3 (argS m c)) := by
  rw [BI.bigSep_eq_bigSepL_of_eq [main_arg0, main_arg2, main_arg3] (by decide) (by decide)]; rfl

omit [FloatOps F] in
/-- What the body is given beside its windows, one by one. -/
theorem Phi_eq (c : Dev nD) :
    (Pipeline.ΦDR osem0 spec0 H0 ∅ (V m) c : sProp 𝕄)
      = iprop(scratch c ∗ (∃ r, prngReg c r) ∗ (semVal ((c : Thread nD τ), .dma cc0_scratch8.sem) 0 ∗ sems c)
          ∗ (pts c main_arg0 (argX m c) ∗ pts c main_arg2 (argW m c) ∗ pts c main_arg3 (argS m c)) ∗ emp) := by
  rw [Pipeline.ΦDR_eq, scopedRest0_eq, sems_eq, arrs_eq]
  unfold Pipeline.owned scratch
  rw [bigSep_empty]
  try rfl

/-- What the region's windows hold: the first what it found, the others what the body may leave. -/
def rdat (c : Dev nD) : RDat τ (Elt F) Unit ℕ (Pipeline.UD sig nD τ) ℕ (cfg0 (F := F)) c where
  A w := V m c (Pipeline.arrRef spec0 w)
  after w _ := match w with
    | ⟨0, _⟩ => fun Y X => X = Y
    | ⟨1, _⟩ => fun _ X => OutY (argX m c) (argW m c) (argS m c) (argG m c) X
    | ⟨2, _⟩ => fun _ X => OutS (argX m c) (argW m c) (argS m c) (argG m c) X
  Φ _ := Pipeline.ΦDR osem0 spec0 H0 ∅ (V m) c
  q _ := fullShare
  owed _ := 0

omit [FloatOps F] in
/-- The window of the group sizes is the whole array. -/
theorem read0 (f : CT F main_arg1) : (win0_0.blk t0_0).view.read (Elt F) f = f :=
  Memref.read_access_unit_zero (Elt F) main_arg1
    (show (fun a => (win0_0.index t0_0) a * main_arg1.ty.shape.size a) = fun _ => 0 from
      funext fun a => by fin_cases a <;> decide) (fun a => by fin_cases a <;> decide) f
omit [FloatOps F] in
/-- The window of the codes is the whole array. -/
theorem read1 (f : CT F main_v0_0) : (win0_1.blk t0_0).view.read (Elt F) f = f :=
  Memref.read_access_unit_zero (Elt F) main_v0_0
    (show (fun a => (win0_1.index t0_0) a * main_v0_0.ty.shape.size a) = fun _ => 0 from
      funext fun a => by fin_cases a <;> decide) (fun a => by fin_cases a <;> decide) f
omit [FloatOps F] in
/-- The window of the bytes is the whole array. -/
theorem read2 (f : CT F main_v0_1) : (win0_2.blk t0_0).view.read (Elt F) f = f :=
  Memref.read_access_unit_zero (Elt F) main_v0_1
    (show (fun a => (win0_2.index t0_0) a * main_v0_1.ty.shape.size a) = fun _ => 0 from
      funext fun a => by fin_cases a <;> decide) (fun a => by fin_cases a <;> decide) f

/-- The body finds the group sizes in its window. -/
theorem found0 (c : Dev nD) (t : Fin (cfg0 (F := F)).N) (d) : (rdat m c).fetched 0 t d = argG m c := by
  obtain rfl := fin_N0 t
  refine Eq.trans ?_ (read0 (argG m c))
  refine funext fun i => ?_
  rfl

/-- The body's label is the kernel's body. -/
theorem defs₀_row (t : Fin (cfg0 (F := F)).N) :
    defs₀ (F := F) .tc cfg0.body (cfg0.bodyArgs t (cfg0.slots t)) = whole := by
  obtain rfl := fin_N0 t
  unfold defs₀; rw [Defs.onTc_tc]; rfl

omit [FloatOps F] in
/-- Owning a whole reference is owning its buffer. -/
theorem owns_in (c : Dev nD) (b : Ref sig .tc) (f : CT F b) : owns (c : Thread nD τ) (Memref.whole b) fullShare f ⊢ pts (F := F) c b f := by
  rw [owns_whole]
omit [FloatOps F] in
/-- Owning a buffer is owning its whole reference. -/
theorem owns_out (c : Dev nD) (b : Ref sig .tc) (f : CT F b) : pts (F := F) c b f ⊢ owns (c : Thread nD τ) (Memref.whole b) fullShare f := by
  rw [owns_whole]

/-- A run's postcondition may be weakened. -/
theorem run_mono {α : Type} (c : Dev nD) (p : Prog (TpuEff nD τ sig (Elt F) (Λ₀ F) .tc) α) (Q Q' : α → sProp 𝕄) :
    run c p Q ⊢ iprop((∀ a, Q a -∗ Q' a) -∗ run c p Q') := wp_wand _ _ _

/-- The body at its windows keeps the call's contract. -/
theorem sound_body (c : Dev nD) (t : Fin (cfg0 (F := F)).N) (Y : (w : Fin (cfg0 (F := F)).W) → ((cfg0 (F := F)).win w).block.Idx → Elt F ((cfg0 (F := F)).win w).elt)
    (h0 : Y 0 = argG m c) (hS : rowS (argG m c) 13 ≤ 256) :
    iprop((rdat m c).Φ t.castSucc ∗ (rdat m c).owesAt () t.castSucc
        ∗ (owns (c : Thread nD τ) (st0_0 t) fullShare (Y 0) ∗ owns (c : Thread nD τ) (st0_1 t) fullShare (Y 1) ∗ owns (c : Thread nD τ) (st0_2 t) fullShare (Y 2)))
      ⊢ run c whole fun _ => iprop((rdat m c).Φ t.succ ∗ (rdat m c).owesAt () t.succ
        ∗ ((∃ X, ⌜(rdat m c).after 0 t (Y 0) X⌝ ∗ owns (c : Thread nD τ) (st0_0 t) fullShare X)
          ∗ (∃ X, ⌜(rdat m c).after 1 t (Y 1) X⌝ ∗ owns (c : Thread nD τ) (st0_1 t) fullShare X)
          ∗ (∃ X, ⌜(rdat m c).after 2 t (Y 2) X⌝ ∗ owns (c : Thread nD τ) (st0_2 t) fullShare X))) := by
  obtain rfl := fin_N0 t
  rw [h0]
  rw [show (rdat m c).Φ (t0_0 : Fin (cfg0 (F := F)).N).succ = (rdat m c).Φ (t0_0 : Fin (cfg0 (F := F)).N).castSucc from rfl]
  rw [show (rdat m c).Φ (t0_0 : Fin (cfg0 (F := F)).N).castSucc = Pipeline.ΦDR osem0 spec0 H0 ∅ (V m) c from rfl, Phi_eq]
  unfold RDat.owesAt Pipeline.owesWithin
  rw [show (rdat m c).owed (t0_0 : Fin (cfg0 (F := F)).N).castSucc = 0 from rfl, show (rdat m c).owed (t0_0 : Fin (cfg0 (F := F)).N).succ = 0 from rfl]
  have e0 : owns (c : Thread nD τ) (st0_0 (F := F) t0_0) fullShare (argG m c) ⊢ pts c cc0_stg0_0 (argG m c) := owns_in c cc0_stg0_0 (argG m c)
  have e1 : owns (c : Thread nD τ) (st0_1 (F := F) t0_0) fullShare (Y 1) ⊢ pts c cc0_stg1_0 (Y 1) := owns_in c cc0_stg1_0 (Y 1)
  have e2 : owns (c : Thread nD τ) (st0_2 (F := F) t0_0) fullShare (Y 2) ⊢ pts c cc0_stg2_0 (Y 2) := owns_in c cc0_stg2_0 (Y 2)
  have e0' : pts c cc0_stg0_0 (argG m c) ⊢ owns (c : Thread nD τ) (st0_0 (F := F) t0_0) fullShare (argG m c) := owns_out c cc0_stg0_0 (argG m c)
  have e1' (y : CT F cc0_stg1_0) : pts c cc0_stg1_0 y ⊢ owns (c : Thread nD τ) (st0_1 (F := F) t0_0) fullShare y := owns_out c cc0_stg1_0 y
  have e2' (s : CT F cc0_stg2_0) : pts c cc0_stg2_0 s ⊢ owns (c : Thread nD τ) (st0_2 (F := F) t0_0) fullShare s := owns_out c cc0_stg2_0 s
  iintro ⟨⟨Hsc, Hg, ⟨Hx, Hse⟩, ⟨Ha0, Ha2, Ha3⟩, Hem⟩, ⟨%W, -, HW⟩, ⟨H0, H1, H2⟩⟩
  iapply (run_mono c whole) $$ [Hsc Hx Hse Ha0 Ha2 Ha3 HW H0 H1 H2] [Hg Hem]
  · iapply (whole_run c (argX m c) (argW m c) (argS m c) (argG m c) hS (Y 1) (Y 2))
    unfold kept
    isplitl [Hx Hse Ha0 Ha2 Ha3 HW H0]
    · isplitl [H0]; · iapply e0 $$ H0
      isplitl [Ha0]; · iexact Ha0
      isplitl [Ha2]; · iexact Ha2
      isplitl [Ha3]; · iexact Ha3
      isplitl [Hx]; · iexact Hx
      isplitl [Hse]; · iexact Hse
      iexists W; iexact HW
    isplitl [Hsc]; · iexact Hsc
    isplitl [H1]; · iapply e1 $$ H1
    iapply e2 $$ H2
  unfold kept
  iintro %u ⟨⟨H0, Ha0, Ha2, Ha3, Hx, Hse, %W', HW⟩, Hsc, ⟨%y, %hy, H1⟩, ⟨%s, %hs, H2⟩⟩
  isplitl [Hsc Hg Hx Hse Ha0 Ha2 Ha3 Hem]
  · isplitl [Hsc]; · iexact Hsc
    isplitl [Hg]; · iexact Hg
    isplitl [Hx Hse]
    · isplitl [Hx]; · iexact Hx
      iexact Hse
    isplitl [Ha0 Ha2 Ha3]
    · isplitl [Ha0]; · iexact Ha0
      isplitl [Ha2]; · iexact Ha2
      iexact Ha3
    iexact Hem
  isplitl [HW]
  · iexists W'; isplitr; · ipureintro; exact fun _ _ => Or.inl trivial
    iexact HW
  isplitl [H0]
  · iexists (argG m c); isplitr; · ipureintro; rfl
    iapply e0' $$ H0
  isplitl [H1]
  · iexists y; isplitr; · ipureintro; exact hy
    iapply (e1' y) $$ H1
  · iexists s; isplitr; · ipureintro; exact hs
    iapply (e2' s) $$ H2

/-- The body meets what the pipeline asks of it. -/
theorem body_obligation (hS : ∀ c, rowS (argG m c) 13 ≤ 256) (c : Dev nD) :
    (rdat m c).BodyObligation (defs₀ (F := F)) 𝒱₀ () Set.univ := fun t Y hY => by
  have h0 : Y 0 = argG m c := by
    obtain ⟨d, hd⟩ := ((rdat m c).finds_of_fetch (fetch0_0 t) _).mp (hY 0)
    rw [hd, found0]
  rw [bigSep_W0, bigSep_W0, defs₀_row]
  exact triple_restated (sound_body m c t Y h0 (hS c)) rfl .rfl fun _ => .rfl

/-- The codes written back are the window's. -/
theorem left1 (G G' : CT F main_v0_0) (X : CT F cc0_stg1_0)
    (h : G' = ((cfg0 (F := F)).win 1 |>.blk t0_0).view.write (Elt F) G (((cfg0 (F := F)).win 1).cut ((cfg0 (F := F)).grid.coords t0_0) X) Finset.univ) : G' = X := by
  have hw : (((cfg0 (F := F)).win 1).blk t0_0).view.read (Elt F) G' = ((cfg0 (F := F)).win 1).cut ((cfg0 (F := F)).grid.coords t0_0) X := by
    rw [h]; exact View.read_write_univ _ _
  exact (read1 G').symm.trans hw

/-- The bytes written back are the window's. -/
theorem left2 (G G' : CT F main_v0_1) (X : CT F cc0_stg2_0)
    (h : G' = ((cfg0 (F := F)).win 2 |>.blk t0_0).view.write (Elt F) G (((cfg0 (F := F)).win 2).cut ((cfg0 (F := F)).grid.coords t0_0) X) Finset.univ) : G' = X := by
  have hw : (((cfg0 (F := F)).win 2).blk t0_0).view.read (Elt F) G' = ((cfg0 (F := F)).win 2).cut ((cfg0 (F := F)).grid.coords t0_0) X := by
    rw [h]; exact View.read_write_univ _ _
  exact (read2 G').symm.trans hw

set_option backward.isDefEq.respectTransparency.types false in
/-- The whole call runs, and its arrays end as the body leaves them. -/
theorem run_main (hS : ∀ c, rowS (argG m c) 13 ≤ 256) :
    θ_run defs (onTc (τ := τ) (main (F := F))) (s₀ m ρ)
      (fun r => RDat.FramePostR cfg0 (rdat m) ∅ (V m) r ∧ r.2.sem = fun _ => 0) :=
  Pipeline.RDat.θ_run_frame_dmaR (Q' := _) cfgs (0 : Fin 1) launch0 osem0 defs₀ 𝒱₀ (rdat m) ownSemFacts0 H0 ∅ H0_sub R0_sub m ρ main
    (hbody := body_obligation m hS) (hshare := fun c => (rdat m c).share_full fun _ => rfl)
    (howed := fun _ _ => rfl) (V := V m) (hmain := hmain m 𝒱₀) (hA := fun _ _ => rfl)
    (hin := fun _ => .rfl) (hout := fun _ => .rfl)

/-- An array of no window is among the rest. -/
theorem rest_mem (b : Ref sig .tc) (hs : b.isScoped = false) (ha : ∀ w, (spec0 w).arr.view.ref ≠ b) :
    b ∈ Pipeline.restRefs sig (cfg0 (F := F)).spec \ ∅ :=
  Finset.mem_sdiff.mpr ⟨Pipeline.mem_restRefs_of b hs ha, Finset.notMem_empty b⟩

/-- A run of the program: the arguments are as they were, the semaphores zero, the results among what the body may leave. -/
theorem main_run (hS : ∀ c, rowS (argG m c) 13 ≤ 256) :
    θ_run defs (onTc (τ := τ) (main (F := F))) ⟨m, fun _ => 0, ρ⟩ (fun r => (∀ c : Dev nD,
      (OutY (argX m c) (argW m c) (argS m c) (argG m c) (r.2.mem ((c.tc : Thread nD τ).loc main_v0_0))
        ∧ OutS (argX m c) (argW m c) (argS m c) (argG m c) (r.2.mem ((c.tc : Thread nD τ).loc main_v0_1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨⟨by
        have hw := (h.1 c).1 1
        rw [show (cfg0 (F := F)).N = (t0_0 : Fin (cfg0 (F := F)).N).val + 1 from N_0, RDat.ArrAt_succ, if_pos (flush0_1 _)] at hw
        obtain ⟨G, X, -, ⟨Y, -, hX⟩, e⟩ := hw
        have e' := left1 _ _ _ e
        show OutY _ _ _ _ (r.2.mem ((c.tc : Thread nD τ).loc main_v0_0))
        exact e' ▸ hX, by
        have hw := (h.1 c).1 2
        rw [show (cfg0 (F := F)).N = (t0_0 : Fin (cfg0 (F := F)).N).val + 1 from N_0, RDat.ArrAt_succ, if_pos (flush0_2 _)] at hw
        obtain ⟨G, X, -, ⟨Y, -, hX⟩, e⟩ := hw
        have e' := left2 _ _ _ e
        show OutS _ _ _ _ (r.2.mem ((c.tc : Thread nD τ).loc main_v0_1))
        exact e' ▸ hX⟩,
      (h.1 c).2 main_arg0 (rest_mem main_arg0 (by decide) (by decide)),
      (by
        have hw := (h.1 c).1 0
        rw [RDat.ArrAt_in _ _ rfl] at hw
        exact hw),
      (h.1 c).2 main_arg2 (rest_mem main_arg2 (by decide) (by decide)),
      (h.1 c).2 main_arg3 (rest_mem main_arg3 (by decide) (by decide))⟩, h.2⟩)
    (run_main m ρ hS)

end Cert.Proof.Kernel

end
-- ==== Proof.P.Pre.lean ====
/- The precondition of the frames, read: how many rows the groups hold. -/
module

public import proofs.«01_k».proof.Proof.P.Sched
public import proofs.«01_k».proof.Proof.Gen.Pre_rows_fit
public import Idealize.ShloMosaic.Lib.WordSum
public import Idealize.ShloMosaic.PureOps.Reduce

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The indices of the groups. -/
def ixE : Fin 13 ≃ S13.Idx where
  toFun := ixG
  invFun i := i 0
  left_inv _ := rfl
  right_inv i := by
    funext a
    match a with
    | 0 => rfl

/-- The conjunction of two bits. -/
theorem andi_ofBool (p q : Bool) : IntOp.andi (BitVec.ofBool p) (BitVec.ofBool q) = BitVec.ofBool (p && q) := by
  cases p <;> cases q <;> decide
/-- A bit is one just when it is true. -/
theorem ofBool_eq_one (p : Bool) : (BitVec.ofBool p = 1#1) ↔ p = true := by cases p <;> decide

omit [FloatOps F] in
/-- The groups' end is the sum of the sizes. -/
theorem rowS_eq (g : CT F cc0_stg0_0) : rowS g 13 = ∑ e : Fin 13, (show BitVec 32 from g (ixG e)).toNat := by
  unfold rowS
  rw [Finset.sum_range]
  refine Finset.sum_congr rfl fun e _ => ?_
  unfold gsN
  rw [dif_pos e.isLt]

/-- The sum over the groups, as the count of their rows. -/
theorem sum_words (g : CT F cc0_stg0_0) (hu : 0 < Cert.Pre_rows_fit.S_.numel) (h : S13.ReducesTo [0] Cert.Pre_rows_fit.S_) (init : IVec Cert.Pre_rows_fit.S_ 32) (hi : ∀ i, init i = 0#32)
    (hb : ∀ i, (show BitVec 32 from g i).toNat ≤ 256) (j : Cert.Pre_rows_fit.S_.Idx) :
    (show BitVec 32 from Host.reduce IntOp.addi (show IVec S13 32 from g) init h hu j).toNat = rowS g 13 := by
  rw [Host.reduce_eq_fold, hi]
  have hS : (Finset.univ.filter fun i : S13.Idx => h.drop i = j) = Finset.univ := by
    refine Finset.filter_true_of_mem fun i _ => ?_
    funext a
    exact a.elim0
  rw [hS, show Finset.fold IntOp.addi 0#32 (show IVec S13 32 from g) Finset.univ = ∑ i : S13.Idx, (show BitVec 32 from g i) from rfl]
  have e : ∑ i : S13.Idx, (show BitVec 32 from g i).toNat = rowS g 13 := by
    rw [rowS_eq, ← ixE.sum_comp]; rfl
  have hlt : ∑ i : S13.Idx, (show BitVec 32 from g i).toNat < 2 ^ 32 := by
    rw [← ixE.sum_comp]
    refine lt_of_le_of_lt (Finset.sum_le_card_nsmul _ _ 256 fun i _ => hb _) ?_
    simp
  rw [WordSum.toNat_sum _ _ hlt, e]

/-- A word between 0 and 256 is such a number. -/
theorem toNat_le (b : BitVec 32) (h0 : BitVec.sle 0#32 b = true) (h1 : BitVec.sle b 256#32 = true) : b.toNat ≤ 256 := by
  simp only [BitVec.sle, decide_eq_true_eq, BitVec.toInt, BitVec.toNat_ofNat] at h0 h1
  omega

/-- A small word is not negative. -/
theorem sle_of_le (b : BitVec 32) (h : b.toNat ≤ 3328) : BitVec.sle 0#32 b = true := by
  simp only [BitVec.sle, decide_eq_true_eq, BitVec.toInt, BitVec.toNat_ofNat]
  omega

/-- The groups fit. -/
theorem fit_rows (x : FVec F S256x7168 .bf16) (g : CT F cc0_stg0_0) (w : FVec F S13x7168x4096 .fp8e4m3) (s : IVec S13x224x4096 8)
    (h : Cert.Pre_rows_fit.fn (F := F) x g w s = fun _ => 1#1) : rowS g 13 ≤ 256 := by
  have hd (i : S13.Idx) := congrFun h i
  simp only [Pre_rows_fit.fn, andi, cmpi, broadcastInDim, constantI, IntOp.cmpi, andi_ofBool, ofBool_eq_one, Bool.and_eq_true] at hd
  have hb : ∀ i, (show BitVec 32 from g i).toNat ≤ 256 := fun i => toNat_le _ (hd i).1.1 (hd i).1.2
  have h2 := (hd (ixG 0)).2
  have e := sum_words g Cert.Pre_rows_fit.Facts.h_S_ Cert.Pre_rows_fit.Facts.reducesTo_S13_S_d0 (fun _ => 0#32) (fun _ => rfl) hb (fun a => a.elim0)
  have hle : rowS g 13 ≤ 3328 := by
    rw [rowS_eq]
    exact (Finset.sum_le_card_nsmul _ _ 256 fun i _ => hb _).trans (by simp)
  rewrite [← e]
  rewrite [← e] at hle
  exact toNat_le _ (sle_of_le _ hle) h2

end Cert.Proof.Kernel

end
-- ==== Proof.lean ====
/- The certificate: the frames of the kernel, of its idealization and of the reference, and the kernel's results against the reference's. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.ReferenceIdeal.Value
public import proofs.«01_k».proof.Proof.Gen.ReferenceIdeal
public import proofs.«01_k».proof.Proof.Gen.Pre_rows_fit
public import proofs.«01_k».proof.Proof.PI.Launch
public import proofs.«01_k».proof.Proof.PI.Pre
public import proofs.«01_k».proof.Proof.Gen.Pre_rows_filled
public import proofs.«01_k».proof.Proof.PI.PreFilled
public import proofs.«01_k».proof.Proof.Alg
public import proofs.«01_k».proof.Proof.P.Launch
public import proofs.«01_k».proof.Proof.P.Pre
public import Idealize.ShloMosaic.Adequacy
public import Idealize.ShloMosaic.Init

@[expose] public section

open Idealize.ShloMosaic Idealize.ShloMosaic.TcCoe Idealize.SL.Sem

namespace Cert.Proof

/-- The kernel at its bits runs, keeps its arguments and leaves no semaphore raised. -/
theorem frameP : Cert.quiescent_Kernel := fun m g h =>
  (θ_run Cert.Kernel.defs _ _).mono (fun _ h => ⟨fun c => (h.1 c).2, h.2⟩)
    (Kernel.main_run (F := Bits) m g fun c => Kernel.fit_rows _ _ _ _ (h c))

/-- The idealized kernel does, when the groups fit the rows. -/
theorem framePI : Cert.quiescent_KernelIdeal := fun m g h =>
  (θ_run Cert.KernelIdeal.defs _ _).mono (fun _ h => ⟨fun c => (h.1 c).2, h.2⟩)
    (KernelIdeal.main_run (F := Ideal) m g fun c => KernelIdeal.fit_rows _ _ _ _ (h c))

/-- The idealized kernel does, when the groups fill the rows. -/
theorem framePI_filled : Cert.quiescent_KernelIdeal_pre_rows_filled := fun m g h =>
  (θ_run Cert.KernelIdeal.defs _ _).mono (fun _ h => ⟨fun c => (h.1 c).2, h.2⟩)
    (KernelIdeal.main_run (F := Ideal) m g fun c => (KernelIdeal.fill_rows _ _ _ _ (h c)).le)

/-- All claims. -/
theorem claim : Cert.Claim :=
  ⟨inferInstance, inferInstance, inferInstance, inferInstance, inferInstance, frameP, framePI, framePI_filled,
    fun m g _ => Cert.ReferenceIdeal.Gen.frame m g, fun m g _ => Cert.ReferenceIdeal.Gen.frame m g, trivial, algebraic⟩

end Cert.Proof

end
